-- ==== Defs.lean ====
def Pre_FfTwoDxK (m : (ℓ : Loc Cert.FfTwoDxK.nD Cert.FfTwoDxK.τ Cert.FfTwoDxK.sig) → Buf (Elt Bits) ℓ) : Prop :=
  True

def Pre_FfTwoDxKIdeal (m : (ℓ : Loc Cert.FfTwoDxKIdeal.nD Cert.FfTwoDxKIdeal.τ Cert.FfTwoDxKIdeal.sig) → Buf (Elt Ideal) ℓ) : Prop :=
  True

def Pre_FfTwoDxRIdeal (m : (ℓ : Loc Cert.FfTwoDxRIdeal.nD Cert.FfTwoDxRIdeal.τ Cert.FfTwoDxRIdeal.sig) → Buf (Elt Ideal) ℓ) : Prop :=
  True

def Pre_OutDxK (m : (ℓ : Loc Cert.OutDxK.nD Cert.OutDxK.τ Cert.OutDxK.sig) → Buf (Elt Bits) ℓ) : Prop :=
  True

def Pre_OutDxKIdeal (m : (ℓ : Loc Cert.OutDxKIdeal.nD Cert.OutDxKIdeal.τ Cert.OutDxKIdeal.sig) → Buf (Elt Ideal) ℓ) : Prop :=
  True

def Pre_OutDxRIdeal (m : (ℓ : Loc Cert.OutDxRIdeal.nD Cert.OutDxRIdeal.τ Cert.OutDxRIdeal.sig) → Buf (Elt Ideal) ℓ) : Prop :=
  True

def Pre_InDxK (m : (ℓ : Loc Cert.InDxK.nD Cert.InDxK.τ Cert.InDxK.sig) → Buf (Elt Bits) ℓ) : Prop :=
  True

def Pre_InDxKIdeal (m : (ℓ : Loc Cert.InDxKIdeal.nD Cert.InDxKIdeal.τ Cert.InDxKIdeal.sig) → Buf (Elt Ideal) ℓ) : Prop :=
  True

def Pre_InDxRIdeal (m : (ℓ : Loc Cert.InDxRIdeal.nD Cert.InDxRIdeal.τ Cert.InDxRIdeal.sig) → Buf (Elt Ideal) ℓ) : Prop :=
  True

def Pre_FfOneDxK (m : (ℓ : Loc Cert.FfOneDxK.nD Cert.FfOneDxK.τ Cert.FfOneDxK.sig) → Buf (Elt Bits) ℓ) : Prop :=
  True

def Pre_FfOneDxKIdeal (m : (ℓ : Loc Cert.FfOneDxKIdeal.nD Cert.FfOneDxKIdeal.τ Cert.FfOneDxKIdeal.sig) → Buf (Elt Ideal) ℓ) : Prop :=
  True

def Pre_FfOneDxRIdeal (m : (ℓ : Loc Cert.FfOneDxRIdeal.nD Cert.FfOneDxRIdeal.τ Cert.FfOneDxRIdeal.sig) → Buf (Elt Ideal) ℓ) : Prop :=
  True

def Pre_HeadK (m : (ℓ : Loc Cert.HeadK.nD Cert.HeadK.τ Cert.HeadK.sig) → Buf (Elt Bits) ℓ) : Prop :=
  True

def Pre_HeadKIdeal (m : (ℓ : Loc Cert.HeadKIdeal.nD Cert.HeadKIdeal.τ Cert.HeadKIdeal.sig) → Buf (Elt Ideal) ℓ) : Prop :=
  True

def Pre_HeadRIdeal (m : (ℓ : Loc Cert.HeadRIdeal.nD Cert.HeadRIdeal.τ Cert.HeadRIdeal.sig) → Buf (Elt Ideal) ℓ) : Prop :=
  True

def Pre_GateK (m : (ℓ : Loc Cert.GateK.nD Cert.GateK.τ Cert.GateK.sig) → Buf (Elt Bits) ℓ) : Prop :=
  True

def Pre_GateKIdeal (m : (ℓ : Loc Cert.GateKIdeal.nD Cert.GateKIdeal.τ Cert.GateKIdeal.sig) → Buf (Elt Ideal) ℓ) : Prop :=
  True

def Pre_GateKIdeal_gate_finite [hPre_gate_finite : Cert.Pre_gate_finite.Facts] (m : (ℓ : Loc Cert.GateKIdeal.nD Cert.GateKIdeal.τ Cert.GateKIdeal.sig) → Buf (Elt Ideal) ℓ) : Prop :=
  ∀ c : Dev Cert.GateKIdeal.nD,
    (Cert.Pre_gate_finite.fn (F := Ideal) (m ((c.tc : Thread Cert.GateKIdeal.nD Cert.GateKIdeal.τ).loc Cert.GateKIdeal.main_arg0)) (m ((c.tc : Thread Cert.GateKIdeal.nD Cert.GateKIdeal.τ).loc Cert.GateKIdeal.main_arg1)) (m ((c.tc : Thread Cert.GateKIdeal.nD Cert.GateKIdeal.τ).loc Cert.GateKIdeal.main_arg2))) = (fun _ => 1#1)

def Pre_GateRIdeal (m : (ℓ : Loc Cert.GateRIdeal.nD Cert.GateRIdeal.τ Cert.GateRIdeal.sig) → Buf (Elt Ideal) ℓ) : Prop :=
  True

def Pre_GateRIdeal_gate_finite [hPre_gate_finite : Cert.Pre_gate_finite.Facts] (m : (ℓ : Loc Cert.GateRIdeal.nD Cert.GateRIdeal.τ Cert.GateRIdeal.sig) → Buf (Elt Ideal) ℓ) : Prop :=
  ∀ c : Dev Cert.GateRIdeal.nD,
    (Cert.Pre_gate_finite.fn (F := Ideal) (m ((c.tc : Thread Cert.GateRIdeal.nD Cert.GateRIdeal.τ).loc Cert.GateRIdeal.main_arg0)) (m ((c.tc : Thread Cert.GateRIdeal.nD Cert.GateRIdeal.τ).loc Cert.GateRIdeal.main_arg1)) (m ((c.tc : Thread Cert.GateRIdeal.nD Cert.GateRIdeal.τ).loc Cert.GateRIdeal.main_arg2))) = (fun _ => 1#1)

def Pre_AttnK (m : (ℓ : Loc Cert.AttnK.nD Cert.AttnK.τ Cert.AttnK.sig) → Buf (Elt Bits) ℓ) : Prop :=
  True

def Pre_AttnKIdeal (m : (ℓ : Loc Cert.AttnKIdeal.nD Cert.AttnKIdeal.τ Cert.AttnKIdeal.sig) → Buf (Elt Ideal) ℓ) : Prop :=
  True

def Pre_AttnKIdeal_attn_finite [hPre_attn_finite : Cert.Pre_attn_finite.Facts] (m : (ℓ : Loc Cert.AttnKIdeal.nD Cert.AttnKIdeal.τ Cert.AttnKIdeal.sig) → Buf (Elt Ideal) ℓ) : Prop :=
  ∀ c : Dev Cert.AttnKIdeal.nD,
    (Cert.Pre_attn_finite.fn (F := Ideal) (m ((c.tc : Thread Cert.AttnKIdeal.nD Cert.AttnKIdeal.τ).loc Cert.AttnKIdeal.main_arg0)) (m ((c.tc : Thread Cert.AttnKIdeal.nD Cert.AttnKIdeal.τ).loc Cert.AttnKIdeal.main_arg1)) (m ((c.tc : Thread Cert.AttnKIdeal.nD Cert.AttnKIdeal.τ).loc Cert.AttnKIdeal.main_arg2))) = (fun _ => 1#1)

def Pre_AttnRIdeal (m : (ℓ : Loc Cert.AttnRIdeal.nD Cert.AttnRIdeal.τ Cert.AttnRIdeal.sig) → Buf (Elt Ideal) ℓ) : Prop :=
  True

def Pre_AttnRIdeal_attn_finite [hPre_attn_finite : Cert.Pre_attn_finite.Facts] (m : (ℓ : Loc Cert.AttnRIdeal.nD Cert.AttnRIdeal.τ Cert.AttnRIdeal.sig) → Buf (Elt Ideal) ℓ) : Prop :=
  ∀ c : Dev Cert.AttnRIdeal.nD,
    (Cert.Pre_attn_finite.fn (F := Ideal) (m ((c.tc : Thread Cert.AttnRIdeal.nD Cert.AttnRIdeal.τ).loc Cert.AttnRIdeal.main_arg0)) (m ((c.tc : Thread Cert.AttnRIdeal.nD Cert.AttnRIdeal.τ).loc Cert.AttnRIdeal.main_arg1)) (m ((c.tc : Thread Cert.AttnRIdeal.nD Cert.AttnRIdeal.τ).loc Cert.AttnRIdeal.main_arg2))) = (fun _ => 1#1)

def Pre_GmlpK (m : (ℓ : Loc Cert.GmlpK.nD Cert.GmlpK.τ Cert.GmlpK.sig) → Buf (Elt Bits) ℓ) : Prop :=
  True

def Pre_GmlpKIdeal (m : (ℓ : Loc Cert.GmlpKIdeal.nD Cert.GmlpKIdeal.τ Cert.GmlpKIdeal.sig) → Buf (Elt Ideal) ℓ) : Prop :=
  True

def Pre_GmlpKIdeal_gmlp_finite [hPre_gmlp_finite : Cert.Pre_gmlp_finite.Facts] (m : (ℓ : Loc Cert.GmlpKIdeal.nD Cert.GmlpKIdeal.τ Cert.GmlpKIdeal.sig) → Buf (Elt Ideal) ℓ) : Prop :=
  ∀ c : Dev Cert.GmlpKIdeal.nD,
    (Cert.Pre_gmlp_finite.fn (F := Ideal) (m ((c.tc : Thread Cert.GmlpKIdeal.nD Cert.GmlpKIdeal.τ).loc Cert.GmlpKIdeal.main_arg0)) (m ((c.tc : Thread Cert.GmlpKIdeal.nD Cert.GmlpKIdeal.τ).loc Cert.GmlpKIdeal.main_arg1)) (m ((c.tc : Thread Cert.GmlpKIdeal.nD Cert.GmlpKIdeal.τ).loc Cert.GmlpKIdeal.main_arg2)) (m ((c.tc : Thread Cert.GmlpKIdeal.nD Cert.GmlpKIdeal.τ).loc Cert.GmlpKIdeal.main_arg3)) (m ((c.tc : Thread Cert.GmlpKIdeal.nD Cert.GmlpKIdeal.τ).loc Cert.GmlpKIdeal.main_arg4)) (m ((c.tc : Thread Cert.GmlpKIdeal.nD Cert.GmlpKIdeal.τ).loc Cert.GmlpKIdeal.main_arg5))) = (fun _ => 1#1)

def Pre_GmlpRIdeal (m : (ℓ : Loc Cert.GmlpRIdeal.nD Cert.GmlpRIdeal.τ Cert.GmlpRIdeal.sig) → Buf (Elt Ideal) ℓ) : Prop :=
  True

def Pre_GmlpRIdeal_gmlp_finite [hPre_gmlp_finite : Cert.Pre_gmlp_finite.Facts] (m : (ℓ : Loc Cert.GmlpRIdeal.nD Cert.GmlpRIdeal.τ Cert.GmlpRIdeal.sig) → Buf (Elt Ideal) ℓ) : Prop :=
  ∀ c : Dev Cert.GmlpRIdeal.nD,
    (Cert.Pre_gmlp_finite.fn (F := Ideal) (m ((c.tc : Thread Cert.GmlpRIdeal.nD Cert.GmlpRIdeal.τ).loc Cert.GmlpRIdeal.main_arg0)) (m ((c.tc : Thread Cert.GmlpRIdeal.nD Cert.GmlpRIdeal.τ).loc Cert.GmlpRIdeal.main_arg1)) (m ((c.tc : Thread Cert.GmlpRIdeal.nD Cert.GmlpRIdeal.τ).loc Cert.GmlpRIdeal.main_arg2)) (m ((c.tc : Thread Cert.GmlpRIdeal.nD Cert.GmlpRIdeal.τ).loc Cert.GmlpRIdeal.main_arg3)) (m ((c.tc : Thread Cert.GmlpRIdeal.nD Cert.GmlpRIdeal.τ).loc Cert.GmlpRIdeal.main_arg4)) (m ((c.tc : Thread Cert.GmlpRIdeal.nD Cert.GmlpRIdeal.τ).loc Cert.GmlpRIdeal.main_arg5))) = (fun _ => 1#1)

def Pre_OutProjK (m : (ℓ : Loc Cert.OutProjK.nD Cert.OutProjK.τ Cert.OutProjK.sig) → Buf (Elt Bits) ℓ) : Prop :=
  True

def Pre_OutProjKIdeal (m : (ℓ : Loc Cert.OutProjKIdeal.nD Cert.OutProjKIdeal.τ Cert.OutProjKIdeal.sig) → Buf (Elt Ideal) ℓ) : Prop :=
  True

def Pre_OutProjRIdeal (m : (ℓ : Loc Cert.OutProjRIdeal.nD Cert.OutProjRIdeal.τ Cert.OutProjRIdeal.sig) → Buf (Elt Ideal) ℓ) : Prop :=
  True

def Pre_FfOneK (m : (ℓ : Loc Cert.FfOneK.nD Cert.FfOneK.τ Cert.FfOneK.sig) → Buf (Elt Bits) ℓ) : Prop :=
  True

def Pre_FfOneKIdeal (m : (ℓ : Loc Cert.FfOneKIdeal.nD Cert.FfOneKIdeal.τ Cert.FfOneKIdeal.sig) → Buf (Elt Ideal) ℓ) : Prop :=
  True

def Pre_FfOneRIdeal (m : (ℓ : Loc Cert.FfOneRIdeal.nD Cert.FfOneRIdeal.τ Cert.FfOneRIdeal.sig) → Buf (Elt Ideal) ℓ) : Prop :=
  True

def Pre_RmsMixK (m : (ℓ : Loc Cert.RmsMixK.nD Cert.RmsMixK.τ Cert.RmsMixK.sig) → Buf (Elt Bits) ℓ) : Prop :=
  True

def Pre_RmsMixKIdeal (m : (ℓ : Loc Cert.RmsMixKIdeal.nD Cert.RmsMixKIdeal.τ Cert.RmsMixKIdeal.sig) → Buf (Elt Ideal) ℓ) : Prop :=
  True

def Pre_RmsMixRIdeal (m : (ℓ : Loc Cert.RmsMixRIdeal.nD Cert.RmsMixRIdeal.τ Cert.RmsMixRIdeal.sig) → Buf (Elt Ideal) ℓ) : Prop :=
  True

def quiescent_FfTwoDxK [hFfTwoDxK : Cert.FfTwoDxK.Facts] : Prop :=
  ∀ (m : (ℓ : Loc Cert.FfTwoDxK.nD Cert.FfTwoDxK.τ Cert.FfTwoDxK.sig) → Buf (Elt Bits) ℓ) (g : Dev Cert.FfTwoDxK.nD → PrngReg), Pre_FfTwoDxK m →
    θ_run (Cert.FfTwoDxK.defs (F := Bits)) (onTc (τ := Cert.FfTwoDxK.τ) (Cert.FfTwoDxK.main (F := Bits))) ⟨m, fun _ => 0, g⟩ (fun r => (∀ c : Dev Cert.FfTwoDxK.nD,
      r.2.mem ((c.tc : Thread Cert.FfTwoDxK.nD Cert.FfTwoDxK.τ).loc Cert.FfTwoDxK.main_arg0) = m ((c.tc : Thread Cert.FfTwoDxK.nD Cert.FfTwoDxK.τ).loc Cert.FfTwoDxK.main_arg0)
      ∧ r.2.mem ((c.tc : Thread Cert.FfTwoDxK.nD Cert.FfTwoDxK.τ).loc Cert.FfTwoDxK.main_arg1) = m ((c.tc : Thread Cert.FfTwoDxK.nD Cert.FfTwoDxK.τ).loc Cert.FfTwoDxK.main_arg1)
      ∧ r.2.mem ((c.tc : Thread Cert.FfTwoDxK.nD Cert.FfTwoDxK.τ).loc Cert.FfTwoDxK.main_arg2) = m ((c.tc : Thread Cert.FfTwoDxK.nD Cert.FfTwoDxK.τ).loc Cert.FfTwoDxK.main_arg2))
      ∧ r.2.sem = fun _ => 0)

def quiescent_FfTwoDxKIdeal [hFfTwoDxKIdeal : Cert.FfTwoDxKIdeal.Facts] : Prop :=
  ∀ (m : (ℓ : Loc Cert.FfTwoDxKIdeal.nD Cert.FfTwoDxKIdeal.τ Cert.FfTwoDxKIdeal.sig) → Buf (Elt Ideal) ℓ) (g : Dev Cert.FfTwoDxKIdeal.nD → PrngReg), Pre_FfTwoDxKIdeal m →
    θ_run (Cert.FfTwoDxKIdeal.defs (F := Ideal)) (onTc (τ := Cert.FfTwoDxKIdeal.τ) (Cert.FfTwoDxKIdeal.main (F := Ideal))) ⟨m, fun _ => 0, g⟩ (fun r => (∀ c : Dev Cert.FfTwoDxKIdeal.nD,
      r.2.mem ((c.tc : Thread Cert.FfTwoDxKIdeal.nD Cert.FfTwoDxKIdeal.τ).loc Cert.FfTwoDxKIdeal.main_arg0) = m ((c.tc : Thread Cert.FfTwoDxKIdeal.nD Cert.FfTwoDxKIdeal.τ).loc Cert.FfTwoDxKIdeal.main_arg0)
      ∧ r.2.mem ((c.tc : Thread Cert.FfTwoDxKIdeal.nD Cert.FfTwoDxKIdeal.τ).loc Cert.FfTwoDxKIdeal.main_arg1) = m ((c.tc : Thread Cert.FfTwoDxKIdeal.nD Cert.FfTwoDxKIdeal.τ).loc Cert.FfTwoDxKIdeal.main_arg1)
      ∧ r.2.mem ((c.tc : Thread Cert.FfTwoDxKIdeal.nD Cert.FfTwoDxKIdeal.τ).loc Cert.FfTwoDxKIdeal.main_arg2) = m ((c.tc : Thread Cert.FfTwoDxKIdeal.nD Cert.FfTwoDxKIdeal.τ).loc Cert.FfTwoDxKIdeal.main_arg2))
      ∧ r.2.sem = fun _ => 0)

def quiescent_FfTwoDxRIdeal [hFfTwoDxRIdeal : Cert.FfTwoDxRIdeal.Facts] : Prop :=
  ∀ (m : (ℓ : Loc Cert.FfTwoDxRIdeal.nD Cert.FfTwoDxRIdeal.τ Cert.FfTwoDxRIdeal.sig) → Buf (Elt Ideal) ℓ) (g : Dev Cert.FfTwoDxRIdeal.nD → PrngReg), Pre_FfTwoDxRIdeal m →
    θ_run (Cert.FfTwoDxRIdeal.defs (F := Ideal)) (onTc (τ := Cert.FfTwoDxRIdeal.τ) (Cert.FfTwoDxRIdeal.main (F := Ideal))) ⟨m, fun _ => 0, g⟩ (fun r => (∀ c : Dev Cert.FfTwoDxRIdeal.nD,
      r.2.mem ((c.tc : Thread Cert.FfTwoDxRIdeal.nD Cert.FfTwoDxRIdeal.τ).loc Cert.FfTwoDxRIdeal.main_arg0) = m ((c.tc : Thread Cert.FfTwoDxRIdeal.nD Cert.FfTwoDxRIdeal.τ).loc Cert.FfTwoDxRIdeal.main_arg0)
      ∧ r.2.mem ((c.tc : Thread Cert.FfTwoDxRIdeal.nD Cert.FfTwoDxRIdeal.τ).loc Cert.FfTwoDxRIdeal.main_arg1) = m ((c.tc : Thread Cert.FfTwoDxRIdeal.nD Cert.FfTwoDxRIdeal.τ).loc Cert.FfTwoDxRIdeal.main_arg1)
      ∧ r.2.mem ((c.tc : Thread Cert.FfTwoDxRIdeal.nD Cert.FfTwoDxRIdeal.τ).loc Cert.FfTwoDxRIdeal.main_arg2) = m ((c.tc : Thread Cert.FfTwoDxRIdeal.nD Cert.FfTwoDxRIdeal.τ).loc Cert.FfTwoDxRIdeal.main_arg2))
      ∧ r.2.sem = fun _ => 0)

def quiescent_OutDxK [hOutDxK : Cert.OutDxK.Facts] : Prop :=
  ∀ (m : (ℓ : Loc Cert.OutDxK.nD Cert.OutDxK.τ Cert.OutDxK.sig) → Buf (Elt Bits) ℓ) (g : Dev Cert.OutDxK.nD → PrngReg), Pre_OutDxK m →
    θ_run (Cert.OutDxK.defs (F := Bits)) (onTc (τ := Cert.OutDxK.τ) (Cert.OutDxK.main (F := Bits))) ⟨m, fun _ => 0, g⟩ (fun r => (∀ c : Dev Cert.OutDxK.nD,
      r.2.mem ((c.tc : Thread Cert.OutDxK.nD Cert.OutDxK.τ).loc Cert.OutDxK.main_arg0) = m ((c.tc : Thread Cert.OutDxK.nD Cert.OutDxK.τ).loc Cert.OutDxK.main_arg0)
      ∧ r.2.mem ((c.tc : Thread Cert.OutDxK.nD Cert.OutDxK.τ).loc Cert.OutDxK.main_arg1) = m ((c.tc : Thread Cert.OutDxK.nD Cert.OutDxK.τ).loc Cert.OutDxK.main_arg1)
      ∧ r.2.mem ((c.tc : Thread Cert.OutDxK.nD Cert.OutDxK.τ).loc Cert.OutDxK.main_arg2) = m ((c.tc : Thread Cert.OutDxK.nD Cert.OutDxK.τ).loc Cert.OutDxK.main_arg2)
      ∧ r.2.mem ((c.tc : Thread Cert.OutDxK.nD Cert.OutDxK.τ).loc Cert.OutDxK.main_arg3) = m ((c.tc : Thread Cert.OutDxK.nD Cert.OutDxK.τ).loc Cert.OutDxK.main_arg3)
      ∧ r.2.mem ((c.tc : Thread Cert.OutDxK.nD Cert.OutDxK.τ).loc Cert.OutDxK.main_arg4) = m ((c.tc : Thread Cert.OutDxK.nD Cert.OutDxK.τ).loc Cert.OutDxK.main_arg4)
      ∧ r.2.mem ((c.tc : Thread Cert.OutDxK.nD Cert.OutDxK.τ).loc Cert.OutDxK.main_arg5) = m ((c.tc : Thread Cert.OutDxK.nD Cert.OutDxK.τ).loc Cert.OutDxK.main_arg5))
      ∧ r.2.sem = fun _ => 0)

def quiescent_OutDxKIdeal [hOutDxKIdeal : Cert.OutDxKIdeal.Facts] : Prop :=
  ∀ (m : (ℓ : Loc Cert.OutDxKIdeal.nD Cert.OutDxKIdeal.τ Cert.OutDxKIdeal.sig) → Buf (Elt Ideal) ℓ) (g : Dev Cert.OutDxKIdeal.nD → PrngReg), Pre_OutDxKIdeal m →
    θ_run (Cert.OutDxKIdeal.defs (F := Ideal)) (onTc (τ := Cert.OutDxKIdeal.τ) (Cert.OutDxKIdeal.main (F := Ideal))) ⟨m, fun _ => 0, g⟩ (fun r => (∀ c : Dev Cert.OutDxKIdeal.nD,
      r.2.mem ((c.tc : Thread Cert.OutDxKIdeal.nD Cert.OutDxKIdeal.τ).loc Cert.OutDxKIdeal.main_arg0) = m ((c.tc : Thread Cert.OutDxKIdeal.nD Cert.OutDxKIdeal.τ).loc Cert.OutDxKIdeal.main_arg0)
      ∧ r.2.mem ((c.tc : Thread Cert.OutDxKIdeal.nD Cert.OutDxKIdeal.τ).loc Cert.OutDxKIdeal.main_arg1) = m ((c.tc : Thread Cert.OutDxKIdeal.nD Cert.OutDxKIdeal.τ).loc Cert.OutDxKIdeal.main_arg1)
      ∧ r.2.mem ((c.tc : Thread Cert.OutDxKIdeal.nD Cert.OutDxKIdeal.τ).loc Cert.OutDxKIdeal.main_arg2) = m ((c.tc : Thread Cert.OutDxKIdeal.nD Cert.OutDxKIdeal.τ).loc Cert.OutDxKIdeal.main_arg2)
      ∧ r.2.mem ((c.tc : Thread Cert.OutDxKIdeal.nD Cert.OutDxKIdeal.τ).loc Cert.OutDxKIdeal.main_arg3) = m ((c.tc : Thread Cert.OutDxKIdeal.nD Cert.OutDxKIdeal.τ).loc Cert.OutDxKIdeal.main_arg3)
      ∧ r.2.mem ((c.tc : Thread Cert.OutDxKIdeal.nD Cert.OutDxKIdeal.τ).loc Cert.OutDxKIdeal.main_arg4) = m ((c.tc : Thread Cert.OutDxKIdeal.nD Cert.OutDxKIdeal.τ).loc Cert.OutDxKIdeal.main_arg4)
      ∧ r.2.mem ((c.tc : Thread Cert.OutDxKIdeal.nD Cert.OutDxKIdeal.τ).loc Cert.OutDxKIdeal.main_arg5) = m ((c.tc : Thread Cert.OutDxKIdeal.nD Cert.OutDxKIdeal.τ).loc Cert.OutDxKIdeal.main_arg5))
      ∧ r.2.sem = fun _ => 0)

def quiescent_OutDxRIdeal [hOutDxRIdeal : Cert.OutDxRIdeal.Facts] : Prop :=
  ∀ (m : (ℓ : Loc Cert.OutDxRIdeal.nD Cert.OutDxRIdeal.τ Cert.OutDxRIdeal.sig) → Buf (Elt Ideal) ℓ) (g : Dev Cert.OutDxRIdeal.nD → PrngReg), Pre_OutDxRIdeal m →
    θ_run (Cert.OutDxRIdeal.defs (F := Ideal)) (onTc (τ := Cert.OutDxRIdeal.τ) (Cert.OutDxRIdeal.main (F := Ideal))) ⟨m, fun _ => 0, g⟩ (fun r => (∀ c : Dev Cert.OutDxRIdeal.nD,
      r.2.mem ((c.tc : Thread Cert.OutDxRIdeal.nD Cert.OutDxRIdeal.τ).loc Cert.OutDxRIdeal.main_arg0) = m ((c.tc : Thread Cert.OutDxRIdeal.nD Cert.OutDxRIdeal.τ).loc Cert.OutDxRIdeal.main_arg0)
      ∧ r.2.mem ((c.tc : Thread Cert.OutDxRIdeal.nD Cert.OutDxRIdeal.τ).loc Cert.OutDxRIdeal.main_arg1) = m ((c.tc : Thread Cert.OutDxRIdeal.nD Cert.OutDxRIdeal.τ).loc Cert.OutDxRIdeal.main_arg1)
      ∧ r.2.mem ((c.tc : Thread Cert.OutDxRIdeal.nD Cert.OutDxRIdeal.τ).loc Cert.OutDxRIdeal.main_arg2) = m ((c.tc : Thread Cert.OutDxRIdeal.nD Cert.OutDxRIdeal.τ).loc Cert.OutDxRIdeal.main_arg2)
      ∧ r.2.mem ((c.tc : Thread Cert.OutDxRIdeal.nD Cert.OutDxRIdeal.τ).loc Cert.OutDxRIdeal.main_arg3) = m ((c.tc : Thread Cert.OutDxRIdeal.nD Cert.OutDxRIdeal.τ).loc Cert.OutDxRIdeal.main_arg3)
      ∧ r.2.mem ((c.tc : Thread Cert.OutDxRIdeal.nD Cert.OutDxRIdeal.τ).loc Cert.OutDxRIdeal.main_arg4) = m ((c.tc : Thread Cert.OutDxRIdeal.nD Cert.OutDxRIdeal.τ).loc Cert.OutDxRIdeal.main_arg4)
      ∧ r.2.mem ((c.tc : Thread Cert.OutDxRIdeal.nD Cert.OutDxRIdeal.τ).loc Cert.OutDxRIdeal.main_arg5) = m ((c.tc : Thread Cert.OutDxRIdeal.nD Cert.OutDxRIdeal.τ).loc Cert.OutDxRIdeal.main_arg5))
      ∧ r.2.sem = fun _ => 0)

def quiescent_InDxK [hInDxK : Cert.InDxK.Facts] : Prop :=
  ∀ (m : (ℓ : Loc Cert.InDxK.nD Cert.InDxK.τ Cert.InDxK.sig) → Buf (Elt Bits) ℓ) (g : Dev Cert.InDxK.nD → PrngReg), Pre_InDxK m →
    θ_run (Cert.InDxK.defs (F := Bits)) (onTc (τ := Cert.InDxK.τ) (Cert.InDxK.main (F := Bits))) ⟨m, fun _ => 0, g⟩ (fun r => (∀ c : Dev Cert.InDxK.nD,
      r.2.mem ((c.tc : Thread Cert.InDxK.nD Cert.InDxK.τ).loc Cert.InDxK.main_arg0) = m ((c.tc : Thread Cert.InDxK.nD Cert.InDxK.τ).loc Cert.InDxK.main_arg0)
      ∧ r.2.mem ((c.tc : Thread Cert.InDxK.nD Cert.InDxK.τ).loc Cert.InDxK.main_arg1) = m ((c.tc : Thread Cert.InDxK.nD Cert.InDxK.τ).loc Cert.InDxK.main_arg1)
      ∧ r.2.mem ((c.tc : Thread Cert.InDxK.nD Cert.InDxK.τ).loc Cert.InDxK.main_arg2) = m ((c.tc : Thread Cert.InDxK.nD Cert.InDxK.τ).loc Cert.InDxK.main_arg2)
      ∧ r.2.mem ((c.tc : Thread Cert.InDxK.nD Cert.InDxK.τ).loc Cert.InDxK.main_arg3) = m ((c.tc : Thread Cert.InDxK.nD Cert.InDxK.τ).loc Cert.InDxK.main_arg3)
      ∧ r.2.mem ((c.tc : Thread Cert.InDxK.nD Cert.InDxK.τ).loc Cert.InDxK.main_arg4) = m ((c.tc : Thread Cert.InDxK.nD Cert.InDxK.τ).loc Cert.InDxK.main_arg4))
      ∧ r.2.sem = fun _ => 0)

def quiescent_InDxKIdeal [hInDxKIdeal : Cert.InDxKIdeal.Facts] : Prop :=
  ∀ (m : (ℓ : Loc Cert.InDxKIdeal.nD Cert.InDxKIdeal.τ Cert.InDxKIdeal.sig) → Buf (Elt Ideal) ℓ) (g : Dev Cert.InDxKIdeal.nD → PrngReg), Pre_InDxKIdeal m →
    θ_run (Cert.InDxKIdeal.defs (F := Ideal)) (onTc (τ := Cert.InDxKIdeal.τ) (Cert.InDxKIdeal.main (F := Ideal))) ⟨m, fun _ => 0, g⟩ (fun r => (∀ c : Dev Cert.InDxKIdeal.nD,
      r.2.mem ((c.tc : Thread Cert.InDxKIdeal.nD Cert.InDxKIdeal.τ).loc Cert.InDxKIdeal.main_arg0) = m ((c.tc : Thread Cert.InDxKIdeal.nD Cert.InDxKIdeal.τ).loc Cert.InDxKIdeal.main_arg0)
      ∧ r.2.mem ((c.tc : Thread Cert.InDxKIdeal.nD Cert.InDxKIdeal.τ).loc Cert.InDxKIdeal.main_arg1) = m ((c.tc : Thread Cert.InDxKIdeal.nD Cert.InDxKIdeal.τ).loc Cert.InDxKIdeal.main_arg1)
      ∧ r.2.mem ((c.tc : Thread Cert.InDxKIdeal.nD Cert.InDxKIdeal.τ).loc Cert.InDxKIdeal.main_arg2) = m ((c.tc : Thread Cert.InDxKIdeal.nD Cert.InDxKIdeal.τ).loc Cert.InDxKIdeal.main_arg2)
      ∧ r.2.mem ((c.tc : Thread Cert.InDxKIdeal.nD Cert.InDxKIdeal.τ).loc Cert.InDxKIdeal.main_arg3) = m ((c.tc : Thread Cert.InDxKIdeal.nD Cert.InDxKIdeal.τ).loc Cert.InDxKIdeal.main_arg3)
      ∧ r.2.mem ((c.tc : Thread Cert.InDxKIdeal.nD Cert.InDxKIdeal.τ).loc Cert.InDxKIdeal.main_arg4) = m ((c.tc : Thread Cert.InDxKIdeal.nD Cert.InDxKIdeal.τ).loc Cert.InDxKIdeal.main_arg4))
      ∧ r.2.sem = fun _ => 0)

def quiescent_InDxRIdeal [hInDxRIdeal : Cert.InDxRIdeal.Facts] : Prop :=
  ∀ (m : (ℓ : Loc Cert.InDxRIdeal.nD Cert.InDxRIdeal.τ Cert.InDxRIdeal.sig) → Buf (Elt Ideal) ℓ) (g : Dev Cert.InDxRIdeal.nD → PrngReg), Pre_InDxRIdeal m →
    θ_run (Cert.InDxRIdeal.defs (F := Ideal)) (onTc (τ := Cert.InDxRIdeal.τ) (Cert.InDxRIdeal.main (F := Ideal))) ⟨m, fun _ => 0, g⟩ (fun r => (∀ c : Dev Cert.InDxRIdeal.nD,
      r.2.mem ((c.tc : Thread Cert.InDxRIdeal.nD Cert.InDxRIdeal.τ).loc Cert.InDxRIdeal.main_arg0) = m ((c.tc : Thread Cert.InDxRIdeal.nD Cert.InDxRIdeal.τ).loc Cert.InDxRIdeal.main_arg0)
      ∧ r.2.mem ((c.tc : Thread Cert.InDxRIdeal.nD Cert.InDxRIdeal.τ).loc Cert.InDxRIdeal.main_arg1) = m ((c.tc : Thread Cert.InDxRIdeal.nD Cert.InDxRIdeal.τ).loc Cert.InDxRIdeal.main_arg1)
      ∧ r.2.mem ((c.tc : Thread Cert.InDxRIdeal.nD Cert.InDxRIdeal.τ).loc Cert.InDxRIdeal.main_arg2) = m ((c.tc : Thread Cert.InDxRIdeal.nD Cert.InDxRIdeal.τ).loc Cert.InDxRIdeal.main_arg2)
      ∧ r.2.mem ((c.tc : Thread Cert.InDxRIdeal.nD Cert.InDxRIdeal.τ).loc Cert.InDxRIdeal.main_arg3) = m ((c.tc : Thread Cert.InDxRIdeal.nD Cert.InDxRIdeal.τ).loc Cert.InDxRIdeal.main_arg3)
      ∧ r.2.mem ((c.tc : Thread Cert.InDxRIdeal.nD Cert.InDxRIdeal.τ).loc Cert.InDxRIdeal.main_arg4) = m ((c.tc : Thread Cert.InDxRIdeal.nD Cert.InDxRIdeal.τ).loc Cert.InDxRIdeal.main_arg4))
      ∧ r.2.sem = fun _ => 0)

def quiescent_FfOneDxK [hFfOneDxK : Cert.FfOneDxK.Facts] : Prop :=
  ∀ (m : (ℓ : Loc Cert.FfOneDxK.nD Cert.FfOneDxK.τ Cert.FfOneDxK.sig) → Buf (Elt Bits) ℓ) (g : Dev Cert.FfOneDxK.nD → PrngReg), Pre_FfOneDxK m →
    θ_run (Cert.FfOneDxK.defs (F := Bits)) (onTc (τ := Cert.FfOneDxK.τ) (Cert.FfOneDxK.main (F := Bits))) ⟨m, fun _ => 0, g⟩ (fun r => (∀ c : Dev Cert.FfOneDxK.nD,
      r.2.mem ((c.tc : Thread Cert.FfOneDxK.nD Cert.FfOneDxK.τ).loc Cert.FfOneDxK.main_arg0) = m ((c.tc : Thread Cert.FfOneDxK.nD Cert.FfOneDxK.τ).loc Cert.FfOneDxK.main_arg0)
      ∧ r.2.mem ((c.tc : Thread Cert.FfOneDxK.nD Cert.FfOneDxK.τ).loc Cert.FfOneDxK.main_arg1) = m ((c.tc : Thread Cert.FfOneDxK.nD Cert.FfOneDxK.τ).loc Cert.FfOneDxK.main_arg1)
      ∧ r.2.mem ((c.tc : Thread Cert.FfOneDxK.nD Cert.FfOneDxK.τ).loc Cert.FfOneDxK.main_arg2) = m ((c.tc : Thread Cert.FfOneDxK.nD Cert.FfOneDxK.τ).loc Cert.FfOneDxK.main_arg2)
      ∧ r.2.mem ((c.tc : Thread Cert.FfOneDxK.nD Cert.FfOneDxK.τ).loc Cert.FfOneDxK.main_arg3) = m ((c.tc : Thread Cert.FfOneDxK.nD Cert.FfOneDxK.τ).loc Cert.FfOneDxK.main_arg3)
      ∧ r.2.mem ((c.tc : Thread Cert.FfOneDxK.nD Cert.FfOneDxK.τ).loc Cert.FfOneDxK.main_arg4) = m ((c.tc : Thread Cert.FfOneDxK.nD Cert.FfOneDxK.τ).loc Cert.FfOneDxK.main_arg4))
      ∧ r.2.sem = fun _ => 0)

def quiescent_FfOneDxKIdeal [hFfOneDxKIdeal : Cert.FfOneDxKIdeal.Facts] : Prop :=
  ∀ (m : (ℓ : Loc Cert.FfOneDxKIdeal.nD Cert.FfOneDxKIdeal.τ Cert.FfOneDxKIdeal.sig) → Buf (Elt Ideal) ℓ) (g : Dev Cert.FfOneDxKIdeal.nD → PrngReg), Pre_FfOneDxKIdeal m →
    θ_run (Cert.FfOneDxKIdeal.defs (F := Ideal)) (onTc (τ := Cert.FfOneDxKIdeal.τ) (Cert.FfOneDxKIdeal.main (F := Ideal))) ⟨m, fun _ => 0, g⟩ (fun r => (∀ c : Dev Cert.FfOneDxKIdeal.nD,
      r.2.mem ((c.tc : Thread Cert.FfOneDxKIdeal.nD Cert.FfOneDxKIdeal.τ).loc Cert.FfOneDxKIdeal.main_arg0) = m ((c.tc : Thread Cert.FfOneDxKIdeal.nD Cert.FfOneDxKIdeal.τ).loc Cert.FfOneDxKIdeal.main_arg0)
      ∧ r.2.mem ((c.tc : Thread Cert.FfOneDxKIdeal.nD Cert.FfOneDxKIdeal.τ).loc Cert.FfOneDxKIdeal.main_arg1) = m ((c.tc : Thread Cert.FfOneDxKIdeal.nD Cert.FfOneDxKIdeal.τ).loc Cert.FfOneDxKIdeal.main_arg1)
      ∧ r.2.mem ((c.tc : Thread Cert.FfOneDxKIdeal.nD Cert.FfOneDxKIdeal.τ).loc Cert.FfOneDxKIdeal.main_arg2) = m ((c.tc : Thread Cert.FfOneDxKIdeal.nD Cert.FfOneDxKIdeal.τ).loc Cert.FfOneDxKIdeal.main_arg2)
      ∧ r.2.mem ((c.tc : Thread Cert.FfOneDxKIdeal.nD Cert.FfOneDxKIdeal.τ).loc Cert.FfOneDxKIdeal.main_arg3) = m ((c.tc : Thread Cert.FfOneDxKIdeal.nD Cert.FfOneDxKIdeal.τ).loc Cert.FfOneDxKIdeal.main_arg3)
      ∧ r.2.mem ((c.tc : Thread Cert.FfOneDxKIdeal.nD Cert.FfOneDxKIdeal.τ).loc Cert.FfOneDxKIdeal.main_arg4) = m ((c.tc : Thread Cert.FfOneDxKIdeal.nD Cert.FfOneDxKIdeal.τ).loc Cert.FfOneDxKIdeal.main_arg4))
      ∧ r.2.sem = fun _ => 0)

def quiescent_FfOneDxRIdeal [hFfOneDxRIdeal : Cert.FfOneDxRIdeal.Facts] : Prop :=
  ∀ (m : (ℓ : Loc Cert.FfOneDxRIdeal.nD Cert.FfOneDxRIdeal.τ Cert.FfOneDxRIdeal.sig) → Buf (Elt Ideal) ℓ) (g : Dev Cert.FfOneDxRIdeal.nD → PrngReg), Pre_FfOneDxRIdeal m →
    θ_run (Cert.FfOneDxRIdeal.defs (F := Ideal)) (onTc (τ := Cert.FfOneDxRIdeal.τ) (Cert.FfOneDxRIdeal.main (F := Ideal))) ⟨m, fun _ => 0, g⟩ (fun r => (∀ c : Dev Cert.FfOneDxRIdeal.nD,
      r.2.mem ((c.tc : Thread Cert.FfOneDxRIdeal.nD Cert.FfOneDxRIdeal.τ).loc Cert.FfOneDxRIdeal.main_arg0) = m ((c.tc : Thread Cert.FfOneDxRIdeal.nD Cert.FfOneDxRIdeal.τ).loc Cert.FfOneDxRIdeal.main_arg0)
      ∧ r.2.mem ((c.tc : Thread Cert.FfOneDxRIdeal.nD Cert.FfOneDxRIdeal.τ).loc Cert.FfOneDxRIdeal.main_arg1) = m ((c.tc : Thread Cert.FfOneDxRIdeal.nD Cert.FfOneDxRIdeal.τ).loc Cert.FfOneDxRIdeal.main_arg1)
      ∧ r.2.mem ((c.tc : Thread Cert.FfOneDxRIdeal.nD Cert.FfOneDxRIdeal.τ).loc Cert.FfOneDxRIdeal.main_arg2) = m ((c.tc : Thread Cert.FfOneDxRIdeal.nD Cert.FfOneDxRIdeal.τ).loc Cert.FfOneDxRIdeal.main_arg2)
      ∧ r.2.mem ((c.tc : Thread Cert.FfOneDxRIdeal.nD Cert.FfOneDxRIdeal.τ).loc Cert.FfOneDxRIdeal.main_arg3) = m ((c.tc : Thread Cert.FfOneDxRIdeal.nD Cert.FfOneDxRIdeal.τ).loc Cert.FfOneDxRIdeal.main_arg3)
      ∧ r.2.mem ((c.tc : Thread Cert.FfOneDxRIdeal.nD Cert.FfOneDxRIdeal.τ).loc Cert.FfOneDxRIdeal.main_arg4) = m ((c.tc : Thread Cert.FfOneDxRIdeal.nD Cert.FfOneDxRIdeal.τ).loc Cert.FfOneDxRIdeal.main_arg4))
      ∧ r.2.sem = fun _ => 0)

def quiescent_HeadK [hHeadK : Cert.HeadK.Facts] : Prop :=
  ∀ (m : (ℓ : Loc Cert.HeadK.nD Cert.HeadK.τ Cert.HeadK.sig) → Buf (Elt Bits) ℓ) (g : Dev Cert.HeadK.nD → PrngReg), Pre_HeadK m →
    θ_run (Cert.HeadK.defs (F := Bits)) (onTc (τ := Cert.HeadK.τ) (Cert.HeadK.main (F := Bits))) ⟨m, fun _ => 0, g⟩ (fun r => (∀ c : Dev Cert.HeadK.nD,
      r.2.mem ((c.tc : Thread Cert.HeadK.nD Cert.HeadK.τ).loc Cert.HeadK.main_arg0) = m ((c.tc : Thread Cert.HeadK.nD Cert.HeadK.τ).loc Cert.HeadK.main_arg0)
      ∧ r.2.mem ((c.tc : Thread Cert.HeadK.nD Cert.HeadK.τ).loc Cert.HeadK.main_arg1) = m ((c.tc : Thread Cert.HeadK.nD Cert.HeadK.τ).loc Cert.HeadK.main_arg1)
      ∧ r.2.mem ((c.tc : Thread Cert.HeadK.nD Cert.HeadK.τ).loc Cert.HeadK.main_arg2) = m ((c.tc : Thread Cert.HeadK.nD Cert.HeadK.τ).loc Cert.HeadK.main_arg2)
      ∧ r.2.mem ((c.tc : Thread Cert.HeadK.nD Cert.HeadK.τ).loc Cert.HeadK.main_arg3) = m ((c.tc : Thread Cert.HeadK.nD Cert.HeadK.τ).loc Cert.HeadK.main_arg3)
      ∧ r.2.mem ((c.tc : Thread Cert.HeadK.nD Cert.HeadK.τ).loc Cert.HeadK.main_arg4) = m ((c.tc : Thread Cert.HeadK.nD Cert.HeadK.τ).loc Cert.HeadK.main_arg4))
      ∧ r.2.sem = fun _ => 0)

def quiescent_HeadKIdeal [hHeadKIdeal : Cert.HeadKIdeal.Facts] : Prop :=
  ∀ (m : (ℓ : Loc Cert.HeadKIdeal.nD Cert.HeadKIdeal.τ Cert.HeadKIdeal.sig) → Buf (Elt Ideal) ℓ) (g : Dev Cert.HeadKIdeal.nD → PrngReg), Pre_HeadKIdeal m →
    θ_run (Cert.HeadKIdeal.defs (F := Ideal)) (onTc (τ := Cert.HeadKIdeal.τ) (Cert.HeadKIdeal.main (F := Ideal))) ⟨m, fun _ => 0, g⟩ (fun r => (∀ c : Dev Cert.HeadKIdeal.nD,
      r.2.mem ((c.tc : Thread Cert.HeadKIdeal.nD Cert.HeadKIdeal.τ).loc Cert.HeadKIdeal.main_arg0) = m ((c.tc : Thread Cert.HeadKIdeal.nD Cert.HeadKIdeal.τ).loc Cert.HeadKIdeal.main_arg0)
      ∧ r.2.mem ((c.tc : Thread Cert.HeadKIdeal.nD Cert.HeadKIdeal.τ).loc Cert.HeadKIdeal.main_arg1) = m ((c.tc : Thread Cert.HeadKIdeal.nD Cert.HeadKIdeal.τ).loc Cert.HeadKIdeal.main_arg1)
      ∧ r.2.mem ((c.tc : Thread Cert.HeadKIdeal.nD Cert.HeadKIdeal.τ).loc Cert.HeadKIdeal.main_arg2) = m ((c.tc : Thread Cert.HeadKIdeal.nD Cert.HeadKIdeal.τ).loc Cert.HeadKIdeal.main_arg2)
      ∧ r.2.mem ((c.tc : Thread Cert.HeadKIdeal.nD Cert.HeadKIdeal.τ).loc Cert.HeadKIdeal.main_arg3) = m ((c.tc : Thread Cert.HeadKIdeal.nD Cert.HeadKIdeal.τ).loc Cert.HeadKIdeal.main_arg3)
      ∧ r.2.mem ((c.tc : Thread Cert.HeadKIdeal.nD Cert.HeadKIdeal.τ).loc Cert.HeadKIdeal.main_arg4) = m ((c.tc : Thread Cert.HeadKIdeal.nD Cert.HeadKIdeal.τ).loc Cert.HeadKIdeal.main_arg4))
      ∧ r.2.sem = fun _ => 0)

def quiescent_HeadRIdeal [hHeadRIdeal : Cert.HeadRIdeal.Facts] : Prop :=
  ∀ (m : (ℓ : Loc Cert.HeadRIdeal.nD Cert.HeadRIdeal.τ Cert.HeadRIdeal.sig) → Buf (Elt Ideal) ℓ) (g : Dev Cert.HeadRIdeal.nD → PrngReg), Pre_HeadRIdeal m →
    θ_run (Cert.HeadRIdeal.defs (F := Ideal)) (onTc (τ := Cert.HeadRIdeal.τ) (Cert.HeadRIdeal.main (F := Ideal))) ⟨m, fun _ => 0, g⟩ (fun r => (∀ c : Dev Cert.HeadRIdeal.nD,
      r.2.mem ((c.tc : Thread Cert.HeadRIdeal.nD Cert.HeadRIdeal.τ).loc Cert.HeadRIdeal.main_arg0) = m ((c.tc : Thread Cert.HeadRIdeal.nD Cert.HeadRIdeal.τ).loc Cert.HeadRIdeal.main_arg0)
      ∧ r.2.mem ((c.tc : Thread Cert.HeadRIdeal.nD Cert.HeadRIdeal.τ).loc Cert.HeadRIdeal.main_arg1) = m ((c.tc : Thread Cert.HeadRIdeal.nD Cert.HeadRIdeal.τ).loc Cert.HeadRIdeal.main_arg1)
      ∧ r.2.mem ((c.tc : Thread Cert.HeadRIdeal.nD Cert.HeadRIdeal.τ).loc Cert.HeadRIdeal.main_arg2) = m ((c.tc : Thread Cert.HeadRIdeal.nD Cert.HeadRIdeal.τ).loc Cert.HeadRIdeal.main_arg2)
      ∧ r.2.mem ((c.tc : Thread Cert.HeadRIdeal.nD Cert.HeadRIdeal.τ).loc Cert.HeadRIdeal.main_arg3) = m ((c.tc : Thread Cert.HeadRIdeal.nD Cert.HeadRIdeal.τ).loc Cert.HeadRIdeal.main_arg3)
      ∧ r.2.mem ((c.tc : Thread Cert.HeadRIdeal.nD Cert.HeadRIdeal.τ).loc Cert.HeadRIdeal.main_arg4) = m ((c.tc : Thread Cert.HeadRIdeal.nD Cert.HeadRIdeal.τ).loc Cert.HeadRIdeal.main_arg4))
      ∧ r.2.sem = fun _ => 0)

def quiescent_GateK [hGateK : Cert.GateK.Facts] : Prop :=
  ∀ (m : (ℓ : Loc Cert.GateK.nD Cert.GateK.τ Cert.GateK.sig) → Buf (Elt Bits) ℓ) (g : Dev Cert.GateK.nD → PrngReg), Pre_GateK m →
    θ_run (Cert.GateK.defs (F := Bits)) (onTc (τ := Cert.GateK.τ) (Cert.GateK.main (F := Bits))) ⟨m, fun _ => 0, g⟩ (fun r => (∀ c : Dev Cert.GateK.nD,
      r.2.mem ((c.tc : Thread Cert.GateK.nD Cert.GateK.τ).loc Cert.GateK.main_arg0) = m ((c.tc : Thread Cert.GateK.nD Cert.GateK.τ).loc Cert.GateK.main_arg0)
      ∧ r.2.mem ((c.tc : Thread Cert.GateK.nD Cert.GateK.τ).loc Cert.GateK.main_arg1) = m ((c.tc : Thread Cert.GateK.nD Cert.GateK.τ).loc Cert.GateK.main_arg1)
      ∧ r.2.mem ((c.tc : Thread Cert.GateK.nD Cert.GateK.τ).loc Cert.GateK.main_arg2) = m ((c.tc : Thread Cert.GateK.nD Cert.GateK.τ).loc Cert.GateK.main_arg2))
      ∧ r.2.sem = fun _ => 0)

def quiescent_GateKIdeal [hGateKIdeal : Cert.GateKIdeal.Facts] : Prop :=
  ∀ (m : (ℓ : Loc Cert.GateKIdeal.nD Cert.GateKIdeal.τ Cert.GateKIdeal.sig) → Buf (Elt Ideal) ℓ) (g : Dev Cert.GateKIdeal.nD → PrngReg), Pre_GateKIdeal m →
    θ_run (Cert.GateKIdeal.defs (F := Ideal)) (onTc (τ := Cert.GateKIdeal.τ) (Cert.GateKIdeal.main (F := Ideal))) ⟨m, fun _ => 0, g⟩ (fun r => (∀ c : Dev Cert.GateKIdeal.nD,
      r.2.mem ((c.tc : Thread Cert.GateKIdeal.nD Cert.GateKIdeal.τ).loc Cert.GateKIdeal.main_arg0) = m ((c.tc : Thread Cert.GateKIdeal.nD Cert.GateKIdeal.τ).loc Cert.GateKIdeal.main_arg0)
      ∧ r.2.mem ((c.tc : Thread Cert.GateKIdeal.nD Cert.GateKIdeal.τ).loc Cert.GateKIdeal.main_arg1) = m ((c.tc : Thread Cert.GateKIdeal.nD Cert.GateKIdeal.τ).loc Cert.GateKIdeal.main_arg1)
      ∧ r.2.mem ((c.tc : Thread Cert.GateKIdeal.nD Cert.GateKIdeal.τ).loc Cert.GateKIdeal.main_arg2) = m ((c.tc : Thread Cert.GateKIdeal.nD Cert.GateKIdeal.τ).loc Cert.GateKIdeal.main_arg2))
      ∧ r.2.sem = fun _ => 0)

def quiescent_GateKIdeal_pre_gate_finite [hGateKIdeal : Cert.GateKIdeal.Facts] [hPre_gate_finite : Cert.Pre_gate_finite.Facts] : Prop :=
  ∀ (m : (ℓ : Loc Cert.GateKIdeal.nD Cert.GateKIdeal.τ Cert.GateKIdeal.sig) → Buf (Elt Ideal) ℓ) (g : Dev Cert.GateKIdeal.nD → PrngReg), Pre_GateKIdeal_gate_finite m →
    θ_run (Cert.GateKIdeal.defs (F := Ideal)) (onTc (τ := Cert.GateKIdeal.τ) (Cert.GateKIdeal.main (F := Ideal))) ⟨m, fun _ => 0, g⟩ (fun r => (∀ c : Dev Cert.GateKIdeal.nD,
      r.2.mem ((c.tc : Thread Cert.GateKIdeal.nD Cert.GateKIdeal.τ).loc Cert.GateKIdeal.main_arg0) = m ((c.tc : Thread Cert.GateKIdeal.nD Cert.GateKIdeal.τ).loc Cert.GateKIdeal.main_arg0)
      ∧ r.2.mem ((c.tc : Thread Cert.GateKIdeal.nD Cert.GateKIdeal.τ).loc Cert.GateKIdeal.main_arg1) = m ((c.tc : Thread Cert.GateKIdeal.nD Cert.GateKIdeal.τ).loc Cert.GateKIdeal.main_arg1)
      ∧ r.2.mem ((c.tc : Thread Cert.GateKIdeal.nD Cert.GateKIdeal.τ).loc Cert.GateKIdeal.main_arg2) = m ((c.tc : Thread Cert.GateKIdeal.nD Cert.GateKIdeal.τ).loc Cert.GateKIdeal.main_arg2))
      ∧ r.2.sem = fun _ => 0)

def quiescent_GateRIdeal [hGateRIdeal : Cert.GateRIdeal.Facts] : Prop :=
  ∀ (m : (ℓ : Loc Cert.GateRIdeal.nD Cert.GateRIdeal.τ Cert.GateRIdeal.sig) → Buf (Elt Ideal) ℓ) (g : Dev Cert.GateRIdeal.nD → PrngReg), Pre_GateRIdeal m →
    θ_run (Cert.GateRIdeal.defs (F := Ideal)) (onTc (τ := Cert.GateRIdeal.τ) (Cert.GateRIdeal.main (F := Ideal))) ⟨m, fun _ => 0, g⟩ (fun r => (∀ c : Dev Cert.GateRIdeal.nD,
      r.2.mem ((c.tc : Thread Cert.GateRIdeal.nD Cert.GateRIdeal.τ).loc Cert.GateRIdeal.main_arg0) = m ((c.tc : Thread Cert.GateRIdeal.nD Cert.GateRIdeal.τ).loc Cert.GateRIdeal.main_arg0)
      ∧ r.2.mem ((c.tc : Thread Cert.GateRIdeal.nD Cert.GateRIdeal.τ).loc Cert.GateRIdeal.main_arg1) = m ((c.tc : Thread Cert.GateRIdeal.nD Cert.GateRIdeal.τ).loc Cert.GateRIdeal.main_arg1)
      ∧ r.2.mem ((c.tc : Thread Cert.GateRIdeal.nD Cert.GateRIdeal.τ).loc Cert.GateRIdeal.main_arg2) = m ((c.tc : Thread Cert.GateRIdeal.nD Cert.GateRIdeal.τ).loc Cert.GateRIdeal.main_arg2))
      ∧ r.2.sem = fun _ => 0)

def quiescent_GateRIdeal_pre_gate_finite [hGateRIdeal : Cert.GateRIdeal.Facts] [hPre_gate_finite : Cert.Pre_gate_finite.Facts] : Prop :=
  ∀ (m : (ℓ : Loc Cert.GateRIdeal.nD Cert.GateRIdeal.τ Cert.GateRIdeal.sig) → Buf (Elt Ideal) ℓ) (g : Dev Cert.GateRIdeal.nD → PrngReg), Pre_GateRIdeal_gate_finite m →
    θ_run (Cert.GateRIdeal.defs (F := Ideal)) (onTc (τ := Cert.GateRIdeal.τ) (Cert.GateRIdeal.main (F := Ideal))) ⟨m, fun _ => 0, g⟩ (fun r => (∀ c : Dev Cert.GateRIdeal.nD,
      r.2.mem ((c.tc : Thread Cert.GateRIdeal.nD Cert.GateRIdeal.τ).loc Cert.GateRIdeal.main_arg0) = m ((c.tc : Thread Cert.GateRIdeal.nD Cert.GateRIdeal.τ).loc Cert.GateRIdeal.main_arg0)
      ∧ r.2.mem ((c.tc : Thread Cert.GateRIdeal.nD Cert.GateRIdeal.τ).loc Cert.GateRIdeal.main_arg1) = m ((c.tc : Thread Cert.GateRIdeal.nD Cert.GateRIdeal.τ).loc Cert.GateRIdeal.main_arg1)
      ∧ r.2.mem ((c.tc : Thread Cert.GateRIdeal.nD Cert.GateRIdeal.τ).loc Cert.GateRIdeal.main_arg2) = m ((c.tc : Thread Cert.GateRIdeal.nD Cert.GateRIdeal.τ).loc Cert.GateRIdeal.main_arg2))
      ∧ r.2.sem = fun _ => 0)

def quiescent_AttnK [hAttnK : Cert.AttnK.Facts] : Prop :=
  ∀ (m : (ℓ : Loc Cert.AttnK.nD Cert.AttnK.τ Cert.AttnK.sig) → Buf (Elt Bits) ℓ) (g : Dev Cert.AttnK.nD → PrngReg), Pre_AttnK m →
    θ_run (Cert.AttnK.defs (F := Bits)) (onTc (τ := Cert.AttnK.τ) (Cert.AttnK.main (F := Bits))) ⟨m, fun _ => 0, g⟩ (fun r => (∀ c : Dev Cert.AttnK.nD,
      r.2.mem ((c.tc : Thread Cert.AttnK.nD Cert.AttnK.τ).loc Cert.AttnK.main_arg0) = m ((c.tc : Thread Cert.AttnK.nD Cert.AttnK.τ).loc Cert.AttnK.main_arg0)
      ∧ r.2.mem ((c.tc : Thread Cert.AttnK.nD Cert.AttnK.τ).loc Cert.AttnK.main_arg1) = m ((c.tc : Thread Cert.AttnK.nD Cert.AttnK.τ).loc Cert.AttnK.main_arg1)
      ∧ r.2.mem ((c.tc : Thread Cert.AttnK.nD Cert.AttnK.τ).loc Cert.AttnK.main_arg2) = m ((c.tc : Thread Cert.AttnK.nD Cert.AttnK.τ).loc Cert.AttnK.main_arg2))
      ∧ r.2.sem = fun _ => 0)

def quiescent_AttnKIdeal [hAttnKIdeal : Cert.AttnKIdeal.Facts] : Prop :=
  ∀ (m : (ℓ : Loc Cert.AttnKIdeal.nD Cert.AttnKIdeal.τ Cert.AttnKIdeal.sig) → Buf (Elt Ideal) ℓ) (g : Dev Cert.AttnKIdeal.nD → PrngReg), Pre_AttnKIdeal m →
    θ_run (Cert.AttnKIdeal.defs (F := Ideal)) (onTc (τ := Cert.AttnKIdeal.τ) (Cert.AttnKIdeal.main (F := Ideal))) ⟨m, fun _ => 0, g⟩ (fun r => (∀ c : Dev Cert.AttnKIdeal.nD,
      r.2.mem ((c.tc : Thread Cert.AttnKIdeal.nD Cert.AttnKIdeal.τ).loc Cert.AttnKIdeal.main_arg0) = m ((c.tc : Thread Cert.AttnKIdeal.nD Cert.AttnKIdeal.τ).loc Cert.AttnKIdeal.main_arg0)
      ∧ r.2.mem ((c.tc : Thread Cert.AttnKIdeal.nD Cert.AttnKIdeal.τ).loc Cert.AttnKIdeal.main_arg1) = m ((c.tc : Thread Cert.AttnKIdeal.nD Cert.AttnKIdeal.τ).loc Cert.AttnKIdeal.main_arg1)
      ∧ r.2.mem ((c.tc : Thread Cert.AttnKIdeal.nD Cert.AttnKIdeal.τ).loc Cert.AttnKIdeal.main_arg2) = m ((c.tc : Thread Cert.AttnKIdeal.nD Cert.AttnKIdeal.τ).loc Cert.AttnKIdeal.main_arg2))
      ∧ r.2.sem = fun _ => 0)

def quiescent_AttnKIdeal_pre_attn_finite [hAttnKIdeal : Cert.AttnKIdeal.Facts] [hPre_attn_finite : Cert.Pre_attn_finite.Facts] : Prop :=
  ∀ (m : (ℓ : Loc Cert.AttnKIdeal.nD Cert.AttnKIdeal.τ Cert.AttnKIdeal.sig) → Buf (Elt Ideal) ℓ) (g : Dev Cert.AttnKIdeal.nD → PrngReg), Pre_AttnKIdeal_attn_finite m →
    θ_run (Cert.AttnKIdeal.defs (F := Ideal)) (onTc (τ := Cert.AttnKIdeal.τ) (Cert.AttnKIdeal.main (F := Ideal))) ⟨m, fun _ => 0, g⟩ (fun r => (∀ c : Dev Cert.AttnKIdeal.nD,
      r.2.mem ((c.tc : Thread Cert.AttnKIdeal.nD Cert.AttnKIdeal.τ).loc Cert.AttnKIdeal.main_arg0) = m ((c.tc : Thread Cert.AttnKIdeal.nD Cert.AttnKIdeal.τ).loc Cert.AttnKIdeal.main_arg0)
      ∧ r.2.mem ((c.tc : Thread Cert.AttnKIdeal.nD Cert.AttnKIdeal.τ).loc Cert.AttnKIdeal.main_arg1) = m ((c.tc : Thread Cert.AttnKIdeal.nD Cert.AttnKIdeal.τ).loc Cert.AttnKIdeal.main_arg1)
      ∧ r.2.mem ((c.tc : Thread Cert.AttnKIdeal.nD Cert.AttnKIdeal.τ).loc Cert.AttnKIdeal.main_arg2) = m ((c.tc : Thread Cert.AttnKIdeal.nD Cert.AttnKIdeal.τ).loc Cert.AttnKIdeal.main_arg2))
      ∧ r.2.sem = fun _ => 0)

def quiescent_AttnRIdeal [hAttnRIdeal : Cert.AttnRIdeal.Facts] : Prop :=
  ∀ (m : (ℓ : Loc Cert.AttnRIdeal.nD Cert.AttnRIdeal.τ Cert.AttnRIdeal.sig) → Buf (Elt Ideal) ℓ) (g : Dev Cert.AttnRIdeal.nD → PrngReg), Pre_AttnRIdeal m →
    θ_run (Cert.AttnRIdeal.defs (F := Ideal)) (onTc (τ := Cert.AttnRIdeal.τ) (Cert.AttnRIdeal.main (F := Ideal))) ⟨m, fun _ => 0, g⟩ (fun r => (∀ c : Dev Cert.AttnRIdeal.nD,
      r.2.mem ((c.tc : Thread Cert.AttnRIdeal.nD Cert.AttnRIdeal.τ).loc Cert.AttnRIdeal.main_arg0) = m ((c.tc : Thread Cert.AttnRIdeal.nD Cert.AttnRIdeal.τ).loc Cert.AttnRIdeal.main_arg0)
      ∧ r.2.mem ((c.tc : Thread Cert.AttnRIdeal.nD Cert.AttnRIdeal.τ).loc Cert.AttnRIdeal.main_arg1) = m ((c.tc : Thread Cert.AttnRIdeal.nD Cert.AttnRIdeal.τ).loc Cert.AttnRIdeal.main_arg1)
      ∧ r.2.mem ((c.tc : Thread Cert.AttnRIdeal.nD Cert.AttnRIdeal.τ).loc Cert.AttnRIdeal.main_arg2) = m ((c.tc : Thread Cert.AttnRIdeal.nD Cert.AttnRIdeal.τ).loc Cert.AttnRIdeal.main_arg2))
      ∧ r.2.sem = fun _ => 0)

def quiescent_AttnRIdeal_pre_attn_finite [hAttnRIdeal : Cert.AttnRIdeal.Facts] [hPre_attn_finite : Cert.Pre_attn_finite.Facts] : Prop :=
  ∀ (m : (ℓ : Loc Cert.AttnRIdeal.nD Cert.AttnRIdeal.τ Cert.AttnRIdeal.sig) → Buf (Elt Ideal) ℓ) (g : Dev Cert.AttnRIdeal.nD → PrngReg), Pre_AttnRIdeal_attn_finite m →
    θ_run (Cert.AttnRIdeal.defs (F := Ideal)) (onTc (τ := Cert.AttnRIdeal.τ) (Cert.AttnRIdeal.main (F := Ideal))) ⟨m, fun _ => 0, g⟩ (fun r => (∀ c : Dev Cert.AttnRIdeal.nD,
      r.2.mem ((c.tc : Thread Cert.AttnRIdeal.nD Cert.AttnRIdeal.τ).loc Cert.AttnRIdeal.main_arg0) = m ((c.tc : Thread Cert.AttnRIdeal.nD Cert.AttnRIdeal.τ).loc Cert.AttnRIdeal.main_arg0)
      ∧ r.2.mem ((c.tc : Thread Cert.AttnRIdeal.nD Cert.AttnRIdeal.τ).loc Cert.AttnRIdeal.main_arg1) = m ((c.tc : Thread Cert.AttnRIdeal.nD Cert.AttnRIdeal.τ).loc Cert.AttnRIdeal.main_arg1)
      ∧ r.2.mem ((c.tc : Thread Cert.AttnRIdeal.nD Cert.AttnRIdeal.τ).loc Cert.AttnRIdeal.main_arg2) = m ((c.tc : Thread Cert.AttnRIdeal.nD Cert.AttnRIdeal.τ).loc Cert.AttnRIdeal.main_arg2))
      ∧ r.2.sem = fun _ => 0)

def quiescent_GmlpK [hGmlpK : Cert.GmlpK.Facts] : Prop :=
  ∀ (m : (ℓ : Loc Cert.GmlpK.nD Cert.GmlpK.τ Cert.GmlpK.sig) → Buf (Elt Bits) ℓ) (g : Dev Cert.GmlpK.nD → PrngReg), Pre_GmlpK m →
    θ_run (Cert.GmlpK.defs (F := Bits)) (onTc (τ := Cert.GmlpK.τ) (Cert.GmlpK.main (F := Bits))) ⟨m, fun _ => 0, g⟩ (fun r => (∀ c : Dev Cert.GmlpK.nD,
      r.2.mem ((c.tc : Thread Cert.GmlpK.nD Cert.GmlpK.τ).loc Cert.GmlpK.main_arg0) = m ((c.tc : Thread Cert.GmlpK.nD Cert.GmlpK.τ).loc Cert.GmlpK.main_arg0)
      ∧ r.2.mem ((c.tc : Thread Cert.GmlpK.nD Cert.GmlpK.τ).loc Cert.GmlpK.main_arg1) = m ((c.tc : Thread Cert.GmlpK.nD Cert.GmlpK.τ).loc Cert.GmlpK.main_arg1)
      ∧ r.2.mem ((c.tc : Thread Cert.GmlpK.nD Cert.GmlpK.τ).loc Cert.GmlpK.main_arg2) = m ((c.tc : Thread Cert.GmlpK.nD Cert.GmlpK.τ).loc Cert.GmlpK.main_arg2)
      ∧ r.2.mem ((c.tc : Thread Cert.GmlpK.nD Cert.GmlpK.τ).loc Cert.GmlpK.main_arg3) = m ((c.tc : Thread Cert.GmlpK.nD Cert.GmlpK.τ).loc Cert.GmlpK.main_arg3)
      ∧ r.2.mem ((c.tc : Thread Cert.GmlpK.nD Cert.GmlpK.τ).loc Cert.GmlpK.main_arg4) = m ((c.tc : Thread Cert.GmlpK.nD Cert.GmlpK.τ).loc Cert.GmlpK.main_arg4)
      ∧ r.2.mem ((c.tc : Thread Cert.GmlpK.nD Cert.GmlpK.τ).loc Cert.GmlpK.main_arg5) = m ((c.tc : Thread Cert.GmlpK.nD Cert.GmlpK.τ).loc Cert.GmlpK.main_arg5))
      ∧ r.2.sem = fun _ => 0)

def quiescent_GmlpKIdeal [hGmlpKIdeal : Cert.GmlpKIdeal.Facts] : Prop :=
  ∀ (m : (ℓ : Loc Cert.GmlpKIdeal.nD Cert.GmlpKIdeal.τ Cert.GmlpKIdeal.sig) → Buf (Elt Ideal) ℓ) (g : Dev Cert.GmlpKIdeal.nD → PrngReg), Pre_GmlpKIdeal m →
    θ_run (Cert.GmlpKIdeal.defs (F := Ideal)) (onTc (τ := Cert.GmlpKIdeal.τ) (Cert.GmlpKIdeal.main (F := Ideal))) ⟨m, fun _ => 0, g⟩ (fun r => (∀ c : Dev Cert.GmlpKIdeal.nD,
      r.2.mem ((c.tc : Thread Cert.GmlpKIdeal.nD Cert.GmlpKIdeal.τ).loc Cert.GmlpKIdeal.main_arg0) = m ((c.tc : Thread Cert.GmlpKIdeal.nD Cert.GmlpKIdeal.τ).loc Cert.GmlpKIdeal.main_arg0)
      ∧ r.2.mem ((c.tc : Thread Cert.GmlpKIdeal.nD Cert.GmlpKIdeal.τ).loc Cert.GmlpKIdeal.main_arg1) = m ((c.tc : Thread Cert.GmlpKIdeal.nD Cert.GmlpKIdeal.τ).loc Cert.GmlpKIdeal.main_arg1)
      ∧ r.2.mem ((c.tc : Thread Cert.GmlpKIdeal.nD Cert.GmlpKIdeal.τ).loc Cert.GmlpKIdeal.main_arg2) = m ((c.tc : Thread Cert.GmlpKIdeal.nD Cert.GmlpKIdeal.τ).loc Cert.GmlpKIdeal.main_arg2)
      ∧ r.2.mem ((c.tc : Thread Cert.GmlpKIdeal.nD Cert.GmlpKIdeal.τ).loc Cert.GmlpKIdeal.main_arg3) = m ((c.tc : Thread Cert.GmlpKIdeal.nD Cert.GmlpKIdeal.τ).loc Cert.GmlpKIdeal.main_arg3)
      ∧ r.2.mem ((c.tc : Thread Cert.GmlpKIdeal.nD Cert.GmlpKIdeal.τ).loc Cert.GmlpKIdeal.main_arg4) = m ((c.tc : Thread Cert.GmlpKIdeal.nD Cert.GmlpKIdeal.τ).loc Cert.GmlpKIdeal.main_arg4)
      ∧ r.2.mem ((c.tc : Thread Cert.GmlpKIdeal.nD Cert.GmlpKIdeal.τ).loc Cert.GmlpKIdeal.main_arg5) = m ((c.tc : Thread Cert.GmlpKIdeal.nD Cert.GmlpKIdeal.τ).loc Cert.GmlpKIdeal.main_arg5))
      ∧ r.2.sem = fun _ => 0)

def quiescent_GmlpKIdeal_pre_gmlp_finite [hGmlpKIdeal : Cert.GmlpKIdeal.Facts] [hPre_gmlp_finite : Cert.Pre_gmlp_finite.Facts] : Prop :=
  ∀ (m : (ℓ : Loc Cert.GmlpKIdeal.nD Cert.GmlpKIdeal.τ Cert.GmlpKIdeal.sig) → Buf (Elt Ideal) ℓ) (g : Dev Cert.GmlpKIdeal.nD → PrngReg), Pre_GmlpKIdeal_gmlp_finite m →
    θ_run (Cert.GmlpKIdeal.defs (F := Ideal)) (onTc (τ := Cert.GmlpKIdeal.τ) (Cert.GmlpKIdeal.main (F := Ideal))) ⟨m, fun _ => 0, g⟩ (fun r => (∀ c : Dev Cert.GmlpKIdeal.nD,
      r.2.mem ((c.tc : Thread Cert.GmlpKIdeal.nD Cert.GmlpKIdeal.τ).loc Cert.GmlpKIdeal.main_arg0) = m ((c.tc : Thread Cert.GmlpKIdeal.nD Cert.GmlpKIdeal.τ).loc Cert.GmlpKIdeal.main_arg0)
      ∧ r.2.mem ((c.tc : Thread Cert.GmlpKIdeal.nD Cert.GmlpKIdeal.τ).loc Cert.GmlpKIdeal.main_arg1) = m ((c.tc : Thread Cert.GmlpKIdeal.nD Cert.GmlpKIdeal.τ).loc Cert.GmlpKIdeal.main_arg1)
      ∧ r.2.mem ((c.tc : Thread Cert.GmlpKIdeal.nD Cert.GmlpKIdeal.τ).loc Cert.GmlpKIdeal.main_arg2) = m ((c.tc : Thread Cert.GmlpKIdeal.nD Cert.GmlpKIdeal.τ).loc Cert.GmlpKIdeal.main_arg2)
      ∧ r.2.mem ((c.tc : Thread Cert.GmlpKIdeal.nD Cert.GmlpKIdeal.τ).loc Cert.GmlpKIdeal.main_arg3) = m ((c.tc : Thread Cert.GmlpKIdeal.nD Cert.GmlpKIdeal.τ).loc Cert.GmlpKIdeal.main_arg3)
      ∧ r.2.mem ((c.tc : Thread Cert.GmlpKIdeal.nD Cert.GmlpKIdeal.τ).loc Cert.GmlpKIdeal.main_arg4) = m ((c.tc : Thread Cert.GmlpKIdeal.nD Cert.GmlpKIdeal.τ).loc Cert.GmlpKIdeal.main_arg4)
      ∧ r.2.mem ((c.tc : Thread Cert.GmlpKIdeal.nD Cert.GmlpKIdeal.τ).loc Cert.GmlpKIdeal.main_arg5) = m ((c.tc : Thread Cert.GmlpKIdeal.nD Cert.GmlpKIdeal.τ).loc Cert.GmlpKIdeal.main_arg5))
      ∧ r.2.sem = fun _ => 0)

def quiescent_GmlpRIdeal [hGmlpRIdeal : Cert.GmlpRIdeal.Facts] : Prop :=
  ∀ (m : (ℓ : Loc Cert.GmlpRIdeal.nD Cert.GmlpRIdeal.τ Cert.GmlpRIdeal.sig) → Buf (Elt Ideal) ℓ) (g : Dev Cert.GmlpRIdeal.nD → PrngReg), Pre_GmlpRIdeal m →
    θ_run (Cert.GmlpRIdeal.defs (F := Ideal)) (onTc (τ := Cert.GmlpRIdeal.τ) (Cert.GmlpRIdeal.main (F := Ideal))) ⟨m, fun _ => 0, g⟩ (fun r => (∀ c : Dev Cert.GmlpRIdeal.nD,
      r.2.mem ((c.tc : Thread Cert.GmlpRIdeal.nD Cert.GmlpRIdeal.τ).loc Cert.GmlpRIdeal.main_arg0) = m ((c.tc : Thread Cert.GmlpRIdeal.nD Cert.GmlpRIdeal.τ).loc Cert.GmlpRIdeal.main_arg0)
      ∧ r.2.mem ((c.tc : Thread Cert.GmlpRIdeal.nD Cert.GmlpRIdeal.τ).loc Cert.GmlpRIdeal.main_arg1) = m ((c.tc : Thread Cert.GmlpRIdeal.nD Cert.GmlpRIdeal.τ).loc Cert.GmlpRIdeal.main_arg1)
      ∧ r.2.mem ((c.tc : Thread Cert.GmlpRIdeal.nD Cert.GmlpRIdeal.τ).loc Cert.GmlpRIdeal.main_arg2) = m ((c.tc : Thread Cert.GmlpRIdeal.nD Cert.GmlpRIdeal.τ).loc Cert.GmlpRIdeal.main_arg2)
      ∧ r.2.mem ((c.tc : Thread Cert.GmlpRIdeal.nD Cert.GmlpRIdeal.τ).loc Cert.GmlpRIdeal.main_arg3) = m ((c.tc : Thread Cert.GmlpRIdeal.nD Cert.GmlpRIdeal.τ).loc Cert.GmlpRIdeal.main_arg3)
      ∧ r.2.mem ((c.tc : Thread Cert.GmlpRIdeal.nD Cert.GmlpRIdeal.τ).loc Cert.GmlpRIdeal.main_arg4) = m ((c.tc : Thread Cert.GmlpRIdeal.nD Cert.GmlpRIdeal.τ).loc Cert.GmlpRIdeal.main_arg4)
      ∧ r.2.mem ((c.tc : Thread Cert.GmlpRIdeal.nD Cert.GmlpRIdeal.τ).loc Cert.GmlpRIdeal.main_arg5) = m ((c.tc : Thread Cert.GmlpRIdeal.nD Cert.GmlpRIdeal.τ).loc Cert.GmlpRIdeal.main_arg5))
      ∧ r.2.sem = fun _ => 0)

def quiescent_GmlpRIdeal_pre_gmlp_finite [hGmlpRIdeal : Cert.GmlpRIdeal.Facts] [hPre_gmlp_finite : Cert.Pre_gmlp_finite.Facts] : Prop :=
  ∀ (m : (ℓ : Loc Cert.GmlpRIdeal.nD Cert.GmlpRIdeal.τ Cert.GmlpRIdeal.sig) → Buf (Elt Ideal) ℓ) (g : Dev Cert.GmlpRIdeal.nD → PrngReg), Pre_GmlpRIdeal_gmlp_finite m →
    θ_run (Cert.GmlpRIdeal.defs (F := Ideal)) (onTc (τ := Cert.GmlpRIdeal.τ) (Cert.GmlpRIdeal.main (F := Ideal))) ⟨m, fun _ => 0, g⟩ (fun r => (∀ c : Dev Cert.GmlpRIdeal.nD,
      r.2.mem ((c.tc : Thread Cert.GmlpRIdeal.nD Cert.GmlpRIdeal.τ).loc Cert.GmlpRIdeal.main_arg0) = m ((c.tc : Thread Cert.GmlpRIdeal.nD Cert.GmlpRIdeal.τ).loc Cert.GmlpRIdeal.main_arg0)
      ∧ r.2.mem ((c.tc : Thread Cert.GmlpRIdeal.nD Cert.GmlpRIdeal.τ).loc Cert.GmlpRIdeal.main_arg1) = m ((c.tc : Thread Cert.GmlpRIdeal.nD Cert.GmlpRIdeal.τ).loc Cert.GmlpRIdeal.main_arg1)
      ∧ r.2.mem ((c.tc : Thread Cert.GmlpRIdeal.nD Cert.GmlpRIdeal.τ).loc Cert.GmlpRIdeal.main_arg2) = m ((c.tc : Thread Cert.GmlpRIdeal.nD Cert.GmlpRIdeal.τ).loc Cert.GmlpRIdeal.main_arg2)
      ∧ r.2.mem ((c.tc : Thread Cert.GmlpRIdeal.nD Cert.GmlpRIdeal.τ).loc Cert.GmlpRIdeal.main_arg3) = m ((c.tc : Thread Cert.GmlpRIdeal.nD Cert.GmlpRIdeal.τ).loc Cert.GmlpRIdeal.main_arg3)
      ∧ r.2.mem ((c.tc : Thread Cert.GmlpRIdeal.nD Cert.GmlpRIdeal.τ).loc Cert.GmlpRIdeal.main_arg4) = m ((c.tc : Thread Cert.GmlpRIdeal.nD Cert.GmlpRIdeal.τ).loc Cert.GmlpRIdeal.main_arg4)
      ∧ r.2.mem ((c.tc : Thread Cert.GmlpRIdeal.nD Cert.GmlpRIdeal.τ).loc Cert.GmlpRIdeal.main_arg5) = m ((c.tc : Thread Cert.GmlpRIdeal.nD Cert.GmlpRIdeal.τ).loc Cert.GmlpRIdeal.main_arg5))
      ∧ r.2.sem = fun _ => 0)

def quiescent_OutProjK [hOutProjK : Cert.OutProjK.Facts] : Prop :=
  ∀ (m : (ℓ : Loc Cert.OutProjK.nD Cert.OutProjK.τ Cert.OutProjK.sig) → Buf (Elt Bits) ℓ) (g : Dev Cert.OutProjK.nD → PrngReg), Pre_OutProjK m →
    θ_run (Cert.OutProjK.defs (F := Bits)) (onTc (τ := Cert.OutProjK.τ) (Cert.OutProjK.main (F := Bits))) ⟨m, fun _ => 0, g⟩ (fun r => (∀ c : Dev Cert.OutProjK.nD,
      r.2.mem ((c.tc : Thread Cert.OutProjK.nD Cert.OutProjK.τ).loc Cert.OutProjK.main_arg0) = m ((c.tc : Thread Cert.OutProjK.nD Cert.OutProjK.τ).loc Cert.OutProjK.main_arg0)
      ∧ r.2.mem ((c.tc : Thread Cert.OutProjK.nD Cert.OutProjK.τ).loc Cert.OutProjK.main_arg1) = m ((c.tc : Thread Cert.OutProjK.nD Cert.OutProjK.τ).loc Cert.OutProjK.main_arg1)
      ∧ r.2.mem ((c.tc : Thread Cert.OutProjK.nD Cert.OutProjK.τ).loc Cert.OutProjK.main_arg2) = m ((c.tc : Thread Cert.OutProjK.nD Cert.OutProjK.τ).loc Cert.OutProjK.main_arg2)
      ∧ r.2.mem ((c.tc : Thread Cert.OutProjK.nD Cert.OutProjK.τ).loc Cert.OutProjK.main_arg3) = m ((c.tc : Thread Cert.OutProjK.nD Cert.OutProjK.τ).loc Cert.OutProjK.main_arg3))
      ∧ r.2.sem = fun _ => 0)

def quiescent_OutProjKIdeal [hOutProjKIdeal : Cert.OutProjKIdeal.Facts] : Prop :=
  ∀ (m : (ℓ : Loc Cert.OutProjKIdeal.nD Cert.OutProjKIdeal.τ Cert.OutProjKIdeal.sig) → Buf (Elt Ideal) ℓ) (g : Dev Cert.OutProjKIdeal.nD → PrngReg), Pre_OutProjKIdeal m →
    θ_run (Cert.OutProjKIdeal.defs (F := Ideal)) (onTc (τ := Cert.OutProjKIdeal.τ) (Cert.OutProjKIdeal.main (F := Ideal))) ⟨m, fun _ => 0, g⟩ (fun r => (∀ c : Dev Cert.OutProjKIdeal.nD,
      r.2.mem ((c.tc : Thread Cert.OutProjKIdeal.nD Cert.OutProjKIdeal.τ).loc Cert.OutProjKIdeal.main_arg0) = m ((c.tc : Thread Cert.OutProjKIdeal.nD Cert.OutProjKIdeal.τ).loc Cert.OutProjKIdeal.main_arg0)
      ∧ r.2.mem ((c.tc : Thread Cert.OutProjKIdeal.nD Cert.OutProjKIdeal.τ).loc Cert.OutProjKIdeal.main_arg1) = m ((c.tc : Thread Cert.OutProjKIdeal.nD Cert.OutProjKIdeal.τ).loc Cert.OutProjKIdeal.main_arg1)
      ∧ r.2.mem ((c.tc : Thread Cert.OutProjKIdeal.nD Cert.OutProjKIdeal.τ).loc Cert.OutProjKIdeal.main_arg2) = m ((c.tc : Thread Cert.OutProjKIdeal.nD Cert.OutProjKIdeal.τ).loc Cert.OutProjKIdeal.main_arg2)
      ∧ r.2.mem ((c.tc : Thread Cert.OutProjKIdeal.nD Cert.OutProjKIdeal.τ).loc Cert.OutProjKIdeal.main_arg3) = m ((c.tc : Thread Cert.OutProjKIdeal.nD Cert.OutProjKIdeal.τ).loc Cert.OutProjKIdeal.main_arg3))
      ∧ r.2.sem = fun _ => 0)

def quiescent_OutProjRIdeal [hOutProjRIdeal : Cert.OutProjRIdeal.Facts] : Prop :=
  ∀ (m : (ℓ : Loc Cert.OutProjRIdeal.nD Cert.OutProjRIdeal.τ Cert.OutProjRIdeal.sig) → Buf (Elt Ideal) ℓ) (g : Dev Cert.OutProjRIdeal.nD → PrngReg), Pre_OutProjRIdeal m →
    θ_run (Cert.OutProjRIdeal.defs (F := Ideal)) (onTc (τ := Cert.OutProjRIdeal.τ) (Cert.OutProjRIdeal.main (F := Ideal))) ⟨m, fun _ => 0, g⟩ (fun r => (∀ c : Dev Cert.OutProjRIdeal.nD,
      r.2.mem ((c.tc : Thread Cert.OutProjRIdeal.nD Cert.OutProjRIdeal.τ).loc Cert.OutProjRIdeal.main_arg0) = m ((c.tc : Thread Cert.OutProjRIdeal.nD Cert.OutProjRIdeal.τ).loc Cert.OutProjRIdeal.main_arg0)
      ∧ r.2.mem ((c.tc : Thread Cert.OutProjRIdeal.nD Cert.OutProjRIdeal.τ).loc Cert.OutProjRIdeal.main_arg1) = m ((c.tc : Thread Cert.OutProjRIdeal.nD Cert.OutProjRIdeal.τ).loc Cert.OutProjRIdeal.main_arg1)
      ∧ r.2.mem ((c.tc : Thread Cert.OutProjRIdeal.nD Cert.OutProjRIdeal.τ).loc Cert.OutProjRIdeal.main_arg2) = m ((c.tc : Thread Cert.OutProjRIdeal.nD Cert.OutProjRIdeal.τ).loc Cert.OutProjRIdeal.main_arg2)
      ∧ r.2.mem ((c.tc : Thread Cert.OutProjRIdeal.nD Cert.OutProjRIdeal.τ).loc Cert.OutProjRIdeal.main_arg3) = m ((c.tc : Thread Cert.OutProjRIdeal.nD Cert.OutProjRIdeal.τ).loc Cert.OutProjRIdeal.main_arg3))
      ∧ r.2.sem = fun _ => 0)

def quiescent_FfOneK [hFfOneK : Cert.FfOneK.Facts] : Prop :=
  ∀ (m : (ℓ : Loc Cert.FfOneK.nD Cert.FfOneK.τ Cert.FfOneK.sig) → Buf (Elt Bits) ℓ) (g : Dev Cert.FfOneK.nD → PrngReg), Pre_FfOneK m →
    θ_run (Cert.FfOneK.defs (F := Bits)) (onTc (τ := Cert.FfOneK.τ) (Cert.FfOneK.main (F := Bits))) ⟨m, fun _ => 0, g⟩ (fun r => (∀ c : Dev Cert.FfOneK.nD,
      r.2.mem ((c.tc : Thread Cert.FfOneK.nD Cert.FfOneK.τ).loc Cert.FfOneK.main_arg0) = m ((c.tc : Thread Cert.FfOneK.nD Cert.FfOneK.τ).loc Cert.FfOneK.main_arg0)
      ∧ r.2.mem ((c.tc : Thread Cert.FfOneK.nD Cert.FfOneK.τ).loc Cert.FfOneK.main_arg1) = m ((c.tc : Thread Cert.FfOneK.nD Cert.FfOneK.τ).loc Cert.FfOneK.main_arg1))
      ∧ r.2.sem = fun _ => 0)

def quiescent_FfOneKIdeal [hFfOneKIdeal : Cert.FfOneKIdeal.Facts] : Prop :=
  ∀ (m : (ℓ : Loc Cert.FfOneKIdeal.nD Cert.FfOneKIdeal.τ Cert.FfOneKIdeal.sig) → Buf (Elt Ideal) ℓ) (g : Dev Cert.FfOneKIdeal.nD → PrngReg), Pre_FfOneKIdeal m →
    θ_run (Cert.FfOneKIdeal.defs (F := Ideal)) (onTc (τ := Cert.FfOneKIdeal.τ) (Cert.FfOneKIdeal.main (F := Ideal))) ⟨m, fun _ => 0, g⟩ (fun r => (∀ c : Dev Cert.FfOneKIdeal.nD,
      r.2.mem ((c.tc : Thread Cert.FfOneKIdeal.nD Cert.FfOneKIdeal.τ).loc Cert.FfOneKIdeal.main_arg0) = m ((c.tc : Thread Cert.FfOneKIdeal.nD Cert.FfOneKIdeal.τ).loc Cert.FfOneKIdeal.main_arg0)
      ∧ r.2.mem ((c.tc : Thread Cert.FfOneKIdeal.nD Cert.FfOneKIdeal.τ).loc Cert.FfOneKIdeal.main_arg1) = m ((c.tc : Thread Cert.FfOneKIdeal.nD Cert.FfOneKIdeal.τ).loc Cert.FfOneKIdeal.main_arg1))
      ∧ r.2.sem = fun _ => 0)

def quiescent_FfOneRIdeal [hFfOneRIdeal : Cert.FfOneRIdeal.Facts] : Prop :=
  ∀ (m : (ℓ : Loc Cert.FfOneRIdeal.nD Cert.FfOneRIdeal.τ Cert.FfOneRIdeal.sig) → Buf (Elt Ideal) ℓ) (g : Dev Cert.FfOneRIdeal.nD → PrngReg), Pre_FfOneRIdeal m →
    θ_run (Cert.FfOneRIdeal.defs (F := Ideal)) (onTc (τ := Cert.FfOneRIdeal.τ) (Cert.FfOneRIdeal.main (F := Ideal))) ⟨m, fun _ => 0, g⟩ (fun r => (∀ c : Dev Cert.FfOneRIdeal.nD,
      r.2.mem ((c.tc : Thread Cert.FfOneRIdeal.nD Cert.FfOneRIdeal.τ).loc Cert.FfOneRIdeal.main_arg0) = m ((c.tc : Thread Cert.FfOneRIdeal.nD Cert.FfOneRIdeal.τ).loc Cert.FfOneRIdeal.main_arg0)
      ∧ r.2.mem ((c.tc : Thread Cert.FfOneRIdeal.nD Cert.FfOneRIdeal.τ).loc Cert.FfOneRIdeal.main_arg1) = m ((c.tc : Thread Cert.FfOneRIdeal.nD Cert.FfOneRIdeal.τ).loc Cert.FfOneRIdeal.main_arg1))
      ∧ r.2.sem = fun _ => 0)

def quiescent_RmsMixK [hRmsMixK : Cert.RmsMixK.Facts] : Prop :=
  ∀ (m : (ℓ : Loc Cert.RmsMixK.nD Cert.RmsMixK.τ Cert.RmsMixK.sig) → Buf (Elt Bits) ℓ) (g : Dev Cert.RmsMixK.nD → PrngReg), Pre_RmsMixK m →
    θ_run (Cert.RmsMixK.defs (F := Bits)) (onTc (τ := Cert.RmsMixK.τ) (Cert.RmsMixK.main (F := Bits))) ⟨m, fun _ => 0, g⟩ (fun r => (∀ c : Dev Cert.RmsMixK.nD,
      r.2.mem ((c.tc : Thread Cert.RmsMixK.nD Cert.RmsMixK.τ).loc Cert.RmsMixK.main_arg0) = m ((c.tc : Thread Cert.RmsMixK.nD Cert.RmsMixK.τ).loc Cert.RmsMixK.main_arg0)
      ∧ r.2.mem ((c.tc : Thread Cert.RmsMixK.nD Cert.RmsMixK.τ).loc Cert.RmsMixK.main_arg1) = m ((c.tc : Thread Cert.RmsMixK.nD Cert.RmsMixK.τ).loc Cert.RmsMixK.main_arg1))
      ∧ r.2.sem = fun _ => 0)

def quiescent_RmsMixKIdeal [hRmsMixKIdeal : Cert.RmsMixKIdeal.Facts] : Prop :=
  ∀ (m : (ℓ : Loc Cert.RmsMixKIdeal.nD Cert.RmsMixKIdeal.τ Cert.RmsMixKIdeal.sig) → Buf (Elt Ideal) ℓ) (g : Dev Cert.RmsMixKIdeal.nD → PrngReg), Pre_RmsMixKIdeal m →
    θ_run (Cert.RmsMixKIdeal.defs (F := Ideal)) (onTc (τ := Cert.RmsMixKIdeal.τ) (Cert.RmsMixKIdeal.main (F := Ideal))) ⟨m, fun _ => 0, g⟩ (fun r => (∀ c : Dev Cert.RmsMixKIdeal.nD,
      r.2.mem ((c.tc : Thread Cert.RmsMixKIdeal.nD Cert.RmsMixKIdeal.τ).loc Cert.RmsMixKIdeal.main_arg0) = m ((c.tc : Thread Cert.RmsMixKIdeal.nD Cert.RmsMixKIdeal.τ).loc Cert.RmsMixKIdeal.main_arg0)
      ∧ r.2.mem ((c.tc : Thread Cert.RmsMixKIdeal.nD Cert.RmsMixKIdeal.τ).loc Cert.RmsMixKIdeal.main_arg1) = m ((c.tc : Thread Cert.RmsMixKIdeal.nD Cert.RmsMixKIdeal.τ).loc Cert.RmsMixKIdeal.main_arg1))
      ∧ r.2.sem = fun _ => 0)

def quiescent_RmsMixRIdeal [hRmsMixRIdeal : Cert.RmsMixRIdeal.Facts] : Prop :=
  ∀ (m : (ℓ : Loc Cert.RmsMixRIdeal.nD Cert.RmsMixRIdeal.τ Cert.RmsMixRIdeal.sig) → Buf (Elt Ideal) ℓ) (g : Dev Cert.RmsMixRIdeal.nD → PrngReg), Pre_RmsMixRIdeal m →
    θ_run (Cert.RmsMixRIdeal.defs (F := Ideal)) (onTc (τ := Cert.RmsMixRIdeal.τ) (Cert.RmsMixRIdeal.main (F := Ideal))) ⟨m, fun _ => 0, g⟩ (fun r => (∀ c : Dev Cert.RmsMixRIdeal.nD,
      r.2.mem ((c.tc : Thread Cert.RmsMixRIdeal.nD Cert.RmsMixRIdeal.τ).loc Cert.RmsMixRIdeal.main_arg0) = m ((c.tc : Thread Cert.RmsMixRIdeal.nD Cert.RmsMixRIdeal.τ).loc Cert.RmsMixRIdeal.main_arg0)
      ∧ r.2.mem ((c.tc : Thread Cert.RmsMixRIdeal.nD Cert.RmsMixRIdeal.τ).loc Cert.RmsMixRIdeal.main_arg1) = m ((c.tc : Thread Cert.RmsMixRIdeal.nD Cert.RmsMixRIdeal.τ).loc Cert.RmsMixRIdeal.main_arg1))
      ∧ r.2.sem = fun _ => 0)

def preserves_FfTwoDxK_FfTwoDxKIdeal : Prop :=
  True

def algebraic_FfTwoDxKIdeal_FfTwoDxRIdeal [hFfTwoDxKIdeal : Cert.FfTwoDxKIdeal.Facts] [hFfTwoDxRIdeal : Cert.FfTwoDxRIdeal.Facts] : Prop :=
  ∀ (m : (ℓ : Loc Cert.FfTwoDxKIdeal.nD Cert.FfTwoDxKIdeal.τ Cert.FfTwoDxKIdeal.sig) → Buf (Elt Ideal) ℓ) (g : Dev Cert.FfTwoDxKIdeal.nD → PrngReg)
    (m' : (ℓ : Loc Cert.FfTwoDxRIdeal.nD Cert.FfTwoDxRIdeal.τ Cert.FfTwoDxRIdeal.sig) → Buf (Elt Ideal) ℓ) (g' : Dev Cert.FfTwoDxRIdeal.nD → PrngReg), Pre_FfTwoDxKIdeal m →
    (∀ c : Dev Cert.FfTwoDxKIdeal.nD,
      m' ((c.tc : Thread Cert.FfTwoDxRIdeal.nD Cert.FfTwoDxRIdeal.τ).loc Cert.FfTwoDxRIdeal.main_arg0) = m ((c.tc : Thread Cert.FfTwoDxKIdeal.nD Cert.FfTwoDxKIdeal.τ).loc Cert.FfTwoDxKIdeal.main_arg0)
      ∧ m' ((c.tc : Thread Cert.FfTwoDxRIdeal.nD Cert.FfTwoDxRIdeal.τ).loc Cert.FfTwoDxRIdeal.main_arg1) = m ((c.tc : Thread Cert.FfTwoDxKIdeal.nD Cert.FfTwoDxKIdeal.τ).loc Cert.FfTwoDxKIdeal.main_arg1)
      ∧ m' ((c.tc : Thread Cert.FfTwoDxRIdeal.nD Cert.FfTwoDxRIdeal.τ).loc Cert.FfTwoDxRIdeal.main_arg2) = m ((c.tc : Thread Cert.FfTwoDxKIdeal.nD Cert.FfTwoDxKIdeal.τ).loc Cert.FfTwoDxKIdeal.main_arg2)) →
    ∃ (v0 : (c : Dev Cert.FfTwoDxKIdeal.nD) → Buf (Elt Ideal) ((c.tc : Thread Cert.FfTwoDxKIdeal.nD Cert.FfTwoDxKIdeal.τ).loc Cert.FfTwoDxKIdeal.main_v8)),
      θ_run (Cert.FfTwoDxKIdeal.defs (F := Ideal)) (onTc (τ := Cert.FfTwoDxKIdeal.τ) (Cert.FfTwoDxKIdeal.main (F := Ideal))) ⟨m, fun _ => 0, g⟩ (fun r => ∀ c : Dev Cert.FfTwoDxKIdeal.nD,
          r.2.mem ((c.tc : Thread Cert.FfTwoDxKIdeal.nD Cert.FfTwoDxKIdeal.τ).loc Cert.FfTwoDxKIdeal.main_v8) = v0 c
          ∧ r.2.mem ((c.tc : Thread Cert.FfTwoDxKIdeal.nD Cert.FfTwoDxKIdeal.τ).loc Cert.FfTwoDxKIdeal.main_arg0) = m ((c.tc : Thread Cert.FfTwoDxKIdeal.nD Cert.FfTwoDxKIdeal.τ).loc Cert.FfTwoDxKIdeal.main_arg0)
          ∧ r.2.mem ((c.tc : Thread Cert.FfTwoDxKIdeal.nD Cert.FfTwoDxKIdeal.τ).loc Cert.FfTwoDxKIdeal.main_arg1) = m ((c.tc : Thread Cert.FfTwoDxKIdeal.nD Cert.FfTwoDxKIdeal.τ).loc Cert.FfTwoDxKIdeal.main_arg1)
          ∧ r.2.mem ((c.tc : Thread Cert.FfTwoDxKIdeal.nD Cert.FfTwoDxKIdeal.τ).loc Cert.FfTwoDxKIdeal.main_arg2) = m ((c.tc : Thread Cert.FfTwoDxKIdeal.nD Cert.FfTwoDxKIdeal.τ).loc Cert.FfTwoDxKIdeal.main_arg2))
      ∧ θ_run (Cert.FfTwoDxRIdeal.defs (F := Ideal)) (onTc (τ := Cert.FfTwoDxRIdeal.τ) (Cert.FfTwoDxRIdeal.main (F := Ideal))) ⟨m', fun _ => 0, g'⟩ (fun r => ∀ c : Dev Cert.FfTwoDxRIdeal.nD,
          r.2.mem ((c.tc : Thread Cert.FfTwoDxRIdeal.nD Cert.FfTwoDxRIdeal.τ).loc Cert.FfTwoDxRIdeal.main_v14) = v0 c
          ∧ r.2.mem ((c.tc : Thread Cert.FfTwoDxRIdeal.nD Cert.FfTwoDxRIdeal.τ).loc Cert.FfTwoDxRIdeal.main_arg0) = m' ((c.tc : Thread Cert.FfTwoDxRIdeal.nD Cert.FfTwoDxRIdeal.τ).loc Cert.FfTwoDxRIdeal.main_arg0)
          ∧ r.2.mem ((c.tc : Thread Cert.FfTwoDxRIdeal.nD Cert.FfTwoDxRIdeal.τ).loc Cert.FfTwoDxRIdeal.main_arg1) = m' ((c.tc : Thread Cert.FfTwoDxRIdeal.nD Cert.FfTwoDxRIdeal.τ).loc Cert.FfTwoDxRIdeal.main_arg1)
          ∧ r.2.mem ((c.tc : Thread Cert.FfTwoDxRIdeal.nD Cert.FfTwoDxRIdeal.τ).loc Cert.FfTwoDxRIdeal.main_arg2) = m' ((c.tc : Thread Cert.FfTwoDxRIdeal.nD Cert.FfTwoDxRIdeal.τ).loc Cert.FfTwoDxRIdeal.main_arg2))

def preserves_OutDxK_OutDxKIdeal : Prop :=
  True

def algebraic_OutDxKIdeal_OutDxRIdeal [hOutDxKIdeal : Cert.OutDxKIdeal.Facts] [hOutDxRIdeal : Cert.OutDxRIdeal.Facts] : Prop :=
  ∀ (m : (ℓ : Loc Cert.OutDxKIdeal.nD Cert.OutDxKIdeal.τ Cert.OutDxKIdeal.sig) → Buf (Elt Ideal) ℓ) (g : Dev Cert.OutDxKIdeal.nD → PrngReg)
    (m' : (ℓ : Loc Cert.OutDxRIdeal.nD Cert.OutDxRIdeal.τ Cert.OutDxRIdeal.sig) → Buf (Elt Ideal) ℓ) (g' : Dev Cert.OutDxRIdeal.nD → PrngReg), Pre_OutDxKIdeal m →
    (∀ c : Dev Cert.OutDxKIdeal.nD,
      m' ((c.tc : Thread Cert.OutDxRIdeal.nD Cert.OutDxRIdeal.τ).loc Cert.OutDxRIdeal.main_arg0) = m ((c.tc : Thread Cert.OutDxKIdeal.nD Cert.OutDxKIdeal.τ).loc Cert.OutDxKIdeal.main_arg0)
      ∧ m' ((c.tc : Thread Cert.OutDxRIdeal.nD Cert.OutDxRIdeal.τ).loc Cert.OutDxRIdeal.main_arg1) = m ((c.tc : Thread Cert.OutDxKIdeal.nD Cert.OutDxKIdeal.τ).loc Cert.OutDxKIdeal.main_arg1)
      ∧ m' ((c.tc : Thread Cert.OutDxRIdeal.nD Cert.OutDxRIdeal.τ).loc Cert.OutDxRIdeal.main_arg2) = m ((c.tc : Thread Cert.OutDxKIdeal.nD Cert.OutDxKIdeal.τ).loc Cert.OutDxKIdeal.main_arg2)
      ∧ m' ((c.tc : Thread Cert.OutDxRIdeal.nD Cert.OutDxRIdeal.τ).loc Cert.OutDxRIdeal.main_arg3) = m ((c.tc : Thread Cert.OutDxKIdeal.nD Cert.OutDxKIdeal.τ).loc Cert.OutDxKIdeal.main_arg3)
      ∧ m' ((c.tc : Thread Cert.OutDxRIdeal.nD Cert.OutDxRIdeal.τ).loc Cert.OutDxRIdeal.main_arg4) = m ((c.tc : Thread Cert.OutDxKIdeal.nD Cert.OutDxKIdeal.τ).loc Cert.OutDxKIdeal.main_arg4)
      ∧ m' ((c.tc : Thread Cert.OutDxRIdeal.nD Cert.OutDxRIdeal.τ).loc Cert.OutDxRIdeal.main_arg5) = m ((c.tc : Thread Cert.OutDxKIdeal.nD Cert.OutDxKIdeal.τ).loc Cert.OutDxKIdeal.main_arg5)) →
    ∃ (v0 : (c : Dev Cert.OutDxKIdeal.nD) → Buf (Elt Ideal) ((c.tc : Thread Cert.OutDxKIdeal.nD Cert.OutDxKIdeal.τ).loc Cert.OutDxKIdeal.main_v6_0)) (v1 : (c : Dev Cert.OutDxKIdeal.nD) → Buf (Elt Ideal) ((c.tc : Thread Cert.OutDxKIdeal.nD Cert.OutDxKIdeal.τ).loc Cert.OutDxKIdeal.main_v6_1)) (v2 : (c : Dev Cert.OutDxKIdeal.nD) → Buf (Elt Ideal) ((c.tc : Thread Cert.OutDxKIdeal.nD Cert.OutDxKIdeal.τ).loc Cert.OutDxKIdeal.main_v6_2)) (v3 : (c : Dev Cert.OutDxKIdeal.nD) → Buf (Elt Ideal) ((c.tc : Thread Cert.OutDxKIdeal.nD Cert.OutDxKIdeal.τ).loc Cert.OutDxKIdeal.main_v6_3)),
      θ_run (Cert.OutDxKIdeal.defs (F := Ideal)) (onTc (τ := Cert.OutDxKIdeal.τ) (Cert.OutDxKIdeal.main (F := Ideal))) ⟨m, fun _ => 0, g⟩ (fun r => ∀ c : Dev Cert.OutDxKIdeal.nD,
          r.2.mem ((c.tc : Thread Cert.OutDxKIdeal.nD Cert.OutDxKIdeal.τ).loc Cert.OutDxKIdeal.main_v6_0) = v0 c
          ∧ r.2.mem ((c.tc : Thread Cert.OutDxKIdeal.nD Cert.OutDxKIdeal.τ).loc Cert.OutDxKIdeal.main_v6_1) = v1 c
          ∧ r.2.mem ((c.tc : Thread Cert.OutDxKIdeal.nD Cert.OutDxKIdeal.τ).loc Cert.OutDxKIdeal.main_v6_2) = v2 c
          ∧ r.2.mem ((c.tc : Thread Cert.OutDxKIdeal.nD Cert.OutDxKIdeal.τ).loc Cert.OutDxKIdeal.main_v6_3) = v3 c
          ∧ r.2.mem ((c.tc : Thread Cert.OutDxKIdeal.nD Cert.OutDxKIdeal.τ).loc Cert.OutDxKIdeal.main_arg0) = m ((c.tc : Thread Cert.OutDxKIdeal.nD Cert.OutDxKIdeal.τ).loc Cert.OutDxKIdeal.main_arg0)
          ∧ r.2.mem ((c.tc : Thread Cert.OutDxKIdeal.nD Cert.OutDxKIdeal.τ).loc Cert.OutDxKIdeal.main_arg1) = m ((c.tc : Thread Cert.OutDxKIdeal.nD Cert.OutDxKIdeal.τ).loc Cert.OutDxKIdeal.main_arg1)
          ∧ r.2.mem ((c.tc : Thread Cert.OutDxKIdeal.nD Cert.OutDxKIdeal.τ).loc Cert.OutDxKIdeal.main_arg2) = m ((c.tc : Thread Cert.OutDxKIdeal.nD Cert.OutDxKIdeal.τ).loc Cert.OutDxKIdeal.main_arg2)
          ∧ r.2.mem ((c.tc : Thread Cert.OutDxKIdeal.nD Cert.OutDxKIdeal.τ).loc Cert.OutDxKIdeal.main_arg3) = m ((c.tc : Thread Cert.OutDxKIdeal.nD Cert.OutDxKIdeal.τ).loc Cert.OutDxKIdeal.main_arg3)
          ∧ r.2.mem ((c.tc : Thread Cert.OutDxKIdeal.nD Cert.OutDxKIdeal.τ).loc Cert.OutDxKIdeal.main_arg4) = m ((c.tc : Thread Cert.OutDxKIdeal.nD Cert.OutDxKIdeal.τ).loc Cert.OutDxKIdeal.main_arg4)
          ∧ r.2.mem ((c.tc : Thread Cert.OutDxKIdeal.nD Cert.OutDxKIdeal.τ).loc Cert.OutDxKIdeal.main_arg5) = m ((c.tc : Thread Cert.OutDxKIdeal.nD Cert.OutDxKIdeal.τ).loc Cert.OutDxKIdeal.main_arg5))
      ∧ θ_run (Cert.OutDxRIdeal.defs (F := Ideal)) (onTc (τ := Cert.OutDxRIdeal.τ) (Cert.OutDxRIdeal.main (F := Ideal))) ⟨m', fun _ => 0, g'⟩ (fun r => ∀ c : Dev Cert.OutDxRIdeal.nD,
          r.2.mem ((c.tc : Thread Cert.OutDxRIdeal.nD Cert.OutDxRIdeal.τ).loc Cert.OutDxRIdeal.main_v84) = v0 c
          ∧ r.2.mem ((c.tc : Thread Cert.OutDxRIdeal.nD Cert.OutDxRIdeal.τ).loc Cert.OutDxRIdeal.main_v85) = v1 c
          ∧ r.2.mem ((c.tc : Thread Cert.OutDxRIdeal.nD Cert.OutDxRIdeal.τ).loc Cert.OutDxRIdeal.main_v83) = v2 c
          ∧ r.2.mem ((c.tc : Thread Cert.OutDxRIdeal.nD Cert.OutDxRIdeal.τ).loc Cert.OutDxRIdeal.main_v61) = v3 c
          ∧ r.2.mem ((c.tc : Thread Cert.OutDxRIdeal.nD Cert.OutDxRIdeal.τ).loc Cert.OutDxRIdeal.main_arg0) = m' ((c.tc : Thread Cert.OutDxRIdeal.nD Cert.OutDxRIdeal.τ).loc Cert.OutDxRIdeal.main_arg0)
          ∧ r.2.mem ((c.tc : Thread Cert.OutDxRIdeal.nD Cert.OutDxRIdeal.τ).loc Cert.OutDxRIdeal.main_arg1) = m' ((c.tc : Thread Cert.OutDxRIdeal.nD Cert.OutDxRIdeal.τ).loc Cert.OutDxRIdeal.main_arg1)
          ∧ r.2.mem ((c.tc : Thread Cert.OutDxRIdeal.nD Cert.OutDxRIdeal.τ).loc Cert.OutDxRIdeal.main_arg2) = m' ((c.tc : Thread Cert.OutDxRIdeal.nD Cert.OutDxRIdeal.τ).loc Cert.OutDxRIdeal.main_arg2)
          ∧ r.2.mem ((c.tc : Thread Cert.OutDxRIdeal.nD Cert.OutDxRIdeal.τ).loc Cert.OutDxRIdeal.main_arg3) = m' ((c.tc : Thread Cert.OutDxRIdeal.nD Cert.OutDxRIdeal.τ).loc Cert.OutDxRIdeal.main_arg3)
          ∧ r.2.mem ((c.tc : Thread Cert.OutDxRIdeal.nD Cert.OutDxRIdeal.τ).loc Cert.OutDxRIdeal.main_arg4) = m' ((c.tc : Thread Cert.OutDxRIdeal.nD Cert.OutDxRIdeal.τ).loc Cert.OutDxRIdeal.main_arg4)
          ∧ r.2.mem ((c.tc : Thread Cert.OutDxRIdeal.nD Cert.OutDxRIdeal.τ).loc Cert.OutDxRIdeal.main_arg5) = m' ((c.tc : Thread Cert.OutDxRIdeal.nD Cert.OutDxRIdeal.τ).loc Cert.OutDxRIdeal.main_arg5))

def preserves_InDxK_InDxKIdeal : Prop :=
  True

def algebraic_InDxKIdeal_InDxRIdeal [hInDxKIdeal : Cert.InDxKIdeal.Facts] [hInDxRIdeal : Cert.InDxRIdeal.Facts] : Prop :=
  ∀ (m : (ℓ : Loc Cert.InDxKIdeal.nD Cert.InDxKIdeal.τ Cert.InDxKIdeal.sig) → Buf (Elt Ideal) ℓ) (g : Dev Cert.InDxKIdeal.nD → PrngReg)
    (m' : (ℓ : Loc Cert.InDxRIdeal.nD Cert.InDxRIdeal.τ Cert.InDxRIdeal.sig) → Buf (Elt Ideal) ℓ) (g' : Dev Cert.InDxRIdeal.nD → PrngReg), Pre_InDxKIdeal m →
    (∀ c : Dev Cert.InDxKIdeal.nD,
      m' ((c.tc : Thread Cert.InDxRIdeal.nD Cert.InDxRIdeal.τ).loc Cert.InDxRIdeal.main_arg0) = m ((c.tc : Thread Cert.InDxKIdeal.nD Cert.InDxKIdeal.τ).loc Cert.InDxKIdeal.main_arg0)
      ∧ m' ((c.tc : Thread Cert.InDxRIdeal.nD Cert.InDxRIdeal.τ).loc Cert.InDxRIdeal.main_arg1) = m ((c.tc : Thread Cert.InDxKIdeal.nD Cert.InDxKIdeal.τ).loc Cert.InDxKIdeal.main_arg1)
      ∧ m' ((c.tc : Thread Cert.InDxRIdeal.nD Cert.InDxRIdeal.τ).loc Cert.InDxRIdeal.main_arg2) = m ((c.tc : Thread Cert.InDxKIdeal.nD Cert.InDxKIdeal.τ).loc Cert.InDxKIdeal.main_arg2)
      ∧ m' ((c.tc : Thread Cert.InDxRIdeal.nD Cert.InDxRIdeal.τ).loc Cert.InDxRIdeal.main_arg3) = m ((c.tc : Thread Cert.InDxKIdeal.nD Cert.InDxKIdeal.τ).loc Cert.InDxKIdeal.main_arg3)
      ∧ m' ((c.tc : Thread Cert.InDxRIdeal.nD Cert.InDxRIdeal.τ).loc Cert.InDxRIdeal.main_arg4) = m ((c.tc : Thread Cert.InDxKIdeal.nD Cert.InDxKIdeal.τ).loc Cert.InDxKIdeal.main_arg4)) →
    ∃ (v0 : (c : Dev Cert.InDxKIdeal.nD) → Buf (Elt Ideal) ((c.tc : Thread Cert.InDxKIdeal.nD Cert.InDxKIdeal.τ).loc Cert.InDxKIdeal.main_v22_0)) (v1 : (c : Dev Cert.InDxKIdeal.nD) → Buf (Elt Ideal) ((c.tc : Thread Cert.InDxKIdeal.nD Cert.InDxKIdeal.τ).loc Cert.InDxKIdeal.main_v22_1)),
      θ_run (Cert.InDxKIdeal.defs (F := Ideal)) (onTc (τ := Cert.InDxKIdeal.τ) (Cert.InDxKIdeal.main (F := Ideal))) ⟨m, fun _ => 0, g⟩ (fun r => ∀ c : Dev Cert.InDxKIdeal.nD,
          r.2.mem ((c.tc : Thread Cert.InDxKIdeal.nD Cert.InDxKIdeal.τ).loc Cert.InDxKIdeal.main_v22_0) = v0 c
          ∧ r.2.mem ((c.tc : Thread Cert.InDxKIdeal.nD Cert.InDxKIdeal.τ).loc Cert.InDxKIdeal.main_v22_1) = v1 c
          ∧ r.2.mem ((c.tc : Thread Cert.InDxKIdeal.nD Cert.InDxKIdeal.τ).loc Cert.InDxKIdeal.main_arg0) = m ((c.tc : Thread Cert.InDxKIdeal.nD Cert.InDxKIdeal.τ).loc Cert.InDxKIdeal.main_arg0)
          ∧ r.2.mem ((c.tc : Thread Cert.InDxKIdeal.nD Cert.InDxKIdeal.τ).loc Cert.InDxKIdeal.main_arg1) = m ((c.tc : Thread Cert.InDxKIdeal.nD Cert.InDxKIdeal.τ).loc Cert.InDxKIdeal.main_arg1)
          ∧ r.2.mem ((c.tc : Thread Cert.InDxKIdeal.nD Cert.InDxKIdeal.τ).loc Cert.InDxKIdeal.main_arg2) = m ((c.tc : Thread Cert.InDxKIdeal.nD Cert.InDxKIdeal.τ).loc Cert.InDxKIdeal.main_arg2)
          ∧ r.2.mem ((c.tc : Thread Cert.InDxKIdeal.nD Cert.InDxKIdeal.τ).loc Cert.InDxKIdeal.main_arg3) = m ((c.tc : Thread Cert.InDxKIdeal.nD Cert.InDxKIdeal.τ).loc Cert.InDxKIdeal.main_arg3)
          ∧ r.2.mem ((c.tc : Thread Cert.InDxKIdeal.nD Cert.InDxKIdeal.τ).loc Cert.InDxKIdeal.main_arg4) = m ((c.tc : Thread Cert.InDxKIdeal.nD Cert.InDxKIdeal.τ).loc Cert.InDxKIdeal.main_arg4))
      ∧ θ_run (Cert.InDxRIdeal.defs (F := Ideal)) (onTc (τ := Cert.InDxRIdeal.τ) (Cert.InDxRIdeal.main (F := Ideal))) ⟨m', fun _ => 0, g'⟩ (fun r => ∀ c : Dev Cert.InDxRIdeal.nD,
          r.2.mem ((c.tc : Thread Cert.InDxRIdeal.nD Cert.InDxRIdeal.τ).loc Cert.InDxRIdeal.main_v43) = v0 c
          ∧ r.2.mem ((c.tc : Thread Cert.InDxRIdeal.nD Cert.InDxRIdeal.τ).loc Cert.InDxRIdeal.main_v42) = v1 c
          ∧ r.2.mem ((c.tc : Thread Cert.InDxRIdeal.nD Cert.InDxRIdeal.τ).loc Cert.InDxRIdeal.main_arg0) = m' ((c.tc : Thread Cert.InDxRIdeal.nD Cert.InDxRIdeal.τ).loc Cert.InDxRIdeal.main_arg0)
          ∧ r.2.mem ((c.tc : Thread Cert.InDxRIdeal.nD Cert.InDxRIdeal.τ).loc Cert.InDxRIdeal.main_arg1) = m' ((c.tc : Thread Cert.InDxRIdeal.nD Cert.InDxRIdeal.τ).loc Cert.InDxRIdeal.main_arg1)
          ∧ r.2.mem ((c.tc : Thread Cert.InDxRIdeal.nD Cert.InDxRIdeal.τ).loc Cert.InDxRIdeal.main_arg2) = m' ((c.tc : Thread Cert.InDxRIdeal.nD Cert.InDxRIdeal.τ).loc Cert.InDxRIdeal.main_arg2)
          ∧ r.2.mem ((c.tc : Thread Cert.InDxRIdeal.nD Cert.InDxRIdeal.τ).loc Cert.InDxRIdeal.main_arg3) = m' ((c.tc : Thread Cert.InDxRIdeal.nD Cert.InDxRIdeal.τ).loc Cert.InDxRIdeal.main_arg3)
          ∧ r.2.mem ((c.tc : Thread Cert.InDxRIdeal.nD Cert.InDxRIdeal.τ).loc Cert.InDxRIdeal.main_arg4) = m' ((c.tc : Thread Cert.InDxRIdeal.nD Cert.InDxRIdeal.τ).loc Cert.InDxRIdeal.main_arg4))

def preserves_FfOneDxK_FfOneDxKIdeal : Prop :=
  True

def algebraic_FfOneDxKIdeal_FfOneDxRIdeal [hFfOneDxKIdeal : Cert.FfOneDxKIdeal.Facts] [hFfOneDxRIdeal : Cert.FfOneDxRIdeal.Facts] : Prop :=
  ∀ (m : (ℓ : Loc Cert.FfOneDxKIdeal.nD Cert.FfOneDxKIdeal.τ Cert.FfOneDxKIdeal.sig) → Buf (Elt Ideal) ℓ) (g : Dev Cert.FfOneDxKIdeal.nD → PrngReg)
    (m' : (ℓ : Loc Cert.FfOneDxRIdeal.nD Cert.FfOneDxRIdeal.τ Cert.FfOneDxRIdeal.sig) → Buf (Elt Ideal) ℓ) (g' : Dev Cert.FfOneDxRIdeal.nD → PrngReg), Pre_FfOneDxKIdeal m →
    (∀ c : Dev Cert.FfOneDxKIdeal.nD,
      m' ((c.tc : Thread Cert.FfOneDxRIdeal.nD Cert.FfOneDxRIdeal.τ).loc Cert.FfOneDxRIdeal.main_arg0) = m ((c.tc : Thread Cert.FfOneDxKIdeal.nD Cert.FfOneDxKIdeal.τ).loc Cert.FfOneDxKIdeal.main_arg0)
      ∧ m' ((c.tc : Thread Cert.FfOneDxRIdeal.nD Cert.FfOneDxRIdeal.τ).loc Cert.FfOneDxRIdeal.main_arg1) = m ((c.tc : Thread Cert.FfOneDxKIdeal.nD Cert.FfOneDxKIdeal.τ).loc Cert.FfOneDxKIdeal.main_arg1)
      ∧ m' ((c.tc : Thread Cert.FfOneDxRIdeal.nD Cert.FfOneDxRIdeal.τ).loc Cert.FfOneDxRIdeal.main_arg2) = m ((c.tc : Thread Cert.FfOneDxKIdeal.nD Cert.FfOneDxKIdeal.τ).loc Cert.FfOneDxKIdeal.main_arg2)
      ∧ m' ((c.tc : Thread Cert.FfOneDxRIdeal.nD Cert.FfOneDxRIdeal.τ).loc Cert.FfOneDxRIdeal.main_arg3) = m ((c.tc : Thread Cert.FfOneDxKIdeal.nD Cert.FfOneDxKIdeal.τ).loc Cert.FfOneDxKIdeal.main_arg3)
      ∧ m' ((c.tc : Thread Cert.FfOneDxRIdeal.nD Cert.FfOneDxRIdeal.τ).loc Cert.FfOneDxRIdeal.main_arg4) = m ((c.tc : Thread Cert.FfOneDxKIdeal.nD Cert.FfOneDxKIdeal.τ).loc Cert.FfOneDxKIdeal.main_arg4)) →
    ∃ (v0 : (c : Dev Cert.FfOneDxKIdeal.nD) → Buf (Elt Ideal) ((c.tc : Thread Cert.FfOneDxKIdeal.nD Cert.FfOneDxKIdeal.τ).loc Cert.FfOneDxKIdeal.main_v8_0)) (v1 : (c : Dev Cert.FfOneDxKIdeal.nD) → Buf (Elt Ideal) ((c.tc : Thread Cert.FfOneDxKIdeal.nD Cert.FfOneDxKIdeal.τ).loc Cert.FfOneDxKIdeal.main_v8_1)) (v2 : (c : Dev Cert.FfOneDxKIdeal.nD) → Buf (Elt Ideal) ((c.tc : Thread Cert.FfOneDxKIdeal.nD Cert.FfOneDxKIdeal.τ).loc Cert.FfOneDxKIdeal.main_v8_2)),
      θ_run (Cert.FfOneDxKIdeal.defs (F := Ideal)) (onTc (τ := Cert.FfOneDxKIdeal.τ) (Cert.FfOneDxKIdeal.main (F := Ideal))) ⟨m, fun _ => 0, g⟩ (fun r => ∀ c : Dev Cert.FfOneDxKIdeal.nD,
          r.2.mem ((c.tc : Thread Cert.FfOneDxKIdeal.nD Cert.FfOneDxKIdeal.τ).loc Cert.FfOneDxKIdeal.main_v8_0) = v0 c
          ∧ r.2.mem ((c.tc : Thread Cert.FfOneDxKIdeal.nD Cert.FfOneDxKIdeal.τ).loc Cert.FfOneDxKIdeal.main_v8_1) = v1 c
          ∧ r.2.mem ((c.tc : Thread Cert.FfOneDxKIdeal.nD Cert.FfOneDxKIdeal.τ).loc Cert.FfOneDxKIdeal.main_v8_2) = v2 c
          ∧ r.2.mem ((c.tc : Thread Cert.FfOneDxKIdeal.nD Cert.FfOneDxKIdeal.τ).loc Cert.FfOneDxKIdeal.main_arg0) = m ((c.tc : Thread Cert.FfOneDxKIdeal.nD Cert.FfOneDxKIdeal.τ).loc Cert.FfOneDxKIdeal.main_arg0)
          ∧ r.2.mem ((c.tc : Thread Cert.FfOneDxKIdeal.nD Cert.FfOneDxKIdeal.τ).loc Cert.FfOneDxKIdeal.main_arg1) = m ((c.tc : Thread Cert.FfOneDxKIdeal.nD Cert.FfOneDxKIdeal.τ).loc Cert.FfOneDxKIdeal.main_arg1)
          ∧ r.2.mem ((c.tc : Thread Cert.FfOneDxKIdeal.nD Cert.FfOneDxKIdeal.τ).loc Cert.FfOneDxKIdeal.main_arg2) = m ((c.tc : Thread Cert.FfOneDxKIdeal.nD Cert.FfOneDxKIdeal.τ).loc Cert.FfOneDxKIdeal.main_arg2)
          ∧ r.2.mem ((c.tc : Thread Cert.FfOneDxKIdeal.nD Cert.FfOneDxKIdeal.τ).loc Cert.FfOneDxKIdeal.main_arg3) = m ((c.tc : Thread Cert.FfOneDxKIdeal.nD Cert.FfOneDxKIdeal.τ).loc Cert.FfOneDxKIdeal.main_arg3)
          ∧ r.2.mem ((c.tc : Thread Cert.FfOneDxKIdeal.nD Cert.FfOneDxKIdeal.τ).loc Cert.FfOneDxKIdeal.main_arg4) = m ((c.tc : Thread Cert.FfOneDxKIdeal.nD Cert.FfOneDxKIdeal.τ).loc Cert.FfOneDxKIdeal.main_arg4))
      ∧ θ_run (Cert.FfOneDxRIdeal.defs (F := Ideal)) (onTc (τ := Cert.FfOneDxRIdeal.τ) (Cert.FfOneDxRIdeal.main (F := Ideal))) ⟨m', fun _ => 0, g'⟩ (fun r => ∀ c : Dev Cert.FfOneDxRIdeal.nD,
          r.2.mem ((c.tc : Thread Cert.FfOneDxRIdeal.nD Cert.FfOneDxRIdeal.τ).loc Cert.FfOneDxRIdeal.main_v43) = v0 c
          ∧ r.2.mem ((c.tc : Thread Cert.FfOneDxRIdeal.nD Cert.FfOneDxRIdeal.τ).loc Cert.FfOneDxRIdeal.main_v45) = v1 c
          ∧ r.2.mem ((c.tc : Thread Cert.FfOneDxRIdeal.nD Cert.FfOneDxRIdeal.τ).loc Cert.FfOneDxRIdeal.main_v42) = v2 c
          ∧ r.2.mem ((c.tc : Thread Cert.FfOneDxRIdeal.nD Cert.FfOneDxRIdeal.τ).loc Cert.FfOneDxRIdeal.main_arg0) = m' ((c.tc : Thread Cert.FfOneDxRIdeal.nD Cert.FfOneDxRIdeal.τ).loc Cert.FfOneDxRIdeal.main_arg0)
          ∧ r.2.mem ((c.tc : Thread Cert.FfOneDxRIdeal.nD Cert.FfOneDxRIdeal.τ).loc Cert.FfOneDxRIdeal.main_arg1) = m' ((c.tc : Thread Cert.FfOneDxRIdeal.nD Cert.FfOneDxRIdeal.τ).loc Cert.FfOneDxRIdeal.main_arg1)
          ∧ r.2.mem ((c.tc : Thread Cert.FfOneDxRIdeal.nD Cert.FfOneDxRIdeal.τ).loc Cert.FfOneDxRIdeal.main_arg2) = m' ((c.tc : Thread Cert.FfOneDxRIdeal.nD Cert.FfOneDxRIdeal.τ).loc Cert.FfOneDxRIdeal.main_arg2)
          ∧ r.2.mem ((c.tc : Thread Cert.FfOneDxRIdeal.nD Cert.FfOneDxRIdeal.τ).loc Cert.FfOneDxRIdeal.main_arg3) = m' ((c.tc : Thread Cert.FfOneDxRIdeal.nD Cert.FfOneDxRIdeal.τ).loc Cert.FfOneDxRIdeal.main_arg3)
          ∧ r.2.mem ((c.tc : Thread Cert.FfOneDxRIdeal.nD Cert.FfOneDxRIdeal.τ).loc Cert.FfOneDxRIdeal.main_arg4) = m' ((c.tc : Thread Cert.FfOneDxRIdeal.nD Cert.FfOneDxRIdeal.τ).loc Cert.FfOneDxRIdeal.main_arg4))

def preserves_HeadK_HeadKIdeal : Prop :=
  True

def algebraic_HeadKIdeal_HeadRIdeal [hHeadKIdeal : Cert.HeadKIdeal.Facts] [hHeadRIdeal : Cert.HeadRIdeal.Facts] : Prop :=
  ∀ (m : (ℓ : Loc Cert.HeadKIdeal.nD Cert.HeadKIdeal.τ Cert.HeadKIdeal.sig) → Buf (Elt Ideal) ℓ) (g : Dev Cert.HeadKIdeal.nD → PrngReg)
    (m' : (ℓ : Loc Cert.HeadRIdeal.nD Cert.HeadRIdeal.τ Cert.HeadRIdeal.sig) → Buf (Elt Ideal) ℓ) (g' : Dev Cert.HeadRIdeal.nD → PrngReg), Pre_HeadKIdeal m →
    (∀ c : Dev Cert.HeadKIdeal.nD,
      m' ((c.tc : Thread Cert.HeadRIdeal.nD Cert.HeadRIdeal.τ).loc Cert.HeadRIdeal.main_arg0) = m ((c.tc : Thread Cert.HeadKIdeal.nD Cert.HeadKIdeal.τ).loc Cert.HeadKIdeal.main_arg0)
      ∧ m' ((c.tc : Thread Cert.HeadRIdeal.nD Cert.HeadRIdeal.τ).loc Cert.HeadRIdeal.main_arg1) = m ((c.tc : Thread Cert.HeadKIdeal.nD Cert.HeadKIdeal.τ).loc Cert.HeadKIdeal.main_arg1)
      ∧ m' ((c.tc : Thread Cert.HeadRIdeal.nD Cert.HeadRIdeal.τ).loc Cert.HeadRIdeal.main_arg2) = m ((c.tc : Thread Cert.HeadKIdeal.nD Cert.HeadKIdeal.τ).loc Cert.HeadKIdeal.main_arg2)
      ∧ m' ((c.tc : Thread Cert.HeadRIdeal.nD Cert.HeadRIdeal.τ).loc Cert.HeadRIdeal.main_arg3) = m ((c.tc : Thread Cert.HeadKIdeal.nD Cert.HeadKIdeal.τ).loc Cert.HeadKIdeal.main_arg3)
      ∧ m' ((c.tc : Thread Cert.HeadRIdeal.nD Cert.HeadRIdeal.τ).loc Cert.HeadRIdeal.main_arg4) = m ((c.tc : Thread Cert.HeadKIdeal.nD Cert.HeadKIdeal.τ).loc Cert.HeadKIdeal.main_arg4)) →
    ∃ (v0 : (c : Dev Cert.HeadKIdeal.nD) → Buf (Elt Ideal) ((c.tc : Thread Cert.HeadKIdeal.nD Cert.HeadKIdeal.τ).loc Cert.HeadKIdeal.main_v7_0)) (v1 : (c : Dev Cert.HeadKIdeal.nD) → Buf (Elt Ideal) ((c.tc : Thread Cert.HeadKIdeal.nD Cert.HeadKIdeal.τ).loc Cert.HeadKIdeal.main_v7_1)) (v2 : (c : Dev Cert.HeadKIdeal.nD) → Buf (Elt Ideal) ((c.tc : Thread Cert.HeadKIdeal.nD Cert.HeadKIdeal.τ).loc Cert.HeadKIdeal.main_v7_2)) (v3 : (c : Dev Cert.HeadKIdeal.nD) → Buf (Elt Ideal) ((c.tc : Thread Cert.HeadKIdeal.nD Cert.HeadKIdeal.τ).loc Cert.HeadKIdeal.main_v7_3)),
      θ_run (Cert.HeadKIdeal.defs (F := Ideal)) (onTc (τ := Cert.HeadKIdeal.τ) (Cert.HeadKIdeal.main (F := Ideal))) ⟨m, fun _ => 0, g⟩ (fun r => ∀ c : Dev Cert.HeadKIdeal.nD,
          r.2.mem ((c.tc : Thread Cert.HeadKIdeal.nD Cert.HeadKIdeal.τ).loc Cert.HeadKIdeal.main_v7_0) = v0 c
          ∧ r.2.mem ((c.tc : Thread Cert.HeadKIdeal.nD Cert.HeadKIdeal.τ).loc Cert.HeadKIdeal.main_v7_1) = v1 c
          ∧ r.2.mem ((c.tc : Thread Cert.HeadKIdeal.nD Cert.HeadKIdeal.τ).loc Cert.HeadKIdeal.main_v7_2) = v2 c
          ∧ r.2.mem ((c.tc : Thread Cert.HeadKIdeal.nD Cert.HeadKIdeal.τ).loc Cert.HeadKIdeal.main_v7_3) = v3 c
          ∧ r.2.mem ((c.tc : Thread Cert.HeadKIdeal.nD Cert.HeadKIdeal.τ).loc Cert.HeadKIdeal.main_arg0) = m ((c.tc : Thread Cert.HeadKIdeal.nD Cert.HeadKIdeal.τ).loc Cert.HeadKIdeal.main_arg0)
          ∧ r.2.mem ((c.tc : Thread Cert.HeadKIdeal.nD Cert.HeadKIdeal.τ).loc Cert.HeadKIdeal.main_arg1) = m ((c.tc : Thread Cert.HeadKIdeal.nD Cert.HeadKIdeal.τ).loc Cert.HeadKIdeal.main_arg1)
          ∧ r.2.mem ((c.tc : Thread Cert.HeadKIdeal.nD Cert.HeadKIdeal.τ).loc Cert.HeadKIdeal.main_arg2) = m ((c.tc : Thread Cert.HeadKIdeal.nD Cert.HeadKIdeal.τ).loc Cert.HeadKIdeal.main_arg2)
          ∧ r.2.mem ((c.tc : Thread Cert.HeadKIdeal.nD Cert.HeadKIdeal.τ).loc Cert.HeadKIdeal.main_arg3) = m ((c.tc : Thread Cert.HeadKIdeal.nD Cert.HeadKIdeal.τ).loc Cert.HeadKIdeal.main_arg3)
          ∧ r.2.mem ((c.tc : Thread Cert.HeadKIdeal.nD Cert.HeadKIdeal.τ).loc Cert.HeadKIdeal.main_arg4) = m ((c.tc : Thread Cert.HeadKIdeal.nD Cert.HeadKIdeal.τ).loc Cert.HeadKIdeal.main_arg4))
      ∧ θ_run (Cert.HeadRIdeal.defs (F := Ideal)) (onTc (τ := Cert.HeadRIdeal.τ) (Cert.HeadRIdeal.main (F := Ideal))) ⟨m', fun _ => 0, g'⟩ (fun r => ∀ c : Dev Cert.HeadRIdeal.nD,
          r.2.mem ((c.tc : Thread Cert.HeadRIdeal.nD Cert.HeadRIdeal.τ).loc Cert.HeadRIdeal.main_v56) = v0 c
          ∧ r.2.mem ((c.tc : Thread Cert.HeadRIdeal.nD Cert.HeadRIdeal.τ).loc Cert.HeadRIdeal.main_v58) = v1 c
          ∧ r.2.mem ((c.tc : Thread Cert.HeadRIdeal.nD Cert.HeadRIdeal.τ).loc Cert.HeadRIdeal.main_v59) = v2 c
          ∧ r.2.mem ((c.tc : Thread Cert.HeadRIdeal.nD Cert.HeadRIdeal.τ).loc Cert.HeadRIdeal.main_v60) = v3 c
          ∧ r.2.mem ((c.tc : Thread Cert.HeadRIdeal.nD Cert.HeadRIdeal.τ).loc Cert.HeadRIdeal.main_arg0) = m' ((c.tc : Thread Cert.HeadRIdeal.nD Cert.HeadRIdeal.τ).loc Cert.HeadRIdeal.main_arg0)
          ∧ r.2.mem ((c.tc : Thread Cert.HeadRIdeal.nD Cert.HeadRIdeal.τ).loc Cert.HeadRIdeal.main_arg1) = m' ((c.tc : Thread Cert.HeadRIdeal.nD Cert.HeadRIdeal.τ).loc Cert.HeadRIdeal.main_arg1)
          ∧ r.2.mem ((c.tc : Thread Cert.HeadRIdeal.nD Cert.HeadRIdeal.τ).loc Cert.HeadRIdeal.main_arg2) = m' ((c.tc : Thread Cert.HeadRIdeal.nD Cert.HeadRIdeal.τ).loc Cert.HeadRIdeal.main_arg2)
          ∧ r.2.mem ((c.tc : Thread Cert.HeadRIdeal.nD Cert.HeadRIdeal.τ).loc Cert.HeadRIdeal.main_arg3) = m' ((c.tc : Thread Cert.HeadRIdeal.nD Cert.HeadRIdeal.τ).loc Cert.HeadRIdeal.main_arg3)
          ∧ r.2.mem ((c.tc : Thread Cert.HeadRIdeal.nD Cert.HeadRIdeal.τ).loc Cert.HeadRIdeal.main_arg4) = m' ((c.tc : Thread Cert.HeadRIdeal.nD Cert.HeadRIdeal.τ).loc Cert.HeadRIdeal.main_arg4))

def preserves_GateK_GateKIdeal : Prop :=
  True

def algebraic_GateKIdeal_GateRIdeal_pre_gate_finite [hGateKIdeal : Cert.GateKIdeal.Facts] [hGateRIdeal : Cert.GateRIdeal.Facts] [hPre_gate_finite : Cert.Pre_gate_finite.Facts] : Prop :=
  ∀ (m : (ℓ : Loc Cert.GateKIdeal.nD Cert.GateKIdeal.τ Cert.GateKIdeal.sig) → Buf (Elt Ideal) ℓ) (g : Dev Cert.GateKIdeal.nD → PrngReg)
    (m' : (ℓ : Loc Cert.GateRIdeal.nD Cert.GateRIdeal.τ Cert.GateRIdeal.sig) → Buf (Elt Ideal) ℓ) (g' : Dev Cert.GateRIdeal.nD → PrngReg), Pre_GateKIdeal_gate_finite m →
    (∀ c : Dev Cert.GateKIdeal.nD,
      m' ((c.tc : Thread Cert.GateRIdeal.nD Cert.GateRIdeal.τ).loc Cert.GateRIdeal.main_arg0) = m ((c.tc : Thread Cert.GateKIdeal.nD Cert.GateKIdeal.τ).loc Cert.GateKIdeal.main_arg0)
      ∧ m' ((c.tc : Thread Cert.GateRIdeal.nD Cert.GateRIdeal.τ).loc Cert.GateRIdeal.main_arg1) = m ((c.tc : Thread Cert.GateKIdeal.nD Cert.GateKIdeal.τ).loc Cert.GateKIdeal.main_arg1)
      ∧ m' ((c.tc : Thread Cert.GateRIdeal.nD Cert.GateRIdeal.τ).loc Cert.GateRIdeal.main_arg2) = m ((c.tc : Thread Cert.GateKIdeal.nD Cert.GateKIdeal.τ).loc Cert.GateKIdeal.main_arg2)) →
    ∃ (v0 : (c : Dev Cert.GateKIdeal.nD) → Buf (Elt Ideal) ((c.tc : Thread Cert.GateKIdeal.nD Cert.GateKIdeal.τ).loc Cert.GateKIdeal.main_v4_0)) (v1 : (c : Dev Cert.GateKIdeal.nD) → Buf (Elt Ideal) ((c.tc : Thread Cert.GateKIdeal.nD Cert.GateKIdeal.τ).loc Cert.GateKIdeal.main_v4_1)),
      θ_run (Cert.GateKIdeal.defs (F := Ideal)) (onTc (τ := Cert.GateKIdeal.τ) (Cert.GateKIdeal.main (F := Ideal))) ⟨m, fun _ => 0, g⟩ (fun r => ∀ c : Dev Cert.GateKIdeal.nD,
          r.2.mem ((c.tc : Thread Cert.GateKIdeal.nD Cert.GateKIdeal.τ).loc Cert.GateKIdeal.main_v4_0) = v0 c
          ∧ r.2.mem ((c.tc : Thread Cert.GateKIdeal.nD Cert.GateKIdeal.τ).loc Cert.GateKIdeal.main_v4_1) = v1 c
          ∧ r.2.mem ((c.tc : Thread Cert.GateKIdeal.nD Cert.GateKIdeal.τ).loc Cert.GateKIdeal.main_arg0) = m ((c.tc : Thread Cert.GateKIdeal.nD Cert.GateKIdeal.τ).loc Cert.GateKIdeal.main_arg0)
          ∧ r.2.mem ((c.tc : Thread Cert.GateKIdeal.nD Cert.GateKIdeal.τ).loc Cert.GateKIdeal.main_arg1) = m ((c.tc : Thread Cert.GateKIdeal.nD Cert.GateKIdeal.τ).loc Cert.GateKIdeal.main_arg1)
          ∧ r.2.mem ((c.tc : Thread Cert.GateKIdeal.nD Cert.GateKIdeal.τ).loc Cert.GateKIdeal.main_arg2) = m ((c.tc : Thread Cert.GateKIdeal.nD Cert.GateKIdeal.τ).loc Cert.GateKIdeal.main_arg2))
      ∧ θ_run (Cert.GateRIdeal.defs (F := Ideal)) (onTc (τ := Cert.GateRIdeal.τ) (Cert.GateRIdeal.main (F := Ideal))) ⟨m', fun _ => 0, g'⟩ (fun r => ∀ c : Dev Cert.GateRIdeal.nD,
          r.2.mem ((c.tc : Thread Cert.GateRIdeal.nD Cert.GateRIdeal.τ).loc Cert.GateRIdeal.main_v16) = v0 c
          ∧ r.2.mem ((c.tc : Thread Cert.GateRIdeal.nD Cert.GateRIdeal.τ).loc Cert.GateRIdeal.main_v17) = v1 c
          ∧ r.2.mem ((c.tc : Thread Cert.GateRIdeal.nD Cert.GateRIdeal.τ).loc Cert.GateRIdeal.main_arg0) = m' ((c.tc : Thread Cert.GateRIdeal.nD Cert.GateRIdeal.τ).loc Cert.GateRIdeal.main_arg0)
          ∧ r.2.mem ((c.tc : Thread Cert.GateRIdeal.nD Cert.GateRIdeal.τ).loc Cert.GateRIdeal.main_arg1) = m' ((c.tc : Thread Cert.GateRIdeal.nD Cert.GateRIdeal.τ).loc Cert.GateRIdeal.main_arg1)
          ∧ r.2.mem ((c.tc : Thread Cert.GateRIdeal.nD Cert.GateRIdeal.τ).loc Cert.GateRIdeal.main_arg2) = m' ((c.tc : Thread Cert.GateRIdeal.nD Cert.GateRIdeal.τ).loc Cert.GateRIdeal.main_arg2))

def preserves_AttnK_AttnKIdeal : Prop :=
  IdealRules.named_const.Statement Cert.AttnKIdeal.κ "c2" .f32 0x3E0293EE#32 (((Real.log 2)⁻¹ * (11863283 / 134217728) : ℝ) : EReal)
  ∧ IdealRules.named_const.Statement Cert.AttnKIdeal.κ "mask" .f32 0xF149F2CA#32 ⊥

def algebraic_AttnKIdeal_AttnRIdeal_pre_attn_finite [hAttnKIdeal : Cert.AttnKIdeal.Facts] [hAttnRIdeal : Cert.AttnRIdeal.Facts] [hPre_attn_finite : Cert.Pre_attn_finite.Facts] : Prop :=
  ∀ (m : (ℓ : Loc Cert.AttnKIdeal.nD Cert.AttnKIdeal.τ Cert.AttnKIdeal.sig) → Buf (Elt Ideal) ℓ) (g : Dev Cert.AttnKIdeal.nD → PrngReg)
    (m' : (ℓ : Loc Cert.AttnRIdeal.nD Cert.AttnRIdeal.τ Cert.AttnRIdeal.sig) → Buf (Elt Ideal) ℓ) (g' : Dev Cert.AttnRIdeal.nD → PrngReg), Pre_AttnKIdeal_attn_finite m →
    (∀ c : Dev Cert.AttnKIdeal.nD,
      m' ((c.tc : Thread Cert.AttnRIdeal.nD Cert.AttnRIdeal.τ).loc Cert.AttnRIdeal.main_arg0) = m ((c.tc : Thread Cert.AttnKIdeal.nD Cert.AttnKIdeal.τ).loc Cert.AttnKIdeal.main_arg0)
      ∧ m' ((c.tc : Thread Cert.AttnRIdeal.nD Cert.AttnRIdeal.τ).loc Cert.AttnRIdeal.main_arg1) = m ((c.tc : Thread Cert.AttnKIdeal.nD Cert.AttnKIdeal.τ).loc Cert.AttnKIdeal.main_arg1)
      ∧ m' ((c.tc : Thread Cert.AttnRIdeal.nD Cert.AttnRIdeal.τ).loc Cert.AttnRIdeal.main_arg2) = m ((c.tc : Thread Cert.AttnKIdeal.nD Cert.AttnKIdeal.τ).loc Cert.AttnKIdeal.main_arg2)) →
    ∃ (v0 : (c : Dev Cert.AttnKIdeal.nD) → Buf (Elt Ideal) ((c.tc : Thread Cert.AttnKIdeal.nD Cert.AttnKIdeal.τ).loc Cert.AttnKIdeal.main_v57_0)) (v1 : (c : Dev Cert.AttnKIdeal.nD) → Buf (Elt Ideal) ((c.tc : Thread Cert.AttnKIdeal.nD Cert.AttnKIdeal.τ).loc Cert.AttnKIdeal.main_v59_0)) (v2 : (c : Dev Cert.AttnKIdeal.nD) → Buf (Elt Ideal) ((c.tc : Thread Cert.AttnKIdeal.nD Cert.AttnKIdeal.τ).loc Cert.AttnKIdeal.main_v59_1)) (v3 : (c : Dev Cert.AttnKIdeal.nD) → Buf (Elt Ideal) ((c.tc : Thread Cert.AttnKIdeal.nD Cert.AttnKIdeal.τ).loc Cert.AttnKIdeal.main_v59_2)),
      θ_run (Cert.AttnKIdeal.defs (F := Ideal)) (onTc (τ := Cert.AttnKIdeal.τ) (Cert.AttnKIdeal.main (F := Ideal))) ⟨m, fun _ => 0, g⟩ (fun r => ∀ c : Dev Cert.AttnKIdeal.nD,
          r.2.mem ((c.tc : Thread Cert.AttnKIdeal.nD Cert.AttnKIdeal.τ).loc Cert.AttnKIdeal.main_v57_0) = v0 c
          ∧ r.2.mem ((c.tc : Thread Cert.AttnKIdeal.nD Cert.AttnKIdeal.τ).loc Cert.AttnKIdeal.main_v59_0) = v1 c
          ∧ r.2.mem ((c.tc : Thread Cert.AttnKIdeal.nD Cert.AttnKIdeal.τ).loc Cert.AttnKIdeal.main_v59_1) = v2 c
          ∧ r.2.mem ((c.tc : Thread Cert.AttnKIdeal.nD Cert.AttnKIdeal.τ).loc Cert.AttnKIdeal.main_v59_2) = v3 c
          ∧ r.2.mem ((c.tc : Thread Cert.AttnKIdeal.nD Cert.AttnKIdeal.τ).loc Cert.AttnKIdeal.main_arg0) = m ((c.tc : Thread Cert.AttnKIdeal.nD Cert.AttnKIdeal.τ).loc Cert.AttnKIdeal.main_arg0)
          ∧ r.2.mem ((c.tc : Thread Cert.AttnKIdeal.nD Cert.AttnKIdeal.τ).loc Cert.AttnKIdeal.main_arg1) = m ((c.tc : Thread Cert.AttnKIdeal.nD Cert.AttnKIdeal.τ).loc Cert.AttnKIdeal.main_arg1)
          ∧ r.2.mem ((c.tc : Thread Cert.AttnKIdeal.nD Cert.AttnKIdeal.τ).loc Cert.AttnKIdeal.main_arg2) = m ((c.tc : Thread Cert.AttnKIdeal.nD Cert.AttnKIdeal.τ).loc Cert.AttnKIdeal.main_arg2))
      ∧ θ_run (Cert.AttnRIdeal.defs (F := Ideal)) (onTc (τ := Cert.AttnRIdeal.τ) (Cert.AttnRIdeal.main (F := Ideal))) ⟨m', fun _ => 0, g'⟩ (fun r => ∀ c : Dev Cert.AttnRIdeal.nD,
          r.2.mem ((c.tc : Thread Cert.AttnRIdeal.nD Cert.AttnRIdeal.τ).loc Cert.AttnRIdeal.main_v91) = v0 c
          ∧ r.2.mem ((c.tc : Thread Cert.AttnRIdeal.nD Cert.AttnRIdeal.τ).loc Cert.AttnRIdeal.main_v93) = v1 c
          ∧ r.2.mem ((c.tc : Thread Cert.AttnRIdeal.nD Cert.AttnRIdeal.τ).loc Cert.AttnRIdeal.main_v95) = v2 c
          ∧ r.2.mem ((c.tc : Thread Cert.AttnRIdeal.nD Cert.AttnRIdeal.τ).loc Cert.AttnRIdeal.main_v96) = v3 c
          ∧ r.2.mem ((c.tc : Thread Cert.AttnRIdeal.nD Cert.AttnRIdeal.τ).loc Cert.AttnRIdeal.main_arg0) = m' ((c.tc : Thread Cert.AttnRIdeal.nD Cert.AttnRIdeal.τ).loc Cert.AttnRIdeal.main_arg0)
          ∧ r.2.mem ((c.tc : Thread Cert.AttnRIdeal.nD Cert.AttnRIdeal.τ).loc Cert.AttnRIdeal.main_arg1) = m' ((c.tc : Thread Cert.AttnRIdeal.nD Cert.AttnRIdeal.τ).loc Cert.AttnRIdeal.main_arg1)
          ∧ r.2.mem ((c.tc : Thread Cert.AttnRIdeal.nD Cert.AttnRIdeal.τ).loc Cert.AttnRIdeal.main_arg2) = m' ((c.tc : Thread Cert.AttnRIdeal.nD Cert.AttnRIdeal.τ).loc Cert.AttnRIdeal.main_arg2))

def preserves_GmlpK_GmlpKIdeal : Prop :=
  IdealRules.named_const.Statement Cert.GmlpKIdeal.κ "gelu1" .f32 0x3D372713#32 ((8943 / 200000 : ℝ) : EReal)
  ∧ IdealRules.named_const.Statement Cert.GmlpKIdeal.κ "gelu3" .f32 0x3E095D4F#32 ((3 * (8943 / 200000) : ℝ) : EReal)

def algebraic_GmlpKIdeal_GmlpRIdeal_pre_gmlp_finite [hGmlpKIdeal : Cert.GmlpKIdeal.Facts] [hGmlpRIdeal : Cert.GmlpRIdeal.Facts] [hPre_gmlp_finite : Cert.Pre_gmlp_finite.Facts] : Prop :=
  ∀ (m : (ℓ : Loc Cert.GmlpKIdeal.nD Cert.GmlpKIdeal.τ Cert.GmlpKIdeal.sig) → Buf (Elt Ideal) ℓ) (g : Dev Cert.GmlpKIdeal.nD → PrngReg)
    (m' : (ℓ : Loc Cert.GmlpRIdeal.nD Cert.GmlpRIdeal.τ Cert.GmlpRIdeal.sig) → Buf (Elt Ideal) ℓ) (g' : Dev Cert.GmlpRIdeal.nD → PrngReg), Pre_GmlpKIdeal_gmlp_finite m →
    (∀ c : Dev Cert.GmlpKIdeal.nD,
      m' ((c.tc : Thread Cert.GmlpRIdeal.nD Cert.GmlpRIdeal.τ).loc Cert.GmlpRIdeal.main_arg0) = m ((c.tc : Thread Cert.GmlpKIdeal.nD Cert.GmlpKIdeal.τ).loc Cert.GmlpKIdeal.main_arg0)
      ∧ m' ((c.tc : Thread Cert.GmlpRIdeal.nD Cert.GmlpRIdeal.τ).loc Cert.GmlpRIdeal.main_arg1) = m ((c.tc : Thread Cert.GmlpKIdeal.nD Cert.GmlpKIdeal.τ).loc Cert.GmlpKIdeal.main_arg1)
      ∧ m' ((c.tc : Thread Cert.GmlpRIdeal.nD Cert.GmlpRIdeal.τ).loc Cert.GmlpRIdeal.main_arg2) = m ((c.tc : Thread Cert.GmlpKIdeal.nD Cert.GmlpKIdeal.τ).loc Cert.GmlpKIdeal.main_arg2)
      ∧ m' ((c.tc : Thread Cert.GmlpRIdeal.nD Cert.GmlpRIdeal.τ).loc Cert.GmlpRIdeal.main_arg3) = m ((c.tc : Thread Cert.GmlpKIdeal.nD Cert.GmlpKIdeal.τ).loc Cert.GmlpKIdeal.main_arg3)
      ∧ m' ((c.tc : Thread Cert.GmlpRIdeal.nD Cert.GmlpRIdeal.τ).loc Cert.GmlpRIdeal.main_arg4) = m ((c.tc : Thread Cert.GmlpKIdeal.nD Cert.GmlpKIdeal.τ).loc Cert.GmlpKIdeal.main_arg4)
      ∧ m' ((c.tc : Thread Cert.GmlpRIdeal.nD Cert.GmlpRIdeal.τ).loc Cert.GmlpRIdeal.main_arg5) = m ((c.tc : Thread Cert.GmlpKIdeal.nD Cert.GmlpKIdeal.τ).loc Cert.GmlpKIdeal.main_arg5)) →
    ∃ (v0 : (c : Dev Cert.GmlpKIdeal.nD) → Buf (Elt Ideal) ((c.tc : Thread Cert.GmlpKIdeal.nD Cert.GmlpKIdeal.τ).loc Cert.GmlpKIdeal.main_v12_0)) (v1 : (c : Dev Cert.GmlpKIdeal.nD) → Buf (Elt Ideal) ((c.tc : Thread Cert.GmlpKIdeal.nD Cert.GmlpKIdeal.τ).loc Cert.GmlpKIdeal.main_v12_1)) (v2 : (c : Dev Cert.GmlpKIdeal.nD) → Buf (Elt Ideal) ((c.tc : Thread Cert.GmlpKIdeal.nD Cert.GmlpKIdeal.τ).loc Cert.GmlpKIdeal.main_v12_2)) (v3 : (c : Dev Cert.GmlpKIdeal.nD) → Buf (Elt Ideal) ((c.tc : Thread Cert.GmlpKIdeal.nD Cert.GmlpKIdeal.τ).loc Cert.GmlpKIdeal.main_v12_3)) (v4 : (c : Dev Cert.GmlpKIdeal.nD) → Buf (Elt Ideal) ((c.tc : Thread Cert.GmlpKIdeal.nD Cert.GmlpKIdeal.τ).loc Cert.GmlpKIdeal.main_v12_4)) (v5 : (c : Dev Cert.GmlpKIdeal.nD) → Buf (Elt Ideal) ((c.tc : Thread Cert.GmlpKIdeal.nD Cert.GmlpKIdeal.τ).loc Cert.GmlpKIdeal.main_v12_5)),
      θ_run (Cert.GmlpKIdeal.defs (F := Ideal)) (onTc (τ := Cert.GmlpKIdeal.τ) (Cert.GmlpKIdeal.main (F := Ideal))) ⟨m, fun _ => 0, g⟩ (fun r => ∀ c : Dev Cert.GmlpKIdeal.nD,
          r.2.mem ((c.tc : Thread Cert.GmlpKIdeal.nD Cert.GmlpKIdeal.τ).loc Cert.GmlpKIdeal.main_v12_0) = v0 c
          ∧ r.2.mem ((c.tc : Thread Cert.GmlpKIdeal.nD Cert.GmlpKIdeal.τ).loc Cert.GmlpKIdeal.main_v12_1) = v1 c
          ∧ r.2.mem ((c.tc : Thread Cert.GmlpKIdeal.nD Cert.GmlpKIdeal.τ).loc Cert.GmlpKIdeal.main_v12_2) = v2 c
          ∧ r.2.mem ((c.tc : Thread Cert.GmlpKIdeal.nD Cert.GmlpKIdeal.τ).loc Cert.GmlpKIdeal.main_v12_3) = v3 c
          ∧ r.2.mem ((c.tc : Thread Cert.GmlpKIdeal.nD Cert.GmlpKIdeal.τ).loc Cert.GmlpKIdeal.main_v12_4) = v4 c
          ∧ r.2.mem ((c.tc : Thread Cert.GmlpKIdeal.nD Cert.GmlpKIdeal.τ).loc Cert.GmlpKIdeal.main_v12_5) = v5 c
          ∧ r.2.mem ((c.tc : Thread Cert.GmlpKIdeal.nD Cert.GmlpKIdeal.τ).loc Cert.GmlpKIdeal.main_arg0) = m ((c.tc : Thread Cert.GmlpKIdeal.nD Cert.GmlpKIdeal.τ).loc Cert.GmlpKIdeal.main_arg0)
          ∧ r.2.mem ((c.tc : Thread Cert.GmlpKIdeal.nD Cert.GmlpKIdeal.τ).loc Cert.GmlpKIdeal.main_arg1) = m ((c.tc : Thread Cert.GmlpKIdeal.nD Cert.GmlpKIdeal.τ).loc Cert.GmlpKIdeal.main_arg1)
          ∧ r.2.mem ((c.tc : Thread Cert.GmlpKIdeal.nD Cert.GmlpKIdeal.τ).loc Cert.GmlpKIdeal.main_arg2) = m ((c.tc : Thread Cert.GmlpKIdeal.nD Cert.GmlpKIdeal.τ).loc Cert.GmlpKIdeal.main_arg2)
          ∧ r.2.mem ((c.tc : Thread Cert.GmlpKIdeal.nD Cert.GmlpKIdeal.τ).loc Cert.GmlpKIdeal.main_arg3) = m ((c.tc : Thread Cert.GmlpKIdeal.nD Cert.GmlpKIdeal.τ).loc Cert.GmlpKIdeal.main_arg3)
          ∧ r.2.mem ((c.tc : Thread Cert.GmlpKIdeal.nD Cert.GmlpKIdeal.τ).loc Cert.GmlpKIdeal.main_arg4) = m ((c.tc : Thread Cert.GmlpKIdeal.nD Cert.GmlpKIdeal.τ).loc Cert.GmlpKIdeal.main_arg4)
          ∧ r.2.mem ((c.tc : Thread Cert.GmlpKIdeal.nD Cert.GmlpKIdeal.τ).loc Cert.GmlpKIdeal.main_arg5) = m ((c.tc : Thread Cert.GmlpKIdeal.nD Cert.GmlpKIdeal.τ).loc Cert.GmlpKIdeal.main_arg5))
      ∧ θ_run (Cert.GmlpRIdeal.defs (F := Ideal)) (onTc (τ := Cert.GmlpRIdeal.τ) (Cert.GmlpRIdeal.main (F := Ideal))) ⟨m', fun _ => 0, g'⟩ (fun r => ∀ c : Dev Cert.GmlpRIdeal.nD,
          r.2.mem ((c.tc : Thread Cert.GmlpRIdeal.nD Cert.GmlpRIdeal.τ).loc Cert.GmlpRIdeal.main_v162) = v0 c
          ∧ r.2.mem ((c.tc : Thread Cert.GmlpRIdeal.nD Cert.GmlpRIdeal.τ).loc Cert.GmlpRIdeal.main_v164) = v1 c
          ∧ r.2.mem ((c.tc : Thread Cert.GmlpRIdeal.nD Cert.GmlpRIdeal.τ).loc Cert.GmlpRIdeal.main_v165) = v2 c
          ∧ r.2.mem ((c.tc : Thread Cert.GmlpRIdeal.nD Cert.GmlpRIdeal.τ).loc Cert.GmlpRIdeal.main_v166) = v3 c
          ∧ r.2.mem ((c.tc : Thread Cert.GmlpRIdeal.nD Cert.GmlpRIdeal.τ).loc Cert.GmlpRIdeal.main_v136) = v4 c
          ∧ r.2.mem ((c.tc : Thread Cert.GmlpRIdeal.nD Cert.GmlpRIdeal.τ).loc Cert.GmlpRIdeal.main_v135) = v5 c
          ∧ r.2.mem ((c.tc : Thread Cert.GmlpRIdeal.nD Cert.GmlpRIdeal.τ).loc Cert.GmlpRIdeal.main_arg0) = m' ((c.tc : Thread Cert.GmlpRIdeal.nD Cert.GmlpRIdeal.τ).loc Cert.GmlpRIdeal.main_arg0)
          ∧ r.2.mem ((c.tc : Thread Cert.GmlpRIdeal.nD Cert.GmlpRIdeal.τ).loc Cert.GmlpRIdeal.main_arg1) = m' ((c.tc : Thread Cert.GmlpRIdeal.nD Cert.GmlpRIdeal.τ).loc Cert.GmlpRIdeal.main_arg1)
          ∧ r.2.mem ((c.tc : Thread Cert.GmlpRIdeal.nD Cert.GmlpRIdeal.τ).loc Cert.GmlpRIdeal.main_arg2) = m' ((c.tc : Thread Cert.GmlpRIdeal.nD Cert.GmlpRIdeal.τ).loc Cert.GmlpRIdeal.main_arg2)
          ∧ r.2.mem ((c.tc : Thread Cert.GmlpRIdeal.nD Cert.GmlpRIdeal.τ).loc Cert.GmlpRIdeal.main_arg3) = m' ((c.tc : Thread Cert.GmlpRIdeal.nD Cert.GmlpRIdeal.τ).loc Cert.GmlpRIdeal.main_arg3)
          ∧ r.2.mem ((c.tc : Thread Cert.GmlpRIdeal.nD Cert.GmlpRIdeal.τ).loc Cert.GmlpRIdeal.main_arg4) = m' ((c.tc : Thread Cert.GmlpRIdeal.nD Cert.GmlpRIdeal.τ).loc Cert.GmlpRIdeal.main_arg4)
          ∧ r.2.mem ((c.tc : Thread Cert.GmlpRIdeal.nD Cert.GmlpRIdeal.τ).loc Cert.GmlpRIdeal.main_arg5) = m' ((c.tc : Thread Cert.GmlpRIdeal.nD Cert.GmlpRIdeal.τ).loc Cert.GmlpRIdeal.main_arg5))

def preserves_OutProjK_OutProjKIdeal : Prop :=
  True

def algebraic_OutProjKIdeal_OutProjRIdeal [hOutProjKIdeal : Cert.OutProjKIdeal.Facts] [hOutProjRIdeal : Cert.OutProjRIdeal.Facts] : Prop :=
  ∀ (m : (ℓ : Loc Cert.OutProjKIdeal.nD Cert.OutProjKIdeal.τ Cert.OutProjKIdeal.sig) → Buf (Elt Ideal) ℓ) (g : Dev Cert.OutProjKIdeal.nD → PrngReg)
    (m' : (ℓ : Loc Cert.OutProjRIdeal.nD Cert.OutProjRIdeal.τ Cert.OutProjRIdeal.sig) → Buf (Elt Ideal) ℓ) (g' : Dev Cert.OutProjRIdeal.nD → PrngReg), Pre_OutProjKIdeal m →
    (∀ c : Dev Cert.OutProjKIdeal.nD,
      m' ((c.tc : Thread Cert.OutProjRIdeal.nD Cert.OutProjRIdeal.τ).loc Cert.OutProjRIdeal.main_arg0) = m ((c.tc : Thread Cert.OutProjKIdeal.nD Cert.OutProjKIdeal.τ).loc Cert.OutProjKIdeal.main_arg0)
      ∧ m' ((c.tc : Thread Cert.OutProjRIdeal.nD Cert.OutProjRIdeal.τ).loc Cert.OutProjRIdeal.main_arg1) = m ((c.tc : Thread Cert.OutProjKIdeal.nD Cert.OutProjKIdeal.τ).loc Cert.OutProjKIdeal.main_arg1)
      ∧ m' ((c.tc : Thread Cert.OutProjRIdeal.nD Cert.OutProjRIdeal.τ).loc Cert.OutProjRIdeal.main_arg2) = m ((c.tc : Thread Cert.OutProjKIdeal.nD Cert.OutProjKIdeal.τ).loc Cert.OutProjKIdeal.main_arg2)
      ∧ m' ((c.tc : Thread Cert.OutProjRIdeal.nD Cert.OutProjRIdeal.τ).loc Cert.OutProjRIdeal.main_arg3) = m ((c.tc : Thread Cert.OutProjKIdeal.nD Cert.OutProjKIdeal.τ).loc Cert.OutProjKIdeal.main_arg3)) →
    ∃ (v0 : (c : Dev Cert.OutProjKIdeal.nD) → Buf (Elt Ideal) ((c.tc : Thread Cert.OutProjKIdeal.nD Cert.OutProjKIdeal.τ).loc Cert.OutProjKIdeal.main_v5_0)) (v1 : (c : Dev Cert.OutProjKIdeal.nD) → Buf (Elt Ideal) ((c.tc : Thread Cert.OutProjKIdeal.nD Cert.OutProjKIdeal.τ).loc Cert.OutProjKIdeal.main_v5_1)),
      θ_run (Cert.OutProjKIdeal.defs (F := Ideal)) (onTc (τ := Cert.OutProjKIdeal.τ) (Cert.OutProjKIdeal.main (F := Ideal))) ⟨m, fun _ => 0, g⟩ (fun r => ∀ c : Dev Cert.OutProjKIdeal.nD,
          r.2.mem ((c.tc : Thread Cert.OutProjKIdeal.nD Cert.OutProjKIdeal.τ).loc Cert.OutProjKIdeal.main_v5_0) = v0 c
          ∧ r.2.mem ((c.tc : Thread Cert.OutProjKIdeal.nD Cert.OutProjKIdeal.τ).loc Cert.OutProjKIdeal.main_v5_1) = v1 c
          ∧ r.2.mem ((c.tc : Thread Cert.OutProjKIdeal.nD Cert.OutProjKIdeal.τ).loc Cert.OutProjKIdeal.main_arg0) = m ((c.tc : Thread Cert.OutProjKIdeal.nD Cert.OutProjKIdeal.τ).loc Cert.OutProjKIdeal.main_arg0)
          ∧ r.2.mem ((c.tc : Thread Cert.OutProjKIdeal.nD Cert.OutProjKIdeal.τ).loc Cert.OutProjKIdeal.main_arg1) = m ((c.tc : Thread Cert.OutProjKIdeal.nD Cert.OutProjKIdeal.τ).loc Cert.OutProjKIdeal.main_arg1)
          ∧ r.2.mem ((c.tc : Thread Cert.OutProjKIdeal.nD Cert.OutProjKIdeal.τ).loc Cert.OutProjKIdeal.main_arg2) = m ((c.tc : Thread Cert.OutProjKIdeal.nD Cert.OutProjKIdeal.τ).loc Cert.OutProjKIdeal.main_arg2)
          ∧ r.2.mem ((c.tc : Thread Cert.OutProjKIdeal.nD Cert.OutProjKIdeal.τ).loc Cert.OutProjKIdeal.main_arg3) = m ((c.tc : Thread Cert.OutProjKIdeal.nD Cert.OutProjKIdeal.τ).loc Cert.OutProjKIdeal.main_arg3))
      ∧ θ_run (Cert.OutProjRIdeal.defs (F := Ideal)) (onTc (τ := Cert.OutProjRIdeal.τ) (Cert.OutProjRIdeal.main (F := Ideal))) ⟨m', fun _ => 0, g'⟩ (fun r => ∀ c : Dev Cert.OutProjRIdeal.nD,
          r.2.mem ((c.tc : Thread Cert.OutProjRIdeal.nD Cert.OutProjRIdeal.τ).loc Cert.OutProjRIdeal.main_v3) = v0 c
          ∧ r.2.mem ((c.tc : Thread Cert.OutProjRIdeal.nD Cert.OutProjRIdeal.τ).loc Cert.OutProjRIdeal.main_v19) = v1 c
          ∧ r.2.mem ((c.tc : Thread Cert.OutProjRIdeal.nD Cert.OutProjRIdeal.τ).loc Cert.OutProjRIdeal.main_arg0) = m' ((c.tc : Thread Cert.OutProjRIdeal.nD Cert.OutProjRIdeal.τ).loc Cert.OutProjRIdeal.main_arg0)
          ∧ r.2.mem ((c.tc : Thread Cert.OutProjRIdeal.nD Cert.OutProjRIdeal.τ).loc Cert.OutProjRIdeal.main_arg1) = m' ((c.tc : Thread Cert.OutProjRIdeal.nD Cert.OutProjRIdeal.τ).loc Cert.OutProjRIdeal.main_arg1)
          ∧ r.2.mem ((c.tc : Thread Cert.OutProjRIdeal.nD Cert.OutProjRIdeal.τ).loc Cert.OutProjRIdeal.main_arg2) = m' ((c.tc : Thread Cert.OutProjRIdeal.nD Cert.OutProjRIdeal.τ).loc Cert.OutProjRIdeal.main_arg2)
          ∧ r.2.mem ((c.tc : Thread Cert.OutProjRIdeal.nD Cert.OutProjRIdeal.τ).loc Cert.OutProjRIdeal.main_arg3) = m' ((c.tc : Thread Cert.OutProjRIdeal.nD Cert.OutProjRIdeal.τ).loc Cert.OutProjRIdeal.main_arg3))

def preserves_FfOneK_FfOneKIdeal : Prop :=
  True

def algebraic_FfOneKIdeal_FfOneRIdeal [hFfOneKIdeal : Cert.FfOneKIdeal.Facts] [hFfOneRIdeal : Cert.FfOneRIdeal.Facts] : Prop :=
  ∀ (m : (ℓ : Loc Cert.FfOneKIdeal.nD Cert.FfOneKIdeal.τ Cert.FfOneKIdeal.sig) → Buf (Elt Ideal) ℓ) (g : Dev Cert.FfOneKIdeal.nD → PrngReg)
    (m' : (ℓ : Loc Cert.FfOneRIdeal.nD Cert.FfOneRIdeal.τ Cert.FfOneRIdeal.sig) → Buf (Elt Ideal) ℓ) (g' : Dev Cert.FfOneRIdeal.nD → PrngReg), Pre_FfOneKIdeal m →
    (∀ c : Dev Cert.FfOneKIdeal.nD,
      m' ((c.tc : Thread Cert.FfOneRIdeal.nD Cert.FfOneRIdeal.τ).loc Cert.FfOneRIdeal.main_arg0) = m ((c.tc : Thread Cert.FfOneKIdeal.nD Cert.FfOneKIdeal.τ).loc Cert.FfOneKIdeal.main_arg0)
      ∧ m' ((c.tc : Thread Cert.FfOneRIdeal.nD Cert.FfOneRIdeal.τ).loc Cert.FfOneRIdeal.main_arg1) = m ((c.tc : Thread Cert.FfOneKIdeal.nD Cert.FfOneKIdeal.τ).loc Cert.FfOneKIdeal.main_arg1)) →
    ∃ (v0 : (c : Dev Cert.FfOneKIdeal.nD) → Buf (Elt Ideal) ((c.tc : Thread Cert.FfOneKIdeal.nD Cert.FfOneKIdeal.τ).loc Cert.FfOneKIdeal.main_v6)),
      θ_run (Cert.FfOneKIdeal.defs (F := Ideal)) (onTc (τ := Cert.FfOneKIdeal.τ) (Cert.FfOneKIdeal.main (F := Ideal))) ⟨m, fun _ => 0, g⟩ (fun r => ∀ c : Dev Cert.FfOneKIdeal.nD,
          r.2.mem ((c.tc : Thread Cert.FfOneKIdeal.nD Cert.FfOneKIdeal.τ).loc Cert.FfOneKIdeal.main_v6) = v0 c
          ∧ r.2.mem ((c.tc : Thread Cert.FfOneKIdeal.nD Cert.FfOneKIdeal.τ).loc Cert.FfOneKIdeal.main_arg0) = m ((c.tc : Thread Cert.FfOneKIdeal.nD Cert.FfOneKIdeal.τ).loc Cert.FfOneKIdeal.main_arg0)
          ∧ r.2.mem ((c.tc : Thread Cert.FfOneKIdeal.nD Cert.FfOneKIdeal.τ).loc Cert.FfOneKIdeal.main_arg1) = m ((c.tc : Thread Cert.FfOneKIdeal.nD Cert.FfOneKIdeal.τ).loc Cert.FfOneKIdeal.main_arg1))
      ∧ θ_run (Cert.FfOneRIdeal.defs (F := Ideal)) (onTc (τ := Cert.FfOneRIdeal.τ) (Cert.FfOneRIdeal.main (F := Ideal))) ⟨m', fun _ => 0, g'⟩ (fun r => ∀ c : Dev Cert.FfOneRIdeal.nD,
          r.2.mem ((c.tc : Thread Cert.FfOneRIdeal.nD Cert.FfOneRIdeal.τ).loc Cert.FfOneRIdeal.main_v4) = v0 c
          ∧ r.2.mem ((c.tc : Thread Cert.FfOneRIdeal.nD Cert.FfOneRIdeal.τ).loc Cert.FfOneRIdeal.main_arg0) = m' ((c.tc : Thread Cert.FfOneRIdeal.nD Cert.FfOneRIdeal.τ).loc Cert.FfOneRIdeal.main_arg0)
          ∧ r.2.mem ((c.tc : Thread Cert.FfOneRIdeal.nD Cert.FfOneRIdeal.τ).loc Cert.FfOneRIdeal.main_arg1) = m' ((c.tc : Thread Cert.FfOneRIdeal.nD Cert.FfOneRIdeal.τ).loc Cert.FfOneRIdeal.main_arg1))

def preserves_RmsMixK_RmsMixKIdeal : Prop :=
  True

def algebraic_RmsMixKIdeal_RmsMixRIdeal [hRmsMixKIdeal : Cert.RmsMixKIdeal.Facts] [hRmsMixRIdeal : Cert.RmsMixRIdeal.Facts] : Prop :=
  ∀ (m : (ℓ : Loc Cert.RmsMixKIdeal.nD Cert.RmsMixKIdeal.τ Cert.RmsMixKIdeal.sig) → Buf (Elt Ideal) ℓ) (g : Dev Cert.RmsMixKIdeal.nD → PrngReg)
    (m' : (ℓ : Loc Cert.RmsMixRIdeal.nD Cert.RmsMixRIdeal.τ Cert.RmsMixRIdeal.sig) → Buf (Elt Ideal) ℓ) (g' : Dev Cert.RmsMixRIdeal.nD → PrngReg), Pre_RmsMixKIdeal m →
    (∀ c : Dev Cert.RmsMixKIdeal.nD,
      m' ((c.tc : Thread Cert.RmsMixRIdeal.nD Cert.RmsMixRIdeal.τ).loc Cert.RmsMixRIdeal.main_arg0) = m ((c.tc : Thread Cert.RmsMixKIdeal.nD Cert.RmsMixKIdeal.τ).loc Cert.RmsMixKIdeal.main_arg0)
      ∧ m' ((c.tc : Thread Cert.RmsMixRIdeal.nD Cert.RmsMixRIdeal.τ).loc Cert.RmsMixRIdeal.main_arg1) = m ((c.tc : Thread Cert.RmsMixKIdeal.nD Cert.RmsMixKIdeal.τ).loc Cert.RmsMixKIdeal.main_arg1)) →
    ∃ (v0 : (c : Dev Cert.RmsMixKIdeal.nD) → Buf (Elt Ideal) ((c.tc : Thread Cert.RmsMixKIdeal.nD Cert.RmsMixKIdeal.τ).loc Cert.RmsMixKIdeal.main_v1)),
      θ_run (Cert.RmsMixKIdeal.defs (F := Ideal)) (onTc (τ := Cert.RmsMixKIdeal.τ) (Cert.RmsMixKIdeal.main (F := Ideal))) ⟨m, fun _ => 0, g⟩ (fun r => ∀ c : Dev Cert.RmsMixKIdeal.nD,
          r.2.mem ((c.tc : Thread Cert.RmsMixKIdeal.nD Cert.RmsMixKIdeal.τ).loc Cert.RmsMixKIdeal.main_v1) = v0 c
          ∧ r.2.mem ((c.tc : Thread Cert.RmsMixKIdeal.nD Cert.RmsMixKIdeal.τ).loc Cert.RmsMixKIdeal.main_arg0) = m ((c.tc : Thread Cert.RmsMixKIdeal.nD Cert.RmsMixKIdeal.τ).loc Cert.RmsMixKIdeal.main_arg0)
          ∧ r.2.mem ((c.tc : Thread Cert.RmsMixKIdeal.nD Cert.RmsMixKIdeal.τ).loc Cert.RmsMixKIdeal.main_arg1) = m ((c.tc : Thread Cert.RmsMixKIdeal.nD Cert.RmsMixKIdeal.τ).loc Cert.RmsMixKIdeal.main_arg1))
      ∧ θ_run (Cert.RmsMixRIdeal.defs (F := Ideal)) (onTc (τ := Cert.RmsMixRIdeal.τ) (Cert.RmsMixRIdeal.main (F := Ideal))) ⟨m', fun _ => 0, g'⟩ (fun r => ∀ c : Dev Cert.RmsMixRIdeal.nD,
          r.2.mem ((c.tc : Thread Cert.RmsMixRIdeal.nD Cert.RmsMixRIdeal.τ).loc Cert.RmsMixRIdeal.main_v15) = v0 c
          ∧ r.2.mem ((c.tc : Thread Cert.RmsMixRIdeal.nD Cert.RmsMixRIdeal.τ).loc Cert.RmsMixRIdeal.main_arg0) = m' ((c.tc : Thread Cert.RmsMixRIdeal.nD Cert.RmsMixRIdeal.τ).loc Cert.RmsMixRIdeal.main_arg0)
          ∧ r.2.mem ((c.tc : Thread Cert.RmsMixRIdeal.nD Cert.RmsMixRIdeal.τ).loc Cert.RmsMixRIdeal.main_arg1) = m' ((c.tc : Thread Cert.RmsMixRIdeal.nD Cert.RmsMixRIdeal.τ).loc Cert.RmsMixRIdeal.main_arg1))

def Claim : Prop :=
  ∃ (hFfTwoDxK : Cert.FfTwoDxK.Facts) (hFfTwoDxKIdeal : Cert.FfTwoDxKIdeal.Facts) (hFfTwoDxRIdeal : Cert.FfTwoDxRIdeal.Facts) (hOutDxK : Cert.OutDxK.Facts) (hOutDxKIdeal : Cert.OutDxKIdeal.Facts) (hOutDxRIdeal : Cert.OutDxRIdeal.Facts) (hInDxK : Cert.InDxK.Facts) (hInDxKIdeal : Cert.InDxKIdeal.Facts) (hInDxRIdeal : Cert.InDxRIdeal.Facts) (hFfOneDxK : Cert.FfOneDxK.Facts) (hFfOneDxKIdeal : Cert.FfOneDxKIdeal.Facts) (hFfOneDxRIdeal : Cert.FfOneDxRIdeal.Facts) (hHeadK : Cert.HeadK.Facts) (hHeadKIdeal : Cert.HeadKIdeal.Facts) (hHeadRIdeal : Cert.HeadRIdeal.Facts) (hGateK : Cert.GateK.Facts) (hGateKIdeal : Cert.GateKIdeal.Facts) (hGateRIdeal : Cert.GateRIdeal.Facts) (hAttnK : Cert.AttnK.Facts) (hAttnKIdeal : Cert.AttnKIdeal.Facts) (hAttnRIdeal : Cert.AttnRIdeal.Facts) (hGmlpK : Cert.GmlpK.Facts) (hGmlpKIdeal : Cert.GmlpKIdeal.Facts) (hGmlpRIdeal : Cert.GmlpRIdeal.Facts) (hOutProjK : Cert.OutProjK.Facts) (hOutProjKIdeal : Cert.OutProjKIdeal.Facts) (hOutProjRIdeal : Cert.OutProjRIdeal.Facts) (hFfOneK : Cert.FfOneK.Facts) (hFfOneKIdeal : Cert.FfOneKIdeal.Facts) (hFfOneRIdeal : Cert.FfOneRIdeal.Facts) (hRmsMixK : Cert.RmsMixK.Facts) (hRmsMixKIdeal : Cert.RmsMixKIdeal.Facts) (hRmsMixRIdeal : Cert.RmsMixRIdeal.Facts) (hPre_gate_finite : Cert.Pre_gate_finite.Facts) (hPre_attn_finite : Cert.Pre_attn_finite.Facts) (hPre_gmlp_finite : Cert.Pre_gmlp_finite.Facts),
    quiescent_FfTwoDxK (hFfTwoDxK := hFfTwoDxK)
    ∧ quiescent_FfTwoDxKIdeal (hFfTwoDxKIdeal := hFfTwoDxKIdeal)
    ∧ quiescent_FfTwoDxRIdeal (hFfTwoDxRIdeal := hFfTwoDxRIdeal)
    ∧ quiescent_OutDxK (hOutDxK := hOutDxK)
    ∧ quiescent_OutDxKIdeal (hOutDxKIdeal := hOutDxKIdeal)
    ∧ quiescent_OutDxRIdeal (hOutDxRIdeal := hOutDxRIdeal)
    ∧ quiescent_InDxK (hInDxK := hInDxK)
    ∧ quiescent_InDxKIdeal (hInDxKIdeal := hInDxKIdeal)
    ∧ quiescent_InDxRIdeal (hInDxRIdeal := hInDxRIdeal)
    ∧ quiescent_FfOneDxK (hFfOneDxK := hFfOneDxK)
    ∧ quiescent_FfOneDxKIdeal (hFfOneDxKIdeal := hFfOneDxKIdeal)
    ∧ quiescent_FfOneDxRIdeal (hFfOneDxRIdeal := hFfOneDxRIdeal)
    ∧ quiescent_HeadK (hHeadK := hHeadK)
    ∧ quiescent_HeadKIdeal (hHeadKIdeal := hHeadKIdeal)
    ∧ quiescent_HeadRIdeal (hHeadRIdeal := hHeadRIdeal)
    ∧ quiescent_GateK (hGateK := hGateK)
    ∧ quiescent_GateKIdeal (hGateKIdeal := hGateKIdeal)
    ∧ quiescent_GateKIdeal_pre_gate_finite (hGateKIdeal := hGateKIdeal) (hPre_gate_finite := hPre_gate_finite)
    ∧ quiescent_GateRIdeal (hGateRIdeal := hGateRIdeal)
    ∧ quiescent_GateRIdeal_pre_gate_finite (hGateRIdeal := hGateRIdeal) (hPre_gate_finite := hPre_gate_finite)
    ∧ quiescent_AttnK (hAttnK := hAttnK)
    ∧ quiescent_AttnKIdeal (hAttnKIdeal := hAttnKIdeal)
    ∧ quiescent_AttnKIdeal_pre_attn_finite (hAttnKIdeal := hAttnKIdeal) (hPre_attn_finite := hPre_attn_finite)
    ∧ quiescent_AttnRIdeal (hAttnRIdeal := hAttnRIdeal)
    ∧ quiescent_AttnRIdeal_pre_attn_finite (hAttnRIdeal := hAttnRIdeal) (hPre_attn_finite := hPre_attn_finite)
    ∧ quiescent_GmlpK (hGmlpK := hGmlpK)
    ∧ quiescent_GmlpKIdeal (hGmlpKIdeal := hGmlpKIdeal)
    ∧ quiescent_GmlpKIdeal_pre_gmlp_finite (hGmlpKIdeal := hGmlpKIdeal) (hPre_gmlp_finite := hPre_gmlp_finite)
    ∧ quiescent_GmlpRIdeal (hGmlpRIdeal := hGmlpRIdeal)
    ∧ quiescent_GmlpRIdeal_pre_gmlp_finite (hGmlpRIdeal := hGmlpRIdeal) (hPre_gmlp_finite := hPre_gmlp_finite)
    ∧ quiescent_OutProjK (hOutProjK := hOutProjK)
    ∧ quiescent_OutProjKIdeal (hOutProjKIdeal := hOutProjKIdeal)
    ∧ quiescent_OutProjRIdeal (hOutProjRIdeal := hOutProjRIdeal)
    ∧ quiescent_FfOneK (hFfOneK := hFfOneK)
    ∧ quiescent_FfOneKIdeal (hFfOneKIdeal := hFfOneKIdeal)
    ∧ quiescent_FfOneRIdeal (hFfOneRIdeal := hFfOneRIdeal)
    ∧ quiescent_RmsMixK (hRmsMixK := hRmsMixK)
    ∧ quiescent_RmsMixKIdeal (hRmsMixKIdeal := hRmsMixKIdeal)
    ∧ quiescent_RmsMixRIdeal (hRmsMixRIdeal := hRmsMixRIdeal)
    ∧ preserves_FfTwoDxK_FfTwoDxKIdeal
    ∧ algebraic_FfTwoDxKIdeal_FfTwoDxRIdeal (hFfTwoDxKIdeal := hFfTwoDxKIdeal) (hFfTwoDxRIdeal := hFfTwoDxRIdeal)
    ∧ preserves_OutDxK_OutDxKIdeal
    ∧ algebraic_OutDxKIdeal_OutDxRIdeal (hOutDxKIdeal := hOutDxKIdeal) (hOutDxRIdeal := hOutDxRIdeal)
    ∧ preserves_InDxK_InDxKIdeal
    ∧ algebraic_InDxKIdeal_InDxRIdeal (hInDxKIdeal := hInDxKIdeal) (hInDxRIdeal := hInDxRIdeal)
    ∧ preserves_FfOneDxK_FfOneDxKIdeal
    ∧ algebraic_FfOneDxKIdeal_FfOneDxRIdeal (hFfOneDxKIdeal := hFfOneDxKIdeal) (hFfOneDxRIdeal := hFfOneDxRIdeal)
    ∧ preserves_HeadK_HeadKIdeal
    ∧ algebraic_HeadKIdeal_HeadRIdeal (hHeadKIdeal := hHeadKIdeal) (hHeadRIdeal := hHeadRIdeal)
    ∧ preserves_GateK_GateKIdeal
    ∧ algebraic_GateKIdeal_GateRIdeal_pre_gate_finite (hGateKIdeal := hGateKIdeal) (hGateRIdeal := hGateRIdeal) (hPre_gate_finite := hPre_gate_finite)
    ∧ preserves_AttnK_AttnKIdeal
    ∧ algebraic_AttnKIdeal_AttnRIdeal_pre_attn_finite (hAttnKIdeal := hAttnKIdeal) (hAttnRIdeal := hAttnRIdeal) (hPre_attn_finite := hPre_attn_finite)
    ∧ preserves_GmlpK_GmlpKIdeal
    ∧ algebraic_GmlpKIdeal_GmlpRIdeal_pre_gmlp_finite (hGmlpKIdeal := hGmlpKIdeal) (hGmlpRIdeal := hGmlpRIdeal) (hPre_gmlp_finite := hPre_gmlp_finite)
    ∧ preserves_OutProjK_OutProjKIdeal
    ∧ algebraic_OutProjKIdeal_OutProjRIdeal (hOutProjKIdeal := hOutProjKIdeal) (hOutProjRIdeal := hOutProjRIdeal)
    ∧ preserves_FfOneK_FfOneKIdeal
    ∧ algebraic_FfOneKIdeal_FfOneRIdeal (hFfOneKIdeal := hFfOneKIdeal) (hFfOneRIdeal := hFfOneRIdeal)
    ∧ preserves_RmsMixK_RmsMixKIdeal
    ∧ algebraic_RmsMixKIdeal_RmsMixRIdeal (hRmsMixKIdeal := hRmsMixKIdeal) (hRmsMixRIdeal := hRmsMixRIdeal)
-- ==== Pre_attn_finite.lean ====
abbrev S1x4096x5128 : Shape := ⟨3, ![1, 4096, 5128]⟩
abbrev S1x8x4096 : Shape := ⟨3, ![1, 8, 4096]⟩
abbrev S1x4096x1024 : Shape := ⟨3, ![1, 4096, 1024]⟩
abbrev S1x4096x3072 : Shape := ⟨3, ![1, 4096, 3072]⟩
abbrev S_ : Shape := ⟨0, ![]⟩

class Facts : Prop where
  slices_S1x4096x5128_S1x4096x3072_0_0_0 : S1x4096x5128.Slices ![0, 0, 0] S1x4096x3072
  bcast_S_S1x4096x3072 : S_.BroadcastsInDim S1x4096x3072 (![] : Fin 0 → Fin S1x4096x3072.rank)
  reducesTo_S1x4096x3072_S_d0_1_2 : S1x4096x3072.ReducesTo [0, 1, 2] S_
  h_S_ : 0 < S_.numel
  bcast_S_S1x8x4096 : S_.BroadcastsInDim S1x8x4096 (![] : Fin 0 → Fin S1x8x4096.rank)
  reducesTo_S1x8x4096_S_d0_1_2 : S1x8x4096.ReducesTo [0, 1, 2] S_
  bcast_S_S1x4096x1024 : S_.BroadcastsInDim S1x4096x1024 (![] : Fin 0 → Fin S1x4096x1024.rank)
  reducesTo_S1x4096x1024_S_d0_1_2 : S1x4096x1024.ReducesTo [0, 1, 2] S_

variable [Facts]

def fn {F : FTy → Type} [FloatOps F] (main_arg0 : FVec F S1x4096x5128 .f32) (main_arg1 : FVec F S1x8x4096 .f32) (main_arg2 : FVec F S1x4096x1024 .f32) : IVec S_ 1 :=
  let main_v0 : FVec F S1x4096x3072 .f32 := (extractStridedSlice S1x4096x3072 ![0, 0, 0] · slices_S1x4096x5128_S1x4096x3072_0_0_0) main_arg0
  let main_v1 : FVec F S1x4096x3072 .f32 := Host.absf main_v0
  let main_cst : FVec F S_ .f32 := constant S_ .f32 0x7F800000#32
  let main_v2 : FVec F S1x4096x3072 .f32 := broadcastInDim S1x4096x3072 ![] bcast_S_S1x4096x3072 main_cst
  let main_v3 : IVec S1x4096x3072 1 := cmpf .olt main_v1 main_v2
  let main_c : IVec S_ 1 := constantI S_ 1 1#1
  let main_v4 : IVec S_ 1 := (fun x v => Host.reduce IntOp.andi x v reducesTo_S1x4096x3072_S_d0_1_2 h_S_) main_v3 main_c
  let main_v5 : FVec F S1x8x4096 .f32 := Host.absf main_arg1
  let main_cst_0 : FVec F S_ .f32 := constant S_ .f32 0x7F800000#32
  let main_v6 : FVec F S1x8x4096 .f32 := broadcastInDim S1x8x4096 ![] bcast_S_S1x8x4096 main_cst_0
  let main_v7 : IVec S1x8x4096 1 := cmpf .olt main_v5 main_v6
  let main_c_1 : IVec S_ 1 := constantI S_ 1 1#1
  let main_v8 : IVec S_ 1 := (fun x v => Host.reduce IntOp.andi x v reducesTo_S1x8x4096_S_d0_1_2 h_S_) main_v7 main_c_1
  let main_v9 : IVec S_ 1 := andi main_v4 main_v8
  let main_v10 : FVec F S1x4096x1024 .f32 := Host.absf main_arg2
  let main_cst_2 : FVec F S_ .f32 := constant S_ .f32 0x7F800000#32
  let main_v11 : FVec F S1x4096x1024 .f32 := broadcastInDim S1x4096x1024 ![] bcast_S_S1x4096x1024 main_cst_2
  let main_v12 : IVec S1x4096x1024 1 := cmpf .olt main_v10 main_v11
  let main_c_3 : IVec S_ 1 := constantI S_ 1 1#1
  let main_v13 : IVec S_ 1 := (fun x v => Host.reduce IntOp.andi x v reducesTo_S1x4096x1024_S_d0_1_2 h_S_) main_v12 main_c_3
  let main_v14 : IVec S_ 1 := andi main_v9 main_v13
  main_v14
-- ==== Pre_gate_finite.lean ====
abbrev S1x4096x8 : Shape := ⟨3, ![1, 4096, 8]⟩
abbrev S1x8 : Shape := ⟨2, ![1, 8]⟩
abbrev S1x8x4096 : Shape := ⟨3, ![1, 8, 4096]⟩
abbrev S_ : Shape := ⟨0, ![]⟩

class Facts : Prop where
  bcast_S_S1x8x4096 : S_.BroadcastsInDim S1x8x4096 (![] : Fin 0 → Fin S1x8x4096.rank)
  reducesTo_S1x8x4096_S_d0_1_2 : S1x8x4096.ReducesTo [0, 1, 2] S_
  h_S_ : 0 < S_.numel

variable [Facts]

def fn {F : FTy → Type} [FloatOps F] (main_arg0 : FVec F S1x4096x8 .f32) (main_arg1 : FVec F S1x8 .f32) (main_arg2 : FVec F S1x8x4096 .f32) : IVec S_ 1 :=
  let main_v0 : FVec F S1x8x4096 .f32 := Host.absf main_arg2
  let main_cst : FVec F S_ .f32 := constant S_ .f32 0x7F800000#32
  let main_v1 : FVec F S1x8x4096 .f32 := broadcastInDim S1x8x4096 ![] bcast_S_S1x8x4096 main_cst
  let main_v2 : IVec S1x8x4096 1 := cmpf .olt main_v0 main_v1
  let main_c : IVec S_ 1 := constantI S_ 1 1#1
  let main_v3 : IVec S_ 1 := (fun x v => Host.reduce IntOp.andi x v reducesTo_S1x8x4096_S_d0_1_2 h_S_) main_v2 main_c
  main_v3
-- ==== Pre_gmlp_finite.lean ====
abbrev S1x4096x5128 : Shape := ⟨3, ![1, 4096, 5128]⟩
abbrev S1x1024 : Shape := ⟨2, ![1, 1024]⟩
abbrev S1x8x128x128 : Shape := ⟨4, ![1, 8, 128, 128]⟩
abbrev S1x8x128 : Shape := ⟨3, ![1, 8, 128]⟩
abbrev S1x4096x1024 : Shape := ⟨3, ![1, 4096, 1024]⟩
abbrev S1x4096x2048 : Shape := ⟨3, ![1, 4096, 2048]⟩
abbrev S_ : Shape := ⟨0, ![]⟩

class Facts : Prop where
  slices_S1x4096x5128_S1x4096x2048_0_0_3080 : S1x4096x5128.Slices ![0, 0, 3080] S1x4096x2048
  bcast_S_S1x4096x2048 : S_.BroadcastsInDim S1x4096x2048 (![] : Fin 0 → Fin S1x4096x2048.rank)
  reducesTo_S1x4096x2048_S_d0_1_2 : S1x4096x2048.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_
  bcast_S_S1x4096x1024 : S_.BroadcastsInDim S1x4096x1024 (![] : Fin 0 → Fin S1x4096x1024.rank)
  reducesTo_S1x4096x1024_S_d0_1_2 : S1x4096x1024.ReducesTo [0, 1, 2] S_

variable [Facts]

def fn_part1 {F : FTy → Type} [FloatOps F] (main_arg4 : FVec F S1x8x128 .f32) (main_arg5 : FVec F S1x4096x1024 .f32) (main_v14 : IVec S_ 1) (main_v15 : FVec F S1x8x128x128 .f32) (main_v16 : FVec F S1x8x128x128 .f32) : IVec S_ 1 :=
  let main_v17 : IVec S1x8x128x128 1 := cmpf .olt main_v15 main_v16
  let main_c_5 : IVec S_ 1 := constantI S_ 1 1#1
  let main_v18 : IVec S_ 1 := (fun x v => Host.reduce IntOp.andi x v reducesTo_S1x8x128x128_S_d0_1_2_3 h_S_) main_v17 main_c_5
  let main_v19 : IVec S_ 1 := andi main_v14 main_v18
  let main_v20 : FVec F S1x8x128 .f32 := Host.absf main_arg4
  let main_cst_6 : FVec F S_ .f32 := constant S_ .f32 0x7F800000#32
  let main_v21 : FVec F S1x8x128 .f32 := broadcastInDim S1x8x128 ![] bcast_S_S1x8x128 main_cst_6
  let main_v22 : IVec S1x8x128 1 := cmpf .olt main_v20 main_v21
  let main_c_7 : IVec S_ 1 := constantI S_ 1 1#1
  let main_v23 : IVec S_ 1 := (fun x v => Host.reduce IntOp.andi x v reducesTo_S1x8x128_S_d0_1_2 h_S_) main_v22 main_c_7
  let main_v24 : IVec S_ 1 := andi main_v19 main_v23
  let main_v25 : FVec F S1x4096x1024 .f32 := Host.absf main_arg5
  let main_cst_8 : FVec F S_ .f32 := constant S_ .f32 0x7F800000#32
  let main_v26 : FVec F S1x4096x1024 .f32 := broadcastInDim S1x4096x1024 ![] bcast_S_S1x4096x1024 main_cst_8
  let main_v27 : IVec S1x4096x1024 1 := cmpf .olt main_v25 main_v26
  let main_c_9 : IVec S_ 1 := constantI S_ 1 1#1
  let main_v28 : IVec S_ 1 := (fun x v => Host.reduce IntOp.andi x v reducesTo_S1x4096x1024_S_d0_1_2 h_S_) main_v27 main_c_9
  let main_v29 : IVec S_ 1 := andi main_v24 main_v28
  main_v29

def fn {F : FTy → Type} [FloatOps F] (main_arg0 : FVec F S1x4096x5128 .f32) (main_arg1 : FVec F S1x1024 .f32) (main_arg2 : FVec F S1x1024 .f32) (main_arg3 : FVec F S1x8x128x128 .f32) (main_arg4 : FVec F S1x8x128 .f32) (main_arg5 : FVec F S1x4096x1024 .f32) : IVec S_ 1 :=
  let main_v0 : FVec F S1x4096x2048 .f32 := (extractStridedSlice S1x4096x2048 ![0, 0, 3080] · slices_S1x4096x5128_S1x4096x2048_0_0_3080) main_arg0
  let main_v1 : FVec F S1x4096x2048 .f32 := Host.absf main_v0
  let main_cst : FVec F S_ .f32 := constant S_ .f32 0x7F800000#32
  let main_v2 : FVec F S1x4096x2048 .f32 := broadcastInDim S1x4096x2048 ![] bcast_S_S1x4096x2048 main_cst
  let main_v3 : IVec S1x4096x2048 1 := cmpf .olt main_v1 main_v2
  let main_c : IVec S_ 1 := constantI S_ 1 1#1
  let main_v4 : IVec S_ 1 := (fun x v => Host.reduce IntOp.andi x v reducesTo_S1x4096x2048_S_d0_1_2 h_S_) main_v3 main_c
  let main_v5 : FVec F S1x1024 .f32 := Host.absf main_arg1
  let main_cst_0 : FVec F S_ .f32 := constant S_ .f32 0x7F800000#32
  let main_v6 : FVec F S1x1024 .f32 := broadcastInDim S1x1024 ![] bcast_S_S1x1024 main_cst_0
  let main_v7 : IVec S1x1024 1 := cmpf .olt main_v5 main_v6
  let main_c_1 : IVec S_ 1 := constantI S_ 1 1#1
  let main_v8 : IVec S_ 1 := (fun x v => Host.reduce IntOp.andi x v reducesTo_S1x1024_S_d0_1 h_S_) main_v7 main_c_1
  let main_v9 : IVec S_ 1 := andi main_v4 main_v8
  let main_v10 : FVec F S1x1024 .f32 := Host.absf main_arg2
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  let main_v15 : FVec F S1x8x128x128 .f32 := Host.absf main_arg3
  let main_cst_4 : FVec F S_ .f32 := constant S_ .f32 0x7F800000#32
  let main_v16 : FVec F S1x8x128x128 .f32 := broadcastInDim S1x8x128x128 ![] bcast_S_S1x8x128x128 main_cst_4
  fn_part1 (F := F) main_arg4 main_arg5 main_v14 main_v15 main_v16
-- ==== FfTwoDxK.lean ====
abbrev S1x4096x8192 : Shape := ⟨3, ![1, 4096, 8192]⟩
abbrev S1x8192x2048 : Shape := ⟨3, ![1, 8192, 2048]⟩
abbrev S1x4096x2048 : Shape := ⟨3, ![1, 4096, 2048]⟩
abbrev S4096x8192 : Shape := ⟨2, ![4096, 8192]⟩
abbrev S_ : Shape := ⟨0, ![]⟩
abbrev S4096x2048 : Shape := ⟨2, ![4096, 2048]⟩
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 13
  | .vmem => 8
  | .smem => 0
  | _ => 0

abbrev bufTy : (tb : Table) → Fin (tcTables nBuf tb) → BufTy
  | .hbm, ⟨0, _⟩ => ⟨S1x4096x8192, .f32⟩
  | .hbm, ⟨1, _⟩ => ⟨S1x8192x2048, .f32⟩
  | .hbm, ⟨2, _⟩ => ⟨S1x4096x2048, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .bf16⟩
  | .hbm, ⟨8, _⟩ => ⟨S4096x2048, .f32⟩
  | .hbm, ⟨9, _⟩ => ⟨S4096x2048, .bf16⟩
  | .hbm, ⟨10, _⟩ => ⟨S8192x2048, .f32⟩
  | .hbm, ⟨11, _⟩ => ⟨S8192x2048, .bf16⟩
  | .hbm, ⟨12, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S1x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfTwoDxRIdeal.lean ====
abbrev S1x4096x8192 : Shape := ⟨3, ![1, 4096, 8192]⟩
abbrev S1x8192x2048 : Shape := ⟨3, ![1, 8192, 2048]⟩
abbrev S1x4096x2048 : Shape := ⟨3, ![1, 4096, 2048]⟩
abbrev S_ : Shape := ⟨0, ![]⟩
abbrev S8192x2048 : Shape := ⟨2, ![8192, 2048]⟩
abbrev S4096x8192 : Shape := ⟨2, ![4096, 8192]⟩

abbrev nBuf : Space → Nat
  | .hbm => 23
  | .vmem => 0
  | .smem => 0
  | _ => 0

abbrev bufTy : (tb : Table) → Fin (tcTables nBuf tb) → BufTy
  | .hbm, ⟨0, _⟩ => ⟨S1x4096x8192, .f32⟩
  | .hbm, ⟨1, _⟩ => ⟨S1x8192x2048, .f32⟩
  | .hbm, ⟨2, _⟩ => ⟨S1x4096x2048, .f32⟩
  | .hbm, ⟨3, _⟩ => ⟨S_, .f32⟩
  | .hbm, ⟨4, _⟩ => ⟨S1x4096x8192, .f32⟩
  | .hbm, ⟨5, _⟩ => ⟨S1x4096x8192, .f32⟩
  | .hbm, ⟨6, _⟩ => ⟨S_, .f32⟩
  | .hbm, ⟨7, _⟩ => ⟨S1x4096x8192, .f32⟩
  | .hbm, ⟨8, _⟩ => ⟨S1x4096x8192, .i1⟩
  | .hbm, ⟨9, _⟩ => ⟨S_, .f32⟩
  | .hbm, ⟨10, _⟩ => ⟨S1x4096x8192, .f32⟩
  | .hbm, ⟨11, _⟩ => ⟨S1x4096x8192, .f32⟩
  | .hbm, ⟨12, _⟩ => ⟨S8192x2048, .f32⟩
  | .hbm, ⟨13, _⟩ => ⟨S1x4096x2048, .f32⟩
  | .hbm, ⟨14, _⟩ => ⟨S1x4096x8192, .f32⟩
  | .hbm, ⟨15, _⟩ => ⟨S1x4096x8192, .f32⟩
  | .hbm, ⟨16, _⟩ => ⟨S1x4096x8192, .f32⟩
  | .hbm, ⟨17, _⟩ => ⟨S1x4096x8192, .f32⟩
  | .hbm, ⟨18, _⟩ => ⟨S_, .f32⟩
  | .hbm, ⟨19, _⟩ => ⟨S1x4096x8192, .f32⟩
  | .hbm, ⟨20, _⟩ => ⟨S1x4096x8192, .f32⟩
  | .hbm, ⟨21, _⟩ => ⟨S4096x8192, .f32⟩
  | .hbm, ⟨22, _⟩ => ⟨S4096x8192, .bf16⟩
  | _, _ => ⟨S1x4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== OutDxK.lean ====
abbrev S1x4096x1024 : Shape := ⟨3, ![1, 4096, 1024]⟩
abbrev S1x1024 : Shape := ⟨2, ![1, 1024]⟩
abbrev S1x2048x2048 : Shape := ⟨3, ![1, 2048, 2048]⟩
abbrev S1x4096x2048 : Shape := ⟨3, ![1, 4096, 2048]⟩
abbrev S4096x2048 : Shape := ⟨2, ![4096, 2048]⟩
abbrev S2048x2048 : Shape := ⟨2, ![2048, 2048]⟩
abbrev S4096x1024 : Shape := ⟨2, ![4096, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 15
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x1024, .f32⟩
  | .hbm, ⟨3, _⟩ => ⟨S1x1024, .f32⟩
  | .hbm, ⟨4, _⟩ => ⟨S1x2048x2048, .f32⟩
  | .hbm, ⟨5, _⟩ => ⟨S1x4096x2048, .f32⟩
  | .hbm, ⟨6, _⟩ => ⟨S4096x2048, .f32⟩
  | .hbm, ⟨7, _⟩ => ⟨S4096x2048, .bf16⟩
  | .hbm, ⟨8, _⟩ => ⟨S2048x2048, .f32⟩
  | .hbm, ⟨9, _⟩ => ⟨S2048x2048, .bf16⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1x1024, .f32⟩
  | .hbm, ⟨15, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c0_i32 : BitVec 32 := 0#32
  let v65 : BitVec 1 := Scalar.cmpi .eq arg0 c0_i32
  let v66 : BitVec 32 := Scalar.extui v65
  let c0_i32_27 : BitVec 32 := 0#32
  let v67 : BitVec 1 := Scalar.cmpi .ne v66 c0_i32_27
  v67

def k0_cond2 (i : grid0.Coords) : BitVec 1 :=
  let arg0 : BitVec 32 := BitVec.ofNat 32 (i 0).val
  let c0_i32_28 : BitVec 32 := 0#32
  let v68 : BitVec 1 := Scalar.cmpi .sgt arg0 c0_i32_28
  let v69 : BitVec 32 := Scalar.extui v68
  let c0_i32_29 : BitVec 32 := 0#32
  let v70 : BitVec 1 := Scalar.cmpi .ne v69 c0_i32_29
  v70

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== OutDxRIdeal.lean ====
abbrev S1x4096x1024 : Shape := ⟨3, ![1, 4096, 1024]⟩
abbrev S1x1024 : Shape := ⟨2, ![1, 1024]⟩
abbrev S1x2048x2048 : Shape := ⟨3, ![1, 2048, 2048]⟩
abbrev S1x4096x2048 : Shape := ⟨3, ![1, 4096, 2048]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S2048x2048 : Shape := ⟨2, ![2048, 2048]⟩
abbrev S4096 : Shape := ⟨1, ![4096]⟩
abbrev S4096x1024 : Shape := ⟨2, ![4096, 1024]⟩

abbrev nBuf : Space → Nat
  | .hbm => 110
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x1024, .f32⟩
  | .hbm, ⟨3, _⟩ => ⟨S1x1024, .f32⟩
  | .hbm, ⟨4, _⟩ => ⟨S1x2048x2048, .f32⟩
  | .hbm, ⟨5, _⟩ => ⟨S1x4096x2048, .f32⟩
  | .hbm, ⟨6, _⟩ => ⟨S1024, .f32⟩
  | .hbm, ⟨7, _⟩ => ⟨S1x4096x1024, .f32⟩
  | .hbm, ⟨8, _⟩ => ⟨S_, .f32⟩
  | .hbm, ⟨9, _⟩ => ⟨S1x4096, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S_, .f32⟩
  | .hbm, ⟨20, _⟩ => ⟨S1x4096x1, .f32⟩
  | .hbm, ⟨21, _⟩ => ⟨S1x4096x1, .f32⟩
  | .hbm, ⟨22, _⟩ => ⟨S1x4096x1024, .f32⟩
  | .hbm, ⟨23, _⟩ => ⟨S1x4096x1024, .f32⟩
  | .hbm, ⟨24, _⟩ => ⟨S1x1x1024, .f32⟩
  | .hbm, ⟨25, _⟩ => ⟨S1x4096x1024, .f32⟩
  | .hbm, ⟨26, _⟩ => ⟨S1x4096x1024, .f32⟩
  | .hbm, ⟨27, _⟩ => ⟨S1024, .f32⟩
  | .hbm, ⟨28, _⟩ => ⟨S1x4096x1024, .f32⟩
  | .hbm, ⟨29, _⟩ => ⟨S_, .f32⟩
  | .hbm, ⟨30, _⟩ => ⟨S1x4096, .f32⟩
  | .hbm, ⟨31, _⟩ => ⟨S1x4096x1, .f32⟩
  | .hbm, ⟨32, _⟩ => ⟨S_, .f32⟩
  | .hbm, ⟨33, _⟩ => ⟨S1x4096x1, .f32⟩
  | .hbm, ⟨34, _⟩ => ⟨S1x4096x1, .f32⟩
  | .hbm, ⟨35, _⟩ => ⟨S_, .f32⟩
  | .hbm, ⟨36, _⟩ => ⟨S1x4096x1, .f32⟩
  | .hbm, ⟨37, _⟩ => ⟨S1x4096x1, .f32⟩
  | .hbm, ⟨38, _⟩ => ⟨S1x4096x1, .f32⟩
  | .hbm, ⟨39, _⟩ => ⟨S1x4096x1, .f32⟩
  | .hbm, ⟨40, _⟩ => ⟨S_, .f32⟩
  | .hbm, ⟨41, _⟩ => ⟨S1x4096x1, .f32⟩
  | .hbm, ⟨42, _⟩ => ⟨S1x4096x1, .f32⟩
  | .hbm, ⟨43, _⟩ => ⟨S1x4096x1024, .f32⟩
  | .hbm, ⟨44, _⟩ => ⟨S1x4096x1024, .f32⟩
  | .hbm, ⟨45, _⟩ => ⟨S1x1x1024, .f32⟩
  | .hbm, ⟨46, _⟩ => ⟨S1x4096x1024, .f32⟩
  | .hbm, ⟨47, _⟩ => ⟨S1x4096x1024, .f32⟩
  | .hbm, ⟨48, _⟩ => ⟨S1x4096x2048, .f32⟩
  | .hbm, ⟨49, _⟩ => ⟨S2048x2048, .f32⟩
  | .hbm, ⟨50, _⟩ => ⟨S1x4096x2048, .f32⟩
  | .hbm, ⟨51, _⟩ => ⟨S1x4096x2048, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S_, .f32⟩
  | .hbm, ⟨56, _⟩ => ⟨S1x1024, .f32⟩
  | .hbm, ⟨57, _⟩ => ⟨S1x1x1024, .f32⟩
  | .hbm, ⟨58, _⟩ => ⟨S1x4096x1024, .f32⟩
  | .hbm, ⟨59, _⟩ => ⟨S1x4096x1024, .f32⟩
  | .hbm, ⟨60, _⟩ => ⟨S_, .f32⟩
  | .hbm, ⟨61, _⟩ => ⟨S1024, .f32⟩
  | .hbm, ⟨62, _⟩ => ⟨S1x4096x1024, .f32⟩
  | .hbm, ⟨63, _⟩ => ⟨S_, .f32⟩
  | .hbm, ⟨64, _⟩ => ⟨S1x4096, .f32⟩
  | .hbm, ⟨65, _⟩ => ⟨S1x4096x1, .f32⟩
  | .hbm, ⟨66, _⟩ => ⟨S1x4096x1024, .f32⟩
  | .hbm, ⟨67, _⟩ => ⟨S1x4096x1024, .f32⟩
  | .hbm, ⟨68, _⟩ => ⟨S1x4096x1, .f32⟩
  | .hbm, ⟨69, _⟩ => ⟨S_, .f32⟩
  | .hbm, ⟨70, _⟩ => ⟨S1x4096x1, .f32⟩
  | .hbm, ⟨71, _⟩ => ⟨S1x4096x1, .f32⟩
  | .hbm, ⟨72, _⟩ => ⟨S_, .f32⟩
  | .hbm, ⟨73, _⟩ => ⟨S4096, .f32⟩
  | .hbm, ⟨74, _⟩ => ⟨S1x4096, .f32⟩
  | .hbm, ⟨75, _⟩ => ⟨S1x4096x1024, .f32⟩
  | .hbm, ⟨76, _⟩ => ⟨S1x4096x1024, .f32⟩
  | .hbm, ⟨77, _⟩ => ⟨S1x4096x1024, .f32⟩
  | .hbm, ⟨78, _⟩ => ⟨S1x4096x1024, .f32⟩
  | .hbm, ⟨79, _⟩ => ⟨S1x4096x1024, .f32⟩
  | .hbm, ⟨80, _⟩ => ⟨S1x1024, .f32⟩
  | .hbm, ⟨81, _⟩ => ⟨S1x4096x1024, .f32⟩
  | .hbm, ⟨82, _⟩ => ⟨S_, .f32⟩
  | .hbm, ⟨83, _⟩ => ⟨S1x1024, .f32⟩
  | .hbm, ⟨84, _⟩ => ⟨S1x1x1024, .f32⟩
  | .hbm, ⟨85, _⟩ => ⟨S1x4096x1024, .f32⟩
  | .hbm, ⟨86, _⟩ => ⟨S1x4096x1024, .f32⟩
  | .hbm, ⟨87, _⟩ => ⟨S_, .f32⟩
  | .hbm, ⟨88, _⟩ => ⟨S1024, .f32⟩
  | .hbm, ⟨89, _⟩ => ⟨S1x4096x1024, .f32⟩
  | .hbm, ⟨90, _⟩ => ⟨S_, .f32⟩
  | .hbm, ⟨91, _⟩ => ⟨S1x4096, .f32⟩
  | .hbm, ⟨92, _⟩ => ⟨S1x4096x1, .f32⟩
  | .hbm, ⟨93, _⟩ => ⟨S1x4096x1024, .f32⟩
  | .hbm, ⟨94, _⟩ => ⟨S1x4096x1024, .f32⟩
  | .hbm, ⟨95, _⟩ => ⟨S1x4096x1, .f32⟩
  | .hbm, ⟨96, _⟩ => ⟨S_, .f32⟩
  | .hbm, ⟨97, _⟩ => ⟨S1x4096x1, .f32⟩
  | .hbm, ⟨98, _⟩ => ⟨S1x4096x1, .f32⟩
  | .hbm, ⟨99, _⟩ => ⟨S_, .f32⟩
  | .hbm, ⟨100, _⟩ => ⟨S4096, .f32⟩
  | .hbm, ⟨101, _⟩ => ⟨S1x4096, .f32⟩
  | .hbm, ⟨102, _⟩ => ⟨S1x4096x1024, .f32⟩
  | .hbm, ⟨103, _⟩ => ⟨S1x4096x1024, .f32⟩
  | .hbm, ⟨104, _⟩ => ⟨S1x4096x1024, .f32⟩
  | .hbm, ⟨105, _⟩ => ⟨S1x4096x1024, .f32⟩
  | .hbm, ⟨106, _⟩ => ⟨S1x4096x1024, .f32⟩
  | .hbm, ⟨107, _⟩ => ⟨S1x1024, .f32⟩
  | .hbm, ⟨108, _⟩ => ⟨S4096x1024, .f32⟩
  | .hbm, ⟨109, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_12 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_13 : Ref sig .tc := ⟨.hbm, 87, rfl⟩
abbrev main_v67 : Ref sig .tc := ⟨.hbm, 88, rfl⟩
abbrev main_v68 : Ref sig .tc := ⟨.hbm, 89, rfl⟩
abbrev main_cst_14 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_15 : Ref sig .tc := ⟨.hbm, 96, rfl⟩
abbrev main_v74 : Ref sig .tc := ⟨.hbm, 97, rfl⟩
abbrev main_v75 : Ref sig .tc := ⟨.hbm, 98, rfl⟩
abbrev main_cst_16 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩

abbrev nD : Nat := 1
abbrev τ : Topo := Topo.v7x

variable {F : FTy → Type} [FloatOps F]
-- ==== InDxK.lean ====
abbrev S1x4096x2048 : Shape := ⟨3, ![1, 4096, 2048]⟩
abbrev S1x2048 : Shape := ⟨2, ![1, 2048]⟩
abbrev S1x2048x5128 : Shape := ⟨3, ![1, 2048, 5128]⟩
abbrev S1x4096x5128 : Shape := ⟨3, ![1, 4096, 5128]⟩
abbrev S2048x5128 : Shape := ⟨2, ![2048, 5128]⟩
abbrev S2048x3072 : Shape := ⟨2, ![2048, 3072]⟩
abbrev S2048x2048 : Shape := ⟨2, ![2048, 2048]⟩
abbrev S2048x5120 : Shape := ⟨2, ![2048, 5120]⟩
abbrev S2048x8 : Shape := ⟨2, ![2048, 8]⟩
abbrev S_ : Shape := ⟨0, ![]⟩
abbrev S2048x128 : Shape := ⟨2, ![2048, 128]⟩
abbrev S4096x5128 : Shape := ⟨2, ![4096, 5128]⟩
abbrev S4096x3072 : Shape := ⟨2, ![4096, 3072]⟩
abbrev S4096x2048 : Shape := ⟨2, ![4096, 2048]⟩
abbrev S4096x5120 : Shape := ⟨2, ![4096, 5120]⟩
abbrev S4096x8 : Shape := ⟨2, ![4096, 8]⟩
abbrev S4096x128 : Shape := ⟨2, ![4096, 128]⟩
abbrev S512x1024 : Shape := ⟨2, ![512, 1024]⟩
abbrev S2048x1024 : Shape := ⟨2, ![2048, 1024]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 33
  | .vmem => 16
  | .smem => 0
  | _ => 0

abbrev bufTy : (tb : Table) → Fin (tcTables nBuf tb) → BufTy
  | .hbm, ⟨0, _⟩ => ⟨S1x4096x2048, .f32⟩
  | .hbm, ⟨1, _⟩ => ⟨S1x2048, .f32⟩
  | .hbm, ⟨2, _⟩ => ⟨S1x2048x5128, .f32⟩
  | .hbm, ⟨3, _⟩ => ⟨S1x4096x2048, .f32⟩
  | .hbm, ⟨4, _⟩ => ⟨S1x4096x5128, .f32⟩
  | .hbm, ⟨5, _⟩ => ⟨S2048x5128, .f32⟩
  | .hbm, ⟨6, _⟩ => ⟨S2048x3072, .f32⟩
  | .hbm, ⟨7, _⟩ => ⟨S2048x5128, .f32⟩
  | .hbm, ⟨8, _⟩ => ⟨S2048x2048, .f32⟩
  | .hbm, ⟨9, _⟩ => ⟨S2048x5120, .f32⟩
  | .hbm, ⟨10, _⟩ => ⟨S2048x5120, .bf16⟩
  | .hbm, ⟨11, _⟩ => ⟨S2048x5128, .f32⟩
  | .hbm, ⟨12, _⟩ => ⟨S2048x8, .f32⟩
  | .hbm, ⟨13, _⟩ => ⟨S_, .i32⟩
  | .hbm, ⟨14, _⟩ => ⟨S_, .f32⟩
  | .hbm, ⟨15, _⟩ => ⟨S2048x128, .f32⟩
  | .hbm, ⟨16, _⟩ => ⟨S2048x128, .bf16⟩
  | .hbm, ⟨17, _⟩ => ⟨S4096x5128, .f32⟩
  | .hbm, ⟨18, _⟩ => ⟨S4096x3072, .f32⟩
  | .hbm, ⟨19, _⟩ => ⟨S4096x5128, .f32⟩
  | .hbm, ⟨20, _⟩ => ⟨S4096x2048, .f32⟩
  | .hbm, ⟨21, _⟩ => ⟨S4096x5120, .f32⟩
  | .hbm, ⟨22, _⟩ => ⟨S4096x5120, .bf16⟩
  | .hbm, ⟨23, _⟩ => ⟨S4096x5128, .f32⟩
  | .hbm, ⟨24, _⟩ => ⟨S4096x8, .f32⟩
  | .hbm, ⟨25, _⟩ => ⟨S_, .i32⟩
  | .hbm, ⟨26, _⟩ => ⟨S_, .f32⟩
  | .hbm, ⟨27, _⟩ => ⟨S4096x128, .f32⟩
  | .hbm, ⟨28, _⟩ => ⟨S4096x128, .bf16⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S512x128, .bf16⟩
  | .local _ .vmem, ⟨5, _⟩ => ⟨S512x128, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S2048x128, .bf16⟩
  | .local _ .vmem, ⟨12, _⟩ => ⟨S512x2048, .f32⟩
  | .local _ .vmem, ⟨13, _⟩ => ⟨S512x2048, .f32⟩
  | .local _ .vmem, ⟨14, _⟩ => ⟨S1x2048, .f32⟩
  | .local _ .vmem, ⟨15, _⟩ => ⟨S512x2048, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_0 : Ref sig .tc := ⟨.hbm, 25, rfl⟩
abbrev main_call1_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![8, 5], ![false, false]⟩

def k0_cond3 (i : grid0.Coords) : BitVec 1 :=
  let arg1 : BitVec 32 := BitVec.ofNat 32 (i 1).val
  let c4_i32_3 : BitVec 32 := 4#32
  let v8 : BitVec 1 := Scalar.cmpi .eq arg1 c4_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_29 : BitVec 32 := 0#32
  let v56 : BitVec 1 := Scalar.cmpi .eq arg0 c0_i32_29
  let v57 : BitVec 32 := Scalar.extui v56
  let c0_i32_30 : BitVec 32 := 0#32
  let v58 : BitVec 1 := Scalar.cmpi .ne v57 c0_i32_30
  v58

def k0_cond5 (i : grid0.Coords) : BitVec 1 :=
  let arg0 : BitVec 32 := BitVec.ofNat 32 (i 0).val
  let c0_i32_31 : BitVec 32 := 0#32
  let v59 : BitVec 1 := Scalar.cmpi .sgt arg0 c0_i32_31
  let v60 : BitVec 32 := Scalar.extui v59
  let c0_i32_32 : BitVec 32 := 0#32
  let v61 : BitVec 1 := Scalar.cmpi .ne v60 c0_i32_32
  v61

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== InDxRIdeal.lean ====
abbrev S1x4096x2048 : Shape := ⟨3, ![1, 4096, 2048]⟩
abbrev S1x2048 : Shape := ⟨2, ![1, 2048]⟩
abbrev S1x2048x5128 : Shape := ⟨3, ![1, 2048, 5128]⟩
abbrev S1x4096x5128 : Shape := ⟨3, ![1, 4096, 5128]⟩
abbrev S2048 : Shape := ⟨1, ![2048]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩
abbrev S2048x5128 : Shape := ⟨2, ![2048, 5128]⟩
abbrev S4096 : Shape := ⟨1, ![4096]⟩
abbrev S4096x2048 : Shape := ⟨2, ![4096, 2048]⟩

abbrev nBuf : Space → Nat
  | .hbm => 58
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x2048, .f32⟩
  | .hbm, ⟨2, _⟩ => ⟨S1x2048x5128, .f32⟩
  | .hbm, ⟨3, _⟩ => ⟨S1x4096x2048, .f32⟩
  | .hbm, ⟨4, _⟩ => ⟨S1x4096x5128, .f32⟩
  | .hbm, ⟨5, _⟩ => ⟨S2048, .f32⟩
  | .hbm, ⟨6, _⟩ => ⟨S1x4096x2048, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x2048, .f32⟩
  | .hbm, ⟨22, _⟩ => ⟨S1x4096x2048, .f32⟩
  | .hbm, ⟨23, _⟩ => ⟨S1x1x2048, .f32⟩
  | .hbm, ⟨24, _⟩ => ⟨S1x4096x2048, .f32⟩
  | .hbm, ⟨25, _⟩ => ⟨S1x4096x2048, .f32⟩
  | .hbm, ⟨26, _⟩ => ⟨S2048x5128, .f32⟩
  | .hbm, ⟨27, _⟩ => ⟨S1x4096x5128, .f32⟩
  | .hbm, ⟨28, _⟩ => ⟨S1x4096x2048, .f32⟩
  | .hbm, ⟨29, _⟩ => ⟨S1x4096x2048, .f32⟩
  | .hbm, ⟨30, _⟩ => ⟨S_, .f32⟩
  | .hbm, ⟨31, _⟩ => ⟨S1x2048, .f32⟩
  | .hbm, ⟨32, _⟩ => ⟨S1x1x2048, .f32⟩
  | .hbm, ⟨33, _⟩ => ⟨S1x4096x2048, .f32⟩
  | .hbm, ⟨34, _⟩ => ⟨S1x4096x2048, .f32⟩
  | .hbm, ⟨35, _⟩ => ⟨S_, .f32⟩
  | .hbm, ⟨36, _⟩ => ⟨S2048, .f32⟩
  | .hbm, ⟨37, _⟩ => ⟨S1x4096x2048, .f32⟩
  | .hbm, ⟨38, _⟩ => ⟨S_, .f32⟩
  | .hbm, ⟨39, _⟩ => ⟨S1x4096, .f32⟩
  | .hbm, ⟨40, _⟩ => ⟨S1x4096x1, .f32⟩
  | .hbm, ⟨41, _⟩ => ⟨S1x4096x2048, .f32⟩
  | .hbm, ⟨42, _⟩ => ⟨S1x4096x2048, .f32⟩
  | .hbm, ⟨43, _⟩ => ⟨S1x4096x2048, .f32⟩
  | .hbm, ⟨44, _⟩ => ⟨S1x4096x1, .f32⟩
  | .hbm, ⟨45, _⟩ => ⟨S_, .f32⟩
  | .hbm, ⟨46, _⟩ => ⟨S1x4096x1, .f32⟩
  | .hbm, ⟨47, _⟩ => ⟨S1x4096x1, .f32⟩
  | .hbm, ⟨48, _⟩ => ⟨S_, .f32⟩
  | .hbm, ⟨49, _⟩ => ⟨S4096, .f32⟩
  | .hbm, ⟨50, _⟩ => ⟨S1x4096, .f32⟩
  | .hbm, ⟨51, _⟩ => ⟨S1x4096x2048, .f32⟩
  | .hbm, ⟨52, _⟩ => ⟨S1x4096x2048, .f32⟩
  | .hbm, ⟨53, _⟩ => ⟨S1x4096x2048, .f32⟩
  | .hbm, ⟨54, _⟩ => ⟨S1x4096x2048, .f32⟩
  | .hbm, ⟨55, _⟩ => ⟨S1x4096x2048, .f32⟩
  | .hbm, ⟨56, _⟩ => ⟨S1x2048, .f32⟩
  | .hbm, ⟨57, _⟩ => ⟨S4096x2048, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== FfOneDxK.lean ====
abbrev S1x4096x2048 : Shape := ⟨3, ![1, 4096, 2048]⟩
abbrev S1x2048 : Shape := ⟨2, ![1, 2048]⟩
abbrev S1x2048x8192 : Shape := ⟨3, ![1, 2048, 8192]⟩
abbrev S1x4096x8192 : Shape := ⟨3, ![1, 4096, 8192]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4096x8192 : Shape := ⟨2, ![4096, 8192]⟩
abbrev S4096x2048 : Shape := ⟨2, ![4096, 2048]⟩
abbrev S512x1024 : Shape := ⟨2, ![512, 1024]⟩
abbrev S1x2048x1024 : Shape := ⟨3, ![1, 2048, 1024]⟩
abbrev S512x2048 : Shape := ⟨2, ![512, 2048]⟩
abbrev S2048x1024 : Shape := ⟨2, ![2048, 1024]⟩
abbrev S512 : Shape := ⟨1, ![512]⟩
abbrev S512x1 : Shape := ⟨2, ![512, 1]⟩
abbrev S2048 : Shape := ⟨1, ![2048]⟩

abbrev nBuf : Space → Nat
  | .hbm => 16
  | .vmem => 15
  | .smem => 0
  | _ => 0

abbrev bufTy : (tb : Table) → Fin (tcTables nBuf tb) → BufTy
  | .hbm, ⟨0, _⟩ => ⟨S1x4096x2048, .f32⟩
  | .hbm, ⟨1, _⟩ => ⟨S1x2048, .f32⟩
  | .hbm, ⟨2, _⟩ => ⟨S1x2048x8192, .f32⟩
  | .hbm, ⟨3, _⟩ => ⟨S1x4096x2048, .f32⟩
  | .hbm, ⟨4, _⟩ => ⟨S1x4096x8192, .f32⟩
  | .hbm, ⟨5, _⟩ => ⟨S2048x8192, .f32⟩
  | .hbm, ⟨6, _⟩ => ⟨S2048x8x1024, .f32⟩
  | .hbm, ⟨7, _⟩ => ⟨S8x2048x1024, .f32⟩
  | .hbm, ⟨8, _⟩ => ⟨S8x2048x1024, .bf16⟩
  | .hbm, ⟨9, _⟩ => ⟨S4096x8192, .f32⟩
  | .hbm, ⟨10, _⟩ => ⟨S4096x8192, .bf16⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .bf16⟩
  | .hbm, ⟨15, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | .local _ .vmem, ⟨14, _⟩ => ⟨S512x2048, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32_3 : BitVec 32 := 7#32
  let v8 : BitVec 1 := Scalar.cmpi .eq arg1 c7_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_27 : BitVec 32 := 0#32
  let v52 : BitVec 1 := Scalar.cmpi .eq arg0 c0_i32_27
  let v53 : BitVec 32 := Scalar.extui v52
  let c0_i32_28 : BitVec 32 := 0#32
  let v54 : BitVec 1 := Scalar.cmpi .ne v53 c0_i32_28
  v54

def k0_cond5 (i : grid0.Coords) : BitVec 1 :=
  let arg0 : BitVec 32 := BitVec.ofNat 32 (i 0).val
  let c0_i32_29 : BitVec 32 := 0#32
  let v55 : BitVec 1 := Scalar.cmpi .sgt arg0 c0_i32_29
  let v56 : BitVec 32 := Scalar.extui v55
  let c0_i32_30 : BitVec 32 := 0#32
  let v57 : BitVec 1 := Scalar.cmpi .ne v56 c0_i32_30
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== FfOneDxRIdeal.lean ====
abbrev S1x4096x2048 : Shape := ⟨3, ![1, 4096, 2048]⟩
abbrev S1x2048 : Shape := ⟨2, ![1, 2048]⟩
abbrev S1x2048x8192 : Shape := ⟨3, ![1, 2048, 8192]⟩
abbrev S1x4096x8192 : Shape := ⟨3, ![1, 4096, 8192]⟩
abbrev S2048 : Shape := ⟨1, ![2048]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩
abbrev S2048x8192 : Shape := ⟨2, ![2048, 8192]⟩
abbrev S4096 : Shape := ⟨1, ![4096]⟩
abbrev S4096x2048 : Shape := ⟨2, ![4096, 2048]⟩

abbrev nBuf : Space → Nat
  | .hbm => 60
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x2048, .f32⟩
  | .hbm, ⟨2, _⟩ => ⟨S1x2048x8192, .f32⟩
  | .hbm, ⟨3, _⟩ => ⟨S1x4096x2048, .f32⟩
  | .hbm, ⟨4, _⟩ => ⟨S1x4096x8192, .f32⟩
  | .hbm, ⟨5, _⟩ => ⟨S2048, .f32⟩
  | .hbm, ⟨6, _⟩ => ⟨S1x4096x2048, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x2048, .f32⟩
  | .hbm, ⟨22, _⟩ => ⟨S1x4096x2048, .f32⟩
  | .hbm, ⟨23, _⟩ => ⟨S1x1x2048, .f32⟩
  | .hbm, ⟨24, _⟩ => ⟨S1x4096x2048, .f32⟩
  | .hbm, ⟨25, _⟩ => ⟨S1x4096x2048, .f32⟩
  | .hbm, ⟨26, _⟩ => ⟨S2048x8192, .f32⟩
  | .hbm, ⟨27, _⟩ => ⟨S1x4096x8192, .f32⟩
  | .hbm, ⟨28, _⟩ => ⟨S1x4096x2048, .f32⟩
  | .hbm, ⟨29, _⟩ => ⟨S1x4096x2048, .f32⟩
  | .hbm, ⟨30, _⟩ => ⟨S_, .f32⟩
  | .hbm, ⟨31, _⟩ => ⟨S1x2048, .f32⟩
  | .hbm, ⟨32, _⟩ => ⟨S1x1x2048, .f32⟩
  | .hbm, ⟨33, _⟩ => ⟨S1x4096x2048, .f32⟩
  | .hbm, ⟨34, _⟩ => ⟨S1x4096x2048, .f32⟩
  | .hbm, ⟨35, _⟩ => ⟨S_, .f32⟩
  | .hbm, ⟨36, _⟩ => ⟨S2048, .f32⟩
  | .hbm, ⟨37, _⟩ => ⟨S1x4096x2048, .f32⟩
  | .hbm, ⟨38, _⟩ => ⟨S_, .f32⟩
  | .hbm, ⟨39, _⟩ => ⟨S1x4096, .f32⟩
  | .hbm, ⟨40, _⟩ => ⟨S1x4096x1, .f32⟩
  | .hbm, ⟨41, _⟩ => ⟨S1x4096x2048, .f32⟩
  | .hbm, ⟨42, _⟩ => ⟨S1x4096x2048, .f32⟩
  | .hbm, ⟨43, _⟩ => ⟨S1x4096x2048, .f32⟩
  | .hbm, ⟨44, _⟩ => ⟨S1x4096x1, .f32⟩
  | .hbm, ⟨45, _⟩ => ⟨S_, .f32⟩
  | .hbm, ⟨46, _⟩ => ⟨S1x4096x1, .f32⟩
  | .hbm, ⟨47, _⟩ => ⟨S1x4096x1, .f32⟩
  | .hbm, ⟨48, _⟩ => ⟨S_, .f32⟩
  | .hbm, ⟨49, _⟩ => ⟨S4096, .f32⟩
  | .hbm, ⟨50, _⟩ => ⟨S1x4096, .f32⟩
  | .hbm, ⟨51, _⟩ => ⟨S1x4096x2048, .f32⟩
  | .hbm, ⟨52, _⟩ => ⟨S1x4096x2048, .f32⟩
  | .hbm, ⟨53, _⟩ => ⟨S1x4096x2048, .f32⟩
  | .hbm, ⟨54, _⟩ => ⟨S1x4096x2048, .f32⟩
  | .hbm, ⟨55, _⟩ => ⟨S1x4096x2048, .f32⟩
  | .hbm, ⟨56, _⟩ => ⟨S1x2048, .f32⟩
  | .hbm, ⟨57, _⟩ => ⟨S4096x2048, .f32⟩
  | .hbm, ⟨58, _⟩ => ⟨S4096x2048, .f32⟩
  | .hbm, ⟨59, _⟩ => ⟨S4096x2048, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== HeadK.lean ====
abbrev S1x4096x8192 : Shape := ⟨3, ![1, 4096, 8192]⟩
abbrev S1x8192x2048 : Shape := ⟨3, ![1, 8192, 2048]⟩
abbrev S1x4096x2048 : Shape := ⟨3, ![1, 4096, 2048]⟩
abbrev S2048 : Shape := ⟨1, ![2048]⟩
abbrev S4096x8192 : Shape := ⟨2, ![4096, 8192]⟩
abbrev S8192x2048 : Shape := ⟨2, ![8192, 2048]⟩
abbrev S1x2048 : Shape := ⟨2, ![1, 2048]⟩
abbrev S4096x2048 : Shape := ⟨2, ![4096, 2048]⟩
abbrev S1x128 : Shape := ⟨2, ![1, 128]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 16
  | .vmem => 16
  | .smem => 0
  | _ => 0

abbrev bufTy : (tb : Table) → Fin (tcTables nBuf tb) → BufTy
  | .hbm, ⟨0, _⟩ => ⟨S1x4096x8192, .f32⟩
  | .hbm, ⟨1, _⟩ => ⟨S1x8192x2048, .f32⟩
  | .hbm, ⟨2, _⟩ => ⟨S1x4096x2048, .f32⟩
  | .hbm, ⟨3, _⟩ => ⟨S1x4096x2048, .f32⟩
  | .hbm, ⟨4, _⟩ => ⟨S2048, .f32⟩
  | .hbm, ⟨5, _⟩ => ⟨S4096x8192, .f32⟩
  | .hbm, ⟨6, _⟩ => ⟨S4096x8192, .bf16⟩
  | .hbm, ⟨7, _⟩ => ⟨S8192x2048, .f32⟩
  | .hbm, ⟨8, _⟩ => ⟨S8192x2048, .bf16⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .bf16⟩
  | .hbm, ⟨14, _⟩ => ⟨S1x2048, .f32⟩
  | .hbm, ⟨15, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | .local _ .vmem, ⟨14, _⟩ => ⟨S1x128, .f32⟩
  | .local _ .vmem, ⟨15, _⟩ => ⟨S512x2048, .f32⟩
  | _, _ => ⟨S1x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32_3 : BitVec 32 := 7#32
  let v8 : BitVec 1 := Scalar.cmpi .eq arg1 c7_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_31 : BitVec 32 := 0#32
  let v73 : BitVec 1 := Scalar.cmpi .eq arg0 c0_i32_31
  let v74 : BitVec 32 := Scalar.extui v73
  let c0_i32_32 : BitVec 32 := 0#32
  let v75 : BitVec 1 := Scalar.cmpi .ne v74 c0_i32_32
  v75

def k0_cond5 (i : grid0.Coords) : BitVec 1 :=
  let arg0 : BitVec 32 := BitVec.ofNat 32 (i 0).val
  let c0_i32_33 : BitVec 32 := 0#32
  let v76 : BitVec 1 := Scalar.cmpi .sgt arg0 c0_i32_33
  let v77 : BitVec 32 := Scalar.extui v76
  let c0_i32_34 : BitVec 32 := 0#32
  let v78 : BitVec 1 := Scalar.cmpi .ne v77 c0_i32_34
  v78

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== HeadRIdeal.lean ====
abbrev S1x4096x8192 : Shape := ⟨3, ![1, 4096, 8192]⟩
abbrev S1x8192x2048 : Shape := ⟨3, ![1, 8192, 2048]⟩
abbrev S1x4096x2048 : Shape := ⟨3, ![1, 4096, 2048]⟩
abbrev S2048 : Shape := ⟨1, ![2048]⟩
abbrev S8192x2048 : Shape := ⟨2, ![8192, 2048]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩
abbrev S1x2048 : Shape := ⟨2, ![1, 2048]⟩
abbrev S4096 : Shape := ⟨1, ![4096]⟩
abbrev S4096x2048 : Shape := ⟨2, ![4096, 2048]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S1x4096x8192, .f32⟩
  | .hbm, ⟨1, _⟩ => ⟨S1x8192x2048, .f32⟩
  | .hbm, ⟨2, _⟩ => ⟨S1x4096x2048, .f32⟩
  | .hbm, ⟨3, _⟩ => ⟨S1x4096x2048, .f32⟩
  | .hbm, ⟨4, _⟩ => ⟨S2048, .f32⟩
  | .hbm, ⟨5, _⟩ => ⟨S1x4096x8192, .f32⟩
  | .hbm, ⟨6, _⟩ => ⟨S8192x2048, .f32⟩
  | .hbm, ⟨7, _⟩ => ⟨S1x4096x2048, .f32⟩
  | .hbm, ⟨8, _⟩ => ⟨S1x4096x2048, .f32⟩
  | .hbm, ⟨9, _⟩ => ⟨S1x4096x2048, .f32⟩
  | .hbm, ⟨10, _⟩ => ⟨S_, .f32⟩
  | .hbm, ⟨11, _⟩ => ⟨S1x4096, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S_, .f32⟩
  | .hbm, ⟨17, _⟩ => ⟨S1x4096x1, .f32⟩
  | .hbm, ⟨18, _⟩ => ⟨S1x4096x1, .f32⟩
  | .hbm, ⟨19, _⟩ => ⟨S1x4096x1, .f32⟩
  | .hbm, ⟨20, _⟩ => ⟨S1x4096x1, .f32⟩
  | .hbm, ⟨21, _⟩ => ⟨S_, .f32⟩
  | .hbm, ⟨22, _⟩ => ⟨S1x4096x1, .f32⟩
  | .hbm, ⟨23, _⟩ => ⟨S1x4096x1, .f32⟩
  | .hbm, ⟨24, _⟩ => ⟨S1x4096x2048, .f32⟩
  | .hbm, ⟨25, _⟩ => ⟨S1x4096x2048, .f32⟩
  | .hbm, ⟨26, _⟩ => ⟨S1x1x2048, .f32⟩
  | .hbm, ⟨27, _⟩ => ⟨S1x4096x2048, .f32⟩
  | .hbm, ⟨28, _⟩ => ⟨S1x4096x2048, .f32⟩
  | .hbm, ⟨29, _⟩ => ⟨S1x4096x2048, .f32⟩
  | .hbm, ⟨30, _⟩ => ⟨S1x4096x2048, .f32⟩
  | .hbm, ⟨31, _⟩ => ⟨S_, .f32⟩
  | .hbm, ⟨32, _⟩ => ⟨S1x4096x2048, .f32⟩
  | .hbm, ⟨33, _⟩ => ⟨S1x4096x2048, .f32⟩
  | .hbm, ⟨34, _⟩ => ⟨S_, .f32⟩
  | .hbm, ⟨35, _⟩ => ⟨S1x4096, .f32⟩
  | .hbm, ⟨36, _⟩ => ⟨S_, .f32⟩
  | .hbm, ⟨37, _⟩ => ⟨S1x4096, .f32⟩
  | .hbm, ⟨38, _⟩ => ⟨S1x4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1x4096, .f32⟩
  | .hbm, ⟨47, _⟩ => ⟨S_, .f32⟩
  | .hbm, ⟨48, _⟩ => ⟨S1x4096, .f32⟩
  | .hbm, ⟨49, _⟩ => ⟨S1x4096, .f32⟩
  | .hbm, ⟨50, _⟩ => ⟨S1x4096x2048, .f32⟩
  | .hbm, ⟨51, _⟩ => ⟨S1x4096x2048, .f32⟩
  | .hbm, ⟨52, _⟩ => ⟨S1x4096x2048, .f32⟩
  | .hbm, ⟨53, _⟩ => ⟨S_, .f32⟩
  | .hbm, ⟨54, _⟩ => ⟨S1x2048, .f32⟩
  | .hbm, ⟨55, _⟩ => ⟨S1x1x2048, .f32⟩
  | .hbm, ⟨56, _⟩ => ⟨S1x4096x2048, .f32⟩
  | .hbm, ⟨57, _⟩ => ⟨S1x4096x2048, .f32⟩
  | .hbm, ⟨58, _⟩ => ⟨S_, .f32⟩
  | .hbm, ⟨59, _⟩ => ⟨S2048, .f32⟩
  | .hbm, ⟨60, _⟩ => ⟨S1x4096x2048, .f32⟩
  | .hbm, ⟨61, _⟩ => ⟨S_, .f32⟩
  | .hbm, ⟨62, _⟩ => ⟨S1x4096, .f32⟩
  | .hbm, ⟨63, _⟩ => ⟨S1x4096x1, .f32⟩
  | .hbm, ⟨64, _⟩ => ⟨S1x4096x2048, .f32⟩
  | .hbm, ⟨65, _⟩ => ⟨S1x4096x2048, .f32⟩
  | .hbm, ⟨66, _⟩ => ⟨S1x4096x1, .f32⟩
  | .hbm, ⟨67, _⟩ => ⟨S_, .f32⟩
  | .hbm, ⟨68, _⟩ => ⟨S1x4096x1, .f32⟩
  | .hbm, ⟨69, _⟩ => ⟨S1x4096x1, .f32⟩
  | .hbm, ⟨70, _⟩ => ⟨S_, .f32⟩
  | .hbm, ⟨71, _⟩ => ⟨S4096, .f32⟩
  | .hbm, ⟨72, _⟩ => ⟨S1x4096, .f32⟩
  | .hbm, ⟨73, _⟩ => ⟨S1x4096x2048, .f32⟩
  | .hbm, ⟨74, _⟩ => ⟨S1x4096x2048, .f32⟩
  | .hbm, ⟨75, _⟩ => ⟨S1x4096x2048, .f32⟩
  | .hbm, ⟨76, _⟩ => ⟨S1x4096x2048, .f32⟩
  | .hbm, ⟨77, _⟩ => ⟨S1x4096x2048, .f32⟩
  | .hbm, ⟨78, _⟩ => ⟨S4096x2048, .f32⟩
  | .hbm, ⟨79, _⟩ => ⟨S4096x2048, .f32⟩
  | .hbm, ⟨80, _⟩ => ⟨S4096x2048, .bf16⟩
  | .hbm, ⟨81, _⟩ => ⟨S1x2048, .f32⟩
  | .hbm, ⟨82, _⟩ => ⟨S1x128, .f32⟩
  | _, _ => ⟨S1x4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== GateK.lean ====
abbrev S1x4096x8 : Shape := ⟨3, ![1, 4096, 8]⟩
abbrev S1x8 : Shape := ⟨2, ![1, 8]⟩
abbrev S1x8x4096 : Shape := ⟨3, ![1, 8, 4096]⟩
abbrev S4096x8 : Shape := ⟨2, ![4096, 8]⟩
abbrev S_ : Shape := ⟨0, ![]⟩
abbrev S4096x128 : Shape := ⟨2, ![4096, 128]⟩
abbrev S1x128 : Shape := ⟨2, ![1, 128]⟩
abbrev S8x4096 : Shape := ⟨2, ![8, 4096]⟩
abbrev S128x128 : Shape := ⟨2, ![128, 128]⟩
abbrev S8x1 : Shape := ⟨2, ![8, 1]⟩
abbrev S8x128 : Shape := ⟨2, ![8, 128]⟩
abbrev S8 : Shape := ⟨1, ![8]⟩
abbrev S120x128 : Shape := ⟨2, ![120, 128]⟩
abbrev S128 : Shape := ⟨1, ![128]⟩

abbrev nBuf : Space → Nat
  | .hbm => 13
  | .vmem => 5
  | .smem => 0
  | _ => 0

abbrev bufTy : (tb : Table) → Fin (tcTables nBuf tb) → BufTy
  | .hbm, ⟨0, _⟩ => ⟨S1x4096x8, .f32⟩
  | .hbm, ⟨1, _⟩ => ⟨S1x8, .f32⟩
  | .hbm, ⟨2, _⟩ => ⟨S1x8x4096, .f32⟩
  | .hbm, ⟨3, _⟩ => ⟨S4096x8, .f32⟩
  | .hbm, ⟨4, _⟩ => ⟨S_, .i32⟩
  | .hbm, ⟨5, _⟩ => ⟨S_, .f32⟩
  | .hbm, ⟨6, _⟩ => ⟨S4096x128, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S8x4096, .f32⟩
  | .hbm, ⟨11, _⟩ => ⟨S4096x128, .bf16⟩
  | .hbm, ⟨12, _⟩ => ⟨S1x128, .f32⟩
  | .local _ .vmem, ⟨0, _⟩ => ⟨S8x4096, .f32⟩
  | .local _ .vmem, ⟨1, _⟩ => ⟨S4096x128, .f32⟩
  | .local _ .vmem, ⟨2, _⟩ => ⟨S1x128, .f32⟩
  | .local _ .vmem, ⟨3, _⟩ => ⟨S4096x128, .bf16⟩
  | .local _ .vmem, ⟨4, _⟩ => ⟨S1x128, .f32⟩
  | _, _ => ⟨S1x4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== GateRIdeal.lean ====
abbrev S1x4096x8 : Shape := ⟨3, ![1, 4096, 8]⟩
abbrev S1x8 : Shape := ⟨2, ![1, 8]⟩
abbrev S1x8x4096 : Shape := ⟨3, ![1, 8, 4096]⟩
abbrev S8 : Shape := ⟨1, ![8]⟩
abbrev S1x1x8 : Shape := ⟨3, ![1, 1, 8]⟩
abbrev S_ : Shape := ⟨0, ![]⟩
abbrev S4096x8 : Shape := ⟨2, ![4096, 8]⟩
abbrev S4096x128 : Shape := ⟨2, ![4096, 128]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S1x4096x8, .f32⟩
  | .hbm, ⟨1, _⟩ => ⟨S1x8, .f32⟩
  | .hbm, ⟨2, _⟩ => ⟨S1x8x4096, .f32⟩
  | .hbm, ⟨3, _⟩ => ⟨S8, .f32⟩
  | .hbm, ⟨4, _⟩ => ⟨S1x1x8, .f32⟩
  | .hbm, ⟨5, _⟩ => ⟨S1x4096x8, .f32⟩
  | .hbm, ⟨6, _⟩ => ⟨S1x4096x8, .f32⟩
  | .hbm, ⟨7, _⟩ => ⟨S1x4096x8, .f32⟩
  | .hbm, ⟨8, _⟩ => ⟨S_, .f32⟩
  | .hbm, ⟨9, _⟩ => ⟨S1x4096x8, .f32⟩
  | .hbm, ⟨10, _⟩ => ⟨S1x4096x8, .f32⟩
  | .hbm, ⟨11, _⟩ => ⟨S1x4096x8, .f32⟩
  | .hbm, ⟨12, _⟩ => ⟨S1x4096x8, .f32⟩
  | .hbm, ⟨13, _⟩ => ⟨S1x4096x8, .i1⟩
  | .hbm, ⟨14, _⟩ => ⟨S1x4096x8, .f32⟩
  | .hbm, ⟨15, _⟩ => ⟨S1x4096x8, .f32⟩
  | .hbm, ⟨16, _⟩ => ⟨S1x4096x8, .f32⟩
  | .hbm, ⟨17, _⟩ => ⟨S1x4096x8, .f32⟩
  | .hbm, ⟨18, _⟩ => ⟨S1x4096x8, .f32⟩
  | .hbm, ⟨19, _⟩ => ⟨S1x4096x8, .f32⟩
  | .hbm, ⟨20, _⟩ => ⟨S1x4096x8, .f32⟩
  | .hbm, ⟨21, _⟩ => ⟨S1x4096x8, .f32⟩
  | .hbm, ⟨22, _⟩ => ⟨S_, .f32⟩
  | .hbm, ⟨23, _⟩ => ⟨S1x4096x8, .f32⟩
  | .hbm, ⟨24, _⟩ => ⟨S1x4096x8, .i1⟩
  | .hbm, ⟨25, _⟩ => ⟨S_, .f32⟩
  | .hbm, ⟨26, _⟩ => ⟨S1x4096x8, .f32⟩
  | .hbm, ⟨27, _⟩ => ⟨S1x4096x8, .f32⟩
  | .hbm, ⟨28, _⟩ => ⟨S_, .f32⟩
  | .hbm, ⟨29, _⟩ => ⟨S1x4096x8, .f32⟩
  | .hbm, ⟨30, _⟩ => ⟨S1x4096x8, .i1⟩
  | .hbm, ⟨31, _⟩ => ⟨S_, .f32⟩
  | .hbm, ⟨32, _⟩ => ⟨S1x4096x8, .f32⟩
  | .hbm, ⟨33, _⟩ => ⟨S1x4096x8, .f32⟩
  | .hbm, ⟨34, _⟩ => ⟨S1x4096x8, .f32⟩
  | .hbm, ⟨35, _⟩ => ⟨S1x4096x8, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1x4096x8, .f32⟩
  | .hbm, ⟨44, _⟩ => ⟨S1x4096x8, .i1⟩
  | .hbm, ⟨45, _⟩ => ⟨S_, .f32⟩
  | .hbm, ⟨46, _⟩ => ⟨S1x4096x8, .f32⟩
  | .hbm, ⟨47, _⟩ => ⟨S1x4096x8, .f32⟩
  | .hbm, ⟨48, _⟩ => ⟨S1x4096x8, .f32⟩
  | .hbm, ⟨49, _⟩ => ⟨S1x4096x8, .f32⟩
  | .hbm, ⟨50, _⟩ => ⟨S1x4096x8, .f32⟩
  | .hbm, ⟨51, _⟩ => ⟨S_, .f32⟩
  | .hbm, ⟨52, _⟩ => ⟨S1x4096x8, .f32⟩
  | .hbm, ⟨53, _⟩ => ⟨S1x4096x8, .f32⟩
  | .hbm, ⟨54, _⟩ => ⟨S1x4096x8, .f32⟩
  | .hbm, ⟨55, _⟩ => ⟨S_, .f32⟩
  | .hbm, ⟨56, _⟩ => ⟨S_, .f32⟩
  | .hbm, ⟨57, _⟩ => ⟨S1x4096x8, .f32⟩
  | .hbm, ⟨58, _⟩ => ⟨S1x8x4096, .f32⟩
  | .hbm, ⟨59, _⟩ => ⟨S1x4096x8, .f32⟩
  | .hbm, ⟨60, _⟩ => ⟨S_, .f32⟩
  | .hbm, ⟨61, _⟩ => ⟨S_, .f32⟩
  | .hbm, ⟨62, _⟩ => ⟨S1x4096x8, .f32⟩
  | .hbm, ⟨63, _⟩ => ⟨S1x4096x8, .f32⟩
  | .hbm, ⟨64, _⟩ => ⟨S1x4096x8, .f32⟩
  | .hbm, ⟨65, _⟩ => ⟨S1x4096x8, .f32⟩
  | .hbm, ⟨66, _⟩ => ⟨S_, .f32⟩
  | .hbm, ⟨67, _⟩ => ⟨S1x8, .f32⟩
  | .hbm, ⟨68, _⟩ => ⟨S1x1x8, .f32⟩
  | .hbm, ⟨69, _⟩ => ⟨S_, .f32⟩
  | .hbm, ⟨70, _⟩ => ⟨S8, .f32⟩
  | .hbm, ⟨71, _⟩ => ⟨S1x8, .f32⟩
  | .hbm, ⟨72, _⟩ => ⟨S4096x8, .f32⟩
  | .hbm, ⟨73, _⟩ => ⟨S_, .i32⟩
  | .hbm, ⟨74, _⟩ => ⟨S_, .f32⟩
  | .hbm, ⟨75, _⟩ => ⟨S4096x128, .f32⟩
  | .hbm, ⟨76, _⟩ => ⟨S4096x128, .bf16⟩
  | .hbm, ⟨77, _⟩ => ⟨S_, .i32⟩
  | .hbm, ⟨78, _⟩ => ⟨S_, .f32⟩
  | .hbm, ⟨79, _⟩ => ⟨S1x128, .f32⟩
  | _, _ => ⟨S1x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v4_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v4_2 : Ref sig .tc := ⟨.hbm, 53, rfl⟩
abbrev main_v4_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_call2_call0_cst : Ref sig .tc := ⟨.hbm, 60, rfl⟩
abbrev main_call2_call0_v0 : Ref sig .tc := ⟨.hbm, 61, rfl⟩
abbrev main_v8 : Ref sig .tc := ⟨.hbm, 62, rfl⟩
abbrev main_call3_v0 : Ref sig .tc := ⟨.hbm, 63, rfl⟩
abbrev main_call3_v1 : Ref sig .tc := ⟨.hbm, 64, rfl⟩
abbrev main_v9 : Ref sig .tc := ⟨.hbm, 65, rfl⟩
abbrev main_cst : Ref sig .tc := ⟨.hbm, 66, rfl⟩
abbrev main_v10 : Ref sig .tc := ⟨.hbm, 67, rfl⟩
abbrev main_v11 : Ref sig .tc := ⟨.hbm, 68, rfl⟩
abbrev main_cst_0 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_c : Ref sig .tc := ⟨.hbm, 73, rfl⟩
abbrev main_call4_v0 : Ref sig .tc := ⟨.hbm, 74, rfl⟩
abbrev main_v15 : Ref sig .tc := ⟨.hbm, 75, rfl⟩
abbrev main_v16 : Ref sig .tc := ⟨.hbm, 76, rfl⟩
abbrev main_c_1 : Ref sig .tc := ⟨.hbm, 77, rfl⟩
abbrev main_call5_v0 : Ref sig .tc := ⟨.hbm, 78, rfl⟩
abbrev main_v17 : Ref sig .tc := ⟨.hbm, 79, rfl⟩

abbrev nD : Nat := 1
abbrev τ : Topo := Topo.v7x

variable {F : FTy → Type} [FloatOps F]
-- ==== AttnK.lean ====
abbrev S1x4096x5128 : Shape := ⟨3, ![1, 4096, 5128]⟩
abbrev S1x8x4096 : Shape := ⟨3, ![1, 8, 4096]⟩
abbrev S1x4096x1024 : Shape := ⟨3, ![1, 4096, 1024]⟩
abbrev S4096x5128 : Shape := ⟨2, ![4096, 5128]⟩
abbrev S4096x3072 : Shape := ⟨2, ![4096, 3072]⟩
abbrev S4096x2048 : Shape := ⟨2, ![4096, 2048]⟩
abbrev S4096x5120 : Shape := ⟨2, ![4096, 5120]⟩
abbrev S8x4096 : Shape := ⟨2, ![8, 4096]⟩
abbrev S_ : Shape := ⟨0, ![]⟩
abbrev S8x4x1x1024 : Shape := ⟨4, ![8, 4, 1, 1024]⟩
abbrev S4096x1024 : Shape := ⟨2, ![4096, 1024]⟩
abbrev S4096x8x128 : Shape := ⟨3, ![4096, 8, 128]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S4096x4096 : Shape := ⟨2, ![4096, 4096]⟩
abbrev S1x4096x4096 : Shape := ⟨3, ![1, 4096, 4096]⟩
abbrev S8x128x4096 : Shape := ⟨3, ![8, 128, 4096]⟩
abbrev S512x1024 : Shape := ⟨2, ![512, 1024]⟩
abbrev S8x512 : Shape := ⟨2, ![8, 512]⟩
abbrev S1024x128 : Shape := ⟨2, ![1024, 128]⟩
abbrev S512x128 : Shape := ⟨2, ![512, 128]⟩
abbrev S128x128 : Shape := ⟨2, ![128, 128]⟩
abbrev S8x128 : Shape := ⟨2, ![8, 128]⟩
abbrev S4096x128 : Shape := ⟨2, ![4096, 128]⟩
abbrev S1x4x1x1024 : Shape := ⟨4, ![1, 4, 1, 1024]⟩
abbrev S1x1x1x1024 : Shape := ⟨4, ![1, 1, 1, 1024]⟩
abbrev S1024x1 : Shape := ⟨2, ![1024, 1]⟩
abbrev S1024x1024 : Shape := ⟨2, ![1024, 1024]⟩
abbrev S1x1024 : Shape := ⟨2, ![1, 1024]⟩
abbrev S128x1024 : Shape := ⟨2, ![128, 1024]⟩
abbrev S128x1 : Shape := ⟨2, ![128, 1]⟩
abbrev S1024 : Shape := ⟨1, ![1024]⟩
abbrev S256x128 : Shape := ⟨2, ![256, 128]⟩
abbrev S256x1 : Shape := ⟨2, ![256, 1]⟩
abbrev S256x256 : Shape := ⟨2, ![256, 256]⟩
abbrev S1x256 : Shape := ⟨2, ![1, 256]⟩
abbrev S256 : Shape := ⟨1, ![256]⟩
abbrev S1x128 : Shape := ⟨2, ![1, 128]⟩
abbrev S1x1x1x256 : Shape := ⟨4, ![1, 1, 1, 256]⟩
abbrev S256x512 : Shape := ⟨2, ![256, 512]⟩
abbrev S1x512 : Shape := ⟨2, ![1, 512]⟩
abbrev S768x128 : Shape := ⟨2, ![768, 128]⟩
abbrev S256x768 : Shape := ⟨2, ![256, 768]⟩
abbrev S1x768 : Shape := ⟨2, ![1, 768]⟩
abbrev S256x1024 : Shape := ⟨2, ![256, 1024]⟩

abbrev nBuf : Space → Nat
  | .hbm => 84
  | .vmem => 50
  | .smem => 0
  | _ => 0

abbrev bufTy : (tb : Table) → Fin (tcTables nBuf tb) → BufTy
  | .hbm, ⟨0, _⟩ => ⟨S1x4096x5128, .f32⟩
  | .hbm, ⟨1, _⟩ => ⟨S1x8x4096, .f32⟩
  | .hbm, ⟨2, _⟩ => ⟨S1x4096x1024, .f32⟩
  | .hbm, ⟨3, _⟩ => ⟨S4096x5128, .f32⟩
  | .hbm, ⟨4, _⟩ => ⟨S4096x3072, .f32⟩
  | .hbm, ⟨5, _⟩ => ⟨S4096x5128, .f32⟩
  | .hbm, ⟨6, _⟩ => ⟨S4096x2048, .f32⟩
  | .hbm, ⟨7, _⟩ => ⟨S4096x5120, .f32⟩
  | .hbm, ⟨8, _⟩ => ⟨S4096x5120, .bf16⟩
  | .hbm, ⟨9, _⟩ => ⟨S8x4096, .f32⟩
  | .hbm, ⟨10, _⟩ => ⟨S_, .f32⟩
  | .hbm, ⟨11, _⟩ => ⟨S_, .f32⟩
  | .hbm, ⟨12, _⟩ => ⟨S8x4096, .f32⟩
  | .hbm, ⟨13, _⟩ => ⟨S8x4096, .f32⟩
  | .hbm, ⟨14, _⟩ => ⟨S8x4x1x1024, .f32⟩
  | .hbm, ⟨15, _⟩ => ⟨S4096x5128, .f32⟩
  | .hbm, ⟨16, _⟩ => ⟨S4096x1024, .f32⟩
  | .hbm, ⟨17, _⟩ => ⟨S4096x8x128, .f32⟩
  | .hbm, ⟨18, _⟩ => ⟨S4096x5128, .f32⟩
  | .hbm, ⟨19, _⟩ => ⟨S4096x1024, .f32⟩
  | .hbm, ⟨20, _⟩ => ⟨S4096x8x128, .f32⟩
  | .hbm, ⟨21, _⟩ => ⟨S4096x5128, .f32⟩
  | .hbm, ⟨22, _⟩ => ⟨S4096x1024, .f32⟩
  | .hbm, ⟨23, _⟩ => ⟨S4096x8x128, .f32⟩
  | .hbm, ⟨24, _⟩ => ⟨S8x4096x4096, .f32⟩
  | .hbm, ⟨25, _⟩ => ⟨S_, .f32⟩
  | .hbm, ⟨26, _⟩ => ⟨S8x4096x4096, .f32⟩
  | .hbm, ⟨27, _⟩ => ⟨S8x4096x4096, .f32⟩
  | .hbm, ⟨28, _⟩ => ⟨S8x4096, .f32⟩
  | .hbm, ⟨29, _⟩ => ⟨S8x4096x1, .f32⟩
  | .hbm, ⟨30, _⟩ => ⟨S8x4096x4096, .f32⟩
  | .hbm, ⟨31, _⟩ => ⟨S8x4096x4096, .f32⟩
  | .hbm, ⟨32, _⟩ => ⟨S8x4096, .f32⟩
  | .hbm, ⟨33, _⟩ => ⟨S8x1x4096, .f32⟩
  | .hbm, ⟨34, _⟩ => ⟨S8x4096x4096, .f32⟩
  | .hbm, ⟨35, _⟩ => ⟨S8x4096x4096, .f32⟩
  | .hbm, ⟨36, _⟩ => ⟨S_, .i1⟩
  | .hbm, ⟨37, _⟩ => ⟨S4096x4096, .i1⟩
  | .hbm, ⟨38, _⟩ => ⟨S4096x4096, .i32⟩
  | .hbm, ⟨39, _⟩ => ⟨S_, .i32⟩
  | .hbm, ⟨40, _⟩ => ⟨S4096x4096, .i32⟩
  | .hbm, ⟨41, _⟩ => ⟨S4096x4096, .i32⟩
  | .hbm, ⟨42, _⟩ => ⟨S4096x4096, .i32⟩
  | .hbm, ⟨43, _⟩ => ⟨S4096x4096, .i1⟩
  | .hbm, ⟨44, _⟩ => ⟨S_, .i1⟩
  | .hbm, ⟨45, _⟩ => ⟨S4096x4096, .i1⟩
  | .hbm, ⟨46, _⟩ => ⟨S4096x4096, .i1⟩
  | .hbm, ⟨47, _⟩ => ⟨S1x4096x4096, .i1⟩
  | .hbm, ⟨48, _⟩ => ⟨S_, .f32⟩
  | .hbm, ⟨49, _⟩ => ⟨S_, .f32⟩
  | .hbm, ⟨50, _⟩ => ⟨S8x4096x4096, .i1⟩
  | .hbm, ⟨51, _⟩ => ⟨S8x4096x4096, .f32⟩
  | .hbm, ⟨52, _⟩ => ⟨S8x4096x4096, .f32⟩
  | .hbm, ⟨53, _⟩ => ⟨S_, .f32⟩
  | .hbm, ⟨54, _⟩ => ⟨S8x4096, .f32⟩
  | .hbm, ⟨55, _⟩ => ⟨S8x4096x1, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S_, .f32⟩
  | .hbm, ⟨60, _⟩ => ⟨S8x4096, .f32⟩
  | .hbm, ⟨61, _⟩ => ⟨S8x4096x1, .f32⟩
  | .hbm, ⟨62, _⟩ => ⟨S8x4096x4096, .f32⟩
  | .hbm, ⟨63, _⟩ => ⟨S8x4096x4096, .f32⟩
  | .hbm, ⟨64, _⟩ => ⟨S8x128x4096, .f32⟩
  | .hbm, ⟨65, _⟩ => ⟨S4096x8x128, .f32⟩
  | .hbm, ⟨66, _⟩ => ⟨S4096x1024, .f32⟩
  | .hbm, ⟨67, _⟩ => ⟨S8x4096x1, .f32⟩
  | .hbm, ⟨68, _⟩ => ⟨S8x4096x1, .f32⟩
  | .hbm, ⟨69, _⟩ => ⟨S_, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S8x4x1x1024, .f32⟩
  | .hbm, ⟨74, _⟩ => ⟨S4096x1024, .f32⟩
  | .hbm, ⟨75, _⟩ => ⟨S8x4096, .f32⟩
  | .hbm, ⟨76, _⟩ => ⟨S8x4x1x1024, .f32⟩
  | .hbm, ⟨77, _⟩ => ⟨S4096x1024, .f32⟩
  | .hbm, ⟨78, _⟩ => ⟨S4096x1024, .bf16⟩
  | .hbm, ⟨79, _⟩ => ⟨S8x4x1x1024, .f32⟩
  | .hbm, ⟨80, _⟩ => ⟨S4096x1024, .f32⟩
  | .hbm, ⟨81, _⟩ => ⟨S4096x1024, .bf16⟩
  | .hbm, ⟨82, _⟩ => ⟨S4096x1024, .bf16⟩
  | .hbm, ⟨83, _⟩ => ⟨S8x4x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x512, .f32⟩
  | .local _ .vmem, ⟨5, _⟩ => ⟨S8x512, .f32⟩
  | .local _ .vmem, ⟨6, _⟩ => ⟨S1024x128, .bf16⟩
  | .local _ .vmem, ⟨7, _⟩ => ⟨S1024x128, .bf16⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S1024x128, .f32⟩
  | .local _ .vmem, ⟨13, _⟩ => ⟨S1024x128, .f32⟩
  | .local _ .vmem, ⟨14, _⟩ => ⟨S1x4x1x1024, .f32⟩
  | .local _ .vmem, ⟨15, _⟩ => ⟨S1x4x1x1024, .f32⟩
  | .local _ .vmem, ⟨16, _⟩ => ⟨S1x1x1x1024, .f32⟩
  | .local _ .vmem, ⟨17, _⟩ => ⟨S1x1x1x1024, .f32⟩
  | .local _ .vmem, ⟨18, _⟩ => ⟨S1x1x1x1024, .f32⟩
  | .local _ .vmem, ⟨19, _⟩ => ⟨S1x1x1x1024, .f32⟩
  | .local _ .vmem, ⟨20, _⟩ => ⟨S1024x128, .bf16⟩
  | .local _ .vmem, ⟨21, _⟩ => ⟨S1024x128, .bf16⟩
  | .local _ .vmem, ⟨22, _⟩ => ⟨S1x1x1x1024, .f32⟩
  | .local _ .vmem, ⟨23, _⟩ => ⟨S1x1x1x1024, .f32⟩
  | .local _ .vmem, ⟨24, _⟩ => ⟨S1024x1, .f32⟩
  | .local _ .vmem, ⟨25, _⟩ => ⟨S1024x128, .bf16⟩
  | .local _ .vmem, ⟨26, _⟩ => ⟨S1024x1, .f32⟩
  | .local _ .vmem, ⟨27, _⟩ => ⟨S4096x128, .bf16⟩
  | .local _ .vmem, ⟨28, _⟩ => ⟨S4096x128, .bf16⟩
  | .local _ .vmem, ⟨29, _⟩ => ⟨S1024x128, .bf16⟩
  | .local _ .vmem, ⟨30, _⟩ => ⟨S1024x128, .bf16⟩
  | .local _ .vmem, ⟨31, _⟩ => ⟨S1024x128, .bf16⟩
  | .local _ .vmem, ⟨32, _⟩ => ⟨S1024x128, .bf16⟩
  | .local _ .vmem, ⟨33, _⟩ => ⟨S4096x128, .f32⟩
  | .local _ .vmem, ⟨34, _⟩ => ⟨S4096x128, .f32⟩
  | .local _ .vmem, ⟨35, _⟩ => ⟨S1x4x1x1024, .f32⟩
  | .local _ .vmem, ⟨36, _⟩ => ⟨S1x4x1x1024, .f32⟩
  | .local _ .vmem, ⟨37, _⟩ => ⟨S1x4x1x1024, .f32⟩
  | .local _ .vmem, ⟨38, _⟩ => ⟨S1x4x1x1024, .f32⟩
  | .local _ .vmem, ⟨39, _⟩ => ⟨S1x4x1x1024, .f32⟩
  | .local _ .vmem, ⟨40, _⟩ => ⟨S1x4x1x1024, .f32⟩
  | .local _ .vmem, ⟨41, _⟩ => ⟨S1x4x1x1024, .f32⟩
  | .local _ .vmem, ⟨42, _⟩ => ⟨S1x4x1x1024, .f32⟩
  | .local _ .vmem, ⟨43, _⟩ => ⟨S1024x128, .bf16⟩
  | .local _ .vmem, ⟨44, _⟩ => ⟨S1024x128, .bf16⟩
  | .local _ .vmem, ⟨45, _⟩ => ⟨S1024x128, .bf16⟩
  | .local _ .vmem, ⟨46, _⟩ => ⟨S1024x128, .bf16⟩
  | .local _ .vmem, ⟨47, _⟩ => ⟨S1x1x1x1024, .f32⟩
  | .local _ .vmem, ⟨48, _⟩ => ⟨S1x1x1x1024, .f32⟩
  | .local _ .vmem, ⟨49, _⟩ => ⟨S1024x1, .f32⟩
  | _, _ => ⟨S1x4096x5128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_c : Ref sig .tc := ⟨.hbm, 36, rfl⟩
abbrev main_v31 : Ref sig .tc := ⟨.hbm, 37, rfl⟩
abbrev main_call0_v0 : Ref sig .tc := ⟨.hbm, 38, rfl⟩
abbrev main_call0_c : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_c_0 : Ref sig .tc := ⟨.hbm, 44, rfl⟩
abbrev main_call0_v5 : Ref sig .tc := ⟨.hbm, 45, rfl⟩
abbrev main_v32 : Ref sig .tc := ⟨.hbm, 46, rfl⟩
abbrev main_v33 : Ref sig .tc := ⟨.hbm, 47, rfl⟩
abbrev main_cst_1 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v34 : Ref sig .tc := ⟨.hbm, 52, rfl⟩
abbrev main_cst_2 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57_0 : Ref sig .tc := ⟨.hbm, 78, rfl⟩
abbrev main_v57_1 : Ref sig .tc := ⟨.hbm, 79, rfl⟩
abbrev main_v58 : Ref sig .tc := ⟨.hbm, 80, rfl⟩
abbrev main_v59_0 : Ref sig .tc := ⟨.hbm, 81, rfl⟩
abbrev main_v59_1 : Ref sig .tc := ⟨.hbm, 82, rfl⟩
abbrev main_v59_2 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc2_stg4_0 : Ref sig .tc := ⟨.vmem, 35, rfl⟩
abbrev cc2_stg4_1 : Ref sig .tc := ⟨.vmem, 36, rfl⟩
abbrev cc2_stg5_0 : Ref sig .tc := ⟨.vmem, 37, rfl⟩
abbrev cc2_stg5_1 : Ref sig .tc := ⟨.vmem, 38, rfl⟩
abbrev cc2_stg6_0 : Ref sig .tc := ⟨.vmem, 39, rfl⟩
abbrev cc2_stg6_1 : Ref sig .tc := ⟨.vmem, 40, rfl⟩
abbrev cc2_stg7_0 : Ref sig .tc := ⟨.vmem, 41, rfl⟩
abbrev cc2_stg7_1 : Ref sig .tc := ⟨.vmem, 42, rfl⟩
abbrev cc2_stg8_0 : Ref sig .tc := ⟨.vmem, 43, rfl⟩
abbrev cc2_stg8_1 : Ref sig .tc := ⟨.vmem, 44, rfl⟩
abbrev cc2_stg9_0 : Ref sig .tc := ⟨.vmem, 45, rfl⟩
abbrev cc2_stg9_1 : Ref sig .tc := ⟨.vmem, 46, rfl⟩
abbrev cc2_stg10_0 : Ref sig .tc := ⟨.vmem, 47, rfl⟩
abbrev cc2_stg10_1 : Ref sig .tc := ⟨.vmem, 48, rfl⟩
abbrev cc2_scratch0 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc2_sem6_0 : DmaSem sig := 36
abbrev cc2_sem6_1 : DmaSem sig := 37
abbrev cc2_sem7_0 : DmaSem sig := 38
abbrev cc2_sem7_1 : DmaSem sig := 39
abbrev cc2_sem8_0 : DmaSem sig := 40
abbrev cc2_sem8_1 : DmaSem sig := 41
abbrev cc2_sem9_0 : DmaSem sig := 42
abbrev cc2_sem9_1 : DmaSem sig := 43
abbrev cc2_sem10_0 : DmaSem sig := 44
abbrev cc2_sem10_1 : DmaSem sig := 45

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_off1 (i : grid1.Coords) : Fin 4 → Nat :=
  let c0 : Index := 0#32
  let arg1 : BitVec 32 := BitVec.ofNat 32 (i 1).val
  let v3 : Index := Scalar.indexCast arg1
  let c0_0 : Index := 0#32
  let c0_1 : Index := 0#32
  ![0, v3.toNat, 0, 0]
@[reducible] def k1_t1_loop (i : grid1.Coords) : Scf.Loop 32 :=
  let c0_i32 : BitVec 32 := 0#32
  let arg1 : BitVec 32 := BitVec.ofNat 32 (i 1).val
  let v79 : BitVec 32 := Scalar.subi arg1 c0_i32
  let c1_i32 : BitVec 32 := 1#32
  let v81 : BitVec 32 := Scalar.divsi v79 c1_i32
  let v82 : BitVec 32 := Scalar.muli v81 c1_i32
  let v83 : BitVec 32 := Scalar.addi c0_i32 v82
  let c1_i32_19 : BitVec 32 := 1#32
  ⟨c0_i32, v83, c1_i32_19⟩
def k1_mult1 (i : grid1.Coords) (k1_t1 : Fin (k1_t1_loop i).trips) : BitVec 32 :=
  let c0_i32 : BitVec 32 := 0#32
  let c1_i32_19 : BitVec 32 := 1#32
  let arg14 : BitVec 32 := Scf.iv c0_i32 c1_i32_19 k1_t1
  let c1024_i32_125 : BitVec 32 := 1024#32
  let v309 : BitVec 32 := Scalar.muli arg14 c1024_i32_125
  v309
def k1_off2 (i : grid1.Coords) (k1_t1 : Fin (k1_t1_loop i).trips) : Fin 2 → Nat :=
  let c0_i32 : BitVec 32 := 0#32
  let c1_i32_19 : BitVec 32 := 1#32
  let arg14 : BitVec 32 := Scf.iv c0_i32 c1_i32_19 k1_t1
  let c1024_i32_125 : BitVec 32 := 1024#32
  let v309 : BitVec 32 := Scalar.muli arg14 c1024_i32_125
  let v310 : BitVec 32 := v309
  let v311 : Index := Scalar.indexCast v310
  let c0_126 : Index := 0#32
  ![v311.toNat, 0]
def k1_off3 (i : grid1.Coords) (k1_t1 : Fin (k1_t1_loop i).trips) : Fin 4 → Nat :=
  let c0_133 : Index := 0#32
  let c0_i32 : BitVec 32 := 0#32
  let c1_i32_19 : BitVec 32 := 1#32
  let arg14 : BitVec 32 := Scf.iv c0_i32 c1_i32_19 k1_t1
  let v320 : Index := Scalar.indexCast arg14
  let c0_134 : Index := 0#32
  let c0_135 : Index := 0#32
  ![0, v320.toNat, 0, 0]
@[reducible] def k1_t2_loop (i : grid1.Coords) : Scf.Loop 32 :=
  let c0_i32 : BitVec 32 := 0#32
  let arg1 : BitVec 32 := BitVec.ofNat 32 (i 1).val
  let v79 : BitVec 32 := Scalar.subi arg1 c0_i32
  let c1_i32 : BitVec 32 := 1#32
  let v81 : BitVec 32 := Scalar.divsi v79 c1_i32
  let v82 : BitVec 32 := Scalar.muli v81 c1_i32
  let v83 : BitVec 32 := Scalar.addi c0_i32 v82
  let v80 : BitVec 32 := Scalar.addi c0_i32 v79
  let c1_i32_20 : BitVec 32 := 1#32
  ⟨v83, v80, c1_i32_20⟩
def k1_mult2 (i : grid1.Coords) (k1_t2 : Fin (k1_t2_loop i).trips) : BitVec 32 :=
  let c0_i32 : BitVec 32 := 0#32
  let arg1 : BitVec 32 := BitVec.ofNat 32 (i 1).val
  let v79 : BitVec 32 := Scalar.subi arg1 c0_i32
  let c1_i32 : BitVec 32 := 1#32
  let v81 : BitVec 32 := Scalar.divsi v79 c1_i32
  let v82 : BitVec 32 := Scalar.muli v81 c1_i32
  let v83 : BitVec 32 := Scalar.addi c0_i32 v82
  let c1_i32_20 : BitVec 32 := 1#32
  let arg14 : BitVec 32 := Scf.iv v83 c1_i32_20 k1_t2
  let c1024_i32_125 : BitVec 32 := 1024#32
  let v309 : BitVec 32 := Scalar.muli arg14 c1024_i32_125
  v309
def k1_off4 (i : grid1.Coords) (k1_t2 : Fin (k1_t2_loop i).trips) : Fin 2 → Nat :=
  let c0_i32 : BitVec 32 := 0#32
  let arg1 : BitVec 32 := BitVec.ofNat 32 (i 1).val
  let v79 : BitVec 32 := Scalar.subi arg1 c0_i32
  let c1_i32 : BitVec 32 := 1#32
  let v81 : BitVec 32 := Scalar.divsi v79 c1_i32
  let v82 : BitVec 32 := Scalar.muli v81 c1_i32
  let v83 : BitVec 32 := Scalar.addi c0_i32 v82
  let c1_i32_20 : BitVec 32 := 1#32
  let arg14 : BitVec 32 := Scf.iv v83 c1_i32_20 k1_t2
  let c1024_i32_125 : BitVec 32 := 1024#32
  let v309 : BitVec 32 := Scalar.muli arg14 c1024_i32_125
  let v310 : BitVec 32 := v309
  let v311 : Index := Scalar.indexCast v310
  let c0_126 : Index := 0#32
  ![v311.toNat, 0]
def k1_off5 (i : grid1.Coords) (k1_t2 : Fin (k1_t2_loop i).trips) : Fin 4 → Nat :=
  let c0_133 : Index := 0#32
  let c0_i32 : BitVec 32 := 0#32
  let arg1 : BitVec 32 := BitVec.ofNat 32 (i 1).val
  let v79 : BitVec 32 := Scalar.subi arg1 c0_i32
  let c1_i32 : BitVec 32 := 1#32
  let v81 : BitVec 32 := Scalar.divsi v79 c1_i32
  let v82 : BitVec 32 := Scalar.muli v81 c1_i32
  let v83 : BitVec 32 := Scalar.addi c0_i32 v82
  let c1_i32_20 : BitVec 32 := 1#32
  let arg14 : BitVec 32 := Scf.iv v83 c1_i32_20 k1_t2
  let v320 : Index := Scalar.indexCast arg14
  let c0_134 : Index := 0#32
  let c0_135 : Index := 0#32
  ![0, v320.toNat, 0, 0]
def k1_mult3 (i : grid1.Coords) : BitVec 32 :=
  let arg1 : BitVec 32 := BitVec.ofNat 32 (i 1).val
  let c1024_i32 : BitVec 32 := 1024#32
  let v88 : BitVec 32 := Scalar.muli arg1 c1024_i32
  v88
def k1_off6 (i : grid1.Coords) : Fin 2 → Nat :=
  let arg1 : BitVec 32 := BitVec.ofNat 32 (i 1).val
  let c1024_i32 : BitVec 32 := 1024#32
  let v88 : BitVec 32 := Scalar.muli arg1 c1024_i32
  let v89 : BitVec 32 := v88
  let v90 : Index := Scalar.indexCast v89
  let c0_21 : Index := 0#32
  ![v90.toNat, 0]
def k1_mult4 (i : grid1.Coords) : BitVec 32 :=
  let arg1 : BitVec 32 := BitVec.ofNat 32 (i 1).val
  let c1024_i32_47 : BitVec 32 := 1024#32
  let v144 : BitVec 32 := Scalar.muli arg1 c1024_i32_47
  v144
def k1_off7 (i : grid1.Coords) : Fin 2 → Nat :=
  let arg1 : BitVec 32 := BitVec.ofNat 32 (i 1).val
  let c1024_i32_47 : BitVec 32 := 1024#32
  let v144 : BitVec 32 := Scalar.muli arg1 c1024_i32_47
  let v145 : BitVec 32 := v144
  let v146 : Index := Scalar.indexCast v145
  let c0_48 : Index := 0#32
  ![v146.toNat, 0]
def k1_mult5 (i : grid1.Coords) : BitVec 32 :=
  let arg1 : BitVec 32 := BitVec.ofNat 32 (i 1).val
  let c1024_i32_73 : BitVec 32 := 1024#32
  let v200 : BitVec 32 := Scalar.muli arg1 c1024_i32_73
  v200
def k1_off8 (i : grid1.Coords) : Fin 2 → Nat :=
  let arg1 : BitVec 32 := BitVec.ofNat 32 (i 1).val
  let c1024_i32_73 : BitVec 32 := 1024#32
  let v200 : BitVec 32 := Scalar.muli arg1 c1024_i32_73
  let v201 : BitVec 32 := v200
  let v202 : Index := Scalar.indexCast v201
  let c0_74 : Index := 0#32
  ![v202.toNat, 0]
def k1_mult6 (i : grid1.Coords) : BitVec 32 :=
  let arg1 : BitVec 32 := BitVec.ofNat 32 (i 1).val
  let c1024_i32_99 : BitVec 32 := 1024#32
  let v256 : BitVec 32 := Scalar.muli arg1 c1024_i32_99
  v256
def k1_off9 (i : grid1.Coords) : Fin 2 → Nat :=
  let arg1 : BitVec 32 := BitVec.ofNat 32 (i 1).val
  let c1024_i32_99 : BitVec 32 := 1024#32
  let v256 : BitVec 32 := Scalar.muli arg1 c1024_i32_99
  let v257 : BitVec 32 := v256
  let v258 : Index := Scalar.indexCast v257
  let c0_100 : Index := 0#32
  ![v258.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x4x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1024x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x1x1x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev grid2 : Pipeline.Grid := ⟨2, ![8, 4], ![false, false]⟩

def k2_off1 (i : grid2.Coords) : Fin 4 → Nat :=
  let c0 : Index := 0#32
  let arg1 : BitVec 32 := BitVec.ofNat 32 (i 1).val
  let v3 : Index := Scalar.indexCast arg1
  let c0_0 : Index := 0#32
  let c0_1 : Index := 0#32
  ![0, v3.toNat, 0, 0]
def k2_mult1 (i : grid2.Coords) : BitVec 32 :=
  let arg1 : BitVec 32 := BitVec.ofNat 32 (i 1).val
  let c1024_i32 : BitVec 32 := 1024#32
  let v39 : BitVec 32 := Scalar.muli arg1 c1024_i32
  let c0_i32 : BitVec 32 := 0#32
  let v40 : BitVec 32 := Scalar.addi v39 c0_i32
  v40
def k2_off2 (i : grid2.Coords) : Fin 2 → Nat :=
  let arg1 : BitVec 32 := BitVec.ofNat 32 (i 1).val
  let c1024_i32 : BitVec 32 := 1024#32
  let v39 : BitVec 32 := Scalar.muli arg1 c1024_i32
  let c0_i32 : BitVec 32 := 0#32
  let v40 : BitVec 32 := Scalar.addi v39 c0_i32
  let v41 : BitVec 32 := v40
  let v42 : Index := Scalar.indexCast v41
  let c0_6 : Index := 0#32
  ![v42.toNat, 0]
def k2_mult2 (i : grid2.Coords) : BitVec 32 :=
  let arg1 : BitVec 32 := BitVec.ofNat 32 (i 1).val
  let c1024_i32_36 : BitVec 32 := 1024#32
  let v95 : BitVec 32 := Scalar.muli arg1 c1024_i32_36
  let c256_i32 : BitVec 32 := 256#32
  let v96 : BitVec 32 := Scalar.addi v95 c256_i32
  v96
def k2_off3 (i : grid2.Coords) : Fin 2 → Nat :=
  let arg1 : BitVec 32 := BitVec.ofNat 32 (i 1).val
  let c1024_i32_36 : BitVec 32 := 1024#32
  let v95 : BitVec 32 := Scalar.muli arg1 c1024_i32_36
  let c256_i32 : BitVec 32 := 256#32
  let v96 : BitVec 32 := Scalar.addi v95 c256_i32
  let v97 : BitVec 32 := v96
  let v98 : Index := Scalar.indexCast v97
  let c0_37 : Index := 0#32
  ![v98.toNat, 0]
def k2_mult3 (i : grid2.Coords) : BitVec 32 :=
  let arg1 : BitVec 32 := BitVec.ofNat 32 (i 1).val
  let c1024_i32_66 : BitVec 32 := 1024#32
  let v153 : BitVec 32 := Scalar.muli arg1 c1024_i32_66
  let c512_i32 : BitVec 32 := 512#32
  let v154 : BitVec 32 := Scalar.addi v153 c512_i32
  v154
def k2_off4 (i : grid2.Coords) : Fin 2 → Nat :=
  let arg1 : BitVec 32 := BitVec.ofNat 32 (i 1).val
  let c1024_i32_66 : BitVec 32 := 1024#32
  let v153 : BitVec 32 := Scalar.muli arg1 c1024_i32_66
  let c512_i32 : BitVec 32 := 512#32
  let v154 : BitVec 32 := Scalar.addi v153 c512_i32
  let v155 : BitVec 32 := v154
  let v156 : Index := Scalar.indexCast v155
  let c0_67 : Index := 0#32
  ![v156.toNat, 0]
def k2_mult4 (i : grid2.Coords) : BitVec 32 :=
  let arg1 : BitVec 32 := BitVec.ofNat 32 (i 1).val
  let c1024_i32_96 : BitVec 32 := 1024#32
  let v211 : BitVec 32 := Scalar.muli arg1 c1024_i32_96
  let c768_i32 : BitVec 32 := 768#32
  let v212 : BitVec 32 := Scalar.addi v211 c768_i32
  v212
def k2_off5 (i : grid2.Coords) : Fin 2 → Nat :=
  let arg1 : BitVec 32 := BitVec.ofNat 32 (i 1).val
  let c1024_i32_96 : BitVec 32 := 1024#32
  let v211 : BitVec 32 := Scalar.muli arg1 c1024_i32_96
  let c768_i32 : BitVec 32 := 768#32
  let v212 : BitVec 32 := Scalar.addi v211 c768_i32
  let v213 : BitVec 32 := v212
  let v214 : Index := Scalar.indexCast v213
  let c0_97 : Index := 0#32
  ![v214.toNat, 0]
@[reducible] def k2_t1_loop (i : grid2.Coords) : Scf.Loop 32 :=
  let arg1 : BitVec 32 := BitVec.ofNat 32 (i 1).val
  let c1_i32 : BitVec 32 := 1#32
  let v269 : BitVec 32 := Scalar.addi arg1 c1_i32
  let c4_i32 : BitVec 32 := 4#32
  let v270 : BitVec 32 := Scalar.subi c4_i32 v269
  let c1_i32_123 : BitVec 32 := 1#32
  let v272 : BitVec 32 := Scalar.divsi v270 c1_i32_123
  let v273 : BitVec 32 := Scalar.muli v272 c1_i32_123
  let v274 : BitVec 32 := Scalar.addi v269 v273
  let c1_i32_124 : BitVec 32 := 1#32
  ⟨v269, v274, c1_i32_124⟩
def k2_mult5 (i : grid2.Coords) (k2_t1 : Fin (k2_t1_loop i).trips) : BitVec 32 :=
  let arg1 : BitVec 32 := BitVec.ofNat 32 (i 1).val
  let c1_i32 : BitVec 32 := 1#32
  let v269 : BitVec 32 := Scalar.addi arg1 c1_i32
  let c1_i32_124 : BitVec 32 := 1#32
  let arg14 : BitVec 32 := Scf.iv v269 c1_i32_124 k2_t1
  let c1024_i32_135 : BitVec 32 := 1024#32
  let v313 : BitVec 32 := Scalar.muli arg14 c1024_i32_135
  let c0_i32_136 : BitVec 32 := 0#32
  let v314 : BitVec 32 := Scalar.addi v313 c0_i32_136
  v314
def k2_off6 (i : grid2.Coords) (k2_t1 : Fin (k2_t1_loop i).trips) : Fin 2 → Nat :=
  let arg1 : BitVec 32 := BitVec.ofNat 32 (i 1).val
  let c1_i32 : BitVec 32 := 1#32
  let v269 : BitVec 32 := Scalar.addi arg1 c1_i32
  let c1_i32_124 : BitVec 32 := 1#32
  let arg14 : BitVec 32 := Scf.iv v269 c1_i32_124 k2_t1
  let c1024_i32_135 : BitVec 32 := 1024#32
  let v313 : BitVec 32 := Scalar.muli arg14 c1024_i32_135
  let c0_i32_136 : BitVec 32 := 0#32
  let v314 : BitVec 32 := Scalar.addi v313 c0_i32_136
  let v315 : BitVec 32 := v314
  let v316 : Index := Scalar.indexCast v315
  let c0_137 : Index := 0#32
  ![v316.toNat, 0]
def k2_off7 (i : grid2.Coords) (k2_t1 : Fin (k2_t1_loop i).trips) : Fin 4 → Nat :=
  let c0_139 : Index := 0#32
  let arg1 : BitVec 32 := BitVec.ofNat 32 (i 1).val
  let c1_i32 : BitVec 32 := 1#32
  let v269 : BitVec 32 := Scalar.addi arg1 c1_i32
  let c1_i32_124 : BitVec 32 := 1#32
  let arg14 : BitVec 32 := Scf.iv v269 c1_i32_124 k2_t1
  let v323 : Index := Scalar.indexCast arg14
  let c0_140 : Index := 0#32
  let c0_141 : Index := 0#32
  ![0, v323.toNat, 0, 0]
@[reducible] def k2_t2_loop (i : grid2.Coords) : Scf.Loop 32 :=
  let arg1 : BitVec 32 := BitVec.ofNat 32 (i 1).val
  let c1_i32 : BitVec 32 := 1#32
  let v269 : BitVec 32 := Scalar.addi arg1 c1_i32
  let c4_i32 : BitVec 32 := 4#32
  let v270 : BitVec 32 := Scalar.subi c4_i32 v269
  let c1_i32_123 : BitVec 32 := 1#32
  let v272 : BitVec 32 := Scalar.divsi v270 c1_i32_123
  let v273 : BitVec 32 := Scalar.muli v272 c1_i32_123
  let v274 : BitVec 32 := Scalar.addi v269 v273
  let v271 : BitVec 32 := Scalar.addi v269 v270
  let c1_i32_125 : BitVec 32 := 1#32
  ⟨v274, v271, c1_i32_125⟩
def k2_mult6 (i : grid2.Coords) (k2_t2 : Fin (k2_t2_loop i).trips) : BitVec 32 :=
  let arg1 : BitVec 32 := BitVec.ofNat 32 (i 1).val
  let c1_i32 : BitVec 32 := 1#32
  let v269 : BitVec 32 := Scalar.addi arg1 c1_i32
  let c4_i32 : BitVec 32 := 4#32
  let v270 : BitVec 32 := Scalar.subi c4_i32 v269
  let c1_i32_123 : BitVec 32 := 1#32
  let v272 : BitVec 32 := Scalar.divsi v270 c1_i32_123
  let v273 : BitVec 32 := Scalar.muli v272 c1_i32_123
  let v274 : BitVec 32 := Scalar.addi v269 v273
  let c1_i32_125 : BitVec 32 := 1#32
  let arg14 : BitVec 32 := Scf.iv v274 c1_i32_125 k2_t2
  let c1024_i32_135 : BitVec 32 := 1024#32
  let v313 : BitVec 32 := Scalar.muli arg14 c1024_i32_135
  let c0_i32_136 : BitVec 32 := 0#32
  let v314 : BitVec 32 := Scalar.addi v313 c0_i32_136
  v314
def k2_off8 (i : grid2.Coords) (k2_t2 : Fin (k2_t2_loop i).trips) : Fin 2 → Nat :=
  let arg1 : BitVec 32 := BitVec.ofNat 32 (i 1).val
  let c1_i32 : BitVec 32 := 1#32
  let v269 : BitVec 32 := Scalar.addi arg1 c1_i32
  let c4_i32 : BitVec 32 := 4#32
  let v270 : BitVec 32 := Scalar.subi c4_i32 v269
  let c1_i32_123 : BitVec 32 := 1#32
  let v272 : BitVec 32 := Scalar.divsi v270 c1_i32_123
  let v273 : BitVec 32 := Scalar.muli v272 c1_i32_123
  let v274 : BitVec 32 := Scalar.addi v269 v273
  let c1_i32_125 : BitVec 32 := 1#32
  let arg14 : BitVec 32 := Scf.iv v274 c1_i32_125 k2_t2
  let c1024_i32_135 : BitVec 32 := 1024#32
  let v313 : BitVec 32 := Scalar.muli arg14 c1024_i32_135
  let c0_i32_136 : BitVec 32 := 0#32
  let v314 : BitVec 32 := Scalar.addi v313 c0_i32_136
  let v315 : BitVec 32 := v314
  let v316 : Index := Scalar.indexCast v315
  let c0_137 : Index := 0#32
  ![v316.toNat, 0]
def k2_off9 (i : grid2.Coords) (k2_t2 : Fin (k2_t2_loop i).trips) : Fin 4 → Nat :=
  let c0_139 : Index := 0#32
  let arg1 : BitVec 32 := BitVec.ofNat 32 (i 1).val
  let c1_i32 : BitVec 32 := 1#32
  let v269 : BitVec 32 := Scalar.addi arg1 c1_i32
  let c4_i32 : BitVec 32 := 4#32
  let v270 : BitVec 32 := Scalar.subi c4_i32 v269
  let c1_i32_123 : BitVec 32 := 1#32
  let v272 : BitVec 32 := Scalar.divsi v270 c1_i32_123
  let v273 : BitVec 32 := Scalar.muli v272 c1_i32_123
  let v274 : BitVec 32 := Scalar.addi v269 v273
  let c1_i32_125 : BitVec 32 := 1#32
  let arg14 : BitVec 32 := Scf.iv v274 c1_i32_125 k2_t2
  let v323 : Index := Scalar.indexCast arg14
  let c0_140 : Index := 0#32
  let c0_141 : Index := 0#32
  ![0, v323.toNat, 0, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc2_transform_2 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_5 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_6 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_7 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_10 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S4096x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S4096x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x4x1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x4x1x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x4x1x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1x4x1x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S1024x128 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S1024x128 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S1x1x1x1024 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]
-- ==== AttnKIdeal.lean ====
variable {F : FTy → Type} [FloatOps F] [Named F]
def κ : String → Option EReal := fun
  | "c2" => some (((Real.log 2)⁻¹ * (11863283 / 134217728) : ℝ) : EReal)
  | "mask" => some ⊥
  | _ => none
-- ==== AttnRIdeal.lean ====
abbrev S1x4096x5128 : Shape := ⟨3, ![1, 4096, 5128]⟩
abbrev S1x8x4096 : Shape := ⟨3, ![1, 8, 4096]⟩
abbrev S1x4096x1024 : Shape := ⟨3, ![1, 4096, 1024]⟩
abbrev S1x4096x8x128 : Shape := ⟨4, ![1, 4096, 8, 128]⟩
abbrev S1x8x4096x4096 : Shape := ⟨4, ![1, 8, 4096, 4096]⟩
abbrev S_ : Shape := ⟨0, ![]⟩
abbrev S1x8x4096x1 : Shape := ⟨4, ![1, 8, 4096, 1]⟩
abbrev S1x8x1x4096 : Shape := ⟨4, ![1, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S1x8x128x4096 : Shape := ⟨4, ![1, 8, 128, 4096]⟩
abbrev S8x4096 : Shape := ⟨2, ![8, 4096]⟩
abbrev S1x8x4096x128 : Shape := ⟨4, ![1, 8, 4096, 128]⟩
abbrev S4096x1024 : Shape := ⟨2, ![4096, 1024]⟩
abbrev S8x4x1x1024 : Shape := ⟨4, ![8, 4, 1, 1024]⟩

abbrev nBuf : Space → Nat
  | .hbm => 126
  | .vmem => 0
  | .smem => 0
  | _ => 0

abbrev bufTy : (tb : Table) → Fin (tcTables nBuf tb) → BufTy
  | .hbm, ⟨0, _⟩ => ⟨S1x4096x5128, .f32⟩
  | .hbm, ⟨1, _⟩ => ⟨S1x8x4096, .f32⟩
  | .hbm, ⟨2, _⟩ => ⟨S1x4096x1024, .f32⟩
  | .hbm, ⟨3, _⟩ => ⟨S1x4096x1024, .f32⟩
  | .hbm, ⟨4, _⟩ => ⟨S1x4096x8x128, .f32⟩
  | .hbm, ⟨5, _⟩ => ⟨S1x4096x1024, .f32⟩
  | .hbm, ⟨6, _⟩ => ⟨S1x4096x8x128, .f32⟩
  | .hbm, ⟨7, _⟩ => ⟨S1x4096x1024, .f32⟩
  | .hbm, ⟨8, _⟩ => ⟨S1x4096x8x128, .f32⟩
  | .hbm, ⟨9, _⟩ => ⟨S1x8x4096x4096, .f32⟩
  | .hbm, ⟨10, _⟩ => ⟨S_, .f32⟩
  | .hbm, ⟨11, _⟩ => ⟨S1x8x4096x4096, .f32⟩
  | .hbm, ⟨12, _⟩ => ⟨S1x8x4096x4096, .f32⟩
  | .hbm, ⟨13, _⟩ => ⟨S1x8x4096x1, .f32⟩
  | .hbm, ⟨14, _⟩ => ⟨S1x8x4096x4096, .f32⟩
  | .hbm, ⟨15, _⟩ => ⟨S1x8x4096x4096, .f32⟩
  | .hbm, ⟨16, _⟩ => ⟨S1x8x1x4096, .f32⟩
  | .hbm, ⟨17, _⟩ => ⟨S1x8x4096x4096, .f32⟩
  | .hbm, ⟨18, _⟩ => ⟨S1x8x4096x4096, .f32⟩
  | .hbm, ⟨19, _⟩ => ⟨S4096, .i32⟩
  | .hbm, ⟨20, _⟩ => ⟨S1x4096, .i32⟩
  | .hbm, ⟨21, _⟩ => ⟨S4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S1x1x4096x4096, .i1⟩
  | .hbm, ⟨27, _⟩ => ⟨S_, .f32⟩
  | .hbm, ⟨28, _⟩ => ⟨S_, .f32⟩
  | .hbm, ⟨29, _⟩ => ⟨S1x8x4096x4096, .i1⟩
  | .hbm, ⟨30, _⟩ => ⟨S1x8x4096x4096, .f32⟩
  | .hbm, ⟨31, _⟩ => ⟨S1x8x4096x4096, .f32⟩
  | .hbm, ⟨32, _⟩ => ⟨S_, .f32⟩
  | .hbm, ⟨33, _⟩ => ⟨S1x8x4096x4096, .f32⟩
  | .hbm, ⟨34, _⟩ => ⟨S_, .f32⟩
  | .hbm, ⟨35, _⟩ => ⟨S1x8x4096, .f32⟩
  | .hbm, ⟨36, _⟩ => ⟨S1x8x4096x1, .f32⟩
  | .hbm, ⟨37, _⟩ => ⟨S1x8x4096x4096, .f32⟩
  | .hbm, ⟨38, _⟩ => ⟨S1x8x4096x4096, .i1⟩
  | .hbm, ⟨39, _⟩ => ⟨S1x8x4096x4096, .f32⟩
  | .hbm, ⟨40, _⟩ => ⟨S_, .f32⟩
  | .hbm, ⟨41, _⟩ => ⟨S1x8x4096, .f32⟩
  | .hbm, ⟨42, _⟩ => ⟨S_, .f32⟩
  | .hbm, ⟨43, _⟩ => ⟨S1x8x4096, .f32⟩
  | .hbm, ⟨44, _⟩ => ⟨S1x8x4096, .f32⟩
  | .hbm, ⟨45, _⟩ => ⟨S_, .f32⟩
  | .hbm, ⟨46, _⟩ => ⟨S1x8x4096, .f32⟩
  | .hbm, ⟨47, _⟩ => ⟨S1x8x4096, .i1⟩
  | .hbm, ⟨48, _⟩ => ⟨S_, .f32⟩
  | .hbm, ⟨49, _⟩ => ⟨S1x8x4096, .f32⟩
  | .hbm, ⟨50, _⟩ => ⟨S1x8x4096, .i1⟩
  | .hbm, ⟨51, _⟩ => ⟨S_, .f32⟩
  | .hbm, ⟨52, _⟩ => ⟨S1x8x4096, .f32⟩
  | .hbm, ⟨53, _⟩ => ⟨S_, .f32⟩
  | .hbm, ⟨54, _⟩ => ⟨S1x8x4096, .f32⟩
  | .hbm, ⟨55, _⟩ => ⟨S_, .f32⟩
  | .hbm, ⟨56, _⟩ => ⟨S1x8x4096, .f32⟩
  | .hbm, ⟨57, _⟩ => ⟨S1x8x4096, .f32⟩
  | .hbm, ⟨58, _⟩ => ⟨S1x8x4096, .f32⟩
  | .hbm, ⟨59, _⟩ => ⟨S1x8x4096x1, .f32⟩
  | .hbm, ⟨60, _⟩ => ⟨S1x8x4096x4096, .f32⟩
  | .hbm, ⟨61, _⟩ => ⟨S1x8x4096x4096, .f32⟩
  | .hbm, ⟨62, _⟩ => ⟨S1x8x4096x4096, .f32⟩
  | .hbm, ⟨63, _⟩ => ⟨S_, .f32⟩
  | .hbm, ⟨64, _⟩ => ⟨S1x8x4096, .f32⟩
  | .hbm, ⟨65, _⟩ => ⟨S1x8x4096x1, .f32⟩
  | .hbm, ⟨66, _⟩ => ⟨S1x8x4096x4096, .f32⟩
  | .hbm, ⟨67, _⟩ => ⟨S1x8x4096x4096, .f32⟩
  | .hbm, ⟨68, _⟩ => ⟨S1x8x4096x1, .f32⟩
  | .hbm, ⟨69, _⟩ => ⟨S_, .f32⟩
  | .hbm, ⟨70, _⟩ => ⟨S1x8x4096x1, .f32⟩
  | .hbm, ⟨71, _⟩ => ⟨S1x8x4096x1, .f32⟩
  | .hbm, ⟨72, _⟩ => ⟨S1x8x128x4096, .f32⟩
  | .hbm, ⟨73, _⟩ => ⟨S1x4096x8x128, .f32⟩
  | .hbm, ⟨74, _⟩ => ⟨S1x4096x1024, .f32⟩
  | .hbm, ⟨75, _⟩ => ⟨S1x4096x8x128, .f32⟩
  | .hbm, ⟨76, _⟩ => ⟨S1x8x128x4096, .f32⟩
  | .hbm, ⟨77, _⟩ => ⟨S1x8x4096x4096, .f32⟩
  | .hbm, ⟨78, _⟩ => ⟨S1x8x128x4096, .f32⟩
  | .hbm, ⟨79, _⟩ => ⟨S1x4096x8x128, .f32⟩
  | .hbm, ⟨80, _⟩ => ⟨S1x8x4096x4096, .f32⟩
  | .hbm, ⟨81, _⟩ => ⟨S1x8x4096x4096, .f32⟩
  | .hbm, ⟨82, _⟩ => ⟨S1x8x4096x4096, .f32⟩
  | .hbm, ⟨83, _⟩ => ⟨S_, .f32⟩
  | .hbm, ⟨84, _⟩ => ⟨S1x8x4096, .f32⟩
  | .hbm, ⟨85, _⟩ => ⟨S1x8x4096x1, .f32⟩
  | .hbm, ⟨86, _⟩ => ⟨S1x8x4096x1, .f32⟩
  | .hbm, ⟨87, _⟩ => ⟨S1x8x4096x4096, .f32⟩
  | .hbm, ⟨88, _⟩ => ⟨S1x8x4096x4096, .f32⟩
  | .hbm, ⟨89, _⟩ => ⟨S_, .f32⟩
  | .hbm, ⟨90, _⟩ => ⟨S8x4096, .f32⟩
  | .hbm, ⟨91, _⟩ => ⟨S1x8x4096, .f32⟩
  | .hbm, ⟨92, _⟩ => ⟨S1x8x4096x4096, .f32⟩
  | .hbm, ⟨93, _⟩ => ⟨S1x8x4096x4096, .f32⟩
  | .hbm, ⟨94, _⟩ => ⟨S1x8x4096x4096, .f32⟩
  | .hbm, ⟨95, _⟩ => ⟨S_, .f32⟩
  | .hbm, ⟨96, _⟩ => ⟨S1x8x4096x4096, .f32⟩
  | .hbm, ⟨97, _⟩ => ⟨S1x8x4096x4096, .f32⟩
  | .hbm, ⟨98, _⟩ => ⟨S1x8x4096x4096, .f32⟩
  | .hbm, ⟨99, _⟩ => ⟨S_, .f32⟩
  | .hbm, ⟨100, _⟩ => ⟨S1x8x4096, .f32⟩
  | .hbm, ⟨101, _⟩ => ⟨S1x8x1x4096, .f32⟩
  | .hbm, ⟨102, _⟩ => ⟨S_, .f32⟩
  | .hbm, ⟨103, _⟩ => ⟨S8x4096, .f32⟩
  | .hbm, ⟨104, _⟩ => ⟨S1x8x4096, .f32⟩
  | .hbm, ⟨105, _⟩ => ⟨S_, .f32⟩
  | .hbm, ⟨106, _⟩ => ⟨S1x8x4096, .f32⟩
  | .hbm, ⟨107, _⟩ => ⟨S1x8x4096x1, .f32⟩
  | .hbm, ⟨108, _⟩ => ⟨S_, .f32⟩
  | .hbm, ⟨109, _⟩ => ⟨S8x4096, .f32⟩
  | .hbm, ⟨110, _⟩ => ⟨S1x8x4096, .f32⟩
  | .hbm, ⟨111, _⟩ => ⟨S1x8x4096, .f32⟩
  | .hbm, ⟨112, _⟩ => ⟨S_, .f32⟩
  | .hbm, ⟨113, _⟩ => ⟨S1x8x4096x4096, .f32⟩
  | .hbm, ⟨114, _⟩ => ⟨S1x8x4096x4096, .f32⟩
  | .hbm, ⟨115, _⟩ => ⟨S1x8x4096x128, .f32⟩
  | .hbm, ⟨116, _⟩ => ⟨S1x4096x8x128, .f32⟩
  | .hbm, ⟨117, _⟩ => ⟨S1x8x4096x128, .f32⟩
  | .hbm, ⟨118, _⟩ => ⟨S1x4096x8x128, .f32⟩
  | .hbm, ⟨119, _⟩ => ⟨S4096x1024, .f32⟩
  | .hbm, ⟨120, _⟩ => ⟨S4096x1024, .bf16⟩
  | .hbm, ⟨121, _⟩ => ⟨S4096x1024, .f32⟩
  | .hbm, ⟨122, _⟩ => ⟨S4096x1024, .bf16⟩
  | .hbm, ⟨123, _⟩ => ⟨S4096x1024, .f32⟩
  | .hbm, ⟨124, _⟩ => ⟨S4096x1024, .bf16⟩
  | .hbm, ⟨125, _⟩ => ⟨S8x4x1x1024, .f32⟩
  | _, _ => ⟨S1x4096x5128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_call0_v0 : Ref sig .tc := ⟨.hbm, 28, rfl⟩
abbrev main_v23_1 : Ref sig .tc := ⟨.hbm, 29, rfl⟩
abbrev main_call0_v2 : Ref sig .tc := ⟨.hbm, 30, rfl⟩
abbrev main_v23_0 : Ref sig .tc := ⟨.hbm, 31, rfl⟩
abbrev main_call0_cst : Ref sig .tc := ⟨.hbm, 32, rfl⟩
abbrev main_v23_2 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_12 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_call1_cst : Ref sig .tc := ⟨.hbm, 95, rfl⟩
abbrev main_call1_v0 : Ref sig .tc := ⟨.hbm, 96, rfl⟩
abbrev main_v73 : Ref sig .tc := ⟨.hbm, 97, rfl⟩
abbrev main_v74 : Ref sig .tc := ⟨.hbm, 98, rfl⟩
abbrev main_cst_13 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_v78 : Ref sig .tc := ⟨.hbm, 104, rfl⟩
abbrev main_cst_15 : Ref sig .tc := ⟨.hbm, 105, rfl⟩
abbrev main_v79 : Ref sig .tc := ⟨.hbm, 106, rfl⟩
abbrev main_v80 : Ref sig .tc := ⟨.hbm, 107, rfl⟩
abbrev main_cst_16 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_17 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩

abbrev nD : Nat := 1
abbrev τ : Topo := Topo.v7x

variable {F : FTy → Type} [FloatOps F]
-- ==== GmlpK.lean ====
abbrev S1x4096x5128 : Shape := ⟨3, ![1, 4096, 5128]⟩
abbrev S1x1024 : Shape := ⟨2, ![1, 1024]⟩
abbrev S1x8x128x128 : Shape := ⟨4, ![1, 8, 128, 128]⟩
abbrev S1x8x128 : Shape := ⟨3, ![1, 8, 128]⟩
abbrev S1x4096x1024 : Shape := ⟨3, ![1, 4096, 1024]⟩
abbrev S4096x5128 : Shape := ⟨2, ![4096, 5128]⟩
abbrev S4096x3072 : Shape := ⟨2, ![4096, 3072]⟩
abbrev S4096x2048 : Shape := ⟨2, ![4096, 2048]⟩
abbrev S4096x5120 : Shape := ⟨2, ![4096, 5120]⟩
abbrev S8x128 : Shape := ⟨2, ![8, 128]⟩
abbrev S8x128x1 : Shape := ⟨3, ![8, 128, 1]⟩
abbrev S8x128x128 : Shape := ⟨3, ![8, 128, 128]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩
abbrev S1x128x1 : Shape := ⟨3, ![1, 128, 1]⟩
abbrev S128 : Shape := ⟨1, ![128]⟩
abbrev S1024 : Shape := ⟨1, ![1024]⟩

abbrev nBuf : Space → Nat
  | .hbm => 24
  | .vmem => 20
  | .smem => 0
  | _ => 0

abbrev bufTy : (tb : Table) → Fin (tcTables nBuf tb) → BufTy
  | .hbm, ⟨0, _⟩ => ⟨S1x4096x5128, .f32⟩
  | .hbm, ⟨1, _⟩ => ⟨S1x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S1x4096x1024, .f32⟩
  | .hbm, ⟨6, _⟩ => ⟨S4096x5128, .f32⟩
  | .hbm, ⟨7, _⟩ => ⟨S4096x3072, .f32⟩
  | .hbm, ⟨8, _⟩ => ⟨S4096x5128, .f32⟩
  | .hbm, ⟨9, _⟩ => ⟨S4096x2048, .f32⟩
  | .hbm, ⟨10, _⟩ => ⟨S4096x5120, .f32⟩
  | .hbm, ⟨11, _⟩ => ⟨S4096x5120, .bf16⟩
  | .hbm, ⟨12, _⟩ => ⟨S8x128, .f32⟩
  | .hbm, ⟨13, _⟩ => ⟨S8x128x1, .f32⟩
  | .hbm, ⟨14, _⟩ => ⟨S8x128x128, .f32⟩
  | .hbm, ⟨15, _⟩ => ⟨S8x128x128, .f32⟩
  | .hbm, ⟨16, _⟩ => ⟨S4096x1024, .f32⟩
  | .hbm, ⟨17, _⟩ => ⟨S8x128x128, .f32⟩
  | .hbm, ⟨18, _⟩ => ⟨S4096x1024, .bf16⟩
  | .hbm, ⟨19, _⟩ => ⟨S4096x1024, .bf16⟩
  | .hbm, ⟨20, _⟩ => ⟨S8x128x128, .f32⟩
  | .hbm, ⟨21, _⟩ => ⟨S8x128x1, .f32⟩
  | .hbm, ⟨22, _⟩ => ⟨S1x1024, .f32⟩
  | .hbm, ⟨23, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S8x128x128, .f32⟩
  | .local _ .vmem, ⟨10, _⟩ => ⟨S8x128x1, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S8x128x128, .f32⟩
  | .local _ .vmem, ⟨16, _⟩ => ⟨S8x128x1, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | _, _ => ⟨S1x4096x5128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev main_v12_4 : Ref sig .tc := ⟨.hbm, 22, rfl⟩
abbrev main_v12_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== GmlpKIdeal.lean ====
variable {F : FTy → Type} [FloatOps F] [Named F]
def κ : String → Option EReal := fun
  | "gelu1" => some ((8943 / 200000 : ℝ) : EReal)
  | "gelu3" => some ((3 * (8943 / 200000) : ℝ) : EReal)
  | _ => none
-- ==== GmlpRIdeal.lean ====
abbrev S1x4096x5128 : Shape := ⟨3, ![1, 4096, 5128]⟩
abbrev S1x1024 : Shape := ⟨2, ![1, 1024]⟩
abbrev S1x8x128x128 : Shape := ⟨4, ![1, 8, 128, 128]⟩
abbrev S1x8x128 : Shape := ⟨3, ![1, 8, 128]⟩
abbrev S1x4096x1024 : Shape := ⟨3, ![1, 4096, 1024]⟩
abbrev S_ : Shape := ⟨0, ![]⟩
abbrev S1024 : Shape := ⟨1, ![1024]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x8x128 : Shape := ⟨5, ![1, 32, 128, 8, 128]⟩
abbrev S8x128x128 : Shape := ⟨3, ![8, 128, 128]⟩
abbrev S128x128 : Shape := ⟨2, ![128, 128]⟩
abbrev S8x1x32x128x128 : Shape := ⟨5, ![8, 1, 32, 128, 128]⟩
abbrev S8x128 : Shape := ⟨2, ![8, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S4096 : Shape := ⟨1, ![4096]⟩
abbrev S4096x1024 : Shape := ⟨2, ![4096, 1024]⟩
abbrev S8x128x1 : Shape := ⟨3, ![8, 128, 1]⟩

abbrev nBuf : Space → Nat
  | .hbm => 224
  | .vmem => 0
  | .smem => 0
  | _ => 0

abbrev hbmTy0_0 (i : Nat) : BufTy := match i % 128 with
  | 0 => ⟨S1x4096x5128, .f32⟩
  | 1 => ⟨S1x1024, .f32⟩
  | 2 => ⟨S1x1024, .f32⟩
  | 3 => ⟨S1x8x128x128, .f32⟩
  | 4 => ⟨S1x8x128, .f32⟩
  | 5 => ⟨S1x4096x1024, .f32⟩
  | 6 => ⟨S1x4096x1024, .f32⟩
  | 7 => ⟨S1x4096x1024, .f32⟩
  | 8 => ⟨S_, .f32⟩
  | 9 => ⟨S_, .f32⟩
  | 10 => ⟨S_, .f32⟩
  | 11 => ⟨S1x4096x1024, .f32⟩
  | 12 => ⟨S1x4096x1024, .f32⟩
  | 13 => ⟨S1x4096x1024, .f32⟩
  | 14 => ⟨S_, .f32⟩
  | 15 => ⟨S1x4096x1024, .f32⟩
  | 16 => ⟨S1x4096x1024, .f32⟩
  | 17 => ⟨S1x4096x1024, .f32⟩
  | 18 => ⟨S1x4096x1024, .f32⟩
  | 19 => ⟨S1x4096x1024, .f32⟩
  | 20 => ⟨S_, .f32⟩
  | 21 => ⟨S1x4096x1024, .f32⟩
  | 22 => ⟨S1x4096x1024, .f32⟩
  | 23 => ⟨S1x4096x1024, .f32⟩
  | 24 => ⟨S_, .f32⟩
  | 25 => ⟨S1x4096x1024, .f32⟩
  | 26 => ⟨S1x4096x1024, .f32⟩
  | 27 => ⟨S_, .f32⟩
  | 28 => ⟨S1x4096x1024, .f32⟩
  | 29 => ⟨S1x4096x1024, .f32⟩
  | 30 => ⟨S1x4096x1024, .f32⟩
  | 31 => ⟨S_, .f32⟩
  | 32 => ⟨S1x4096x1024, .f32⟩
  | 33 => ⟨S1x4096x1024, .f32⟩
  | 34 => ⟨S_, .f32⟩
  | 35 => ⟨S1x4096x1024, .f32⟩
  | 36 => ⟨S1x4096x1024, .f32⟩
  | 37 => ⟨S1x4096x1024, .f32⟩
  | 38 => ⟨S_, .f32⟩
  | 39 => ⟨S_, .f32⟩
  | 40 => ⟨S_, .f32⟩
  | 41 => ⟨S1x4096x1024, .f32⟩
  | 42 => ⟨S1x4096x1024, .f32⟩
  | 43 => ⟨S1x4096x1024, .f32⟩
  | 44 => ⟨S_, .f32⟩
  | 45 => ⟨S1x4096x1024, .f32⟩
  | 46 => ⟨S1x4096x1024, .f32⟩
  | 47 => ⟨S1x4096x1024, .f32⟩
  | 48 => ⟨S1x4096x1024, .f32⟩
  | 49 => ⟨S1x4096x1024, .f32⟩
  | 50 => ⟨S_, .f32⟩
  | 51 => ⟨S1x4096x1024, .f32⟩
  | 52 => ⟨S1x4096x1024, .f32⟩
  | 53 => ⟨S1x4096x1024, .f32⟩
  | 54 => ⟨S_, .f32⟩
  | 55 => ⟨S1x4096x1024, .f32⟩
  | 56 => ⟨S1x4096x1024, .f32⟩
  | 57 => ⟨S_, .f32⟩
  | 58 => ⟨S1x4096x1024, .f32⟩
  | 59 => ⟨S1x4096x1024, .f32⟩
  | 60 => ⟨S1x4096x1024, .f32⟩
  | 61 => ⟨S_, .f32⟩
  | 62 => ⟨S1x4096x1024, .f32⟩
  | 63 => ⟨S1x4096x1024, .f32⟩
  | 64 => ⟨S_, .f32⟩
  | 65 => ⟨S1x4096x1024, .f32⟩
  | 66 => ⟨S1x4096x1024, .f32⟩
  | 67 => ⟨S1x4096x1024, .f32⟩
  | 68 => ⟨S1024, .f32⟩
  | 69 => ⟨S1024, .f32⟩
  | 70 => ⟨S_, .f32⟩
  | 71 => ⟨S1x4096, .f32⟩
  | 72 => ⟨S1x4096x1, .f32⟩
  | 73 => ⟨S_, .f32⟩
  | 74 => ⟨S1x4096x1, .f32⟩
  | 75 => ⟨S1x4096x1, .f32⟩
  | 76 => ⟨S1x4096x1024, .f32⟩
  | 77 => ⟨S1x4096x1024, .f32⟩
  | 78 => ⟨S1x4096x1024, .f32⟩
  | 79 => ⟨S_, .f32⟩
  | 80 => ⟨S1x4096, .f32⟩
  | 81 => ⟨S1x4096x1, .f32⟩
  | 82 => ⟨S_, .f32⟩
  | 83 => ⟨S1x4096x1, .f32⟩
  | 84 => ⟨S1x4096x1, .f32⟩
  | 85 => ⟨S_, .f32⟩
  | 86 => ⟨S1x4096x1, .f32⟩
  | 87 => ⟨S1x4096x1, .f32⟩
  | 88 => ⟨S1x4096x1, .f32⟩
  | 89 => ⟨S1x4096x1, .f32⟩
  | 90 => ⟨S_, .f32⟩
  | 91 => ⟨S1x4096x1, .f32⟩
  | 92 => ⟨S1x4096x1, .f32⟩
  | 93 => ⟨S1x4096x1024, .f32⟩
  | 94 => ⟨S1x4096x1024, .f32⟩
  | 95 => ⟨S1x1x1024, .f32⟩
  | 96 => ⟨S1x4096x1024, .f32⟩
  | 97 => ⟨S1x4096x1024, .f32⟩
  | 98 => ⟨S1x1x1024, .f32⟩
  | 99 => ⟨S1x4096x1024, .f32⟩
  | 100 => ⟨S1x4096x1024, .f32⟩
  | 101 => ⟨S1x32x128x8x128, .f32⟩
  | 102 => ⟨S8x128x128, .f32⟩
  | 103 => ⟨S128x128, .i32⟩
  | 104 => ⟨S_, .i32⟩
  | 105 => ⟨S128x128, .i32⟩
  | 106 => ⟨S128x128, .i32⟩
  | 107 => ⟨S128x128, .i32⟩
  | 108 => ⟨S128x128, .i1⟩
  | 109 => ⟨S8x128x128, .i1⟩
  | 110 => ⟨S_, .f32⟩
  | 111 => ⟨S8x128x128, .f32⟩
  | 112 => ⟨S8x128x128, .f32⟩
  | 113 => ⟨S_, .f32⟩
  | 114 => ⟨S8x128x128, .f32⟩
  | 115 => ⟨S8x1x32x128x128, .f32⟩
  | 116 => ⟨S1x32x128x8x128, .f32⟩
  | 117 => ⟨S8x128, .f32⟩
  | 118 => ⟨S128x8, .f32⟩
  | 119 => ⟨S1x1x128x8x1, .f32⟩
  | 120 => ⟨S1x32x128x8x128, .f32⟩
  | 121 => ⟨S1x32x128x8x128, .f32⟩
  | 122 => ⟨S1x32x128x8x128, .f32⟩
  | 123 => ⟨S1x32x128x8x128, .f32⟩
  | 124 => ⟨S1x4096x1024, .f32⟩
  | 125 => ⟨S1x32x128x8x128, .f32⟩
  | 126 => ⟨S1x32x128x8x128, .f32⟩
  | 127 => ⟨S1x32x128x8x128, .f32⟩
  | _ => ⟨S1x4096x5128, .f32⟩

abbrev hbmTy0_1 (i : Nat) : BufTy := match i % 128 with
  | 0 => ⟨S1x4096x1024, .f32⟩
  | 1 => ⟨S_, .f32⟩
  | 2 => ⟨S1x128x8, .f32⟩
  | 3 => ⟨S1x1x128x8x1, .f32⟩
  | 4 => ⟨S_, .f32⟩
  | 5 => ⟨S128x8, .f32⟩
  | 6 => ⟨S8x128, .f32⟩
  | 7 => ⟨S1x8x128, .f32⟩
  | 8 => ⟨S8x1x32x128x128, .f32⟩
  | 9 => ⟨S8x128x128, .f32⟩
  | 10 => ⟨S8x1x32x128x128, .f32⟩
  | 11 => ⟨S1x32x128x8x128, .f32⟩
  | 12 => ⟨S_, .f32⟩
  | 13 => ⟨S8x128x128, .f32⟩
  | 14 => ⟨S8x128x128, .f32⟩
  | 15 => ⟨S1x8x128x128, .f32⟩
  | 16 => ⟨S1x4096x1024, .f32⟩
  | 17 => ⟨S_, .f32⟩
  | 18 => ⟨S1x1024, .f32⟩
  | 19 => ⟨S1x1x1024, .f32⟩
  | 20 => ⟨S_, .f32⟩
  | 21 => ⟨S1024, .f32⟩
  | 22 => ⟨S1x4096x1024, .f32⟩
  | 23 => ⟨S_, .f32⟩
  | 24 => ⟨S1x1024, .f32⟩
  | 25 => ⟨S1x1x1024, .f32⟩
  | 26 => ⟨S1x4096x1024, .f32⟩
  | 27 => ⟨S1x4096x1024, .f32⟩
  | 28 => ⟨S_, .f32⟩
  | 29 => ⟨S1024, .f32⟩
  | 30 => ⟨S1x4096x1024, .f32⟩
  | 31 => ⟨S_, .f32⟩
  | 32 => ⟨S1x4096, .f32⟩
  | 33 => ⟨S1x4096x1, .f32⟩
  | 34 => ⟨S1x4096x1024, .f32⟩
  | 35 => ⟨S1x4096x1024, .f32⟩
  | 36 => ⟨S1x4096x1, .f32⟩
  | 37 => ⟨S_, .f32⟩
  | 38 => ⟨S1x4096x1, .f32⟩
  | 39 => ⟨S1x4096x1, .f32⟩
  | 40 => ⟨S_, .f32⟩
  | 41 => ⟨S4096, .f32⟩
  | 42 => ⟨S1x4096, .f32⟩
  | 43 => ⟨S1x4096x1024, .f32⟩
  | 44 => ⟨S1x4096x1024, .f32⟩
  | 45 => ⟨S1x4096x1024, .f32⟩
  | 46 => ⟨S1x4096x1024, .f32⟩
  | 47 => ⟨S1x4096x1024, .f32⟩
  | 48 => ⟨S1x4096x1024, .f32⟩
  | 49 => ⟨S_, .f32⟩
  | 50 => ⟨S1x4096, .f32⟩
  | 51 => ⟨S1x4096x1, .f32⟩
  | 52 => ⟨S_, .f32⟩
  | 53 => ⟨S1x4096x1, .f32⟩
  | 54 => ⟨S1x4096x1, .f32⟩
  | 55 => ⟨S_, .f32⟩
  | 56 => ⟨S4096, .f32⟩
  | 57 => ⟨S1x4096, .f32⟩
  | 58 => ⟨S1x4096x1024, .f32⟩
  | 59 => ⟨S1x4096x1024, .f32⟩
  | 60 => ⟨S1x1024, .f32⟩
  | 61 => ⟨S1x1024, .f32⟩
  | 62 => ⟨S1x4096x1024, .f32⟩
  | 63 => ⟨S1x4096x1024, .f32⟩
  | 64 => ⟨S_, .f32⟩
  | 65 => ⟨S1x4096x1024, .f32⟩
  | 66 => ⟨S1x4096x1024, .f32⟩
  | 67 => ⟨S1x4096x1024, .f32⟩
  | 68 => ⟨S_, .f32⟩
  | 69 => ⟨S1x4096x1024, .f32⟩
  | 70 => ⟨S1x4096x1024, .f32⟩
  | 71 => ⟨S1x4096x1024, .f32⟩
  | 72 => ⟨S1x4096x1024, .f32⟩
  | 73 => ⟨S1x4096x1024, .f32⟩
  | 74 => ⟨S1x4096x1024, .f32⟩
  | 75 => ⟨S1x4096x1024, .f32⟩
  | 76 => ⟨S1x4096x1024, .f32⟩
  | 77 => ⟨S1x4096x1024, .f32⟩
  | 78 => ⟨S_, .f32⟩
  | 79 => ⟨S1x4096x1024, .f32⟩
  | 80 => ⟨S1x4096x1024, .f32⟩
  | 81 => ⟨S1x4096x1024, .f32⟩
  | 82 => ⟨S_, .f32⟩
  | 83 => ⟨S1x4096x1024, .f32⟩
  | 84 => ⟨S1x4096x1024, .f32⟩
  | 85 => ⟨S1x4096x1024, .f32⟩
  | 86 => ⟨S1x4096x1024, .f32⟩
  | 87 => ⟨S1x4096x1024, .f32⟩
  | 88 => ⟨S1x4096x1024, .f32⟩
  | 89 => ⟨S1x4096x1024, .f32⟩
  | 90 => ⟨S4096x1024, .f32⟩
  | 91 => ⟨S4096x1024, .bf16⟩
  | 92 => ⟨S4096x1024, .f32⟩
  | 93 => ⟨S4096x1024, .bf16⟩
  | 94 => ⟨S8x128x128, .f32⟩
  | 95 => ⟨S8x128x1, .f32⟩
  | _ => ⟨S1x4096x5128, .f32⟩

abbrev hbmTy (i : Nat) : BufTy := match i / 128 with
  | 0 => hbmTy0_0 i
  | 1 => hbmTy0_1 i
  | _ => ⟨S1x4096x5128, .f32⟩

abbrev bufTy : (tb : Table) → Fin (tcTables nBuf tb) → BufTy
  | .hbm, ⟨i, _⟩ => hbmTy i
  | _, _ => ⟨S1x4096x5128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_cst_8 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_9 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_11 : Ref sig .tc := ⟨.hbm, 54, rfl⟩
abbrev main_v36 : Ref sig .tc := ⟨.hbm, 55, rfl⟩
abbrev main_v37 : Ref sig .tc := ⟨.hbm, 56, rfl⟩
abbrev main_cst_12 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_13 : Ref sig .tc := ⟨.hbm, 61, rfl⟩
abbrev main_v41 : Ref sig .tc := ⟨.hbm, 62, rfl⟩
abbrev main_v42 : Ref sig .tc := ⟨.hbm, 63, rfl⟩
abbrev main_cst_14 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_17 : Ref sig .tc := ⟨.hbm, 79, rfl⟩
abbrev main_v55 : Ref sig .tc := ⟨.hbm, 80, rfl⟩
abbrev main_v56 : Ref sig .tc := ⟨.hbm, 81, rfl⟩
abbrev main_cst_18 : Ref sig .tc := ⟨.hbm, 82, rfl⟩
abbrev main_v57 : Ref sig .tc := ⟨.hbm, 83, rfl⟩
abbrev main_v58 : Ref sig .tc := ⟨.hbm, 84, rfl⟩
abbrev main_cst_19 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_20 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_call0_v0 : Ref sig .tc := ⟨.hbm, 103, rfl⟩
abbrev main_call0_c : Ref sig .tc := ⟨.hbm, 104, rfl⟩
abbrev main_call0_v1 : Ref sig .tc := ⟨.hbm, 105, rfl⟩
abbrev main_call0_v2 : Ref sig .tc := ⟨.hbm, 106, rfl⟩
abbrev main_call0_v3 : Ref sig .tc := ⟨.hbm, 107, rfl⟩
abbrev main_call0_v4 : Ref sig .tc := ⟨.hbm, 108, rfl⟩
abbrev main_v75_1 : Ref sig .tc := ⟨.hbm, 109, rfl⟩
abbrev main_call0_cst : Ref sig .tc := ⟨.hbm, 110, rfl⟩
abbrev main_call0_v6 : Ref sig .tc := ⟨.hbm, 111, rfl⟩
abbrev main_v75_0 : Ref sig .tc := ⟨.hbm, 112, rfl⟩
abbrev main_call0_cst_0 : Ref sig .tc := ⟨.hbm, 113, rfl⟩
abbrev main_v75_2 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_21 : Ref sig .tc := ⟨.hbm, 129, rfl⟩
abbrev main_v90 : Ref sig .tc := ⟨.hbm, 130, rfl⟩
abbrev main_v91 : Ref sig .tc := ⟨.hbm, 131, rfl⟩
abbrev main_cst_22 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_call1_cst : Ref sig .tc := ⟨.hbm, 140, rfl⟩
abbrev main_call1_v0 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_23 : Ref sig .tc := ⟨.hbm, 145, rfl⟩
abbrev main_v102 : Ref sig .tc := ⟨.hbm, 146, rfl⟩
abbrev main_v103 : Ref sig .tc := ⟨.hbm, 147, rfl⟩
abbrev main_cst_24 : Ref sig .tc := ⟨.hbm, 148, rfl⟩
abbrev main_v104 : Ref sig .tc := ⟨.hbm, 149, rfl⟩
abbrev main_v105 : Ref sig .tc := ⟨.hbm, 150, rfl⟩
abbrev main_cst_25 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_26 : Ref sig .tc := ⟨.hbm, 156, rfl⟩
abbrev main_v110 : Ref sig .tc := ⟨.hbm, 157, rfl⟩
abbrev main_v111 : Ref sig .tc := ⟨.hbm, 158, rfl⟩
abbrev main_cst_27 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_28 : Ref sig .tc := ⟨.hbm, 165, rfl⟩
abbrev main_v117 : Ref sig .tc := ⟨.hbm, 166, rfl⟩
abbrev main_v118 : Ref sig .tc := ⟨.hbm, 167, rfl⟩
abbrev main_cst_29 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_cst_30 : Ref sig .tc := ⟨.hbm, 177, rfl⟩
abbrev main_v127 : Ref sig .tc := ⟨.hbm, 178, rfl⟩
abbrev main_v128 : Ref sig .tc := ⟨.hbm, 179, rfl⟩
abbrev main_cst_31 : Ref sig .tc := ⟨.hbm, 180, rfl⟩
abbrev main_v129 : Ref sig .tc := ⟨.hbm, 181, rfl⟩
abbrev main_v130 : Ref sig .tc := ⟨.hbm, 182, rfl⟩
abbrev main_cst_32 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_cst_33 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_cst_34 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_cst_35 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_cst_36 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩

abbrev nD : Nat := 1
abbrev τ : Topo := Topo.v7x

variable {F : FTy → Type} [FloatOps F]
-- ==== OutProjK.lean ====
abbrev S1x4096x2048 : Shape := ⟨3, ![1, 4096, 2048]⟩
abbrev S1x2048x2048 : Shape := ⟨3, ![1, 2048, 2048]⟩
abbrev S1x2048 : Shape := ⟨2, ![1, 2048]⟩
abbrev S4096x2048 : Shape := ⟨2, ![4096, 2048]⟩
abbrev S2048x2048 : Shape := ⟨2, ![2048, 2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S1x4096x2048, .f32⟩
  | .hbm, ⟨1, _⟩ => ⟨S1x2048x2048, .f32⟩
  | .hbm, ⟨2, _⟩ => ⟨S1x4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S2048x2048, .f32⟩
  | .hbm, ⟨7, _⟩ => ⟨S2048x2048, .bf16⟩
  | .hbm, ⟨8, _⟩ => ⟨S4096x2048, .f32⟩
  | .hbm, ⟨9, _⟩ => ⟨S4096x2048, .f32⟩
  | .hbm, ⟨10, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== OutProjRIdeal.lean ====
abbrev S1x4096x2048 : Shape := ⟨3, ![1, 4096, 2048]⟩
abbrev S1x2048x2048 : Shape := ⟨3, ![1, 2048, 2048]⟩
abbrev S1x2048 : Shape := ⟨2, ![1, 2048]⟩
abbrev S2048x2048 : Shape := ⟨2, ![2048, 2048]⟩
abbrev S4096x2048 : Shape := ⟨2, ![4096, 2048]⟩
abbrev S2048 : Shape := ⟨1, ![2048]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x2048x2048, .f32⟩
  | .hbm, ⟨2, _⟩ => ⟨S1x4096x2048, .f32⟩
  | .hbm, ⟨3, _⟩ => ⟨S1x2048, .f32⟩
  | .hbm, ⟨4, _⟩ => ⟨S2048x2048, .f32⟩
  | .hbm, ⟨5, _⟩ => ⟨S1x4096x2048, .f32⟩
  | .hbm, ⟨6, _⟩ => ⟨S1x4096x2048, .f32⟩
  | .hbm, ⟨7, _⟩ => ⟨S4096x2048, .f32⟩
  | .hbm, ⟨8, _⟩ => ⟨S2048, .f32⟩
  | .hbm, ⟨9, _⟩ => ⟨S1x4096x2048, .f32⟩
  | .hbm, ⟨10, _⟩ => ⟨S_, .f32⟩
  | .hbm, ⟨11, _⟩ => ⟨S1x4096, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S_, .f32⟩
  | .hbm, ⟨17, _⟩ => ⟨S1x4096x1, .f32⟩
  | .hbm, ⟨18, _⟩ => ⟨S1x4096x1, .f32⟩
  | .hbm, ⟨19, _⟩ => ⟨S1x4096x1, .f32⟩
  | .hbm, ⟨20, _⟩ => ⟨S1x4096x2048, .f32⟩
  | .hbm, ⟨21, _⟩ => ⟨S1x4096x2048, .f32⟩
  | .hbm, ⟨22, _⟩ => ⟨S1x1x2048, .f32⟩
  | .hbm, ⟨23, _⟩ => ⟨S1x4096x2048, .f32⟩
  | .hbm, ⟨24, _⟩ => ⟨S1x4096x2048, .f32⟩
  | .hbm, ⟨25, _⟩ => ⟨S4096x2048, .f32⟩
  | .hbm, ⟨26, _⟩ => ⟨S4096x2048, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== FfOneK.lean ====
abbrev S1x4096x2048 : Shape := ⟨3, ![1, 4096, 2048]⟩
abbrev S1x2048x8192 : Shape := ⟨3, ![1, 2048, 8192]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4096x2048 : Shape := ⟨2, ![4096, 2048]⟩
abbrev S4096x8192 : Shape := ⟨2, ![4096, 8192]⟩
abbrev S2048x2048 : Shape := ⟨2, ![2048, 2048]⟩
abbrev S1x2048x1024 : Shape := ⟨3, ![1, 2048, 1024]⟩
abbrev S2048x1024 : Shape := ⟨2, ![2048, 1024]⟩

abbrev nBuf : Space → Nat
  | .hbm => 9
  | .vmem => 6
  | .smem => 0
  | _ => 0

abbrev bufTy : (tb : Table) → Fin (tcTables nBuf tb) → BufTy
  | .hbm, ⟨0, _⟩ => ⟨S1x4096x2048, .f32⟩
  | .hbm, ⟨1, _⟩ => ⟨S1x2048x8192, .f32⟩
  | .hbm, ⟨2, _⟩ => ⟨S2048x8192, .f32⟩
  | .hbm, ⟨3, _⟩ => ⟨S2048x8x1024, .f32⟩
  | .hbm, ⟨4, _⟩ => ⟨S8x2048x1024, .f32⟩
  | .hbm, ⟨5, _⟩ => ⟨S8x2048x1024, .bf16⟩
  | .hbm, ⟨6, _⟩ => ⟨S4096x2048, .f32⟩
  | .hbm, ⟨7, _⟩ => ⟨S4096x2048, .bf16⟩
  | .hbm, ⟨8, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S2048x1024, .bf16⟩
  | .local _ .vmem, ⟨5, _⟩ => ⟨S2048x1024, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfOneRIdeal.lean ====
abbrev S1x4096x2048 : Shape := ⟨3, ![1, 4096, 2048]⟩
abbrev S1x2048x8192 : Shape := ⟨3, ![1, 2048, 8192]⟩
abbrev S2048x8192 : Shape := ⟨2, ![2048, 8192]⟩
abbrev S1x4096x8192 : Shape := ⟨3, ![1, 4096, 8192]⟩
abbrev S_ : Shape := ⟨0, ![]⟩
abbrev S4096x8192 : Shape := ⟨2, ![4096, 8192]⟩

abbrev nBuf : Space → Nat
  | .hbm => 9
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x2048x8192, .f32⟩
  | .hbm, ⟨2, _⟩ => ⟨S2048x8192, .f32⟩
  | .hbm, ⟨3, _⟩ => ⟨S1x4096x8192, .f32⟩
  | .hbm, ⟨4, _⟩ => ⟨S_, .f32⟩
  | .hbm, ⟨5, _⟩ => ⟨S1x4096x8192, .f32⟩
  | .hbm, ⟨6, _⟩ => ⟨S1x4096x8192, .f32⟩
  | .hbm, ⟨7, _⟩ => ⟨S4096x8192, .f32⟩
  | .hbm, ⟨8, _⟩ => ⟨S4096x8192, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== RmsMixK.lean ====
abbrev S1x4096x2048 : Shape := ⟨3, ![1, 4096, 2048]⟩
abbrev S1x2048 : Shape := ⟨2, ![1, 2048]⟩
abbrev S4096x2048 : Shape := ⟨2, ![4096, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S1x4096x2048, .f32⟩
  | .hbm, ⟨1, _⟩ => ⟨S1x2048, .f32⟩
  | .hbm, ⟨2, _⟩ => ⟨S4096x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsMixRIdeal.lean ====
abbrev S1x4096x2048 : Shape := ⟨3, ![1, 4096, 2048]⟩
abbrev S1x2048 : Shape := ⟨2, ![1, 2048]⟩
abbrev S2048 : Shape := ⟨1, ![2048]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩
abbrev S4096x2048 : Shape := ⟨2, ![4096, 2048]⟩

abbrev nBuf : Space → Nat
  | .hbm => 21
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x2048, .f32⟩
  | .hbm, ⟨2, _⟩ => ⟨S2048, .f32⟩
  | .hbm, ⟨3, _⟩ => ⟨S1x4096x2048, .f32⟩
  | .hbm, ⟨4, _⟩ => ⟨S_, .f32⟩
  | .hbm, ⟨5, _⟩ => ⟨S1x4096, .f32⟩
  | .hbm, ⟨6, _⟩ => ⟨S1x4096x1, .f32⟩
  | .hbm, ⟨7, _⟩ => ⟨S_, .f32⟩
  | .hbm, ⟨8, _⟩ => ⟨S1x4096x1, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S1x4096x1, .f32⟩
  | .hbm, ⟨14, _⟩ => ⟨S1x4096x2048, .f32⟩
  | .hbm, ⟨15, _⟩ => ⟨S1x4096x2048, .f32⟩
  | .hbm, ⟨16, _⟩ => ⟨S1x1x2048, .f32⟩
  | .hbm, ⟨17, _⟩ => ⟨S1x4096x2048, .f32⟩
  | .hbm, ⟨18, _⟩ => ⟨S1x4096x2048, .f32⟩
  | .hbm, ⟨19, _⟩ => ⟨S4096x2048, .f32⟩
  | .hbm, ⟨20, _⟩ => ⟨S4096x2048, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.FfTwoDx.lean ====
/- The gradient through the squared-relu feed-forward product: `FfTwoDxKIdeal` and `FfTwoDxRIdeal` compute the
   same array. The kernel multiplies the cotangent block by the weight block and by `2 · max z 0`; the reference
   differentiates `max z 0 * max z 0`, whose derivative is two products, kept where `z` is positive. -/
module

public import proofs.«01_k».proof.Defs
public import proofs.«01_k».proof.Proof.Gen.FfTwoDxKIdeal.Value
public import proofs.«01_k».proof.Proof.Gen.FfTwoDxRIdeal.Read
public import Idealize.ShloMosaic.Lib.Pipeline.ValueKit
public import Idealize.ShloMosaic.Lib.Claim

@[expose] public section

set_option maxRecDepth 16384

noncomputable section

namespace Cert.FfTwoDxKIdeal.Value

open Cert.FfTwoDxKIdeal Cert.FfTwoDxKIdeal.Gen Idealize.ShloMosaic Idealize.ShloMosaic.TcCoe Idealize.SL.Sem
open Idealize.ShloMosaic.Pipeline (Dat)

variable (m : (ℓ : Loc nD τ sig) → Buf (Elt Ideal) ℓ)

/-- The array both programs leave: at row `i` and column `j`, twice the activation times the cotangent row against
    the weight row. -/
def G (z : FVec Ideal S1x4096x8192 .f32) (w : FVec Ideal S1x8192x2048 .f32) (ct : FVec Ideal S1x4096x2048 .f32) :
    FVec Ideal S4096x8192 .bf16 := fun j =>
  Ideal.ofBits .f32 0x40000000#32 * max (z (ix3 0 (j 0) (j 1))) 0
    * ∑ k : Fin 2048, ct (ix3 0 (j 0) k) * w (ix3 0 (j 1) k)

/-- The block index of every window at every grid point. -/
theorem idx : ∀ t : Fin cfg0.N, win0_0.index t = ![t.val / 8, 0] ∧ win0_1.index t = ![t.val % 8, 0]
    ∧ win0_2.index t = ![t.val / 8, t.val % 8] ∧ win0_3.index t = ![t.val / 8, t.val % 8] ∧ t.val / 8 < 2 :=
  (by decide +kernel : ∀ t : Fin grid0.N, _)

/-- The payload at an index. -/
theorem pay (x0 : Vec Ideal S2048x2048 .bf16) (x1 : Vec Ideal S1024x2048 .bf16) (x2 : Vec Ideal S2048x1024 .bf16)
    (j : S2048x1024.Idx) : k0_pay1 (F := Ideal) x0 x1 x2 j
      = Ideal.ofBits .f32 0x40000000#32 * x2 j * ∑ k : Fin 2048, x0 (ix2 (j 0) k) * x1 (ix2 (j 1) k) := by
  pointwise [k0_pay1]

/-- The activations as the kernel is given them: the larger of the pre-activation and zero. -/
theorem entry_a (c : Dev nD) (i : S4096x8192.Idx) :
    (show EReal from V m c main_v3 i) = max (show EReal from m ((c : Thread nD τ).loc main_arg0) (ix3 0 (i 0) (i 1))) 0 := by
  entry_read
  pointwise

/-- What the body stores at index `y` of its block is `G` at the array index where `y` sits. -/
theorem point (c : Dev nD) (t : Fin cfg0.N) (y) : k0_pay1 (F := Ideal) (iblk m c 0 t) (iblk m c 1 t) (iblk m c 2 t) y
    = G (m ((c : Thread nD τ).loc main_arg0)) (m ((c : Thread nD τ).loc main_arg1)) (m ((c : Thread nD τ).loc main_arg2))
      (((cfg0.win 3).blk t).view.emb y) := by
  pointwise [k0_pay1, G]
  refine congrArg₂ (· * ·) (congrArg _ ?_) ?_
  · show V m c main_v3 (((cfg0.win 2).blk t).view.emb y) = _
    refine (entry_a m c _).trans ?_
    refine congrArg (fun e : EReal => max e 0) ?_
    blk_point [iblk, V, idx t]
  · blk_point [iblk, V, idx t]

/-- The result array after the run. -/
theorem final (c : Dev nD) : (dats m 0 c).arrAt 3 (cfgs 0).N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.FfTwoDxKIdeal.Value

namespace Cert.FfTwoDxRIdeal.Value

open Cert.FfTwoDxRIdeal Cert.FfTwoDxRIdeal.Gen Cert.FfTwoDxRIdeal.Read Idealize.ShloMosaic Idealize.ShloMosaic.TcCoe Idealize.SL.Sem

/-- Twice a number is the number added to itself. -/
theorem two_mul_ofBits (x : EReal) : Ideal.ofBits .f32 0x40000000#32 * x = x + x := by
  have h : Ideal.ofBits .f32 0x40000000#32 = ((2 : ℝ) : EReal) := by
    simp [Ideal.ofBits, Ideal.ieee, -EReal.coe_mul]; norm_num
  have h2 : ((2 : ℝ) : EReal) = 1 + 1 := by
    rw [← EReal.coe_one, ← EReal.coe_add]; norm_num
  rw [h, h2, EReal.right_distrib_of_nonneg (by norm_num) (by norm_num), one_mul]

/-- The reference's array is the kernel's. -/
theorem ref_eq (z : FVec Ideal S1x4096x8192 .f32) (w : FVec Ideal S1x8192x2048 .f32) (ct : FVec Ideal S1x4096x2048 .f32) :
    val_main_v14 (F := Ideal) z w ct = Cert.FfTwoDxKIdeal.Value.G z w ct := by
  funext j
  idx_vars j
  pointwise [val_main_v14, val_main_v13, val_main_v12, val_main_v10, val_main_v8, val_main_v9, val_main_v2, val_main_v1, val_main_v0, val_main_v7, val_main_v5, val_main_cst, val_main_cst_1, val_main_v11, val_main_call0_v0, val_main_call0_cst, Cert.FfTwoDxKIdeal.Value.G]
  rw [mul_assoc, two_mul_ofBits]
  split
  · rw [mul_comm (max _ _)]
  · rename_i h
    rw [max_eq_right (not_lt.1 h), zero_mul, zero_add]

end Cert.FfTwoDxRIdeal.Value

namespace Cert.FfTwoDxAlg

open Idealize.ShloMosaic Idealize.ShloMosaic.TcCoe Idealize.SL.Sem

/-- Both programs leave the same result array and their arguments as they found them. -/
theorem algebraic : Cert.algebraic_FfTwoDxKIdeal_FfTwoDxRIdeal := by
  pair_intro
  · run_from Cert.FfTwoDxKIdeal.Gen.run_main m g
  · run_from Cert.FfTwoDxRIdeal.Value.run m' g'
    rw [Cert.FfTwoDxKIdeal.Value.final m c, Cert.FfTwoDxRIdeal.Read.val_main_v14_eq]
    exact Cert.FfTwoDxRIdeal.Value.ref_eq _ _ _

end Cert.FfTwoDxAlg

end
-- ==== Proof.RmsMath.lean ====
/- The gradient of a row's root-mean-square norm, on extended reals. A row `x` is divided by the root of its mean
   square: `x k * rstd`. Written out by hand, the gradient of its entry `j` along the row `d` is
   `rstd * (d j − x j * rstd * mean (d k * (x k * rstd)))`; differentiated step by step it is
   `d j * rstd + x j * D + D * x j` with `D` the gradient of the mean square. The two agree on all rows: where the
   mean square is a number they differ by a positive factor moved through a sum, and where it is infinite `rstd`
   is zero and so are both. -/
module

public import Idealize.ShloMosaic.Lib.Pipeline.ValueKit
public import Idealize.ShloMosaic.Lib.Claim

@[expose] public section

noncomputable section

namespace Cert.Rms

open Idealize.ShloMosaic

/-- A number that is not negative moves through a sum of two. -/
theorem coe_mul_add {c : ℝ} (hc : 0 ≤ c) (a b : EReal) : (c : EReal) * (a + b) = c * a + c * b :=
  EReal.left_distrib_of_nonneg_of_ne_top (by exact_mod_cast hc) (EReal.coe_ne_top c) a b

/-- A number that is not negative moves through a finite sum. -/
theorem coe_mul_sum {ι : Type*} {c : ℝ} (hc : 0 ≤ c) (s : Finset ι) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, coe_mul_add hc, ih]

/-- A sum over an axis of length one before the kept axis and another one. -/
theorem red_col {n : ℕ} (h : (⟨3, ![1, 1, n]⟩ : Shape).ReducesTo [0, 1] ⟨1, ![n]⟩)
    (v : (⟨3, ![1, 1, n]⟩ : Shape).Idx → EReal) (init : EReal) (j : Fin n) :
    Ideal.hostReduceAdd h v init (ix1 j) = init + v (ix3 0 0 j) := by
  unfold Ideal.hostReduceAdd
  refine congrArg (init + ·) ?_
  refine (Finset.sum_congr ?_ fun _ _ => rfl).trans (Finset.sum_singleton v (ix3 0 0 j))
  ext i
  simp only [Finset.mem_filter, Finset.mem_univ, true_and, Finset.mem_singleton]
  constructor
  · intro e
    funext a; apply Fin.ext
    match a with
    | ⟨0, _⟩ => exact Nat.lt_one_iff.mp (i 0).isLt
    | ⟨1, _⟩ => exact Nat.lt_one_iff.mp (i 1).isLt
    | ⟨2, _⟩ => exact congrArg Fin.val (congrFun e 0)
  · rintro rfl
    funext b; apply Fin.ext
    match b with
    | ⟨0, _⟩ => rfl

/-- A sum over axes of length one on either side of the kept axis. -/
theorem red_row {n : ℕ} (h : (⟨3, ![1, n, 1]⟩ : Shape).ReducesTo [0, 2] ⟨1, ![n]⟩)
    (v : (⟨3, ![1, n, 1]⟩ : Shape).Idx → EReal) (init : EReal) (j : Fin n) :
    Ideal.hostReduceAdd h v init (ix1 j) = init + v (ix3 0 j 0) := by
  unfold Ideal.hostReduceAdd
  refine congrArg (init + ·) ?_
  refine (Finset.sum_congr ?_ fun _ _ => rfl).trans (Finset.sum_singleton v (ix3 0 j 0))
  ext i
  simp only [Finset.mem_filter, Finset.mem_univ, true_and, Finset.mem_singleton]
  constructor
  · intro e
    funext a; apply Fin.ext
    match a with
    | ⟨0, _⟩ => exact Nat.lt_one_iff.mp (i 0).isLt
    | ⟨1, _⟩ => exact congrArg Fin.val (congrFun e 0)
    | ⟨2, _⟩ => exact Nat.lt_one_iff.mp (i 2).isLt
  · rintro rfl
    funext b; apply Fin.ext
    match b with
    | ⟨0, _⟩ => rfl

variable {n : ℕ}

/-- The mean square of a row, with the small constant under the root. -/
def ms (N : EReal) (x : Fin n → EReal) : EReal :=
  Ideal.div (∑ k, x k * x k) N + Ideal.ofBits .f32 0x358637BD#32

/-- One over the root of the mean square. -/
def rstd (N : EReal) (x : Fin n → EReal) : EReal := Ideal.rsqrt (ms N x)

/-- The gradient of the mean square along the row `d`, as differentiation gives it. -/
def D (N : EReal) (x d : Fin n → EReal) : EReal :=
  Ideal.div ((∑ k, x k * d k) * (Ideal.ofBits .f32 0xBF000000#32 * Ideal.div (rstd N x) (ms N x))) N

/-- The gradient of a row's norm along the row `d`, written out by hand. -/
def dx (N : EReal) (x d : Fin n → EReal) (j : Fin n) : EReal :=
  rstd N x * (d j - x j * rstd N x * Ideal.div (∑ k, d k * (x k * rstd N x)) N)

theorem eps_pos : ∃ e : ℝ, 0 < e ∧ Ideal.ofBits .f32 0x358637BD#32 = (e : EReal) := by
  refine ⟨_, ?_, rfl⟩
  simp [Ideal.ieee]
  try norm_num

theorem half_neg : Ideal.ofBits .f32 0xBF000000#32 = ((-(1 / 2) : ℝ) : EReal) := by
  simp [Ideal.ofBits, Ideal.ieee, -EReal.coe_mul]; norm_num

/-- A square is not negative. -/
theorem sq_nonneg (a : EReal) : 0 ≤ a * a := by
  rcases le_total 0 a with h | h
  · exact mul_nonneg h h
  · exact EReal.mul_nonneg_iff.2 (Or.inr ⟨h, h⟩)

/-- Either the root is a positive number, and divided by the mean square it is its own cube; or it is zero. -/
theorem rstd_cases {ν : ℝ} (hν : 0 < ν) (x : Fin n → EReal) :
    (∃ r : ℝ, 0 < r ∧ rstd (ν : EReal) x = r ∧ Ideal.div (rstd (ν : EReal) x) (ms (ν : EReal) x) = ((r * r * r : ℝ) : EReal))
      ∨ (rstd (ν : EReal) x = 0 ∧ Ideal.div (rstd (ν : EReal) x) (ms (ν : EReal) x) = 0) := by
  obtain ⟨e, he, hE⟩ := eps_pos
  have hs : 0 ≤ ∑ k, x k * x k := Finset.sum_nonneg fun k _ => sq_nonneg _
  unfold rstd ms
  rw [hE, Ideal.div_coe hν.ne']
  generalize (∑ k, x k * x k) = s at hs ⊢
  induction s using EReal.rec with
  | bot => exact absurd hs (by simp)
  | top =>
    right
    rw [EReal.top_mul_coe_of_pos (by positivity), EReal.top_add_coe, Ideal.rsqrt_top]
    exact ⟨rfl, by simp [Ideal.div]⟩
  | coe s =>
    left
    have hs' : 0 ≤ s := by exact_mod_cast hs
    have hv : 0 < s * (1 / ν) + e := by positivity
    rw [← EReal.coe_mul, ← EReal.coe_add, Ideal.rsqrt_coe, if_neg (not_lt.2 hv.le), if_neg hv.ne', Ideal.div_coe hv.ne',
      ← EReal.coe_mul]
    refine ⟨_, by positivity, rfl, ?_⟩
    congr 1
    have h2 : Real.sqrt (s * (1 / ν) + e) * Real.sqrt (s * (1 / ν) + e) = s * (1 / ν) + e := Real.mul_self_sqrt hv.le
    rw [mul_assoc, ← mul_inv, h2]
    exact congrArg _ (one_div _)

/-- The negative of a number added to itself. -/
theorem neg_double (y : EReal) : -(y + y) = -y + -y := by
  rw [EReal.neg_add, sub_eq_add_neg]
  · exact or_iff_not_imp_left.2 fun h => by rw [not_not.1 h]; exact bot_ne_top
  · exact or_iff_not_imp_left.2 fun h => by rw [not_not.1 h]; exact top_ne_bot

/-- The gradient by hand is the gradient by differentiation, on every row. -/
theorem dx_eq {ν : ℝ} (hν : 0 < ν) (x d : Fin n → EReal) (j : Fin n) :
    dx (ν : EReal) x d j = d j * rstd (ν : EReal) x + x j * D (ν : EReal) x d + D (ν : EReal) x d * x j := by
  unfold dx D
  rcases rstd_cases hν x with ⟨r, hr, h1, h2⟩ | ⟨h1, h2⟩
  · rw [h2, h1, half_neg, Ideal.div_coe hν.ne', Ideal.div_coe hν.ne']
    have hS : ∑ k, d k * (x k * (r : EReal)) = (r : EReal) * ∑ k, x k * d k := by
      rw [coe_mul_sum hr.le]
      exact Finset.sum_congr rfl fun k _ => by rw [← mul_assoc, mul_comm, mul_comm (d k)]
    rw [hS]
    generalize (∑ k, x k * d k) = s
    rw [sub_eq_add_neg, coe_mul_add hr.le, mul_comm (r : EReal) (d j), add_assoc]
    refine congrArg _ ?_
    have hc : 0 ≤ r * r * r * (1 / ν) * (1 / 2) := by positivity
    have hl : (r : EReal) * -(x j * r * (r * s * ((1 / ν : ℝ) : EReal)))
        = -(((r * r * r * (1 / ν) * (1 / 2) : ℝ) : EReal) * (x j * s) + ((r * r * r * (1 / ν) * (1 / 2) : ℝ) : EReal) * (x j * s)) := by
      rw [mul_neg]
      refine congrArg _ ?_
      rw [← EReal.right_distrib_of_nonneg (by exact_mod_cast hc) (by exact_mod_cast hc), ← EReal.coe_add]
      have : r * r * r * (1 / ν) * (1 / 2) + r * r * r * (1 / ν) * (1 / 2) = r * r * r * (1 / ν) := by ring
      rw [this, EReal.coe_mul, EReal.coe_mul, EReal.coe_mul]
      ac_rfl
    have hr2 : x j * (s * (((-(1 / 2) : ℝ) : EReal) * ((r * r * r : ℝ) : EReal)) * ((1 / ν : ℝ) : EReal))
        = -(((r * r * r * (1 / ν) * (1 / 2) : ℝ) : EReal) * (x j * s)) := by
      rw [← EReal.coe_mul, mul_assoc s, ← EReal.coe_mul]
      have : -(1 / 2) * (r * r * r) * (1 / ν) = -(r * r * r * (1 / ν) * (1 / 2)) := by ring
      rw [this, EReal.coe_neg, mul_neg, mul_neg]
      refine congrArg _ ?_
      ac_rfl
    rw [hl, mul_comm (s * _ * _) (x j), hr2]
    exact neg_double _
  · rw [h2, h1]
    simp [Ideal.div_coe hν.ne']

/-- The norm's gradient depends on the row and the cotangent by their entries. -/
theorem dx_congr {n : ℕ} {N : EReal} {x x' d d' : Fin n → EReal} (hx : ∀ k, x k = x' k) (hd : ∀ k, d k = d' k) (j : Fin n) :
    dx N x d j = dx N x' d' j := by
  rw [funext hx, funext hd]

/-- So does its scale. -/
theorem rstd_congr {n : ℕ} {N : EReal} {x x' : Fin n → EReal} (hx : ∀ k, x k = x' k) : rstd N x = rstd N x' := by
  rw [funext hx]

/-- Equal numbers have equal differences. -/
theorem sub_congr {a b a' b' : EReal} (h : a = a') (h' : b = b') : a - b = a' - b' := by rw [h, h']

/-- Equal numbers have equal quotients. -/
theorem div_congr {a a' N : EReal} (h : a = a') : Ideal.div a N = Ideal.div a' N := by rw [h]

/-- Products of equal numbers are equal. -/
theorem mul_congr {a b a' b' : EReal} (h : a = a') (h' : b = b') : a * b = a' * b' := by
  rw [h, h']

section Runs

variable {N J : ℕ} {f : (n : ℕ) → n < N → EReal} {g : (n : ℕ) → n < N → EReal}

theorem run_lt {q : ℕ} {k : ℕ} (h : J * q + k < N) (s : Fin (k + 1)) : J * q + s.val < N := by omega

/-- In a run of `J` points a sum that starts at the run's first point and grows at each later one but the last is,
    at point `k`, the sum of what the points so far contribute. -/
theorem acc_run (h0 : ∀ n h, n % J = 0 → f n h = g n h)
    (hs : ∀ n h, 1 ≤ n % J → n % J + 2 ≤ J → f n h = f (n - 1) (by omega) + g n h) (q : ℕ) :
    ∀ (k : ℕ) (_ : k + 2 ≤ J) (h : J * q + k < N), f (J * q + k) h = ∑ s : Fin (k + 1), g (J * q + s.val) (run_lt h s)
  | 0, hk, h => by
    rw [h0 _ h (by simp), Fin.sum_univ_succ]; simp
  | k + 1, hk, h => by
    have hm : (J * q + (k + 1)) % J = k + 1 := by rw [Nat.mul_add_mod]; exact Nat.mod_eq_of_lt (by omega)
    rw [hs _ h (by omega) (by omega), Fin.sum_univ_castSucc]
    exact congrArg₂ (· + ·) (acc_run h0 hs q k (by omega) (by omega)) rfl

/-- So what the last point adds completes the run's sum. -/
theorem acc_last (h0 : ∀ n h, n % J = 0 → f n h = g n h)
    (hs : ∀ n h, 1 ≤ n % J → n % J + 2 ≤ J → f n h = f (n - 1) (by omega) + g n h) (q k : ℕ) (hk : k + 2 = J)
    (h : J * q + (k + 1) < N) : f (J * q + k) (by omega) + g (J * q + (k + 1)) h = ∑ s : Fin (k + 2), g (J * q + s.val) (run_lt h s) := by
  rw [Fin.sum_univ_castSucc]
  exact congrArg₂ (· + ·) (acc_run h0 hs q k (by omega) (by omega)) rfl

theorem runs_lt {k q : ℕ} (h : J * q + k < N) (s : Fin (q + 1)) : J * s.val + k < N := by
  have := Nat.mul_le_mul_left J (Nat.le_of_lt_succ s.isLt)
  omega

/-- A sum that changes only at the last point of every run of `J` points, where the run's part is added, is the sum of
    the runs' parts. -/
theorem acc_runs {k : ℕ} (hk : k + 1 = J) (hc : ∀ n h, n % J ≠ k → 1 ≤ n → f n h = f (n - 1) (by omega))
    (h0 : ∀ h, f k h = g k h) (hs : ∀ n h, n % J = k → J ≤ n → f n h = f (n - 1) (by omega) + g n h) :
    ∀ (q : ℕ) (h : J * q + k < N), f (J * q + k) h = ∑ s : Fin (q + 1), g (J * s.val + k) (runs_lt h s)
  | 0, h => by
    have e : J * 0 + k = k := by omega
    rw [Fin.sum_univ_succ]
    simpa [e] using h0 (by omega)
  | q + 1, h => by
    have hm : (J * (q + 1) + k) % J = k := by rw [Nat.mul_add_mod]; exact Nat.mod_eq_of_lt (by omega)
    have hJ : J * (q + 1) = J * q + J := Nat.mul_succ J q
    have hl : J * q + k < N := by omega
    have carry : ∀ (i : ℕ) (_ : i ≤ k) (hi : J * q + k + i < N), f (J * q + k + i) hi = f (J * q + k) hl := fun i => by
      induction i with
      | zero => intro _ _; rfl
      | succ i ih =>
        intro h1 h2
        have hm' : (J * q + k + (i + 1)) % J ≠ k := by
          have e : J * q + k + (i + 1) = J * (q + 1) + i := by omega
          rw [e, Nat.mul_add_mod, Nat.mod_eq_of_lt (by omega)]; omega
        rw [hc _ h2 hm' (by omega)]
        exact ih (by omega) (by omega)
    rw [hs _ h hm (by omega), Fin.sum_univ_castSucc]
    refine congrArg₂ (· + ·) ?_ rfl
    have e : ∀ (n n' : ℕ) (h : n < N) (h' : n' < N), n = n' → f n h = f n' h' := fun n n' h h' e => by subst e; rfl
    rw [e (J * (q + 1) + k - 1) (J * q + k + k) (by omega) (by omega) (by omega), carry k le_rfl (by omega)]
    exact acc_runs hk hc h0 hs q hl

end Runs

end Cert.Rms

end
-- ==== Proof.OutDx.lean ====
/- The gradient through the output projection and the two norms before it: `OutDxKIdeal` and `OutDxRIdeal` compute
   the same arrays. Both multiply the cotangent by the transposed weights; the kernel then uses the norm's gradient
   written out by hand, block of rows by block of rows, the reference differentiates the norm step by step. -/
module

public import proofs.«01_k».proof.Defs
public import proofs.«01_k».proof.Proof.RmsMath
public import proofs.«01_k».proof.Proof.Gen.OutDxKIdeal.Value
public import proofs.«01_k».proof.Proof.Gen.OutDxRIdeal.Read
public import Idealize.ShloMosaic.Lib.Pipeline.ValueKit
public import Idealize.ShloMosaic.Lib.Claim

@[expose] public section

set_option maxRecDepth 16384

noncomputable section

namespace Cert.OutDxKIdeal.Value

open Cert.OutDxKIdeal Cert.OutDxKIdeal.Gen Idealize.ShloMosaic Idealize.ShloMosaic.TcCoe Idealize.SL.Sem
open Idealize.ShloMosaic.Pipeline (Dat)

/-- The row length as both programs divide by it. -/
abbrev N : EReal := Ideal.ofBits .f32 0x44800000#32

theorem lo_lt (k : Fin 1024) : k.val < 2048 := by omega
theorem hi_lt (k : Fin 1024) : 1024 + k.val < 2048 := by omega

/-- The first half of the merged columns. -/
abbrev lo (k : Fin 1024) : Fin 2048 := ⟨k.val, lo_lt k⟩
/-- The second half of the merged columns. -/
abbrev hi (k : Fin 1024) : Fin 2048 := ⟨1024 + k.val, hi_lt k⟩

/-- The cotangent of the merged activations. -/
abbrev dm (w : FVec Ideal S1x2048x2048 .f32) (ct : FVec Ideal S1x4096x2048 .f32) (i : Fin 4096) (k : Fin 2048) : EReal :=
  ∑ l : Fin 2048, ct (ix3 0 i l) * w (ix3 0 k l)

/-- The gradient of one norm's input; `half` says which half of the merged columns it wrote. -/
def Gdx (half : Fin 1024 → Fin 2048) (x : FVec Ideal S1x4096x1024 .f32) (g : FVec Ideal S1x1024 .f32)
    (w : FVec Ideal S1x2048x2048 .f32) (ct : FVec Ideal S1x4096x2048 .f32) : FVec Ideal S4096x1024 .f32 := fun j =>
  Rms.dx N (fun k => x (ix3 0 (j 0) k)) (fun k => dm w ct (j 0) (half k) * g (ix2 0 k)) (j 1)

/-- The gradient of one norm's scale. -/
def Gdg (half : Fin 1024 → Fin 2048) (x : FVec Ideal S1x4096x1024 .f32) (w : FVec Ideal S1x2048x2048 .f32)
    (ct : FVec Ideal S1x4096x2048 .f32) : FVec Ideal S1x1024 .f32 := fun j =>
  ∑ i : Fin 4096, dm w ct i (half (j 1)) * (x (ix3 0 i (j 1)) * Rms.rstd N (fun k => x (ix3 0 i k)))

variable (m : (ℓ : Loc nD τ sig) → Buf (Elt Ideal) ℓ)

/-- The block index of every window at every grid point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![0, 0] ∧ win0_9.index t = ![0, 0] ∧ t.val < 8 :=
  (by decide +kernel : ∀ t : Fin grid0.N, _)

section Payloads

variable (v0 : Vec Ideal S512x2048 .bf16) (v2 : Vec Ideal S2048x2048 .bf16) (v5 v7 : Vec Ideal S512x1024 .f32)
  (g : Vec Ideal S1x1024 .f32)

/-- The stored gradient of the first norm's input. -/
theorem pay_lo (j : S512x1024.Idx) : k0_pay14 v0 v2 v5 g j
    = Rms.dx N (fun k => v5 (ix2 (j 0) k)) (fun k => (∑ l : Fin 2048, v0 (ix2 (j 0) l) * v2 (ix2 (lo k) l)) * g (ix2 0 k)) (j 1) := by
  idx_vars j
  pointwise [k0_pay14, k0_pay12, k0_pay11, k0_pay10, k0_pay8, k0_pay7, Rms.dx, Rms.rstd, Rms.ms]

/-- The stored gradient of the second norm's input. -/
theorem pay_hi (j : S512x1024.Idx) : k0_pay4 (k0_pay9 v7) g (k0_pay15 v0 v2) (k0_pay16 v7) j
    = Rms.dx N (fun k => v7 (ix2 (j 0) k)) (fun k => (∑ l : Fin 2048, v0 (ix2 (j 0) l) * v2 (ix2 (hi k) l)) * g (ix2 0 k)) (j 1) := by
  idx_vars j
  pointwise [k0_pay4, k0_pay2, k0_pay1, k0_pay9, k0_pay15, k0_pay16, k0_pay7, Rms.dx, Rms.rstd, Rms.ms]

/-- One block's part of the gradient of the first norm's scale. -/
theorem part_lo (j : S1x1024.Idx) : k0_pay13 v0 v2 v5 j = ∑ i : Fin 512, (∑ l : Fin 2048, v0 (ix2 i l) * v2 (ix2 (lo (j 1)) l))
    * (v5 (ix2 i (j 1)) * Rms.rstd N (fun k => v5 (ix2 i k))) := by
  idx_vars j
  pointwise [k0_pay13, k0_pay12, k0_pay11, k0_pay10, k0_pay8, k0_pay7, Rms.rstd, Rms.ms]

/-- One block's part of the gradient of the second norm's scale. -/
theorem part_hi (j : S1x1024.Idx) : k0_pay3 (k0_pay9 v7) (k0_pay15 v0 v2) (k0_pay16 v7) j
    = ∑ i : Fin 512, (∑ l : Fin 2048, v0 (ix2 i l) * v2 (ix2 (hi (j 1)) l)) * (v7 (ix2 i (j 1)) * Rms.rstd N (fun k => v7 (ix2 i k))) := by
  idx_vars j
  pointwise [k0_pay3, k0_pay2, k0_pay1, k0_pay9, k0_pay15, k0_pay16, k0_pay7, Rms.rstd, Rms.ms]

/-- What a later block adds to the gradient of the first norm's scale. -/
theorem step_lo (p acc : Vec Ideal S1x1024 .f32) (j : S1x1024.Idx) : k0_pay5 p acc j = acc j + p j := by
  pointwise [k0_pay5]

/-- What a later block adds to the gradient of the second norm's scale. -/
theorem step_hi (v8 v37 v38 : FVec Ideal S512x1024 .f32) (acc : Vec Ideal S1x1024 .f32) (j : S1x1024.Idx) :
    k0_pay6 v8 v37 v38 acc j = acc j + k0_pay3 v8 v37 v38 j := by
  pointwise [k0_pay6]

end Payloads

theorem row_lt (t : Fin cfg0.N) (i : Fin 512) : t.val * 512 + i.val < 4096 := by
  have hN : t.val < 8 := lt_of_lt_of_eq t.isLt N_0
  omega

/-- The array's row of a block's row. -/
abbrev row (t : Fin cfg0.N) (i : Fin 512) : Fin 4096 := ⟨t.val * 512 + i.val, row_lt t i⟩

section Blocks

variable (c : Dev nD) (t : Fin cfg0.N)

/-- The cotangent's block. -/
theorem rd_ct (i : Fin 512) (l : Fin 2048) :
    @Eq EReal (iblk m c 0 t (ix2 i l)) (m ((c : Thread nD τ).loc main_arg5) (ix3 0 (row t i) l)) := by
  blk_point [iblk, V, idx t]

/-- The weights' block: all of them. -/
theorem rd_w (k l : Fin 2048) : @Eq EReal (iblk m c 1 t (ix2 k l)) (m ((c : Thread nD τ).loc main_arg4) (ix3 0 k l)) := by
  blk_point [iblk, V, idx t]

/-- The first norm's block. -/
theorem rd_a (i : Fin 512) (k : Fin 1024) :
    @Eq EReal (iblk m c 2 t (ix2 i k)) (m ((c : Thread nD τ).loc main_arg0) (ix3 0 (row t i) k)) := by
  blk_point [iblk, V, idx t]

/-- The second norm's block. -/
theorem rd_b (i : Fin 512) (k : Fin 1024) :
    @Eq EReal (iblk m c 3 t (ix2 i k)) (m ((c : Thread nD τ).loc main_arg1) (ix3 0 (row t i) k)) := by
  blk_point [iblk, V, idx t]

/-- The first norm's scale. -/
theorem rd_ga (k : Fin 1024) : @Eq EReal (iblk m c 4 t (ix2 0 k)) (m ((c : Thread nD τ).loc main_arg2) (ix2 0 k)) := by
  blk_point [iblk, V, idx t]

/-- The second norm's scale. -/
theorem rd_gb (k : Fin 1024) : @Eq EReal (iblk m c 5 t (ix2 0 k)) (m ((c : Thread nD τ).loc main_arg3) (ix2 0 k)) := by
  blk_point [iblk, V, idx t]

end Blocks

/-- The first norm's input gradient after the run. -/
theorem final6 (c : Dev nD) : (dats m 0 c).arrAt 6 (cfgs 0).N = Gdx lo (m ((c : Thread nD τ).loc main_arg0))
    (m ((c : Thread nD τ).loc main_arg2)) (m ((c : Thread nD τ).loc main_arg4)) (m ((c : Thread nD τ).loc main_arg5)) := by
  refine (dats m 0 c).arrAt_eq_of_covers 6 _ (by decide +kernel) fun t _ y => ?_
  have h0 : ((cfg0.win 6).blk t).view.emb y 0 = row t (y 0) := Fin.ext (by blk_simp [idx t])
  have h1 : ((cfg0.win 6).blk t).view.emb y 1 = y 1 := Fin.ext (by blk_simp [idx t])
  blk_simp
  have hp : (outsAt0 m c t.val t.isLt).1 = k0_pay14 (iblk m c 0 t) (iblk m c 1 t) (iblk m c 2 t) (iblk m c 4 t) := by
    have hN : t.val < 8 := lt_of_lt_of_eq t.isLt N_0
    by_cases h : t.val % 8 = 0
    · rw [outsAt0_A m c t h (by omega)]; frame_out
    · rw [outsAt0_B m c t h (by omega)]; frame_out
  rw [after0_6, hp, pay_lo]
  unfold Gdx
  rw [h0, h1]
  exact Rms.dx_congr (fun k => rd_a m c t (y 0) k) (fun k => Rms.mul_congr
    (Finset.sum_congr rfl fun l _ => Rms.mul_congr (rd_ct m c t (y 0) l) (rd_w m c t (lo k) l)) (rd_ga m c t k)) (y 1)

/-- The second norm's input gradient after the run. -/
theorem final7 (c : Dev nD) : (dats m 0 c).arrAt 7 (cfgs 0).N = Gdx hi (m ((c : Thread nD τ).loc main_arg1))
    (m ((c : Thread nD τ).loc main_arg3)) (m ((c : Thread nD τ).loc main_arg4)) (m ((c : Thread nD τ).loc main_arg5)) := by
  refine (dats m 0 c).arrAt_eq_of_covers 7 _ (by decide +kernel) fun t _ y => ?_
  have h0 : ((cfg0.win 7).blk t).view.emb y 0 = row t (y 0) := Fin.ext (by blk_simp [idx t])
  have h1 : ((cfg0.win 7).blk t).view.emb y 1 = y 1 := Fin.ext (by blk_simp [idx t])
  blk_simp
  have hp : (outsAt0 m c t.val t.isLt).2.1
      = k0_pay4 (k0_pay9 (iblk m c 3 t)) (iblk m c 5 t) (k0_pay15 (iblk m c 0 t) (iblk m c 1 t)) (k0_pay16 (iblk m c 3 t)) := by
    have hN : t.val < 8 := lt_of_lt_of_eq t.isLt N_0
    by_cases h : t.val % 8 = 0
    · rw [outsAt0_A m c t h (by omega)]; frame_out
    · rw [outsAt0_B m c t h (by omega)]; frame_out
  rw [after0_7, hp, pay_hi]
  unfold Gdx
  rw [h0, h1]
  exact Rms.dx_congr (fun k => rd_b m c t (y 0) k) (fun k => Rms.mul_congr
    (Finset.sum_congr rfl fun l _ => Rms.mul_congr (rd_ct m c t (y 0) l) (rd_w m c t (hi k) l)) (rd_gb m c t k)) (y 1)

/-- The first norm's scale gradient after the run. -/
theorem final8 (c : Dev nD) : (dats m 0 c).arrAt 8 (cfgs 0).N = Gdg lo (m ((c : Thread nD τ).loc main_arg0))
    (m ((c : Thread nD τ).loc main_arg4)) (m ((c : Thread nD τ).loc main_arg5)) := by
  refine (dats m 0 c).arrAt_eq_of_after_last 8 t0_7 (by decide +kernel) _ fun j => ?_
  blk_simp
  rw [after0_8, Pipeline.eq_sum_fin_of_reset_step_apply_last (fun n h => (outsAt0 m c n h).2.2.1) 8 (fun _ => (0 : EReal))
    (fun t j => k0_pay13 (F := Ideal) (iblk m c 0 t) (iblk m c 1 t) (iblk m c 2 t) j)
    (fun t h j => by
      have hN : t.val < 8 := lt_of_lt_of_eq t.isLt N_0
      show (outsAt0 m c t.val t.isLt).2.2.1 j = _
      rw [outsAt0_A m c t h (by omega)]; frame_out; exact (zero_add _).symm)
    (fun t h j => by
      show (outsAt0 m c t.val t.isLt).2.2.1 j = _
      rw [outsAt0_B m c t h (by omega)]; frame_out; rw [step_lo])
    (le_of_eq N_0) t0_7 rfl j, zero_add]
  unfold Gdg
  simp only [part_lo]
  exact Fin.sum_mul_add_congr fun s k hl => Rms.mul_congr
    (Finset.sum_congr rfl fun l _ => Rms.mul_congr (rd_ct m c s k l) (rd_w m c s (lo (j 1)) l))
    (Rms.mul_congr (rd_a m c s k (j 1)) (Rms.rstd_congr fun e => rd_a m c s k e))

/-- The second norm's scale gradient after the run. -/
theorem final9 (c : Dev nD) : (dats m 0 c).arrAt 9 (cfgs 0).N = Gdg hi (m ((c : Thread nD τ).loc main_arg1))
    (m ((c : Thread nD τ).loc main_arg4)) (m ((c : Thread nD τ).loc main_arg5)) := by
  refine (dats m 0 c).arrAt_eq_of_after_last 9 t0_7 (by decide +kernel) _ fun j => ?_
  blk_simp
  rw [after0_9, Pipeline.eq_sum_fin_of_reset_step_apply_last (fun n h => (outsAt0 m c n h).2.2.2) 8 (fun _ => (0 : EReal))
    (fun t j => k0_pay3 (F := Ideal) (k0_pay9 (iblk m c 3 t)) (k0_pay15 (iblk m c 0 t) (iblk m c 1 t)) (k0_pay16 (iblk m c 3 t)) j)
    (fun t h j => by
      have hN : t.val < 8 := lt_of_lt_of_eq t.isLt N_0
      show (outsAt0 m c t.val t.isLt).2.2.2 j = _
      rw [outsAt0_A m c t h (by omega)]; frame_out; exact (zero_add _).symm)
    (fun t h j => by
      show (outsAt0 m c t.val t.isLt).2.2.2 j = _
      rw [outsAt0_B m c t h (by omega)]; frame_out; rw [step_hi])
    (le_of_eq N_0) t0_7 rfl j, zero_add]
  unfold Gdg
  simp only [part_hi]
  exact Fin.sum_mul_add_congr fun s k hl => Rms.mul_congr
    (Finset.sum_congr rfl fun l _ => Rms.mul_congr (rd_ct m c s k l) (rd_w m c s (hi (j 1)) l))
    (Rms.mul_congr (rd_b m c s k (j 1)) (Rms.rstd_congr fun e => rd_b m c s k e))

end Cert.OutDxKIdeal.Value

namespace Cert.OutDxRIdeal.Value

open Cert.OutDxRIdeal Cert.OutDxRIdeal.Gen Cert.OutDxRIdeal.Read Idealize.ShloMosaic Idealize.ShloMosaic.TcCoe Idealize.SL.Sem
open Cert.OutDxKIdeal.Value (N lo hi dm Gdx Gdg)

variable (x : FVec Ideal S1x4096x1024 .f32) (g : FVec Ideal S1x1024 .f32) (w : FVec Ideal S1x2048x2048 .f32)
  (ct : FVec Ideal S1x4096x2048 .f32)

theorem N_eq : N = ((1024 : ℝ) : EReal) := by
  simp [N, Ideal.ofBits, Ideal.ieee, -EReal.coe_mul]; norm_num

/-- The cotangent of the first half of the merged columns. -/
theorem dm_lo (i : Fin 4096) (k : Fin 1024) : val_main_v38 (F := Ideal) w ct (ix3 0 i k) = dm w ct i (lo k) := by
  pointwise [val_main_v38, val_main_v37, val_main_v35]

/-- The cotangent of the second half of the merged columns. -/
theorem dm_hi (i : Fin 4096) (k : Fin 1024) : val_main_v39 (F := Ideal) w ct (ix3 0 i k) = dm w ct i (hi k) := by
  pointwise [val_main_v39, val_main_v37, val_main_v35]

/-- One over the root of the mean square, the first norm's. -/
theorem rstd_lo (i : Fin 4096) : val_main_v8 (F := Ideal) x (ix3 0 i 0) = Rms.rstd N fun k => x (ix3 0 i k) := by
  pointwise [val_main_v8, val_main_v7, val_main_v6, val_main_v5, val_main_v4, val_main_v3, val_main_v2, val_main_v1, val_main_cst, val_main_cst_0, val_main_cst_1, Rms.rstd, Rms.ms]

/-- The gradient of the mean square, the first norm's. -/
theorem D_lo (i : Fin 4096) : val_main_v75 (F := Ideal) x g w ct (ix3 0 i 0)
    = Rms.D N (fun k => x (ix3 0 i k)) fun k => dm w ct i (lo k) * g (ix2 0 k) := by
  pointwise [val_main_v75, val_main_v74, val_main_v73, val_main_v70, val_main_v69, val_main_v68, val_main_v66, val_main_v65, val_main_v14, val_main_v0, val_main_v11, val_main_v10, val_main_v9, val_main_v8, val_main_v7, val_main_v6, val_main_v5, val_main_v4, val_main_v3, val_main_v2, val_main_v1, val_main_cst, val_main_cst_0, val_main_cst_1, val_main_cst_2, val_main_cst_14, val_main_cst_15, Rms.D, Rms.rstd, Rms.ms]
  simp only [dm_lo]

/-- The reference's gradient of the first norm's input is the kernel's. -/
theorem ref_84 : val_main_v84 (F := Ideal) x g w ct = Gdx lo x g w ct := by
  funext j
  idx_vars j
  refine Eq.trans ?_ (Eq.trans (Rms.dx_eq (by norm_num : (0 : ℝ) < 1024) (fun k => x (ix3 0 j0 k)) (fun k => dm w ct j0 (lo k) * g (ix2 0 k)) j1).symm ?_)
  · rw [← N_eq, ← D_lo, ← rstd_lo]
    pointwise [val_main_v84, val_main_v82, val_main_v81, val_main_v80, val_main_v79, val_main_v78, val_main_v77, val_main_v76, val_main_v72, val_main_v71, val_main_v66, val_main_v65, val_main_v14, val_main_v0, val_main_cst_16]
    simp only [zero_add, dm_lo, Rms.red_row]
  · rw [← N_eq]; rfl

/-- One over the root of the mean square, the second norm's. -/
theorem rstd_hi (i : Fin 4096) : val_main_v25 (F := Ideal) x (ix3 0 i 0) = Rms.rstd N fun k => x (ix3 0 i k) := by
  pointwise [val_main_v25, val_main_v24, val_main_v23, val_main_v22, val_main_v21, val_main_v20, val_main_v19, val_main_v18, val_main_cst_3, val_main_cst_4, val_main_cst_5, Rms.rstd, Rms.ms]

/-- The gradient of the mean square, the second norm's. -/
theorem D_hi (i : Fin 4096) : val_main_v53 (F := Ideal) x g w ct (ix3 0 i 0)
    = Rms.D N (fun k => x (ix3 0 i k)) fun k => dm w ct i (hi k) * g (ix2 0 k) := by
  pointwise [val_main_v53, val_main_v52, val_main_v51, val_main_v48, val_main_v47, val_main_v46, val_main_v44, val_main_v43, val_main_v31, val_main_v17, val_main_v28, val_main_v27, val_main_v26, val_main_v25, val_main_v24, val_main_v23, val_main_v22, val_main_v21, val_main_v20, val_main_v19, val_main_v18, val_main_cst_3, val_main_cst_4, val_main_cst_5, val_main_cst_6, val_main_cst_8, val_main_cst_9, val_main_cst_10, Rms.D, Rms.rstd, Rms.ms]
  simp only [dm_hi]

/-- The reference's gradient of the second norm's input is the kernel's. -/
theorem ref_85 : val_main_v85 (F := Ideal) x g w ct = Gdx hi x g w ct := by
  funext j
  idx_vars j
  refine Eq.trans ?_ (Eq.trans (Rms.dx_eq (by norm_num : (0 : ℝ) < 1024) (fun k => x (ix3 0 j0 k)) (fun k => dm w ct j0 (hi k) * g (ix2 0 k)) j1).symm ?_)
  · rw [← N_eq, ← D_hi, ← rstd_hi]
    pointwise [val_main_v85, val_main_v60, val_main_v59, val_main_v58, val_main_v57, val_main_v56, val_main_v55, val_main_v54, val_main_v50, val_main_v49, val_main_v44, val_main_v43, val_main_v31, val_main_v17, val_main_cst_11]
    simp only [zero_add, dm_hi, Rms.red_row]
  · rw [← N_eq]; rfl

/-- The reference's gradient of the first norm's scale is the kernel's. -/
theorem ref_83 : val_main_v83 (F := Ideal) x w ct = Gdg lo x w ct := by
  funext j
  idx_vars j
  obtain rfl := Fin.fin_one_eq_zero j0
  pointwise [val_main_v83, val_main_v67]
  rw [Rms.red_col]
  pointwise [val_main_v64, val_main_v63, val_main_v62, val_main_v13, val_main_v12, val_main_cst_12, val_main_cst_13]
  simp only [dm_lo, rstd_lo]
  unfold Gdg
  refine Finset.sum_congr rfl fun i _ => ?_
  exact mul_comm _ _

/-- The reference's gradient of the second norm's scale is the kernel's. -/
theorem ref_61 : val_main_v61 (F := Ideal) x w ct = Gdg hi x w ct := by
  funext j
  idx_vars j
  obtain rfl := Fin.fin_one_eq_zero j0
  pointwise [val_main_v61, val_main_v45]
  rw [Rms.red_col]
  pointwise [val_main_v42, val_main_v41, val_main_v40, val_main_v30, val_main_v29, val_main_cst_7, val_main_cst_8]
  simp only [dm_hi, rstd_hi]
  unfold Gdg
  refine Finset.sum_congr rfl fun i _ => ?_
  exact mul_comm _ _

end Cert.OutDxRIdeal.Value

namespace Cert.OutDxAlg

open Idealize.ShloMosaic Idealize.ShloMosaic.TcCoe Idealize.SL.Sem

/-- Both programs leave the same four result arrays and their arguments as they found them. -/
theorem algebraic : Cert.algebraic_OutDxKIdeal_OutDxRIdeal := by
  pair_intro
  · run_from Cert.OutDxKIdeal.Gen.run_main m g
  · run_from Cert.OutDxRIdeal.Value.run m' g'
    all_goals obtain ⟨h0, h1, h2, h3, h4, h5⟩ := hagree c
    · rw [Cert.OutDxKIdeal.Value.final6 m c, Cert.OutDxRIdeal.Read.val_main_v84_eq, h0, h2, h4, h5]
      exact Cert.OutDxRIdeal.Value.ref_84 _ _ _ _
    · rw [Cert.OutDxKIdeal.Value.final7 m c, Cert.OutDxRIdeal.Read.val_main_v85_eq, h1, h3, h4, h5]
      exact Cert.OutDxRIdeal.Value.ref_85 _ _ _ _
    · rw [Cert.OutDxKIdeal.Value.final8 m c, Cert.OutDxRIdeal.Read.val_main_v83_eq]
      exact Cert.OutDxRIdeal.Value.ref_83 _ _ _
    · rw [Cert.OutDxKIdeal.Value.final9 m c, Cert.OutDxRIdeal.Read.val_main_v61_eq]
      exact Cert.OutDxRIdeal.Value.ref_61 _ _ _

end Cert.OutDxAlg

end
-- ==== Proof.InDx.lean ====
/- The gradient through the input projection, the norm before it and the residual: `InDxKIdeal` and `InDxRIdeal`
   compute the same arrays. The kernel sums the product over five blocks of columns, adds the padded gate columns at
   the last of them and then uses the norm's gradient written out by hand; the reference takes one product over all
   columns and differentiates the norm step by step. -/
module

public import proofs.«01_k».proof.Defs
public import proofs.«01_k».proof.Proof.RmsMath
public import proofs.«01_k».proof.Proof.Gen.InDxKIdeal.Value
public import proofs.«01_k».proof.Proof.Gen.InDxRIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.InDxKIdeal.Value

open Cert.InDxKIdeal Cert.InDxKIdeal.Gen Idealize.ShloMosaic Idealize.ShloMosaic.TcCoe Idealize.SL.Sem
open Idealize.ShloMosaic.Pipeline (Dat)

/-- The row length as both programs divide by it. -/
abbrev N : EReal := Ideal.ofBits .f32 0x45000000#32

/-- The cotangent of the normalised row. -/
abbrev dh (w : FVec Ideal S1x2048x5128 .f32) (ct : FVec Ideal S1x4096x5128 .f32) (i : Fin 4096) (k : Fin 2048) : EReal :=
  ∑ l : Fin 5128, ct (ix3 0 i l) * w (ix3 0 k l)

/-- The gradient of the input: the norm's and the residual's. -/
def Gdx (x : FVec Ideal S1x4096x2048 .f32) (g : FVec Ideal S1x2048 .f32) (w : FVec Ideal S1x2048x5128 .f32)
    (res : FVec Ideal S1x4096x2048 .f32) (ct : FVec Ideal S1x4096x5128 .f32) : FVec Ideal S4096x2048 .f32 := fun j =>
  Rms.dx N (fun k => x (ix3 0 (j 0) k)) (fun k => dh w ct (j 0) k * g (ix2 0 k)) (j 1) + res (ix3 0 (j 0) (j 1))

/-- The gradient of the norm's scale. -/
def Gdg (x : FVec Ideal S1x4096x2048 .f32) (w : FVec Ideal S1x2048x5128 .f32)
    (ct : FVec Ideal S1x4096x5128 .f32) : FVec Ideal S1x2048 .f32 := fun j =>
  ∑ i : Fin 4096, dh w ct i (j 1) * (x (ix3 0 i (j 1)) * Rms.rstd N (fun k => x (ix3 0 i k)))

variable (m : (ℓ : Loc nD τ sig) → Buf (Elt Ideal) ℓ)

/-- The block index of every window at every grid point. -/
theorem idx : ∀ t : Fin cfg0.N, win0_0.index t = ![t.val / 5, t.val % 5] ∧ win0_1.index t = ![0, t.val % 5]
    ∧ win0_2.index t = ![t.val / 5, 0] ∧ win0_3.index t = ![t.val / 5, 0] ∧ win0_4.index t = ![t.val / 5, 0]
    ∧ win0_5.index t = ![0, 0] ∧ win0_6.index t = ![0, 0] ∧ win0_7.index t = ![t.val / 5, 0] ∧ win0_8.index t = ![0, 0] ∧ t.val < 40 :=
  (by decide +kernel : ∀ t : Fin grid0.N, _)

section Payloads

variable (acc : Vec Ideal S512x2048 .f32) (a : Vec Ideal S512x1024 .bf16) (b : Vec Ideal S2048x1024 .bf16)
  (p : Vec Ideal S512x128 .bf16) (q : Vec Ideal S2048x128 .bf16) (x res : Vec Ideal S512x2048 .f32) (g : Vec Ideal S1x2048 .f32)

/-- One block of columns' part of the product. -/
abbrev part (j : S512x2048.Idx) : EReal := ∑ l : Fin 1024, a (ix2 (j 0) l) * b (ix2 (j 1) l)

/-- The first block's product. -/
theorem pay_first (j : S512x2048.Idx) : k0_pay1 a b j = part a b j := by
  idx_vars j
  pointwise [k0_pay1, part]

/-- A later block's product joins the sum. -/
theorem pay_step (j : S512x2048.Idx) : k0_pay2 acc a b j = acc j + part a b j := by
  idx_vars j
  pointwise [k0_pay2, part]

/-- The last block's product and the gate columns' complete it. -/
theorem pay_last (j : S512x2048.Idx) : k0_pay7 acc a b p q j = acc j + part a b j + ∑ l : Fin 128, p (ix2 (j 0) l) * q (ix2 (j 1) l) := by
  idx_vars j
  pointwise [k0_pay7, part]

/-- The stored gradient of the input. -/
theorem pay_dx (j : S512x2048.Idx) : k0_pay3 (k0_pay6 res) (k0_pay8 x) (k0_pay9 x) (k0_pay11 acc a b p g q) (k0_pay12 acc a b p x g q)
      (Scalar.ofBits .f32 0x45000000#32) j
    = Rms.dx N (fun k => x (ix2 (j 0) k)) (fun k => k0_pay7 acc a b p q (ix2 (j 0) k) * g (ix2 0 k)) (j 1) + res j := by
  idx_vars j
  pointwise [k0_pay3, k0_pay6, k0_pay8, k0_pay9, k0_pay5, k0_pay11, k0_pay12, Rms.dx, Rms.rstd, Rms.ms]

/-- A block's part of the gradient of the scale. -/
theorem pay_dg (j : S1x2048.Idx) : k0_pay10 acc a b p x q j = ∑ i : Fin 512, k0_pay7 acc a b p q (ix2 i (j 1))
    * (x (ix2 i (j 1)) * Rms.rstd N (fun k => x (ix2 i k))) := by
  idx_vars j
  pointwise [k0_pay10, k0_pay9, k0_pay8, k0_pay5, Rms.rstd, Rms.ms]

/-- Blocks' parts add up. -/
theorem step_dg (u v : Vec Ideal S1x2048 .f32) (j : S1x2048.Idx) : k0_pay4 u v j = v j + u j := by
  idx_vars j
  pointwise [k0_pay4]

end Payloads

theorem row_lt (t : Fin cfg0.N) (i : Fin 512) : t.val / 5 * 512 + i.val < 4096 := by
  have hN : t.val < 40 := lt_of_lt_of_eq t.isLt N_0
  omega
theorem col_lt (t : Fin cfg0.N) (l : Fin 1024) : t.val % 5 * 1024 + l.val < 5120 := by omega
theorem skip_lt (l : Fin 5120) : (if l.val < 3072 then l.val else l.val + 8) < 5128 := by split <;> omega
theorem gate_lt (l : Fin 8) : 3072 + l.val < 5128 := by omega

/-- The array's row of a block's row. -/
abbrev row (t : Fin cfg0.N) (i : Fin 512) : Fin 4096 := ⟨t.val / 5 * 512 + i.val, row_lt t i⟩
/-- The column, gate columns left out, of a block's column. -/
abbrev col (t : Fin cfg0.N) (l : Fin 1024) : Fin 5120 := ⟨t.val % 5 * 1024 + l.val, col_lt t l⟩
/-- The column among all columns of a column among all but the gate's. -/
abbrev skip (l : Fin 5120) : Fin 5128 := ⟨if l.val < 3072 then l.val else l.val + 8, skip_lt l⟩
/-- A gate's column among all columns. -/
abbrev gate (l : Fin 8) : Fin 5128 := ⟨3072 + l.val, gate_lt l⟩

section Entries

variable (c : Dev nD)

/-- The array the cotangent's blocks come from: the cotangent without the gate columns. -/
theorem V_ct (i : Fin 4096) (l : Fin 5120) :
    @Eq EReal (V m c main_v15 (ix2 i l)) (m ((c : Thread nD τ).loc main_arg4) (ix3 0 i (skip l))) := by
  unfold V
  simp only [List.flatten_cons, List.flatten_nil, List.append_nil, List.cons_append, List.nil_append]
  after_results
  pointwise
  unfold skip
  split
  · exact congrArg (fun e => m ((c : Thread nD τ).loc main_arg4) (ix3 0 i e)) (Fin.ext (by simp [*]))
  · exact congrArg (fun e => m ((c : Thread nD τ).loc main_arg4) (ix3 0 i e)) (Fin.ext (by simp [*]; omega))

/-- The array the weights' blocks come from: the weights without the gate columns. -/
theorem V_w (k : Fin 2048) (l : Fin 5120) :
    @Eq EReal (V m c main_v5 (ix2 k l)) (m ((c : Thread nD τ).loc main_arg2) (ix3 0 k (skip l))) := by
  unfold V
  simp only [List.flatten_cons, List.flatten_nil, List.append_nil, List.cons_append, List.nil_append]
  after_results
  pointwise
  unfold skip
  split
  · exact congrArg (fun e => m ((c : Thread nD τ).loc main_arg2) (ix3 0 k e)) (Fin.ext (by simp [*]))
  · exact congrArg (fun e => m ((c : Thread nD τ).loc main_arg2) (ix3 0 k e)) (Fin.ext (by simp [*]; omega))

/-- The cotangent's gate columns, padded with zeros. -/
theorem V_ctg (i : Fin 4096) (l : Fin 128) :
    @Eq EReal (V m c main_v19 (ix2 i l)) (if h : l.val < 8 then m ((c : Thread nD τ).loc main_arg4) (ix3 0 i (gate ⟨l.val, h⟩)) else 0) := by
  unfold V
  simp only [List.flatten_cons, List.flatten_nil, List.append_nil, List.cons_append, List.nil_append]
  after_results
  simp only [StableHlo.TRef.toBuf, StableHlo.TRef.ofBuf, cast_cast, cast_eq]
  pointwise
  split
  · rfl
  · show (((0#32 : BitVec 32).toInt : ℝ) : EReal) = 0
    simp

/-- The weights' gate columns, padded with zeros. -/
theorem V_wg (k : Fin 2048) (l : Fin 128) :
    @Eq EReal (V m c main_v9 (ix2 k l)) (if h : l.val < 8 then m ((c : Thread nD τ).loc main_arg2) (ix3 0 k (gate ⟨l.val, h⟩)) else 0) := by
  unfold V
  simp only [List.flatten_cons, List.flatten_nil, List.append_nil, List.cons_append, List.nil_append]
  after_results
  simp only [StableHlo.TRef.toBuf, StableHlo.TRef.ofBuf, cast_cast, cast_eq]
  pointwise
  split
  · rfl
  · show (((0#32 : BitVec 32).toInt : ℝ) : EReal) = 0
    simp

/-- The norm's input. -/
theorem V_x (i : Fin 4096) (k : Fin 2048) :
    @Eq EReal (V m c main_v20 (ix2 i k)) (m ((c : Thread nD τ).loc main_arg0) (ix3 0 i k)) := by
  unfold V
  simp only [List.flatten_cons, List.flatten_nil, List.append_nil, List.cons_append, List.nil_append]
  after_results
  pointwise

/-- The residual's cotangent. -/
theorem V_res (i : Fin 4096) (k : Fin 2048) :
    @Eq EReal (V m c main_v21 (ix2 i k)) (m ((c : Thread nD τ).loc main_arg3) (ix3 0 i k)) := by
  unfold V
  simp only [List.flatten_cons, List.flatten_nil, List.append_nil, List.cons_append, List.nil_append]
  after_results
  pointwise

end Entries

section Blocks

variable (c : Dev nD) (t : Fin cfg0.N)

/-- The cotangent's block, gate columns left out. -/
theorem rd_ct (i : Fin 512) (l : Fin 1024) :
    @Eq EReal (iblk m c 0 t (ix2 i l)) (m ((c : Thread nD τ).loc main_arg4) (ix3 0 (row t i) (skip (col t l)))) := by
  refine Eq.trans ?_ (V_ct m c (row t i) (col t l))
  blk_ext [iblk, idx t]

/-- The weights' block, gate columns left out. -/
theorem rd_w (k : Fin 2048) (l : Fin 1024) :
    @Eq EReal (iblk m c 1 t (ix2 k l)) (m ((c : Thread nD τ).loc main_arg2) (ix3 0 k (skip (col t l)))) := by
  refine Eq.trans ?_ (V_w m c k (col t l))
  blk_ext [iblk, idx t]

/-- The cotangent's gate columns, padded. -/
theorem rd_ctg (i : Fin 512) (l : Fin 128) :
    @Eq EReal (iblk m c 2 t (ix2 i l)) (if h : l.val < 8 then m ((c : Thread nD τ).loc main_arg4) (ix3 0 (row t i) (gate ⟨l.val, h⟩)) else 0) := by
  refine Eq.trans ?_ (V_ctg m c (row t i) l)
  blk_ext [iblk, idx t]

/-- The weights' gate columns, padded. -/
theorem rd_wg (k : Fin 2048) (l : Fin 128) :
    @Eq EReal (iblk m c 6 t (ix2 k l)) (if h : l.val < 8 then m ((c : Thread nD τ).loc main_arg2) (ix3 0 k (gate ⟨l.val, h⟩)) else 0) := by
  refine Eq.trans ?_ (V_wg m c k l)
  blk_ext [iblk, idx t]

/-- The norm's input. -/
theorem rd_x (i : Fin 512) (k : Fin 2048) :
    @Eq EReal (iblk m c 3 t (ix2 i k)) (m ((c : Thread nD τ).loc main_arg0) (ix3 0 (row t i) k)) := by
  refine Eq.trans ?_ (V_x m c (row t i) k)
  blk_ext [iblk, idx t]

/-- The residual's cotangent. -/
theorem rd_res (i : Fin 512) (k : Fin 2048) :
    @Eq EReal (iblk m c 4 t (ix2 i k)) (m ((c : Thread nD τ).loc main_arg3) (ix3 0 (row t i) k)) := by
  refine Eq.trans ?_ (V_res m c (row t i) k)
  blk_ext [iblk, idx t]

/-- The norm's scale. -/
theorem rd_g (k : Fin 2048) : @Eq EReal (iblk m c 5 t (ix2 0 k)) (m ((c : Thread nD τ).loc main_arg1) (ix2 0 k)) := by
  blk_point [iblk, V, idx t]

end Blocks

/-- A sum over all columns: those but the gate's, and the gate's. -/
theorem sum_cols (f : Fin 5128 → EReal) : ∑ l : Fin 5120, f (skip l) + ∑ l : Fin 8, f (gate l) = ∑ l : Fin 5128, f l := by
  have h1 : ∑ l : Fin 5128, f l = ∑ l : Fin 3072, f ⟨l.val, by omega⟩ + (∑ l : Fin 8, f (gate l) + ∑ l : Fin 2048, f ⟨3080 + l.val, by omega⟩) := by
    rw [show ∑ l : Fin 5128, f l = ∑ l : Fin (3072 + (8 + 2048)), f l from rfl, Fin.sum_univ_add, Fin.sum_univ_add]
    refine congrArg₂ (· + ·) rfl (congrArg₂ (· + ·) rfl (Finset.sum_congr rfl fun l _ => congrArg f (Fin.ext ?_)))
    show 3072 + (8 + l.val) = 3080 + l.val
    omega
  have h2 : ∑ l : Fin 5120, f (skip l) = ∑ l : Fin 3072, f ⟨l.val, by omega⟩ + ∑ l : Fin 2048, f ⟨3080 + l.val, by omega⟩ := by
    rw [show ∑ l : Fin 5120, f (skip l) = ∑ l : Fin (3072 + 2048), f (skip l) from rfl, Fin.sum_univ_add]
    refine congrArg₂ (· + ·) (Finset.sum_congr rfl fun l _ => congrArg f (Fin.ext ?_)) (Finset.sum_congr rfl fun l _ => congrArg f (Fin.ext ?_))
    · show (if l.val < 3072 then l.val else l.val + 8) = l.val
      rw [if_pos l.isLt]
    · show (if 3072 + l.val < 3072 then 3072 + l.val else 3072 + l.val + 8) = 3080 + l.val
      rw [if_neg (by omega)]; exact (by omega : 3072 + l.val + 8 = 3080 + l.val)
  rw [h1, h2, add_assoc, add_comm (∑ l : Fin 2048, _)]

/-- A product over padded columns is the product over the columns. -/
theorem sum_pad (f g : Fin 8 → EReal) : ∑ l : Fin 128, (if h : l.val < 8 then f ⟨l.val, h⟩ else 0) * (if h : l.val < 8 then g ⟨l.val, h⟩ else 0)
    = ∑ l : Fin 8, f l * g l := by
  rw [show (∑ l : Fin 128, (if h : l.val < 8 then f ⟨l.val, h⟩ else 0) * (if h : l.val < 8 then g ⟨l.val, h⟩ else 0))
    = ∑ l : Fin (8 + 120), (if h : l.val < 8 then f ⟨l.val, h⟩ else 0) * (if h : l.val < 8 then g ⟨l.val, h⟩ else 0) from rfl, Fin.sum_univ_add]
  rw [show (∑ l : Fin 120, (if h : (Fin.natAdd 8 l).val < 8 then f ⟨_, h⟩ else 0) * (if h : (Fin.natAdd 8 l).val < 8 then g ⟨_, h⟩ else 0)) = 0 from
    Finset.sum_eq_zero fun l _ => by rw [dif_neg (by simp), zero_mul], add_zero]
  refine Finset.sum_congr rfl fun l _ => ?_
  rw [dif_pos (show (Fin.castAdd 120 l).val < 8 from l.isLt), dif_pos (show (Fin.castAdd 120 l).val < 8 from l.isLt)]
  rfl

theorem lt40 {n : ℕ} (h : n < cfg0.N) : n < 40 := lt_of_lt_of_eq h N_0

/-- What a point's block of columns contributes to the product. -/
abbrev term (c : Dev nD) (j : S512x2048.Idx) (n : ℕ) (h : n < cfg0.N) : EReal := part (iblk m c 0 ⟨n, h⟩) (iblk m c 1 ⟨n, h⟩) j

/-- At the last block of columns the product is the whole one, over all columns. -/
theorem dh_last (c : Dev nD) (t : Fin cfg0.N) (ht : t.val % 5 = 4) (i : Fin 512) (k : Fin 2048) :
    k0_pay7 (F := Ideal) (outsAt0 m c (t.val - 1) (Nat.lt_of_le_of_lt (Nat.sub_le _ _) t.isLt)).2.2 (iblk m c 0 t) (iblk m c 1 t) (iblk m c 2 t) (iblk m c 6 t) (ix2 i k)
      = dh (m ((c : Thread nD τ).loc main_arg2)) (m ((c : Thread nD τ).loc main_arg4)) (row t i) k := by
  have hN := lt40 t.isLt
  have key := Rms.acc_last (J := 5) (f := fun n h => (outsAt0 m c n h).2.2 (ix2 i k)) (g := term m c (ix2 i k))
    (fun n h e => by
      show (outsAt0 m c n h).2.2 (ix2 i k) = _
      rw [outsAt0_A m c ⟨n, h⟩ e (by show ¬(1 ≤ n % 5 ∧ n % 5 ≤ 3); omega) (by show ¬ n % 5 = 4; omega)]
      frame_out
      exact pay_first _ _ _)
    (fun n h e e' => by
      show (outsAt0 m c n h).2.2 (ix2 i k) = _
      rw [outsAt0_B m c ⟨n, h⟩ (by show ¬ n % 5 = 0; omega) (by show 1 ≤ n % 5 ∧ n % 5 ≤ 3; omega) (by show ¬ n % 5 = 4; omega)]
      frame_out
      rw [read_unread_whole]
      exact pay_step _ _ _ _)
    (t.val / 5) 3 rfl (by omega)
  rw [pay_last]
  have e : ∀ (n n' : ℕ) (h : n < cfg0.N) (h' : n' < cfg0.N), n = n' → (outsAt0 m c n h).2.2 = (outsAt0 m c n' h').2.2 :=
    fun n n' h h' e => by subst e; rfl
  have e4 : (⟨5 * (t.val / 5) + (3 + 1), by omega⟩ : Fin cfg0.N) = t := Fin.ext (by show 5 * (t.val / 5) + (3 + 1) = t.val; omega)
  have e3 := e (5 * (t.val / 5) + 3) (t.val - 1) (by omega) (Nat.lt_of_le_of_lt (Nat.sub_le _ _) t.isLt) (by omega)
  have key' : (outsAt0 m c (t.val - 1) (Nat.lt_of_le_of_lt (Nat.sub_le _ _) t.isLt)).2.2 (ix2 i k) + part (iblk m c 0 t) (iblk m c 1 t) (ix2 i k)
      = ∑ s : Fin 5, term m c (ix2 i k) (5 * (t.val / 5) + s.val) (by omega) := by
    rw [← e3]
    refine Eq.trans (congrArg₂ (· + ·) rfl ?_) key
    show _ = part (iblk m c 0 ⟨5 * (t.val / 5) + (3 + 1), _⟩) (iblk m c 1 ⟨5 * (t.val / 5) + (3 + 1), _⟩) (ix2 i k)
    rw [e4]
  rw [key']
  refine Eq.trans (congrArg₂ (· + ·) ?_ ?_) (sum_cols fun l => @HMul.hMul EReal EReal EReal _ (m ((c : Thread nD τ).loc main_arg4) (ix3 0 (row t i) l)) (m ((c : Thread nD τ).loc main_arg2) (ix3 0 k l)))
  · refine Fin.sum_mul_add_congr fun s l hl => ?_
    have hr : row (⟨5 * (t.val / 5) + s.val, by omega⟩ : Fin cfg0.N) i = row t i := Fin.ext (by
      show (5 * (t.val / 5) + s.val) / 5 * 512 + i.val = t.val / 5 * 512 + i.val; omega)
    have hc : col (⟨5 * (t.val / 5) + s.val, by omega⟩ : Fin cfg0.N) l = ⟨s.val * 1024 + l.val, hl⟩ := Fin.ext (by
      show (5 * (t.val / 5) + s.val) % 5 * 1024 + l.val = s.val * 1024 + l.val; omega)
    refine Rms.mul_congr ((rd_ct m c _ i l).trans ?_) ((rd_w m c _ k l).trans ?_)
    · rw [hr, hc]
    · rw [hc]
  · refine Eq.trans (Finset.sum_congr rfl fun l _ => Rms.mul_congr (rd_ctg m c t i l) (rd_wg m c t k l)) ?_
    exact sum_pad (fun l => m ((c : Thread nD τ).loc main_arg4) (ix3 0 (row t i) (gate l))) (fun l => m ((c : Thread nD τ).loc main_arg2) (ix3 0 k (gate l)))

/-- The input's gradient after the run. -/
theorem fin_dx (c : Dev nD) : (dats m 0 c).arrAt 7 (cfgs 0).N = Gdx (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 7 _ (by decide +kernel) fun t hf y => ?_
  have ht : t.val % 5 = 4 := (flush0_7 t).mp hf
  have hN := lt40 t.isLt
  have h0 : ((cfg0.win 7).blk t).view.emb y 0 = row t (y 0) := Fin.ext (by blk_simp [idx t])
  have h1 : ((cfg0.win 7).blk t).view.emb y 1 = y 1 := Fin.ext (by blk_simp [idx t])
  blk_simp
  have hp : (outsAt0 m c t.val t.isLt).1 = k0_pay3 (k0_pay6 (iblk m c 4 t)) (k0_pay8 (iblk m c 3 t)) (k0_pay9 (iblk m c 3 t))
      (k0_pay11 (outsAt0 m c (t.val - 1) (Nat.lt_of_le_of_lt (Nat.sub_le _ _) t.isLt)).2.2 (iblk m c 0 t) (iblk m c 1 t) (iblk m c 2 t) (iblk m c 5 t) (iblk m c 6 t))
      (k0_pay12 (outsAt0 m c (t.val - 1) (Nat.lt_of_le_of_lt (Nat.sub_le _ _) t.isLt)).2.2 (iblk m c 0 t) (iblk m c 1 t) (iblk m c 2 t) (iblk m c 3 t) (iblk m c 5 t) (iblk m c 6 t))
      (Scalar.ofBits .f32 0x45000000#32) := by
    by_cases h : t.val < 5
    · rw [outsAt0_C m c t (by omega) (by omega) ht h (by omega)]; frame_out; rw [read_unread_whole]
    · rw [outsAt0_D m c t (by omega) (by omega) ht h (by omega)]; frame_out; rw [read_unread_whole]
  rw [after0_7, hp, pay_dx]
  unfold Gdx
  rw [h0, h1]
  refine congrArg₂ (· + ·) (Rms.dx_congr (fun k => rd_x m c t (y 0) k) (fun k => Rms.mul_congr (dh_last m c t ht (y 0) k) (rd_g m c t k)) (y 1)) ?_
  exact rd_res m c t (y 0) (y 1)

/-- A row block's part of the scale's gradient. -/
abbrev dgTerm (c : Dev nD) (j : S1x2048.Idx) (n : ℕ) (h : n < cfg0.N) : EReal :=
  k0_pay10 (F := Ideal) (outsAt0 m c (n - 1) (Nat.lt_of_le_of_lt (Nat.sub_le _ _) h)).2.2 (iblk m c 0 ⟨n, h⟩) (iblk m c 1 ⟨n, h⟩) (iblk m c 2 ⟨n, h⟩)
    (iblk m c 3 ⟨n, h⟩) (iblk m c 6 ⟨n, h⟩) j

theorem lt_N {n : ℕ} (h : n < 40) : n < cfg0.N := lt_of_lt_of_eq h N_0.symm

/-- The scale's gradient after the last point is the sum of the row blocks' parts. -/
theorem dg_run (c : Dev nD) (j : S1x2048.Idx) : (outsAt0 m c (5 * 7 + 4) (lt_N (by omega))).2.1 j
    = ∑ s : Fin 8, dgTerm m c j (5 * s.val + 4) (lt_N (by omega)) :=
  Rms.acc_runs (J := 5) (f := fun n h => (outsAt0 m c n h).2.1 j) (g := dgTerm m c j) (k := 4) rfl
    (fun n h e e' => by
      have hn := lt40 h
      show (outsAt0 m c n h).2.1 j = _
      by_cases h0 : n % 5 = 0
      · rw [outsAt0_A m c ⟨n, h⟩ h0 (by show ¬(1 ≤ n % 5 ∧ n % 5 ≤ 3); omega) e]; rfl
      · rw [outsAt0_B m c ⟨n, h⟩ h0 (by show 1 ≤ n % 5 ∧ n % 5 ≤ 3; omega) e]; rfl)
    (fun h => by
      show (outsAt0 m c 4 h).2.1 j = _
      rw [outsAt0_C m c ⟨4, h⟩ (by show ¬ 4 % 5 = 0; omega) (by show ¬(1 ≤ 4 % 5 ∧ 4 % 5 ≤ 3); omega) rfl (by show 4 < 5; omega) (by show ¬ 5 ≤ 4; omega)]
      frame_out
      rw [read_unread_whole])
    (fun n h e e' => by
      show (outsAt0 m c n h).2.1 j = _
      rw [outsAt0_D m c ⟨n, h⟩ (by show ¬ n % 5 = 0; omega) (by show ¬(1 ≤ n % 5 ∧ n % 5 ≤ 3); omega) e (by show ¬ n < 5; omega) e']
      frame_out
      rw [read_unread_whole]
      exact step_dg _ _ _)
    7 (lt_N (by omega))

/-- One row block's part, row by row of the array. -/
theorem dg_row (c : Dev nD) (j : S1x2048.Idx) (s : Fin 8) (i : Fin 512) (hl : s.val * 512 + i.val < 4096) (t : Fin cfg0.N) (ht : t.val = 5 * s.val + 4) :
    k0_pay7 (F := Ideal) (outsAt0 m c (t.val - 1) (Nat.lt_of_le_of_lt (Nat.sub_le _ _) t.isLt)).2.2 (iblk m c 0 t) (iblk m c 1 t) (iblk m c 2 t) (iblk m c 6 t) (ix2 i (j 1))
        * (@HMul.hMul EReal EReal EReal _ ((iblk m c 3 t : Vec Ideal S512x2048 .f32) (ix2 i (j 1)))
          (Rms.rstd N (fun k => (iblk m c 3 t : Vec Ideal S512x2048 .f32) (ix2 i k))))
      = dh (m ((c : Thread nD τ).loc main_arg2)) (m ((c : Thread nD τ).loc main_arg4)) ⟨s.val * 512 + i.val, hl⟩ (j 1)
        * (@HMul.hMul EReal EReal EReal _ (m ((c : Thread nD τ).loc main_arg0) (ix3 0 ⟨s.val * 512 + i.val, hl⟩ (j 1)))
          (Rms.rstd N (fun k => m ((c : Thread nD τ).loc main_arg0) (ix3 0 ⟨s.val * 512 + i.val, hl⟩ k)))) := by
  have hr : row t i = ⟨s.val * 512 + i.val, hl⟩ := Fin.ext (by
    show t.val / 5 * 512 + i.val = s.val * 512 + i.val; omega)
  rw [← hr]
  exact Rms.mul_congr (dh_last m c t (by omega) i (j 1)) (Rms.mul_congr (rd_x m c t i (j 1)) (Rms.rstd_congr fun k => rd_x m c t i k))

/-- The scale's gradient after the run. -/
theorem fin_dg (c : Dev nD) : (dats m 0 c).arrAt 8 (cfgs 0).N = Gdg (m ((c : Thread nD τ).loc main_arg0))
    (m ((c : Thread nD τ).loc main_arg2)) (m ((c : Thread nD τ).loc main_arg4)) := by
  refine (dats m 0 c).arrAt_eq_of_covers 8 _ (by decide +kernel) fun t hf j => ?_
  have ht : t.val % 40 = 39 := (flush0_8 t).mp hf
  have hN := lt40 t.isLt
  have h1 : ((cfg0.win 8).blk t).view.emb j 1 = j 1 := Fin.ext (by blk_simp [idx t])
  blk_simp
  rw [after0_8]
  have e : ∀ (n n' : ℕ) (h : n < cfg0.N) (h' : n' < cfg0.N), n = n' → (outsAt0 m c n h).2.1 = (outsAt0 m c n' h').2.1 :=
    fun n n' h h' e => by subst e; rfl
  rw [e t.val (5 * 7 + 4) t.isLt (lt_N (by omega)) (by omega), dg_run m c j]
  unfold Gdg
  rw [h1]
  refine (Finset.sum_congr rfl fun s _ => pay_dg _ _ _ _ _ _ _).trans ?_
  exact Fin.sum_mul_add_congr fun s i hl => dg_row m c j s i hl ⟨5 * s.val + 4, lt_N (by omega)⟩ rfl

end Cert.InDxKIdeal.Value

namespace Cert.InDxRIdeal.Value

open Cert.InDxRIdeal Cert.InDxRIdeal.Gen Cert.InDxRIdeal.Read Idealize.ShloMosaic Idealize.ShloMosaic.TcCoe Idealize.SL.Sem
open Cert.InDxKIdeal.Value (N dh Gdx Gdg)

variable (x res : FVec Ideal S1x4096x2048 .f32) (g : FVec Ideal S1x2048 .f32) (w : FVec Ideal S1x2048x5128 .f32)
  (ct : FVec Ideal S1x4096x5128 .f32)

theorem N_eq : N = ((2048 : ℝ) : EReal) := by
  simp [N, Ideal.ofBits, Ideal.ieee, -EReal.coe_mul]; norm_num

/-- The cotangent of the normalised row. -/
theorem dh_eq (i : Fin 4096) (k : Fin 2048) : val_main_v19 (F := Ideal) w ct (ix3 0 i k) = dh w ct i k := by
  pointwise [val_main_v19, val_main_v17]

/-- One over the root of the mean square. -/
theorem rstd_eq (i : Fin 4096) : val_main_v8 (F := Ideal) x (ix3 0 i 0) = Rms.rstd N fun k => x (ix3 0 i k) := by
  pointwise [val_main_v8, val_main_v7, val_main_v6, val_main_v5, val_main_v4, val_main_v3, val_main_v2, val_main_v1, val_main_cst, val_main_cst_0, val_main_cst_1, Rms.rstd, Rms.ms]

/-- The gradient of the mean square. -/
theorem D_eq (i : Fin 4096) : val_main_v34 (F := Ideal) x g w ct (ix3 0 i 0)
    = Rms.D N (fun k => x (ix3 0 i k)) fun k => dh w ct i k * g (ix2 0 k) := by
  pointwise [val_main_v34, val_main_v33, val_main_v32, val_main_v28, val_main_v27, val_main_v26, val_main_v24, val_main_v23, val_main_v14, val_main_v0, val_main_v11, val_main_v10, val_main_v9, val_main_v8, val_main_v7, val_main_v6, val_main_v5, val_main_v4, val_main_v3, val_main_v2, val_main_v1, val_main_cst, val_main_cst_0, val_main_cst_1, val_main_cst_2, val_main_cst_5, val_main_cst_6, Rms.D, Rms.rstd, Rms.ms]
  simp only [dh_eq]

/-- The reference's gradient of the input is the kernel's. -/
theorem ref_43 : val_main_v43 (F := Ideal) x g w res ct = Gdx x g w res ct := by
  funext j
  idx_vars j
  refine Eq.trans ?_ (Eq.trans (congrArg (· + res (ix3 0 j0 j1)) (Rms.dx_eq (by norm_num : (0 : ℝ) < 2048) (fun k => x (ix3 0 j0 k)) (fun k => dh w ct j0 k * g (ix2 0 k)) j1).symm) ?_)
  · rw [← N_eq, ← D_eq, ← rstd_eq]
    pointwise [val_main_v43, val_main_v41, val_main_v40, val_main_v39, val_main_v38, val_main_v37, val_main_v36, val_main_v35, val_main_v31, val_main_v30, val_main_v29, val_main_v24, val_main_v23, val_main_v14, val_main_v0, val_main_cst_7]
    simp only [zero_add, dh_eq, Rms.red_row]
    ac_rfl
  · rw [← N_eq]; rfl

/-- The reference's gradient of the scale is the kernel's. -/
theorem ref_42 : val_main_v42 (F := Ideal) x w ct = Gdg x w ct := by
  funext j
  idx_vars j
  obtain rfl := Fin.fin_one_eq_zero j0
  pointwise [val_main_v42, val_main_v25]
  rw [Rms.red_col]
  pointwise [val_main_v22, val_main_v21, val_main_v20, val_main_v13, val_main_v12, val_main_cst_3, val_main_cst_4]
  simp only [dh_eq, rstd_eq]
  unfold Gdg
  refine Finset.sum_congr rfl fun i _ => ?_
  exact mul_comm _ _

end Cert.InDxRIdeal.Value

namespace Cert.InDxAlg

open Idealize.ShloMosaic Idealize.ShloMosaic.TcCoe Idealize.SL.Sem

/-- Both programs leave the same two result arrays and their arguments as they found them. -/
theorem algebraic : Cert.algebraic_InDxKIdeal_InDxRIdeal := by
  pair_intro
  · run_from Cert.InDxKIdeal.Gen.run_main m g
    all_goals
      simp only [List.flatten_cons, List.flatten_nil, List.append_nil, List.cons_append, List.nil_append]
      after_results
  · run_from Cert.InDxRIdeal.Value.run m' g'
    all_goals obtain ⟨h0, h1, h2, h3, h4⟩ := hagree c
    · rw [Cert.InDxKIdeal.Value.fin_dx m c, Cert.InDxRIdeal.Read.val_main_v43_eq, h0, h1, h2, h3, h4]
      exact Cert.InDxRIdeal.Value.ref_43 _ _ _ _ _
    · rw [Cert.InDxKIdeal.Value.fin_dg m c, Cert.InDxRIdeal.Read.val_main_v42_eq]
      exact Cert.InDxRIdeal.Value.ref_42 _ _ _

end Cert.InDxAlg

end
-- ==== Proof.FfOneDx.lean ====
/- The gradient through the feed-forward layer's first product, the norm before it and the residual: `FfOneDxKIdeal`
   and `FfOneDxRIdeal` compute the same arrays. The kernel sums the product over eight blocks of columns and at the
   last of them uses the norm's gradient written out by hand; the reference takes one product over all columns and
   differentiates the norm step by step. -/
module

public import proofs.«01_k».proof.Defs
public import proofs.«01_k».proof.Proof.RmsMath
public import proofs.«01_k».proof.Proof.Gen.FfOneDxKIdeal.Value
public import proofs.«01_k».proof.Proof.Gen.FfOneDxRIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.FfOneDxKIdeal.Value

open Cert.FfOneDxKIdeal Cert.FfOneDxKIdeal.Gen Idealize.ShloMosaic Idealize.ShloMosaic.TcCoe Idealize.SL.Sem
open Idealize.ShloMosaic.Pipeline (Dat)

/-- The row length as both programs divide by it. -/
abbrev N : EReal := Ideal.ofBits .f32 0x45000000#32

/-- The cotangent of the normalised row. -/
abbrev dh (w : FVec Ideal S1x2048x8192 .f32) (ct : FVec Ideal S1x4096x8192 .f32) (i : Fin 4096) (k : Fin 2048) : EReal :=
  ∑ l : Fin 8192, ct (ix3 0 i l) * w (ix3 0 k l)

/-- The gradient of the input: the norm's and the residual's. -/
def Gdx (x : FVec Ideal S1x4096x2048 .f32) (g : FVec Ideal S1x2048 .f32) (w : FVec Ideal S1x2048x8192 .f32)
    (res : FVec Ideal S1x4096x2048 .f32) (ct : FVec Ideal S1x4096x8192 .f32) : FVec Ideal S4096x2048 .f32 := fun j =>
  Rms.dx N (fun k => x (ix3 0 (j 0) k)) (fun k => dh w ct (j 0) k * g (ix2 0 k)) (j 1) + res (ix3 0 (j 0) (j 1))

/-- The gradient of the norm's scale. -/
def Gdg (x : FVec Ideal S1x4096x2048 .f32) (w : FVec Ideal S1x2048x8192 .f32)
    (ct : FVec Ideal S1x4096x8192 .f32) : FVec Ideal S1x2048 .f32 := fun j =>
  ∑ i : Fin 4096, dh w ct i (j 1) * (x (ix3 0 i (j 1)) * Rms.rstd N (fun k => x (ix3 0 i k)))

variable (m : (ℓ : Loc nD τ sig) → Buf (Elt Ideal) ℓ)

/-- The block index of every window at every grid point. -/
theorem idx : ∀ t : Fin cfg0.N, win0_0.index t = ![t.val / 8, t.val % 8] ∧ win0_1.index t = ![t.val % 8, 0, 0]
    ∧ win0_2.index t = ![t.val / 8, 0] ∧ win0_3.index t = ![t.val / 8, 0] ∧ win0_4.index t = ![0, 0]
    ∧ win0_5.index t = ![t.val / 8, 0] ∧ win0_6.index t = ![t.val / 8, 0] ∧ win0_7.index t = ![0, 0] ∧ t.val < 64 :=
  (by decide +kernel : ∀ t : Fin grid0.N, _)

section Payloads

variable (acc : Vec Ideal S512x2048 .f32) (a : Vec Ideal S512x1024 .bf16) (b : Vec Ideal S1x2048x1024 .bf16)
  (x res : Vec Ideal S512x2048 .f32) (g : Vec Ideal S1x2048 .f32)

/-- One block of columns' part of the product. -/
abbrev part (j : S512x2048.Idx) : EReal := ∑ l : Fin 1024, a (ix2 (j 0) l) * b (ix3 0 (j 1) l)

/-- The first block's product. -/
theorem pay_first (j : S512x2048.Idx) : k0_pay1 a b j = part a b j := by
  idx_vars j
  pointwise [k0_pay1, part]

/-- A later block's product joins the sum. -/
theorem pay_step (j : S512x2048.Idx) : k0_pay2 acc a b j = acc j + part a b j := by
  idx_vars j
  pointwise [k0_pay2, part]

/-- The last block's product completes it. -/
theorem pay_last (j : S512x2048.Idx) : k0_pay5 acc a b j = acc j + part a b j := by
  idx_vars j
  pointwise [k0_pay5, part]

/-- The stored gradient of the input. -/
theorem pay_dx (j : S512x2048.Idx) : k0_pay10 acc a b x res g j
    = Rms.dx N (fun k => x (ix2 (j 0) k)) (fun k => k0_pay5 acc a b (ix2 (j 0) k) * g (ix2 0 k)) (j 1) + res j := by
  idx_vars j
  pointwise [k0_pay10, k0_pay8, k0_pay7, k0_pay6, Rms.dx, Rms.rstd, Rms.ms]

/-- Its copy in the smaller format is the same over the reals. -/
theorem pay_copy (u : FVec Ideal S512x2048 .f32) (j : S512x2048.Idx) : k0_pay3 u j = u j := by
  idx_vars j
  pointwise [k0_pay3]

/-- A block's part of the gradient of the scale. -/
theorem pay_dg (j : S1x2048.Idx) : k0_pay9 acc a b x j = ∑ i : Fin 512, k0_pay5 acc a b (ix2 i (j 1))
    * (x (ix2 i (j 1)) * Rms.rstd N (fun k => x (ix2 i k))) := by
  idx_vars j
  pointwise [k0_pay9, k0_pay8, k0_pay7, k0_pay6, Rms.rstd, Rms.ms]

/-- Blocks' parts add up. -/
theorem step_dg (u v : Vec Ideal S1x2048 .f32) (j : S1x2048.Idx) : k0_pay4 u v j = v j + u j := by
  idx_vars j
  pointwise [k0_pay4]

end Payloads

theorem row_lt (t : Fin cfg0.N) (i : Fin 512) : t.val / 8 * 512 + i.val < 4096 := by
  have hN : t.val < 64 := lt_of_lt_of_eq t.isLt N_0
  omega
theorem col_lt (t : Fin cfg0.N) (l : Fin 1024) : t.val % 8 * 1024 + l.val < 8192 := by omega

/-- The array's row of a block's row. -/
abbrev row (t : Fin cfg0.N) (i : Fin 512) : Fin 4096 := ⟨t.val / 8 * 512 + i.val, row_lt t i⟩
/-- The array's column of a block's column. -/
abbrev col (t : Fin cfg0.N) (l : Fin 1024) : Fin 8192 := ⟨t.val % 8 * 1024 + l.val, col_lt t l⟩

section Blocks

variable (c : Dev nD) (t : Fin cfg0.N)

/-- The cotangent's block. -/
theorem rd_ct (i : Fin 512) (l : Fin 1024) :
    @Eq EReal (iblk m c 0 t (ix2 i l)) (m ((c : Thread nD τ).loc main_arg4) (ix3 0 (row t i) (col t l))) := by
  blk_point [iblk, V, idx t]

/-- The weights' block. -/
theorem rd_w (k : Fin 2048) (l : Fin 1024) :
    @Eq EReal (iblk m c 1 t (ix3 0 k l)) (m ((c : Thread nD τ).loc main_arg2) (ix3 0 k (col t l))) := by
  blk_point [iblk, V, idx t]

/-- The norm's input. -/
theorem rd_x (i : Fin 512) (k : Fin 2048) :
    @Eq EReal (iblk m c 2 t (ix2 i k)) (m ((c : Thread nD τ).loc main_arg0) (ix3 0 (row t i) k)) := by
  blk_point [iblk, V, idx t]

/-- The residual's cotangent. -/
theorem rd_res (i : Fin 512) (k : Fin 2048) :
    @Eq EReal (iblk m c 3 t (ix2 i k)) (m ((c : Thread nD τ).loc main_arg3) (ix3 0 (row t i) k)) := by
  blk_point [iblk, V, idx t]

/-- The norm's scale. -/
theorem rd_g (k : Fin 2048) : @Eq EReal (iblk m c 4 t (ix2 0 k)) (m ((c : Thread nD τ).loc main_arg1) (ix2 0 k)) := by
  blk_point [iblk, V, idx t]

end Blocks

theorem lt64 {n : ℕ} (h : n < cfg0.N) : n < 64 := lt_of_lt_of_eq h N_0

/-- What a point's block of columns contributes to the product. -/
abbrev term (c : Dev nD) (j : S512x2048.Idx) (n : ℕ) (h : n < cfg0.N) : EReal := part (iblk m c 0 ⟨n, h⟩) (iblk m c 1 ⟨n, h⟩) j

/-- At the last block of columns the product is the whole one, over all columns. -/
theorem dh_last (c : Dev nD) (t : Fin cfg0.N) (ht : t.val % 8 = 7) (i : Fin 512) (k : Fin 2048) :
    k0_pay5 (F := Ideal) (outsAt0 m c (t.val - 1) (Nat.lt_of_le_of_lt (Nat.sub_le _ _) t.isLt)).2.2.2 (iblk m c 0 t) (iblk m c 1 t) (ix2 i k)
      = dh (m ((c : Thread nD τ).loc main_arg2)) (m ((c : Thread nD τ).loc main_arg4)) (row t i) k := by
  have hN := lt64 t.isLt
  have key := Rms.acc_last (J := 8) (f := fun n h => (outsAt0 m c n h).2.2.2 (ix2 i k)) (g := term m c (ix2 i k))
    (fun n h e => by
      show (outsAt0 m c n h).2.2.2 (ix2 i k) = _
      rw [outsAt0_A m c ⟨n, h⟩ e (by show ¬(1 ≤ n % 8 ∧ n % 8 ≤ 6); omega) (by show ¬ n % 8 = 7; omega)]
      frame_out
      exact pay_first _ _ _)
    (fun n h e e' => by
      show (outsAt0 m c n h).2.2.2 (ix2 i k) = _
      rw [outsAt0_B m c ⟨n, h⟩ (by show ¬ n % 8 = 0; omega) (by show 1 ≤ n % 8 ∧ n % 8 ≤ 6; omega) (by show ¬ n % 8 = 7; omega)]
      frame_out
      rw [read_unread_whole]
      exact pay_step _ _ _ _)
    (t.val / 8) 6 rfl (by omega)
  rw [pay_last]
  have e : ∀ (n n' : ℕ) (h : n < cfg0.N) (h' : n' < cfg0.N), n = n' → (outsAt0 m c n h).2.2.2 = (outsAt0 m c n' h').2.2.2 :=
    fun n n' h h' e => by subst e; rfl
  have e4 : (⟨8 * (t.val / 8) + (6 + 1), by omega⟩ : Fin cfg0.N) = t := Fin.ext (by show 8 * (t.val / 8) + (6 + 1) = t.val; omega)
  have e3 := e (8 * (t.val / 8) + 6) (t.val - 1) (by omega) (Nat.lt_of_le_of_lt (Nat.sub_le _ _) t.isLt) (by omega)
  have key' : (outsAt0 m c (t.val - 1) (Nat.lt_of_le_of_lt (Nat.sub_le _ _) t.isLt)).2.2.2 (ix2 i k) + part (iblk m c 0 t) (iblk m c 1 t) (ix2 i k)
      = ∑ s : Fin 8, term m c (ix2 i k) (8 * (t.val / 8) + s.val) (by omega) := by
    rw [← e3]
    refine Eq.trans (congrArg₂ (· + ·) rfl ?_) key
    show _ = part (iblk m c 0 ⟨8 * (t.val / 8) + (6 + 1), _⟩) (iblk m c 1 ⟨8 * (t.val / 8) + (6 + 1), _⟩) (ix2 i k)
    rw [e4]
  rw [key']
  refine Fin.sum_mul_add_congr fun s l hl => ?_
  have hr : row (⟨8 * (t.val / 8) + s.val, by omega⟩ : Fin cfg0.N) i = row t i := Fin.ext (by
    show (8 * (t.val / 8) + s.val) / 8 * 512 + i.val = t.val / 8 * 512 + i.val; omega)
  have hc : col (⟨8 * (t.val / 8) + s.val, by omega⟩ : Fin cfg0.N) l = ⟨s.val * 1024 + l.val, hl⟩ := Fin.ext (by
    show (8 * (t.val / 8) + s.val) % 8 * 1024 + l.val = s.val * 1024 + l.val; omega)
  refine Rms.mul_congr ((rd_ct m c _ i l).trans ?_) ((rd_w m c _ k l).trans ?_)
  · rw [hr, hc]
  · rw [hc]

/-- What the last block of columns' point stores as the input's gradient. -/
theorem out_dx (c : Dev nD) (t : Fin cfg0.N) (ht : t.val % 8 = 7) (y : S512x2048.Idx) :
    k0_pay10 (F := Ideal) (outsAt0 m c (t.val - 1) (Nat.lt_of_le_of_lt (Nat.sub_le _ _) t.isLt)).2.2.2 (iblk m c 0 t) (iblk m c 1 t) (iblk m c 2 t) (iblk m c 3 t) (iblk m c 4 t) y
      = Gdx (m ((c : Thread nD τ).loc main_arg0)) (m ((c : Thread nD τ).loc main_arg1))
    (m ((c : Thread nD τ).loc main_arg2)) (m ((c : Thread nD τ).loc main_arg3)) (m ((c : Thread nD τ).loc main_arg4)) (ix2 (row t (y 0)) (y 1)) := by
  rw [pay_dx]
  unfold Gdx
  refine congrArg₂ (· + ·) (Rms.dx_congr (fun k => rd_x m c t (y 0) k) (fun k => Rms.mul_congr (dh_last m c t ht (y 0) k) (rd_g m c t k)) (y 1)) ?_
  refine Eq.trans ?_ (rd_res m c t (y 0) (y 1))
  exact congrArg _ (by ext a; fin_cases a <;> rfl)

/-- The input's gradient after the run. -/
theorem fin_dx (c : Dev nD) : (dats m 0 c).arrAt 5 (cfgs 0).N = Gdx (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht : t.val % 8 = 7 := (flush0_5 t).mp hf
  have hN := lt64 t.isLt
  have h : ((cfg0.win 5).blk t).view.emb y = ix2 (row t (y 0)) (y 1) := by
    funext a
    match a with
    | 0 => exact Fin.ext (by blk_simp [idx t])
    | 1 => exact Fin.ext (by blk_simp [idx t])
  blk_simp
  have hp : (outsAt0 m c t.val t.isLt).1 = k0_pay10 (F := Ideal) (outsAt0 m c (t.val - 1) (Nat.lt_of_le_of_lt (Nat.sub_le _ _) t.isLt)).2.2.2 (iblk m c 0 t) (iblk m c 1 t) (iblk m c 2 t) (iblk m c 3 t) (iblk m c 4 t) := by
    by_cases h : t.val < 8
    · rw [outsAt0_C m c t (by omega) (by omega) ht h (by omega)]; frame_out; rw [read_unread_whole]
    · rw [outsAt0_D m c t (by omega) (by omega) ht h (by omega)]; frame_out; rw [read_unread_whole]
  rw [after0_5, hp, h]
  exact out_dx m c t ht y

/-- Its copy in the smaller format after the run. -/
theorem fin_copy (c : Dev nD) : (dats m 0 c).arrAt 6 (cfgs 0).N = fun j => Gdx (m ((c : Thread nD τ).loc main_arg0)) (m ((c : Thread nD τ).loc main_arg1))
    (m ((c : Thread nD τ).loc main_arg2)) (m ((c : Thread nD τ).loc main_arg3)) (m ((c : Thread nD τ).loc main_arg4)) j := by
  refine (dats m 0 c).arrAt_eq_of_covers 6 _ (by decide +kernel) fun t hf y => ?_
  have ht : t.val % 8 = 7 := (flush0_6 t).mp hf
  have hN := lt64 t.isLt
  have h : ((cfg0.win 6).blk t).view.emb y = ix2 (row t (y 0)) (y 1) := by
    funext a
    match a with
    | 0 => exact Fin.ext (by blk_simp [idx t])
    | 1 => exact Fin.ext (by blk_simp [idx t])
  blk_simp
  have hp : (outsAt0 m c t.val t.isLt).2.1 = k0_pay3 (k0_pay10 (F := Ideal) (outsAt0 m c (t.val - 1) (Nat.lt_of_le_of_lt (Nat.sub_le _ _) t.isLt)).2.2.2 (iblk m c 0 t) (iblk m c 1 t) (iblk m c 2 t) (iblk m c 3 t) (iblk m c 4 t)) := by
    by_cases h : t.val < 8
    · rw [outsAt0_C m c t (by omega) (by omega) ht h (by omega)]; frame_out; rw [read_unread_whole]
    · rw [outsAt0_D m c t (by omega) (by omega) ht h (by omega)]; frame_out; rw [read_unread_whole]
  rw [after0_6, hp, pay_copy, h]
  exact out_dx m c t ht y

/-- A row block's part of the scale's gradient. -/
abbrev dgTerm (c : Dev nD) (j : S1x2048.Idx) (n : ℕ) (h : n < cfg0.N) : EReal :=
  k0_pay9 (F := Ideal) (outsAt0 m c (n - 1) (Nat.lt_of_le_of_lt (Nat.sub_le _ _) h)).2.2.2 (iblk m c 0 ⟨n, h⟩) (iblk m c 1 ⟨n, h⟩) (iblk m c 2 ⟨n, h⟩) j

theorem lt_N {n : ℕ} (h : n < 64) : n < cfg0.N := lt_of_lt_of_eq h N_0.symm

/-- The scale's gradient after the last point is the sum of the row blocks' parts. -/
theorem dg_run (c : Dev nD) (j : S1x2048.Idx) : (outsAt0 m c (8 * 7 + 7) (lt_N (by omega))).2.2.1 j
    = ∑ s : Fin 8, dgTerm m c j (8 * s.val + 7) (lt_N (by omega)) :=
  Rms.acc_runs (J := 8) (f := fun n h => (outsAt0 m c n h).2.2.1 j) (g := dgTerm m c j) (k := 7) rfl
    (fun n h e e' => by
      have hn := lt64 h
      show (outsAt0 m c n h).2.2.1 j = _
      by_cases h0 : n % 8 = 0
      · rw [outsAt0_A m c ⟨n, h⟩ h0 (by show ¬(1 ≤ n % 8 ∧ n % 8 ≤ 6); omega) e]; rfl
      · rw [outsAt0_B m c ⟨n, h⟩ h0 (by show 1 ≤ n % 8 ∧ n % 8 ≤ 6; omega) e]; rfl)
    (fun h => by
      show (outsAt0 m c 7 h).2.2.1 j = _
      rw [outsAt0_C m c ⟨7, h⟩ (by show ¬ 7 % 8 = 0; omega) (by show ¬(1 ≤ 7 % 8 ∧ 7 % 8 ≤ 6); omega) rfl (by show 7 < 8; omega) (by show ¬ 8 ≤ 7; omega)]
      frame_out
      rw [read_unread_whole])
    (fun n h e e' => by
      show (outsAt0 m c n h).2.2.1 j = _
      rw [outsAt0_D m c ⟨n, h⟩ (by show ¬ n % 8 = 0; omega) (by show ¬(1 ≤ n % 8 ∧ n % 8 ≤ 6); omega) e (by show ¬ n < 8; omega) e']
      frame_out
      rw [read_unread_whole]
      exact step_dg _ _ _)
    7 (lt_N (by omega))

/-- One row block's part, row by row of the array. -/
theorem dg_row (c : Dev nD) (j : S1x2048.Idx) (s : Fin 8) (i : Fin 512) (hl : s.val * 512 + i.val < 4096) (t : Fin cfg0.N) (ht : t.val = 8 * s.val + 7) :
    k0_pay5 (F := Ideal) (outsAt0 m c (t.val - 1) (Nat.lt_of_le_of_lt (Nat.sub_le _ _) t.isLt)).2.2.2 (iblk m c 0 t) (iblk m c 1 t) (ix2 i (j 1))
        * (@HMul.hMul EReal EReal EReal _ ((iblk m c 2 t : Vec Ideal S512x2048 .f32) (ix2 i (j 1)))
          (Rms.rstd N (fun k => (iblk m c 2 t : Vec Ideal S512x2048 .f32) (ix2 i k))))
      = dh (m ((c : Thread nD τ).loc main_arg2)) (m ((c : Thread nD τ).loc main_arg4)) ⟨s.val * 512 + i.val, hl⟩ (j 1)
        * (@HMul.hMul EReal EReal EReal _ (m ((c : Thread nD τ).loc main_arg0) (ix3 0 ⟨s.val * 512 + i.val, hl⟩ (j 1)))
          (Rms.rstd N (fun k => m ((c : Thread nD τ).loc main_arg0) (ix3 0 ⟨s.val * 512 + i.val, hl⟩ k)))) := by
  have hr : row t i = ⟨s.val * 512 + i.val, hl⟩ := Fin.ext (by
    show t.val / 8 * 512 + i.val = s.val * 512 + i.val; omega)
  rw [← hr]
  exact Rms.mul_congr (dh_last m c t (by omega) i (j 1)) (Rms.mul_congr (rd_x m c t i (j 1)) (Rms.rstd_congr fun k => rd_x m c t i k))

/-- The scale's gradient after the run. -/
theorem fin_dg (c : Dev nD) : (dats m 0 c).arrAt 7 (cfgs 0).N = Gdg (m ((c : Thread nD τ).loc main_arg0))
    (m ((c : Thread nD τ).loc main_arg2)) (m ((c : Thread nD τ).loc main_arg4)) := by
  refine (dats m 0 c).arrAt_eq_of_covers 7 _ (by decide +kernel) fun t hf j => ?_
  have ht : t.val % 64 = 63 := (flush0_7 t).mp hf
  have hN := lt64 t.isLt
  have h1 : ((cfg0.win 7).blk t).view.emb j 1 = j 1 := Fin.ext (by blk_simp [idx t])
  blk_simp
  rw [after0_7]
  have e : ∀ (n n' : ℕ) (h : n < cfg0.N) (h' : n' < cfg0.N), n = n' → (outsAt0 m c n h).2.2.1 = (outsAt0 m c n' h').2.2.1 :=
    fun n n' h h' e => by subst e; rfl
  rw [e t.val (8 * 7 + 7) t.isLt (lt_N (by omega)) (by omega), dg_run m c j]
  unfold Gdg
  rw [h1]
  refine (Finset.sum_congr rfl fun s _ => pay_dg _ _ _ _ _).trans ?_
  exact Fin.sum_mul_add_congr fun s i hl => dg_row m c j s i hl ⟨8 * s.val + 7, lt_N (by omega)⟩ rfl

end Cert.FfOneDxKIdeal.Value

namespace Cert.FfOneDxRIdeal.Value

open Cert.FfOneDxRIdeal Cert.FfOneDxRIdeal.Gen Cert.FfOneDxRIdeal.Read Idealize.ShloMosaic Idealize.ShloMosaic.TcCoe Idealize.SL.Sem
open Cert.FfOneDxKIdeal.Value (N dh Gdx Gdg)

variable (x res : FVec Ideal S1x4096x2048 .f32) (g : FVec Ideal S1x2048 .f32) (w : FVec Ideal S1x2048x8192 .f32)
  (ct : FVec Ideal S1x4096x8192 .f32)

theorem N_eq : N = ((2048 : ℝ) : EReal) := by
  simp [N, Ideal.ofBits, Ideal.ieee, -EReal.coe_mul]; norm_num

/-- The cotangent of the normalised row. -/
theorem dh_eq (i : Fin 4096) (k : Fin 2048) : val_main_v19 (F := Ideal) w ct (ix3 0 i k) = dh w ct i k := by
  pointwise [val_main_v19, val_main_v17]

/-- One over the root of the mean square. -/
theorem rstd_eq (i : Fin 4096) : val_main_v8 (F := Ideal) x (ix3 0 i 0) = Rms.rstd N fun k => x (ix3 0 i k) := by
  pointwise [val_main_v8, val_main_v7, val_main_v6, val_main_v5, val_main_v4, val_main_v3, val_main_v2, val_main_v1, val_main_cst, val_main_cst_0, val_main_cst_1, Rms.rstd, Rms.ms]

/-- The gradient of the mean square. -/
theorem D_eq (i : Fin 4096) : val_main_v34 (F := Ideal) x g w ct (ix3 0 i 0)
    = Rms.D N (fun k => x (ix3 0 i k)) fun k => dh w ct i k * g (ix2 0 k) := by
  pointwise [val_main_v34, val_main_v33, val_main_v32, val_main_v28, val_main_v27, val_main_v26, val_main_v24, val_main_v23, val_main_v14, val_main_v0, val_main_v11, val_main_v10, val_main_v9, val_main_v8, val_main_v7, val_main_v6, val_main_v5, val_main_v4, val_main_v3, val_main_v2, val_main_v1, val_main_cst, val_main_cst_0, val_main_cst_1, val_main_cst_2, val_main_cst_5, val_main_cst_6, Rms.D, Rms.rstd, Rms.ms]
  simp only [dh_eq]

/-- The reference's gradient of the input is the kernel's. -/
theorem ref_43 : val_main_v43 (F := Ideal) x g w res ct = Gdx x g w res ct := by
  funext j
  idx_vars j
  refine Eq.trans ?_ (Eq.trans (congrArg (· + res (ix3 0 j0 j1)) (Rms.dx_eq (by norm_num : (0 : ℝ) < 2048) (fun k => x (ix3 0 j0 k)) (fun k => dh w ct j0 k * g (ix2 0 k)) j1).symm) ?_)
  · rw [← N_eq, ← D_eq, ← rstd_eq]
    pointwise [val_main_v43, val_main_v41, val_main_v40, val_main_v39, val_main_v38, val_main_v37, val_main_v36, val_main_v35, val_main_v31, val_main_v30, val_main_v29, val_main_v24, val_main_v23, val_main_v14, val_main_v0, val_main_cst_7]
    simp only [zero_add, dh_eq, Rms.red_row]
    ac_rfl
  · rw [← N_eq]; rfl

/-- Its copy in the smaller format is the same over the reals. -/
theorem ref_45 : val_main_v45 (F := Ideal) x g w res ct = fun j => Gdx x g w res ct j := by
  funext j
  rw [← ref_43]
  idx_vars j
  pointwise [val_main_v45, val_main_v44, val_main_v43]

/-- The reference's gradient of the scale is the kernel's. -/
theorem ref_42 : val_main_v42 (F := Ideal) x w ct = Gdg x w ct := by
  funext j
  idx_vars j
  obtain rfl := Fin.fin_one_eq_zero j0
  pointwise [val_main_v42, val_main_v25]
  rw [Rms.red_col]
  pointwise [val_main_v22, val_main_v21, val_main_v20, val_main_v13, val_main_v12, val_main_cst_3, val_main_cst_4]
  simp only [dh_eq, rstd_eq]
  unfold Gdg
  refine Finset.sum_congr rfl fun i _ => ?_
  exact mul_comm _ _

end Cert.FfOneDxRIdeal.Value

namespace Cert.FfOneDxAlg

open Idealize.ShloMosaic Idealize.ShloMosaic.TcCoe Idealize.SL.Sem

/-- Both programs leave the same three result arrays and their arguments as they found them. -/
theorem algebraic : Cert.algebraic_FfOneDxKIdeal_FfOneDxRIdeal := by
  pair_intro
  · run_from Cert.FfOneDxKIdeal.Gen.run_main m g
  · run_from Cert.FfOneDxRIdeal.Value.run m' g'
    all_goals obtain ⟨h0, h1, h2, h3, h4⟩ := hagree c
    · rw [Cert.FfOneDxKIdeal.Value.fin_dx m c, Cert.FfOneDxRIdeal.Read.val_main_v43_eq, h0, h1, h2, h3, h4]
      exact Cert.FfOneDxRIdeal.Value.ref_43 _ _ _ _ _
    · rw [Cert.FfOneDxKIdeal.Value.fin_copy m c, Cert.FfOneDxRIdeal.Read.val_main_v45_eq, h0, h1, h2, h3, h4]
      exact Cert.FfOneDxRIdeal.Value.ref_45 _ _ _ _ _
    · rw [Cert.FfOneDxKIdeal.Value.fin_dg m c, Cert.FfOneDxRIdeal.Read.val_main_v42_eq]
      exact Cert.FfOneDxRIdeal.Value.ref_42 _ _ _

end Cert.FfOneDxAlg

end
-- ==== Proof.Head.lean ====
/- The last product of the block, the final norm and the loss, with their gradients: `HeadKIdeal` and `HeadRIdeal`
   compute the same arrays. The kernel sums the product over eight blocks of rows of the weights, at the last of them
   normalises, takes the loss and uses the gradient written out by hand; the reference takes one product, the loss of
   all rows, and differentiates it step by step. -/
module

public import proofs.«01_k».proof.Defs
public import proofs.«01_k».proof.Proof.RmsMath
public import proofs.«01_k».proof.Proof.Gen.HeadKIdeal.Value
public import proofs.«01_k».proof.Proof.Gen.HeadRIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.HeadKIdeal.Value

open Cert.HeadKIdeal Cert.HeadKIdeal.Gen Idealize.ShloMosaic Idealize.ShloMosaic.TcCoe Idealize.SL.Sem
open Idealize.ShloMosaic.Pipeline (Dat)

/-- The row length as both programs divide by it. -/
abbrev N : EReal := Ideal.ofBits .f32 0x45000000#32

/-- One over the row length, as the kernel multiplies by it. -/
abbrev C : EReal := Ideal.ofBits .f32 0x3A000000#32
/-- The factor of the loss. -/
abbrev half : EReal := Ideal.ofBits .f32 0x3F000000#32

section Values

variable (a : FVec Ideal S1x4096x8192 .f32) (w : FVec Ideal S1x8192x2048 .f32) (x t : FVec Ideal S1x4096x2048 .f32)
  (g : FVec Ideal S2048 .f32)

/-- The block's last value: the residual and the product of the squared activations. -/
abbrev xv (i : Fin 4096) (k : Fin 2048) : EReal :=
  x (ix3 0 i k) + ∑ l : Fin 8192, a (ix3 0 i l) * a (ix3 0 i l) * w (ix3 0 l k)

/-- The normalised value's distance from the target. -/
abbrev er (i : Fin 4096) (k : Fin 2048) : EReal :=
  xv a w x i k * Rms.rstd N (fun k => xv a w x i k) * g (ix1 k) - t (ix3 0 i k)

/-- The gradient of the block's last value. -/
def Gdx : FVec Ideal S4096x2048 .f32 := fun j =>
  Rms.dx N (fun k => xv a w x (j 0) k) (fun k => er a w x t g (j 0) k * C * g (ix1 k)) (j 1)

/-- The gradient of the norm's scale. -/
def Gdg : FVec Ideal S1x2048 .f32 := fun j =>
  ∑ i : Fin 4096, er a w x t g i (j 1) * C * (xv a w x i (j 1) * Rms.rstd N (fun k => xv a w x i k))

/-- A row's mean square distance. -/
abbrev sq (i : Fin 4096) : EReal := Ideal.div (∑ k : Fin 2048, er a w x t g i k * er a w x t g i k) N

/-- The loss, at every place of the array. -/
def Gloss : FVec Ideal S1x128 .f32 := fun _ => half * ∑ i : Fin 4096, sq a w x t g i

end Values

variable (m : (ℓ : Loc nD τ sig) → Buf (Elt Ideal) ℓ)

/-- The block index of every window at every grid point. -/
theorem idx : ∀ t : Fin cfg0.N, win0_0.index t = ![t.val / 8, t.val % 8] ∧ win0_1.index t = ![t.val % 8, 0]
    ∧ win0_2.index t = ![t.val / 8, 0] ∧ win0_3.index t = ![t.val / 8, 0] ∧ win0_4.index t = ![0, 0]
    ∧ win0_5.index t = ![t.val / 8, 0] ∧ win0_6.index t = ![t.val / 8, 0] ∧ win0_7.index t = ![0, 0] ∧ win0_8.index t = ![0, 0] ∧ t.val < 64 :=
  (by decide +kernel : ∀ t : Fin grid0.N, _)

section Payloads

variable (acc : Vec Ideal S512x2048 .f32) (a : Vec Ideal S512x1024 .bf16) (b : Vec Ideal S1024x2048 .bf16)
  (x t : Vec Ideal S512x2048 .f32) (g : Vec Ideal S1x2048 .f32)

/-- One block's part of the product. -/
abbrev part (j : S512x2048.Idx) : EReal := ∑ l : Fin 1024, a (ix2 (j 0) l) * a (ix2 (j 0) l) * b (ix2 l (j 1))

/-- The first block's product. -/
theorem pay_first (j : S512x2048.Idx) : k0_pay1 a b j = part a b j := by
  idx_vars j
  pointwise [k0_pay1, part]

/-- A later block's product joins the sum. -/
theorem pay_step (j : S512x2048.Idx) : k0_pay2 acc a b j = acc j + part a b j := by
  idx_vars j
  pointwise [k0_pay2, part]

/-- The last block's product completes it, and the residual joins. -/
theorem pay_x (j : S512x2048.Idx) : k0_pay11 acc a b x j = x j + (acc j + part a b j) := by
  refine Eq.trans ?_ (add_comm _ _)
  idx_vars j
  pointwise [k0_pay11, part]

/-- The normalised value. -/
theorem pay_h (j : S512x2048.Idx) : k0_pay13 acc a b x j
    = k0_pay11 acc a b x j * Rms.rstd N (fun k => k0_pay11 acc a b x (ix2 (j 0) k)) := by
  idx_vars j
  pointwise [k0_pay13, k0_pay12, Rms.rstd, Rms.ms]

/-- The distance from the target. -/
theorem pay_e (j : S512x2048.Idx) : k0_pay14 acc a b x t g j
    = k0_pay11 acc a b x j * Rms.rstd N (fun k => k0_pay11 acc a b x (ix2 (j 0) k)) * g (ix2 0 (j 1)) - t j := by
  idx_vars j
  pointwise [k0_pay14, k0_pay13, k0_pay12, k0_pay10, Rms.rstd, Rms.ms]

/-- The stored gradient of the block's last value. -/
theorem pay_dx (j : S512x2048.Idx) : k0_pay5 (k0_pay10 g) (k0_pay12 acc a b x) (k0_pay13 acc a b x) (k0_pay14 acc a b x t g) j
    = Rms.dx N (fun k => k0_pay11 acc a b x (ix2 (j 0) k)) (fun k => k0_pay14 acc a b x t g (ix2 (j 0) k) * C * g (ix2 0 k)) (j 1) := by
  idx_vars j
  pointwise [k0_pay5, k0_pay3, k0_pay10, k0_pay13, k0_pay12, Rms.dx, Rms.rstd, Rms.ms]

/-- Its copy in the smaller format is the same over the reals. -/
theorem pay_copy (p : FVec Ideal S1x2048 .f32) (q : FVec Ideal S512x1 .f32) (u v : FVec Ideal S512x2048 .f32) (j : S512x2048.Idx) :
    k0_pay7 p q u v j = k0_pay5 p q u v j := by
  idx_vars j
  pointwise [k0_pay7]

/-- A block's part of the gradient of the scale. -/
theorem pay_dg (j : S1x2048.Idx) : k0_pay4 (k0_pay13 acc a b x) (k0_pay14 acc a b x t g) j
    = ∑ i : Fin 512, k0_pay14 acc a b x t g (ix2 i (j 1)) * C * k0_pay13 acc a b x (ix2 i (j 1)) := by
  idx_vars j
  pointwise [k0_pay4, k0_pay3]

/-- A block's part of the loss. -/
theorem pay_loss (j : S1x128.Idx) : k0_pay6 (k0_pay15 acc a b x t g) j
    = half * ∑ i : Fin 512, Ideal.div (∑ k : Fin 2048, k0_pay14 acc a b x t g (ix2 i k) * k0_pay14 acc a b x t g (ix2 i k)) N := by
  idx_vars j
  pointwise [k0_pay6, k0_pay15]

/-- Blocks' parts add up. -/
theorem step_dg (u v : FVec Ideal S512x2048 .f32) (p : Vec Ideal S1x2048 .f32) (j : S1x2048.Idx) : k0_pay8 u v p j = p j + k0_pay4 u v j := by
  idx_vars j
  pointwise [k0_pay8]

/-- Blocks' losses add up. -/
theorem step_loss (u : FVec Ideal S1x1 .f32) (p : Vec Ideal S1x128 .f32) (j : S1x128.Idx) : k0_pay9 u p j = p j + k0_pay6 u j := by
  idx_vars j
  pointwise [k0_pay9]

end Payloads

theorem row_lt (t : Fin cfg0.N) (i : Fin 512) : t.val / 8 * 512 + i.val < 4096 := by
  have hN : t.val < 64 := lt_of_lt_of_eq t.isLt N_0
  omega
theorem col_lt (t : Fin cfg0.N) (l : Fin 1024) : t.val % 8 * 1024 + l.val < 8192 := by omega

/-- The array's row of a block's row. -/
abbrev row (t : Fin cfg0.N) (i : Fin 512) : Fin 4096 := ⟨t.val / 8 * 512 + i.val, row_lt t i⟩
/-- The array's column of a block's column. -/
abbrev col (t : Fin cfg0.N) (l : Fin 1024) : Fin 8192 := ⟨t.val % 8 * 1024 + l.val, col_lt t l⟩

section Blocks

variable (c : Dev nD) (t : Fin cfg0.N)

/-- The activations' block. -/
theorem rd_a (i : Fin 512) (l : Fin 1024) :
    @Eq EReal (iblk m c 0 t (ix2 i l)) (m ((c : Thread nD τ).loc main_arg0) (ix3 0 (row t i) (col t l))) := by
  blk_point [iblk, V, idx t]

/-- The weights' block. -/
theorem rd_w (l : Fin 1024) (k : Fin 2048) :
    @Eq EReal (iblk m c 1 t (ix2 l k)) (m ((c : Thread nD τ).loc main_arg1) (ix3 0 (col t l) k)) := by
  blk_point [iblk, V, idx t]

/-- The residual. -/
theorem rd_x (i : Fin 512) (k : Fin 2048) :
    @Eq EReal (iblk m c 2 t (ix2 i k)) (m ((c : Thread nD τ).loc main_arg2) (ix3 0 (row t i) k)) := by
  blk_point [iblk, V, idx t]

/-- The target. -/
theorem rd_t (i : Fin 512) (k : Fin 2048) :
    @Eq EReal (iblk m c 3 t (ix2 i k)) (m ((c : Thread nD τ).loc main_arg3) (ix3 0 (row t i) k)) := by
  blk_point [iblk, V, idx t]

/-- The norm's scale. -/
theorem rd_g (k : Fin 2048) : @Eq EReal (iblk m c 4 t (ix2 0 k)) (m ((c : Thread nD τ).loc main_arg4) (ix1 k)) := by
  blk_point [iblk, V, idx t]

end Blocks

theorem lt64 {n : ℕ} (h : n < cfg0.N) : n < 64 := lt_of_lt_of_eq h N_0
theorem lt_N {n : ℕ} (h : n < 64) : n < cfg0.N := lt_of_lt_of_eq h N_0.symm

theorem half_eq : half = ((1 / 2 : ℝ) : EReal) := by
  simp [half, Ideal.ofBits, Ideal.ieee, -EReal.coe_mul]; norm_num

section Point

variable (c : Dev nD) (t : Fin cfg0.N)

/-- The sum the point before left. -/
abbrev accp : Vec Ideal S512x2048 .f32 := (outsAt0 m c (t.val - 1) (Nat.lt_of_le_of_lt (Nat.sub_le _ _) t.isLt)).2.2.2.2
/-- The block's last value at a point. -/
abbrev pX : FVec Ideal S512x2048 .f32 := k0_pay11 (accp m c t) (iblk m c 0 t) (iblk m c 1 t) (iblk m c 2 t)
/-- One over its root mean square. -/
abbrev pR : FVec Ideal S512x1 .f32 := k0_pay12 (accp m c t) (iblk m c 0 t) (iblk m c 1 t) (iblk m c 2 t)
/-- The normalised value. -/
abbrev pH : FVec Ideal S512x2048 .f32 := k0_pay13 (accp m c t) (iblk m c 0 t) (iblk m c 1 t) (iblk m c 2 t)
/-- Its distance from the target. -/
abbrev pE : FVec Ideal S512x2048 .f32 := k0_pay14 (accp m c t) (iblk m c 0 t) (iblk m c 1 t) (iblk m c 2 t) (iblk m c 3 t) (iblk m c 4 t)
/-- The block's part of the loss. -/
abbrev pL : FVec Ideal S1x1 .f32 := k0_pay15 (accp m c t) (iblk m c 0 t) (iblk m c 1 t) (iblk m c 2 t) (iblk m c 3 t) (iblk m c 4 t)

end Point

/-- What a point's block contributes to the product. -/
abbrev term (c : Dev nD) (j : S512x2048.Idx) (n : ℕ) (h : n < cfg0.N) : EReal := part (iblk m c 0 ⟨n, h⟩) (iblk m c 1 ⟨n, h⟩) j

/-- At the last block the value is whole. -/
theorem x_last (c : Dev nD) (t : Fin cfg0.N) (ht : t.val % 8 = 7) (i : Fin 512) (k : Fin 2048) :
    pX m c t (ix2 i k) = xv (m ((c : Thread nD τ).loc main_arg0)) (m ((c : Thread nD τ).loc main_arg1)) (m ((c : Thread nD τ).loc main_arg2)) (row t i) k := by
  have hN := lt64 t.isLt
  have key := Rms.acc_last (J := 8) (f := fun n h => (outsAt0 m c n h).2.2.2.2 (ix2 i k)) (g := term m c (ix2 i k))
    (fun n h e => by
      show (outsAt0 m c n h).2.2.2.2 (ix2 i k) = _
      rw [outsAt0_A m c ⟨n, h⟩ e (by show ¬(1 ≤ n % 8 ∧ n % 8 ≤ 6); omega) (by show ¬ n % 8 = 7; omega)]
      frame_out
      exact pay_first _ _ _)
    (fun n h e e' => by
      show (outsAt0 m c n h).2.2.2.2 (ix2 i k) = _
      rw [outsAt0_B m c ⟨n, h⟩ (by show ¬ n % 8 = 0; omega) (by show 1 ≤ n % 8 ∧ n % 8 ≤ 6; omega) (by show ¬ n % 8 = 7; omega)]
      frame_out
      rw [read_unread_whole]
      exact pay_step _ _ _ _)
    (t.val / 8) 6 rfl (by omega)
  refine (pay_x _ _ _ _ _).trans ?_
  have e : ∀ (n n' : ℕ) (h : n < cfg0.N) (h' : n' < cfg0.N), n = n' → (outsAt0 m c n h).2.2.2.2 = (outsAt0 m c n' h').2.2.2.2 :=
    fun n n' h h' e => by subst e; rfl
  have e4 : (⟨8 * (t.val / 8) + (6 + 1), by omega⟩ : Fin cfg0.N) = t := Fin.ext (by show 8 * (t.val / 8) + (6 + 1) = t.val; omega)
  have e3 := e (8 * (t.val / 8) + 6) (t.val - 1) (by omega) (Nat.lt_of_le_of_lt (Nat.sub_le _ _) t.isLt) (by omega)
  have key' : accp m c t (ix2 i k) + part (iblk m c 0 t) (iblk m c 1 t) (ix2 i k)
      = ∑ s : Fin 8, term m c (ix2 i k) (8 * (t.val / 8) + s.val) (by omega) := by
    unfold accp
    rw [← e3]
    refine Eq.trans (congrArg₂ (· + ·) rfl ?_) key
    show _ = part (iblk m c 0 ⟨8 * (t.val / 8) + (6 + 1), _⟩) (iblk m c 1 ⟨8 * (t.val / 8) + (6 + 1), _⟩) (ix2 i k)
    rw [e4]
  rw [key']
  refine congrArg₂ (· + ·) (rd_x m c t i k) (Fin.sum_mul_add_congr fun s l hl => ?_)
  have hr : row (⟨8 * (t.val / 8) + s.val, by omega⟩ : Fin cfg0.N) i = row t i := Fin.ext (by
    show (8 * (t.val / 8) + s.val) / 8 * 512 + i.val = t.val / 8 * 512 + i.val; omega)
  have hc : col (⟨8 * (t.val / 8) + s.val, by omega⟩ : Fin cfg0.N) l = ⟨s.val * 1024 + l.val, hl⟩ := Fin.ext (by
    show (8 * (t.val / 8) + s.val) % 8 * 1024 + l.val = s.val * 1024 + l.val; omega)
  have ha := rd_a m c (⟨8 * (t.val / 8) + s.val, by omega⟩ : Fin cfg0.N) i l
  have hw := rd_w m c (⟨8 * (t.val / 8) + s.val, by omega⟩ : Fin cfg0.N) l k
  rw [hr, hc] at ha
  rw [hc] at hw
  exact Rms.mul_congr (Rms.mul_congr ha ha) hw

/-- The normalised value there. -/
theorem h_last (c : Dev nD) (t : Fin cfg0.N) (ht : t.val % 8 = 7) (i : Fin 512) (k : Fin 2048) :
    pH m c t (ix2 i k) = xv (m ((c : Thread nD τ).loc main_arg0)) (m ((c : Thread nD τ).loc main_arg1)) (m ((c : Thread nD τ).loc main_arg2)) (row t i) k
      * Rms.rstd N (fun k => xv (m ((c : Thread nD τ).loc main_arg0)) (m ((c : Thread nD τ).loc main_arg1)) (m ((c : Thread nD τ).loc main_arg2)) (row t i) k) := by
  refine (pay_h _ _ _ _ _).trans ?_
  exact Rms.mul_congr (x_last m c t ht i k) (Rms.rstd_congr fun k => x_last m c t ht i k)

/-- Its distance from the target there. -/
theorem e_last (c : Dev nD) (t : Fin cfg0.N) (ht : t.val % 8 = 7) (i : Fin 512) (k : Fin 2048) :
    pE m c t (ix2 i k) = er (m ((c : Thread nD τ).loc main_arg0)) (m ((c : Thread nD τ).loc main_arg1)) (m ((c : Thread nD τ).loc main_arg2))
      (m ((c : Thread nD τ).loc main_arg3)) (m ((c : Thread nD τ).loc main_arg4)) (row t i) k := by
  refine (pay_e _ _ _ _ _ _ _).trans ?_
  exact Rms.sub_congr (Rms.mul_congr (Rms.mul_congr (x_last m c t ht i k) (Rms.rstd_congr fun k => x_last m c t ht i k)) (rd_g m c t k)) (rd_t m c t i k)

/-- What the last block's point stores as the gradient. -/
theorem out_dx (c : Dev nD) (t : Fin cfg0.N) (ht : t.val % 8 = 7) (y : S512x2048.Idx) :
    k0_pay5 (F := Ideal) (k0_pay10 (iblk m c 4 t)) (pR m c t) (pH m c t) (pE m c t) y
      = Gdx (m ((c : Thread nD τ).loc main_arg0)) (m ((c : Thread nD τ).loc main_arg1)) (m ((c : Thread nD τ).loc main_arg2))
        (m ((c : Thread nD τ).loc main_arg3)) (m ((c : Thread nD τ).loc main_arg4)) (ix2 (row t (y 0)) (y 1)) := by
  rw [pay_dx]
  unfold Gdx
  exact Rms.dx_congr (fun k => x_last m c t ht (y 0) k)
    (fun k => Rms.mul_congr (Rms.mul_congr (e_last m c t ht (y 0) k) rfl) (rd_g m c t k)) (y 1)

/-- The gradient after the run. -/
theorem fin_dx (c : Dev nD) : (dats m 0 c).arrAt 5 (cfgs 0).N = fun j => Gdx (m ((c : Thread nD τ).loc main_arg0)) (m ((c : Thread nD τ).loc main_arg1))
    (m ((c : Thread nD τ).loc main_arg2)) (m ((c : Thread nD τ).loc main_arg3)) (m ((c : Thread nD τ).loc main_arg4)) j := by
  refine (dats m 0 c).arrAt_eq_of_covers 5 _ (by decide +kernel) fun t hf y => ?_
  have ht : t.val % 8 = 7 := (flush0_5 t).mp hf
  have hN := lt64 t.isLt
  have h : ((cfg0.win 5).blk t).view.emb y = ix2 (row t (y 0)) (y 1) := by
    funext a
    match a with
    | 0 => exact Fin.ext (by blk_simp [idx t])
    | 1 => exact Fin.ext (by blk_simp [idx t])
  blk_simp
  have hp : (outsAt0 m c t.val t.isLt).1 = k0_pay5 (F := Ideal) (k0_pay10 (iblk m c 4 t)) (pR m c t) (pH m c t) (pE m c t) := by
    by_cases h : t.val < 8
    · rw [outsAt0_C m c t (by omega) (by omega) ht h (by omega)]; frame_out; rw [read_unread_whole]
    · rw [outsAt0_D m c t (by omega) (by omega) ht h (by omega)]; frame_out; rw [read_unread_whole]
  rw [after0_5, hp, h]
  exact out_dx m c t ht y

/-- Its copy in the smaller format after the run. -/
theorem fin_copy (c : Dev nD) : (dats m 0 c).arrAt 6 (cfgs 0).N = fun j => Gdx (m ((c : Thread nD τ).loc main_arg0)) (m ((c : Thread nD τ).loc main_arg1))
    (m ((c : Thread nD τ).loc main_arg2)) (m ((c : Thread nD τ).loc main_arg3)) (m ((c : Thread nD τ).loc main_arg4)) j := by
  refine (dats m 0 c).arrAt_eq_of_covers 6 _ (by decide +kernel) fun t hf y => ?_
  have ht : t.val % 8 = 7 := (flush0_6 t).mp hf
  have hN := lt64 t.isLt
  have h : ((cfg0.win 6).blk t).view.emb y = ix2 (row t (y 0)) (y 1) := by
    funext a
    match a with
    | 0 => exact Fin.ext (by blk_simp [idx t])
    | 1 => exact Fin.ext (by blk_simp [idx t])
  blk_simp
  have hp : (outsAt0 m c t.val t.isLt).2.1 = k0_pay7 (F := Ideal) (k0_pay10 (iblk m c 4 t)) (pR m c t) (pH m c t) (pE m c t) := by
    by_cases h : t.val < 8
    · rw [outsAt0_C m c t (by omega) (by omega) ht h (by omega)]; frame_out; rw [read_unread_whole]
    · rw [outsAt0_D m c t (by omega) (by omega) ht h (by omega)]; frame_out; rw [read_unread_whole]
  rw [after0_6, hp, pay_copy, h]
  exact out_dx m c t ht y

/-- A row block's part of the scale's gradient. -/
abbrev dgTerm (c : Dev nD) (j : S1x2048.Idx) (n : ℕ) (h : n < cfg0.N) : EReal :=
  k0_pay4 (F := Ideal) (pH m c ⟨n, h⟩) (pE m c ⟨n, h⟩) j

/-- A row block's part of the loss. -/
abbrev lossTerm (c : Dev nD) (j : S1x128.Idx) (n : ℕ) (h : n < cfg0.N) : EReal :=
  k0_pay6 (F := Ideal) (pL m c ⟨n, h⟩) j

/-- The scale's gradient after the last point is the sum of the row blocks' parts. -/
theorem dg_run (c : Dev nD) (j : S1x2048.Idx) : (outsAt0 m c (8 * 7 + 7) (lt_N (by omega))).2.2.1 j
    = ∑ s : Fin 8, dgTerm m c j (8 * s.val + 7) (lt_N (by omega)) :=
  Rms.acc_runs (J := 8) (f := fun n h => (outsAt0 m c n h).2.2.1 j) (g := dgTerm m c j) (k := 7) rfl
    (fun n h e e' => by
      have hn := lt64 h
      show (outsAt0 m c n h).2.2.1 j = _
      by_cases h0 : n % 8 = 0
      · rw [outsAt0_A m c ⟨n, h⟩ h0 (by show ¬(1 ≤ n % 8 ∧ n % 8 ≤ 6); omega) e]; rfl
      · rw [outsAt0_B m c ⟨n, h⟩ h0 (by show 1 ≤ n % 8 ∧ n % 8 ≤ 6; omega) e]; rfl)
    (fun h => by
      show (outsAt0 m c 7 h).2.2.1 j = _
      rw [outsAt0_C m c ⟨7, h⟩ (by show ¬ 7 % 8 = 0; omega) (by show ¬(1 ≤ 7 % 8 ∧ 7 % 8 ≤ 6); omega) rfl (by show 7 < 8; omega) (by show ¬ 8 ≤ 7; omega)]
      frame_out
      rw [read_unread_whole])
    (fun n h e e' => by
      show (outsAt0 m c n h).2.2.1 j = _
      rw [outsAt0_D m c ⟨n, h⟩ (by show ¬ n % 8 = 0; omega) (by show ¬(1 ≤ n % 8 ∧ n % 8 ≤ 6); omega) e (by show ¬ n < 8; omega) e']
      frame_out
      rw [read_unread_whole]
      exact step_dg _ _ _ _)
    7 (lt_N (by omega))

/-- The loss after the last point is the sum of the row blocks' parts. -/
theorem loss_run (c : Dev nD) (j : S1x128.Idx) : (outsAt0 m c (8 * 7 + 7) (lt_N (by omega))).2.2.2.1 j
    = ∑ s : Fin 8, lossTerm m c j (8 * s.val + 7) (lt_N (by omega)) :=
  Rms.acc_runs (J := 8) (f := fun n h => (outsAt0 m c n h).2.2.2.1 j) (g := lossTerm m c j) (k := 7) rfl
    (fun n h e e' => by
      have hn := lt64 h
      show (outsAt0 m c n h).2.2.2.1 j = _
      by_cases h0 : n % 8 = 0
      · rw [outsAt0_A m c ⟨n, h⟩ h0 (by show ¬(1 ≤ n % 8 ∧ n % 8 ≤ 6); omega) e]; rfl
      · rw [outsAt0_B m c ⟨n, h⟩ h0 (by show 1 ≤ n % 8 ∧ n % 8 ≤ 6; omega) e]; rfl)
    (fun h => by
      show (outsAt0 m c 7 h).2.2.2.1 j = _
      rw [outsAt0_C m c ⟨7, h⟩ (by show ¬ 7 % 8 = 0; omega) (by show ¬(1 ≤ 7 % 8 ∧ 7 % 8 ≤ 6); omega) rfl (by show 7 < 8; omega) (by show ¬ 8 ≤ 7; omega)]
      frame_out
      rw [read_unread_whole])
    (fun n h e e' => by
      show (outsAt0 m c n h).2.2.2.1 j = _
      rw [outsAt0_D m c ⟨n, h⟩ (by show ¬ n % 8 = 0; omega) (by show ¬(1 ≤ n % 8 ∧ n % 8 ≤ 6); omega) e (by show ¬ n < 8; omega) e']
      frame_out
      rw [read_unread_whole]
      exact step_loss _ _ _)
    7 (lt_N (by omega))

/-- The array's row of the last point of a row block. -/
theorem row_eq (s : Fin 8) (i : Fin 512) (hl : s.val * 512 + i.val < 4096) (t : Fin cfg0.N) (ht : t.val = 8 * s.val + 7) :
    row t i = ⟨s.val * 512 + i.val, hl⟩ := Fin.ext (by
  show t.val / 8 * 512 + i.val = s.val * 512 + i.val; omega)

/-- The scale's gradient after the run. -/
theorem fin_dg (c : Dev nD) : (dats m 0 c).arrAt 7 (cfgs 0).N = Gdg (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 7 _ (by decide +kernel) fun t hf j => ?_
  have ht : t.val % 64 = 63 := (flush0_7 t).mp hf
  have hN := lt64 t.isLt
  have h1 : ((cfg0.win 7).blk t).view.emb j 1 = j 1 := Fin.ext (by blk_simp [idx t])
  blk_simp
  rw [after0_7]
  have e : ∀ (n n' : ℕ) (h : n < cfg0.N) (h' : n' < cfg0.N), n = n' → (outsAt0 m c n h).2.2.1 = (outsAt0 m c n' h').2.2.1 :=
    fun n n' h h' e => by subst e; rfl
  rw [e t.val (8 * 7 + 7) t.isLt (lt_N (by omega)) (by omega), dg_run m c j]
  unfold Gdg
  rw [h1]
  refine (Finset.sum_congr rfl fun s _ => pay_dg _ _ _ _ _ _ _).trans ?_
  refine Fin.sum_mul_add_congr fun s i hl => ?_
  have ht : (⟨8 * s.val + 7, lt_N (by omega)⟩ : Fin cfg0.N).val % 8 = 7 := by show (8 * s.val + 7) % 8 = 7; omega
  rw [← row_eq s i hl ⟨8 * s.val + 7, lt_N (by omega)⟩ rfl]
  exact Rms.mul_congr (Rms.mul_congr (e_last m c _ ht i (j 1)) rfl) (h_last m c _ ht i (j 1))

/-- The loss after the run. -/
theorem fin_loss (c : Dev nD) : (dats m 0 c).arrAt 8 (cfgs 0).N = Gloss (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 8 _ (by decide +kernel) fun t hf j => ?_
  have ht : t.val % 64 = 63 := (flush0_8 t).mp hf
  have hN := lt64 t.isLt
  blk_simp
  rw [after0_8]
  have e : ∀ (n n' : ℕ) (h : n < cfg0.N) (h' : n' < cfg0.N), n = n' → (outsAt0 m c n h).2.2.2.1 = (outsAt0 m c n' h').2.2.2.1 :=
    fun n n' h h' e => by subst e; rfl
  rw [e t.val (8 * 7 + 7) t.isLt (lt_N (by omega)) (by omega), loss_run m c j]
  unfold Gloss
  refine (Finset.sum_congr rfl fun s _ => pay_loss _ _ _ _ _ _ _).trans ?_
  rw [half_eq, ← Rms.coe_mul_sum (by norm_num)]
  refine Rms.mul_congr rfl (Fin.sum_mul_add_congr fun s i hl => ?_)
  have ht : (⟨8 * s.val + 7, lt_N (by omega)⟩ : Fin cfg0.N).val % 8 = 7 := by show (8 * s.val + 7) % 8 = 7; omega
  rw [← row_eq s i hl ⟨8 * s.val + 7, lt_N (by omega)⟩ rfl]
  exact Rms.div_congr (Finset.sum_congr rfl fun k _ => Rms.mul_congr (e_last m c _ ht i k) (e_last m c _ ht i k))

end Cert.HeadKIdeal.Value

namespace Cert.HeadRIdeal.Value

open Cert.HeadRIdeal Cert.HeadRIdeal.Gen Cert.HeadRIdeal.Read Idealize.ShloMosaic Idealize.ShloMosaic.TcCoe Idealize.SL.Sem
open Cert.HeadKIdeal.Value (N C half half_eq xv er sq Gdx Gdg Gloss)

variable (a : FVec Ideal S1x4096x8192 .f32) (w : FVec Ideal S1x8192x2048 .f32) (x t : FVec Ideal S1x4096x2048 .f32)
  (g : FVec Ideal S2048 .f32)

theorem N_eq : N = ((2048 : ℝ) : EReal) := by
  simp [N, Ideal.ofBits, Ideal.ieee, -EReal.coe_mul]; norm_num
theorem C_eq : C = ((1 / 2048 : ℝ) : EReal) := by
  simp [C, Ideal.ofBits, Ideal.ieee, -EReal.coe_mul]; norm_num
theorem one_eq : Ideal.ofBits .f32 0x3F800000#32 = ((1 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num

/-- The factors of the loss and of the square leave one over the row length. -/
theorem factor (e : EReal) : Ideal.div (half * Ideal.ofBits .f32 0x3F800000#32) N * (Ideal.ofBits .f32 0x40000000#32 * e) = e * C := by
  rw [half_eq, one_eq, two_eq, N_eq, C_eq, Ideal.div_coe (by norm_num), ← EReal.coe_mul, ← EReal.coe_mul, ← mul_assoc, ← EReal.coe_mul, mul_comm]
  norm_num

/-- The block's last value. -/
theorem x_eq (i : Fin 4096) (k : Fin 2048) : val_main_v3 (F := Ideal) a w x (ix3 0 i k) = xv a w x i k := by
  pointwise [val_main_v3, val_main_v2, val_main_v1, val_main_v0]

/-- One over the root of the mean square. -/
theorem rstd_eq (i : Fin 4096) : val_main_v11 (F := Ideal) a w x (ix3 0 i 0) = Rms.rstd N fun k => xv a w x i k := by
  pointwise [val_main_v11, val_main_v10, val_main_v9, val_main_v8, val_main_v7, val_main_v6, val_main_v5, val_main_v4, val_main_cst, val_main_cst_0, val_main_cst_1, Rms.rstd, Rms.ms]
  simp only [x_eq]

/-- The distance from the target. -/
theorem e_eq (i : Fin 4096) (k : Fin 2048) : val_main_v20 (F := Ideal) a w x t g (ix3 0 i k) = er a w x t g i k := by
  pointwise [val_main_v20, val_main_v19, val_main_v18, val_main_v17, val_main_v16, val_main_v15]
  simp only [x_eq, rstd_eq]

/-- The gradient of the normalised value. -/
theorem dy_eq (i : Fin 4096) (k : Fin 2048) : val_main_v34 (F := Ideal) a w x t g (ix3 0 i k) = er a w x t g i k * C := by
  refine Eq.trans ?_ (factor (er a w x t g i k))
  pointwise [val_main_v34, val_main_v33, val_main_v32, val_main_v31, val_main_v30, val_main_v29, val_main_v23, val_main_v22, val_main_cst_3, val_main_cst_8, val_main_cst_9, val_main_cst_10]
  simp only [e_eq]

/-- The gradient of the normalised row. -/
theorem d_eq (i : Fin 4096) (k : Fin 2048) : val_main_v39 (F := Ideal) a w x t g (ix3 0 i k) = er a w x t g i k * C * g (ix1 k) := by
  pointwise [val_main_v39, val_main_v38, val_main_v17]
  simp only [dy_eq]

/-- The gradient of the mean square. -/
theorem D_eq (i : Fin 4096) : val_main_v48 (F := Ideal) a w x t g (ix3 0 i 0)
    = Rms.D N (fun k => xv a w x i k) fun k => er a w x t g i k * C * g (ix1 k) := by
  have h : val_main_v10 (F := Ideal) a w x (ix3 0 i 0) = Rms.ms N fun k => xv a w x i k := by
    pointwise [val_main_v10, val_main_v9, val_main_v8, val_main_v7, val_main_v6, val_main_v5, val_main_v4, val_main_cst, val_main_cst_0, val_main_cst_1, Rms.ms]
    simp only [x_eq]
  pointwise [val_main_v48, val_main_v47, val_main_v46, val_main_v43, val_main_v42, val_main_v41, val_main_v14, val_main_v13, val_main_v12, val_main_cst_2, val_main_cst_13, val_main_cst_14, Rms.D]
  simp only [x_eq, rstd_eq, d_eq, h]

/-- The reference's gradient of the block's last value is the kernel's. -/
theorem ref_56 : val_main_v56 (F := Ideal) a w x t g = fun j => Gdx a w x t g j := by
  funext j
  idx_vars j
  refine Eq.trans ?_ (Eq.trans (Rms.dx_eq (by norm_num : (0 : ℝ) < 2048) (fun k => xv a w x j0 k) (fun k => er a w x t g j0 k * C * g (ix1 k)) j1).symm ?_)
  · rw [← N_eq, ← D_eq, ← rstd_eq]
    pointwise [val_main_v56, val_main_v55, val_main_v54, val_main_v53, val_main_v52, val_main_v51, val_main_v50, val_main_v49, val_main_v45, val_main_v44, val_main_cst_15]
    simp only [zero_add, x_eq, d_eq, Rms.red_row]
    try ac_rfl
  · rw [← N_eq]; rfl

/-- Its copy in the smaller format is the same over the reals. -/
theorem ref_58 : val_main_v58 (F := Ideal) a w x t g = fun j => Gdx a w x t g j := by
  rw [← ref_56]
  funext j
  idx_vars j
  pointwise [val_main_v58, val_main_v57, val_main_v56]

/-- The reference's gradient of the scale is the kernel's. -/
theorem ref_59 : val_main_v59 (F := Ideal) a w x t g = Gdg a w x t g := by
  funext j
  idx_vars j
  obtain rfl := Fin.fin_one_eq_zero j0
  pointwise [val_main_v59, val_main_v40]
  rw [Rms.red_col]
  pointwise [val_main_v37, val_main_v36, val_main_v35, val_main_v16, val_main_v15, val_main_cst_11, val_main_cst_12]
  simp only [x_eq, rstd_eq, dy_eq]
  unfold Gdg
  refine Finset.sum_congr rfl fun i _ => ?_
  exact mul_comm _ _

/-- The reference's loss is the kernel's. -/
theorem ref_60 : val_main_v60 (F := Ideal) a w x t g = Gloss a w x t g := by
  funext j
  idx_vars j
  pointwise [val_main_v60, val_main_v28, val_main_v27]
  rw [Fin.sum_univ_one]
  pointwise [val_main_v26, val_main_v25, val_main_v24, val_main_v21, val_main_cst_4, val_main_cst_5, val_main_cst_6, val_main_cst_7]
  simp only [e_eq, zero_add]
  rfl

end Cert.HeadRIdeal.Value

namespace Cert.HeadAlg

open Idealize.ShloMosaic Idealize.ShloMosaic.TcCoe Idealize.SL.Sem

/-- Both programs leave the same four result arrays and their arguments as they found them. -/
theorem algebraic : Cert.algebraic_HeadKIdeal_HeadRIdeal := by
  pair_intro
  · run_from Cert.HeadKIdeal.Gen.run_main m g
  · run_from Cert.HeadRIdeal.Value.run m' g'
    all_goals obtain ⟨h0, h1, h2, h3, h4⟩ := hagree c
    · rw [Cert.HeadKIdeal.Value.fin_dx m c, Cert.HeadRIdeal.Read.val_main_v56_eq, h0, h1, h2, h3, h4]
      exact Cert.HeadRIdeal.Value.ref_56 _ _ _ _ _
    · rw [Cert.HeadKIdeal.Value.fin_copy m c, Cert.HeadRIdeal.Read.val_main_v58_eq, h0, h1, h2, h3, h4]
      exact Cert.HeadRIdeal.Value.ref_58 _ _ _ _ _
    · rw [Cert.HeadKIdeal.Value.fin_dg m c, Cert.HeadRIdeal.Read.val_main_v59_eq]
      exact Cert.HeadRIdeal.Value.ref_59 _ _ _ _ _
    · rw [Cert.HeadKIdeal.Value.fin_loss m c, Cert.HeadRIdeal.Read.val_main_v60_eq]
      exact Cert.HeadRIdeal.Value.ref_60 _ _ _ _ _

end Cert.HeadAlg

end
-- ==== Proof.GateMath.lean ====
module

public import Idealize.ShloMosaic.Lib.Pipeline.ValueKit
public import Idealize.ShloMosaic.Lib.ReduceAll

@[expose] public section

noncomputable section

/-! # Running sums from the end, and the gradient of the log of a sigmoid -/

namespace Cert.GateMath
open Idealize.ShloMosaic

/-- The running sum from the end. -/
def tail (f : ℕ → EReal) (s : ℕ) : EReal := ∑ j ∈ Finset.Ico s 4096, f j

/-- A block joins the sum behind it. -/
theorem tail_block (f : ℕ → EReal) (n : ℕ) (hn : n < 32) :
    tail f ((32 - n) * 128) + ∑ k : Fin 128, f ((31 - n) * 128 + k) = tail f ((32 - (n + 1)) * 128) := by
  unfold tail
  rw [Fin.sum_univ_eq_sum_range (fun k => f ((31 - n) * 128 + k)) 128,
    ← Finset.sum_Ico_consecutive f (show (32 - (n + 1)) * 128 ≤ (32 - n) * 128 by omega) (show (32 - n) * 128 ≤ 4096 by omega),
    add_comm, Finset.sum_Ico_eq_sum_range f ((32 - (n + 1)) * 128) ((32 - n) * 128),
    show (32 - n) * 128 - (32 - (n + 1)) * 128 = 128 by omega, show 32 - (n + 1) = 31 - n by omega]

/-- Within a block the triangle of ones picks the positions from `i` on. -/
theorem tail_in (f : ℕ → EReal) (n : ℕ) (hn : n < 32) (i : Fin 128) :
    (∑ k : Fin 128, f ((31 - n) * 128 + k) * (if i ≤ k then 1 else 0)) + tail f ((32 - n) * 128) = tail f ((31 - n) * 128 + i) := by
  have h : ∑ k : Fin 128, f ((31 - n) * 128 + k) * (if i ≤ k then 1 else 0)
      = ∑ j ∈ Finset.Ico ((31 - n) * 128 + i.val) ((32 - n) * 128), f j := by
    rw [Finset.sum_Ico_eq_sum_range, show (32 - n) * 128 - ((31 - n) * 128 + i.val) = 128 - i.val by omega,
      ← Finset.sum_Ico_eq_sum_range (fun k => f ((31 - n) * 128 + k)) i.val 128 |>.trans (Finset.sum_congr rfl fun k _ => by rw [Nat.add_assoc])]
    rw [show Finset.Ico i.val 128 = (Finset.range 128).filter (fun k => i.val ≤ k) by ext k; simp; omega, Finset.sum_filter,
      ← Fin.sum_univ_eq_sum_range (fun k => if i.val ≤ k then f ((31 - n) * 128 + k) else 0) 128]
    refine Finset.sum_congr rfl fun k _ => ?_
    by_cases hk : i ≤ k
    · rw [if_pos hk, if_pos (show i.val ≤ k.val from hk), mul_one]
    · rw [if_neg hk, if_neg (show ¬ i.val ≤ k.val from hk), mul_zero]
  unfold tail
  rw [h, Finset.sum_Ico_consecutive f (by omega) (by omega)]

/-- A fold that adds is the start and the sum. -/
theorem foldl_add {n : ℕ} (g : Fin n → EReal) (r : EReal) : (List.finRange n).foldl (fun r k => r + g k) r = r + ∑ k, g k := by
  have h : ∀ (l : List (Fin n)) (r : EReal), l.foldl (fun r k => r + g k) r = r + (l.map g).sum := by
    intro l
    induction l with
    | nil => intro r; simp
    | cons a l ih => intro r; rw [List.foldl_cons, ih, List.map_cons, List.sum_cons, add_assoc]
  rw [h, Fin.sum_univ_def]

/-- The log of a sigmoid, negated, as the reference takes it. -/
def soft (x : EReal) : EReal := max x 0 + Ideal.log1p (Ideal.exp (-(max x (-x))))

/-- Its gradient as the reference takes it: the exponential of the argument less the value. -/
theorem log_sig (t : EReal) : Ideal.exp ((if -t = ⊤ then 0 else -t) - (if soft (-t) = ⊤ then 0 else soft (-t))) = Ideal.div 1 (1 + Ideal.exp t) := by
  unfold soft Ideal.log1p
  induction t using EReal.rec with
  | bot =>
    have e : Ideal.log 1 = 0 := by rw [← EReal.coe_one, Ideal.log_coe, if_neg (by norm_num), Real.log_one, EReal.coe_zero]
    have e' : Ideal.exp 0 = 1 := by rw [← EReal.coe_zero, Ideal.exp_coe, Real.exp_zero, EReal.coe_one]
    simp [Ideal.div, e, e']
  | top =>
    have e : (1 : EReal) + ⊤ = ⊤ := EReal.add_top_of_ne_bot (by rw [← EReal.coe_one]; exact EReal.coe_ne_bot _)
    simp [Ideal.div, e]
  | coe r =>
    have e1 : max (-(r : EReal)) (-(-(r : EReal))) = ((|r| : ℝ) : EReal) := by
      rw [neg_neg, ← EReal.coe_neg, abs_eq_max_neg, max_comm]; exact (EReal.coe_strictMono.monotone.map_max).symm
    have e2 : max (-(r : EReal)) 0 = ((max (-r) 0 : ℝ) : EReal) := by
      rw [← EReal.coe_neg, ← EReal.coe_zero]; exact (EReal.coe_strictMono.monotone.map_max).symm
    have hp : 0 < Real.exp (-|r|) := Real.exp_pos _
    have e3 : Ideal.log (1 + Ideal.exp (-((|r| : ℝ) : EReal))) = ((Real.log (1 + Real.exp (-|r|)) : ℝ) : EReal) := by
      rw [← EReal.coe_neg, Ideal.exp_coe, ← EReal.coe_one, ← EReal.coe_add, Ideal.log_coe, if_neg (by linarith)]
    have e4 : Ideal.div 1 (1 + Ideal.exp (r : EReal)) = ((1 / (1 + Real.exp r) : ℝ) : EReal) := by
      have : 0 < Real.exp r := Real.exp_pos _
      rw [Ideal.exp_coe, ← EReal.coe_one, ← EReal.coe_add, Ideal.div_coe (by linarith), EReal.coe_one, one_mul]
    rw [e1, e2, e3, e4, ← EReal.coe_add, ← EReal.coe_neg, if_neg (EReal.coe_ne_top _), if_neg (EReal.coe_ne_top _), ← EReal.coe_sub, Ideal.exp_coe]
    refine congrArg _ ?_
    rw [sub_add_eq_sub_sub, Real.exp_sub, Real.exp_log (by linarith)]
    rcases le_total 0 r with h | h
    · rw [abs_of_nonneg h, max_eq_right (by linarith), sub_zero, Real.exp_neg]
      have : 0 < Real.exp r := Real.exp_pos _
      field_simp
      try ring
    · rw [abs_of_nonpos h, max_eq_left (by linarith), sub_self, Real.exp_zero, neg_neg]

end Cert.GateMath
end
-- ==== Proof.GateRef.lean ====
module

public import proofs.«01_k».proof.Proof.GateMath
public import proofs.«01_k».proof.Proof.RmsMath
public import proofs.«01_k».proof.Proof.Gen.GateRIdeal.Read
public import Idealize.ShloMosaic.Lib.Pipeline.ValueKit
public import Idealize.ShloMosaic.Lib.ReduceAll

@[expose] public section

set_option maxRecDepth 16384

noncomputable section

/-! # What the gates' reference computes -/

namespace Cert.GateRIdeal.Value

open Cert.GateRIdeal Cert.GateRIdeal.Gen Cert.GateRIdeal.Read Idealize.ShloMosaic Cert.GateMath

variable (x0 : FVec Ideal S1x4096x8 .f32) (x1 : FVec Ideal S1x8 .f32) (x2 : FVec Ideal S1x8x4096 .f32)

/-- A head's cotangent by position, zero past the end. -/
def ct (l : Fin 8) (j : ℕ) : EReal := if h : j < 4096 then x2 (ix3 0 l ⟨j, h⟩) else 0

/-- The window's positions in order. -/
theorem win_pos (N : ℕ) (n : Fin (⟨3, ![1, N, 1]⟩ : Shape).numel) : ((⟨3, ![1, N, 1]⟩ : Shape).rowMajor.symm n 1).val = n.val := by
  have h := congrArg Fin.val ((⟨3, ![1, N, 1]⟩ : Shape).rowMajor.apply_symm_apply n)
  rw [Shape.rowMajor_val_three] at h
  have h0 : ((⟨3, ![1, N, 1]⟩ : Shape).rowMajor.symm n 0).val < 1 := ((⟨3, ![1, N, 1]⟩ : Shape).rowMajor.symm n 0).isLt
  have h2 : ((⟨3, ![1, N, 1]⟩ : Shape).rowMajor.symm n 2).val < 1 := ((⟨3, ![1, N, 1]⟩ : Shape).rowMajor.symm n 2).isLt
  change (((⟨3, ![1, N, 1]⟩ : Shape).rowMajor.symm n 0).val * N + ((⟨3, ![1, N, 1]⟩ : Shape).rowMajor.symm n 1).val) * 1 + ((⟨3, ![1, N, 1]⟩ : Shape).rowMajor.symm n 2).val = n.val at h
  rw [Nat.lt_one_iff.mp h0, Nat.lt_one_iff.mp h2] at h
  omega

/-- A window that reaches from each position to the end, padded behind it, sums from that position on. -/
theorem window (N H : ℕ) (x : (⟨3, ![1, N, 8]⟩ : Shape).Idx → EReal) (v : S_.Idx → EReal) (hv : ∀ i, v i = 0)
    (h : (⟨3, ![1, N, 8]⟩ : Shape).ReduceWindows ![1, N, 1] ![1, 1, 1] ![0, 0, 0] ![0, H, 0] ⟨3, ![1, N, 8]⟩) (hu : 0 < S_.numel)
    (l : Fin 8) (f : ℕ → EReal) (hf : ∀ j : Fin N, x (ix3 0 j l) = f j.val) (hf0 : ∀ j, N ≤ j → f j = 0) (s : Fin N) :
    Host.reduceWindow (· + ·) ![1, N, 1] ![1, 1, 1] ![0, 0, 0] ![0, H, 0] x v h hu (ix3 0 s l) = ∑ j ∈ Finset.Ico s.val N, f j := by
  unfold Host.reduceWindow
  simp only [hv]
  refine (foldl_add _ _).trans ?_
  rw [zero_add]
  refine (Finset.sum_congr rfl fun n _ => ?_ : _ = ∑ n : Fin (⟨3, ![1, N, 1]⟩ : Shape).numel, f (s.val + n.val)).trans ?_
  · have hw := win_pos N n
    have h0 : ((⟨3, ![1, N, 1]⟩ : Shape).rowMajor.symm n 0).val < 1 := ((⟨3, ![1, N, 1]⟩ : Shape).rowMajor.symm n 0).isLt
    have h2 : ((⟨3, ![1, N, 1]⟩ : Shape).rowMajor.symm n 2).val < 1 := ((⟨3, ![1, N, 1]⟩ : Shape).rowMajor.symm n 2).isLt
    split
    · next hin =>
      have h1 := (hin 1).2
      change s.val * 1 + ((⟨3, ![1, N, 1]⟩ : Shape).rowMajor.symm n 1).val - 0 < N at h1
      rw [hw] at h1
      refine Eq.trans ?_ (hf ⟨s.val + n.val, by omega⟩)
      refine congrArg x (funext fun a => Fin.ext ?_)
      match a with
      | ⟨0, _⟩ =>
        show (0 * 1 + ((⟨3, ![1, N, 1]⟩ : Shape).rowMajor.symm n 0).val - 0) = 0
        omega
      | ⟨1, _⟩ =>
        show (s.val * 1 + ((⟨3, ![1, N, 1]⟩ : Shape).rowMajor.symm n 1).val - 0) = s.val + n.val
        rw [hw]; omega
      | ⟨2, _⟩ =>
        show (l.val * 1 + ((⟨3, ![1, N, 1]⟩ : Shape).rowMajor.symm n 2).val - 0) = l.val
        omega
    · next hin =>
      refine (hf0 _ ?_).symm
      by_contra hlt
      refine hin fun a => ?_
      match a with
      | ⟨0, _⟩ =>
        refine ⟨Nat.zero_le _, ?_⟩
        show (0 * 1 + ((⟨3, ![1, N, 1]⟩ : Shape).rowMajor.symm n 0).val - 0) < 1
        omega
      | ⟨1, _⟩ =>
        refine ⟨Nat.zero_le _, ?_⟩
        show (s.val * 1 + ((⟨3, ![1, N, 1]⟩ : Shape).rowMajor.symm n 1).val - 0) < N
        rw [hw]; omega
      | ⟨2, _⟩ =>
        have := l.isLt
        refine ⟨Nat.zero_le _, ?_⟩
        show (l.val * 1 + ((⟨3, ![1, N, 1]⟩ : Shape).rowMajor.symm n 2).val - 0) < 8
        omega
  · have hn : (⟨3, ![1, N, 1]⟩ : Shape).numel = N := by simp [Shape.numel, Fin.prod_univ_three]
    refine (Fin.sum_univ_eq_sum_range (fun n => f (s.val + n)) _).trans ?_
    rw [hn]
    have h := Finset.sum_Ico_eq_sum_range f s.val (s.val + N)
    rw [Nat.add_sub_cancel_left] at h
    rw [← h, ← Finset.sum_Ico_consecutive f (show s.val ≤ N by omega) (show N ≤ s.val + N by omega),
      Finset.sum_eq_zero (s := Finset.Ico N _) fun j hj => hf0 j (Finset.mem_Ico.mp hj).1, add_zero]

/-- The running sum from the end. -/
theorem run_eq (s : Fin 4096) (l : Fin 8) : val_main_v8 (F := Ideal) x2 (ix3 0 s l) = tail (ct x2 l) s.val := by
  have hv : ∀ i : S_.Idx, (val_main_call2_call0_v0 (F := Ideal)) i = 0 := fun i => by
    simp [Ideal.ofBits, Ideal.ieee, val_main_call2_call0_v0_apply, val_main_call2_call0_cst_apply]
  have hf : ∀ j : Fin 4096, val_main_v7 (F := Ideal) x2 (ix3 0 j l) = ct x2 l j.val := fun j => by
    unfold ct
    rw [dif_pos j.isLt]
    pointwise [val_main_v7]
  have hf0 : ∀ j, 4096 ≤ j → ct x2 l j = 0 := fun j hj => dif_neg (Nat.not_lt.mpr hj)
  unfold val_main_v8 Host.reduceWindowAdd tail
  generalize val_main_v7 (F := Ideal) x2 = x at hf
  simp only [Ideal.hostReduceWindowAdd_def, Ideal.hostReduceWindowAdd]
  exact window 4096 4095 x (fun _ => val_main_call2_call0_v0 (F := Ideal) (Shape.Idx.first h_S_)) (fun _ => hv _) _ _ l (ct x2 l) hf hf0 s

/-- The gradient of the log of the sigmoid. -/
theorem sig_eq (s : Fin 4096) (l : Fin 8) : val_main_v4_1 (F := Ideal) x0 x1 (ix3 0 s l)
    = Ideal.div 1 (1 + Ideal.exp (x0 (ix3 0 s l) + x1 (ix2 0 l))) := by
  have hz : Ideal.ofBits .f32 0x00000000#32 = 0 := by simp [Ideal.ofBits, Ideal.ieee]
  have hi : Ideal.ofBits .f32 0x7F800000#32 = ⊤ := by simp [Ideal.ofBits, Ideal.ieee]
  have hs : val_main_call0_v1_0 (F := Ideal) x0 x1 (ix3 0 s l) = soft (-(x0 (ix3 0 s l) + x1 (ix2 0 l))) := by
    pointwise [val_main_call0_v1_0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v3, val_main_v2, val_main_v1, val_main_v0]
    rw [if_neg (not_not_intro rfl)]
    rfl
  rw [← log_sig, ← hs]
  pointwise [val_main_v4_1, val_main_call0_call0_v21, val_main_call0_call0_v20, val_main_call0_call0_v19, val_main_call0_call0_v18, val_main_call0_call0_v17, val_main_call0_call0_v16, val_main_call0_call0_v15, val_main_call0_call0_v14, val_main_call0_call0_v13, val_main_call0_call0_cst_0, val_main_call0_call0_cst_1, val_main_call0_call0_cst_2, val_main_call0_call0_cst_3, val_main_call0_v0, val_main_v3, val_main_v2, val_main_v1, val_main_v0]
  rw [hi]

/-- The gradient before padding. -/
theorem dz_eq (s : Fin 4096) (l : Fin 8) : val_main_v9 (F := Ideal) x0 x1 x2 (ix3 0 s l)
    = tail (ct x2 l) s.val * Ideal.div 1 (1 + Ideal.exp (x0 (ix3 0 s l) + x1 (ix2 0 l))) := by
  rw [← run_eq, ← sig_eq]
  pointwise [val_main_v9, val_main_call3_v1, val_main_call3_v0]
  rw [EReal.neg_mul, neg_neg]

/-- The gradient at a position and a lane, as both programs leave it. -/
def G (s : Fin 4096) (l : Fin 128) : EReal :=
  if h : l.val < 8 then tail (ct x2 ⟨l.val, h⟩) s.val * Ideal.div 1 (1 + Ideal.exp (x0 (ix3 0 s ⟨l.val, h⟩) + x1 (ix2 0 ⟨l.val, h⟩))) else 0

/-- The padded gradient. -/
theorem ref_z (s : Fin 4096) (l : Fin 128) : val_main_v16 (F := Ideal) x0 x1 x2 (ix2 s l) = G x0 x1 x2 s l := by
  unfold G
  pointwise [val_main_v16, val_main_v15, val_main_v14]
  split
  · exact dz_eq x0 x1 x2 s _
  · pointwise [val_main_call4_v0]
    show (((0#32 : BitVec 32).toInt : ℝ) : EReal) = 0
    simp

/-- The padded gradient of the bias. -/
theorem ref_b (l : Fin 128) : val_main_v17 (F := Ideal) x0 x1 x2 (ix2 0 l) = ∑ s : Fin 4096, G x0 x1 x2 s l := by
  unfold G
  pointwise [val_main_v17, val_main_v13, val_main_v12]
  split
  · rw [Rms.red_col]
    pointwise [val_main_v11, val_main_v10, val_main_cst, val_main_cst_0]
    exact Finset.sum_congr rfl fun x _ => dz_eq x0 x1 x2 x _
  · rw [Finset.sum_const_zero]
    pointwise [val_main_call5_v0]
    show (((0#32 : BitVec 32).toInt : ℝ) : EReal) = 0
    simp

end Cert.GateRIdeal.Value
end
-- ==== Proof.Gate.lean ====
/- The gradient of the running sum of the log forget gates: `GateKIdeal` and `GateRIdeal` compute the same arrays. The
   kernel walks over blocks of 128 positions from the last to the first and carries the sum of the blocks behind it; in
   a block it takes the sums by a product with a triangle of ones, on three parts of the cotangent that add up to it. -/
module

public import proofs.«01_k».proof.Defs
public import proofs.«01_k».proof.Proof.Gen.GateKIdeal.Value
public import proofs.«01_k».proof.Proof.GateRef
public import proofs.«01_k».proof.Proof.Gen.Pre_gate_finite
public import Idealize.ShloMosaic.Lib.Pipeline.ValueKit
public import Idealize.ShloMosaic.Lib.Pipeline.ReadBack
public import Idealize.ShloMosaic.Lib.ReduceAll
public import Idealize.ShloMosaic.Lib.Claim

@[expose] public section

set_option maxRecDepth 16384

noncomputable section

namespace Cert.GateKIdeal.Value

open Cert.GateKIdeal Cert.GateKIdeal.Gen Idealize.ShloMosaic Idealize.ShloMosaic.TcCoe Idealize.SL.Sem
open Idealize.ShloMosaic.Pipeline (Dat)

/-! ## The body's stores as one recursion over the blocks -/

section Chain

variable {F : FTy → Type} [FloatOps F]
variable (x0 : Vec F S8x4096 .f32) (x1 : Vec F S4096x128 .f32) (x2 : Vec F S1x128 .f32)

theorem inb_col (n : ℕ) : ∀ a, ![0, (31 - n) * 128] a + S8x128.size a ≤ S8x4096.size a := by
  intro a
  match a with
  | ⟨0, _⟩ => exact le_refl 8
  | ⟨1, _⟩ => show (31 - n) * 128 + 128 ≤ 4096; omega
theorem inb_row (n : ℕ) : ∀ a, ![(31 - n) * 128, 0] a + S128x128.size a ≤ S4096x128.size a := by
  intro a
  match a with
  | ⟨0, _⟩ => show (31 - n) * 128 + 128 ≤ 4096; omega
  | ⟨1, _⟩ => exact le_refl 128

/-- The columns of block `n`, counted from the last. -/
abbrev colR (n : ℕ) : Rect S8x4096 := Rect.unit (s := S8x4096) ![0, (31 - n) * 128] S8x128.size (inb_col n)
/-- The rows of block `n`, counted from the last. -/
abbrev rowR (n : ℕ) : Rect S4096x128 := Rect.unit (s := S4096x128) ![(31 - n) * 128, 0] S128x128.size (inb_row n)

/-- The sum of the cotangent over the blocks before block `n`. -/
def carry : ℕ → FVec F S8x1 .f32
  | 0 => k0_pay2
  | n + 1 => k0_pay10 (carry n) (View.ld x0 (colR n))

/-- Block `n` of the gradient. -/
def dz (n : ℕ) : FVec F S128x128 .f32 :=
  k0_pay216 k0_pay1 (carry x0 n) (View.ld x0 (colR n)) (View.ld x1 (rowR n)) (View.ld x2 r0_2)

/-- The sum of the gradient over the blocks before block `n`. -/
def bias : ℕ → FVec F S1x128 .f32
  | 0 => k0_pay3
  | n + 1 => k0_pay8 (bias n) (dz x0 x1 x2 n)

/-- The first `n` blocks as they are stored. -/
def pieces : ℕ → List (View.Piece (Elt F) S4096x128 .bf16)
  | 0 => []
  | n + 1 => ⟨rowR n, truncf .bf16 (dz x0 x1 x2 n) bitsLt_bf16_f32⟩ :: pieces n

theorem out3_eq : out0_3 x0 x1 x2 = View.canon (pieces x0 x1 x2 32) := by sl_kernel_rfl

theorem out4_eq : out0_4 x0 x1 x2 = View.canon [⟨r0_2, bias x0 x1 x2 32⟩] := by sl_kernel_rfl

end Chain

/-! ## One block -/

section Payloads

/-- The comparison of two positions inside a block. -/
theorem sge_word (r s : ℕ) (hr : r < 128) (hs : s < 128) :
    IntOp.cmpi CmpIPredicate.sge (BitVec.ofNat 32 r) (BitVec.ofNat 32 s) = if s ≤ r then 1#1 else 0#1 := by
  have es : (BitVec.ofNat 32 s).toInt = s := by
    rw [BitVec.toInt_eq_toNat_of_lt] <;> simp [BitVec.toNat_ofNat] <;> omega
  have er : (BitVec.ofNat 32 r).toInt = r := by
    rw [BitVec.toInt_eq_toNat_of_lt] <;> simp [BitVec.toNat_ofNat] <;> omega
  simp only [IntOp.cmpi, BitVec.sle, es, er]
  by_cases h : s ≤ r
  · have : (s : ℤ) ≤ r := by exact_mod_cast h
    simp [h]
  · simp [h]

/-- The triangle of ones. -/
theorem tri (k i : Fin 128) : (k0_pay1 : FVec Ideal S128x128 .bf16) (ix2 k i) = if i ≤ k then 1 else 0 := by
  pointwise [k0_pay1]
  rw [sge_word _ _ k.isLt i.isLt]
  by_cases h : i ≤ k
  · rw [if_pos h, if_pos (show i.val ≤ k.val from h)]
    show (((BitVec.setWidth 32 1#1).toInt : ℝ) : EReal) = 1
    simp
  · rw [if_neg h, if_neg (show ¬ i.val ≤ k.val from h)]
    show (((BitVec.setWidth 32 0#1).toInt : ℝ) : EReal) = 0
    simp

/-- What a part of a finite number leaves is zero, and adds nothing to a product. -/
theorem rest (r : ℝ) (y : EReal) : ((r : EReal) - r) * y = 0 ∧ ((r : EReal) - r - (r - r)) * y = 0 := by
  have h : (r : EReal) - r = 0 := by rw [← EReal.coe_sub, sub_self, EReal.coe_zero]
  rw [h, sub_zero, zero_mul]
  exact ⟨rfl, rfl⟩

variable (u : FVec Ideal S8x1 .f32) (d : Vec Ideal S8x128 .f32) (z : Vec Ideal S128x128 .f32) (b : Vec Ideal S1x128 .f32)

/-- The carried sum takes a block in. -/
theorem step_carry (h : Fin 8) : k0_pay10 u d (ix2 h 0) = u (ix2 h 0) + ∑ k : Fin 128, d (ix2 h k) := by
  pointwise [k0_pay10, k0_pay9]

/-- The gradient of one block, of a finite cotangent. -/
theorem block (hd : ∀ h k, d (ix2 h k) = ((EReal.toReal (d (ix2 h k)) : ℝ) : EReal)) (i l : Fin 128) : k0_pay216 k0_pay1 u d z b (ix2 i l)
    = (if h : l.val < 8 then (∑ k : Fin 128, d (ix2 ⟨l.val, h⟩ k) * (if i ≤ k then 1 else 0)) + u (ix2 ⟨l.val, h⟩ 0) else 0)
      * Ideal.div 1 (1 + Ideal.exp (z (ix2 i l) + b (ix2 0 l))) := by
  pointwise [k0_pay216]
  refine congrArg (· * Ideal.div 1 (1 + Ideal.exp (z (ix2 i l) + b (ix2 0 l)))) ?_
  split
  · next h =>
    refine congrArg (· + u (ix2 ⟨l.val, h⟩ 0)) ?_
    rw [Finset.sum_eq_zero (f := fun x => (d (ix2 ⟨l.val, h⟩ x) - d (ix2 ⟨l.val, h⟩ x)) * _) fun x _ => by rw [hd]; exact (rest _ _).1,
      Finset.sum_eq_zero (f := fun x => (d (ix2 ⟨l.val, h⟩ x) - d (ix2 ⟨l.val, h⟩ x) - (d (ix2 ⟨l.val, h⟩ x) - d (ix2 ⟨l.val, h⟩ x))) * _) fun x _ => by rw [hd]; exact (rest _ _).2,
      add_zero, add_zero]
    exact Finset.sum_congr rfl fun k _ => by rw [tri]
  · rfl

/-- The bias's sum takes a block in. -/
theorem step_bias (v : FVec Ideal S1x128 .f32) (w : FVec Ideal S128x128 .f32) (l : Fin 128) :
    k0_pay8 v w (ix2 0 l) = v (ix2 0 l) + ∑ i : Fin 128, w (ix2 i l) := by
  pointwise [k0_pay8]

end Payloads

variable (m : (ℓ : Loc nD τ sig) → Buf (Elt Ideal) ℓ)

section Entries

variable (c : Dev nD) (t : Fin cfg0.N)

/-- The block index of every window. -/
theorem idx : ∀ t : Fin cfg0.N, win0_0.index t = ![0, 0] ∧ win0_1.index t = ![0, 0]
    ∧ win0_2.index t = ![0, 0] ∧ win0_3.index t = ![0, 0] ∧ win0_4.index t = ![0, 0] :=
  (by decide +kernel : ∀ t : Fin grid0.N, _)

theorem rd_dF (h : Fin 8) (s : Fin 4096) :
    @Eq EReal (iblk m c 0 t (ix2 h s)) (m ((c : Thread nD τ).loc main_arg2) (ix3 0 h s)) := by
  have : @Eq EReal (V m c main_v3 (ix2 h s)) (m ((c : Thread nD τ).loc main_arg2) (ix3 0 h s)) := by
    unfold V
    simp only [List.flatten_cons, List.flatten_nil, List.append_nil, List.cons_append, List.nil_append]
    after_results
    pointwise
  refine Eq.trans ?_ this
  blk_ext [iblk, idx t]

theorem rd_z (s : Fin 4096) (l : Fin 128) :
    @Eq EReal (iblk m c 1 t (ix2 s l)) (if h : l.val < 8 then m ((c : Thread nD τ).loc main_arg0) (ix3 0 s ⟨l.val, h⟩) else 0) := by
  have : @Eq EReal (V m c main_v1 (ix2 s l)) (if h : l.val < 8 then m ((c : Thread nD τ).loc main_arg0) (ix3 0 s ⟨l.val, h⟩) else 0) := by
    unfold V
    simp only [List.flatten_cons, List.flatten_nil, List.append_nil, List.cons_append, List.nil_append]
    after_results
    simp only [StableHlo.TRef.toBuf, StableHlo.TRef.ofBuf, cast_cast, cast_eq]
    pointwise
    split
    · rfl
    · show (((0#32 : BitVec 32).toInt : ℝ) : EReal) = 0
      simp
  refine Eq.trans ?_ this
  blk_ext [iblk, idx t]

theorem rd_b (l : Fin 128) :
    @Eq EReal (iblk m c 2 t (ix2 0 l)) (if h : l.val < 8 then m ((c : Thread nD τ).loc main_arg1) (ix2 0 ⟨l.val, h⟩) else 0) := by
  have : @Eq EReal (V m c main_v2 (ix2 0 l)) (if h : l.val < 8 then m ((c : Thread nD τ).loc main_arg1) (ix2 0 ⟨l.val, h⟩) else 0) := by
    unfold V
    simp only [List.flatten_cons, List.flatten_nil, List.append_nil, List.cons_append, List.nil_append]
    after_results
    simp only [StableHlo.TRef.toBuf, StableHlo.TRef.ofBuf, cast_cast, cast_eq]
    pointwise
    split
    · rfl
    · show (((0#32 : BitVec 32).toInt : ℝ) : EReal) = 0
      simp
  refine Eq.trans ?_ this
  blk_ext [iblk, idx t]

end Entries

/-! ## All blocks -/

section Whole

open Cert.GateMath
open Cert.GateRIdeal.Value (ct G)

/-- The cotangent is finite. -/
def Fin0 (x : FVec Ideal S1x8x4096 .f32) : Prop := ∀ h s, x (ix3 0 h s) = ((EReal.toReal (x (ix3 0 h s)) : ℝ) : EReal)

variable (zf : FVec Ideal S1x4096x8 .f32) (bf : FVec Ideal S1x8 .f32) (dF : FVec Ideal S1x8x4096 .f32) (hfin : Fin0 dF)
  (x0 : Vec Ideal S8x4096 .f32) (x1 : Vec Ideal S4096x128 .f32) (x2 : Vec Ideal S1x128 .f32)
  (h0 : ∀ h s, x0 (ix2 h s) = dF (ix3 0 h s))
  (h1 : ∀ s (l : Fin 128), x1 (ix2 s l) = if h : l.val < 8 then zf (ix3 0 s ⟨l.val, h⟩) else 0)
  (h2 : ∀ l : Fin 128, x2 (ix2 0 l) = if h : l.val < 8 then bf (ix2 0 ⟨l.val, h⟩) else 0)

theorem col_lt (n : ℕ) (k : Fin 128) : (31 - n) * 128 + k.val < 4096 := by omega

include h0 in
/-- A block of the cotangent. -/
theorem ld_dF (n : ℕ) (h : Fin 8) (k : Fin 128) : View.ld x0 (colR n) (ix2 h k) = ct dF h ((31 - n) * 128 + k.val) := by
  unfold ct
  rw [dif_pos (col_lt n k), ← h0]
  refine congrArg x0 (funext fun a => Fin.ext ?_)
  match a with
  | ⟨0, _⟩ => show 0 + 1 * h.val = h.val; omega
  | ⟨1, _⟩ => show (31 - n) * 128 + 1 * k.val = (31 - n) * 128 + k.val; omega

/-- A block of the gates. -/
theorem ld_z (n : ℕ) (i l : Fin 128) : View.ld x1 (rowR n) (ix2 i l) = x1 (ix2 ⟨(31 - n) * 128 + i.val, col_lt n i⟩ l) := by
  refine congrArg x1 (funext fun a => Fin.ext ?_)
  match a with
  | ⟨0, _⟩ => show (31 - n) * 128 + 1 * i.val = (31 - n) * 128 + i.val; omega
  | ⟨1, _⟩ => show 0 + 1 * l.val = l.val; omega

/-- The bias's block. -/
theorem ld_b (l : Fin 128) : View.ld x2 r0_2 (ix2 0 l) = x2 (ix2 0 l) := by
  refine congrArg x2 (funext fun a => Fin.ext ?_)
  match a with
  | ⟨0, _⟩ => rfl
  | ⟨1, _⟩ => show 0 + 1 * l.val = l.val; omega

include h0 in
/-- The carried sum is the running sum from the end. -/
theorem carry_eq (h : Fin 8) (n : ℕ) (hn : n ≤ 32) : carry x0 n (ix2 h 0) = tail (ct dF h) ((32 - n) * 128) := by
  induction n with
  | zero =>
    refine Eq.trans ?_ (Finset.sum_eq_zero fun j hj => ?_).symm
    · simp [carry, k0_pay2, broadcast, Ideal.ofBits, Ideal.ieee]
    · have := Finset.mem_Ico.mp hj; omega
  | succ n ih =>
    show k0_pay10 (carry x0 n) (View.ld x0 (colR n)) (ix2 h 0) = _
    rw [step_carry, ih (by omega), ← tail_block _ n (by omega)]
    exact congrArg (_ + ·) (Finset.sum_congr rfl fun k _ => ld_dF dF x0 h0 n h k)

include h0 h1 h2 hfin in
/-- A block of the gradient. -/
theorem dz_blk (n : ℕ) (hn : n < 32) (i l : Fin 128) : dz x0 x1 x2 n (ix2 i l) = G zf bf dF ⟨(31 - n) * 128 + i.val, col_lt n i⟩ l := by
  unfold dz
  rw [block _ _ _ _ (fun h k => by rw [ld_dF dF x0 h0]; unfold ct; rw [dif_pos (col_lt n k)]; exact hfin _ _), ld_z, ld_b, h1, h2]
  unfold G
  by_cases h : l.val < 8
  · simp only [dif_pos h]
    refine congrArg (· * _) ?_
    rw [← tail_in _ n hn i, carry_eq dF x0 h0 _ n (by omega)]
    exact congrArg (· + _) (Finset.sum_congr rfl fun k _ => congrArg (· * _) (ld_dF dF x0 h0 n _ k))
  · simp only [dif_neg h]
    rw [zero_mul]

/-- Every stored piece is one of the blocks. -/
theorem mem_pieces (N : ℕ) (p) (hp : p ∈ pieces x0 x1 x2 N) : ∃ n, n < N ∧ p = ⟨rowR n, truncf .bf16 (dz x0 x1 x2 n) bitsLt_bf16_f32⟩ := by
  induction N with
  | zero => exact absurd hp List.not_mem_nil
  | succ N ih =>
    rcases List.mem_cons.mp hp with rfl | hp
    · exact ⟨N, Nat.lt_succ_self N, rfl⟩
    · obtain ⟨n, hn, e⟩ := ih hp
      exact ⟨n, Nat.lt_succ_of_lt hn, e⟩
/-- Every block is stored. -/
theorem pieces_mem (N n : ℕ) (hn : n < N) : (⟨rowR n, truncf .bf16 (dz x0 x1 x2 n) bitsLt_bf16_f32⟩ : View.Piece (Elt Ideal) S4096x128 .bf16) ∈ pieces x0 x1 x2 N := by
  induction N with
  | zero => omega
  | succ N ih =>
    by_cases e : n = N
    · subst e; exact List.mem_cons_self
    · exact List.mem_cons_of_mem _ (ih (by omega))

include h0 h1 h2 hfin in
/-- The whole gradient. -/
theorem out_z (s : Fin 4096) (l : Fin 128) : out0_3 x0 x1 x2 (ix2 s l) = G zf bf dF s l := by
  rw [out3_eq]
  refine View.canon_eq_of_allAt _ _ _ ⟨_, pieces_mem x0 x1 x2 32 (31 - s.val / 128) (by omega), ?_⟩ ?_
  · refine (Rect.mem_set_unit (inb := inb_row (31 - s.val / 128))).mpr fun a => ?_
    match a with
    | ⟨0, _⟩ =>
      show (31 - (31 - s.val / 128)) * 128 ≤ s.val ∧ s.val < (31 - (31 - s.val / 128)) * 128 + 128
      omega
    | ⟨1, _⟩ =>
      show 0 ≤ l.val ∧ l.val < 0 + 128
      omega
  · intro p hp x hx
    obtain ⟨n, hn, rfl⟩ := mem_pieces x0 x1 x2 32 p hp
    have e0 : (31 - n) * 128 + 1 * (x 0).val = s.val := congrArg (fun y : S4096x128.Idx => (y 0).val) hx
    have e1 : 0 + 1 * (x 1).val = l.val := congrArg (fun y : S4096x128.Idx => (y 1).val) hx
    have hi : (x 0).val < 128 := (x 0).isLt
    have hl : (x 1).val < 128 := (x 1).isLt
    have ex : x = ix2 (⟨(x 0).val, hi⟩ : Fin 128) (⟨(x 1).val, hl⟩ : Fin 128) := funext fun a => by
      match a with
      | ⟨0, _⟩ => rfl
      | ⟨1, _⟩ => rfl
    rw [ex]
    refine (dz_blk zf bf dF hfin x0 x1 x2 h0 h1 h2 n hn _ _).trans ?_
    exact congrArg₂ (G zf bf dF) (Fin.ext (by show (31 - n) * 128 + (x 0).val = s.val; omega)) (Fin.ext (by show (x 1).val = l.val; omega))

include h0 h1 h2 hfin in
/-- The bias's gradient after some blocks. -/
theorem bias_eq (l : Fin 128) (n : ℕ) (hn : n ≤ 32) : bias x0 x1 x2 n (ix2 0 l)
    = tail (fun j => if h : j < 4096 then G zf bf dF ⟨j, h⟩ l else 0) ((32 - n) * 128) := by
  induction n with
  | zero =>
    refine Eq.trans ?_ (Finset.sum_eq_zero fun j hj => ?_).symm
    · simp [bias, k0_pay3, broadcast, Ideal.ofBits, Ideal.ieee]
    · have := Finset.mem_Ico.mp hj; omega
  | succ n ih =>
    show k0_pay8 (bias x0 x1 x2 n) (dz x0 x1 x2 n) (ix2 0 l) = _
    rw [step_bias, ih (by omega), ← tail_block _ n (by omega)]
    exact congrArg (_ + ·) (Finset.sum_congr rfl fun i _ => by
      rw [dif_pos (col_lt n i)]; exact dz_blk zf bf dF hfin x0 x1 x2 h0 h1 h2 n (by omega) i l)

include h0 h1 h2 hfin in
/-- The bias's whole gradient. -/
theorem out_b (l : Fin 128) : out0_4 x0 x1 x2 (ix2 0 l) = ∑ s : Fin 4096, G zf bf dF s l := by
  rw [out4_eq, View.canon_unit_zero (by funext a; match a with | ⟨0, _⟩ => rfl | ⟨1, _⟩ => rfl)]
  refine (bias_eq zf bf dF hfin x0 x1 x2 h0 h1 h2 l 32 (le_refl _)).trans ?_
  unfold tail
  rw [show (32 - 32) * 128 = 0 from rfl, ← Finset.range_eq_Ico, ← Fin.sum_univ_eq_sum_range]
  exact Finset.sum_congr rfl fun s _ => dif_pos s.isLt

end Whole

section Arrays

open Cert.GateRIdeal.Value (G)

variable (c : Dev nD) (hfin : Fin0 (m ((c : Thread nD τ).loc main_arg2)))
include hfin

/-- The gradient's array after the run. -/
theorem fin_z : (dats m 0 c).arrAt 3 cfg0.N = fun j => G (m ((c : Thread nD τ).loc main_arg0)) (m ((c : Thread nD τ).loc main_arg1))
    (m ((c : Thread nD τ).loc main_arg2)) (j 0) (j 1) := by
  refine (dats m 0 c).arrAt_eq_of_covers 3 _ (by decide +kernel) fun t hf y => ?_
  have h : ((cfg0.win 3).blk t).view.emb y = ix2 (y 0) (y 1) := by
    funext a
    match a with
    | ⟨0, _⟩ => exact Fin.ext (by blk_simp [idx t]; rfl)
    | ⟨1, _⟩ => exact Fin.ext (by blk_simp [idx t]; rfl)
  blk_simp
  rw [after0_3, h]
  refine Eq.trans (congrArg _ (eq_ix2 y)) ?_
  exact out_z _ _ _ hfin _ _ _ (rd_dF m c t) (rd_z m c t) (rd_b m c t) _ _

/-- The bias's array after the run. -/
theorem fin_b : (dats m 0 c).arrAt 4 cfg0.N = fun j => ∑ s : Fin 4096, G (m ((c : Thread nD τ).loc main_arg0)) (m ((c : Thread nD τ).loc main_arg1))
    (m ((c : Thread nD τ).loc main_arg2)) s (j 1) := by
  refine (dats m 0 c).arrAt_eq_of_covers 4 _ (by decide +kernel) fun t hf y => ?_
  have h : ((cfg0.win 4).blk t).view.emb y = ix2 (y 0) (y 1) := by
    funext a
    match a with
    | ⟨0, _⟩ => exact Fin.ext (by blk_simp [idx t])
    | ⟨1, _⟩ => exact Fin.ext (by blk_simp [idx t]; rfl)
  blk_simp
  rw [after0_4, h]
  have e0 : (show Fin 1 from y 0) = 0 := Fin.fin_one_eq_zero _
  refine Eq.trans (congrArg _ (show y = ix2 (0 : Fin 1) (y 1 : Fin 128) from funext fun a => by
    match a with
    | ⟨0, _⟩ => exact Fin.ext (congrArg Fin.val e0)
    | ⟨1, _⟩ => rfl)) ?_
  exact out_b _ _ _ hfin _ _ _ (rd_dF m c t) (rd_z m c t) (rd_b m c t) _

end Arrays

end Cert.GateKIdeal.Value

namespace Cert.GateAlg

open Idealize.ShloMosaic Idealize.ShloMosaic.TcCoe Idealize.SL.Sem

/-- An extended real whose absolute value is below the infinite word is real. -/
theorem real_of_abs_lt (x : EReal) (h : Ideal.cmp .olt (max x (-x)) (Ideal.ofBits .f32 0x7F800000#32) = 1#1) : x = ((EReal.toReal x : ℝ) : EReal) := by
  have hi : Ideal.ofBits .f32 0x7F800000#32 = ⊤ := by simp [Ideal.ofBits, Ideal.ieee]
  rw [hi] at h
  induction x using EReal.rec with
  | bot => exfalso; revert h; simp [Ideal.cmp]
  | coe r => rfl
  | top => exfalso; revert h; simp [Ideal.cmp]

/-- The precondition: the cotangent is finite. -/
theorem finite_of_pre (zf : FVec Ideal Cert.GateKIdeal.S1x4096x8 .f32) (bf : FVec Ideal Cert.GateKIdeal.S1x8 .f32) (dF : FVec Ideal Cert.GateKIdeal.S1x8x4096 .f32)
    (h : Cert.Pre_gate_finite.fn (F := Ideal) zf bf dF = fun _ => 1#1) : Cert.GateKIdeal.Value.Fin0 dF := by
  have h0 := congrFun h ix0
  dsimp only [Cert.Pre_gate_finite.fn] at h0
  haveI : Subsingleton Cert.Pre_gate_finite.S_.Idx := ⟨fun a b => funext fun i => i.elim0⟩
  have hz := Host.reduce_andi_all _ _ _ _ _ h0
  intro k s
  have := hz (ix3 0 k s)
  revert this
  pointwise
  exact real_of_abs_lt _

/-- From a finite cotangent the two programs leave the same gradients of the gates and of their bias. -/
theorem algebraic [Cert.Pre_gate_finite.Facts] : Cert.algebraic_GateKIdeal_GateRIdeal_pre_gate_finite := by
  pair_intro
  run_from Cert.GateKIdeal.Value.run_blocks m g
  run_from Cert.GateRIdeal.Value.run m' g'
  · rw [Cert.GateKIdeal.Value.fin_z m c (finite_of_pre _ _ _ (hpre c)), Cert.GateRIdeal.Read.val_main_v16_eq, (hagree c).1, (hagree c).2.1, (hagree c).2.2]
    funext j
    idx_vars j
    exact Cert.GateRIdeal.Value.ref_z _ _ _ _ _
  · rw [Cert.GateKIdeal.Value.fin_b m c (finite_of_pre _ _ _ (hpre c)), Cert.GateRIdeal.Read.val_main_v17_eq, (hagree c).1, (hagree c).2.1, (hagree c).2.2]
    funext j
    idx_vars j
    obtain rfl := Fin.fin_one_eq_zero j0
    exact Cert.GateRIdeal.Value.ref_b _ _ _ _

end Cert.GateAlg

end
-- ==== Proof.AttnMath.lean ====
module

public import Mathlib.Data.EReal.Operations
public import Mathlib.Analysis.SpecialFunctions.Log.Basic
public import Mathlib.Algebra.BigOperators.Field
public import Mathlib.Tactic.Ring
public import Mathlib.Tactic.FieldSimp

@[expose] public section

noncomputable section

/-! # One head of the forgetting attention over the reals

Rows `i` are queries, columns `j` keys; a query attends to the keys up to its own position. -/

namespace Cert.AttnMath

/-- The word of `1/√128` in float32, read exactly. -/
def scale : ℝ := 11863283 / 134217728

/-- A head's arrays: queries, keys, values, the output's cotangent and the cumulative log gates. -/
structure Head where
  q : Fin 4096 → Fin 128 → ℝ
  k : Fin 4096 → Fin 128 → ℝ
  v : Fin 4096 → Fin 128 → ℝ
  o : Fin 4096 → Fin 128 → ℝ
  f : Fin 4096 → ℝ

variable (x : Head)

/-- The score of query `i` against key `j`, with the decay of the gates between them. -/
def sc (i j : Fin 4096) : ℝ := (∑ d, x.q i d * x.k j d) * scale + x.f i - x.f j

/-- The unnormalised weight: the score's exponential, zero above the diagonal. -/
def w (i j : Fin 4096) : ℝ := if j ≤ i then Real.exp (sc x i j) else 0

/-- A row's sum of weights. -/
def Z (i : Fin 4096) : ℝ := ∑ j, w x i j

/-- The attention's probabilities. -/
def p (i j : Fin 4096) : ℝ := w x i j / Z x i

/-- The cotangent of the probabilities. -/
def dp (i j : Fin 4096) : ℝ := ∑ d, x.o i d * x.v j d

/-- A row's mean of `dp` under the probabilities. -/
def del (i : Fin 4096) : ℝ := ∑ j, p x i j * dp x i j

/-- The cotangent of the scores. -/
def ds (i j : Fin 4096) : ℝ := p x i j * (dp x i j - del x i)

/-- The attention's output. -/
def out (i : Fin 4096) (d : Fin 128) : ℝ := ∑ j, p x i j * x.v j d

def DQ (i : Fin 4096) (d : Fin 128) : ℝ := (∑ j, ds x i j * x.k j d) * scale
def DK (j : Fin 4096) (d : Fin 128) : ℝ := (∑ i, ds x i j * x.q i d) * scale
def DV (j : Fin 4096) (d : Fin 128) : ℝ := ∑ i, p x i j * x.o i d
def DF (j : Fin 4096) : ℝ := -∑ i, ds x i j

theorem w_nonneg (i j : Fin 4096) : 0 ≤ w x i j := by
  unfold w; split
  · exact (Real.exp_pos _).le
  · exact le_rfl

theorem w_diag_pos (i : Fin 4096) : 0 < w x i i := by
  unfold w; rw [if_pos le_rfl]; exact Real.exp_pos _

/-- A row's sum is positive: the diagonal's weight is. -/
theorem Z_pos (i : Fin 4096) : 0 < Z x i :=
  Finset.sum_pos' (fun j _ => w_nonneg x i j) ⟨i, Finset.mem_univ _, w_diag_pos x i⟩

theorem Z_ne (i : Fin 4096) : Z x i ≠ 0 := (Z_pos x i).ne'

theorem p_above {i j : Fin 4096} (h : ¬j ≤ i) : p x i j = 0 := by
  unfold p w; rw [if_neg h, zero_div]

theorem ds_above {i j : Fin 4096} (h : ¬j ≤ i) : ds x i j = 0 := by
  unfold ds; rw [p_above x h, zero_mul]

/-- The probabilities of a row sum to one. -/
theorem sum_p (i : Fin 4096) : ∑ j, p x i j = 1 := by
  unfold p; rw [← Finset.sum_div]; exact div_self (Z_ne x i)

/-- The cotangents of a row's scores sum to zero. -/
theorem sum_ds (i : Fin 4096) : ∑ j, ds x i j = 0 := by
  unfold ds
  simp only [mul_sub, Finset.sum_sub_distrib]
  rw [← Finset.sum_mul, sum_p, one_mul]
  exact sub_self _

/-- A row's mean of `dp` is the inner product of the cotangent with the output. -/
theorem del_eq (i : Fin 4096) : ∑ d, x.o i d * out x i d = del x i := by
  unfold del out dp
  simp only [Finset.mul_sum]
  rw [Finset.sum_comm]
  exact Finset.sum_congr rfl fun j _ => Finset.sum_congr rfl fun d _ => by ring

/-- A probability as one exponential, at or below the diagonal. -/
theorem p_exp {i j : Fin 4096} (h : j ≤ i) : p x i j = Real.exp (sc x i j - Real.log (Z x i)) := by
  unfold p w; rw [if_pos h, Real.exp_sub, Real.exp_log (Z_pos x i)]

/-! ## The weights against a shifted maximum -/

/-- The weight with `μ` taken off the score. -/
def e (μ : ℝ) (i j : Fin 4096) : ℝ := if j ≤ i then Real.exp (sc x i j - μ) else 0

theorem e_eq (μ : ℝ) (i j : Fin 4096) : e x μ i j = w x i j * Real.exp (-μ) := by
  unfold e w; split
  · rw [← Real.exp_add, sub_eq_add_neg]
  · rw [zero_mul]

/-- A row's sum of shifted weights. -/
def l (μ : ℝ) (i : Fin 4096) : ℝ := ∑ j, e x μ i j

theorem l_eq (μ : ℝ) (i : Fin 4096) : l x μ i = Z x i * Real.exp (-μ) := by
  unfold l Z; simp only [e_eq]; rw [Finset.sum_mul]

theorem l_pos (μ : ℝ) (i : Fin 4096) : 0 < l x μ i := by
  rw [l_eq]; exact mul_pos (Z_pos x i) (Real.exp_pos _)

theorem l_ne (μ : ℝ) (i : Fin 4096) : l x μ i ≠ 0 := (l_pos x μ i).ne'

/-- The quotient of shifted weight and sum is the probability, whatever the shift. -/
theorem e_div_l (μ : ℝ) (i j : Fin 4096) : e x μ i j / l x μ i = p x i j := by
  rw [e_eq, l_eq, p, mul_div_mul_right _ _ (Real.exp_pos _).ne']

/-- The shift and the logarithm of the shifted sum make up the logarithm of the sum. -/
theorem log_l (μ : ℝ) (i : Fin 4096) : μ + Real.log (l x μ i) = Real.log (Z x i) := by
  rw [l_eq, Real.log_mul (Z_ne x i) (Real.exp_pos _).ne', Real.log_exp]; ring

/-- The softmax's derivative, written with the shifted weights and their sum. -/
theorem ds_eq (μ : ℝ) (i j : Fin 4096) :
    (dp x i j / l x μ i + -∑ j', dp x i j' * (1 / (l x μ i * l x μ i)) * e x μ i j') * e x μ i j = ds x i j := by
  have hl := l_ne x μ i
  have h : ∑ j', dp x i j' * (1 / (l x μ i * l x μ i)) * e x μ i j' = del x i / l x μ i := by
    unfold del
    rw [Finset.sum_div]
    refine Finset.sum_congr rfl fun j' _ => ?_
    rw [← e_div_l x μ]; field_simp
  rw [h, ds, ← e_div_l x μ]; field_simp; ring

/-! ## Sums of reals in the extended reals -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The sum over all keys, taken by blocks of 1024 below block `I` and the first `n` keys of that block, of terms that
    vanish from there on. -/
theorem sum_blocks (g : Fin 4096 → ℝ) (I n : ℕ) (hI : I < 4) (hn : n ≤ 1024)
    (h0 : ∀ j : Fin 4096, 1024 * I + n ≤ j.val → g j = 0) :
    ∑ J ∈ (Finset.univ : Finset (Fin I)), ∑ t : Fin 1024, g ⟨1024 * J.val + t.val, by omega⟩
      + ∑ t : Fin n, g ⟨1024 * I + t.val, by omega⟩ = ∑ j, g j := by
  let G : ℕ → ℝ := fun j => if h : j < 4096 then g ⟨j, h⟩ else 0
  have hG : ∀ (j : ℕ) (h : j < 4096), g ⟨j, h⟩ = G j := fun j h => by simp only [G, dif_pos h]
  have hall : ∑ j, g j = ∑ j ∈ Finset.range 4096, G j := by
    rw [← Fin.sum_univ_eq_sum_range]; exact Finset.sum_congr rfl fun j _ => hG j.val j.isLt
  have hcut : ∑ j ∈ Finset.range 4096, G j = ∑ j ∈ Finset.range (1024 * I + n), G j := by
    symm
    refine Finset.sum_subset (by intro j; simp only [Finset.mem_range]; omega) fun j hj hj' => ?_
    simp only [Finset.mem_range] at hj hj'
    rw [← hG j hj]; exact h0 _ (by simp only; omega)
  have hpart : ∀ N : ℕ, ∑ J ∈ Finset.range N, ∑ t ∈ Finset.range 1024, G (1024 * J + t) = ∑ j ∈ Finset.range (1024 * N), G j := by
    intro N
    induction N with
    | zero => simp
    | succ N ih => rw [Finset.sum_range_succ, ih, Nat.mul_succ, Finset.sum_range_add]
  rw [hall, hcut, Finset.sum_range_add, ← hpart I]
  congr 1
  · rw [← Fin.sum_univ_eq_sum_range (fun J => ∑ t ∈ Finset.range 1024, G (1024 * J + t))]
    refine Finset.sum_congr rfl fun J _ => ?_
    rw [← Fin.sum_univ_eq_sum_range (fun t => G (1024 * J.val + t))]
    exact Finset.sum_congr rfl fun t _ => hG _ _
  · rw [← Fin.sum_univ_eq_sum_range (fun t => G (1024 * I + t))]
    exact Finset.sum_congr rfl fun t _ => hG _ _

end Cert.AttnMath

end
-- ==== Proof.AttnArgs.lean ====
module

public import proofs.«01_k».proof.Proof.AttnMath
public import Idealize.ShloMosaic.Lib.Pipeline.ValueKit

@[expose] public section

set_option maxRecDepth 16384

noncomputable section

/-! # The heads of the attention in the program's arguments -/

namespace Cert.AttnMath
open Idealize.ShloMosaic

abbrev ZS : Shape := ⟨3, ![1, 4096, 5128]⟩
abbrev FS : Shape := ⟨3, ![1, 8, 4096]⟩
abbrev OS : Shape := ⟨3, ![1, 4096, 1024]⟩

/-- Head `h` of the projections `z`, the gates `F` and the output's cotangent `o`: queries, keys and values lie one after
    the other along the last axis, each by heads of 128. -/
def head (z : FVec Ideal ZS .f32) (F : FVec Ideal FS .f32) (o : FVec Ideal OS .f32) (h : Fin 8) : Head where
  q i d := EReal.toReal (z (ix3 0 i ⟨h.val * 128 + d.val, by omega⟩))
  k i d := EReal.toReal (z (ix3 0 i ⟨1024 + h.val * 128 + d.val, by omega⟩))
  v i d := EReal.toReal (z (ix3 0 i ⟨2048 + h.val * 128 + d.val, by omega⟩))
  o i d := EReal.toReal (o (ix3 0 i ⟨h.val * 128 + d.val, by omega⟩))
  f i := EReal.toReal (F (ix3 0 h i))

/-- Queries, keys, values, gates and cotangent are finite. -/
structure Finite (z : FVec Ideal ZS .f32) (F : FVec Ideal FS .f32) (o : FVec Ideal OS .f32) : Prop where
  z : ∀ (i : Fin 4096) (c : Fin 5128), c.val < 3072 → z (ix3 0 i c) = ((EReal.toReal (z (ix3 0 i c)) : ℝ) : EReal)
  F : ∀ (h : Fin 8) (i : Fin 4096), F (ix3 0 h i) = ((EReal.toReal (F (ix3 0 h i)) : ℝ) : EReal)
  o : ∀ (i : Fin 4096) (c : Fin 1024), o (ix3 0 i c) = ((EReal.toReal (o (ix3 0 i c)) : ℝ) : EReal)

section
variable {z : FVec Ideal ZS .f32} {F : FVec Ideal FS .f32} {o : FVec Ideal OS .f32}

theorem Finite.q (hf : Finite z F o) (h : Fin 8) (i : Fin 4096) (d : Fin 128) (c : Fin 5128) (hc : c.val = h.val * 128 + d.val) :
    z (ix3 0 i c) = (((head z F o h).q i d : ℝ) : EReal) := by
  rw [show c = ⟨h.val * 128 + d.val, by omega⟩ from Fin.ext hc]
  exact hf.z i _ (by simp only; omega)
theorem Finite.k (hf : Finite z F o) (h : Fin 8) (i : Fin 4096) (d : Fin 128) (c : Fin 5128) (hc : c.val = 1024 + h.val * 128 + d.val) :
    z (ix3 0 i c) = (((head z F o h).k i d : ℝ) : EReal) := by
  rw [show c = ⟨1024 + h.val * 128 + d.val, by omega⟩ from Fin.ext hc]
  exact hf.z i _ (by simp only; omega)
theorem Finite.v (hf : Finite z F o) (h : Fin 8) (i : Fin 4096) (d : Fin 128) (c : Fin 5128) (hc : c.val = 2048 + h.val * 128 + d.val) :
    z (ix3 0 i c) = (((head z F o h).v i d : ℝ) : EReal) := by
  rw [show c = ⟨2048 + h.val * 128 + d.val, by omega⟩ from Fin.ext hc]
  exact hf.z i _ (by simp only; omega)
theorem Finite.f (hf : Finite z F o) (h : Fin 8) (i : Fin 4096) : F (ix3 0 h i) = (((head z F o h).f i : ℝ) : EReal) := hf.F h i
theorem Finite.ct (hf : Finite z F o) (h : Fin 8) (i : Fin 4096) (d : Fin 128) (c : Fin 1024) (hc : c.val = h.val * 128 + d.val) :
    o (ix3 0 i c) = (((head z F o h).o i d : ℝ) : EReal) := by
  rw [show c = ⟨h.val * 128 + d.val, by omega⟩ from Fin.ext hc]
  exact hf.o i _
end

/-- The scale's word. -/
theorem scale_word : Ideal.ofBits .f32 0x3DB504F3#32 = ((scale : ℝ) : EReal) := by
  simp [Ideal.ofBits, Ideal.ieee, -EReal.coe_mul, scale]; norm_num

/-- The host's mask is the least extended real. -/
theorem neg_inf_word : Ideal.ofBits .f32 0xFF800000#32 = ⊥ := by
  simp [Ideal.ofBits, Ideal.ieee]

/-- A fold of `max` from `⊥` over scores that are real below the diagonal and `⊥` above is real. -/
theorem fold_max_real (i : Fin 4096) (s : Fin 4096 → ℝ) :
    ∃ μ : ℝ, Finset.univ.fold max (⊥ : EReal) (fun j => if j ≤ i then ((s j : ℝ) : EReal) else ⊥) = ((μ : ℝ) : EReal) := by
  classical
  have key : ∀ T : Finset (Fin 4096), (∃ μ : ℝ, T.fold max (⊥ : EReal) (fun j => if j ≤ i then ((s j : ℝ) : EReal) else ⊥) = ((μ : ℝ) : EReal))
      ∨ (T.fold max (⊥ : EReal) (fun j => if j ≤ i then ((s j : ℝ) : EReal) else ⊥) = ⊥ ∧ i ∉ T) := by
    intro T
    induction T using Finset.induction_on with
    | empty => exact .inr ⟨rfl, by simp⟩
    | insert a T ha ih =>
      rw [Finset.fold_insert ha]
      by_cases h : a ≤ i
      · refine .inl ?_
        rw [if_pos h]
        rcases ih with ⟨μ, hμ⟩ | ⟨hb, -⟩
        · exact ⟨max (s a) μ, by rw [hμ]; exact (EReal.coe_strictMono.monotone.map_max).symm⟩
        · exact ⟨s a, by rw [hb]; exact max_bot_right _⟩
      · rw [if_neg h, max_bot_left]
        rcases ih with hμ | ⟨hb, hi⟩
        · exact .inl hμ
        · refine .inr ⟨hb, ?_⟩
          simp only [Finset.mem_insert, not_or]
          exact ⟨fun he => h (he ▸ le_rfl), hi⟩
  rcases key Finset.univ with hμ | ⟨-, hi⟩
  · exact hμ
  · exact absurd (Finset.mem_univ i) hi

end Cert.AttnMath

end
-- ==== Proof.AttnHost.lean ====
module

public import proofs.«01_k».proof.Proof.AttnArgs
public import proofs.«01_k».proof.Proof.Gen.AttnKIdeal.Frame
public import Idealize.ShloMosaic.Lib.Claim

@[expose] public section

set_option maxRecDepth 16384

noncomputable section

/-! # What the host lines before the attention's kernels hold -/

namespace Cert.AttnKIdeal.Value
open Cert.AttnKIdeal Cert.AttnKIdeal.Gen Cert.AttnMath Idealize.ShloMosaic Idealize.ShloMosaic.TcCoe Idealize.SL.Sem

variable (m : (ℓ : Loc nD τ sig) → Buf (Elt Ideal) ℓ) (ρ : Dev nD → PrngReg)

/-- The arguments. -/
abbrev argZ (c : Dev nD) : FVec Ideal ZS .f32 := m ((c.tc : Thread nD τ).loc main_arg0)
abbrev argF (c : Dev nD) : FVec Ideal FS .f32 := m ((c.tc : Thread nD τ).loc main_arg1)
abbrev argO (c : Dev nD) : FVec Ideal OS .f32 := m ((c.tc : Thread nD τ).loc main_arg2)

/-- The logarithm of two. -/
theorem log_two : Ideal.log (Ideal.ofBits .f32 0x40000000#32) = ((Real.log 2 : ℝ) : EReal) := by
  have h2 : Ideal.ofBits .f32 0x40000000#32 = ((2 : ℝ) : EReal) := by
    simp [Ideal.ofBits, Ideal.ieee, -EReal.coe_mul]
    try norm_num
  rw [h2, Ideal.log_coe, if_neg (by norm_num)]

theorem log_two_ne : Real.log 2 ≠ 0 := (Real.log_pos (by norm_num)).ne'

/-- The projections' columns as the kernels take them: the gates' eight columns are left out. -/
theorem W1_v5 (c : Dev nD) (i : Fin 4096) (k : Fin 5120) (k' : Fin 5128) (hk : k.val < 3072) (hkk : k'.val = k.val) :
    @Eq EReal (W1 m ρ c (Proc.devRef .tc main_v5) (ix2 i k)) (argZ m c (ix3 0 i k')) := by
  show @Eq EReal (StableHlo.after hostOps0 (W0 m ρ c) (Proc.devRef .tc main_v5) (ix2 i k)) _
  entry_read
  pointwise
  rw [dif_pos hk]
  exact congrArg (fun k : Fin 5128 => argZ m c (ix3 0 i k)) (Fin.ext hkk.symm)

/-- The gates in units of the logarithm of two. -/
theorem W1_v10 (c : Dev nD) (h : Fin 8) (a : Fin 4) (t : Fin 1024) (i : Fin 4096) (hi : i.val = a.val * 1024 + t.val) :
    @Eq EReal (W1 m ρ c (Proc.devRef .tc main_v10) (ix4 h a 0 t)) (argF m c (ix3 0 h i) * ((1 / Real.log 2 : ℝ) : EReal)) := by
  show @Eq EReal (StableHlo.after hostOps0 (W0 m ρ c) (Proc.devRef .tc main_v10) (ix4 h a 0 t)) _
  entry_read
  pointwise
  rw [log_two, Ideal.div_coe log_two_ne]
  exact congrArg (fun i : Fin 4096 => (show EReal from argF m c (ix3 0 h i)) * ((1 / Real.log 2 : ℝ) : EReal)) (Fin.ext hi.symm)
theorem W1_v19 (c : Dev nD) (i : Fin 4096) (h : Fin 8) (d : Fin 128) (k : Fin 5128) (hk : k.val = 2048 + h.val * 128 + d.val) :
    @Eq EReal (W1 m ρ c (Proc.devRef .tc main_v19) (ix3 i h d)) (argZ m c (ix3 0 i k)) := by
  show @Eq EReal (StableHlo.after hostOps0 (W0 m ρ c) (Proc.devRef .tc main_v19) (ix3 i h d)) _
  entry_read
  pointwise
  exact congrArg (fun k : Fin 5128 => argZ m c (ix3 0 i k)) (Fin.ext (by simp only; omega))

variable {m}
/-- The scores. -/
theorem W1_v30 {c : Dev nD} (hf : Finite (argZ m c) (argF m c) (argO m c)) (h : Fin 8) (i j : Fin 4096) :
    @Eq EReal (W1 m ρ c (Proc.devRef .tc main_v30) (ix3 h i j)) ((sc (head (argZ m c) (argF m c) (argO m c) h) i j : ℝ) : EReal) := by
  show @Eq EReal (StableHlo.after hostOps0 (W0 m ρ c) (Proc.devRef .tc main_v30) (ix3 h i j)) _
  entry_read
  pointwise
  rw [scale_word]
  unfold sc
  rw [EReal.coe_sub, EReal.coe_add, EReal.coe_mul, ← coe_sum]
  refine congrArg₂ (· - ·) (congrArg₂ (· + ·) (congrArg (· * _) (Finset.sum_congr rfl fun d _ => ?_)) (hf.f h i)) (hf.f h j)
  rw [EReal.coe_mul]
  exact congrArg₂ (· * ·) (hf.q h i d _ rfl) (hf.k h j d _ (by simp only; omega))
theorem W1_v31 (c : Dev nD) (i j : Fin 4096) : (W1 m ρ c (Proc.devRef .tc main_v31) (ix2 i j)) = 1#1 := by
  show (StableHlo.after hostOps0 (W0 m ρ c) (Proc.devRef .tc main_v31) (ix2 i j)) = _
  entry_read
  pointwise
/-- The causal mask: query `i` sees key `j`. -/
theorem keep_ge (i j : Fin 4096) :
    IntOp.cmpi CmpIPredicate.sge (IntOp.addi (BitVec.ofNat 32 i.val) 0#32) (BitVec.ofNat 32 j.val) = if j ≤ i then 1#1 else 0#1 := by
  have hi := i.isLt
  have hj := j.isLt
  have ei : (BitVec.ofNat 32 i.val).toInt = i.val := by
    rw [BitVec.toInt_eq_toNat_of_lt] <;> simp [BitVec.toNat_ofNat] <;> omega
  have ej : (BitVec.ofNat 32 j.val).toInt = j.val := by
    rw [BitVec.toInt_eq_toNat_of_lt] <;> simp [BitVec.toNat_ofNat] <;> omega
  simp only [IntOp.cmpi, IntOp.addi, BitVec.add_zero, BitVec.sle, ei, ej]
  by_cases h : j ≤ i
  · have : (j.val : ℤ) ≤ i.val := by exact_mod_cast h
    simp [h]
  · have : ¬ (j.val ≤ i.val) := h
    simp [h, this]

/-- The mask. -/
theorem W2_v32 (c : Dev nD) (i j : Fin 4096) :
    W2 m ρ c (Proc.devRef .tc main_v32) (ix2 i j) = if j ≤ i then 1#1 else 0#1 := by
  have h31 := W1_v31 (m := m) ρ c i j
  show StableHlo.after hostOps0_1 (W1 m ρ c) (Proc.devRef .tc main_v32) (ix2 i j) = _
  revert h31
  generalize W1 m ρ c = σ
  intro h31
  entry_read
  simp only [StableHlo.TRef.toBuf, StableHlo.TRef.ofBuf, cast_cast, cast_eq]
  pointwise
  rw [h31, keep_ge]
  by_cases hji : j ≤ i <;> simp [hji, Scalar.select]
/-- The masked scores. -/
theorem W4_v34 {c : Dev nD} (hf : Finite (argZ m c) (argF m c) (argO m c)) (h : Fin 8) (i j : Fin 4096) :
    @Eq EReal (W4 m ρ c (Proc.devRef .tc main_v34) (ix3 h i j))
      (if j ≤ i then ((sc (head (argZ m c) (argF m c) (argO m c) h) i j : ℝ) : EReal) else ⊥) := by
  have h30 := W1_v30 ρ hf h i j
  have h32 := W2_v32 (m := m) ρ c i j
  have h33 : W3 m ρ c (Proc.devRef .tc main_v33) (ix3 0 i j) = if j ≤ i then 1#1 else 0#1 := by
    rw [← h32]
    show StableHlo.after hostOps0_2 (W2 m ρ c) (Proc.devRef .tc main_v33) (ix3 0 i j) = _
    generalize W2 m ρ c = σ
    entry_read
    pointwise
  have h1 : @Eq EReal (W3 m ρ c (Proc.devRef .tc main_cst_1) ix0) ⊥ := by
    show @Eq EReal (StableHlo.after hostOps0_2 (W2 m ρ c) (Proc.devRef .tc main_cst_1) ix0) _
    entry_read
    exact neg_inf_word
  rw [← W2_of m ρ c main_v30 (by decide), ← W3_of m ρ c main_v30 (by decide)] at h30
  show @Eq EReal (StableHlo.after hostOps0_3 (W3 m ρ c) (Proc.devRef .tc main_v34) (ix3 h i j)) _
  revert h30 h33 h1
  generalize W3 m ρ c = σ
  intro h30 h33 h1
  entry_read
  simp only [StableHlo.TRef.toBuf, StableHlo.TRef.ofBuf, cast_cast, cast_eq]
  pointwise
  rw [h30, h33, h1]
  by_cases hji : j ≤ i <;> simp [hji, Scalar.select]

/-- A row's maximum. -/
theorem row_max (x : FVec Ideal S8x4096x4096 .f32) (h : Fin 8) (i : Fin 4096) :
    Host.reduce FloatOps.maximumf x (constant S_ .f32 0xFF800000#32) reducesTo_S8x4096x4096_S8x4096_d2 h_S_ (ix2 h i)
      = Finset.univ.fold max (⊥ : EReal) (fun j => x (ix3 h i j)) := by
  have hr : S8x4096x4096.Reduces [2] S8x4096 := by decide
  haveI : Std.Commutative (FloatOps.maximumf : Ideal .f32 → Ideal .f32 → Ideal .f32) := ⟨fun a b => max_comm (α := EReal) a b⟩
  haveI : Std.Associative (FloatOps.maximumf : Ideal .f32 → Ideal .f32 → Ideal .f32) := ⟨fun a b c => max_assoc (α := EReal) a b c⟩
  rw [Host.reduce_eq_fold_single _ _ _ _ hr,
    show (constant S_ .f32 0xFF800000#32 : FVec Ideal S_ .f32) (Shape.Idx.first h_S_) = (⊥ : EReal) from neg_inf_word]
  refine Finset.fold_congr fun k _ => ?_
  refine congrArg x (funext fun a => ?_)
  match a with
  | ⟨0, _⟩ => rfl
  | ⟨1, _⟩ => rfl
  | ⟨2, _⟩ => rfl

/-- The attention's output and the logarithm of a row's sum from the masked scores `S` and the values `v`. -/
theorem host_out (x : Head) (h : Fin 8) (S : FVec Ideal S8x4096x4096 .f32) (v : FVec Ideal S4096x8x128 .f32)
    (hS : ∀ i j : Fin 4096, S (ix3 h i j) = if j ≤ i then ((sc x i j : ℝ) : EReal) else ⊥)
    (M : FVec Ideal S8x4096 .f32) (hM : M = Host.reduce FloatOps.maximumf S (constant S_ .f32 0xFF800000#32) reducesTo_S8x4096x4096_S8x4096_d2 h_S_)
    (i : Fin 4096) :
    ∃ μ : ℝ, M (ix2 h i) = ((μ : ℝ) : EReal) ∧ ∀ j, Ideal.exp ((S (ix3 h i j) : EReal) - M (ix2 h i)) = ((e x μ i j : ℝ) : EReal) := by
  obtain ⟨μ, hμ⟩ := fold_max_real i (sc x i)
  have e24 : M (ix2 h i) = ((μ : ℝ) : EReal) := by
    rw [hM]
    refine (row_max S h i).trans ?_
    rw [← hμ]
    exact Finset.fold_congr fun k _ => hS i k
  refine ⟨μ, e24, fun j => ?_⟩
  rw [e24, hS]
  unfold e
  by_cases hji : j ≤ i
  · rw [if_pos hji, if_pos hji, ← EReal.coe_sub]; exact Ideal.exp_coe _
  · rw [if_neg hji, if_neg hji, EReal.bot_sub]; exact Ideal.exp_bot

/-- The attention's output. -/
theorem W5_v46 {c : Dev nD} (hf : Finite (argZ m c) (argF m c) (argO m c)) (i : Fin 4096) (k : Fin 1024) (h : Fin 8) (d : Fin 128)
    (hk : k.val = h.val * 128 + d.val) :
    @Eq EReal (W5 m ρ c (Proc.devRef .tc main_v46) (ix2 i k)) ((out (head (argZ m c) (argF m c) (argO m c) h) i d : ℝ) : EReal) := by
  have h34 := W4_v34 ρ hf h
  have h19 := fun j k' => W1_v19 m ρ c j h d k'
  rw [← W2_of m ρ c main_v19 (by decide), ← W3_of m ρ c main_v19 (by decide), ← W4_of m ρ c main_v19 (by decide)] at h19
  show @Eq EReal (StableHlo.after hostOps0_4 (W4 m ρ c) (Proc.devRef .tc main_v46) (ix2 i k)) _
  revert h34 h19
  generalize W4 m ρ c = σ
  intro h34 h19
  obtain ⟨μ, hμ, he⟩ := host_out _ h _ (σ (Proc.devRef .tc main_v19)) h34 _ rfl i
  revert hμ he
  entry_read
  generalize Host.reduce (FloatOps.maximumf : Ideal .f32 → Ideal .f32 → Ideal .f32) (σ (Proc.devRef .tc main_v34)) (constant S_ .f32 0xFF800000#32) reducesTo_S8x4096x4096_S8x4096_d2 h_S_ = M
  intro hμ he
  pointwise
  have e1 : (⟨k.val / 128, by omega⟩ : Fin 8) = h := Fin.ext (by simp only; omega)
  have e2 : (⟨k.val % 128, by omega⟩ : Fin 128) = d := Fin.ext (by simp only; omega)
  simp only [e1, e2, he]
  rw [coe_sum, show (∑ j, e (head (argZ m c) (argF m c) (argO m c) h) μ i j) = l (head (argZ m c) (argF m c) (argO m c) h) μ i from rfl]
  unfold out
  rw [← coe_sum]
  refine Finset.sum_congr rfl fun j _ => ?_
  rw [Ideal.div_coe (l_ne _ _ _), h19 j ⟨2048 + h.val * 128 + d.val, by omega⟩ rfl, hf.v h j d _ rfl, ← e_div_l _ μ, div_eq_mul_one_div (e _ μ i j),
    EReal.coe_mul, EReal.coe_mul]
  exact mul_comm (G := EReal) _ _

/-- The readings of the host's row sums. -/
theorem cast_read (y : FVec Ideal S8x4096x1 .f32) (h : Fin 8) (a : Fin 4) (t : Fin 1024) (i : Fin 4096) (hi : i.val = a.val * 1024 + t.val) :
    shapeCast S8x4x1x1024 y shapeCasts_S8x4096x1_S8x4x1x1024 (ix4 h a 0 t) = y (ix3 h i 0) := by
  rw [show i = ⟨a.val * 1024 + t.val, by omega⟩ from Fin.ext hi]
  pointwise
theorem div_read (M : FVec Ideal S8x4096 .f32) (y : FVec Ideal S8x4096x1 .f32) (L : FVec Ideal S_ .f32) (h : Fin 8)  (i : Fin 4096) :
    Host.divf (addf (broadcastInDim S8x4096x1 ![0, 1] bcast_S8x4096_S8x4096x1_0_1 M) (Host.log y)) (broadcastInDim S8x4096x1 ![] bcast_S_S8x4096x1 L) (ix3 h i 0)
      = Ideal.div (M (ix2 h i) + Ideal.log (y (ix3 h i 0))) (L ix0) := by
  pointwise

theorem row_read (S : FVec Ideal S8x4096x4096 .f32) (M : FVec Ideal S8x4096 .f32) (h : Fin 8) (i : Fin 4096) :
    broadcastInDim S8x4096x1 ![0, 1] bcast_S8x4096_S8x4096x1_0_1
      (Host.reduceAdd (Host.exp (subf S (broadcastInDim S8x4096x4096 ![0, 1, 2] bcast_S8x4096x1_S8x4096x4096_0_1_2
        (broadcastInDim S8x4096x1 ![0, 1] bcast_S8x4096_S8x4096x1_0_1 M)))) (constant S_ .f32 0x00000000#32)
        reducesTo_S8x4096x4096_S8x4096_d2 h_S_) (ix3 h i 0)
      = ∑ j, Ideal.exp (S (ix3 h i j) - M (ix2 h i)) := by
  pointwise

/-- The logarithm of a row's sum, in units of the logarithm of two. -/
theorem W5_v52 {c : Dev nD} (hf : Finite (argZ m c) (argF m c) (argO m c)) (h : Fin 8) (a : Fin 4) (t : Fin 1024) (i : Fin 4096)
    (hi : i.val = a.val * 1024 + t.val) :
    @Eq EReal (W5 m ρ c (Proc.devRef .tc main_v52) (ix4 h a 0 t)) ((Real.log (Z (head (argZ m c) (argF m c) (argO m c) h) i) * (1 / Real.log 2) : ℝ) : EReal) := by
  have h34 := W4_v34 ρ hf h
  show @Eq EReal (StableHlo.after hostOps0_4 (W4 m ρ c) (Proc.devRef .tc main_v52) (ix4 h a 0 t)) _
  revert h34
  generalize W4 m ρ c = σ
  intro h34
  obtain ⟨μ, hμ, he⟩ := host_out _ h _ (σ (Proc.devRef .tc main_v19)) h34 _ rfl i
  revert hμ he
  entry_read
  generalize Host.reduce (FloatOps.maximumf : Ideal .f32 → Ideal .f32 → Ideal .f32) (σ (Proc.devRef .tc main_v34)) (constant S_ .f32 0xFF800000#32) reducesTo_S8x4096x4096_S8x4096_d2 h_S_ = M
  intro hμ he
  have hL : Host.log (constant S_ .f32 0x40000000#32 : FVec Ideal S_ .f32) ix0 = ((Real.log 2 : ℝ) : EReal) := log_two
  revert hL
  generalize Host.log (constant S_ .f32 0x40000000#32 : FVec Ideal S_ .f32) = L
  intro hL
  refine (cast_read _ h a t i hi).trans ?_
  refine (div_read M _ L h i).trans ?_
  rw [row_read, Finset.sum_congr rfl fun j _ => he j, hμ, hL, coe_sum,
    show (∑ j, e (head (argZ m c) (argF m c) (argO m c) h) μ i j) = l (head (argZ m c) (argF m c) (argO m c) h) μ i from rfl,
    Ideal.log_coe, if_neg (not_le.2 (l_pos _ _ _)), ← EReal.coe_add, log_l, Ideal.div_coe log_two_ne, ← EReal.coe_mul]

/-- The output's cotangent. -/
theorem W5_v53 (c : Dev nD) (i : Fin 4096) (k : Fin 1024) :
    @Eq EReal (W5 m ρ c (Proc.devRef .tc main_v53) (ix2 i k)) (argO m c (ix3 0 i k)) := by
  have h4 := W4_args m ρ c main_arg2 (by decide)
  show @Eq EReal (StableHlo.after hostOps0_4 (W4 m ρ c) (Proc.devRef .tc main_v53) (ix2 i k)) _
  unfold argO
  rw [← h4]
  generalize W4 m ρ c = σ
  entry_read
  pointwise

end Cert.AttnKIdeal.Value
end
-- ==== Proof.AttnDelta.lean ====
module

public import proofs.«01_k».proof.Proof.AttnHost
public import Idealize.ShloMosaic.Lib.Pipeline.ValueKit

@[expose] public section

set_option maxRecDepth 16384

noncomputable section

/-! # The attention's first kernel: every row's sum of cotangent times output, head by head -/

namespace Cert.AttnKIdeal.Value
open Cert.AttnKIdeal Cert.AttnKIdeal.Gen Cert.AttnMath Idealize.ShloMosaic Idealize.ShloMosaic.TcCoe Idealize.SL.Sem
open Idealize.ShloMosaic.Pipeline (Dat)

/-- The selection's entry: one where column `k` belongs to head `h`. -/
theorem sel_word (k : Fin 1024) (h : Fin 128) :
    @Eq EReal (FloatOps.sitofp (F := Ideal) FTy.f32 (BitVec.setWidth 32
                (IntOp.andi (IntOp.cmpi CmpIPredicate.sge (BitVec.ofNat 32 ↑k) (IntOp.muli (BitVec.ofNat 32 ↑h) 128#32))
                  (IntOp.cmpi CmpIPredicate.slt (BitVec.ofNat 32 ↑k)
                    (IntOp.addi (IntOp.muli (BitVec.ofNat 32 ↑h) 128#32) 128#32)))))
      ((if k.val / 128 = h.val then 1 else 0 : ℝ) : EReal) := by
  have hk := k.isLt
  have hh := h.isLt
  have ek : (BitVec.ofNat 32 k.val).toInt = k.val := by
    rw [BitVec.toInt_eq_toNat_of_lt] <;> simp [BitVec.toNat_ofNat] <;> omega
  have em : (BitVec.ofNat 32 h.val * 128#32).toInt = ((h.val * 128 : ℕ) : ℤ) := by
    rw [← BitVec.ofNat_mul, BitVec.toInt_eq_toNat_of_lt] <;> simp only [BitVec.toNat_ofNat] <;> omega
  have ea : (BitVec.ofNat 32 h.val * 128#32 + 128#32).toInt = ((h.val * 128 + 128 : ℕ) : ℤ) := by
    rw [← BitVec.ofNat_mul, ← BitVec.ofNat_add, BitVec.toInt_eq_toNat_of_lt] <;> simp only [BitVec.toNat_ofNat] <;> omega
  simp only [IntOp.cmpi, IntOp.addi, IntOp.muli, IntOp.andi, BitVec.sle, BitVec.slt, ek, em, ea]
  by_cases h1 : h.val * 128 ≤ k.val
  · by_cases h2 : k.val < h.val * 128 + 128
    · have e : k.val / 128 = h.val := by omega
      have e1 : ((h.val * 128 : ℕ) : ℤ) ≤ (k.val : ℤ) := by exact_mod_cast h1
      have e2 : (k.val : ℤ) < ((h.val * 128 + 128 : ℕ) : ℤ) := by exact_mod_cast h2
      rw [if_pos e, decide_eq_true e1, decide_eq_true e2]
      show ((((1 : ℤ) : ℝ)) : EReal) = _
      norm_num
    · have e : ¬ k.val / 128 = h.val := by omega
      have e1 : ((h.val * 128 : ℕ) : ℤ) ≤ (k.val : ℤ) := by exact_mod_cast h1
      have e2 : ¬ (k.val : ℤ) < ((h.val * 128 + 128 : ℕ) : ℤ) := by exact_mod_cast h2
      rw [if_neg e, decide_eq_true e1, decide_eq_false e2]
      show ((((0 : ℤ) : ℝ)) : EReal) = _
      norm_num
  · have e : ¬ k.val / 128 = h.val := by omega
    have e1 : ¬ ((h.val * 128 : ℕ) : ℤ) ≤ (k.val : ℤ) := by exact_mod_cast h1
    have e2 : (k.val : ℤ) < ((h.val * 128 + 128 : ℕ) : ℤ) := by exact_mod_cast (by omega : k.val < h.val * 128 + 128)
    rw [if_neg e, decide_eq_false e1, decide_eq_true e2]
    show ((((0 : ℤ) : ℝ)) : EReal) = _
    norm_num

/-- A sum against a head's selection is the sum over the head's columns. -/
theorem sum_sel (g : Fin 1024 → ℝ) (h : ℕ) (h8 : h < 8) :
    ∑ k : Fin 1024, g k * (if k.val / 128 = h then 1 else 0) = ∑ d : Fin 128, g ⟨h * 128 + d.val, by omega⟩ := by
  rw [← Equiv.sum_comp (finProdFinEquiv : Fin 8 × Fin 128 ≃ Fin 1024) (fun k => g k * (if k.val / 128 = h then 1 else 0)),
    Fintype.sum_prod_type, Finset.sum_eq_single (⟨h, h8⟩ : Fin 8)]
  · refine Finset.sum_congr rfl fun d _ => ?_
    have e : (finProdFinEquiv ((⟨h, h8⟩ : Fin 8), d) : Fin 1024) = ⟨h * 128 + d.val, by omega⟩ :=
      Fin.ext (by simp [finProdFinEquiv]; omega)
    rw [e, if_pos (by simp only; omega), mul_one]
  · intro a _ ha
    refine Finset.sum_eq_zero fun d _ => ?_
    have e : (finProdFinEquiv (a, d) : Fin 1024) = ⟨a.val * 128 + d.val, by omega⟩ :=
      Fin.ext (by simp [finProdFinEquiv]; omega)
    rw [e, if_neg, mul_zero]
    intro h'
    have h'' : (a.val * 128 + d.val) / 128 = h := h'
    exact ha (Fin.ext (show a.val = h by omega))
  · intro h'; exact absurd (Finset.mem_univ _) h'

/-- The body's product: the three summands of the split are the product itself and two zeros. -/
theorem sel_dot (x0 x1 : Vec Ideal S512x1024 .f32) (r : Fin 512) (h : Fin 128) (h8 : h.val < 8) (a b : Fin 1024 → ℝ)
    (ha : ∀ k, @Eq EReal (x0 (ix2 r k)) ((a k : ℝ) : EReal)) (hb : ∀ k, @Eq EReal (x1 (ix2 r k)) ((b k : ℝ) : EReal)) :
    @Eq EReal (k0_pay2 (F := Ideal) x0 x1 (ix2 r h)) ((∑ d : Fin 128, a ⟨h.val * 128 + d.val, by omega⟩ * b ⟨h.val * 128 + d.val, by omega⟩ : ℝ) : EReal) := by
  pointwise [k0_pay2]
  simp only [ha, hb, sel_word, ← EReal.coe_mul, ← EReal.coe_sub, coe_sum, ← EReal.coe_add, sub_self, zero_mul,
    Finset.sum_const_zero, add_zero]
  rw [sum_sel (fun k => a k * b k) h.val h8]

variable (V : (c : Dev nD) → (b : Ref sig .tc) → Buf (Elt Ideal) ((c : Thread nD τ).loc b))

/-- The block index of every window at every grid point. -/
theorem idx0 : ∀ t : Fin cfg0.N, win0_0.index t = ![t.val, 0] ∧ win0_1.index t = ![t.val, 0] ∧ win0_2.index t = ![0, t.val] ∧ t.val < 8 :=
  (by decide +kernel : ∀ t : Fin grid0.N, _)

section
variable {V} {c : Dev nD} {o u : Fin 8 → Fin 4096 → Fin 128 → ℝ}
  (hO : ∀ i (k : Fin 1024) (h : Fin 8) (d : Fin 128), k.val = h.val * 128 + d.val → @Eq EReal (V c main_v53 (ix2 i k)) ((o h i d : ℝ) : EReal))
  (hU : ∀ i (k : Fin 1024) (h : Fin 8) (d : Fin 128), k.val = h.val * 128 + d.val → @Eq EReal (V c main_v46 (ix2 i k)) ((u h i d : ℝ) : EReal))
include hO hU

/-- Row `r` of point `t`'s block, at head `h`: row `512 t + r` of the arrays. -/
theorem sel_row (t : Fin cfg0.N) (r : Fin 512) (h' : Fin 128) (h : Fin 8) (i : Fin 4096) (hh : h'.val = h.val) (hi : i.val = t.val * 512 + r.val) :
    @Eq EReal (k0_pay2 (F := Ideal) (iblk0 V c 0 t) (iblk0 V c 1 t) (ix2 r h')) ((∑ d, o h i d * u h i d : ℝ) : EReal) := by
  obtain ⟨e0, e1, e2, ht⟩ := idx0 t
  refine (sel_dot _ _ r h' (by omega) (fun k => o ⟨k.val / 128, by omega⟩ i ⟨k.val % 128, by omega⟩)
    (fun k => u ⟨k.val / 128, by omega⟩ i ⟨k.val % 128, by omega⟩) (fun k => ?_) (fun k => ?_)).trans ?_
  · refine Eq.trans ?_ (hO i k _ _ (by simp only; omega))
    blk_point [iblk0, idx0 t]
  · refine Eq.trans ?_ (hU i k _ _ (by simp only; omega))
    blk_point [iblk0, idx0 t]
  · refine congrArg _ (Finset.sum_congr rfl fun d _ => ?_)
    have e1 : (⟨(h'.val * 128 + d.val) / 128, by omega⟩ : Fin 8) = h := Fin.ext (by simp only; omega)
    have e2 : (⟨(h'.val * 128 + d.val) % 128, by omega⟩ : Fin 128) = d := Fin.ext (by simp only; omega)
    simp only [e1, e2]

/-- The sums after the run. -/
theorem delta_final : (dat0 V c).arrAt 2 cfg0.N = fun j : S8x4096.Idx => ((∑ d, o (j 0) (j 1) d * u (j 0) (j 1) d : ℝ) : EReal) := by
  refine (dat0 V c).arrAt_eq_of_covers 2 _ (by decide +kernel) fun t _ y => ?_
  blk_simp
  rw [after0_2]; frame_out
  have e0 : ((((View.whole main_v54).slice (win0_2.rect t)).emb y 0 : Fin 8) : ℕ) = y 0 := by blk_simp [idx0 t]
  have e1 : ((((View.whole main_v54).slice (win0_2.rect t)).emb y 1 : Fin 4096) : ℕ) = t.val * 512 + y 1 := by blk_simp [idx0 t]
  revert e0 e1
  generalize (((View.whole main_v54).slice (win0_2.rect t)).emb y 0 : Fin 8) = hd
  generalize (((View.whole main_v54).slice (win0_2.rect t)).emb y 1 : Fin 4096) = i
  intro e0 e1
  canon_tiles x g
  · pointwise [k0_pay1]
    exact sel_row hO hU t _ _ hd i (by simp only; omega) (by simp only; omega)
  · pointwise [k0_pay5]
    exact sel_row hO hU t _ _ hd i (by simp only; omega) (by simp only; omega)
  · pointwise [k0_pay4]
    exact sel_row hO hU t _ _ hd i (by simp only; omega) (by simp only; omega)
  · pointwise [k0_pay3]
    exact sel_row hO hU t _ _ hd i (by simp only; omega) (by simp only; omega)

end

end Cert.AttnKIdeal.Value
-- ==== Proof.AttnElt.lean ====
module

public import proofs.«01_k».proof.Proof.AttnHost
public import Idealize.ShloMosaic.Lib.Pipeline.ValueKit

@[expose] public section

set_option maxRecDepth 16384

noncomputable section

/-! # One query against one key, as the attention's kernels compute it -/

namespace Cert.AttnKIdeal.Value
open Cert.AttnKIdeal Cert.AttnKIdeal.Gen Cert.AttnMath Idealize.ShloMosaic Idealize.ShloMosaic.TcCoe Idealize.SL.Sem

/-- One over the logarithm of two. -/
abbrev rl : ℝ := 1 / Real.log 2

/-- The scores' factor: the scale, in units of the logarithm of two. -/
theorem c2_val : @Eq EReal (Named.named (F := Ideal) κ (φ := .f32) "c2" 0x3E0293EE#32) ((scale * rl : ℝ) : EReal) := by
  refine (IdealRules.named_const.ideal_named_scalar _ _ _ _ rfl).trans (congrArg _ ?_)
  unfold scale rl
  rw [one_div, mul_comm]

/-- The mask is the least element. -/
theorem mask_val : @Eq EReal (Named.named (F := Ideal) κ (φ := .f32) "mask" 0xF149F2CA#32) ⊥ :=
  IdealRules.named_const.ideal_named_scalar _ _ _ _ rfl

/-- The causal comparison of two positions inside a block. -/
theorem sle_word (s r : ℕ) (hs : s < 1024) (hr : r < 1024) :
    IntOp.cmpi CmpIPredicate.sle (BitVec.ofNat 32 s) (BitVec.ofNat 32 r) = if s ≤ r then 1#1 else 0#1 := by
  have es : (BitVec.ofNat 32 s).toInt = s := by
    rw [BitVec.toInt_eq_toNat_of_lt] <;> simp [BitVec.toNat_ofNat] <;> omega
  have er : (BitVec.ofNat 32 r).toInt = r := by
    rw [BitVec.toInt_eq_toNat_of_lt] <;> simp [BitVec.toNat_ofNat] <;> omega
  simp only [IntOp.cmpi, BitVec.sle, es, er]
  by_cases h : s ≤ r
  · have : (s : ℤ) ≤ r := by exact_mod_cast h
    simp [h]
  · simp [h]

variable (x : Head) {i j : Fin 4096}

/-- The power of two of the scaled score is the probability. -/
theorem p_elt {S B f : EReal} (h : j ≤ i) (hS : S = ((∑ d, x.q i d * x.k j d : ℝ) : EReal))
    (hB : B = ((x.f i * rl - Real.log (Z x i) * rl : ℝ) : EReal)) (hf : f = ((x.f j * rl : ℝ) : EReal)) :
    @Eq EReal (FloatOps.exp2 (F := Ideal) (φ := .f32) (S * Named.named (F := Ideal) κ (φ := .f32) "c2" 0x3E0293EE#32 + (B - f))) ((p x i j : ℝ) : EReal) := by
  rw [c2_val, hS, hB, hf, ← EReal.coe_mul, ← EReal.coe_sub, ← EReal.coe_add]
  refine (Ideal.exp2_coe _).trans (congrArg _ ?_)
  rw [p_exp x h]
  rw [Real.rpow_eq_pow]
  rw [Real.rpow_def_of_pos (by norm_num)]
  refine congrArg _ ?_
  unfold sc rl
  field_simp [log_two_ne]
  ring

/-- With the mask. -/
theorem p_masked {S B f : EReal} {b : BitVec 1} (hb : b = if j ≤ i then 1#1 else 0#1) (hS : S = ((∑ d, x.q i d * x.k j d : ℝ) : EReal))
    (hB : B = ((x.f i * rl - Real.log (Z x i) * rl : ℝ) : EReal)) (hf : f = ((x.f j * rl : ℝ) : EReal)) :
    @Eq EReal (FloatOps.exp2 (F := Ideal) (φ := .f32) (Scalar.select b (S * Named.named (F := Ideal) κ (φ := .f32) "c2" 0x3E0293EE#32 + (B - f) : EReal)
      (Named.named (F := Ideal) κ (φ := .f32) "mask" 0xF149F2CA#32))) ((p x i j : ℝ) : EReal) := by
  by_cases h : j ≤ i
  · rw [hb, if_pos h]
    exact p_elt x h hS hB hf
  · rw [hb, if_neg h, p_above x h, mask_val]
    exact Ideal.exp2_bot.trans EReal.coe_zero.symm

/-- The cotangent of a score. -/
theorem ds_elt {P D δ : EReal} (hP : P = ((p x i j : ℝ) : EReal)) (hD : D = ((dp x i j : ℝ) : EReal)) (hδ : δ = ((del x i : ℝ) : EReal)) :
    P * (D - δ) = ((ds x i j : ℝ) : EReal) := by
  rw [hP, hD, hδ, ← EReal.coe_sub, ← EReal.coe_mul]; rfl

/-- An inner product of real vectors. -/
theorem dot_real {n : ℕ} {a b : Fin n → EReal} {a' b' : Fin n → ℝ} (ha : ∀ d, a d = ((a' d : ℝ) : EReal)) (hb : ∀ d, b d = ((b' d : ℝ) : EReal)) :
    ∑ d, a d * b d = ((∑ d, a' d * b' d : ℝ) : EReal) := by
  rw [← coe_sum]
  exact Finset.sum_congr rfl fun d _ => by rw [ha, hb, EReal.coe_mul]

/-- The same with the factors exchanged. -/
theorem dot_real' {n : ℕ} {a b : Fin n → EReal} {a' b' : Fin n → ℝ} (ha : ∀ d, a d = ((a' d : ℝ) : EReal)) (hb : ∀ d, b d = ((b' d : ℝ) : EReal)) :
    ∑ d, a d * b d = ((∑ d, b' d * a' d : ℝ) : EReal) := by
  rw [← coe_sum]
  exact Finset.sum_congr rfl fun d _ => by rw [ha, hb, ← EReal.coe_mul, mul_comm]

/-- A real sum added to a real number. -/
theorem add_sum_real {n : ℕ} {a : EReal} {a' : ℝ} {g : Fin n → EReal} {g' : Fin n → ℝ} (ha : a = ((a' : ℝ) : EReal)) (hg : ∀ s, g s = ((g' s : ℝ) : EReal)) :
    a + ∑ s, g s = ((a' + ∑ s, g' s : ℝ) : EReal) := by
  rw [ha, EReal.coe_add, ← coe_sum]
  exact congrArg _ (Finset.sum_congr rfl fun s _ => hg s)

theorem mul_real {a b : EReal} {a' b' : ℝ} (ha : a = ((a' : ℝ) : EReal)) (hb : b = ((b' : ℝ) : EReal)) : a * b = ((a' * b' : ℝ) : EReal) := by
  rw [ha, hb, EReal.coe_mul]

end Cert.AttnKIdeal.Value
-- ==== Proof.AttnDqRow.lean ====
module

public import proofs.«01_k».proof.Proof.AttnElt

@[expose] public section

set_option maxRecDepth 16384

noncomputable section

/-! # The queries' gradient: what one block of queries adds up against blocks of keys -/

namespace Cert.AttnKIdeal.Value
open Cert.AttnKIdeal Cert.AttnKIdeal.Gen Cert.AttnMath Idealize.ShloMosaic Idealize.ShloMosaic.TcCoe Idealize.SL.Sem
open Idealize.ShloMosaic.Pipeline (Dat)

/-- The bias column: gate less log-sum, row by row. -/
theorem bias_at (a b : Vec Ideal S1x1x1x1024 .f32) (r : Fin 1024) :
    @Eq EReal (k1_pay5 (F := Ideal) a b (ix2 r 0)) (a (ix4 0 0 0 r) - b (ix4 0 0 0 r)) := by
  pointwise [k1_pay5]; blk_point []

/-- The column of row sums of cotangent times output. -/
theorem delta_at (a : Vec Ideal S1x1x1x1024 .f32) (r : Fin 1024) :
    @Eq EReal (k1_pay8 (F := Ideal) (k1_pay6 a) (k1_pay7 a) (ix2 r 0)) (a (ix4 0 0 0 r)) := by
  pointwise [k1_pay8, k1_pay6, k1_pay7]; blk_point []

/-- A column of 256 laid out as a row. -/
theorem row256_at (a : FVec Ideal S256x1 .f32) (r : Fin 256) :
    @Eq EReal (k1_pay26 (F := Ideal) a (ix4 0 0 0 r)) (a (ix2 r 0)) := by
  pointwise [k1_pay26]; blk_point []

/-- Row `r` of a block of `R` queries against `n` keys: `i` is the query, `jj` the keys. -/
structure Row {R n nf : ℕ} (x : Head) (i : Fin 4096) (jj : Fin n → Fin 4096) (r : Fin R) (hn : n ≤ nf)
    (q : Fin R → Fin 128 → EReal) (k v : Fin n → Fin 128 → EReal) (o : Fin R → Fin 128 → EReal)
    (b dl : Fin R → EReal) (f : Fin nf → EReal) : Prop where
  q : ∀ d, q r d = ((x.q i d : ℝ) : EReal)
  o : ∀ d, o r d = ((x.o i d : ℝ) : EReal)
  k : ∀ s d, k s d = ((x.k (jj s) d : ℝ) : EReal)
  v : ∀ s d, v s d = ((x.v (jj s) d : ℝ) : EReal)
  b : b r = ((x.f i * rl - Real.log (Z x i) * rl : ℝ) : EReal)
  dl : dl r = ((del x i : ℝ) : EReal)
  f : ∀ s : Fin n, f ⟨s.val, by omega⟩ = ((x.f (jj s) * rl : ℝ) : EReal)

/-- A block of keys in the past, for the gradient. -/
theorem past_acc (acc : FVec Ideal S1024x128 .f32) (k : Vec Ideal S1024x128 .bf16) (q : Vec Ideal S1024x128 .bf16) (b : Vec Ideal S1024x1 .f32) (f : Vec Ideal S1x1x1x1024 .f32) (o : Vec Ideal S1024x128 .bf16) (v : Vec Ideal S1024x128 .bf16) (dl : Vec Ideal S1024x1 .f32)
    {x : Head} {i : Fin 4096} {jj : Fin 1024 → Fin 4096} (r : Fin 1024) (d : Fin 128) {a : ℝ}
    (ha : @Eq EReal (acc (ix2 r d)) ((a : ℝ) : EReal)) (h : Row (n := 1024) x i jj r (by omega : 1024 ≤ 1024) (fun r d => q (ix2 r d)) (fun s d => k (ix2 s d)) (fun s d => v (ix2 s d)) (fun r d => o (ix2 r d)) (fun r => b (ix2 r 0)) (fun r => dl (ix2 r 0)) (fun s : Fin 1024 => f (ix4 0 0 0 s))) (hj : ∀ s, jj s ≤ i) :
    @Eq EReal (k1_pay14 (F := Ideal) acc k q b f o v dl (ix2 r d)) ((a + ∑ s, ds x i (jj s) * x.k (jj s) d : ℝ) : EReal) := by
  pointwise [k1_pay14, k1_pay13, k1_pay12]
  exact add_sum_real ha fun s => mul_real (ds_elt x (p_elt x (hj s) (dot_real h.q (h.k s)) h.b (h.f s)) (dot_real h.o (h.v s)) h.dl) (h.k s d)

/-- A block of keys in the past, for the row sums. -/
theorem past_rs (acc : FVec Ideal S1024x1 .f32) (k : Vec Ideal S1024x128 .bf16) (q : Vec Ideal S1024x128 .bf16) (b : Vec Ideal S1024x1 .f32) (f : Vec Ideal S1x1x1x1024 .f32) (o : Vec Ideal S1024x128 .bf16) (v : Vec Ideal S1024x128 .bf16) (dl : Vec Ideal S1024x1 .f32)
    {x : Head} {i : Fin 4096} {jj : Fin 1024 → Fin 4096} (r : Fin 1024) {a : ℝ}
    (ha : @Eq EReal (acc (ix2 r 0)) ((a : ℝ) : EReal)) (h : Row (n := 1024) x i jj r (by omega : 1024 ≤ 1024) (fun r d => q (ix2 r d)) (fun s d => k (ix2 s d)) (fun s d => v (ix2 s d)) (fun r d => o (ix2 r d)) (fun r => b (ix2 r 0)) (fun r => dl (ix2 r 0)) (fun s : Fin 1024 => f (ix4 0 0 0 s))) (hj : ∀ s, jj s ≤ i) :
    @Eq EReal (k1_pay15 (F := Ideal) acc k q b f o v dl (ix2 r 0)) ((a + ∑ s, ds x i (jj s) : ℝ) : EReal) := by
  pointwise [k1_pay15, k1_pay13, k1_pay12]
  exact add_sum_real ha fun s => ds_elt x (p_elt x (hj s) (dot_real h.q (h.k s)) h.b (h.f s)) (dot_real h.o (h.v s)) h.dl

/-- The block on the diagonal, the first 256 rows, for the gradient. -/
theorem diag0_acc (acc : FVec Ideal S1024x128 .f32) (k : Vec Ideal S256x128 .bf16) (q : Vec Ideal S256x128 .bf16) (b : Vec Ideal S256x1 .f32) (f : Vec Ideal S1x1x1x1024 .f32) (o : Vec Ideal S256x128 .bf16) (v : Vec Ideal S256x128 .bf16) (dl : Vec Ideal S256x1 .f32)
    {x : Head} {i : Fin 4096} {jj : Fin 256 → Fin 4096} (r : Fin 256) (d : Fin 128) {a : ℝ}
    (ha : @Eq EReal (acc (ix2 ⟨r.val, by omega⟩ d)) ((a : ℝ) : EReal)) (h : Row (n := 256) x i jj r (by omega : 256 ≤ 1024) (fun r d => q (ix2 r d)) (fun s d => k (ix2 s d)) (fun s d => v (ix2 s d)) (fun r d => o (ix2 r d)) (fun r => b (ix2 r 0)) (fun r => dl (ix2 r 0)) (fun s : Fin 1024 => f (ix4 0 0 0 s)))
    (hj : ∀ s : Fin 256, s.val ≤ r.val ↔ jj s ≤ i) :
    @Eq EReal (k1_pay25 (F := Ideal) k1_pay4 (k1_pay20 acc) k q b f o v dl (ix2 r d)) (((a + ∑ s, ds x i (jj s) * x.k (jj s) d) * scale : ℝ) : EReal) := by
  pointwise [k1_pay25, k1_pay23, k1_pay20, k1_pay22, k1_pay4]
  refine mul_real (add_sum_real ha fun s => mul_real (ds_elt x (p_masked x ?_ (dot_real h.q (h.k s)) h.b (h.f s)) (dot_real h.o (h.v s)) h.dl) (h.k s d)) scale_word
  rw [sle_word _ _ (by omega) (by omega)]
  exact if_congr (hj s) rfl rfl

/-- The same rows, for the row sums. -/
theorem diag0_rs (acc : FVec Ideal S1024x1 .f32) (k : Vec Ideal S256x128 .bf16) (q : Vec Ideal S256x128 .bf16) (b : Vec Ideal S256x1 .f32) (f : Vec Ideal S1x1x1x1024 .f32) (o : Vec Ideal S256x128 .bf16) (v : Vec Ideal S256x128 .bf16) (dl : Vec Ideal S256x1 .f32)
    {x : Head} {i : Fin 4096} {jj : Fin 256 → Fin 4096} (r : Fin 256) {a : ℝ}
    (ha : @Eq EReal (acc (ix2 ⟨r.val, by omega⟩ 0)) ((a : ℝ) : EReal)) (h : Row (n := 256) x i jj r (by omega : 256 ≤ 1024) (fun r d => q (ix2 r d)) (fun s d => k (ix2 s d)) (fun s d => v (ix2 s d)) (fun r d => o (ix2 r d)) (fun r => b (ix2 r 0)) (fun r => dl (ix2 r 0)) (fun s : Fin 1024 => f (ix4 0 0 0 s)))
    (hj : ∀ s : Fin 256, s.val ≤ r.val ↔ jj s ≤ i) :
    @Eq EReal (k1_pay26 (F := Ideal) (k1_pay24 k1_pay4 (k1_pay21 acc) k q b f o v dl) (ix4 0 0 0 r)) ((a + ∑ s, ds x i (jj s) : ℝ) : EReal) := by
  refine (row256_at _ r).trans ?_
  pointwise [k1_pay24, k1_pay23, k1_pay21, k1_pay22, k1_pay4]
  refine add_sum_real ha fun s => ds_elt x (p_masked x ?_ (dot_real h.q (h.k s)) h.b (h.f s)) (dot_real h.o (h.v s)) h.dl
  rw [sle_word _ _ (by omega) (by omega)]
  exact if_congr (hj s) rfl rfl

/-- The block on the diagonal, the second 256 rows, for the gradient. -/
theorem diag1_acc (acc : FVec Ideal S1024x128 .f32) (k : Vec Ideal S512x128 .bf16) (q : Vec Ideal S256x128 .bf16) (b : Vec Ideal S256x1 .f32) (f : Vec Ideal S1x1x1x1024 .f32) (o : Vec Ideal S256x128 .bf16) (v : Vec Ideal S512x128 .bf16) (dl : Vec Ideal S256x1 .f32)
    {x : Head} {i : Fin 4096} {jj : Fin 512 → Fin 4096} (r : Fin 256) (d : Fin 128) {a : ℝ}
    (ha : @Eq EReal (acc (ix2 ⟨256 + r.val, by omega⟩ d)) ((a : ℝ) : EReal)) (h : Row (n := 512) x i jj r (by omega : 512 ≤ 1024) (fun r d => q (ix2 r d)) (fun s d => k (ix2 s d)) (fun s d => v (ix2 s d)) (fun r d => o (ix2 r d)) (fun r => b (ix2 r 0)) (fun r => dl (ix2 r 0)) (fun s : Fin 1024 => f (ix4 0 0 0 s)))
    (hj : ∀ s : Fin 512, s.val ≤ 256 + r.val ↔ jj s ≤ i) :
    @Eq EReal (k1_pay32 (F := Ideal) (k1_pay27 acc) (k1_pay29 k) (k1_pay30 k1_pay4 k q b f) o v dl (ix2 r d)) (((a + ∑ s, ds x i (jj s) * x.k (jj s) d) * scale : ℝ) : EReal) := by
  pointwise [k1_pay32, k1_pay31, k1_pay30, k1_pay29, k1_pay27, k1_pay4]
  refine mul_real (add_sum_real ha fun s => mul_real (ds_elt x (p_masked x ?_ (dot_real h.q (h.k s)) h.b (h.f s)) (dot_real h.o (h.v s)) h.dl) (h.k s d)) scale_word
  rw [sle_word _ _ (by omega) (by omega)]
  exact if_congr (hj s) rfl rfl

/-- The same rows, for the row sums. -/
theorem diag1_rs (acc : FVec Ideal S1024x1 .f32) (k : Vec Ideal S512x128 .bf16) (q : Vec Ideal S256x128 .bf16) (b : Vec Ideal S256x1 .f32) (f : Vec Ideal S1x1x1x1024 .f32) (o : Vec Ideal S256x128 .bf16) (v : Vec Ideal S512x128 .bf16) (dl : Vec Ideal S256x1 .f32)
    {x : Head} {i : Fin 4096} {jj : Fin 512 → Fin 4096} (r : Fin 256) {a : ℝ}
    (ha : @Eq EReal (acc (ix2 ⟨256 + r.val, by omega⟩ 0)) ((a : ℝ) : EReal)) (h : Row (n := 512) x i jj r (by omega : 512 ≤ 1024) (fun r d => q (ix2 r d)) (fun s d => k (ix2 s d)) (fun s d => v (ix2 s d)) (fun r d => o (ix2 r d)) (fun r => b (ix2 r 0)) (fun r => dl (ix2 r 0)) (fun s : Fin 1024 => f (ix4 0 0 0 s)))
    (hj : ∀ s : Fin 512, s.val ≤ 256 + r.val ↔ jj s ≤ i) :
    @Eq EReal (k1_pay33 (F := Ideal) (k1_pay28 acc) (k1_pay30 k1_pay4 k q b f) o v dl (ix4 0 0 0 r)) ((a + ∑ s, ds x i (jj s) : ℝ) : EReal) := by
  refine (row256_at (addf (k1_pay28 acc) (shapeCast S256x1 (multiReduction .add [1] S256 (k1_pay31 (k1_pay30 k1_pay4 k q b f) o v dl) 0x00000000#32 reduces_S256x512_S256 (.inl rfl) rfl) shapeCasts_S256_S256x1)) r).trans ?_
  pointwise [k1_pay31, k1_pay30, k1_pay29, k1_pay28, k1_pay4]
  refine add_sum_real ha fun s => ds_elt x (p_masked x ?_ (dot_real h.q (h.k s)) h.b (h.f s)) (dot_real h.o (h.v s)) h.dl
  rw [sle_word _ _ (by omega) (by omega)]
  exact if_congr (hj s) rfl rfl

/-- The block on the diagonal, the third 256 rows, for the gradient. -/
theorem diag2_acc (acc : FVec Ideal S1024x128 .f32) (k : Vec Ideal S768x128 .bf16) (q : Vec Ideal S256x128 .bf16) (b : Vec Ideal S256x1 .f32) (f : Vec Ideal S1x1x1x1024 .f32) (o : Vec Ideal S256x128 .bf16) (v : Vec Ideal S768x128 .bf16) (dl : Vec Ideal S256x1 .f32)
    {x : Head} {i : Fin 4096} {jj : Fin 768 → Fin 4096} (r : Fin 256) (d : Fin 128) {a : ℝ}
    (ha : @Eq EReal (acc (ix2 ⟨512 + r.val, by omega⟩ d)) ((a : ℝ) : EReal)) (h : Row (n := 768) x i jj r (by omega : 768 ≤ 1024) (fun r d => q (ix2 r d)) (fun s d => k (ix2 s d)) (fun s d => v (ix2 s d)) (fun r d => o (ix2 r d)) (fun r => b (ix2 r 0)) (fun r => dl (ix2 r 0)) (fun s : Fin 1024 => f (ix4 0 0 0 s)))
    (hj : ∀ s : Fin 768, s.val ≤ 512 + r.val ↔ jj s ≤ i) :
    @Eq EReal (k1_pay39 (F := Ideal) k1_pay4 (k1_pay34 acc) (k1_pay36 k) (k1_pay37 q) (constant S256x768 .f32 0x00000000#32) b f o v dl (ix2 r d)) (((a + ∑ s, ds x i (jj s) * x.k (jj s) d) * scale : ℝ) : EReal) := by
  pointwise [k1_pay39, k1_pay38, k1_pay36, k1_pay37, k1_pay34, k1_pay4]
  refine mul_real (add_sum_real ha fun s => mul_real (ds_elt x (p_masked x ?_ (dot_real h.q (h.k s)) h.b (h.f s)) (dot_real h.o (h.v s)) h.dl) (h.k s d)) scale_word
  rw [sle_word _ _ (by omega) (by omega)]
  exact if_congr (hj s) rfl rfl

/-- The same rows, for the row sums. -/
theorem diag2_rs (acc : FVec Ideal S1024x1 .f32) (k : Vec Ideal S768x128 .bf16) (q : Vec Ideal S256x128 .bf16) (b : Vec Ideal S256x1 .f32) (f : Vec Ideal S1x1x1x1024 .f32) (o : Vec Ideal S256x128 .bf16) (v : Vec Ideal S768x128 .bf16) (dl : Vec Ideal S256x1 .f32)
    {x : Head} {i : Fin 4096} {jj : Fin 768 → Fin 4096} (r : Fin 256) {a : ℝ}
    (ha : @Eq EReal (acc (ix2 ⟨512 + r.val, by omega⟩ 0)) ((a : ℝ) : EReal)) (h : Row (n := 768) x i jj r (by omega : 768 ≤ 1024) (fun r d => q (ix2 r d)) (fun s d => k (ix2 s d)) (fun s d => v (ix2 s d)) (fun r d => o (ix2 r d)) (fun r => b (ix2 r 0)) (fun r => dl (ix2 r 0)) (fun s : Fin 1024 => f (ix4 0 0 0 s)))
    (hj : ∀ s : Fin 768, s.val ≤ 512 + r.val ↔ jj s ≤ i) :
    @Eq EReal (k1_pay43 (F := Ideal) (k1_pay41 k1_pay4 (k1_pay35 acc) (k1_pay36 k) (k1_pay37 q) (constant S256x768 .f32 0x00000000#32) b f o v dl) (k1_pay42 k1_pay4 (k1_pay35 acc) (k1_pay36 k) (k1_pay37 q) (constant S256x768 .f32 0x00000000#32) b f o v dl) (ix4 0 0 0 r)) ((a + ∑ s, ds x i (jj s) : ℝ) : EReal) := by
  refine (row256_at (addf (k1_pay35 acc) (shapeCast S256x1 (multiReduction .add [1] S256 (k1_pay38 k1_pay4 (k1_pay36 k) (k1_pay37 q) (constant S256x768 .f32 0x00000000#32) b f o v dl) 0x00000000#32 reduces_S256x768_S256 (.inl rfl) rfl) shapeCasts_S256_S256x1)) r).trans ?_
  pointwise [k1_pay38, k1_pay36, k1_pay37, k1_pay35, k1_pay4]
  refine add_sum_real ha fun s => ds_elt x (p_masked x ?_ (dot_real h.q (h.k s)) h.b (h.f s)) (dot_real h.o (h.v s)) h.dl
  rw [sle_word _ _ (by omega) (by omega)]
  exact if_congr (hj s) rfl rfl

/-- The block on the diagonal, the fourth 256 rows, for the gradient. -/
theorem diag3_acc (acc : FVec Ideal S1024x128 .f32) (k : Vec Ideal S1024x128 .bf16) (q : Vec Ideal S256x128 .bf16) (b : Vec Ideal S256x1 .f32) (f : Vec Ideal S1x1x1x1024 .f32) (o : Vec Ideal S256x128 .bf16) (v : Vec Ideal S1024x128 .bf16) (dl : Vec Ideal S256x1 .f32)
    {x : Head} {i : Fin 4096} {jj : Fin 1024 → Fin 4096} (r : Fin 256) (d : Fin 128) {a : ℝ}
    (ha : @Eq EReal (acc (ix2 ⟨768 + r.val, by omega⟩ d)) ((a : ℝ) : EReal)) (h : Row (n := 1024) x i jj r (by omega : 1024 ≤ 1024) (fun r d => q (ix2 r d)) (fun s d => k (ix2 s d)) (fun s d => v (ix2 s d)) (fun r d => o (ix2 r d)) (fun r => b (ix2 r 0)) (fun r => dl (ix2 r 0)) (fun s : Fin 1024 => f (ix4 0 0 0 s)))
    (hj : ∀ s : Fin 1024, s.val ≤ 768 + r.val ↔ jj s ≤ i) :
    @Eq EReal (k1_pay2 (F := Ideal) (k1_pay44 acc) (k1_pay46 k) (k1_pay47 k1_pay4 k q b f) (k1_pay48 o v) (k1_pay49 dl) (ix2 r d)) (((a + ∑ s, ds x i (jj s) * x.k (jj s) d) * scale : ℝ) : EReal) := by
  pointwise [k1_pay2, k1_pay1, k1_pay44, k1_pay47, k1_pay4, k1_pay46, k1_pay48, k1_pay49]
  refine mul_real (add_sum_real ha fun s => mul_real (ds_elt x (p_masked x ?_ (dot_real h.q (h.k s)) h.b (h.f s)) (dot_real h.o (h.v s)) h.dl) (h.k s d)) scale_word
  rw [sle_word _ _ (by omega) (by omega)]
  exact if_congr (hj s) rfl rfl

/-- The same rows, for the row sums. -/
theorem diag3_rs (acc : FVec Ideal S1024x1 .f32) (k : Vec Ideal S1024x128 .bf16) (q : Vec Ideal S256x128 .bf16) (b : Vec Ideal S256x1 .f32) (f : Vec Ideal S1x1x1x1024 .f32) (o : Vec Ideal S256x128 .bf16) (v : Vec Ideal S1024x128 .bf16) (dl : Vec Ideal S256x1 .f32)
    {x : Head} {i : Fin 4096} {jj : Fin 1024 → Fin 4096} (r : Fin 256) {a : ℝ}
    (ha : @Eq EReal (acc (ix2 ⟨768 + r.val, by omega⟩ 0)) ((a : ℝ) : EReal)) (h : Row (n := 1024) x i jj r (by omega : 1024 ≤ 1024) (fun r d => q (ix2 r d)) (fun s d => k (ix2 s d)) (fun s d => v (ix2 s d)) (fun r d => o (ix2 r d)) (fun r => b (ix2 r 0)) (fun r => dl (ix2 r 0)) (fun s : Fin 1024 => f (ix4 0 0 0 s)))
    (hj : ∀ s : Fin 1024, s.val ≤ 768 + r.val ↔ jj s ≤ i) :
    @Eq EReal (k1_pay3 (F := Ideal) (k1_pay45 acc) (k1_pay47 k1_pay4 k q b f) (k1_pay48 o v) (k1_pay49 dl) (ix4 0 0 0 r)) ((a + ∑ s, ds x i (jj s) : ℝ) : EReal) := by
  refine (row256_at (addf (k1_pay45 acc) (shapeCast S256x1 (multiReduction .add [1] S256 (k1_pay1 (k1_pay47 k1_pay4 k q b f) (k1_pay48 o v) (k1_pay49 dl)) 0x00000000#32 reduces_S256x1024_S256 (.inl rfl) rfl) shapeCasts_S256_S256x1)) r).trans ?_
  pointwise [k1_pay1, k1_pay45, k1_pay47, k1_pay4, k1_pay46, k1_pay48, k1_pay49]
  refine add_sum_real ha fun s => ds_elt x (p_masked x ?_ (dot_real h.q (h.k s)) h.b (h.f s)) (dot_real h.o (h.v s)) h.dl
  rw [sle_word _ _ (by omega) (by omega)]
  exact if_congr (hj s) rfl rfl

end Cert.AttnKIdeal.Value
-- ==== Proof.AttnDqBlk.lean ====
module

public import proofs.«01_k».proof.Proof.AttnDqRow

@[expose] public section

set_option maxRecDepth 16384

noncomputable section

/-! # The queries' gradient: the kernel over its grid of heads and query blocks -/

namespace Cert.AttnKIdeal.Value
open Cert.AttnKIdeal Cert.AttnKIdeal.Gen Cert.AttnMath Idealize.ShloMosaic Idealize.ShloMosaic.TcCoe Idealize.SL.Sem
open Idealize.ShloMosaic.Pipeline (Dat)

/-- The block index of every window at every grid point: the point's head and query block. -/
theorem idx1 : ∀ t : Fin cfg1.N, win1_0.index t = ![t.val % 4, t.val / 4] ∧ win1_1.index t = ![0, 8 + t.val / 4]
    ∧ win1_2.index t = ![0, 16 + t.val / 4] ∧ win1_3.index t = ![t.val % 4, t.val / 4] ∧ win1_4.index t = ![t.val / 4, 0, 0, 0]
    ∧ win1_5.index t = ![t.val / 4, t.val % 4, 0, 0] ∧ win1_6.index t = ![t.val / 4, t.val % 4, 0, 0]
    ∧ win1_7.index t = ![t.val % 4, t.val / 4] ∧ win1_8.index t = ![t.val / 4, t.val % 4, 0, 0] ∧ t.val < 32 :=
  (by decide +kernel : ∀ t : Fin grid1.N, _)

/-- The loads' offsets outside the loop, and the loops' trip counts. -/
theorem off1 : ∀ t : Fin cfg1.N, k1_off1 (grid1.coords t) = ![0, t.val % 4, 0, 0] ∧ k1_off6 (grid1.coords t) = ![1024 * (t.val % 4), 0]
    ∧ k1_off7 (grid1.coords t) = ![1024 * (t.val % 4), 0] ∧ k1_off8 (grid1.coords t) = ![1024 * (t.val % 4), 0]
    ∧ k1_off9 (grid1.coords t) = ![1024 * (t.val % 4), 0] ∧ (k1_t1_loop (grid1.coords t)).trips = t.val % 4
    ∧ (k1_t2_loop (grid1.coords t)).trips = 0 :=
  (by decide +kernel : ∀ t : Fin grid1.N, _)

/-- The loads' offsets inside the loop. -/
theorem off1_loop : ∀ t : Fin cfg1.N, ∀ k : Fin (k1_t1_loop (grid1.coords t)).trips,
    k1_off2 (grid1.coords t) k = ![1024 * k.val, 0] ∧ k1_off3 (grid1.coords t) k = ![0, k.val, 0, 0] :=
  (by decide +kernel : ∀ t : Fin grid1.N, _)

/-- What the two gradient kernels find in the arrays they share, head by head. -/
structure Entry (V : (c : Dev nD) → (b : Ref sig .tc) → Buf (Elt Ideal) ((c : Thread nD τ).loc b)) (c : Dev nD) (X : Fin 8 → Head) : Prop where
  q : ∀ i (k : Fin 5120) (h : Fin 8) (d : Fin 128), k.val = h.val * 128 + d.val → @Eq EReal (V c main_v5 (ix2 i k)) (((X h).q i d : ℝ) : EReal)
  k : ∀ i (k : Fin 5120) (h : Fin 8) (d : Fin 128), k.val = 1024 + h.val * 128 + d.val → @Eq EReal (V c main_v5 (ix2 i k)) (((X h).k i d : ℝ) : EReal)
  v : ∀ i (k : Fin 5120) (h : Fin 8) (d : Fin 128), k.val = 2048 + h.val * 128 + d.val → @Eq EReal (V c main_v5 (ix2 i k)) (((X h).v i d : ℝ) : EReal)
  f : ∀ (h : Fin 8) (a : Fin 4) (t : Fin 1024) (i : Fin 4096), i.val = a.val * 1024 + t.val → @Eq EReal (V c main_v10 (ix4 h a 0 t)) (((X h).f i * rl : ℝ) : EReal)
  lse : ∀ (h : Fin 8) (a : Fin 4) (t : Fin 1024) (i : Fin 4096), i.val = a.val * 1024 + t.val → @Eq EReal (V c main_v52 (ix4 h a 0 t)) ((Real.log (Z (X h) i) * rl : ℝ) : EReal)
  del : ∀ (h : Fin 8) (a : Fin 4) (t : Fin 1024) (i : Fin 4096), i.val = a.val * 1024 + t.val → @Eq EReal (V c main_v55 (ix4 h a 0 t)) ((del (X h) i : ℝ) : EReal)

section
variable {V : (c : Dev nD) → (b : Ref sig .tc) → Buf (Elt Ideal) ((c : Thread nD τ).loc b)} {c : Dev nD} {X : Fin 8 → Head} (E : Entry V c X)
  (hO : ∀ i (k : Fin 1024) (h : Fin 8) (d : Fin 128), k.val = h.val * 128 + d.val → @Eq EReal (V c main_v56 (ix2 i k)) (((X h).o i d : ℝ) : EReal))
  (t : Fin cfg1.N) (h : Fin 8) (ht : h.val = t.val / 4)

include E ht in
theorem blk_q (r : Fin 1024) (d : Fin 128) (i : Fin 4096) (hi : i.val = 1024 * (t.val % 4) + r.val) :
    @Eq EReal (iblk1 V c 0 t (ix2 r d)) (((X h).q i d : ℝ) : EReal) := by
  obtain ⟨e0, e1, e2, e3, e4, e5, e6, e7, e8, htt⟩ := idx1 t
  refine Eq.trans ?_ (E.q i ⟨h.val * 128 + d.val, by omega⟩ h d rfl)
  blk_point [iblk1, idx1 t]
include E ht in
theorem blk_k (s : Fin 4096) (d : Fin 128) : @Eq EReal (iblk1 V c 1 t (ix2 s d)) (((X h).k s d : ℝ) : EReal) := by
  obtain ⟨e0, e1, e2, e3, e4, e5, e6, e7, e8, htt⟩ := idx1 t
  refine Eq.trans ?_ (E.k s ⟨1024 + h.val * 128 + d.val, by omega⟩ h d rfl)
  blk_point [iblk1, idx1 t]
include E ht in
theorem blk_v (s : Fin 4096) (d : Fin 128) : @Eq EReal (iblk1 V c 2 t (ix2 s d)) (((X h).v s d : ℝ) : EReal) := by
  obtain ⟨e0, e1, e2, e3, e4, e5, e6, e7, e8, htt⟩ := idx1 t
  refine Eq.trans ?_ (E.v s ⟨2048 + h.val * 128 + d.val, by omega⟩ h d rfl)
  blk_point [iblk1, idx1 t]
include hO ht in
theorem blk_o (r : Fin 1024) (d : Fin 128) (i : Fin 4096) (hi : i.val = 1024 * (t.val % 4) + r.val) :
    @Eq EReal (iblk1 V c 3 t (ix2 r d)) (((X h).o i d : ℝ) : EReal) := by
  obtain ⟨e0, e1, e2, e3, e4, e5, e6, e7, e8, htt⟩ := idx1 t
  refine Eq.trans ?_ (hO i ⟨h.val * 128 + d.val, by omega⟩ h d rfl)
  blk_point [iblk1, idx1 t]
include E ht in
theorem blk_f (a : Fin 4) (s : Fin 1024) (j : Fin 4096) (hj : j.val = 1024 * a.val + s.val) :
    @Eq EReal (iblk1 V c 4 t (ix4 0 a 0 s)) (((X h).f j * rl : ℝ) : EReal) := by
  obtain ⟨e0, e1, e2, e3, e4, e5, e6, e7, e8, htt⟩ := idx1 t
  refine Eq.trans ?_ (E.f h a s j (by omega))
  blk_point [iblk1, idx1 t]
include E ht in
theorem blk_lse (r : Fin 1024) (i : Fin 4096) (hi : i.val = 1024 * (t.val % 4) + r.val) :
    @Eq EReal (iblk1 V c 5 t (ix4 0 0 0 r)) ((Real.log (Z (X h) i) * rl : ℝ) : EReal) := by
  obtain ⟨e0, e1, e2, e3, e4, e5, e6, e7, e8, htt⟩ := idx1 t
  refine Eq.trans ?_ (E.lse h ⟨t.val % 4, by omega⟩ r i (by simp only; omega))
  blk_point [iblk1, idx1 t]
include E ht in
theorem blk_del (r : Fin 1024) (i : Fin 4096) (hi : i.val = 1024 * (t.val % 4) + r.val) :
    @Eq EReal (iblk1 V c 6 t (ix4 0 0 0 r)) ((del (X h) i : ℝ) : EReal) := by
  obtain ⟨e0, e1, e2, e3, e4, e5, e6, e7, e8, htt⟩ := idx1 t
  refine Eq.trans ?_ (E.del h ⟨t.val % 4, by omega⟩ r i (by simp only; omega))
  blk_point [iblk1, idx1 t]

/-- The bias column of the point's block. -/
abbrev biasv (V : (c : Dev nD) → (b : Ref sig .tc) → Buf (Elt Ideal) ((c : Thread nD τ).loc b)) (c : Dev nD) (t : Fin cfg1.N) : FVec Ideal S1024x1 .f32 :=
  k1_pay5 (View.ld (iblk1 V c 4 t) (Rect.unit (s := S1x4x1x1024) (k1_off1 (grid1.coords t)) ![1, 1, 1, 1024] (k1_off1_inb (grid1.coords t)))) (iblk1 V c 5 t)

include E ht in
theorem blk_bias (r : Fin 1024) (i : Fin 4096) (hi : i.val = 1024 * (t.val % 4) + r.val) :
    @Eq EReal (biasv V c t (ix2 r 0)) (((X h).f i * rl - Real.log (Z (X h) i) * rl : ℝ) : EReal) := by
  refine (bias_at _ _ r).trans ?_
  rw [EReal.coe_sub]
  refine congrArg₂ (· - ·) (Eq.trans ?_ (blk_f E t h ht ⟨t.val % 4, by omega⟩ r i hi)) (blk_lse E t h ht r i hi)
  blk_point [off1 t]
include E ht in
theorem blk_dl (r : Fin 1024) (i : Fin 4096) (hi : i.val = 1024 * (t.val % 4) + r.val) :
    @Eq EReal (k1_pay8 (F := Ideal) (k1_pay6 (iblk1 V c 6 t)) (k1_pay7 (iblk1 V c 6 t)) (ix2 r 0)) ((del (X h) i : ℝ) : EReal) :=
  (delta_at _ r).trans (blk_del E t h ht r i hi)
include hO ht in
theorem blk_do (r : Fin 1024) (d : Fin 128) (i : Fin 4096) (hi : i.val = 1024 * (t.val % 4) + r.val) :
    @Eq EReal (k1_pay9 (F := Ideal) (iblk1 V c 3 t) (ix2 r d)) (((X h).o i d : ℝ) : EReal) := by
  refine Eq.trans ?_ (blk_o hO t h ht r d i hi)
  pointwise [k1_pay9]

end
end Cert.AttnKIdeal.Value
-- ==== Proof.AttnDqTrip.lean ====
module

public import proofs.«01_k».proof.Proof.AttnDqBlk

@[expose] public section

set_option maxRecDepth 16384

noncomputable section

namespace Cert.AttnKIdeal.Value
open Cert.AttnKIdeal Cert.AttnKIdeal.Gen Cert.AttnMath Idealize.ShloMosaic Idealize.ShloMosaic.TcCoe Idealize.SL.Sem
open Idealize.ShloMosaic.Pipeline (Dat)

/-- One trip of the loop over earlier blocks: the block's terms are added to the two accumulators. -/
theorem trip_dq (c : Dev nD) (i : grid1.Coords) (arg2 : Memref sig .tc .vmem S1024x128 .bf16) (h2 : arg2.IsWhole)
    (arg3 : Memref sig .tc .vmem S4096x128 .bf16) (h3 : arg3.IsWhole) (arg4 : Memref sig .tc .vmem S4096x128 .bf16) (h4 : arg4.IsWhole)
    (arg5 : Memref sig .tc .vmem S1024x128 .f32) (h5 : arg5.IsWhole) (arg6 : Memref sig .tc .vmem S1x4x1x1024 .f32) (h6 : arg6.IsWhole)
    (arg7 : Memref sig .tc .vmem S1x1x1x1024 .f32) (h7 : arg7.IsWhole) (arg8 : Memref sig .tc .vmem S1x1x1x1024 .f32) (h8 : arg8.IsWhole)
    (arg9 : Memref sig .tc .vmem S1024x128 .bf16) (h9 : arg9.IsWhole) (arg10 : Memref sig .tc .vmem S1x1x1x1024 .f32) (h10 : arg10.IsWhole)
    (arg1 : BitVec 32) (v42 : FVec Ideal S128x1024 .f32) (v43 : FVec Ideal S128x128 .f32)
    (x0 : Vec Ideal S1024x128 .bf16) (x1 x2 : Vec Ideal S4096x128 .bf16) (x4 : Vec Ideal S1x4x1x1024 .f32)
    (b : Vec Ideal S1024x1 .f32) (o : Vec Ideal S1024x128 .bf16) (dl : Vec Ideal S1024x1 .f32)
    (k : Fin (k1_t1_loop i).trips) (acc : FVec Ideal S1024x128 .f32 × FVec Ideal S1024x1 .f32) :
    tripR_k1_t1 (F := Ideal) Variants.none c none i arg2 h2 arg3 h3 arg4 h4 arg5 h5 arg6 h6 arg7 h7 arg8 h8 arg9 h9 arg10 h10
      scM1_0 (Memref.isWhole_whole _) scM1_1 (Memref.isWhole_whole _) scM1_2 (Memref.isWhole_whole _) arg1 v42 v43
      (h2.unread x0) (h3.unread x1) (h4.unread x2) (h6.unread x4)
      (scM1_0.view.writes (Elt Ideal) scM1_0.view.junk [⟨Rect.unit ![0, 0] ![1024, 1] inb_S1024x1_S1024x1_0_0, b⟩])
      (scM1_1.view.writes (Elt Ideal) scM1_1.view.junk [⟨Rect.unit ![0, 0] ![1024, 128] inb_S1024x128_S1024x128_0_0, o⟩])
      (scM1_2.view.writes (Elt Ideal) scM1_2.view.junk [⟨Rect.unit ![0, 0] ![1024, 1] inb_S1024x1_S1024x1_0_0, dl⟩]) k acc =
      (k1_pay14 acc.1 (View.ld x1 (Rect.unit (s := S4096x128) (k1_off2 i k) ![1024, 128] (k1_off2_inb i k))) x0 b (View.ld x4 (Rect.unit (s := S1x4x1x1024) (k1_off3 i k) ![1, 1, 1, 1024] (k1_off3_inb i k))) o (View.ld x2 (Rect.unit (s := S4096x128) (k1_off2 i k) ![1024, 128] (k1_off2_inb i k))) dl,
       k1_pay15 acc.2 (View.ld x1 (Rect.unit (s := S4096x128) (k1_off2 i k) ![1024, 128] (k1_off2_inb i k))) x0 b (View.ld x4 (Rect.unit (s := S1x4x1x1024) (k1_off3 i k) ![1, 1, 1, 1024] (k1_off3_inb i k))) o (View.ld x2 (Rect.unit (s := S4096x128) (k1_off2 i k) ![1024, 128] (k1_off2_inb i k))) dl) := by
  unfold tripR_k1_t1 trip_k1_t1
  frame_out
  try rfl

/-- A load of rows from a given row on. -/
theorem ld_rows {n N m : ℕ} {off : Fin 2 → ℕ} (x : Vec Ideal ⟨2, ![N, 128]⟩ .bf16) (inb : ∀ a, off a + ![n, 128] a ≤ ![N, 128] a) (ho : off = ![m, 0]) (s : Fin n) (d : Fin 128) (hs : m + s.val < N) :
    View.ld x (Rect.unit (s := ⟨2, ![N, 128]⟩) off ![n, 128] inb) (ix2 s d) = x (ix2 ⟨m + s.val, hs⟩ d) := by
  subst ho
  refine congrArg x (funext fun a => Fin.ext ?_)
  fin_cases a <;> simp [Rect.unit, ix2]

/-- A load of one row of the blocked rows. -/
theorem ld_row {a : ℕ} {off : Fin 4 → ℕ} (x : Vec Ideal S1x4x1x1024 .f32) (inb : ∀ b, off b + ![1, 1, 1, 1024] b ≤ ![1, 4, 1, 1024] b) (ho : off = ![0, a, 0, 0]) (s : Fin 1024) (ha : a < 4) :
    View.ld x (Rect.unit (s := S1x4x1x1024) off ![1, 1, 1, 1024] inb) (ix4 0 0 0 s) = x (ix4 0 ⟨a, ha⟩ 0 s) := by
  subst ho
  refine congrArg x (funext fun b => Fin.ext ?_)
  fin_cases b <;> simp [Rect.unit, ix4]

/-- What row `r` of the point's block has at hand: query `i` of head `x`, and all keys. -/
structure Line (x : Head) (i : Fin 4096) (r : Fin 1024) (x0 : Vec Ideal S1024x128 .bf16) (x1 x2 : Vec Ideal S4096x128 .bf16) (x4 : Vec Ideal S1x4x1x1024 .f32)
    (b : Vec Ideal S1024x1 .f32) (o : Vec Ideal S1024x128 .bf16) (dl : Vec Ideal S1024x1 .f32) : Prop where
  q : ∀ d, @Eq EReal (x0 (ix2 r d)) ((x.q i d : ℝ) : EReal)
  k : ∀ s d, @Eq EReal (x1 (ix2 s d)) ((x.k s d : ℝ) : EReal)
  v : ∀ s d, @Eq EReal (x2 (ix2 s d)) ((x.v s d : ℝ) : EReal)
  f : ∀ (a : Fin 4) (s : Fin 1024) (j : Fin 4096), j.val = 1024 * a.val + s.val → @Eq EReal (x4 (ix4 0 a 0 s)) ((x.f j * rl : ℝ) : EReal)
  b : @Eq EReal (b (ix2 r 0)) ((x.f i * rl - Real.log (Z x i) * rl : ℝ) : EReal)
  o : ∀ d, @Eq EReal (o (ix2 r d)) ((x.o i d : ℝ) : EReal)
  dl : @Eq EReal (dl (ix2 r 0)) ((del x i : ℝ) : EReal)

/-- The two accumulators before trip `n`: the sums over the keys of the first `n` blocks. -/
theorem past_dq (c : Dev nD) (t : Fin cfg1.N) (arg2 : Memref sig .tc .vmem S1024x128 .bf16) (h2 : arg2.IsWhole)
    (arg3 : Memref sig .tc .vmem S4096x128 .bf16) (h3 : arg3.IsWhole) (arg4 : Memref sig .tc .vmem S4096x128 .bf16) (h4 : arg4.IsWhole)
    (arg5 : Memref sig .tc .vmem S1024x128 .f32) (h5 : arg5.IsWhole) (arg6 : Memref sig .tc .vmem S1x4x1x1024 .f32) (h6 : arg6.IsWhole)
    (arg7 : Memref sig .tc .vmem S1x1x1x1024 .f32) (h7 : arg7.IsWhole) (arg8 : Memref sig .tc .vmem S1x1x1x1024 .f32) (h8 : arg8.IsWhole)
    (arg9 : Memref sig .tc .vmem S1024x128 .bf16) (h9 : arg9.IsWhole) (arg10 : Memref sig .tc .vmem S1x1x1x1024 .f32) (h10 : arg10.IsWhole)
    (arg1 : BitVec 32) (v42 : FVec Ideal S128x1024 .f32) (v43 : FVec Ideal S128x128 .f32)
    (x0 : Vec Ideal S1024x128 .bf16) (x1 x2 : Vec Ideal S4096x128 .bf16) (x4 : Vec Ideal S1x4x1x1024 .f32)
    (b : Vec Ideal S1024x1 .f32) (o : Vec Ideal S1024x128 .bf16) (dl : Vec Ideal S1024x1 .f32)
    {x : Head} {i : Fin 4096} {r : Fin 1024} (hL : Line x i r x0 x1 x2 x4 b o dl) (hi : i.val = 1024 * (t.val % 4) + r.val) (init : FVec Ideal S1024x128 .f32 × FVec Ideal S1024x1 .f32)
    (h1 : ∀ d, @Eq EReal (init.1 (ix2 r d)) ((0 : ℝ) : EReal)) (h2' : @Eq EReal (init.2 (ix2 r 0)) ((0 : ℝ) : EReal)) (n : ℕ) (hn : n ≤ t.val % 4) :
    (∀ d, @Eq EReal ((st_k1_t1 (F := Ideal) Variants.none c none (grid1.coords t) arg2 h2 arg3 h3 arg4 h4 arg5 h5 arg6 h6 arg7 h7 arg8 h8 arg9 h9 arg10 h10
      scM1_0 (Memref.isWhole_whole _) scM1_1 (Memref.isWhole_whole _) scM1_2 (Memref.isWhole_whole _) arg1 v42 v43
      (h2.unread x0) (h3.unread x1) (h4.unread x2) (h6.unread x4)
      (scM1_0.view.writes (Elt Ideal) scM1_0.view.junk [⟨Rect.unit ![0, 0] ![1024, 1] inb_S1024x1_S1024x1_0_0, b⟩])
      (scM1_1.view.writes (Elt Ideal) scM1_1.view.junk [⟨Rect.unit ![0, 0] ![1024, 128] inb_S1024x128_S1024x128_0_0, o⟩])
      (scM1_2.view.writes (Elt Ideal) scM1_2.view.junk [⟨Rect.unit ![0, 0] ![1024, 1] inb_S1024x1_S1024x1_0_0, dl⟩]) init n).1 (ix2 r d)) ((∑ J : Fin n, ∑ s : Fin 1024, ds x i ⟨1024 * J.val + s.val, by omega⟩ * x.k ⟨1024 * J.val + s.val, by omega⟩ d : ℝ) : EReal))
      ∧ @Eq EReal ((st_k1_t1 (F := Ideal) Variants.none c none (grid1.coords t) arg2 h2 arg3 h3 arg4 h4 arg5 h5 arg6 h6 arg7 h7 arg8 h8 arg9 h9 arg10 h10
      scM1_0 (Memref.isWhole_whole _) scM1_1 (Memref.isWhole_whole _) scM1_2 (Memref.isWhole_whole _) arg1 v42 v43
      (h2.unread x0) (h3.unread x1) (h4.unread x2) (h6.unread x4)
      (scM1_0.view.writes (Elt Ideal) scM1_0.view.junk [⟨Rect.unit ![0, 0] ![1024, 1] inb_S1024x1_S1024x1_0_0, b⟩])
      (scM1_1.view.writes (Elt Ideal) scM1_1.view.junk [⟨Rect.unit ![0, 0] ![1024, 128] inb_S1024x128_S1024x128_0_0, o⟩])
      (scM1_2.view.writes (Elt Ideal) scM1_2.view.junk [⟨Rect.unit ![0, 0] ![1024, 1] inb_S1024x1_S1024x1_0_0, dl⟩]) init n).2 (ix2 r 0)) ((∑ J : Fin n, ∑ s : Fin 1024, ds x i ⟨1024 * J.val + s.val, by omega⟩ : ℝ) : EReal) := by
  induction n with
  | zero =>
    rw [st_k1_t1_zero]
    simp only [Finset.univ_eq_empty, Finset.sum_empty]
    exact ⟨h1, h2'⟩
  | succ n ih =>
    obtain ⟨e1, e2⟩ := ih (by omega)
    have htr : (k1_t1_loop (grid1.coords t)).trips = t.val % 4 := (off1 t).2.2.2.2.2.1
    have hk : n < (k1_t1_loop (grid1.coords t)).trips := by omega
    have hs := fun init => st_k1_t1_succ (F := Ideal) Variants.none c none (grid1.coords t) arg2 h2 arg3 h3 arg4 h4 arg5 h5 arg6 h6 arg7 h7 arg8 h8 arg9 h9 arg10 h10
      scM1_0 (Memref.isWhole_whole _) scM1_1 (Memref.isWhole_whole _) scM1_2 (Memref.isWhole_whole _) arg1 v42 v43
      (h2.unread x0) (h3.unread x1) (h4.unread x2) (h6.unread x4)
      (scM1_0.view.writes (Elt Ideal) scM1_0.view.junk [⟨Rect.unit ![0, 0] ![1024, 1] inb_S1024x1_S1024x1_0_0, b⟩])
      (scM1_1.view.writes (Elt Ideal) scM1_1.view.junk [⟨Rect.unit ![0, 0] ![1024, 128] inb_S1024x128_S1024x128_0_0, o⟩])
      (scM1_2.view.writes (Elt Ideal) scM1_2.view.junk [⟨Rect.unit ![0, 0] ![1024, 1] inb_S1024x1_S1024x1_0_0, dl⟩]) init ⟨n, hk⟩
    obtain ⟨o2, o3⟩ := off1_loop t ⟨n, hk⟩
    have hR : Row (n := 1024) x i (fun s => ⟨1024 * n + s.val, by omega⟩) r (by omega : 1024 ≤ 1024) (fun r d => x0 (ix2 r d))
        (fun s d => View.ld x1 (Rect.unit (s := S4096x128) (k1_off2 (grid1.coords t) ⟨n, hk⟩) ![1024, 128] (k1_off2_inb (grid1.coords t) ⟨n, hk⟩)) (ix2 s d))
        (fun s d => View.ld x2 (Rect.unit (s := S4096x128) (k1_off2 (grid1.coords t) ⟨n, hk⟩) ![1024, 128] (k1_off2_inb (grid1.coords t) ⟨n, hk⟩)) (ix2 s d))
        (fun r d => o (ix2 r d)) (fun r => b (ix2 r 0)) (fun r => dl (ix2 r 0))
        (fun s : Fin 1024 => View.ld x4 (Rect.unit (s := S1x4x1x1024) (k1_off3 (grid1.coords t) ⟨n, hk⟩) ![1, 1, 1, 1024] (k1_off3_inb (grid1.coords t) ⟨n, hk⟩)) (ix4 0 0 0 s)) :=
     {q := hL.q,
      o := hL.o,
      k := fun s d => Eq.trans (ld_rows _ _ o2 s d (by simp only; omega)) (hL.k ⟨1024 * n + s.val, by omega⟩ d),
      v := fun s d => Eq.trans (ld_rows _ _ o2 s d (by simp only; omega)) (hL.v ⟨1024 * n + s.val, by omega⟩ d),
      b := hL.b,
      dl := hL.dl,
      f := fun s => Eq.trans (ld_row _ _ o3 s (by simp only; omega)) (hL.f ⟨n, by omega⟩ s ⟨1024 * n + s.val, by omega⟩ rfl)}
    have hj : ∀ s : Fin 1024, (⟨1024 * n + s.val, by omega⟩ : Fin 4096) ≤ i := fun s => by
      show 1024 * n + s.val ≤ i.val
      omega
    constructor
    · intro d
      rw [hs, trip_dq, Fin.sum_univ_castSucc]
      exact past_acc _ _ _ _ _ _ _ _ r d (e1 d) hR hj
    · rw [hs, trip_dq, Fin.sum_univ_castSucc]
      exact past_rs _ _ _ _ _ _ _ _ r e2 hR hj

end Cert.AttnKIdeal.Value
-- ==== Proof.AttnDq.lean ====
module

public import proofs.«01_k».proof.Proof.AttnDqTrip
public import Idealize.ShloMosaic.Lib.VecWindow

@[expose] public section

set_option maxRecDepth 16384

noncomputable section

namespace Cert.AttnKIdeal.Value
open Cert.AttnKIdeal Cert.AttnKIdeal.Gen Cert.AttnMath Idealize.ShloMosaic Idealize.ShloMosaic.TcCoe Idealize.SL.Sem
open Idealize.ShloMosaic.Pipeline (Dat)

/-- The accumulators after both loops: the second makes no trip. -/
theorem loops_dq (c : Dev nD) (t : Fin cfg1.N) (arg2 : Memref sig .tc .vmem S1024x128 .bf16) (h2 : arg2.IsWhole)
    (arg3 : Memref sig .tc .vmem S4096x128 .bf16) (h3 : arg3.IsWhole) (arg4 : Memref sig .tc .vmem S4096x128 .bf16) (h4 : arg4.IsWhole)
    (arg5 : Memref sig .tc .vmem S1024x128 .f32) (h5 : arg5.IsWhole) (arg6 : Memref sig .tc .vmem S1x4x1x1024 .f32) (h6 : arg6.IsWhole)
    (arg7 : Memref sig .tc .vmem S1x1x1x1024 .f32) (h7 : arg7.IsWhole) (arg8 : Memref sig .tc .vmem S1x1x1x1024 .f32) (h8 : arg8.IsWhole)
    (arg9 : Memref sig .tc .vmem S1024x128 .bf16) (h9 : arg9.IsWhole) (arg10 : Memref sig .tc .vmem S1x1x1x1024 .f32) (h10 : arg10.IsWhole)
    (arg1 : BitVec 32) (v42 : FVec Ideal S128x1024 .f32) (v43 : FVec Ideal S128x128 .f32)
    (x0 : Vec Ideal S1024x128 .bf16) (x1 x2 : Vec Ideal S4096x128 .bf16) (x4 : Vec Ideal S1x4x1x1024 .f32)
    (b : Vec Ideal S1024x1 .f32) (o : Vec Ideal S1024x128 .bf16) (dl : Vec Ideal S1024x1 .f32)
    {x : Head} {i : Fin 4096} {r : Fin 1024} (hL : Line x i r x0 x1 x2 x4 b o dl) (hi : i.val = 1024 * (t.val % 4) + r.val) {n1 n2 : ℕ} (e1 : n1 = t.val % 4) (e2 : n2 = 0) :
    (∀ d, @Eq EReal ((st_k1_t2 (F := Ideal) Variants.none c none (grid1.coords t) arg2 h2 arg3 h3 arg4 h4 arg5 h5 arg6 h6 arg7 h7 arg8 h8 arg9 h9 arg10 h10
      scM1_0 (Memref.isWhole_whole _) scM1_1 (Memref.isWhole_whole _) scM1_2 (Memref.isWhole_whole _) arg1 v42 v43
      (h2.unread x0) (h3.unread x1) (h4.unread x2) (h6.unread x4)
      (scM1_0.view.writes (Elt Ideal) scM1_0.view.junk [⟨Rect.unit ![0, 0] ![1024, 1] inb_S1024x1_S1024x1_0_0, b⟩])
      (scM1_1.view.writes (Elt Ideal) scM1_1.view.junk [⟨Rect.unit ![0, 0] ![1024, 128] inb_S1024x128_S1024x128_0_0, o⟩])
      (scM1_2.view.writes (Elt Ideal) scM1_2.view.junk [⟨Rect.unit ![0, 0] ![1024, 1] inb_S1024x1_S1024x1_0_0, dl⟩]) ((st_k1_t1 (F := Ideal) Variants.none c none (grid1.coords t) arg2 h2 arg3 h3 arg4 h4 arg5 h5 arg6 h6 arg7 h7 arg8 h8 arg9 h9 arg10 h10
      scM1_0 (Memref.isWhole_whole _) scM1_1 (Memref.isWhole_whole _) scM1_2 (Memref.isWhole_whole _) arg1 v42 v43
      (h2.unread x0) (h3.unread x1) (h4.unread x2) (h6.unread x4)
      (scM1_0.view.writes (Elt Ideal) scM1_0.view.junk [⟨Rect.unit ![0, 0] ![1024, 1] inb_S1024x1_S1024x1_0_0, b⟩])
      (scM1_1.view.writes (Elt Ideal) scM1_1.view.junk [⟨Rect.unit ![0, 0] ![1024, 128] inb_S1024x128_S1024x128_0_0, o⟩])
      (scM1_2.view.writes (Elt Ideal) scM1_2.view.junk [⟨Rect.unit ![0, 0] ![1024, 1] inb_S1024x1_S1024x1_0_0, dl⟩]) (k1_pay10, k1_pay11) n1).1, (st_k1_t1 (F := Ideal) Variants.none c none (grid1.coords t) arg2 h2 arg3 h3 arg4 h4 arg5 h5 arg6 h6 arg7 h7 arg8 h8 arg9 h9 arg10 h10
      scM1_0 (Memref.isWhole_whole _) scM1_1 (Memref.isWhole_whole _) scM1_2 (Memref.isWhole_whole _) arg1 v42 v43
      (h2.unread x0) (h3.unread x1) (h4.unread x2) (h6.unread x4)
      (scM1_0.view.writes (Elt Ideal) scM1_0.view.junk [⟨Rect.unit ![0, 0] ![1024, 1] inb_S1024x1_S1024x1_0_0, b⟩])
      (scM1_1.view.writes (Elt Ideal) scM1_1.view.junk [⟨Rect.unit ![0, 0] ![1024, 128] inb_S1024x128_S1024x128_0_0, o⟩])
      (scM1_2.view.writes (Elt Ideal) scM1_2.view.junk [⟨Rect.unit ![0, 0] ![1024, 1] inb_S1024x1_S1024x1_0_0, dl⟩]) (k1_pay10, k1_pay11) n1).2) n2).1 (ix2 r d))
        ((∑ J : Fin (t.val % 4), ∑ s : Fin 1024, ds x i ⟨1024 * J.val + s.val, by omega⟩ * x.k ⟨1024 * J.val + s.val, by omega⟩ d : ℝ) : EReal))
      ∧ @Eq EReal ((st_k1_t2 (F := Ideal) Variants.none c none (grid1.coords t) arg2 h2 arg3 h3 arg4 h4 arg5 h5 arg6 h6 arg7 h7 arg8 h8 arg9 h9 arg10 h10
      scM1_0 (Memref.isWhole_whole _) scM1_1 (Memref.isWhole_whole _) scM1_2 (Memref.isWhole_whole _) arg1 v42 v43
      (h2.unread x0) (h3.unread x1) (h4.unread x2) (h6.unread x4)
      (scM1_0.view.writes (Elt Ideal) scM1_0.view.junk [⟨Rect.unit ![0, 0] ![1024, 1] inb_S1024x1_S1024x1_0_0, b⟩])
      (scM1_1.view.writes (Elt Ideal) scM1_1.view.junk [⟨Rect.unit ![0, 0] ![1024, 128] inb_S1024x128_S1024x128_0_0, o⟩])
      (scM1_2.view.writes (Elt Ideal) scM1_2.view.junk [⟨Rect.unit ![0, 0] ![1024, 1] inb_S1024x1_S1024x1_0_0, dl⟩]) ((st_k1_t1 (F := Ideal) Variants.none c none (grid1.coords t) arg2 h2 arg3 h3 arg4 h4 arg5 h5 arg6 h6 arg7 h7 arg8 h8 arg9 h9 arg10 h10
      scM1_0 (Memref.isWhole_whole _) scM1_1 (Memref.isWhole_whole _) scM1_2 (Memref.isWhole_whole _) arg1 v42 v43
      (h2.unread x0) (h3.unread x1) (h4.unread x2) (h6.unread x4)
      (scM1_0.view.writes (Elt Ideal) scM1_0.view.junk [⟨Rect.unit ![0, 0] ![1024, 1] inb_S1024x1_S1024x1_0_0, b⟩])
      (scM1_1.view.writes (Elt Ideal) scM1_1.view.junk [⟨Rect.unit ![0, 0] ![1024, 128] inb_S1024x128_S1024x128_0_0, o⟩])
      (scM1_2.view.writes (Elt Ideal) scM1_2.view.junk [⟨Rect.unit ![0, 0] ![1024, 1] inb_S1024x1_S1024x1_0_0, dl⟩]) (k1_pay10, k1_pay11) n1).1, (st_k1_t1 (F := Ideal) Variants.none c none (grid1.coords t) arg2 h2 arg3 h3 arg4 h4 arg5 h5 arg6 h6 arg7 h7 arg8 h8 arg9 h9 arg10 h10
      scM1_0 (Memref.isWhole_whole _) scM1_1 (Memref.isWhole_whole _) scM1_2 (Memref.isWhole_whole _) arg1 v42 v43
      (h2.unread x0) (h3.unread x1) (h4.unread x2) (h6.unread x4)
      (scM1_0.view.writes (Elt Ideal) scM1_0.view.junk [⟨Rect.unit ![0, 0] ![1024, 1] inb_S1024x1_S1024x1_0_0, b⟩])
      (scM1_1.view.writes (Elt Ideal) scM1_1.view.junk [⟨Rect.unit ![0, 0] ![1024, 128] inb_S1024x128_S1024x128_0_0, o⟩])
      (scM1_2.view.writes (Elt Ideal) scM1_2.view.junk [⟨Rect.unit ![0, 0] ![1024, 1] inb_S1024x1_S1024x1_0_0, dl⟩]) (k1_pay10, k1_pay11) n1).2) n2).2 (ix2 r 0))
        ((∑ J : Fin (t.val % 4), ∑ s : Fin 1024, ds x i ⟨1024 * J.val + s.val, by omega⟩ : ℝ) : EReal) := by
  subst e1 e2
  rw [st_k1_t2_zero]
  refine past_dq c t arg2 h2 arg3 h3 arg4 h4 arg5 h5 arg6 h6 arg7 h7 arg8 h8 arg9 h9 arg10 h10 arg1 v42 v43 x0 x1 x2 x4 b o dl hL hi (k1_pay10, k1_pay11) (fun d => ?_) ?_ _ le_rfl
  · pointwise [k1_pay10]
    exact EReal.coe_zero.symm
  · pointwise [k1_pay11]
    exact EReal.coe_zero.symm

/-- A load of 256 rows from a scratch column or block that was stored whole. -/
theorem cov_rows {κ : Kind} {sp : Space} {N m e : ℕ} {φ : EltTy} (v : View sig κ sp ⟨2, ![N, m]⟩ φ) {inb' : ∀ a, ![0, 0] a + ![N, m] a ≤ ![N, m] a}
    (inb : ∀ a, ![e, 0] a + ![256, m] a ≤ ![N, m] a) (w : Vec Ideal ⟨2, ![N, m]⟩ φ) (r : Fin 256) (d : Fin m) (he : e + r.val < N) :
    v.readCov (Val := Elt Ideal) [⟨Rect.unit (s := ⟨2, ![N, m]⟩) ![0, 0] ![N, m] inb', w⟩] (Rect.unit (s := ⟨2, ![N, m]⟩) ![e, 0] ![256, m] inb).toLoadRect (ix2 r d) = w (ix2 ⟨e + r.val, he⟩ d) := by
  refine (congrFun (View.read_writes_full v v.junk inb' w []) _).trans ?_
  refine congrArg w (funext fun a => Fin.ext ?_)
  fin_cases a <;> simp [Rect.unit, ix2]

/-- Row `r` of a group of 256 queries, with the keys of the diagonal block up to the group's end. -/
theorem diag_row {n e I : ℕ} {x : Head} {i : Fin 4096} {r : Fin 256} {r' : Fin 1024} (hn : n ≤ 1024) (hI : I < 4) (hr' : r'.val = e + r.val) {off1 : Fin 4 → ℕ} {off6 : Fin 2 → ℕ}
    {x0 : Vec Ideal S1024x128 .bf16} {x1 x2 : Vec Ideal S4096x128 .bf16} {x4 : Vec Ideal S1x4x1x1024 .f32}
    {b : Vec Ideal S1024x1 .f32} {o : Vec Ideal S1024x128 .bf16} {dl : Vec Ideal S1024x1 .f32} (hL : Line x i r' x0 x1 x2 x4 b o dl)
    (inb1 : ∀ a, off1 a + ![1, 1, 1, 1024] a ≤ ![1, 4, 1, 1024] a) (ho1 : off1 = ![0, I, 0, 0])
    (inb6 : ∀ a, off6 a + ![n, 128] a ≤ ![4096, 128] a) (ho6 : off6 = ![1024 * I, 0])
    (inb0 : ∀ a, ![e, 0] a + ![256, 128] a ≤ ![1024, 128] a) (inbc : ∀ a, ![e, 0] a + ![256, 1] a ≤ ![1024, 1] a) :
    Row (n := n) x i (fun s => ⟨1024 * I + s.val, by omega⟩) r hn (fun r d => View.ld x0 (Rect.unit (s := S1024x128) ![e, 0] ![256, 128] inb0) (ix2 r d))
      (fun s d => View.ld x1 (Rect.unit (s := S4096x128) off6 ![n, 128] inb6) (ix2 s d)) (fun s d => View.ld x2 (Rect.unit (s := S4096x128) off6 ![n, 128] inb6) (ix2 s d))
      (fun r d => scM1_1.view.readCov (Val := Elt Ideal) [⟨Rect.unit ![0, 0] ![1024, 128] inb_S1024x128_S1024x128_0_0, o⟩] (Rect.unit (s := S1024x128) ![e, 0] ![256, 128] inb0).toLoadRect (ix2 r d))
      (fun r => scM1_0.view.readCov (Val := Elt Ideal) [⟨Rect.unit ![0, 0] ![1024, 1] inb_S1024x1_S1024x1_0_0, b⟩] (Rect.unit (s := S1024x1) ![e, 0] ![256, 1] inbc).toLoadRect (ix2 r 0))
      (fun r => scM1_2.view.readCov (Val := Elt Ideal) [⟨Rect.unit ![0, 0] ![1024, 1] inb_S1024x1_S1024x1_0_0, dl⟩] (Rect.unit (s := S1024x1) ![e, 0] ![256, 1] inbc).toLoadRect (ix2 r 0))
      (fun s : Fin 1024 => View.ld x4 (Rect.unit (s := S1x4x1x1024) off1 ![1, 1, 1, 1024] inb1) (ix4 0 0 0 s)) := by
  have hr : e + r.val < 1024 := by omega
  obtain rfl : r' = ⟨e + r.val, hr⟩ := Fin.ext hr'
  exact
  { q := fun d => (ld_rows x0 inb0 rfl r d hr).trans (hL.q d)
    o := fun d => (cov_rows scM1_1.view inb0 o r d hr).trans (hL.o d)
    k := fun s d => (ld_rows x1 inb6 ho6 s d (by omega)).trans (hL.k _ d)
    v := fun s d => (ld_rows x2 inb6 ho6 s d (by omega)).trans (hL.v _ d)
    b := (cov_rows scM1_0.view inbc b r 0 hr).trans hL.b
    dl := (cov_rows scM1_2.view inbc dl r 0 hr).trans hL.dl
    f := fun s => (ld_row x4 inb1 ho1 ⟨s.val, by omega⟩ hI).trans (hL.f ⟨I, hI⟩ ⟨s.val, by omega⟩ ⟨1024 * I + s.val, by omega⟩ rfl) }

/-- The earlier blocks and the diagonal block up to the group's end give the whole sum. -/
theorem dq_sum {x : Head} {i : Fin 4096} (d : Fin 128) {n I : ℕ} (hI : I < 4) (hn : n ≤ 1024) (hi : i.val < 1024 * I + n) :
    ((∑ J : Fin I, ∑ s : Fin 1024, ds x i ⟨1024 * J.val + s.val, by omega⟩ * x.k ⟨1024 * J.val + s.val, by omega⟩ d)
      + ∑ s : Fin n, ds x i ⟨1024 * I + s.val, by omega⟩ * x.k ⟨1024 * I + s.val, by omega⟩ d) * scale = DQ x i d := by
  unfold DQ
  refine congrArg (· * scale) (sum_blocks (fun j => ds x i j * x.k j d) I n hI hn fun j hj => ?_)
  rw [ds_above x (fun h => by have : j.val ≤ i.val := h; omega), zero_mul]

theorem rs_sum {x : Head} {i : Fin 4096} {n I : ℕ} (hI : I < 4) (hn : n ≤ 1024) (hi : i.val < 1024 * I + n) :
    (∑ J : Fin I, ∑ s : Fin 1024, ds x i ⟨1024 * J.val + s.val, by omega⟩) + ∑ s : Fin n, ds x i ⟨1024 * I + s.val, by omega⟩ = 0 := by
  rw [← sum_ds x i]
  refine sum_blocks (fun j => ds x i j) I n hI hn fun j hj => ?_
  exact ds_above x (fun h => by have : j.val ≤ i.val := h; omega)

section
variable {V : (c : Dev nD) → (b : Ref sig .tc) → Buf (Elt Ideal) ((c : Thread nD τ).loc b)} {c : Dev nD} {X : Fin 8 → Head} (E : Entry V c X)
  (hO : ∀ i (k : Fin 1024) (h : Fin 8) (d : Fin 128), k.val = h.val * 128 + d.val → @Eq EReal (V c main_v56 (ix2 i k)) (((X h).o i d : ℝ) : EReal))

include E hO in
theorem line (t : Fin cfg1.N) (h : Fin 8) (ht : h.val = t.val / 4) (r : Fin 1024) (i : Fin 4096) (hi : i.val = 1024 * (t.val % 4) + r.val) :
    Line (X h) i r (iblk1 V c 0 t) (iblk1 V c 1 t) (iblk1 V c 2 t) (iblk1 V c 4 t) (biasv V c t) (k1_pay9 (iblk1 V c 3 t)) (k1_pay8 (k1_pay6 (iblk1 V c 6 t)) (k1_pay7 (iblk1 V c 6 t))) :=
  { q := fun d => blk_q E t h ht r d i hi
    k := fun s d => blk_k E t h ht s d
    v := fun s d => blk_v E t h ht s d
    f := fun a s j hj => blk_f E t h ht a s j hj
    b := blk_bias E t h ht r i hi
    o := fun d => blk_do hO t h ht r d i hi
    dl := blk_dl E t h ht r i hi }

theorem dq_congr {h h' : Fin 8} {i i' : Fin 4096} {d d' : Fin 128} (eh : h' = h) (ei : i' = i) (ed : d' = d) :
    @Eq EReal ((DQ (X h) i d : ℝ) : EReal) ((DQ (X h') i' d' : ℝ) : EReal) := by
  subst eh ei ed; rfl

set_option maxHeartbeats 1000000 in
include E hO in
/-- The queries' gradient, as the kernel leaves it. -/
theorem dq_final : (dat1 V c).arrAt 7 cfg1.N = fun j : S4096x1024.Idx => ((DQ (X ⟨(j 1).val / 128, by have := (j 1).isLt; simp at this; omega⟩) (j 0) ⟨(j 1).val % 128, by omega⟩ : ℝ) : EReal) := by
  refine (dat1 V c).arrAt_eq_of_covers 7 _ (by decide +kernel) fun t _ y => ?_
  blk_simp
  rw [after1_7]
  unfold outsAt1
  frame_out
  obtain ⟨e0, e1, e2, e3, e4, e5, e6, e7, e8, htt⟩ := idx1 t
  obtain ⟨o1, o6, o7, o8, o9, tr1, tr2⟩ := off1 t
  canon_tiles x g
  case piece0 =>
    obtain ⟨r, d, rfl⟩ : ∃ (r : Fin 256) (d : Fin 128), x = ix2 r d := ⟨x 0, x 1, by funext a; fin_cases a <;> rfl⟩
    have hi : ((⟨1024 * (t.val % 4) + (768 + r.val), by omega⟩ : Fin 4096)).val = 1024 * (t.val % 4) + (⟨(768 + r.val), by omega⟩ : Fin 1024).val := rfl
    have hL := line E hO t ⟨t.val / 4, by omega⟩ rfl ⟨(768 + r.val), by omega⟩ _ hi
    refine (diag3_acc _ _ _ _ _ _ _ _ r d ((loops_dq _ t _ _ _ _ _ _ _ _ _ _ _ _ _ _ _ _ _ _ _ _ _ _ _ _ _ _ _ _ hL hi tr1 tr2).1 d)
      (diag_row (by omega) (by omega) (by simp) hL _ o1 _ o9 _ _) (fun s => ?_)).trans ?_
    · show _ ↔ 1024 * (t.val % 4) + s.val ≤ 1024 * (t.val % 4) + (768 + r.val)
      omega
    · rw [dq_sum d (by omega) (by omega) (by show 1024 * (t.val % 4) + (768 + r.val) < _; omega)]
      refine dq_congr (Fin.ext ?_) (Fin.ext ?_) (Fin.ext ?_)
      all_goals (blk_simp [idx1 t] <;> simp only [ix2] at * <;> omega)
  case piece1 =>
    obtain ⟨r, d, rfl⟩ : ∃ (r : Fin 256) (d : Fin 128), x = ix2 r d := ⟨x 0, x 1, by funext a; fin_cases a <;> rfl⟩
    have hi : ((⟨1024 * (t.val % 4) + (512 + r.val), by omega⟩ : Fin 4096)).val = 1024 * (t.val % 4) + (⟨(512 + r.val), by omega⟩ : Fin 1024).val := rfl
    have hL := line E hO t ⟨t.val / 4, by omega⟩ rfl ⟨(512 + r.val), by omega⟩ _ hi
    refine (diag2_acc _ _ _ _ _ _ _ _ r d ((loops_dq _ t _ _ _ _ _ _ _ _ _ _ _ _ _ _ _ _ _ _ _ _ _ _ _ _ _ _ _ _ hL hi tr1 tr2).1 d)
      (diag_row (by omega) (by omega) (by simp) hL _ o1 _ o8 _ _) (fun s => ?_)).trans ?_
    · show _ ↔ 1024 * (t.val % 4) + s.val ≤ 1024 * (t.val % 4) + (512 + r.val)
      omega
    · rw [dq_sum d (by omega) (by omega) (by show 1024 * (t.val % 4) + (512 + r.val) < _; omega)]
      refine dq_congr (Fin.ext ?_) (Fin.ext ?_) (Fin.ext ?_)
      all_goals (blk_simp [idx1 t] <;> simp only [ix2] at * <;> omega)
  case piece2 =>
    obtain ⟨r, d, rfl⟩ : ∃ (r : Fin 256) (d : Fin 128), x = ix2 r d := ⟨x 0, x 1, by funext a; fin_cases a <;> rfl⟩
    have hi : ((⟨1024 * (t.val % 4) + (256 + r.val), by omega⟩ : Fin 4096)).val = 1024 * (t.val % 4) + (⟨(256 + r.val), by omega⟩ : Fin 1024).val := rfl
    have hL := line E hO t ⟨t.val / 4, by omega⟩ rfl ⟨(256 + r.val), by omega⟩ _ hi
    refine (diag1_acc _ _ _ _ _ _ _ _ r d ((loops_dq _ t _ _ _ _ _ _ _ _ _ _ _ _ _ _ _ _ _ _ _ _ _ _ _ _ _ _ _ _ hL hi tr1 tr2).1 d)
      (diag_row (by omega) (by omega) (by simp) hL _ o1 _ o7 _ _) (fun s => ?_)).trans ?_
    · show _ ↔ 1024 * (t.val % 4) + s.val ≤ 1024 * (t.val % 4) + (256 + r.val)
      omega
    · rw [dq_sum d (by omega) (by omega) (by show 1024 * (t.val % 4) + (256 + r.val) < _; omega)]
      refine dq_congr (Fin.ext ?_) (Fin.ext ?_) (Fin.ext ?_)
      all_goals (blk_simp [idx1 t] <;> simp only [ix2] at * <;> omega)
  case piece3 =>
    obtain ⟨r, d, rfl⟩ : ∃ (r : Fin 256) (d : Fin 128), x = ix2 r d := ⟨x 0, x 1, by funext a; fin_cases a <;> rfl⟩
    have hi : ((⟨1024 * (t.val % 4) + r.val, by omega⟩ : Fin 4096)).val = 1024 * (t.val % 4) + (⟨r.val, by omega⟩ : Fin 1024).val := rfl
    have hL := line E hO t ⟨t.val / 4, by omega⟩ rfl ⟨r.val, by omega⟩ _ hi
    refine (diag0_acc _ _ _ _ _ _ _ _ r d ((loops_dq _ t _ _ _ _ _ _ _ _ _ _ _ _ _ _ _ _ _ _ _ _ _ _ _ _ _ _ _ _ hL hi tr1 tr2).1 d)
      (diag_row (by omega) (by omega) (by simp) hL _ o1 _ o6 _ _) (fun s => ?_)).trans ?_
    · show _ ↔ 1024 * (t.val % 4) + s.val ≤ 1024 * (t.val % 4) + r.val
      omega
    · rw [dq_sum d (by omega) (by omega) (by show 1024 * (t.val % 4) + r.val < _; omega)]
      refine dq_congr (Fin.ext ?_) (Fin.ext ?_) (Fin.ext ?_)
      all_goals (blk_simp [idx1 t] <;> simp only [ix2] at * <;> omega)
  all_goals (blk_simp [idx1 t] <;> try omega)

include E hO in
/-- The rows of the scores' cotangents sum to nothing. -/
theorem rs_final : (dat1 V c).arrAt 8 cfg1.N = fun j : S8x4x1x1024.Idx => ((0 : ℝ) : EReal) := by
  refine (dat1 V c).arrAt_eq_of_covers 8 _ (by decide +kernel) fun t _ y => ?_
  blk_simp
  rw [after1_8]
  unfold outsAt1
  frame_out
  obtain ⟨e0, e1, e2, e3, e4, e5, e6, e7, e8, htt⟩ := idx1 t
  obtain ⟨o1, o6, o7, o8, o9, tr1, tr2⟩ := off1 t
  canon_tiles x g
  case piece0 =>
    obtain ⟨r, rfl⟩ : ∃ (r : Fin 256), x = ix4 0 0 0 r := ⟨x 3, by funext a; fin_cases a <;> first | rfl | exact Subsingleton.elim (α := Fin 1) _ _⟩
    have hi : ((⟨1024 * (t.val % 4) + (768 + r.val), by omega⟩ : Fin 4096)).val = 1024 * (t.val % 4) + (⟨(768 + r.val), by omega⟩ : Fin 1024).val := rfl
    have hL := line E hO t ⟨t.val / 4, by omega⟩ rfl ⟨(768 + r.val), by omega⟩ _ hi
    refine (diag3_rs _ _ _ _ _ _ _ _ r (loops_dq _ t _ _ _ _ _ _ _ _ _ _ _ _ _ _ _ _ _ _ _ _ _ _ _ _ _ _ _ _ hL hi tr1 tr2).2
      (diag_row (by omega) (by omega) (by simp) hL _ o1 _ o9 _ _) (fun s => ?_)).trans ?_
    · show _ ↔ 1024 * (t.val % 4) + s.val ≤ 1024 * (t.val % 4) + (768 + r.val)
      omega
    · rw [rs_sum (by omega) (by omega) (by show 1024 * (t.val % 4) + (768 + r.val) < _; omega)]
  case piece1 =>
    obtain ⟨r, rfl⟩ : ∃ (r : Fin 256), x = ix4 0 0 0 r := ⟨x 3, by funext a; fin_cases a <;> first | rfl | exact Subsingleton.elim (α := Fin 1) _ _⟩
    have hi : ((⟨1024 * (t.val % 4) + (512 + r.val), by omega⟩ : Fin 4096)).val = 1024 * (t.val % 4) + (⟨(512 + r.val), by omega⟩ : Fin 1024).val := rfl
    have hL := line E hO t ⟨t.val / 4, by omega⟩ rfl ⟨(512 + r.val), by omega⟩ _ hi
    refine (diag2_rs _ _ _ _ _ _ _ _ r (loops_dq _ t _ _ _ _ _ _ _ _ _ _ _ _ _ _ _ _ _ _ _ _ _ _ _ _ _ _ _ _ hL hi tr1 tr2).2
      (diag_row (by omega) (by omega) (by simp) hL _ o1 _ o8 _ _) (fun s => ?_)).trans ?_
    · show _ ↔ 1024 * (t.val % 4) + s.val ≤ 1024 * (t.val % 4) + (512 + r.val)
      omega
    · rw [rs_sum (by omega) (by omega) (by show 1024 * (t.val % 4) + (512 + r.val) < _; omega)]
  case piece2 =>
    obtain ⟨r, rfl⟩ : ∃ (r : Fin 256), x = ix4 0 0 0 r := ⟨x 3, by funext a; fin_cases a <;> first | rfl | exact Subsingleton.elim (α := Fin 1) _ _⟩
    have hi : ((⟨1024 * (t.val % 4) + (256 + r.val), by omega⟩ : Fin 4096)).val = 1024 * (t.val % 4) + (⟨(256 + r.val), by omega⟩ : Fin 1024).val := rfl
    have hL := line E hO t ⟨t.val / 4, by omega⟩ rfl ⟨(256 + r.val), by omega⟩ _ hi
    refine (diag1_rs _ _ _ _ _ _ _ _ r (loops_dq _ t _ _ _ _ _ _ _ _ _ _ _ _ _ _ _ _ _ _ _ _ _ _ _ _ _ _ _ _ hL hi tr1 tr2).2
      (diag_row (by omega) (by omega) (by simp) hL _ o1 _ o7 _ _) (fun s => ?_)).trans ?_
    · show _ ↔ 1024 * (t.val % 4) + s.val ≤ 1024 * (t.val % 4) + (256 + r.val)
      omega
    · rw [rs_sum (by omega) (by omega) (by show 1024 * (t.val % 4) + (256 + r.val) < _; omega)]
  case piece3 =>
    obtain ⟨r, rfl⟩ : ∃ (r : Fin 256), x = ix4 0 0 0 r := ⟨x 3, by funext a; fin_cases a <;> first | rfl | exact Subsingleton.elim (α := Fin 1) _ _⟩
    have hi : ((⟨1024 * (t.val % 4) + r.val, by omega⟩ : Fin 4096)).val = 1024 * (t.val % 4) + (⟨r.val, by omega⟩ : Fin 1024).val := rfl
    have hL := line E hO t ⟨t.val / 4, by omega⟩ rfl ⟨r.val, by omega⟩ _ hi
    refine (diag0_rs _ _ _ _ _ _ _ _ r (loops_dq _ t _ _ _ _ _ _ _ _ _ _ _ _ _ _ _ _ _ _ _ _ _ _ _ _ _ _ _ _ hL hi tr1 tr2).2
      (diag_row (by omega) (by omega) (by simp) hL _ o1 _ o6 _ _) (fun s => ?_)).trans ?_
    · show _ ↔ 1024 * (t.val % 4) + s.val ≤ 1024 * (t.val % 4) + r.val
      omega
    · rw [rs_sum (by omega) (by omega) (by show 1024 * (t.val % 4) + r.val < _; omega)]
  all_goals (blk_simp [idx1 t] <;> try omega)

end
end Cert.AttnKIdeal.Value
-- ==== Proof.AttnEntry.lean ====
module

public import proofs.«01_k».proof.Proof.AttnHost
public import proofs.«01_k».proof.Proof.AttnDelta
public import proofs.«01_k».proof.Proof.AttnDq

@[expose] public section

set_option maxRecDepth 16384

noncomputable section

/-! # What the attention's kernels read -/

namespace Cert.AttnKIdeal.Value
open Cert.AttnKIdeal Cert.AttnKIdeal.Gen Cert.AttnMath Idealize.ShloMosaic Idealize.ShloMosaic.TcCoe Idealize.SL.Sem

variable {m : (ℓ : Loc nD τ sig) → Buf (Elt Ideal) ℓ} (ρ : Dev nD → PrngReg)

/-- The heads of the arguments. -/
abbrev heads (m : (ℓ : Loc nD τ sig) → Buf (Elt Ideal) ℓ) (c : Dev nD) : Fin 8 → Head := head (argZ m c) (argF m c) (argO m c)

/-- Between the host's first stretch and the queries' kernel a buffer nothing writes is kept. -/
theorem W7_W1 (c : Dev nD) (r : Ref sig .tc) (h7 : r ∉ hostOps1_W) (h6 : ∀ w : Fin cfg0.W, Pipeline.arrRef spec0 w = r → (cfg0.win w).isOut = false)
    (h5 : r ∉ hostOps0_4_W) (h4 : r ∉ hostOps0_3_W) (h3 : r ∉ hostOps0_2_W) (h2 : r ∉ hostOps0_1_W) :
    W7 m ρ c (Proc.devRef .tc r) = W1 m ρ c (Proc.devRef .tc r) :=
  (W7_of m ρ c r h7).trans ((W6_of m ρ c r h6).trans ((W5_of m ρ c r h5).trans ((W4_of m ρ c r h4).trans ((W3_of m ρ c r h3).trans (W2_of m ρ c r h2)))))
theorem W7_v5 (c : Dev nD) : W7 m ρ c (Proc.devRef .tc main_v5) = W1 m ρ c (Proc.devRef .tc main_v5) :=
  W7_W1 ρ c main_v5 (by decide) (by decide) (by decide) (by decide) (by decide) (by decide)
theorem W7_v10 (c : Dev nD) : W7 m ρ c (Proc.devRef .tc main_v10) = W1 m ρ c (Proc.devRef .tc main_v10) :=
  W7_W1 ρ c main_v10 (by decide) (by decide) (by decide) (by decide) (by decide) (by decide)
theorem W7_v52 (c : Dev nD) : W7 m ρ c (Proc.devRef .tc main_v52) = W5 m ρ c (Proc.devRef .tc main_v52) :=
  (W7_of m ρ c main_v52 (by decide)).trans (W6_of m ρ c main_v52 (by decide))

/-- The cotangent, as the queries' kernel reads it. -/
theorem W7_v56 (c : Dev nD) (i : Fin 4096) (k : Fin 1024) :
    @Eq EReal (W7 m ρ c (Proc.devRef .tc main_v56) (ix2 i k)) (argO m c (ix3 0 i k)) := by
  have h6 := W6_args m ρ c main_arg2 (by decide)
  show @Eq EReal (StableHlo.after hostOps1 (W6 m ρ c) (Proc.devRef .tc main_v56) (ix2 i k)) _
  unfold argO
  rw [← h6]
  generalize W6 m ρ c = σ
  entry_read
  pointwise

/-- The same as the keys' kernel reads it. -/
theorem W9_v58 (c : Dev nD) (i : Fin 4096) (k : Fin 1024) :
    @Eq EReal (W9 m ρ c (Proc.devRef .tc main_v58) (ix2 i k)) (argO m c (ix3 0 i k)) := by
  have h8 := W8_args m ρ c main_arg2 (by decide)
  show @Eq EReal (StableHlo.after hostOps2 (W8 m ρ c) (Proc.devRef .tc main_v58) (ix2 i k)) _
  unfold argO
  rw [← h8]
  generalize W8 m ρ c = σ
  entry_read
  pointwise

section
variable {c : Dev nD} (hf : Finite (argZ m c) (argF m c) (argO m c))
include hf

theorem hO53 (i : Fin 4096) (k : Fin 1024) (h : Fin 8) (d : Fin 128) (hk : k.val = h.val * 128 + d.val) :
    @Eq EReal (V5 m ρ c main_v53 (ix2 i k)) (((heads m c h).o i d : ℝ) : EReal) :=
  (W5_v53 ρ c i k).trans (hf.ct h i d k hk)
theorem hO56 (i : Fin 4096) (k : Fin 1024) (h : Fin 8) (d : Fin 128) (hk : k.val = h.val * 128 + d.val) :
    @Eq EReal (V7 m ρ c main_v56 (ix2 i k)) (((heads m c h).o i d : ℝ) : EReal) :=
  (W7_v56 ρ c i k).trans (hf.ct h i d k hk)
theorem hO58 (i : Fin 4096) (k : Fin 1024) (h : Fin 8) (d : Fin 128) (hk : k.val = h.val * 128 + d.val) :
    @Eq EReal (V9 m ρ c main_v58 (ix2 i k)) (((heads m c h).o i d : ℝ) : EReal) :=
  (W9_v58 ρ c i k).trans (hf.ct h i d k hk)

/-- The rows' sums of the cotangent with the output, by heads. -/
theorem W6_v54 (h : Fin 8) (i : Fin 4096) :
    @Eq EReal (W6 m ρ c (Proc.devRef .tc main_v54) (ix2 h i)) ((del (heads m c h) i : ℝ) : EReal) := by
  refine (congrFun ((W6_arr m ρ c 2).trans (delta_final (V := V5 m ρ) (c := c) (o := fun h i d => (heads m c h).o i d) (u := fun h i d => out (heads m c h) i d)
    (hO53 ρ hf) (fun i k h d hk => W5_v46 ρ hf i k h d hk))) (ix2 h i)).trans ?_
  exact congrArg Real.toEReal (del_eq _ _)

theorem W7_v55 (h : Fin 8) (a : Fin 4) (t : Fin 1024) (i : Fin 4096) (hi : i.val = a.val * 1024 + t.val) :
    @Eq EReal (W7 m ρ c (Proc.devRef .tc main_v55) (ix4 h a 0 t)) ((del (heads m c h) i : ℝ) : EReal) := by
  have h6 := W6_v54 ρ hf h i
  show @Eq EReal (StableHlo.after hostOps1 (W6 m ρ c) (Proc.devRef .tc main_v55) (ix4 h a 0 t)) _
  rw [← h6]
  generalize W6 m ρ c = σ
  entry_read
  pointwise
  exact congrArg (fun i : Fin 4096 => σ (Proc.devRef .tc main_v54) (ix2 h i)) (Fin.ext hi.symm)

/-- The queries' kernel reads the heads. -/
theorem entry7 : Entry (V7 m ρ) c (heads m c) :=
  { q := fun i k h d hk => (congrFun (W7_v5 ρ c) _).trans ((W1_v5 m ρ c i k ⟨k.val, by omega⟩ (by omega) rfl).trans (hf.q h i d _ hk))
    k := fun i k h d hk => (congrFun (W7_v5 ρ c) _).trans ((W1_v5 m ρ c i k ⟨k.val, by omega⟩ (by omega) rfl).trans (hf.k h i d _ hk))
    v := fun i k h d hk => (congrFun (W7_v5 ρ c) _).trans ((W1_v5 m ρ c i k ⟨k.val, by omega⟩ (by omega) rfl).trans (hf.v h i d _ hk))
    f := fun h a t i hi => (congrFun (W7_v10 ρ c) _).trans ((W1_v10 m ρ c h a t i hi).trans (by rw [hf.f h i, ← EReal.coe_mul]))
    lse := fun h a t i hi => (congrFun (W7_v52 ρ c) _).trans (W5_v52 ρ hf h a t i hi)
    del := fun h a t i hi => W7_v55 ρ hf h a t i hi }

theorem W9_W7 (r : Ref sig .tc) (h9 : r ∉ hostOps2_W) (h8 : ∀ w : Fin cfg1.W, Pipeline.arrRef spec1 w = r → (cfg1.win w).isOut = false) :
    V9 m ρ c r = V7 m ρ c r := (W9_of m ρ c r h9).trans (W8_of m ρ c r h8)

/-- So does the keys' kernel. -/
theorem entry9 : Entry (V9 m ρ) c (heads m c) :=
  { q := fun i k h d hk => (congrFun (W9_W7 ρ hf main_v5 (by decide) (by decide)) _).trans ((entry7 ρ hf).q i k h d hk)
    k := fun i k h d hk => (congrFun (W9_W7 ρ hf main_v5 (by decide) (by decide)) _).trans ((entry7 ρ hf).k i k h d hk)
    v := fun i k h d hk => (congrFun (W9_W7 ρ hf main_v5 (by decide) (by decide)) _).trans ((entry7 ρ hf).v i k h d hk)
    f := fun h a t i hi => (congrFun (W9_W7 ρ hf main_v10 (by decide) (by decide)) _).trans ((entry7 ρ hf).f h a t i hi)
    lse := fun h a t i hi => (congrFun (W9_W7 ρ hf main_v52 (by decide) (by decide)) _).trans ((entry7 ρ hf).lse h a t i hi)
    del := fun h a t i hi => (congrFun (W9_W7 ρ hf main_v55 (by decide) (by decide)) _).trans ((entry7 ρ hf).del h a t i hi) }

/-- The rows of the scores' cotangents sum to nothing, as the keys' kernel reads them. -/
theorem hR57 (h : Fin 8) (a : Fin 4) (t : Fin 1024) : @Eq EReal (V9 m ρ c main_v57_1 (ix4 h a 0 t)) ((0 : ℝ) : EReal) :=
  congrFun ((W9_of m ρ c main_v57_1 (by decide)).trans ((W8_arr m ρ c 8).trans (rs_final (entry7 ρ hf) (hO56 ρ hf)))) (ix4 h a 0 t)
end

end Cert.AttnKIdeal.Value
end
-- ==== Proof.AttnDkvRow.lean ====
module

public import proofs.«01_k».proof.Proof.AttnElt

@[expose] public section

set_option maxRecDepth 16384

noncomputable section

/-! # The keys' and values' gradients: what one block of keys adds up against blocks of queries -/

namespace Cert.AttnKIdeal.Value
open Cert.AttnKIdeal Cert.AttnKIdeal.Gen Cert.AttnMath Idealize.ShloMosaic Idealize.ShloMosaic.TcCoe Idealize.SL.Sem
open Idealize.ShloMosaic.Pipeline (Dat)

/-- A row laid out as a column: the keys' gate. -/
theorem column_at (a : Vec Ideal S1x1x1x1024 .f32) (r : Fin 1024) :
    @Eq EReal (k2_pay13 (F := Ideal) a (ix2 r 0)) (a (ix4 0 0 0 r)) := by
  pointwise [k2_pay13]; blk_point []

/-- A column of 1024 laid out as a row. -/
theorem row1024_at (a : FVec Ideal S1024x1 .f32) (r : Fin 1024) :
    @Eq EReal (k2_pay3 (F := Ideal) a (ix4 0 0 0 r)) (a (ix2 r 0)) := by
  pointwise [k2_pay3]; blk_point []

theorem lt_add {n N : ℕ} (e : ℕ) (h : (e + n).ble N = true) (s : Fin n) : e + s.val < N := by
  have := Nat.le_of_ble_eq_true h
  omega

theorem lt_add0 {n N : ℕ} (h : n.ble N = true) (s : Fin n) : s.val < N := by
  have := Nat.le_of_ble_eq_true h
  omega

/-- A real sum taken from a real number. -/
theorem sub_sum_real {n : ℕ} {a : EReal} {a' : ℝ} {g : Fin n → EReal} {g' : Fin n → ℝ} (ha : a = ((a' : ℝ) : EReal)) (hg : ∀ s, g s = ((g' s : ℝ) : EReal)) :
    a - ∑ s, g s = ((a' - ∑ s, g' s : ℝ) : EReal) := by
  rw [ha, EReal.coe_sub, ← coe_sum]
  exact congrArg _ (Finset.sum_congr rfl fun s _ => hg s)

theorem sum_real {n : ℕ} {g : Fin n → EReal} {g' : Fin n → ℝ} (hg : ∀ s, g s = ((g' s : ℝ) : EReal)) : ∑ s, g s = ((∑ s, g' s : ℝ) : EReal) := by
  rw [← coe_sum]
  exact Finset.sum_congr rfl fun s _ => hg s

/-- Row `r` of a block of `R` keys against `n` queries: `j` is the key, `ii` the queries. -/
structure Col {R n : ℕ} (x : Head) (j : Fin 4096) (ii : Fin n → Fin 4096) (r : Fin R)
    (k v : Fin R → Fin 128 → EReal) (f : Fin R → EReal) (q o : Fin n → Fin 128 → EReal) (fq lse dl rs : Fin n → EReal) : Prop where
  k : ∀ d, k r d = ((x.k j d : ℝ) : EReal)
  v : ∀ d, v r d = ((x.v j d : ℝ) : EReal)
  f : f r = ((x.f j * rl : ℝ) : EReal)
  q : ∀ s d, q s d = ((x.q (ii s) d : ℝ) : EReal)
  o : ∀ s d, o s d = ((x.o (ii s) d : ℝ) : EReal)
  fq : ∀ s, fq s = ((x.f (ii s) * rl : ℝ) : EReal)
  lse : ∀ s, lse s = ((Real.log (Z x (ii s)) * rl : ℝ) : EReal)
  dl : ∀ s, dl s = ((del x (ii s) : ℝ) : EReal)
  rs : ∀ s, rs s = ((0 : ℝ) : EReal)

section
variable {R n : ℕ} {x : Head} {j : Fin 4096} {ii : Fin n → Fin 4096} {r : Fin R} {k v : Fin R → Fin 128 → EReal} {f : Fin R → EReal}
  {q o : Fin n → Fin 128 → EReal} {fq lse dl rs : Fin n → EReal} (h : Col x j ii r k v f q o fq lse dl rs)
include h

theorem Col.b (s : Fin n) : fq s - lse s = ((x.f (ii s) * rl - Real.log (Z x (ii s)) * rl : ℝ) : EReal) := by
  rw [h.fq, h.lse, ← EReal.coe_sub]

theorem Col.del (s : Fin n) : dl s + rs s = ((Cert.AttnMath.del x (ii s) : ℝ) : EReal) := by
  rw [h.dl, h.rs, ← EReal.coe_add, add_zero]

theorem Col.sc (s : Fin n) : ∑ d, k r d * q s d = ((∑ d, x.q (ii s) d * x.k j d : ℝ) : EReal) := dot_real' h.k (h.q s)

theorem Col.dp (s : Fin n) : ∑ d, v r d * o s d = ((Cert.AttnMath.dp x (ii s) j : ℝ) : EReal) := dot_real' h.v (h.o s)

end

/-! ## A block of later queries -/

section
variable {k v : Vec Ideal S1024x128 .bf16} {f : Vec Ideal S1024x1 .f32} {q : Vec Ideal S1024x128 .bf16} {o : Vec Ideal S1024x128 .f32} {fq lse dl rs : Vec Ideal S1x1x1x1024 .f32}
  {x : Head} {j : Fin 4096} {ii : Fin 1024 → Fin 4096} {r : Fin 1024} (h : Col (R := 1024) (n := 1024) x j ii r (fun r d => k (ix2 r d)) (fun r d => v (ix2 r d)) (fun r => f (ix2 r 0))
      (fun s d => q (ix2 s d)) (fun s d => o (ix2 s d)) (fun s : Fin 1024 => fq (ix4 0 0 0 s)) (fun s : Fin 1024 => lse (ix4 0 0 0 s)) (fun s : Fin 1024 => dl (ix4 0 0 0 s)) (fun s : Fin 1024 => rs (ix4 0 0 0 s)))
  (hj : ∀ s, j ≤ ii s)

include h hj in
theorem later_p (s : Fin 1024) : @Eq EReal (k2_pay7 (F := Ideal) q fq lse k f (ix2 r s)) ((p x (ii s) j : ℝ) : EReal) := by
  pointwise [k2_pay7, k2_pay4]
  exact p_elt x (hj s) (h.sc s) (h.b s) h.f

include h hj in
theorem later_ds (s : Fin 1024) : @Eq EReal (k2_pay58 (F := Ideal) (k2_pay5 o) (k2_pay6 dl rs) (k2_pay7 q fq lse k f) v (ix2 r s)) ((ds x (ii s) j : ℝ) : EReal) := by
  pointwise [k2_pay58, k2_pay5, k2_pay6]
  exact ds_elt x (later_p h hj s) (h.dp s) (h.del s)

include h hj in
/-- The keys' gradient, without the scale. -/
theorem later_dk (acc : FVec Ideal S1024x128 .f32) (d : Fin 128) {a : ℝ} (ha : @Eq EReal (acc (ix2 r d)) ((a : ℝ) : EReal)) :
    @Eq EReal (k2_pay59 (F := Ideal) acc (k2_pay4 q) (k2_pay5 o) (k2_pay6 dl rs) (k2_pay7 q fq lse k f) v (ix2 r d)) ((a + ∑ s, ds x (ii s) j * x.q (ii s) d : ℝ) : EReal) := by
  pointwise [k2_pay59, k2_pay4]
  exact add_sum_real ha fun s => mul_real (later_ds h hj s) (h.q s d)

include h hj in
/-- The values' gradient. -/
theorem later_dv (acc : FVec Ideal S1024x128 .f32) (d : Fin 128) {a : ℝ} (ha : @Eq EReal (acc (ix2 r d)) ((a : ℝ) : EReal)) :
    @Eq EReal (k2_pay60 (F := Ideal) acc (k2_pay5 o) (k2_pay7 q fq lse k f) (ix2 r d)) ((a + ∑ s, p x (ii s) j * x.o (ii s) d : ℝ) : EReal) := by
  pointwise [k2_pay60, k2_pay5]
  exact add_sum_real ha fun s => mul_real (later_p h hj s) (h.o s d)

include h hj in
/-- The gate's gradient. -/
theorem later_df (acc : FVec Ideal S1024x1 .f32) {a : ℝ} (ha : @Eq EReal (acc (ix2 r 0)) ((a : ℝ) : EReal)) :
    @Eq EReal (k2_pay61 (F := Ideal) acc (k2_pay5 o) (k2_pay6 dl rs) (k2_pay7 q fq lse k f) v (ix2 r 0)) ((a - ∑ s, ds x (ii s) j : ℝ) : EReal) := by
  pointwise [k2_pay61]
  exact sub_sum_real ha fun s => later_ds h hj s

end

/-! ## The block on the diagonal, the first 256 keys -/

section
variable {k v : Vec Ideal S256x128 .bf16} {f : Vec Ideal S256x1 .f32} {q : Vec Ideal S1024x128 .bf16} {o : Vec Ideal S1024x128 .f32} {fq lse dl rs : Vec Ideal S1x1x1x1024 .f32}
  {x : Head} {j : Fin 4096} {ii : Fin 1024 → Fin 4096} {r : Fin 256} (h : Col (R := 256) (n := 1024) x j ii r (fun r d => k (ix2 r d)) (fun r d => v (ix2 r d)) (fun r => f (ix2 r 0))
      (fun s d => q (ix2 s d)) (fun s d => o (ix2 s d)) (fun s : Fin 1024 => fq (ix4 0 0 0 s)) (fun s : Fin 1024 => lse (ix4 0 0 0 s)) (fun s : Fin 1024 => dl (ix4 0 0 0 s)) (fun s : Fin 1024 => rs (ix4 0 0 0 s)))
  (hj : ∀ s : Fin 1024, r.val ≤ s.val ↔ j ≤ ii s)

include h hj in
theorem group0_p (s : Fin 1024) : @Eq EReal (k2_pay19 (F := Ideal) k2_pay12 (k2_pay17 q) fq lse k f (ix2 r s)) ((p x (ii s) j : ℝ) : EReal) := by
  pointwise [k2_pay19, k2_pay17, k2_pay12]
  refine p_masked x ?_ (h.sc s) (h.b s) h.f
  rw [sle_word _ _ (by omega) (by omega)]
  exact if_congr (hj s) rfl rfl

include h hj in
theorem group0_ds (s : Fin 1024) : @Eq EReal (k2_pay20 (F := Ideal) k2_pay12 (k2_pay17 q) o fq lse dl rs k f v (ix2 r s)) ((ds x (ii s) j : ℝ) : EReal) := by
  pointwise [k2_pay20, k2_pay18]
  exact ds_elt x (group0_p h hj s) (h.dp s) (h.del s)

include h hj in
theorem group0_dk (d : Fin 128) : @Eq EReal (k2_pay21 (F := Ideal) k2_pay14 (k2_pay17 q) (k2_pay20 k2_pay12 (k2_pay17 q) o fq lse dl rs k f v) (ix2 r d)) ((∑ s, ds x (ii s) j * x.q (ii s) d : ℝ) : EReal) := by
  have hq : ∀ s, @Eq EReal (k2_pay17 (F := Ideal) q (ix2 s d)) ((x.q (ii s) d : ℝ) : EReal) := fun s => by
    pointwise [k2_pay17]
    exact h.q s d
  pointwise [k2_pay21, k2_pay14]
  exact sum_real fun s => mul_real (group0_ds h hj s) (hq s)

include h hj in
theorem group0_dv (d : Fin 128) : @Eq EReal (k2_pay22 (F := Ideal) k2_pay15 (k2_pay18 o) (k2_pay19 k2_pay12 (k2_pay17 q) fq lse k f) (ix2 r d)) ((∑ s, p x (ii s) j * x.o (ii s) d : ℝ) : EReal) := by
  pointwise [k2_pay22, k2_pay15, k2_pay18]
  exact sum_real fun s => mul_real (group0_p h hj s) (h.o s d)

include h hj in
theorem group0_df : @Eq EReal (k2_pay23 (F := Ideal) k2_pay16 (k2_pay20 k2_pay12 (k2_pay17 q) o fq lse dl rs k f v) (ix2 r 0)) ((0 - ∑ s, ds x (ii s) j : ℝ) : EReal) := by
  pointwise [k2_pay23, k2_pay16]
  exact sub_sum_real EReal.coe_zero.symm fun s => group0_ds h hj s

end

/-! ## The block on the diagonal, the second 256 keys -/

section
variable {k v : Vec Ideal S256x128 .bf16} {f : Vec Ideal S256x1 .f32} {q : Vec Ideal S768x128 .bf16} {o : Vec Ideal S768x128 .f32} {fq lse dl rs : Vec Ideal S1x1x1x1024 .f32}
  {x : Head} {j : Fin 4096} {ii : Fin 768 → Fin 4096} {r : Fin 256} (h : Col (R := 256) (n := 768) x j ii r (fun r d => k (ix2 r d)) (fun r d => v (ix2 r d)) (fun r => f (ix2 r 0))
      (fun s d => q (ix2 s d)) (fun s d => o (ix2 s d)) (fun s : Fin 768 => fq (ix4 0 0 0 ⟨256 + s.val, lt_add 256 rfl s⟩)) (fun s : Fin 768 => lse (ix4 0 0 0 ⟨256 + s.val, lt_add 256 rfl s⟩)) (fun s : Fin 768 => dl (ix4 0 0 0 ⟨256 + s.val, lt_add 256 rfl s⟩)) (fun s : Fin 768 => rs (ix4 0 0 0 ⟨256 + s.val, lt_add 256 rfl s⟩)))
  (hj : ∀ s : Fin 768, 256 + r.val ≤ 256 + s.val ↔ j ≤ ii s)

include h hj in
theorem group1_p (s : Fin 768) : @Eq EReal (k2_pay31 (F := Ideal) k2_pay12 (k2_pay27 q) (k2_pay29 fq lse) k f (ix2 r s)) ((p x (ii s) j : ℝ) : EReal) := by
  pointwise [k2_pay31, k2_pay27, k2_pay29, k2_pay12]
  refine p_masked x ?_ (h.sc s) (h.b s) h.f
  rw [sle_word _ _ (by omega) (by omega)]
  exact if_congr (hj s) rfl rfl

include h hj in
theorem group1_ds (s : Fin 768) : @Eq EReal (k2_pay32 (F := Ideal) k2_pay12 (k2_pay27 q) (k2_pay28 o) (k2_pay29 fq lse) (k2_pay30 dl rs) k f v (ix2 r s)) ((ds x (ii s) j : ℝ) : EReal) := by
  pointwise [k2_pay32, k2_pay28, k2_pay30]
  exact ds_elt x (group1_p h hj s) (h.dp s) (h.del s)

include h hj in
theorem group1_dk (d : Fin 128) : @Eq EReal (k2_pay33 (F := Ideal) k2_pay12 k2_pay24 (k2_pay27 q) (k2_pay28 o) (k2_pay29 fq lse) (k2_pay30 dl rs) k f v (ix2 r d)) ((∑ s, ds x (ii s) j * x.q (ii s) d : ℝ) : EReal) := by
  have hq : ∀ s, @Eq EReal (k2_pay27 (F := Ideal) q (ix2 s d)) ((x.q (ii s) d : ℝ) : EReal) := fun s => by
    pointwise [k2_pay27]
    exact h.q s d
  pointwise [k2_pay33, k2_pay24]
  exact sum_real fun s => mul_real (group1_ds h hj s) (hq s)

include h hj in
theorem group1_dv (d : Fin 128) : @Eq EReal (k2_pay34 (F := Ideal) k2_pay12 k2_pay25 (k2_pay27 q) (k2_pay28 o) (k2_pay29 fq lse) k f (ix2 r d)) ((∑ s, p x (ii s) j * x.o (ii s) d : ℝ) : EReal) := by
  pointwise [k2_pay34, k2_pay25, k2_pay28]
  exact sum_real fun s => mul_real (group1_p h hj s) (h.o s d)

include h hj in
theorem group1_df : @Eq EReal (k2_pay35 (F := Ideal) k2_pay12 k2_pay26 (k2_pay27 q) (k2_pay28 o) (k2_pay29 fq lse) (k2_pay30 dl rs) k f v (ix2 r 0)) ((0 - ∑ s, ds x (ii s) j : ℝ) : EReal) := by
  pointwise [k2_pay35, k2_pay26]
  exact sub_sum_real EReal.coe_zero.symm fun s => group1_ds h hj s

end

/-! ## The block on the diagonal, the third 256 keys -/

section
variable {k v : Vec Ideal S256x128 .bf16} {f : Vec Ideal S256x1 .f32} {q : Vec Ideal S512x128 .bf16} {o : Vec Ideal S512x128 .f32} {fq lse dl rs : Vec Ideal S1x1x1x1024 .f32}
  {x : Head} {j : Fin 4096} {ii : Fin 512 → Fin 4096} {r : Fin 256} (h : Col (R := 256) (n := 512) x j ii r (fun r d => k (ix2 r d)) (fun r d => v (ix2 r d)) (fun r => f (ix2 r 0))
      (fun s d => q (ix2 s d)) (fun s d => o (ix2 s d)) (fun s : Fin 512 => fq (ix4 0 0 0 ⟨512 + s.val, lt_add 512 rfl s⟩)) (fun s : Fin 512 => lse (ix4 0 0 0 ⟨512 + s.val, lt_add 512 rfl s⟩)) (fun s : Fin 512 => dl (ix4 0 0 0 ⟨512 + s.val, lt_add 512 rfl s⟩)) (fun s : Fin 512 => rs (ix4 0 0 0 ⟨512 + s.val, lt_add 512 rfl s⟩)))
  (hj : ∀ s : Fin 512, 512 + r.val ≤ 512 + s.val ↔ j ≤ ii s)

include h hj in
theorem group2_p (s : Fin 512) : @Eq EReal (k2_pay41 (F := Ideal) k2_pay12 (k2_pay39 q) fq lse k f (ix2 r s)) ((p x (ii s) j : ℝ) : EReal) := by
  pointwise [k2_pay41, k2_pay39, k2_pay12]
  refine p_masked x ?_ (h.sc s) (h.b s) h.f
  rw [sle_word _ _ (by omega) (by omega)]
  exact if_congr (hj s) rfl rfl

include h hj in
theorem group2_ds (s : Fin 512) : @Eq EReal (k2_pay42 (F := Ideal) k2_pay12 (k2_pay39 q) o fq lse dl rs k f v (ix2 r s)) ((ds x (ii s) j : ℝ) : EReal) := by
  pointwise [k2_pay42, k2_pay40]
  exact ds_elt x (group2_p h hj s) (h.dp s) (h.del s)

include h hj in
theorem group2_dk (d : Fin 128) : @Eq EReal (k2_pay43 (F := Ideal) k2_pay36 (k2_pay39 q) (k2_pay42 k2_pay12 (k2_pay39 q) o fq lse dl rs k f v) (ix2 r d)) ((∑ s, ds x (ii s) j * x.q (ii s) d : ℝ) : EReal) := by
  have hq : ∀ s, @Eq EReal (k2_pay39 (F := Ideal) q (ix2 s d)) ((x.q (ii s) d : ℝ) : EReal) := fun s => by
    pointwise [k2_pay39]
    exact h.q s d
  pointwise [k2_pay43, k2_pay36]
  exact sum_real fun s => mul_real (group2_ds h hj s) (hq s)

include h hj in
theorem group2_dv (d : Fin 128) : @Eq EReal (k2_pay44 (F := Ideal) k2_pay37 (k2_pay40 o) (k2_pay41 k2_pay12 (k2_pay39 q) fq lse k f) (ix2 r d)) ((∑ s, p x (ii s) j * x.o (ii s) d : ℝ) : EReal) := by
  pointwise [k2_pay44, k2_pay37, k2_pay40]
  exact sum_real fun s => mul_real (group2_p h hj s) (h.o s d)

include h hj in
theorem group2_df : @Eq EReal (k2_pay45 (F := Ideal) k2_pay38 (k2_pay42 k2_pay12 (k2_pay39 q) o fq lse dl rs k f v) (ix2 r 0)) ((0 - ∑ s, ds x (ii s) j : ℝ) : EReal) := by
  pointwise [k2_pay45, k2_pay38]
  exact sub_sum_real EReal.coe_zero.symm fun s => group2_ds h hj s

end

/-! ## The block on the diagonal, the fourth 256 keys -/

section
variable {k v : Vec Ideal S256x128 .bf16} {f : Vec Ideal S256x1 .f32} {q : Vec Ideal S256x128 .bf16} {o : Vec Ideal S256x128 .f32} {fq lse dl rs : Vec Ideal S1x1x1x1024 .f32}
  {x : Head} {j : Fin 4096} {ii : Fin 256 → Fin 4096} {r : Fin 256} (h : Col (R := 256) (n := 256) x j ii r (fun r d => k (ix2 r d)) (fun r d => v (ix2 r d)) (fun r => f (ix2 r 0))
      (fun s d => q (ix2 s d)) (fun s d => o (ix2 s d)) (fun s : Fin 256 => fq (ix4 0 0 0 ⟨768 + s.val, lt_add 768 rfl s⟩)) (fun s : Fin 256 => lse (ix4 0 0 0 ⟨768 + s.val, lt_add 768 rfl s⟩)) (fun s : Fin 256 => dl (ix4 0 0 0 ⟨768 + s.val, lt_add 768 rfl s⟩)) (fun s : Fin 256 => rs (ix4 0 0 0 ⟨768 + s.val, lt_add 768 rfl s⟩)))
  (hj : ∀ s : Fin 256, 768 + r.val ≤ 768 + s.val ↔ j ≤ ii s)

include h hj in
theorem group3_p (s : Fin 256) : @Eq EReal (k2_pay53 (F := Ideal) k2_pay12 (k2_pay49 q) (k2_pay51 fq lse) k f (ix2 r s)) ((p x (ii s) j : ℝ) : EReal) := by
  pointwise [k2_pay53, k2_pay49, k2_pay51, k2_pay12]
  refine p_masked x ?_ (h.sc s) (h.b s) h.f
  rw [sle_word _ _ (by omega) (by omega)]
  exact if_congr (hj s) rfl rfl

include h hj in
theorem group3_ds (s : Fin 256) : @Eq EReal (k2_pay54 (F := Ideal) k2_pay12 (k2_pay49 q) (k2_pay50 o) (k2_pay51 fq lse) (k2_pay52 dl rs) k f v (ix2 r s)) ((ds x (ii s) j : ℝ) : EReal) := by
  pointwise [k2_pay54, k2_pay50, k2_pay52]
  exact ds_elt x (group3_p h hj s) (h.dp s) (h.del s)

include h hj in
/-- The last group's keys' gradient, as it stands in the four groups put together. -/
theorem group3_dk (d : Fin 128) : @Eq EReal ((addf (F := Ideal) k2_pay46 (matmul dot_S256x256_S256x128_S256x128_1_0_0_1_n_n none (truncf .bf16 (k2_pay54 k2_pay12 (k2_pay49 q) (k2_pay50 o) (k2_pay51 fq lse) (k2_pay52 dl rs) k f v) bitsLt_bf16_f32) (k2_pay49 q) (constant S256x128 .f32 0x00000000#32)) : FVec Ideal S256x128 .f32) (ix2 r d)) ((∑ s, ds x (ii s) j * x.q (ii s) d : ℝ) : EReal) := by
  have hq : ∀ s, @Eq EReal (k2_pay49 (F := Ideal) q (ix2 s d)) ((x.q (ii s) d : ℝ) : EReal) := fun s => by
    pointwise [k2_pay49]
    exact h.q s d
  pointwise [k2_pay46]
  exact sum_real fun s => mul_real (group3_ds h hj s) (hq s)

include h hj in
theorem group3_dv (d : Fin 128) : @Eq EReal ((addf (F := Ideal) k2_pay47 (matmul dot_S256x256_S256x128_S256x128_1_0_0_1_n_n none (truncf .bf16 (k2_pay53 k2_pay12 (k2_pay49 q) (k2_pay51 fq lse) k f) bitsLt_bf16_f32) (k2_pay50 o) (constant S256x128 .f32 0x00000000#32)) : FVec Ideal S256x128 .f32) (ix2 r d)) ((∑ s, p x (ii s) j * x.o (ii s) d : ℝ) : EReal) := by
  pointwise [k2_pay47, k2_pay50]
  exact sum_real fun s => mul_real (group3_p h hj s) (h.o s d)

include h hj in
theorem group3_df : @Eq EReal ((subf (F := Ideal) k2_pay48 (shapeCast S256x1 (multiReduction .add [1] S256 (k2_pay54 k2_pay12 (k2_pay49 q) (k2_pay50 o) (k2_pay51 fq lse) (k2_pay52 dl rs) k f v) 0x00000000#32 reduces_S256x256_S256 (.inl rfl) rfl) shapeCasts_S256_S256x1) : FVec Ideal S256x1 .f32) (ix2 r 0)) ((0 - ∑ s, ds x (ii s) j : ℝ) : EReal) := by
  pointwise [k2_pay48]
  exact sub_sum_real EReal.coe_zero.symm fun s => group3_ds h hj s

end

/-! ## The four groups, put together -/

/-- Four groups of 256 rows, one after the other. -/
theorem rows_at (a0 a1 a2 a3 : FVec Ideal S256x128 .f32) (r : Fin 256) (d : Fin 128) :
    let A := concatenate S1024x128 0 [⟨S256x128, a0⟩, ⟨S256x128, a1⟩, ⟨S256x128, a2⟩, ⟨S256x128, a3⟩] concatenates_S256x128_S256x128_S256x128_S256x128_S1024x128_d0
    @Eq EReal (A (ix2 ⟨r.val, lt_add0 rfl r⟩ d)) (a0 (ix2 r d)) ∧ @Eq EReal (A (ix2 ⟨256 + r.val, lt_add 256 rfl r⟩ d)) (a1 (ix2 r d))
      ∧ @Eq EReal (A (ix2 ⟨512 + r.val, lt_add 512 rfl r⟩ d)) (a2 (ix2 r d)) ∧ @Eq EReal (A (ix2 ⟨768 + r.val, lt_add 768 rfl r⟩ d)) (a3 (ix2 r d)) := by
  refine ⟨?_, ?_, ?_, ?_⟩ <;> pointwise [] <;> blk_point [] <;> exfalso <;> omega

theorem column_rows_at (a0 a1 a2 a3 : FVec Ideal S256x1 .f32) (r : Fin 256) :
    let A := concatenate S1024x1 0 [⟨S256x1, a0⟩, ⟨S256x1, a1⟩, ⟨S256x1, a2⟩, ⟨S256x1, a3⟩] concatenates_S256x1_S256x1_S256x1_S256x1_S1024x1_d0
    @Eq EReal (A (ix2 ⟨r.val, lt_add0 rfl r⟩ 0)) (a0 (ix2 r 0)) ∧ @Eq EReal (A (ix2 ⟨256 + r.val, lt_add 256 rfl r⟩ 0)) (a1 (ix2 r 0))
      ∧ @Eq EReal (A (ix2 ⟨512 + r.val, lt_add 512 rfl r⟩ 0)) (a2 (ix2 r 0)) ∧ @Eq EReal (A (ix2 ⟨768 + r.val, lt_add 768 rfl r⟩ 0)) (a3 (ix2 r 0)) := by
  refine ⟨?_, ?_, ?_, ?_⟩ <;> pointwise [] <;> blk_point [] <;> exfalso <;> omega

/-- A row of the four groups from the groups' rows. -/
theorem rows_real {a0 a1 a2 a3 : FVec Ideal S256x128 .f32} {g : Fin 1024 → Fin 128 → ℝ}
    (h0 : ∀ (r : Fin 256) d, @Eq EReal (a0 (ix2 r d)) ((g ⟨r.val, lt_add0 rfl r⟩ d : ℝ) : EReal)) (h1 : ∀ (r : Fin 256) d, @Eq EReal (a1 (ix2 r d)) ((g ⟨256 + r.val, lt_add 256 rfl r⟩ d : ℝ) : EReal))
    (h2 : ∀ (r : Fin 256) d, @Eq EReal (a2 (ix2 r d)) ((g ⟨512 + r.val, lt_add 512 rfl r⟩ d : ℝ) : EReal)) (h3 : ∀ (r : Fin 256) d, @Eq EReal (a3 (ix2 r d)) ((g ⟨768 + r.val, lt_add 768 rfl r⟩ d : ℝ) : EReal)) (r : Fin 1024) (d : Fin 128) :
    @Eq EReal (concatenate S1024x128 0 [⟨S256x128, a0⟩, ⟨S256x128, a1⟩, ⟨S256x128, a2⟩, ⟨S256x128, a3⟩] concatenates_S256x128_S256x128_S256x128_S256x128_S1024x128_d0 (ix2 r d)) ((g r d : ℝ) : EReal) := by
  obtain ⟨n, hn⟩ := r
  rcases Nat.lt_or_ge n 256 with l | l
  · exact ((rows_at a0 a1 a2 a3 ⟨n, l⟩ d).1).trans (h0 _ d)
  rcases Nat.lt_or_ge n 512 with l' | l'
  · obtain ⟨k, rfl⟩ := Nat.exists_eq_add_of_le l
    exact ((rows_at a0 a1 a2 a3 ⟨k, by omega⟩ d).2.1).trans (h1 _ d)
  rcases Nat.lt_or_ge n 768 with l'' | l''
  · obtain ⟨k, rfl⟩ := Nat.exists_eq_add_of_le l'
    exact ((rows_at a0 a1 a2 a3 ⟨k, by omega⟩ d).2.2.1).trans (h2 _ d)
  · obtain ⟨k, rfl⟩ := Nat.exists_eq_add_of_le l''
    exact ((rows_at a0 a1 a2 a3 ⟨k, by omega⟩ d).2.2.2).trans (h3 _ d)

theorem column_rows_real {a0 a1 a2 a3 : FVec Ideal S256x1 .f32} {g : Fin 1024 → ℝ}
    (h0 : ∀ (r : Fin 256), @Eq EReal (a0 (ix2 r 0)) ((g ⟨r.val, lt_add0 rfl r⟩ : ℝ) : EReal)) (h1 : ∀ (r : Fin 256), @Eq EReal (a1 (ix2 r 0)) ((g ⟨256 + r.val, lt_add 256 rfl r⟩ : ℝ) : EReal))
    (h2 : ∀ (r : Fin 256), @Eq EReal (a2 (ix2 r 0)) ((g ⟨512 + r.val, lt_add 512 rfl r⟩ : ℝ) : EReal)) (h3 : ∀ (r : Fin 256), @Eq EReal (a3 (ix2 r 0)) ((g ⟨768 + r.val, lt_add 768 rfl r⟩ : ℝ) : EReal)) (r : Fin 1024) :
    @Eq EReal (concatenate S1024x1 0 [⟨S256x1, a0⟩, ⟨S256x1, a1⟩, ⟨S256x1, a2⟩, ⟨S256x1, a3⟩] concatenates_S256x1_S256x1_S256x1_S256x1_S1024x1_d0 (ix2 r 0)) ((g r : ℝ) : EReal) := by
  obtain ⟨n, hn⟩ := r
  rcases Nat.lt_or_ge n 256 with l | l
  · exact ((column_rows_at a0 a1 a2 a3 ⟨n, l⟩).1).trans (h0 _)
  rcases Nat.lt_or_ge n 512 with l' | l'
  · obtain ⟨k, rfl⟩ := Nat.exists_eq_add_of_le l
    exact ((column_rows_at a0 a1 a2 a3 ⟨k, by omega⟩).2.1).trans (h1 _)
  rcases Nat.lt_or_ge n 768 with l'' | l''
  · obtain ⟨k, rfl⟩ := Nat.exists_eq_add_of_le l'
    exact ((column_rows_at a0 a1 a2 a3 ⟨k, by omega⟩).2.2.1).trans (h2 _)
  · obtain ⟨k, rfl⟩ := Nat.exists_eq_add_of_le l''
    exact ((column_rows_at a0 a1 a2 a3 ⟨k, by omega⟩).2.2.2).trans (h3 _)

end Cert.AttnKIdeal.Value
-- ==== Proof.AttnDkvTrip.lean ====
module

public import proofs.«01_k».proof.Proof.AttnDkvRow
public import proofs.«01_k».proof.Proof.AttnDq

@[expose] public section

set_option maxRecDepth 16384

noncomputable section

/-! # The keys' and values' gradients: the kernel's loop over later blocks of queries -/

namespace Cert.AttnKIdeal.Value
open Cert.AttnKIdeal Cert.AttnKIdeal.Gen Cert.AttnMath Idealize.ShloMosaic Idealize.ShloMosaic.TcCoe Idealize.SL.Sem
open Idealize.ShloMosaic.Pipeline (Dat)

/-- The block index of every window at every grid point: the point's head and key block. -/
theorem idx2 : ∀ t : Fin cfg2.N, win2_0.index t = ![0, t.val / 4] ∧ win2_1.index t = ![t.val % 4, 8 + t.val / 4]
    ∧ win2_2.index t = ![t.val % 4, 16 + t.val / 4] ∧ win2_3.index t = ![0, t.val / 4] ∧ win2_4.index t = ![t.val / 4, 0, 0, 0]
    ∧ win2_5.index t = ![t.val / 4, 0, 0, 0] ∧ win2_6.index t = ![t.val / 4, 0, 0, 0] ∧ win2_7.index t = ![t.val / 4, 0, 0, 0]
    ∧ win2_8.index t = ![t.val % 4, t.val / 4] ∧ win2_9.index t = ![t.val % 4, t.val / 4] ∧ win2_10.index t = ![t.val / 4, t.val % 4, 0, 0] ∧ t.val < 32 :=
  (by decide +kernel : ∀ t : Fin grid2.N, _)

/-- The loads' offsets outside the loop, and the loops' trip counts. -/
theorem off2 : ∀ t : Fin cfg2.N, k2_off1 (grid2.coords t) = ![0, t.val % 4, 0, 0] ∧ k2_off2 (grid2.coords t) = ![1024 * (t.val % 4) + 0, 0]
    ∧ k2_off3 (grid2.coords t) = ![1024 * (t.val % 4) + 256, 0] ∧ k2_off4 (grid2.coords t) = ![1024 * (t.val % 4) + 512, 0]
    ∧ k2_off5 (grid2.coords t) = ![1024 * (t.val % 4) + 768, 0] ∧ (k2_t1_loop (grid2.coords t)).trips = 3 - t.val % 4
    ∧ (k2_t2_loop (grid2.coords t)).trips = 0 :=
  (by decide +kernel : ∀ t : Fin grid2.N, _)

/-- The loads' offsets inside the loop. -/
theorem off2_loop : ∀ t : Fin cfg2.N, ∀ k : Fin (k2_t1_loop (grid2.coords t)).trips,
    k2_off6 (grid2.coords t) k = ![1024 * (t.val % 4 + 1 + k.val), 0] ∧ k2_off7 (grid2.coords t) k = ![0, t.val % 4 + 1 + k.val, 0, 0] :=
  (by decide +kernel : ∀ t : Fin grid2.N, _)

/-- One trip of the loop over later blocks: the block's terms are added to the three accumulators. -/
theorem trip_dkv (c : Dev nD) (i : grid2.Coords) (arg2 : Memref sig .tc .vmem S4096x128 .bf16) (h2 : arg2.IsWhole)
    (arg3 : Memref sig .tc .vmem S1024x128 .bf16) (h3 : arg3.IsWhole) (arg4 : Memref sig .tc .vmem S1024x128 .bf16) (h4 : arg4.IsWhole)
    (arg5 : Memref sig .tc .vmem S4096x128 .f32) (h5 : arg5.IsWhole) (arg6 : Memref sig .tc .vmem S1x4x1x1024 .f32) (h6 : arg6.IsWhole)
    (arg7 : Memref sig .tc .vmem S1x4x1x1024 .f32) (h7 : arg7.IsWhole) (arg8 : Memref sig .tc .vmem S1x4x1x1024 .f32) (h8 : arg8.IsWhole)
    (arg9 : Memref sig .tc .vmem S1x4x1x1024 .f32) (h9 : arg9.IsWhole) (arg10 : Memref sig .tc .vmem S1024x128 .bf16) (h10 : arg10.IsWhole)
    (arg11 : Memref sig .tc .vmem S1024x128 .bf16) (h11 : arg11.IsWhole) (arg12 : Memref sig .tc .vmem S1x1x1x1024 .f32) (h12 : arg12.IsWhole)
    (arg1 : BitVec 32) (v2 : IVec S1024x1024 1) (v85 v88 : FVec Ideal S256x128 .f32) (v91 : FVec Ideal S256x1 .f32) (v143 v146 : FVec Ideal S256x128 .f32) (v149 : FVec Ideal S256x1 .f32)
    (v201 v204 : FVec Ideal S256x128 .f32) (v207 : FVec Ideal S256x1 .f32) (v208 v209 : FVec Ideal S256x128 .f32) (v210 : FVec Ideal S256x1 .f32)
    (v216 v220 : FVec Ideal S256x128 .bf16) (v228 v236 : FVec Ideal S1x256 .f32) (v269 : BitVec 32)
    (x0 : Vec Ideal S4096x128 .bf16) (x1 x2 : Vec Ideal S1024x128 .bf16) (x3 : Vec Ideal S4096x128 .f32) (x4 x5 x6 x7 : Vec Ideal S1x4x1x1024 .f32) (w : Vec Ideal S1024x1 .f32)
    (k : Fin (k2_t1_loop i).trips) (acc : FVec Ideal S1024x128 .f32 × FVec Ideal S1024x128 .f32 × FVec Ideal S1024x1 .f32) :
    tripR_k2_t1 (F := Ideal) Variants.none c none i arg2 h2 arg3 h3 arg4 h4 arg5 h5 arg6 h6 arg7 h7 arg8 h8 arg9 h9 arg10 h10 arg11 h11 arg12 h12
      scM2_0 (Memref.isWhole_whole _) arg1 v2 v85 v88 v91 v143 v146 v149 v201 v204 v207 v208 v209 v210 v216 v220 v228 v236 v269
      (h2.unread x0) (h3.unread x1) (h4.unread x2) (h5.unread x3) (h6.unread x4) (h7.unread x5) (h8.unread x6) (h9.unread x7)
      (scM2_0.view.writes (Elt Ideal) scM2_0.view.junk [⟨Rect.unit ![0, 0] ![1024, 1] inb_S1024x1_S1024x1_0_0, w⟩]) k acc =
      (k2_pay59 acc.1 (k2_pay4 (View.ld x0 (Rect.unit (s := S4096x128) (k2_off6 i k) ![1024, 128] (k2_off6_inb i k)))) (k2_pay5 (View.ld x3 (Rect.unit (s := S4096x128) (k2_off6 i k) ![1024, 128] (k2_off6_inb i k)))) (k2_pay6 (View.ld x6 (Rect.unit (s := S1x4x1x1024) (k2_off7 i k) ![1, 1, 1, 1024] (k2_off7_inb i k))) (View.ld x7 (Rect.unit (s := S1x4x1x1024) (k2_off7 i k) ![1, 1, 1, 1024] (k2_off7_inb i k)))) (k2_pay7 (View.ld x0 (Rect.unit (s := S4096x128) (k2_off6 i k) ![1024, 128] (k2_off6_inb i k))) (View.ld x4 (Rect.unit (s := S1x4x1x1024) (k2_off7 i k) ![1, 1, 1, 1024] (k2_off7_inb i k))) (View.ld x5 (Rect.unit (s := S1x4x1x1024) (k2_off7 i k) ![1, 1, 1, 1024] (k2_off7_inb i k))) x1 w) x2,
       k2_pay60 acc.2.1 (k2_pay5 (View.ld x3 (Rect.unit (s := S4096x128) (k2_off6 i k) ![1024, 128] (k2_off6_inb i k)))) (k2_pay7 (View.ld x0 (Rect.unit (s := S4096x128) (k2_off6 i k) ![1024, 128] (k2_off6_inb i k))) (View.ld x4 (Rect.unit (s := S1x4x1x1024) (k2_off7 i k) ![1, 1, 1, 1024] (k2_off7_inb i k))) (View.ld x5 (Rect.unit (s := S1x4x1x1024) (k2_off7 i k) ![1, 1, 1, 1024] (k2_off7_inb i k))) x1 w),
       k2_pay61 acc.2.2 (k2_pay5 (View.ld x3 (Rect.unit (s := S4096x128) (k2_off6 i k) ![1024, 128] (k2_off6_inb i k)))) (k2_pay6 (View.ld x6 (Rect.unit (s := S1x4x1x1024) (k2_off7 i k) ![1, 1, 1, 1024] (k2_off7_inb i k))) (View.ld x7 (Rect.unit (s := S1x4x1x1024) (k2_off7 i k) ![1, 1, 1, 1024] (k2_off7_inb i k)))) (k2_pay7 (View.ld x0 (Rect.unit (s := S4096x128) (k2_off6 i k) ![1024, 128] (k2_off6_inb i k))) (View.ld x4 (Rect.unit (s := S1x4x1x1024) (k2_off7 i k) ![1, 1, 1, 1024] (k2_off7_inb i k))) (View.ld x5 (Rect.unit (s := S1x4x1x1024) (k2_off7 i k) ![1, 1, 1, 1024] (k2_off7_inb i k))) x1 w) x2) := by
  unfold tripR_k2_t1 trip_k2_t1
  frame_out
  try rfl

/-- A load of rows from a given row on, whatever the elements. -/
theorem ld_rows' {n N m : ℕ} {φ : EltTy} {off : Fin 2 → ℕ} (x : Vec Ideal ⟨2, ![N, 128]⟩ φ) (inb : ∀ a, off a + ![n, 128] a ≤ ![N, 128] a) (ho : off = ![m, 0]) (s : Fin n) (d : Fin 128) (hs : m + s.val < N) :
    View.ld x (Rect.unit (s := ⟨2, ![N, 128]⟩) off ![n, 128] inb) (ix2 s d) = x (ix2 ⟨m + s.val, hs⟩ d) := by
  subst ho
  refine congrArg x (funext fun a => Fin.ext ?_)
  fin_cases a <;> simp [Rect.unit, ix2]

/-- What row `r` of the point's block has at hand: key `j` of head `x`, and all queries. -/
structure KLine (x : Head) (j : Fin 4096) (r : Fin 1024) (x0 : Vec Ideal S4096x128 .bf16) (x1 x2 : Vec Ideal S1024x128 .bf16) (x3 : Vec Ideal S4096x128 .f32)
    (x4 x5 x6 x7 : Vec Ideal S1x4x1x1024 .f32) (w : Vec Ideal S1024x1 .f32) : Prop where
  q : ∀ i d, @Eq EReal (x0 (ix2 i d)) ((x.q i d : ℝ) : EReal)
  k : ∀ d, @Eq EReal (x1 (ix2 r d)) ((x.k j d : ℝ) : EReal)
  v : ∀ d, @Eq EReal (x2 (ix2 r d)) ((x.v j d : ℝ) : EReal)
  o : ∀ i d, @Eq EReal (x3 (ix2 i d)) ((x.o i d : ℝ) : EReal)
  fq : ∀ (a : Fin 4) (s : Fin 1024) (i : Fin 4096), i.val = 1024 * a.val + s.val → @Eq EReal (x4 (ix4 0 a 0 s)) ((x.f i * rl : ℝ) : EReal)
  lse : ∀ (a : Fin 4) (s : Fin 1024) (i : Fin 4096), i.val = 1024 * a.val + s.val → @Eq EReal (x5 (ix4 0 a 0 s)) ((Real.log (Z x i) * rl : ℝ) : EReal)
  dl : ∀ (a : Fin 4) (s : Fin 1024) (i : Fin 4096), i.val = 1024 * a.val + s.val → @Eq EReal (x6 (ix4 0 a 0 s)) ((del x i : ℝ) : EReal)
  rs : ∀ (a : Fin 4) (s : Fin 1024), @Eq EReal (x7 (ix4 0 a 0 s)) ((0 : ℝ) : EReal)
  w : @Eq EReal (w (ix2 r 0)) ((x.f j * rl : ℝ) : EReal)

/-- The three accumulators before trip `n`: the sums over the queries of the first `n` later blocks are added. -/
theorem later_dkv (c : Dev nD) (t : Fin cfg2.N) (arg2 : Memref sig .tc .vmem S4096x128 .bf16) (h2 : arg2.IsWhole)
    (arg3 : Memref sig .tc .vmem S1024x128 .bf16) (h3 : arg3.IsWhole) (arg4 : Memref sig .tc .vmem S1024x128 .bf16) (h4 : arg4.IsWhole)
    (arg5 : Memref sig .tc .vmem S4096x128 .f32) (h5 : arg5.IsWhole) (arg6 : Memref sig .tc .vmem S1x4x1x1024 .f32) (h6 : arg6.IsWhole)
    (arg7 : Memref sig .tc .vmem S1x4x1x1024 .f32) (h7 : arg7.IsWhole) (arg8 : Memref sig .tc .vmem S1x4x1x1024 .f32) (h8 : arg8.IsWhole)
    (arg9 : Memref sig .tc .vmem S1x4x1x1024 .f32) (h9 : arg9.IsWhole) (arg10 : Memref sig .tc .vmem S1024x128 .bf16) (h10 : arg10.IsWhole)
    (arg11 : Memref sig .tc .vmem S1024x128 .bf16) (h11 : arg11.IsWhole) (arg12 : Memref sig .tc .vmem S1x1x1x1024 .f32) (h12 : arg12.IsWhole)
    (arg1 : BitVec 32) (v2 : IVec S1024x1024 1) (v85 v88 : FVec Ideal S256x128 .f32) (v91 : FVec Ideal S256x1 .f32) (v143 v146 : FVec Ideal S256x128 .f32) (v149 : FVec Ideal S256x1 .f32)
    (v201 v204 : FVec Ideal S256x128 .f32) (v207 : FVec Ideal S256x1 .f32) (v208 v209 : FVec Ideal S256x128 .f32) (v210 : FVec Ideal S256x1 .f32)
    (v216 v220 : FVec Ideal S256x128 .bf16) (v228 v236 : FVec Ideal S1x256 .f32) (v269 : BitVec 32)
    (x0 : Vec Ideal S4096x128 .bf16) (x1 x2 : Vec Ideal S1024x128 .bf16) (x3 : Vec Ideal S4096x128 .f32) (x4 x5 x6 x7 : Vec Ideal S1x4x1x1024 .f32) (w : Vec Ideal S1024x1 .f32)
    {x : Head} {j : Fin 4096} {r : Fin 1024} (hL : KLine x j r x0 x1 x2 x3 x4 x5 x6 x7 w) (hj : j.val = 1024 * (t.val % 4) + r.val)
    (init : FVec Ideal S1024x128 .f32 × FVec Ideal S1024x128 .f32 × FVec Ideal S1024x1 .f32) {a b : Fin 128 → ℝ} {e : ℝ}
    (ha : ∀ d, @Eq EReal (init.1 (ix2 r d)) ((a d : ℝ) : EReal)) (hb : ∀ d, @Eq EReal (init.2.1 (ix2 r d)) ((b d : ℝ) : EReal)) (he : @Eq EReal (init.2.2 (ix2 r 0)) ((e : ℝ) : EReal))
    (n : ℕ) (hn : n ≤ 3 - t.val % 4) :
    ∀ Y, Y = st_k2_t1 (F := Ideal) Variants.none c none (grid2.coords t) arg2 h2 arg3 h3 arg4 h4 arg5 h5 arg6 h6 arg7 h7 arg8 h8 arg9 h9 arg10 h10 arg11 h11 arg12 h12
      scM2_0 (Memref.isWhole_whole _) arg1 v2 v85 v88 v91 v143 v146 v149 v201 v204 v207 v208 v209 v210 v216 v220 v228 v236 v269
      (h2.unread x0) (h3.unread x1) (h4.unread x2) (h5.unread x3) (h6.unread x4) (h7.unread x5) (h8.unread x6) (h9.unread x7)
      (scM2_0.view.writes (Elt Ideal) scM2_0.view.junk [⟨Rect.unit ![0, 0] ![1024, 1] inb_S1024x1_S1024x1_0_0, w⟩]) init n →
    (∀ d, @Eq EReal (Y.1 (ix2 r d)) ((a d + ∑ J : Fin n, ∑ s : Fin 1024, ds x ⟨1024 * (t.val % 4 + 1 + J.val) + s.val, by omega⟩ j * x.q ⟨1024 * (t.val % 4 + 1 + J.val) + s.val, by omega⟩ d : ℝ) : EReal))
      ∧ (∀ d, @Eq EReal (Y.2.1 (ix2 r d)) ((b d + ∑ J : Fin n, ∑ s : Fin 1024, p x ⟨1024 * (t.val % 4 + 1 + J.val) + s.val, by omega⟩ j * x.o ⟨1024 * (t.val % 4 + 1 + J.val) + s.val, by omega⟩ d : ℝ) : EReal))
      ∧ @Eq EReal (Y.2.2 (ix2 r 0)) ((e - ∑ J : Fin n, ∑ s : Fin 1024, ds x ⟨1024 * (t.val % 4 + 1 + J.val) + s.val, by omega⟩ j : ℝ) : EReal) := by
  induction n with
  | zero =>
    intro Y hY
    rw [st_k2_t1_zero] at hY
    subst hY
    simp only [Finset.univ_eq_empty, Finset.sum_empty, add_zero, sub_zero]
    exact ⟨ha, hb, he⟩
  | succ n ih =>
    have htr : (k2_t1_loop (grid2.coords t)).trips = 3 - t.val % 4 := (off2 t).2.2.2.2.2.1
    have hk : n < (k2_t1_loop (grid2.coords t)).trips := by omega
    obtain ⟨e1, e2, e3⟩ := ih (by omega) _ rfl
    rintro Y rfl
    have hs := st_k2_t1_succ (F := Ideal) Variants.none c none (grid2.coords t) arg2 h2 arg3 h3 arg4 h4 arg5 h5 arg6 h6 arg7 h7 arg8 h8 arg9 h9 arg10 h10 arg11 h11 arg12 h12
      scM2_0 (Memref.isWhole_whole _) arg1 v2 v85 v88 v91 v143 v146 v149 v201 v204 v207 v208 v209 v210 v216 v220 v228 v236 v269
      (h2.unread x0) (h3.unread x1) (h4.unread x2) (h5.unread x3) (h6.unread x4) (h7.unread x5) (h8.unread x6) (h9.unread x7)
      (scM2_0.view.writes (Elt Ideal) scM2_0.view.junk [⟨Rect.unit ![0, 0] ![1024, 1] inb_S1024x1_S1024x1_0_0, w⟩]) init ⟨n, hk⟩
    obtain ⟨o6, o7⟩ := off2_loop t ⟨n, hk⟩
    have hC : Col (R := 1024) (n := 1024) x j (fun s => ⟨1024 * (t.val % 4 + 1 + n) + s.val, by omega⟩) r (fun r d => x1 (ix2 r d)) (fun r d => x2 (ix2 r d)) (fun r => w (ix2 r 0))
        (fun s d => View.ld x0 (Rect.unit (s := S4096x128) (k2_off6 (grid2.coords t) ⟨n, hk⟩) ![1024, 128] (k2_off6_inb (grid2.coords t) ⟨n, hk⟩)) (ix2 s d))
        (fun s d => View.ld x3 (Rect.unit (s := S4096x128) (k2_off6 (grid2.coords t) ⟨n, hk⟩) ![1024, 128] (k2_off6_inb (grid2.coords t) ⟨n, hk⟩)) (ix2 s d))
        (fun s => View.ld x4 (Rect.unit (s := S1x4x1x1024) (k2_off7 (grid2.coords t) ⟨n, hk⟩) ![1, 1, 1, 1024] (k2_off7_inb (grid2.coords t) ⟨n, hk⟩)) (ix4 0 0 0 s))
        (fun s => View.ld x5 (Rect.unit (s := S1x4x1x1024) (k2_off7 (grid2.coords t) ⟨n, hk⟩) ![1, 1, 1, 1024] (k2_off7_inb (grid2.coords t) ⟨n, hk⟩)) (ix4 0 0 0 s))
        (fun s => View.ld x6 (Rect.unit (s := S1x4x1x1024) (k2_off7 (grid2.coords t) ⟨n, hk⟩) ![1, 1, 1, 1024] (k2_off7_inb (grid2.coords t) ⟨n, hk⟩)) (ix4 0 0 0 s))
        (fun s => View.ld x7 (Rect.unit (s := S1x4x1x1024) (k2_off7 (grid2.coords t) ⟨n, hk⟩) ![1, 1, 1, 1024] (k2_off7_inb (grid2.coords t) ⟨n, hk⟩)) (ix4 0 0 0 s)) :=
     {k := hL.k,
      v := hL.v,
      f := hL.w,
      q := fun s d => Eq.trans (ld_rows' _ _ o6 s d (by simp only; omega)) (hL.q _ d),
      o := fun s d => Eq.trans (ld_rows' _ _ o6 s d (by simp only; omega)) (hL.o _ d),
      fq := fun s => Eq.trans (ld_row _ _ o7 s (by simp only; omega)) (hL.fq ⟨t.val % 4 + 1 + n, by omega⟩ s _ rfl),
      lse := fun s => Eq.trans (ld_row _ _ o7 s (by simp only; omega)) (hL.lse ⟨t.val % 4 + 1 + n, by omega⟩ s _ rfl),
      dl := fun s => Eq.trans (ld_row _ _ o7 s (by simp only; omega)) (hL.dl ⟨t.val % 4 + 1 + n, by omega⟩ s _ rfl),
      rs := fun s => Eq.trans (ld_row _ _ o7 s (by simp only; omega)) (hL.rs ⟨t.val % 4 + 1 + n, by omega⟩ s)}
    have hji : ∀ s : Fin 1024, j ≤ (⟨1024 * (t.val % 4 + 1 + n) + s.val, by omega⟩ : Fin 4096) := fun s => by
      show j.val ≤ 1024 * (t.val % 4 + 1 + n) + s.val
      omega
    refine ⟨fun d => ?_, fun d => ?_, ?_⟩
    · rw [hs, trip_dkv, Fin.sum_univ_castSucc, ← add_assoc]
      exact later_dk hC hji _ d (e1 d)
    · rw [hs, trip_dkv, Fin.sum_univ_castSucc, ← add_assoc]
      exact later_dv hC hji _ d (e2 d)
    · rw [hs, trip_dkv, Fin.sum_univ_castSucc, ← sub_sub]
      exact later_df hC hji _ e3

/-- The accumulators after both loops: the second makes no trip. -/
theorem loops_dkv (c : Dev nD) (t : Fin cfg2.N) (arg2 : Memref sig .tc .vmem S4096x128 .bf16) (h2 : arg2.IsWhole)
    (arg3 : Memref sig .tc .vmem S1024x128 .bf16) (h3 : arg3.IsWhole) (arg4 : Memref sig .tc .vmem S1024x128 .bf16) (h4 : arg4.IsWhole)
    (arg5 : Memref sig .tc .vmem S4096x128 .f32) (h5 : arg5.IsWhole) (arg6 : Memref sig .tc .vmem S1x4x1x1024 .f32) (h6 : arg6.IsWhole)
    (arg7 : Memref sig .tc .vmem S1x4x1x1024 .f32) (h7 : arg7.IsWhole) (arg8 : Memref sig .tc .vmem S1x4x1x1024 .f32) (h8 : arg8.IsWhole)
    (arg9 : Memref sig .tc .vmem S1x4x1x1024 .f32) (h9 : arg9.IsWhole) (arg10 : Memref sig .tc .vmem S1024x128 .bf16) (h10 : arg10.IsWhole)
    (arg11 : Memref sig .tc .vmem S1024x128 .bf16) (h11 : arg11.IsWhole) (arg12 : Memref sig .tc .vmem S1x1x1x1024 .f32) (h12 : arg12.IsWhole)
    (arg1 : BitVec 32) (v2 : IVec S1024x1024 1) (v85 v88 : FVec Ideal S256x128 .f32) (v91 : FVec Ideal S256x1 .f32) (v143 v146 : FVec Ideal S256x128 .f32) (v149 : FVec Ideal S256x1 .f32)
    (v201 v204 : FVec Ideal S256x128 .f32) (v207 : FVec Ideal S256x1 .f32) (v208 v209 : FVec Ideal S256x128 .f32) (v210 : FVec Ideal S256x1 .f32)
    (v216 v220 : FVec Ideal S256x128 .bf16) (v228 v236 : FVec Ideal S1x256 .f32) (v269 : BitVec 32)
    (x0 : Vec Ideal S4096x128 .bf16) (x1 x2 : Vec Ideal S1024x128 .bf16) (x3 : Vec Ideal S4096x128 .f32) (x4 x5 x6 x7 : Vec Ideal S1x4x1x1024 .f32) (w : Vec Ideal S1024x1 .f32)
    {x : Head} {j : Fin 4096} {r : Fin 1024} (hL : KLine x j r x0 x1 x2 x3 x4 x5 x6 x7 w) (hj : j.val = 1024 * (t.val % 4) + r.val) (v269' : BitVec 32)
    (init : FVec Ideal S1024x128 .f32 × FVec Ideal S1024x128 .f32 × FVec Ideal S1024x1 .f32) {a b : Fin 128 → ℝ} {e : ℝ}
    (ha : ∀ d, @Eq EReal (init.1 (ix2 r d)) ((a d : ℝ) : EReal)) (hb : ∀ d, @Eq EReal (init.2.1 (ix2 r d)) ((b d : ℝ) : EReal)) (he : @Eq EReal (init.2.2 (ix2 r 0)) ((e : ℝ) : EReal))
    {n1 n2 : ℕ} (e1 : n1 = 3 - t.val % 4) (e2 : n2 = 0) {Y : FVec Ideal S1024x128 .f32 × FVec Ideal S1024x128 .f32 × FVec Ideal S1024x1 .f32} {Y' : FVec Ideal S1024x128 .f32 × FVec Ideal S1024x128 .f32 × FVec Ideal S1024x1 .f32}
    (hY' : Y' = st_k2_t1 (F := Ideal) Variants.none c none (grid2.coords t) arg2 h2 arg3 h3 arg4 h4 arg5 h5 arg6 h6 arg7 h7 arg8 h8 arg9 h9 arg10 h10 arg11 h11 arg12 h12
      scM2_0 (Memref.isWhole_whole _) arg1 v2 v85 v88 v91 v143 v146 v149 v201 v204 v207 v208 v209 v210 v216 v220 v228 v236 v269
      (h2.unread x0) (h3.unread x1) (h4.unread x2) (h5.unread x3) (h6.unread x4) (h7.unread x5) (h8.unread x6) (h9.unread x7)
      (scM2_0.view.writes (Elt Ideal) scM2_0.view.junk [⟨Rect.unit ![0, 0] ![1024, 1] inb_S1024x1_S1024x1_0_0, w⟩]) init n1)
    (hY : Y = st_k2_t2 (F := Ideal) Variants.none c none (grid2.coords t) arg2 h2 arg3 h3 arg4 h4 arg5 h5 arg6 h6 arg7 h7 arg8 h8 arg9 h9 arg10 h10 arg11 h11 arg12 h12
      scM2_0 (Memref.isWhole_whole _) arg1 v2 v85 v88 v91 v143 v146 v149 v201 v204 v207 v208 v209 v210 v216 v220 v228 v236 v269'
      (h2.unread x0) (h3.unread x1) (h4.unread x2) (h5.unread x3) (h6.unread x4) (h7.unread x5) (h8.unread x6) (h9.unread x7)
      (scM2_0.view.writes (Elt Ideal) scM2_0.view.junk [⟨Rect.unit ![0, 0] ![1024, 1] inb_S1024x1_S1024x1_0_0, w⟩]) (Y'.1, Y'.2.1, Y'.2.2) n2) :
    (∀ d, @Eq EReal (Y.1 (ix2 r d)) ((a d + ∑ J : Fin (3 - t.val % 4), ∑ s : Fin 1024, ds x ⟨1024 * (t.val % 4 + 1 + J.val) + s.val, by omega⟩ j * x.q ⟨1024 * (t.val % 4 + 1 + J.val) + s.val, by omega⟩ d : ℝ) : EReal))
      ∧ (∀ d, @Eq EReal (Y.2.1 (ix2 r d)) ((b d + ∑ J : Fin (3 - t.val % 4), ∑ s : Fin 1024, p x ⟨1024 * (t.val % 4 + 1 + J.val) + s.val, by omega⟩ j * x.o ⟨1024 * (t.val % 4 + 1 + J.val) + s.val, by omega⟩ d : ℝ) : EReal))
      ∧ @Eq EReal (Y.2.2 (ix2 r 0)) ((e - ∑ J : Fin (3 - t.val % 4), ∑ s : Fin 1024, ds x ⟨1024 * (t.val % 4 + 1 + J.val) + s.val, by omega⟩ j : ℝ) : EReal) := by
  subst e1 e2
  rw [st_k2_t2_zero] at hY
  subst hY
  exact later_dkv c t arg2 h2 arg3 h3 arg4 h4 arg5 h5 arg6 h6 arg7 h7 arg8 h8 arg9 h9 arg10 h10 arg11 h11 arg12 h12 arg1 v2 v85 v88 v91 v143 v146 v149 v201 v204 v207 v208 v209 v210 v216 v220 v228 v236 v269 x0 x1 x2 x3 x4 x5 x6 x7 w hL hj init ha hb he _ le_rfl _ hY'

end Cert.AttnKIdeal.Value
-- ==== Proof.AttnDkv.lean ====
module

public import proofs.«01_k».proof.Proof.AttnDkvTrip

@[expose] public section

set_option maxRecDepth 16384

noncomputable section

/-! # The keys' and values' gradients: the kernel over its grid of heads and key blocks -/

namespace Cert.AttnKIdeal.Value
open Cert.AttnKIdeal Cert.AttnKIdeal.Gen Cert.AttnMath Idealize.ShloMosaic Idealize.ShloMosaic.TcCoe Idealize.SL.Sem
open Idealize.ShloMosaic.Pipeline (Dat)

/-! ## Sums over queries -/

/-- A block's sum from position `e` on, of terms that vanish before. -/
theorem tail_sum (g : Fin 1024 → ℝ) {e n : ℕ} (hn : e + n = 1024) (h0 : ∀ t : Fin 1024, t.val < e → g t = 0) :
    ∑ s : Fin n, g ⟨e + s.val, by omega⟩ = ∑ t, g t := by
  have h := Fin.sum_univ_add (a := e) (b := n) (fun t => g (t.cast hn))
  have z : ∑ i : Fin e, g ((Fin.castAdd n i).cast hn) = 0 := Finset.sum_eq_zero fun i _ => h0 _ i.isLt
  rw [z, zero_add] at h
  exact h.symm.trans (Fintype.sum_equiv (finCongr hn) _ _ fun _ => rfl)

/-- The sum over all queries, taken as block `I` and the blocks after it, of terms that vanish before block `I`. -/
theorem sum_later (g : Fin 4096 → ℝ) {I : ℕ} (hI : I < 4) (h0 : ∀ i : Fin 4096, i.val < 1024 * I → g i = 0) :
    (∑ s : Fin 1024, g ⟨1024 * I + s.val, by omega⟩) + ∑ J : Fin (3 - I), ∑ s : Fin 1024, g ⟨1024 * (I + 1 + J.val) + s.val, by omega⟩ = ∑ i, g i := by
  have h4 := sum_blocks g 3 1024 (by omega) le_rfl (fun j hj => absurd j.isLt (by omega))
  rw [← h4]
  have z : ∀ J : ℕ, ∀ hJ : J < I, ∑ s : Fin 1024, g ⟨1024 * J + s.val, by omega⟩ = 0 := fun J hJ =>
    Finset.sum_eq_zero fun s _ => h0 _ (by show 1024 * J + s.val < 1024 * I; omega)
  rw [Fin.sum_univ_three]
  interval_cases I
  · exact (congrArg _ (Fin.sum_univ_three _)).trans (by simp only [← add_assoc]; rfl)
  · have z0 : ∑ t : Fin 1024, g ⟨1024 * (0 : Fin 3).val + t.val, by omega⟩ = 0 := z 0 (by omega)
    rw [z0]
    exact (congrArg _ (Fin.sum_univ_two _)).trans (by simp only [← add_assoc, zero_add]; rfl)
  · have z0 : ∑ t : Fin 1024, g ⟨1024 * (0 : Fin 3).val + t.val, by omega⟩ = 0 := z 0 (by omega)
    have z1 : ∑ t : Fin 1024, g ⟨1024 * (1 : Fin 3).val + t.val, by omega⟩ = 0 := z 1 (by omega)
    rw [z0, z1]
    exact (congrArg _ (Fin.sum_univ_one _)).trans (by simp only [← add_assoc, zero_add]; rfl)
  · have z0 : ∑ t : Fin 1024, g ⟨1024 * (0 : Fin 3).val + t.val, by omega⟩ = 0 := z 0 (by omega)
    have z1 : ∑ t : Fin 1024, g ⟨1024 * (1 : Fin 3).val + t.val, by omega⟩ = 0 := z 1 (by omega)
    have z2 : ∑ t : Fin 1024, g ⟨1024 * (2 : Fin 3).val + t.val, by omega⟩ = 0 := z 2 (by omega)
    rw [z0, z1, z2]
    exact (congrArg _ (Fin.sum_univ_zero _)).trans (by simp only [add_zero, zero_add])

/-! ## The block on the diagonal -/

/-- Row `r` of a group of 256 keys, with the queries of the diagonal block from the group's start on. -/
theorem diag_col {n e I : ℕ} {x : Head} {j : Fin 4096} {r : Fin 256} {r' : Fin 1024} (hn : e + n = 1024) (hI : I < 4) (hr' : r'.val = e + r.val) {off1 : Fin 4 → ℕ} {off2 : Fin 2 → ℕ}
    {x0 : Vec Ideal S4096x128 .bf16} {x1 x2 : Vec Ideal S1024x128 .bf16} {x3 : Vec Ideal S4096x128 .f32} {x4 x5 x6 x7 : Vec Ideal S1x4x1x1024 .f32} {w : Vec Ideal S1024x1 .f32}
    (hL : KLine x j r' x0 x1 x2 x3 x4 x5 x6 x7 w) {ix : Fin n → Fin 1024} (hix : ∀ s, (ix s).val = e + s.val)
    (inb1 : ∀ a, off1 a + ![1, 1, 1, 1024] a ≤ ![1, 4, 1, 1024] a) (ho1 : off1 = ![0, I, 0, 0])
    (inb2 : ∀ a, off2 a + ![n, 128] a ≤ ![4096, 128] a) (ho2 : off2 = ![1024 * I + e, 0])
    (inb0 : ∀ a, ![e, 0] a + ![256, 128] a ≤ ![1024, 128] a) (inbc : ∀ a, ![e, 0] a + ![256, 1] a ≤ ![1024, 1] a) :
    Col (R := 256) (n := n) x j (fun s => ⟨1024 * I + e + s.val, by omega⟩) r (fun r d => View.ld x1 (Rect.unit (s := S1024x128) ![e, 0] ![256, 128] inb0) (ix2 r d))
      (fun r d => View.ld x2 (Rect.unit (s := S1024x128) ![e, 0] ![256, 128] inb0) (ix2 r d))
      (fun r => scM2_0.view.readCov (Val := Elt Ideal) [⟨Rect.unit ![0, 0] ![1024, 1] inb_S1024x1_S1024x1_0_0, w⟩] (Rect.unit (s := S1024x1) ![e, 0] ![256, 1] inbc).toLoadRect (ix2 r 0))
      (fun s d => View.ld x0 (Rect.unit (s := S4096x128) off2 ![n, 128] inb2) (ix2 s d)) (fun s d => View.ld x3 (Rect.unit (s := S4096x128) off2 ![n, 128] inb2) (ix2 s d))
      (fun s => View.ld x4 (Rect.unit (s := S1x4x1x1024) off1 ![1, 1, 1, 1024] inb1) (ix4 0 0 0 (ix s))) (fun s => View.ld x5 (Rect.unit (s := S1x4x1x1024) off1 ![1, 1, 1, 1024] inb1) (ix4 0 0 0 (ix s)))
      (fun s => View.ld x6 (Rect.unit (s := S1x4x1x1024) off1 ![1, 1, 1, 1024] inb1) (ix4 0 0 0 (ix s))) (fun s => View.ld x7 (Rect.unit (s := S1x4x1x1024) off1 ![1, 1, 1, 1024] inb1) (ix4 0 0 0 (ix s))) := by
  have hr : e + r.val < 1024 := by omega
  obtain rfl : r' = ⟨e + r.val, hr⟩ := Fin.ext hr'
  have hi : ∀ s : Fin n, 1024 * I + e + s.val = 1024 * I + (ix s).val := fun s => by rw [hix]; omega
  exact
  { k := fun d => (ld_rows' x1 inb0 rfl r d hr).trans (hL.k d)
    v := fun d => (ld_rows' x2 inb0 rfl r d hr).trans (hL.v d)
    f := (cov_rows scM2_0.view inbc w r 0 hr).trans hL.w
    q := fun s d => (ld_rows' x0 inb2 ho2 s d (by omega)).trans (hL.q _ d)
    o := fun s d => (ld_rows' x3 inb2 ho2 s d (by omega)).trans (hL.o _ d)
    fq := fun s => (ld_row x4 inb1 ho1 (ix s) hI).trans (hL.fq ⟨I, hI⟩ (ix s) _ (hi s))
    lse := fun s => (ld_row x5 inb1 ho1 (ix s) hI).trans (hL.lse ⟨I, hI⟩ (ix s) _ (hi s))
    dl := fun s => (ld_row x6 inb1 ho1 (ix s) hI).trans (hL.dl ⟨I, hI⟩ (ix s) _ (hi s))
    rs := fun s => (ld_row x7 inb1 ho1 (ix s) hI).trans (hL.rs ⟨I, hI⟩ (ix s)) }

/-- A group's sum is the diagonal block's. -/
theorem group_sum (g : Fin 4096 → ℝ) {n e I : ℕ} (hn : e + n = 1024) (hI : I < 4) {r : Fin 1024} (hr : e ≤ r.val) (h0 : ∀ i : Fin 4096, i.val < 1024 * I + r.val → g i = 0) :
    ∑ s : Fin n, g ⟨1024 * I + e + s.val, by omega⟩ = ∑ t : Fin 1024, g ⟨1024 * I + t.val, by omega⟩ := by
  rw [← tail_sum (fun t : Fin 1024 => g ⟨1024 * I + t.val, by omega⟩) hn (fun t ht => h0 _ (by show 1024 * I + t.val < _; omega))]
  exact Finset.sum_congr rfl fun s _ => congrArg g (Fin.ext (by show 1024 * I + e + s.val = 1024 * I + (e + s.val); omega))

section
variable {x : Head} {I : ℕ} (hI : I < 4) {x0 : Vec Ideal S4096x128 .bf16} {x1 x2 : Vec Ideal S1024x128 .bf16} {x3 : Vec Ideal S4096x128 .f32} {x4 x5 x6 x7 : Vec Ideal S1x4x1x1024 .f32} {w : Vec Ideal S1024x1 .f32}
  (hL : ∀ r : Fin 1024, KLine x ⟨1024 * I + r.val, by omega⟩ r x0 x1 x2 x3 x4 x5 x6 x7 w) {o1 : Fin 4 → ℕ} {oq0 oq256 oq512 oq768 : Fin 2 → ℕ}
  (i1 : ∀ a, o1 a + ![1, 1, 1, 1024] a ≤ ![1, 4, 1, 1024] a) (h1 : o1 = ![0, I, 0, 0])
  (iq0 : ∀ a, oq0 a + ![1024, 128] a ≤ ![4096, 128] a) (hq0 : oq0 = ![1024 * I + 0, 0])
  (iq256 : ∀ a, oq256 a + ![768, 128] a ≤ ![4096, 128] a) (hq256 : oq256 = ![1024 * I + 256, 0])
  (iq512 : ∀ a, oq512 a + ![512, 128] a ≤ ![4096, 128] a) (hq512 : oq512 = ![1024 * I + 512, 0])
  (iq768 : ∀ a, oq768 a + ![256, 128] a ≤ ![4096, 128] a) (hq768 : oq768 = ![1024 * I + 768, 0])

include hI hL h1 hq0 hq256 hq512 hq768

/-- The keys' gradient after the diagonal block, without the scale. -/
theorem diag_dk (r : Fin 1024) (d : Fin 128) : @Eq EReal (k2_pay55 (F := Ideal) k2_pay12 (k2_pay21 k2_pay14 (k2_pay17 (View.ld x0 (Rect.unit (s := S4096x128) (oq0) ![1024, 128] iq0))) (k2_pay20 k2_pay12 (k2_pay17 (View.ld x0 (Rect.unit (s := S4096x128) (oq0) ![1024, 128] iq0))) (View.ld x3 (Rect.unit (s := S4096x128) (oq0) ![1024, 128] iq0)) (View.ld x4 (Rect.unit (s := S1x4x1x1024) o1 ![1, 1, 1, 1024] i1)) (View.ld x5 (Rect.unit (s := S1x4x1x1024) o1 ![1, 1, 1, 1024] i1)) (View.ld x6 (Rect.unit (s := S1x4x1x1024) o1 ![1, 1, 1, 1024] i1)) (View.ld x7 (Rect.unit (s := S1x4x1x1024) o1 ![1, 1, 1, 1024] i1)) (View.ld x1 (Rect.unit (s := S1024x128) ![0, 0] ![256, 128] inb_S1024x128_S256x128_0_0)) (scM2_0.view.readCov (Val := Elt Ideal) [⟨Rect.unit ![0, 0] ![1024, 1] inb_S1024x1_S1024x1_0_0, w⟩] (Rect.unit (s := S1024x1) ![0, 0] ![256, 1] inb_S1024x1_S256x1_0_0).toLoadRect) (View.ld x2 (Rect.unit (s := S1024x128) ![0, 0] ![256, 128] inb_S1024x128_S256x128_0_0)))) (k2_pay33 k2_pay12 k2_pay24 (k2_pay27 (View.ld x0 (Rect.unit (s := S4096x128) (oq256) ![768, 128] iq256))) (k2_pay28 (View.ld x3 (Rect.unit (s := S4096x128) (oq256) ![768, 128] iq256))) (k2_pay29 (View.ld x4 (Rect.unit (s := S1x4x1x1024) o1 ![1, 1, 1, 1024] i1)) (View.ld x5 (Rect.unit (s := S1x4x1x1024) o1 ![1, 1, 1, 1024] i1))) (k2_pay30 (View.ld x6 (Rect.unit (s := S1x4x1x1024) o1 ![1, 1, 1, 1024] i1)) (View.ld x7 (Rect.unit (s := S1x4x1x1024) o1 ![1, 1, 1, 1024] i1))) (View.ld x1 (Rect.unit (s := S1024x128) ![256, 0] ![256, 128] inb_S1024x128_S256x128_256_0)) (scM2_0.view.readCov (Val := Elt Ideal) [⟨Rect.unit ![0, 0] ![1024, 1] inb_S1024x1_S1024x1_0_0, w⟩] (Rect.unit (s := S1024x1) ![256, 0] ![256, 1] inb_S1024x1_S256x1_256_0).toLoadRect) (View.ld x2 (Rect.unit (s := S1024x128) ![256, 0] ![256, 128] inb_S1024x128_S256x128_256_0))) (k2_pay43 k2_pay36 (k2_pay39 (View.ld x0 (Rect.unit (s := S4096x128) (oq512) ![512, 128] iq512))) (k2_pay42 k2_pay12 (k2_pay39 (View.ld x0 (Rect.unit (s := S4096x128) (oq512) ![512, 128] iq512))) (View.ld x3 (Rect.unit (s := S4096x128) (oq512) ![512, 128] iq512)) (View.ld x4 (Rect.unit (s := S1x4x1x1024) o1 ![1, 1, 1, 1024] i1)) (View.ld x5 (Rect.unit (s := S1x4x1x1024) o1 ![1, 1, 1, 1024] i1)) (View.ld x6 (Rect.unit (s := S1x4x1x1024) o1 ![1, 1, 1, 1024] i1)) (View.ld x7 (Rect.unit (s := S1x4x1x1024) o1 ![1, 1, 1, 1024] i1)) (View.ld x1 (Rect.unit (s := S1024x128) ![512, 0] ![256, 128] inb_S1024x128_S256x128_512_0)) (scM2_0.view.readCov (Val := Elt Ideal) [⟨Rect.unit ![0, 0] ![1024, 1] inb_S1024x1_S1024x1_0_0, w⟩] (Rect.unit (s := S1024x1) ![512, 0] ![256, 1] inb_S1024x1_S256x1_512_0).toLoadRect) (View.ld x2 (Rect.unit (s := S1024x128) ![512, 0] ![256, 128] inb_S1024x128_S256x128_512_0)))) k2_pay46 (k2_pay49 (View.ld x0 (Rect.unit (s := S4096x128) (oq768) ![256, 128] iq768))) (k2_pay50 (View.ld x3 (Rect.unit (s := S4096x128) (oq768) ![256, 128] iq768))) (k2_pay51 (View.ld x4 (Rect.unit (s := S1x4x1x1024) o1 ![1, 1, 1, 1024] i1)) (View.ld x5 (Rect.unit (s := S1x4x1x1024) o1 ![1, 1, 1, 1024] i1))) (k2_pay52 (View.ld x6 (Rect.unit (s := S1x4x1x1024) o1 ![1, 1, 1, 1024] i1)) (View.ld x7 (Rect.unit (s := S1x4x1x1024) o1 ![1, 1, 1, 1024] i1))) (View.ld x1 (Rect.unit (s := S1024x128) ![768, 0] ![256, 128] inb_S1024x128_S256x128_768_0)) (scM2_0.view.readCov (Val := Elt Ideal) [⟨Rect.unit ![0, 0] ![1024, 1] inb_S1024x1_S1024x1_0_0, w⟩] (Rect.unit (s := S1024x1) ![768, 0] ![256, 1] inb_S1024x1_S256x1_768_0).toLoadRect) (View.ld x2 (Rect.unit (s := S1024x128) ![768, 0] ![256, 128] inb_S1024x128_S256x128_768_0)) (ix2 r d)) ((∑ t : Fin 1024, ds x ⟨1024 * I + t.val, by omega⟩ ⟨1024 * I + r.val, by omega⟩ * x.q ⟨1024 * I + t.val, by omega⟩ d : ℝ) : EReal) := by
  refine rows_real (g := fun r d => ∑ t : Fin 1024, ds x ⟨1024 * I + t.val, by omega⟩ ⟨1024 * I + r.val, by omega⟩ * x.q ⟨1024 * I + t.val, by omega⟩ d) ?_ ?_ ?_ ?_ r d
  · intro r d
    refine (group0_dk (r := r) (diag_col (e := 0) (r' := ⟨r.val, by omega⟩) (by omega) hI (by simp) (hL _) (fun s => by simp) i1 h1 iq0 hq0 inb_S1024x128_S256x128_0_0 inb_S1024x1_S256x1_0_0) (fun s => ?_) d).trans ?_
    · show _ ↔ 1024 * I + r.val ≤ 1024 * I + 0 + s.val
      omega
    · refine congrArg _ ((group_sum (fun i => ds x i ⟨1024 * I + (r.val), by omega⟩ * x.q i d) (by omega) hI (r := ⟨r.val, by omega⟩) (by simp) fun i hi => ?_))
      have hi' : i.val < 1024 * I + (r.val) := hi
      rw [ds_above x (fun h => by have : (1024 * I + (r.val) : ℕ) ≤ i.val := h; omega)]; exact zero_mul _
  · intro r d
    refine (group1_dk (r := r) (diag_col (e := 256) (r' := ⟨256 + r.val, by omega⟩) (by omega) hI (by simp) (hL _) (fun s => by simp) i1 h1 iq256 hq256 inb_S1024x128_S256x128_256_0 inb_S1024x1_S256x1_256_0) (fun s => ?_) d).trans ?_
    · show _ ↔ 1024 * I + (256 + r.val) ≤ 1024 * I + 256 + s.val
      omega
    · refine congrArg _ ((group_sum (fun i => ds x i ⟨1024 * I + (256 + r.val), by omega⟩ * x.q i d) (by omega) hI (r := ⟨256 + r.val, by omega⟩) (by simp) fun i hi => ?_))
      have hi' : i.val < 1024 * I + (256 + r.val) := hi
      rw [ds_above x (fun h => by have : (1024 * I + (256 + r.val) : ℕ) ≤ i.val := h; omega)]; exact zero_mul _
  · intro r d
    refine (group2_dk (r := r) (diag_col (e := 512) (r' := ⟨512 + r.val, by omega⟩) (by omega) hI (by simp) (hL _) (fun s => by simp) i1 h1 iq512 hq512 inb_S1024x128_S256x128_512_0 inb_S1024x1_S256x1_512_0) (fun s => ?_) d).trans ?_
    · show _ ↔ 1024 * I + (512 + r.val) ≤ 1024 * I + 512 + s.val
      omega
    · refine congrArg _ ((group_sum (fun i => ds x i ⟨1024 * I + (512 + r.val), by omega⟩ * x.q i d) (by omega) hI (r := ⟨512 + r.val, by omega⟩) (by simp) fun i hi => ?_))
      have hi' : i.val < 1024 * I + (512 + r.val) := hi
      rw [ds_above x (fun h => by have : (1024 * I + (512 + r.val) : ℕ) ≤ i.val := h; omega)]; exact zero_mul _
  · intro r d
    refine (group3_dk (r := r) (diag_col (e := 768) (r' := ⟨768 + r.val, by omega⟩) (by omega) hI (by simp) (hL _) (fun s => by simp) i1 h1 iq768 hq768 inb_S1024x128_S256x128_768_0 inb_S1024x1_S256x1_768_0) (fun s => ?_) d).trans ?_
    · show _ ↔ 1024 * I + (768 + r.val) ≤ 1024 * I + 768 + s.val
      omega
    · refine congrArg _ ((group_sum (fun i => ds x i ⟨1024 * I + (768 + r.val), by omega⟩ * x.q i d) (by omega) hI (r := ⟨768 + r.val, by omega⟩) (by simp) fun i hi => ?_))
      have hi' : i.val < 1024 * I + (768 + r.val) := hi
      rw [ds_above x (fun h => by have : (1024 * I + (768 + r.val) : ℕ) ≤ i.val := h; omega)]; exact zero_mul _

/-- The values' gradient after the diagonal block. -/
theorem diag_dv (r : Fin 1024) (d : Fin 128) : @Eq EReal (k2_pay56 (F := Ideal) k2_pay12 (k2_pay22 k2_pay15 (k2_pay18 (View.ld x3 (Rect.unit (s := S4096x128) (oq0) ![1024, 128] iq0))) (k2_pay19 k2_pay12 (k2_pay17 (View.ld x0 (Rect.unit (s := S4096x128) (oq0) ![1024, 128] iq0))) (View.ld x4 (Rect.unit (s := S1x4x1x1024) o1 ![1, 1, 1, 1024] i1)) (View.ld x5 (Rect.unit (s := S1x4x1x1024) o1 ![1, 1, 1, 1024] i1)) (View.ld x1 (Rect.unit (s := S1024x128) ![0, 0] ![256, 128] inb_S1024x128_S256x128_0_0)) (scM2_0.view.readCov (Val := Elt Ideal) [⟨Rect.unit ![0, 0] ![1024, 1] inb_S1024x1_S1024x1_0_0, w⟩] (Rect.unit (s := S1024x1) ![0, 0] ![256, 1] inb_S1024x1_S256x1_0_0).toLoadRect))) (k2_pay34 k2_pay12 k2_pay25 (k2_pay27 (View.ld x0 (Rect.unit (s := S4096x128) (oq256) ![768, 128] iq256))) (k2_pay28 (View.ld x3 (Rect.unit (s := S4096x128) (oq256) ![768, 128] iq256))) (k2_pay29 (View.ld x4 (Rect.unit (s := S1x4x1x1024) o1 ![1, 1, 1, 1024] i1)) (View.ld x5 (Rect.unit (s := S1x4x1x1024) o1 ![1, 1, 1, 1024] i1))) (View.ld x1 (Rect.unit (s := S1024x128) ![256, 0] ![256, 128] inb_S1024x128_S256x128_256_0)) (scM2_0.view.readCov (Val := Elt Ideal) [⟨Rect.unit ![0, 0] ![1024, 1] inb_S1024x1_S1024x1_0_0, w⟩] (Rect.unit (s := S1024x1) ![256, 0] ![256, 1] inb_S1024x1_S256x1_256_0).toLoadRect)) (k2_pay44 k2_pay37 (k2_pay40 (View.ld x3 (Rect.unit (s := S4096x128) (oq512) ![512, 128] iq512))) (k2_pay41 k2_pay12 (k2_pay39 (View.ld x0 (Rect.unit (s := S4096x128) (oq512) ![512, 128] iq512))) (View.ld x4 (Rect.unit (s := S1x4x1x1024) o1 ![1, 1, 1, 1024] i1)) (View.ld x5 (Rect.unit (s := S1x4x1x1024) o1 ![1, 1, 1, 1024] i1)) (View.ld x1 (Rect.unit (s := S1024x128) ![512, 0] ![256, 128] inb_S1024x128_S256x128_512_0)) (scM2_0.view.readCov (Val := Elt Ideal) [⟨Rect.unit ![0, 0] ![1024, 1] inb_S1024x1_S1024x1_0_0, w⟩] (Rect.unit (s := S1024x1) ![512, 0] ![256, 1] inb_S1024x1_S256x1_512_0).toLoadRect))) k2_pay47 (k2_pay49 (View.ld x0 (Rect.unit (s := S4096x128) (oq768) ![256, 128] iq768))) (k2_pay50 (View.ld x3 (Rect.unit (s := S4096x128) (oq768) ![256, 128] iq768))) (k2_pay51 (View.ld x4 (Rect.unit (s := S1x4x1x1024) o1 ![1, 1, 1, 1024] i1)) (View.ld x5 (Rect.unit (s := S1x4x1x1024) o1 ![1, 1, 1, 1024] i1))) (View.ld x1 (Rect.unit (s := S1024x128) ![768, 0] ![256, 128] inb_S1024x128_S256x128_768_0)) (scM2_0.view.readCov (Val := Elt Ideal) [⟨Rect.unit ![0, 0] ![1024, 1] inb_S1024x1_S1024x1_0_0, w⟩] (Rect.unit (s := S1024x1) ![768, 0] ![256, 1] inb_S1024x1_S256x1_768_0).toLoadRect) (ix2 r d)) ((∑ t : Fin 1024, p x ⟨1024 * I + t.val, by omega⟩ ⟨1024 * I + r.val, by omega⟩ * x.o ⟨1024 * I + t.val, by omega⟩ d : ℝ) : EReal) := by
  refine rows_real (g := fun r d => ∑ t : Fin 1024, p x ⟨1024 * I + t.val, by omega⟩ ⟨1024 * I + r.val, by omega⟩ * x.o ⟨1024 * I + t.val, by omega⟩ d) ?_ ?_ ?_ ?_ r d
  · intro r d
    refine (group0_dv (r := r) (diag_col (e := 0) (r' := ⟨r.val, by omega⟩) (by omega) hI (by simp) (hL _) (fun s => by simp) i1 h1 iq0 hq0 inb_S1024x128_S256x128_0_0 inb_S1024x1_S256x1_0_0) (fun s => ?_) d).trans ?_
    · show _ ↔ 1024 * I + r.val ≤ 1024 * I + 0 + s.val
      omega
    · refine congrArg _ ((group_sum (fun i => p x i ⟨1024 * I + (r.val), by omega⟩ * x.o i d) (by omega) hI (r := ⟨r.val, by omega⟩) (by simp) fun i hi => ?_))
      have hi' : i.val < 1024 * I + (r.val) := hi
      rw [p_above x (fun h => by have : (1024 * I + (r.val) : ℕ) ≤ i.val := h; omega)]; exact zero_mul _
  · intro r d
    refine (group1_dv (r := r) (diag_col (e := 256) (r' := ⟨256 + r.val, by omega⟩) (by omega) hI (by simp) (hL _) (fun s => by simp) i1 h1 iq256 hq256 inb_S1024x128_S256x128_256_0 inb_S1024x1_S256x1_256_0) (fun s => ?_) d).trans ?_
    · show _ ↔ 1024 * I + (256 + r.val) ≤ 1024 * I + 256 + s.val
      omega
    · refine congrArg _ ((group_sum (fun i => p x i ⟨1024 * I + (256 + r.val), by omega⟩ * x.o i d) (by omega) hI (r := ⟨256 + r.val, by omega⟩) (by simp) fun i hi => ?_))
      have hi' : i.val < 1024 * I + (256 + r.val) := hi
      rw [p_above x (fun h => by have : (1024 * I + (256 + r.val) : ℕ) ≤ i.val := h; omega)]; exact zero_mul _
  · intro r d
    refine (group2_dv (r := r) (diag_col (e := 512) (r' := ⟨512 + r.val, by omega⟩) (by omega) hI (by simp) (hL _) (fun s => by simp) i1 h1 iq512 hq512 inb_S1024x128_S256x128_512_0 inb_S1024x1_S256x1_512_0) (fun s => ?_) d).trans ?_
    · show _ ↔ 1024 * I + (512 + r.val) ≤ 1024 * I + 512 + s.val
      omega
    · refine congrArg _ ((group_sum (fun i => p x i ⟨1024 * I + (512 + r.val), by omega⟩ * x.o i d) (by omega) hI (r := ⟨512 + r.val, by omega⟩) (by simp) fun i hi => ?_))
      have hi' : i.val < 1024 * I + (512 + r.val) := hi
      rw [p_above x (fun h => by have : (1024 * I + (512 + r.val) : ℕ) ≤ i.val := h; omega)]; exact zero_mul _
  · intro r d
    refine (group3_dv (r := r) (diag_col (e := 768) (r' := ⟨768 + r.val, by omega⟩) (by omega) hI (by simp) (hL _) (fun s => by simp) i1 h1 iq768 hq768 inb_S1024x128_S256x128_768_0 inb_S1024x1_S256x1_768_0) (fun s => ?_) d).trans ?_
    · show _ ↔ 1024 * I + (768 + r.val) ≤ 1024 * I + 768 + s.val
      omega
    · refine congrArg _ ((group_sum (fun i => p x i ⟨1024 * I + (768 + r.val), by omega⟩ * x.o i d) (by omega) hI (r := ⟨768 + r.val, by omega⟩) (by simp) fun i hi => ?_))
      have hi' : i.val < 1024 * I + (768 + r.val) := hi
      rw [p_above x (fun h => by have : (1024 * I + (768 + r.val) : ℕ) ≤ i.val := h; omega)]; exact zero_mul _

/-- The gate's gradient after the diagonal block. -/
theorem diag_df (r : Fin 1024) : @Eq EReal (k2_pay57 (F := Ideal) k2_pay12 (k2_pay23 k2_pay16 (k2_pay20 k2_pay12 (k2_pay17 (View.ld x0 (Rect.unit (s := S4096x128) (oq0) ![1024, 128] iq0))) (View.ld x3 (Rect.unit (s := S4096x128) (oq0) ![1024, 128] iq0)) (View.ld x4 (Rect.unit (s := S1x4x1x1024) o1 ![1, 1, 1, 1024] i1)) (View.ld x5 (Rect.unit (s := S1x4x1x1024) o1 ![1, 1, 1, 1024] i1)) (View.ld x6 (Rect.unit (s := S1x4x1x1024) o1 ![1, 1, 1, 1024] i1)) (View.ld x7 (Rect.unit (s := S1x4x1x1024) o1 ![1, 1, 1, 1024] i1)) (View.ld x1 (Rect.unit (s := S1024x128) ![0, 0] ![256, 128] inb_S1024x128_S256x128_0_0)) (scM2_0.view.readCov (Val := Elt Ideal) [⟨Rect.unit ![0, 0] ![1024, 1] inb_S1024x1_S1024x1_0_0, w⟩] (Rect.unit (s := S1024x1) ![0, 0] ![256, 1] inb_S1024x1_S256x1_0_0).toLoadRect) (View.ld x2 (Rect.unit (s := S1024x128) ![0, 0] ![256, 128] inb_S1024x128_S256x128_0_0)))) (k2_pay35 k2_pay12 k2_pay26 (k2_pay27 (View.ld x0 (Rect.unit (s := S4096x128) (oq256) ![768, 128] iq256))) (k2_pay28 (View.ld x3 (Rect.unit (s := S4096x128) (oq256) ![768, 128] iq256))) (k2_pay29 (View.ld x4 (Rect.unit (s := S1x4x1x1024) o1 ![1, 1, 1, 1024] i1)) (View.ld x5 (Rect.unit (s := S1x4x1x1024) o1 ![1, 1, 1, 1024] i1))) (k2_pay30 (View.ld x6 (Rect.unit (s := S1x4x1x1024) o1 ![1, 1, 1, 1024] i1)) (View.ld x7 (Rect.unit (s := S1x4x1x1024) o1 ![1, 1, 1, 1024] i1))) (View.ld x1 (Rect.unit (s := S1024x128) ![256, 0] ![256, 128] inb_S1024x128_S256x128_256_0)) (scM2_0.view.readCov (Val := Elt Ideal) [⟨Rect.unit ![0, 0] ![1024, 1] inb_S1024x1_S1024x1_0_0, w⟩] (Rect.unit (s := S1024x1) ![256, 0] ![256, 1] inb_S1024x1_S256x1_256_0).toLoadRect) (View.ld x2 (Rect.unit (s := S1024x128) ![256, 0] ![256, 128] inb_S1024x128_S256x128_256_0))) (k2_pay45 k2_pay38 (k2_pay42 k2_pay12 (k2_pay39 (View.ld x0 (Rect.unit (s := S4096x128) (oq512) ![512, 128] iq512))) (View.ld x3 (Rect.unit (s := S4096x128) (oq512) ![512, 128] iq512)) (View.ld x4 (Rect.unit (s := S1x4x1x1024) o1 ![1, 1, 1, 1024] i1)) (View.ld x5 (Rect.unit (s := S1x4x1x1024) o1 ![1, 1, 1, 1024] i1)) (View.ld x6 (Rect.unit (s := S1x4x1x1024) o1 ![1, 1, 1, 1024] i1)) (View.ld x7 (Rect.unit (s := S1x4x1x1024) o1 ![1, 1, 1, 1024] i1)) (View.ld x1 (Rect.unit (s := S1024x128) ![512, 0] ![256, 128] inb_S1024x128_S256x128_512_0)) (scM2_0.view.readCov (Val := Elt Ideal) [⟨Rect.unit ![0, 0] ![1024, 1] inb_S1024x1_S1024x1_0_0, w⟩] (Rect.unit (s := S1024x1) ![512, 0] ![256, 1] inb_S1024x1_S256x1_512_0).toLoadRect) (View.ld x2 (Rect.unit (s := S1024x128) ![512, 0] ![256, 128] inb_S1024x128_S256x128_512_0)))) k2_pay48 (k2_pay49 (View.ld x0 (Rect.unit (s := S4096x128) (oq768) ![256, 128] iq768))) (k2_pay50 (View.ld x3 (Rect.unit (s := S4096x128) (oq768) ![256, 128] iq768))) (k2_pay51 (View.ld x4 (Rect.unit (s := S1x4x1x1024) o1 ![1, 1, 1, 1024] i1)) (View.ld x5 (Rect.unit (s := S1x4x1x1024) o1 ![1, 1, 1, 1024] i1))) (k2_pay52 (View.ld x6 (Rect.unit (s := S1x4x1x1024) o1 ![1, 1, 1, 1024] i1)) (View.ld x7 (Rect.unit (s := S1x4x1x1024) o1 ![1, 1, 1, 1024] i1))) (View.ld x1 (Rect.unit (s := S1024x128) ![768, 0] ![256, 128] inb_S1024x128_S256x128_768_0)) (scM2_0.view.readCov (Val := Elt Ideal) [⟨Rect.unit ![0, 0] ![1024, 1] inb_S1024x1_S1024x1_0_0, w⟩] (Rect.unit (s := S1024x1) ![768, 0] ![256, 1] inb_S1024x1_S256x1_768_0).toLoadRect) (View.ld x2 (Rect.unit (s := S1024x128) ![768, 0] ![256, 128] inb_S1024x128_S256x128_768_0)) (ix2 r 0)) ((0 - ∑ t : Fin 1024, ds x ⟨1024 * I + t.val, by omega⟩ ⟨1024 * I + r.val, by omega⟩ : ℝ) : EReal) := by
  refine column_rows_real (g := fun r => 0 - ∑ t : Fin 1024, ds x ⟨1024 * I + t.val, by omega⟩ ⟨1024 * I + r.val, by omega⟩) ?_ ?_ ?_ ?_ r
  · intro r
    refine (group0_df (r := r) (diag_col (e := 0) (r' := ⟨r.val, by omega⟩) (by omega) hI (by simp) (hL _) (fun s => by simp) i1 h1 iq0 hq0 inb_S1024x128_S256x128_0_0 inb_S1024x1_S256x1_0_0) (fun s => ?_)).trans ?_
    · show _ ↔ 1024 * I + r.val ≤ 1024 * I + 0 + s.val
      omega
    · refine congrArg _ (congrArg _ (group_sum (fun i => ds x i ⟨1024 * I + (r.val), by omega⟩) (by omega) hI (r := ⟨r.val, by omega⟩) (by simp) fun i hi => ?_))
      have hi' : i.val < 1024 * I + (r.val) := hi
      rw [ds_above x (fun h => by have : (1024 * I + (r.val) : ℕ) ≤ i.val := h; omega)]
  · intro r
    refine (group1_df (r := r) (diag_col (e := 256) (r' := ⟨256 + r.val, by omega⟩) (by omega) hI (by simp) (hL _) (fun s => by simp) i1 h1 iq256 hq256 inb_S1024x128_S256x128_256_0 inb_S1024x1_S256x1_256_0) (fun s => ?_)).trans ?_
    · show _ ↔ 1024 * I + (256 + r.val) ≤ 1024 * I + 256 + s.val
      omega
    · refine congrArg _ (congrArg _ (group_sum (fun i => ds x i ⟨1024 * I + (256 + r.val), by omega⟩) (by omega) hI (r := ⟨256 + r.val, by omega⟩) (by simp) fun i hi => ?_))
      have hi' : i.val < 1024 * I + (256 + r.val) := hi
      rw [ds_above x (fun h => by have : (1024 * I + (256 + r.val) : ℕ) ≤ i.val := h; omega)]
  · intro r
    refine (group2_df (r := r) (diag_col (e := 512) (r' := ⟨512 + r.val, by omega⟩) (by omega) hI (by simp) (hL _) (fun s => by simp) i1 h1 iq512 hq512 inb_S1024x128_S256x128_512_0 inb_S1024x1_S256x1_512_0) (fun s => ?_)).trans ?_
    · show _ ↔ 1024 * I + (512 + r.val) ≤ 1024 * I + 512 + s.val
      omega
    · refine congrArg _ (congrArg _ (group_sum (fun i => ds x i ⟨1024 * I + (512 + r.val), by omega⟩) (by omega) hI (r := ⟨512 + r.val, by omega⟩) (by simp) fun i hi => ?_))
      have hi' : i.val < 1024 * I + (512 + r.val) := hi
      rw [ds_above x (fun h => by have : (1024 * I + (512 + r.val) : ℕ) ≤ i.val := h; omega)]
  · intro r
    refine (group3_df (r := r) (diag_col (e := 768) (r' := ⟨768 + r.val, by omega⟩) (by omega) hI (by simp) (hL _) (fun s => by simp) i1 h1 iq768 hq768 inb_S1024x128_S256x128_768_0 inb_S1024x1_S256x1_768_0) (fun s => ?_)).trans ?_
    · show _ ↔ 1024 * I + (768 + r.val) ≤ 1024 * I + 768 + s.val
      omega
    · refine congrArg _ (congrArg _ (group_sum (fun i => ds x i ⟨1024 * I + (768 + r.val), by omega⟩) (by omega) hI (r := ⟨768 + r.val, by omega⟩) (by simp) fun i hi => ?_))
      have hi' : i.val < 1024 * I + (768 + r.val) := hi
      rw [ds_above x (fun h => by have : (1024 * I + (768 + r.val) : ℕ) ≤ i.val := h; omega)]

end

/-! ## The grid -/

section
variable {V : (c : Dev nD) → (b : Ref sig .tc) → Buf (Elt Ideal) ((c : Thread nD τ).loc b)} {c : Dev nD} {X : Fin 8 → Head} (E : Entry V c X)
  (hO : ∀ i (k : Fin 1024) (h : Fin 8) (d : Fin 128), k.val = h.val * 128 + d.val → @Eq EReal (V c main_v58 (ix2 i k)) (((X h).o i d : ℝ) : EReal))
  (hR : ∀ (h : Fin 8) (a : Fin 4) (t : Fin 1024), @Eq EReal (V c main_v57_1 (ix4 h a 0 t)) ((0 : ℝ) : EReal))

/-- The gate's column of the point's key block. -/
abbrev gatev (V : (c : Dev nD) → (b : Ref sig .tc) → Buf (Elt Ideal) ((c : Thread nD τ).loc b)) (c : Dev nD) (t : Fin cfg2.N) : FVec Ideal S1024x1 .f32 :=
  k2_pay13 (View.ld (iblk2 V c 4 t) (Rect.unit (s := S1x4x1x1024) (k2_off1 (grid2.coords t)) ![1, 1, 1, 1024] (k2_off1_inb (grid2.coords t))))

include E in
theorem blk2_fq (t : Fin cfg2.N) (h : Fin 8) (ht : h.val = t.val / 4) (a : Fin 4) (s : Fin 1024) (i : Fin 4096) (hi : i.val = 1024 * a.val + s.val) :
    @Eq EReal (iblk2 V c 4 t (ix4 0 a 0 s)) (((X h).f i * rl : ℝ) : EReal) := by
  obtain ⟨e0, e1, e2, e3, e4, e5, e6, e7, e8, e9, e10, htt⟩ := idx2 t
  refine Eq.trans ?_ (E.f h a s i (by omega))
  blk_point [iblk2, idx2 t]

include E hO hR in
theorem kline (t : Fin cfg2.N) (h : Fin 8) (ht : h.val = t.val / 4) (r : Fin 1024) (j : Fin 4096) (hj : j.val = 1024 * (t.val % 4) + r.val) :
    KLine (X h) j r (iblk2 V c 0 t) (iblk2 V c 1 t) (iblk2 V c 2 t) (iblk2 V c 3 t) (iblk2 V c 4 t) (iblk2 V c 5 t) (iblk2 V c 6 t) (iblk2 V c 7 t) (gatev V c t) := by
  obtain ⟨e0, e1, e2, e3, e4, e5, e6, e7, e8, e9, e10, htt⟩ := idx2 t
  exact
  { q := fun i d => by
      refine Eq.trans ?_ (E.q i ⟨h.val * 128 + d.val, by omega⟩ h d rfl)
      blk_point [iblk2, idx2 t]
    k := fun d => by
      refine Eq.trans ?_ (E.k j ⟨1024 + h.val * 128 + d.val, by omega⟩ h d rfl)
      blk_point [iblk2, idx2 t]
    v := fun d => by
      refine Eq.trans ?_ (E.v j ⟨2048 + h.val * 128 + d.val, by omega⟩ h d rfl)
      blk_point [iblk2, idx2 t]
    o := fun i d => by
      refine Eq.trans ?_ (hO i ⟨h.val * 128 + d.val, by omega⟩ h d rfl)
      blk_point [iblk2, idx2 t]
    fq := fun a s i hi => blk2_fq E t h ht a s i hi
    lse := fun a s i hi => by
      refine Eq.trans ?_ (E.lse h a s i (by omega))
      blk_point [iblk2, idx2 t]
    dl := fun a s i hi => by
      refine Eq.trans ?_ (E.del h a s i (by omega))
      blk_point [iblk2, idx2 t]
    rs := fun a s => by
      refine Eq.trans ?_ (hR h a s)
      blk_point [iblk2, idx2 t]
    w := by
      refine (column_at _ r).trans ?_
      refine (ld_row _ _ (off2 t).1 r (by omega)).trans ?_
      exact blk2_fq E t h ht ⟨t.val % 4, by omega⟩ r j hj }

theorem dk_congr {h h' : Fin 8} {i i' : Fin 4096} {d d' : Fin 128} (eh : h' = h) (ei : i' = i) (ed : d' = d) :
    @Eq EReal ((DK (X h) i d : ℝ) : EReal) ((DK (X h') i' d' : ℝ) : EReal) := by
  subst eh ei ed; rfl

theorem dv_congr {h h' : Fin 8} {i i' : Fin 4096} {d d' : Fin 128} (eh : h' = h) (ei : i' = i) (ed : d' = d) :
    @Eq EReal ((DV (X h) i d : ℝ) : EReal) ((DV (X h') i' d' : ℝ) : EReal) := by
  subst eh ei ed; rfl

theorem df_congr {h h' : Fin 8} {i i' : Fin 4096} (eh : h' = h) (ei : i' = i) :
    @Eq EReal ((DF (X h) i : ℝ) : EReal) ((DF (X h') i' : ℝ) : EReal) := by
  subst eh ei; rfl

/-- The keys' gradient from its accumulator: the scale. -/
theorem scaled_at (acc : FVec Ideal S1024x128 .f32) (r : Fin 1024) (d : Fin 128) {a : ℝ} (ha : @Eq EReal (acc (ix2 r d)) ((a : ℝ) : EReal)) :
    @Eq EReal (k2_pay1 (F := Ideal) acc k2_pay66 (ix2 r d)) ((a * scale : ℝ) : EReal) := by
  pointwise [k2_pay1, k2_pay66]
  exact mul_real ha scale_word

theorem stored_at (acc : FVec Ideal S1024x128 .f32) (r : Fin 1024) (d : Fin 128) {a : ℝ} (ha : @Eq EReal (acc (ix2 r d)) ((a : ℝ) : EReal)) :
    @Eq EReal (k2_pay2 (F := Ideal) acc (ix2 r d)) ((a : ℝ) : EReal) := by
  pointwise [k2_pay2]
  exact ha

variable (x : Head) {j : Fin 4096} {I : ℕ}

/-- The diagonal block and the later ones give the whole sums. -/
theorem dk_sum (hI : I < 4) (hj : 1024 * I ≤ j.val) (d : Fin 128) :
    ((∑ s : Fin 1024, ds x ⟨1024 * I + s.val, by omega⟩ j * x.q ⟨1024 * I + s.val, by omega⟩ d)
      + ∑ J : Fin (3 - I), ∑ s : Fin 1024, ds x ⟨1024 * (I + 1 + J.val) + s.val, by omega⟩ j * x.q ⟨1024 * (I + 1 + J.val) + s.val, by omega⟩ d) * scale = DK x j d := by
  unfold DK
  refine congrArg (· * scale) (sum_later (fun i => ds x i j * x.q i d) hI fun i hi => ?_)
  rw [ds_above x (fun h => by have : j.val ≤ i.val := h; omega), zero_mul]

theorem dv_sum (hI : I < 4) (hj : 1024 * I ≤ j.val) (d : Fin 128) :
    (∑ s : Fin 1024, p x ⟨1024 * I + s.val, by omega⟩ j * x.o ⟨1024 * I + s.val, by omega⟩ d)
      + ∑ J : Fin (3 - I), ∑ s : Fin 1024, p x ⟨1024 * (I + 1 + J.val) + s.val, by omega⟩ j * x.o ⟨1024 * (I + 1 + J.val) + s.val, by omega⟩ d = DV x j d := by
  unfold DV
  refine sum_later (fun i => p x i j * x.o i d) hI fun i hi => ?_
  rw [p_above x (fun h => by have : j.val ≤ i.val := h; omega), zero_mul]

theorem df_sum (hI : I < 4) (hj : 1024 * I ≤ j.val) :
    0 - (∑ s : Fin 1024, ds x ⟨1024 * I + s.val, by omega⟩ j)
      - ∑ J : Fin (3 - I), ∑ s : Fin 1024, ds x ⟨1024 * (I + 1 + J.val) + s.val, by omega⟩ j = DF x j := by
  unfold DF
  rw [sub_sub, zero_sub]
  refine congrArg Neg.neg (sum_later (fun i => ds x i j) hI fun i hi => ?_)
  exact ds_above x (fun h => by have : j.val ≤ i.val := h; omega)

set_option maxHeartbeats 1000000 in
include E hO hR in
/-- The keys' gradient, as the kernel leaves it. -/
theorem dk_final : (dat2 V c).arrAt 8 cfg2.N = fun j : S4096x1024.Idx => ((DK (X ⟨(j 1).val / 128, by have := (j 1).isLt; simp at this; omega⟩) (j 0) ⟨(j 1).val % 128, by omega⟩ : ℝ) : EReal) := by
  refine (dat2 V c).arrAt_eq_of_covers 8 _ (by decide +kernel) fun t _ y => ?_
  blk_simp
  rw [after2_8]
  unfold outsAt2
  frame_out
  obtain ⟨e0, e1, e2, e3, e4, e5, e6, e7, e8, e9, e10, htt⟩ := idx2 t
  obtain ⟨o1, o2, o3, o4, o5, tr1, tr2⟩ := off2 t
  obtain ⟨r, d, rfl⟩ : ∃ (r : Fin 1024) (d : Fin 128), y = ix2 r d := ⟨y 0, y 1, by funext a; fin_cases a <;> rfl⟩
  have hL := fun r : Fin 1024 => kline E hO hR t ⟨t.val / 4, by omega⟩ rfl r ⟨1024 * (t.val % 4) + r.val, by omega⟩ rfl
  refine (scaled_at _ r d ((loops_dkv c t _ _ _ _ _ _ _ _ _ _ _ _ _ _ _ _ _ _ _ _ _ _ _ _ _ _ _ _ _ _ _ _ _ _ _ _ _ _ _ _ _ _ _ _ _ _ _ _ _ _ (hL r) rfl _ _
    (diag_dk (by omega) hL _ o1 _ o2 _ o3 _ o4 _ o5 r) (diag_dv (by omega) hL _ o1 _ o2 _ o3 _ o4 _ o5 r) (diag_df (by omega) hL _ o1 _ o2 _ o3 _ o4 _ o5 r) tr1 tr2 rfl rfl).1 d)).trans ?_
  rw [dk_sum _ (by omega) (by show 1024 * (t.val % 4) ≤ 1024 * (t.val % 4) + r.val; omega) d]
  refine dk_congr (Fin.ext ?_) (Fin.ext ?_) (Fin.ext ?_)
  all_goals (blk_simp [idx2 t] <;> simp only [ix2] at * <;> omega)

end

end Cert.AttnKIdeal.Value
-- ==== Proof.AttnDkvOut.lean ====
module

public import proofs.«01_k».proof.Proof.AttnDkv

@[expose] public section

set_option maxRecDepth 16384

noncomputable section

/-! # The values' and the gate's gradients over the grid -/

namespace Cert.AttnKIdeal.Value
open Cert.AttnKIdeal Cert.AttnKIdeal.Gen Cert.AttnMath Idealize.ShloMosaic Idealize.ShloMosaic.TcCoe Idealize.SL.Sem
open Idealize.ShloMosaic.Pipeline (Dat)

variable {V : (c : Dev nD) → (b : Ref sig .tc) → Buf (Elt Ideal) ((c : Thread nD τ).loc b)} {c : Dev nD} {X : Fin 8 → Head} (E : Entry V c X)
  (hO : ∀ i (k : Fin 1024) (h : Fin 8) (d : Fin 128), k.val = h.val * 128 + d.val → @Eq EReal (V c main_v58 (ix2 i k)) (((X h).o i d : ℝ) : EReal))
  (hR : ∀ (h : Fin 8) (a : Fin 4) (t : Fin 1024), @Eq EReal (V c main_v57_1 (ix4 h a 0 t)) ((0 : ℝ) : EReal))

set_option maxHeartbeats 1000000 in
include E hO hR in
/-- The values' gradient, as the kernel leaves it. -/
theorem dv_final : (dat2 V c).arrAt 9 cfg2.N = fun j : S4096x1024.Idx => ((DV (X ⟨(j 1).val / 128, by have := (j 1).isLt; simp at this; omega⟩) (j 0) ⟨(j 1).val % 128, by omega⟩ : ℝ) : EReal) := by
  refine (dat2 V c).arrAt_eq_of_covers 9 _ (by decide +kernel) fun t _ y => ?_
  blk_simp
  rw [after2_9]
  unfold outsAt2
  frame_out
  obtain ⟨e0, e1, e2, e3, e4, e5, e6, e7, e8, e9, e10, htt⟩ := idx2 t
  obtain ⟨o1, o2, o3, o4, o5, tr1, tr2⟩ := off2 t
  obtain ⟨r, d, rfl⟩ : ∃ (r : Fin 1024) (d : Fin 128), y = ix2 r d := ⟨y 0, y 1, by funext a; fin_cases a <;> rfl⟩
  have hL := fun r : Fin 1024 => kline E hO hR t ⟨t.val / 4, by omega⟩ rfl r ⟨1024 * (t.val % 4) + r.val, by omega⟩ rfl
  refine (stored_at _ r d ((loops_dkv c t _ _ _ _ _ _ _ _ _ _ _ _ _ _ _ _ _ _ _ _ _ _ _ _ _ _ _ _ _ _ _ _ _ _ _ _ _ _ _ _ _ _ _ _ _ _ _ _ _ _ (hL r) rfl _ _
    (diag_dk (by omega) hL _ o1 _ o2 _ o3 _ o4 _ o5 r) (diag_dv (by omega) hL _ o1 _ o2 _ o3 _ o4 _ o5 r) (diag_df (by omega) hL _ o1 _ o2 _ o3 _ o4 _ o5 r) tr1 tr2 rfl rfl).2.1 d)).trans ?_
  rw [dv_sum _ (by omega) (by show 1024 * (t.val % 4) ≤ 1024 * (t.val % 4) + r.val; omega) d]
  refine dv_congr (Fin.ext ?_) (Fin.ext ?_) (Fin.ext ?_)
  all_goals (blk_simp [idx2 t] <;> simp only [ix2] at * <;> omega)

set_option maxHeartbeats 1000000 in
include E hO hR in
/-- The gate's gradient, as the kernel leaves it. -/
theorem df_final : (dat2 V c).arrAt 10 cfg2.N = fun j : S8x4x1x1024.Idx => ((DF (X (j 0)) ⟨(j 1).val * 1024 + (j 3).val, by have := (j 1).isLt; have := (j 3).isLt; simp at *; omega⟩ : ℝ) : EReal) := by
  refine (dat2 V c).arrAt_eq_of_covers 10 _ (by decide +kernel) fun t _ y => ?_
  blk_simp
  rw [after2_10]
  unfold outsAt2
  frame_out
  obtain ⟨e0, e1, e2, e3, e4, e5, e6, e7, e8, e9, e10, htt⟩ := idx2 t
  obtain ⟨o1, o2, o3, o4, o5, tr1, tr2⟩ := off2 t
  obtain ⟨r, rfl⟩ : ∃ (r : Fin 1024), y = ix4 0 0 0 r := ⟨y 3, by funext a; fin_cases a <;> first | rfl | exact Subsingleton.elim (α := Fin 1) _ _⟩
  have hL := fun r : Fin 1024 => kline E hO hR t ⟨t.val / 4, by omega⟩ rfl r ⟨1024 * (t.val % 4) + r.val, by omega⟩ rfl
  refine (row1024_at _ r).trans (((loops_dkv c t _ _ _ _ _ _ _ _ _ _ _ _ _ _ _ _ _ _ _ _ _ _ _ _ _ _ _ _ _ _ _ _ _ _ _ _ _ _ _ _ _ _ _ _ _ _ _ _ _ _ (hL r) rfl _ _
    (diag_dk (by omega) hL _ o1 _ o2 _ o3 _ o4 _ o5 r) (diag_dv (by omega) hL _ o1 _ o2 _ o3 _ o4 _ o5 r) (diag_df (by omega) hL _ o1 _ o2 _ o3 _ o4 _ o5 r) tr1 tr2 rfl rfl).2.2).trans ?_)
  rw [df_sum _ (by omega) (by show 1024 * (t.val % 4) ≤ 1024 * (t.val % 4) + r.val; omega)]
  refine df_congr (Fin.ext ?_) (Fin.ext ?_)
  all_goals (blk_simp [idx2 t] <;> simp only [ix4] at * <;> omega)

end Cert.AttnKIdeal.Value
-- ==== Proof.AttnRun.lean ====
module

public import proofs.«01_k».proof.Proof.AttnEntry
public import proofs.«01_k».proof.Proof.AttnDkvOut

@[expose] public section

set_option maxRecDepth 16384

noncomputable section

/-! # The attention's gradients, as the program leaves them -/

namespace Cert.AttnKIdeal.Value
open Cert.AttnKIdeal Cert.AttnKIdeal.Gen Cert.AttnMath Idealize.ShloMosaic Idealize.ShloMosaic.TcCoe Idealize.SL.Sem
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

section
variable {m : (ℓ : Loc nD τ sig) → Buf (Elt Ideal) ℓ} (ρ : Dev nD → PrngReg) {c : Dev nD} (hf : Finite (argZ m c) (argF m c) (argO m c))

/-- The four results by heads. -/
def resDq (m : (ℓ : Loc nD τ sig) → Buf (Elt Ideal) ℓ) (c : Dev nD) : S4096x1024.Idx → EReal :=
  fun j => ((DQ (heads m c ⟨(j 1).val / 128, by have := (j 1).isLt; simp at this; omega⟩) (j 0) ⟨(j 1).val % 128, by omega⟩ : ℝ) : EReal)
def resDk (m : (ℓ : Loc nD τ sig) → Buf (Elt Ideal) ℓ) (c : Dev nD) : S4096x1024.Idx → EReal :=
  fun j => ((DK (heads m c ⟨(j 1).val / 128, by have := (j 1).isLt; simp at this; omega⟩) (j 0) ⟨(j 1).val % 128, by omega⟩ : ℝ) : EReal)
def resDv (m : (ℓ : Loc nD τ sig) → Buf (Elt Ideal) ℓ) (c : Dev nD) : S4096x1024.Idx → EReal :=
  fun j => ((DV (heads m c ⟨(j 1).val / 128, by have := (j 1).isLt; simp at this; omega⟩) (j 0) ⟨(j 1).val % 128, by omega⟩ : ℝ) : EReal)
def resDf (m : (ℓ : Loc nD τ sig) → Buf (Elt Ideal) ℓ) (c : Dev nD) : S8x4x1x1024.Idx → EReal :=
  fun j => ((DF (heads m c (j 0)) ⟨(j 1).val * 1024 + (j 3).val, by have := (j 1).isLt; have := (j 3).isLt; simp at *; omega⟩ : ℝ) : EReal)

include hf
theorem W10_dq : W10 m ρ c (Proc.devRef .tc main_v57_0) = resDq m c :=
  (W10_of m ρ c main_v57_0 (by decide)).trans ((W9_of m ρ c main_v57_0 (by decide)).trans ((W8_arr m ρ c 7).trans (dq_final (entry7 ρ hf) (hO56 ρ hf))))
theorem W10_dk : W10 m ρ c (Proc.devRef .tc main_v59_0) = resDk m c :=
  (W10_arr m ρ c 8).trans (dk_final (entry9 ρ hf) (hO58 ρ hf) (hR57 ρ hf))
theorem W10_dv : W10 m ρ c (Proc.devRef .tc main_v59_1) = resDv m c :=
  (W10_arr m ρ c 9).trans (dv_final (entry9 ρ hf) (hO58 ρ hf) (hR57 ρ hf))
theorem W10_df : W10 m ρ c (Proc.devRef .tc main_v59_2) = resDf m c :=
  (W10_arr m ρ c 10).trans (df_final (entry9 ρ hf) (hO58 ρ hf) (hR57 ρ hf))
end

variable (m : (ℓ : Loc nD τ sig) → Buf (Elt Ideal) ℓ) (ρ : Dev nD → PrngReg)

set_option backward.isDefEq.respectTransparency.types false in
/-- Of finite arguments the program leaves the four gradients, and the arguments as they were. -/
theorem run (hf : ∀ c, Finite (argZ m c) (argF m c) (argO m c)) :
    θ_run defs (onTc (τ := τ) (main (F := Ideal))) ⟨m, fun _ => 0, ρ⟩ fun r => ∀ c : Dev nD,
      r.2.mem ((c.tc : Thread nD τ).loc main_v57_0) = resDq m c
      ∧ r.2.mem ((c.tc : Thread nD τ).loc main_v59_0) = resDk m c
      ∧ r.2.mem ((c.tc : Thread nD τ).loc main_v59_1) = resDv m c
      ∧ r.2.mem ((c.tc : Thread nD τ).loc main_v59_2) = resDf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨(h c _ (mem_uc main_v57_0 (by decide))).trans (W10_dq ρ (hf c)),
       (h c _ (mem_uc main_v59_0 (by decide))).trans (W10_dk ρ (hf c)),
       (h c _ (mem_uc main_v59_1 (by decide))).trans (W10_dv ρ (hf c)),
       (h c _ (mem_uc main_v59_2 (by decide))).trans (W10_df ρ (hf c)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c)⟩)

end Cert.AttnKIdeal.Value
end
-- ==== Proof.AttnRef.lean ====
module

public import proofs.«01_k».proof.Proof.AttnArgs
public import proofs.«01_k».proof.Proof.Gen.AttnRIdeal.Read

@[expose] public section

set_option maxRecDepth 16384

noncomputable section

/-! # What the reference of the attention's gradients computes

Each stage of the derivative of the softmax attention, read at one query `i` and one key `j` of head `h`. -/

namespace Cert.AttnRIdeal.Value
open Cert.AttnRIdeal Cert.AttnRIdeal.Gen Cert.AttnRIdeal.Read Cert.AttnMath Idealize.ShloMosaic Idealize.ShloMosaic.TcCoe Idealize.SL.Sem

/-- The causal mask: key `j` is visible to query `i`. -/
theorem keep (i j : Fin 4096) : IntOp.cmpi CmpIPredicate.sle (BitVec.ofNat 32 j.val) (BitVec.ofNat 32 i.val) = if j ≤ i then 1#1 else 0#1 := by
  have hi := i.isLt
  have hj := j.isLt
  have ei : (BitVec.ofNat 32 i.val).toInt = i.val := by
    rw [BitVec.toInt_eq_toNat_of_lt] <;> simp [BitVec.toNat_ofNat] <;> omega
  have ej : (BitVec.ofNat 32 j.val).toInt = j.val := by
    rw [BitVec.toInt_eq_toNat_of_lt] <;> simp [BitVec.toNat_ofNat] <;> omega
  simp only [IntOp.cmpi, BitVec.sle, ei, ej]
  by_cases h : j ≤ i
  · have : (j.val : ℤ) ≤ i.val := by exact_mod_cast h
    simp [h]
  · have : ¬ (j.val ≤ i.val) := h
    simp [h, this]

/-- A row's maximum. -/
theorem row_max (x : FVec Ideal S1x8x4096x4096 .f32) (c : FVec Ideal S_ .f32) (b : EReal) (hc : ∀ k, c k = b) (h : Fin 8) (i : Fin 4096) :
    Host.reduce FloatOps.maximumf x c reducesTo_S1x8x4096x4096_S1x8x4096_d3 h_S_ (ix3 0 h i)
      = Finset.univ.fold max b (fun j => x (ix4 0 h i j)) := by
  have hr : S1x8x4096x4096.Reduces [3] S1x8x4096 := by decide
  haveI : Std.Commutative (FloatOps.maximumf : Ideal .f32 → Ideal .f32 → Ideal .f32) := ⟨fun a b => max_comm (α := EReal) a b⟩
  haveI : Std.Associative (FloatOps.maximumf : Ideal .f32 → Ideal .f32 → Ideal .f32) := ⟨fun a b c => max_assoc (α := EReal) a b c⟩
  rw [Host.reduce_eq_fold_single _ _ _ _ hr, hc]
  refine Finset.fold_congr fun k _ => ?_
  refine congrArg x (funext fun a => ?_)
  match a with
  | ⟨0, _⟩ => rfl
  | ⟨1, _⟩ => rfl
  | ⟨2, _⟩ => rfl
  | ⟨3, _⟩ => rfl

/-- The larger of two entries. -/
theorem max_at (x y : FVec Ideal S1x8x4096 .f32) (k : S1x8x4096.Idx) : maximumf x y k = max (show EReal from x k) (y k) := rfl

/-- A sum over two axes of size one. -/
theorem sum_unit (v : S1x8x4096x1.Idx → EReal) (b : EReal) (h : Fin 8) (i : Fin 4096) :
    Ideal.hostReduceAdd reducesTo_S1x8x4096x1_S8x4096_d0_3 v b (ix2 h i) = b + v (ix4 0 h i 0) := by
  unfold Ideal.hostReduceAdd
  refine congrArg (b + ·) ?_
  rw [Finset.sum_eq_single (ix4 0 h i 0)]
  · intro k hk hne
    rw [Finset.mem_filter] at hk
    refine absurd ?_ hne
    have h1 := congrArg (fun q : S8x4096.Idx => (q 0).val) hk.2
    have h2 := congrArg (fun q : S8x4096.Idx => (q 1).val) hk.2
    funext a
    match a with
    | ⟨0, _⟩ => exact Subsingleton.elim (α := Fin 1) _ _
    | ⟨1, _⟩ => exact Fin.ext h1
    | ⟨2, _⟩ => exact Fin.ext h2
    | ⟨3, _⟩ => exact Subsingleton.elim (α := Fin 1) _ _
  · intro hn
    refine absurd (Finset.mem_filter.2 ⟨Finset.mem_univ _, ?_⟩) hn
    funext a
    match a with
    | ⟨0, _⟩ => rfl
    | ⟨1, _⟩ => rfl

/-- A sum over two axes of size one, the queries' axis gone. -/
theorem sum_unit' (v : S1x8x1x4096.Idx → EReal) (b : EReal) (h : Fin 8) (i : Fin 4096) :
    Ideal.hostReduceAdd reducesTo_S1x8x1x4096_S8x4096_d0_2 v b (ix2 h i) = b + v (ix4 0 h 0 i) := by
  unfold Ideal.hostReduceAdd
  refine congrArg (b + ·) ?_
  rw [Finset.sum_eq_single (ix4 0 h 0 i)]
  · intro k hk hne
    rw [Finset.mem_filter] at hk
    refine absurd ?_ hne
    have h1 := congrArg (fun q : S8x4096.Idx => (q 0).val) hk.2
    have h2 := congrArg (fun q : S8x4096.Idx => (q 1).val) hk.2
    funext a
    match a with
    | ⟨0, _⟩ => exact Subsingleton.elim (α := Fin 1) _ _
    | ⟨1, _⟩ => exact Fin.ext h1
    | ⟨2, _⟩ => exact Subsingleton.elim (α := Fin 1) _ _
    | ⟨3, _⟩ => exact Fin.ext h2
  · intro hn
    refine absurd (Finset.mem_filter.2 ⟨Finset.mem_univ _, ?_⟩) hn
    funext a
    match a with
    | ⟨0, _⟩ => rfl
    | ⟨1, _⟩ => rfl

variable {z : FVec Ideal ZS .f32} {F : FVec Ideal FS .f32} {o : FVec Ideal OS .f32}

theorem v6 (hf : Finite z F o) (h : Fin 8) (i j : Fin 4096) :
    val_main_v6 (F := Ideal) z (ix4 0 h i j) = ((∑ d, (head z F o h).q i d * (head z F o h).k j d : ℝ) : EReal) := by
  pointwise [val_main_v6, val_main_v1, val_main_v3, val_main_v0, val_main_v2]
  rw [← coe_sum]
  refine Finset.sum_congr rfl fun d _ => ?_
  rw [hf.q h i d _ rfl, hf.k h j d _ (by simp only; omega), EReal.coe_mul]

/-- The scaled scores with their gates. -/
theorem v14 (hf : Finite z F o) (h : Fin 8) (i j : Fin 4096) :
    val_main_v14 (F := Ideal) z F (ix4 0 h i j) = ((sc (head z F o h) i j : ℝ) : EReal) := by
  pointwise [val_main_v14, val_main_v11, val_main_v8, val_main_v7, val_main_cst, val_main_v9, val_main_v10, val_main_v12, val_main_v13]
  rw [v6 hf, hf.f h i, hf.f h j, scale_word]
  unfold sc
  push_cast
  rfl

theorem v23_1 (h : Fin 8) (i j : Fin 4096) : val_main_v23_1 (F := Ideal) (ix4 0 h i j) = if j ≤ i then 1#1 else 0#1 := by
  pointwise [val_main_v23_1, val_main_v22, val_main_v21, val_main_v20, val_main_v19, val_main_v18, val_main_v17, val_main_v16, val_main_v15]
  exact keep i j

/-- The scores, the least extended real above the diagonal. -/
theorem v23_0 (hf : Finite z F o) (h : Fin 8) (i j : Fin 4096) :
    val_main_v23_0 (F := Ideal) z F (ix4 0 h i j) = if j ≤ i then ((sc (head z F o h) i j : ℝ) : EReal) else ⊥ := by
  pointwise [val_main_v23_0, val_main_call0_v2, val_main_call0_v0, val_main_cst_0]
  rw [v23_1, v14 hf, show id (constant (F := Ideal) S_ .f32 0xFF800000#32) ix0 = (⊥ : EReal) from neg_inf_word]
  by_cases hji : j ≤ i <;> simp [hji, Scalar.select]

theorem cst_1 (k : S_.Idx) : val_main_cst_1 (F := Ideal) k = (⊥ : EReal) := by
  pointwise [val_main_cst_1]
  exact neg_inf_word

theorem v30 (k : S1x8x4096.Idx) : val_main_v30 (F := Ideal) k = (⊥ : EReal) := by
  idx_vars k
  pointwise [val_main_v30, val_main_cst_3]
  exact neg_inf_word

theorem v24 (h : Fin 8) (i : Fin 4096) :
    val_main_v24 (F := Ideal) z F (ix3 0 h i) = Finset.univ.fold max (⊥ : EReal) (fun j => val_main_v23_0 (F := Ideal) z F (ix4 0 h i j)) := by
  unfold val_main_v24
  generalize val_main_v23_0 (F := Ideal) z F = y
  exact row_max y _ ⊥ cst_1 h i

/-- A row's maximum is real. -/
theorem v31 (hf : Finite z F o) (h : Fin 8) (i : Fin 4096) :
    ∃ μ : ℝ, val_main_v31 (F := Ideal) z F (ix3 0 h i) = ((μ : ℝ) : EReal) := by
  obtain ⟨μ, hμ⟩ := fold_max_real i (sc (head z F o h) i)
  refine ⟨μ, ?_⟩
  have e24 : val_main_v24 (F := Ideal) z F (ix3 0 h i) = ((μ : ℝ) : EReal) := by
    refine (v24 h i).trans ?_
    rw [← hμ]
    exact Finset.fold_congr fun k _ => v23_0 hf h i k
  unfold val_main_v31
  rw [max_at, e24, v30]
  exact max_bot_left _

/-- The stages after the row's maximum `μ`, whatever real it is. -/
structure Row (z : FVec Ideal ZS .f32) (F : FVec Ideal FS .f32) (h : Fin 8) (i : Fin 4096) (μ : ℝ) : Prop where
  max : val_main_v31 (F := Ideal) z F (ix3 0 h i) = ((μ : ℝ) : EReal)

theorem v44 (hf : Finite z F o) {h : Fin 8} {i : Fin 4096} {μ : ℝ} (hr : Row z F h i μ) (j : Fin 4096) :
    val_main_v44 (F := Ideal) z F (ix4 0 h i j) = ((e (head z F o h) μ i j : ℝ) : EReal) := by
  pointwise [val_main_v44, val_main_v43, val_main_v42, val_main_v41]
  rw [v23_0 hf, hr.max]
  unfold e
  by_cases hji : j ≤ i
  · rw [if_pos hji, if_pos hji, ← EReal.coe_sub]; exact Ideal.exp_coe _
  · rw [if_neg hji, if_neg hji, EReal.bot_sub]; exact Ideal.exp_bot

theorem v45 (hf : Finite z F o) {h : Fin 8} {i : Fin 4096} {μ : ℝ} (hr : Row z F h i μ) :
    val_main_v45 (F := Ideal) z F (ix3 0 h i) = ((l (head z F o h) μ i : ℝ) : EReal) := by
  pointwise [val_main_v45, val_main_cst_9]
  rw [Finset.sum_congr rfl fun j _ => v44 hf hr j, coe_sum]
  first | rfl | exact zero_add (_ : EReal)

theorem v48 (hf : Finite z F o) {h : Fin 8} {i : Fin 4096} {μ : ℝ} (hr : Row z F h i μ) (j : Fin 4096) :
    val_main_v48 (F := Ideal) z F (ix4 0 h i j) = ((p (head z F o h) i j : ℝ) : EReal) := by
  pointwise [val_main_v48, val_main_v47, val_main_v46]
  rw [v44 hf hr, v45 hf hr, Ideal.div_coe (l_ne _ _ _), ← EReal.coe_mul, ← e_div_l _ μ, div_eq_mul_one_div (e (head z F o h) μ i j)]

theorem v57 (hf : Finite z F o) (h : Fin 8) (i j : Fin 4096) :
    val_main_v57 (F := Ideal) z o (ix4 0 h i j) = ((dp (head z F o h) i j : ℝ) : EReal) := by
  pointwise [val_main_v57, val_main_v56, val_main_v55, val_main_v5, val_main_v4]
  unfold dp
  rw [← coe_sum]
  refine Finset.sum_congr rfl fun d _ => ?_
  rw [hf.ct h i d _ rfl, hf.v h j d _ (by simp only; omega), EReal.coe_mul]

theorem v51 (hf : Finite z F o) {h : Fin 8} {i : Fin 4096} {μ : ℝ} (hr : Row z F h i μ) :
    val_main_v51 (F := Ideal) z F (ix4 0 h i 0) = ((1 / (l (head z F o h) μ i * l (head z F o h) μ i) : ℝ) : EReal) := by
  pointwise [val_main_v51, val_main_v50, val_main_cst_10, val_main_v49, val_main_v46]
  rw [v45 hf hr, ← EReal.coe_mul, Ideal.div_coe (mul_ne_zero (l_ne _ _ _) (l_ne _ _ _)), one_mul]

theorem v62 (hf : Finite z F o) {h : Fin 8} {i : Fin 4096} {μ : ℝ} (hr : Row z F h i μ) (j : Fin 4096) :
    val_main_v62 (F := Ideal) z F o (ix4 0 h i j)
      = ((dp (head z F o h) i j * (1 / (l (head z F o h) μ i * l (head z F o h) μ i)) * e (head z F o h) μ i j : ℝ) : EReal) := by
  pointwise [val_main_v62, val_main_v61, val_main_v60]
  rw [v57 hf, v51 hf hr, v44 hf hr, EReal.coe_mul, EReal.coe_mul]

theorem v68 (hf : Finite z F o) {h : Fin 8} {i : Fin 4096} {μ : ℝ} (hr : Row z F h i μ) :
    val_main_v68 (F := Ideal) z F o (ix2 h i)
      = ((-∑ j, dp (head z F o h) i j * (1 / (l (head z F o h) μ i * l (head z F o h) μ i)) * e (head z F o h) μ i j : ℝ) : EReal) := by
  unfold val_main_v68
  pointwise [val_main_cst_12]
  rw [sum_unit, zero_add]
  pointwise [val_main_v65, val_main_v64, val_main_v63, val_main_cst_11]
  rw [Finset.sum_congr rfl fun j _ => v62 hf hr j, coe_sum]
  rfl

theorem v73 (hf : Finite z F o) (h : Fin 8) (i j : Fin 4096) :
    val_main_v73 (F := Ideal) z F o (ix4 0 h i j) = ((ds (head z F o h) i j : ℝ) : EReal) := by
  obtain ⟨μ, hμ⟩ := v31 hf h i
  have hr : Row z F h i μ := ⟨hμ⟩
  pointwise [val_main_v73, val_main_call1_v0, val_main_call1_cst, val_main_v72, val_main_v71, val_main_v70, val_main_v69, val_main_v67, val_main_v66, val_main_v46]
  rw [v23_1, v57 hf, v45 hf hr, v68 hf hr, v44 hf hr, Ideal.div_coe (l_ne _ _ _)]
  by_cases hji : j ≤ i
  · rw [if_pos hji, ← ds_eq _ μ, div_eq_mul_one_div (dp (head z F o h) i j)]
    push_cast
    rfl
  · rw [if_neg hji, ds_above _ hji]
    simp [Scalar.select]

/-- The gradient of the queries. -/
theorem ref_dq (hf : Finite z F o) (i : Fin 4096) (c : Fin 1024) (h : Fin 8) (d : Fin 128) (hc : c.val = h.val * 128 + d.val) :
    val_main_v91 (F := Ideal) z F o (ix2 i c) = ((DQ (head z F o h) i d : ℝ) : EReal) := by
  have ec : c.val / 128 < 8 := by omega
  have ed : c.val = c.val / 128 * 128 + d.val := by omega
  rw [show h = ⟨c.val / 128, ec⟩ from Fin.ext (by simp only; omega)]
  pointwise [val_main_v91, val_main_v90, val_main_v89, val_main_v88, val_main_v85, val_main_v84, val_main_cst_17, val_main_v3, val_main_v2]
  unfold DQ
  rw [Finset.sum_mul, ← coe_sum]
  refine Finset.sum_congr rfl fun j _ => ?_
  rw [v73 hf, scale_word, hf.k ⟨c.val / 128, ec⟩ j d _ (by simp only; omega)]
  push_cast
  exact mul_right_comm (G := EReal) _ _ _

/-- The gradient of the keys. -/
theorem ref_dk (hf : Finite z F o) (j : Fin 4096) (c : Fin 1024) (h : Fin 8) (d : Fin 128) (hc : c.val = h.val * 128 + d.val) :
    val_main_v93 (F := Ideal) z F o (ix2 j c) = ((DK (head z F o h) j d : ℝ) : EReal) := by
  have ec : c.val / 128 < 8 := by omega
  have ed : c.val = c.val / 128 * 128 + d.val := by omega
  rw [show h = ⟨c.val / 128, ec⟩ from Fin.ext (by simp only; omega)]
  pointwise [val_main_v93, val_main_v92, val_main_v87, val_main_v86, val_main_v85, val_main_v84, val_main_cst_17, val_main_v1, val_main_v0]
  unfold DK
  rw [Finset.sum_mul, ← coe_sum]
  refine Finset.sum_congr rfl fun i _ => ?_
  rw [v73 hf, scale_word, hf.q ⟨c.val / 128, ec⟩ i d _ (by simp only; omega)]
  push_cast
  exact mul_right_comm (G := EReal) _ _ _

/-- The gradient of the values. -/
theorem ref_dv (hf : Finite z F o) (j : Fin 4096) (c : Fin 1024) (h : Fin 8) (d : Fin 128) (hc : c.val = h.val * 128 + d.val) :
    val_main_v95 (F := Ideal) z F o (ix2 j c) = ((DV (head z F o h) j d : ℝ) : EReal) := by
  have ec : c.val / 128 < 8 := by omega
  have ed : c.val = c.val / 128 * 128 + d.val := by omega
  rw [show h = ⟨c.val / 128, ec⟩ from Fin.ext (by simp only; omega)]
  pointwise [val_main_v95, val_main_v94, val_main_v59, val_main_v58, val_main_v56, val_main_v55]
  unfold DV
  rw [← coe_sum]
  refine Finset.sum_congr rfl fun i _ => ?_
  obtain ⟨μ, hμ⟩ := v31 hf ⟨c.val / 128, ec⟩ i
  rw [v48 hf ⟨hμ⟩, hf.ct ⟨c.val / 128, ec⟩ i d _ (by simp only; omega)]
  push_cast
  exact mul_comm (G := EReal) _ _

/-- The gradient of the gates: a gate's row adds nothing, as the rows of `ds` sum to zero. -/
theorem ref_df (hf : Finite z F o) (h : Fin 8) (a : Fin 4) (t : Fin 1024) (j : Fin 4096) (hj : j.val = a.val * 1024 + t.val) :
    val_main_v96 (F := Ideal) z F o (ix4 h a 0 t) = ((DF (head z F o h) j : ℝ) : EReal) := by
  have et : a.val * 1024 + t.val < 4096 := by omega
  have hb : (⟨a.val * 1024 + t.val, et⟩ : Fin 4096) = j := Fin.ext hj.symm
  pointwise [val_main_v96, val_main_v83, val_main_v82, val_main_v81, val_main_v78, val_main_v77, val_main_cst_14, val_main_cst_16]
  rw [sum_unit, sum_unit', zero_add, zero_add]
  pointwise [val_main_v80, val_main_v79, val_main_v76, val_main_v75, val_main_v74, val_main_cst_13, val_main_cst_15]
  simp only [hb, v73 hf]
  rw [coe_sum, sum_ds]
  simp only [← EReal.coe_neg]
  rw [coe_sum, Finset.sum_neg_distrib]
  simp [DF]

end Cert.AttnRIdeal.Value
end
-- ==== Proof.AttnPre.lean ====
module

public import proofs.«01_k».proof.Proof.AttnArgs
public import proofs.«01_k».proof.Proof.Gen.Pre_attn_finite
public import Idealize.ShloMosaic.Lib.ReduceAll

@[expose] public section

set_option maxRecDepth 16384

noncomputable section

/-! # What the attention's precondition says -/

namespace Cert.AttnMath
open Idealize.ShloMosaic

/-- An extended real whose absolute value is below the infinite word is real. -/
theorem real_of_abs_lt (x : EReal) (h : Ideal.cmp .olt (max x (-x)) (Ideal.ofBits .f32 0x7F800000#32) = 1#1) : x = ((EReal.toReal x : ℝ) : EReal) := by
  have hi : Ideal.ofBits .f32 0x7F800000#32 = ⊤ := by simp [Ideal.ofBits, Ideal.ieee]
  rw [hi] at h
  induction x using EReal.rec with
  | bot => exfalso; revert h; simp [Ideal.cmp]
  | coe r => rfl
  | top => exfalso; revert h; simp [Ideal.cmp]

/-- The precondition: projections, gates and cotangent are finite. -/
theorem finite_of_pre (z : FVec Ideal ZS .f32) (F : FVec Ideal FS .f32) (o : FVec Ideal OS .f32)
    (h : Cert.Pre_attn_finite.fn (F := Ideal) z F o = fun _ => 1#1) : Finite z F o := by
  have h0 := congrFun h ix0
  dsimp only [Cert.Pre_attn_finite.fn] at h0
  obtain ⟨h1, h2⟩ := IntOp.andi_eq_one.mp h0
  obtain ⟨h3, h4⟩ := IntOp.andi_eq_one.mp h1
  haveI : Subsingleton Cert.Pre_attn_finite.S_.Idx := ⟨fun a b => funext fun i => i.elim0⟩
  have hz := Host.reduce_andi_all _ _ _ _ _ h3
  have hF := Host.reduce_andi_all _ _ _ _ _ h4
  have ho := Host.reduce_andi_all _ _ _ _ _ h2
  refine { z := fun i c hc => ?_, F := fun k i => ?_, o := fun i c => ?_ }
  · have := hz (ix3 0 i ⟨c.val, hc⟩)
    revert this
    pointwise
    exact real_of_abs_lt _
  · have := hF (ix3 0 k i)
    revert this
    pointwise
    exact real_of_abs_lt _
  · have := ho (ix3 0 i c)
    revert this
    pointwise
    exact real_of_abs_lt _

end Cert.AttnMath
end
-- ==== Proof.AttnAlg.lean ====
module

public import proofs.«01_k».proof.Proof.AttnRun
public import proofs.«01_k».proof.Proof.AttnRef
public import proofs.«01_k».proof.Proof.AttnPre
public import proofs.«01_k».proof.Defs

@[expose] public section

set_option maxRecDepth 16384

noncomputable section

/-! # The attention's gradients: the program and the reference -/

namespace Cert.AttnAlg
open Idealize.ShloMosaic Idealize.ShloMosaic.TcCoe Idealize.SL.Sem Cert.AttnMath

section
variable {z : FVec Ideal ZS .f32} {F : FVec Ideal FS .f32} {o : FVec Ideal OS .f32} (hf : Finite z F o)
include hf

/-- The reference's gradients by heads. -/
theorem ref_dq : Cert.AttnRIdeal.Read.val_main_v91 (F := Ideal) z F o
    = fun j => ((DQ (head z F o ⟨(j 1).val / 128, by have := (j 1).isLt; simp at this; omega⟩) (j 0) ⟨(j 1).val % 128, by omega⟩ : ℝ) : EReal) := by
  funext j
  idx_vars j
  exact Cert.AttnRIdeal.Value.ref_dq hf _ _ _ _ (by simp; omega)
theorem ref_dk : Cert.AttnRIdeal.Read.val_main_v93 (F := Ideal) z F o
    = fun j => ((DK (head z F o ⟨(j 1).val / 128, by have := (j 1).isLt; simp at this; omega⟩) (j 0) ⟨(j 1).val % 128, by omega⟩ : ℝ) : EReal) := by
  funext j
  idx_vars j
  exact Cert.AttnRIdeal.Value.ref_dk hf _ _ _ _ (by simp; omega)
theorem ref_dv : Cert.AttnRIdeal.Read.val_main_v95 (F := Ideal) z F o
    = fun j => ((DV (head z F o ⟨(j 1).val / 128, by have := (j 1).isLt; simp at this; omega⟩) (j 0) ⟨(j 1).val % 128, by omega⟩ : ℝ) : EReal) := by
  funext j
  idx_vars j
  exact Cert.AttnRIdeal.Value.ref_dv hf _ _ _ _ (by simp; omega)
theorem ref_df : Cert.AttnRIdeal.Read.val_main_v96 (F := Ideal) z F o
    = fun j => ((DF (head z F o (j 0)) ⟨(j 1).val * 1024 + (j 3).val, by have := (j 1).isLt; have := (j 3).isLt; simp at *; omega⟩ : ℝ) : EReal) := by
  funext j
  idx_vars j
  have e : j2 = 0 := Fin.fin_one_eq_zero j2
  subst e
  exact Cert.AttnRIdeal.Value.ref_df hf j0 j1 j3 ⟨j1.val * 1024 + j3.val, by omega⟩ rfl
end

/-- The two named constants: base two logarithms of the scaled scores, and the mask, which is the least extended real. -/
theorem preserves : Cert.preserves_AttnK_AttnKIdeal :=
  ⟨IdealRules.named_const.statement Cert.AttnKIdeal.κ "c2" .f32 0x3E0293EE#32 (((Real.log 2)⁻¹ * (11863283 / 134217728) : ℝ) : EReal) rfl,
   IdealRules.named_const.statement Cert.AttnKIdeal.κ "mask" .f32 0xF149F2CA#32 ⊥ rfl⟩

/-- From finite arguments the two programs leave the same gradients of queries, keys, values and gates. -/
theorem algebraic [Cert.Pre_attn_finite.Facts] : Cert.algebraic_AttnKIdeal_AttnRIdeal_pre_attn_finite := by
  pair_intro
  have hf : ∀ c, Finite (Cert.AttnKIdeal.Value.argZ m c) (Cert.AttnKIdeal.Value.argF m c) (Cert.AttnKIdeal.Value.argO m c) :=
    fun c => finite_of_pre _ _ _ (hpre c)
  run_from Cert.AttnKIdeal.Value.run m g hf
  run_from Cert.AttnRIdeal.Value.run m' g'
  · rw [Cert.AttnRIdeal.Read.val_main_v91_eq, (hagree c).1, (hagree c).2.1, (hagree c).2.2]
    exact ref_dq (finite_of_pre _ _ _ (hpre c))
  · rw [Cert.AttnRIdeal.Read.val_main_v93_eq, (hagree c).1, (hagree c).2.1, (hagree c).2.2]
    exact ref_dk (finite_of_pre _ _ _ (hpre c))
  · rw [Cert.AttnRIdeal.Read.val_main_v95_eq, (hagree c).1, (hagree c).2.1, (hagree c).2.2]
    exact ref_dv (finite_of_pre _ _ _ (hpre c))
  · rw [Cert.AttnRIdeal.Read.val_main_v96_eq, (hagree c).1, (hagree c).2.1, (hagree c).2.2]
    exact ref_df (finite_of_pre _ _ _ (hpre c))

end Cert.AttnAlg
end
-- ==== Proof.GmlpOpen.lean ====
/- The body of the gradient kernel of the spatial gating unit, opened: its stores as one recursion over the 32 pieces
   of 128 by 128 positions and channels, four pieces of positions in each of eight heads. -/
module

public import proofs.«01_k».proof.Proof.Gen.GmlpKIdeal.Value

@[expose] public section

set_option maxRecDepth 16384

noncomputable section

namespace Cert.GmlpKIdeal.Value

open Cert.GmlpKIdeal Cert.GmlpKIdeal.Gen Idealize.ShloMosaic Idealize.ShloMosaic.TcCoe Idealize.SL.Sem

variable {F : FTy → Type} [FloatOps F] [Named F]

/-! ## One piece -/

/-- A piece of 128 positions and 128 channels lies inside the block. -/
theorem inb_cut (h p : ℕ) : ∀ a, ![128 * (p % 4), 128 * (h % 8)] a + S128x128.size a ≤ S512x1024.size a := by
  intro a
  match a with
  | ⟨0, _⟩ => show 128 * (p % 4) + 128 ≤ 512; omega
  | ⟨1, _⟩ => show 128 * (h % 8) + 128 ≤ 1024; omega
theorem slices_cut (h p : ℕ) : S512x1024.Slices ![128 * (p % 4), 128 * (h % 8)] S128x128 := ⟨rfl, inb_cut h p⟩
theorem inb_w (h : ℕ) : ∀ a, ![h % 8, 0, 0] a + S1x128x128.size a ≤ S8x128x128.size a := by
  intro a
  match a with
  | ⟨0, _⟩ => show h % 8 + 1 ≤ 8; omega
  | ⟨1, _⟩ => exact le_refl 128
  | ⟨2, _⟩ => exact le_refl 128
theorem inb_b (h : ℕ) : ∀ a, ![h % 8, 0, 0] a + S1x128x1.size a ≤ S8x128x1.size a := by
  intro a
  match a with
  | ⟨0, _⟩ => show h % 8 + 1 ≤ 8; omega
  | ⟨1, _⟩ => exact le_refl 128
  | ⟨2, _⟩ => exact le_refl 1

/-- The place of piece `p` of head `h`. -/
abbrev cutR (h p : ℕ) : Rect S512x1024 := Rect.unit (s := S512x1024) ![128 * (p % 4), 128 * (h % 8)] S128x128.size (inb_cut h p)
/-- The place of a head's matrix. -/
abbrev headR (h : ℕ) : Rect S8x128x128 := Rect.unit (s := S8x128x128) ![h % 8, 0, 0] S1x128x128.size (inb_w h)
/-- The place of a head's bias. -/
abbrev biasR (h : ℕ) : Rect S8x128x1 := Rect.unit (s := S8x128x1) ![h % 8, 0, 0] S1x128x1.size (inb_b h)

/-- A whole block. -/
abbrev bigR : Rect S512x1024 := Rect.unit (s := S512x1024) ![0, 0] S512x1024.size inb_S512x1024_S512x1024_0_0
/-- A whole row. -/
abbrev rowR : Rect S1x1024 := Rect.unit (s := S1x1024) ![0, 0] S1x1024.size inb_S1x1024_S1x1024_0_0

/-- A piece of an array. -/
def cut {e : FTy} (x : FVec F S512x1024 e) (h p : ℕ) : FVec F S128x128 e :=
  extractStridedSlice S128x128 ![128 * (p % 4), 128 * (h % 8)] x (slices_cut h p)

/-- The derivative of the activation on a piece. -/
def slope (z : FVec F S128x128 .f32) : FVec F S128x128 .f32 :=
  let t := tanh (mulf (broadcast S128x128 (Scalar.ofBits .f32 0x3F4C422A#32)) (addf z (mulf (broadcast S128x128 (Named.named κ "gelu1" 0x3D372713#32)) (mulf (mulf z z) z))))
  addf (mulf (broadcast S128x128 (Scalar.ofBits .f32 0x3F000000#32)) (addf (broadcast S128x128 (Scalar.ofBits .f32 0x3F800000#32)) t))
    (mulf (mulf (mulf (broadcast S128x128 (Scalar.ofBits .f32 0x3F000000#32)) z) (subf (broadcast S128x128 (Scalar.ofBits .f32 0x3F800000#32)) (mulf t t)))
      (mulf (broadcast S128x128 (Scalar.ofBits .f32 0x3F4C422A#32)) (addf (broadcast S128x128 (Scalar.ofBits .f32 0x3F800000#32)) (mulf (broadcast S128x128 (Named.named κ "gelu3" 0x3E095D4F#32)) (mulf z z)))))

section Chain

variable (a0 : Vec F S512x1024 .f32) (a1 a2 : Vec F S512x1024 .bf16) (a3 a4 : Vec F S1x1024 .f32)
variable (wl wt : ℕ → Vec F S1x128x128 .f32) (bl : ℕ → Vec F S1x128x1 .f32)

/-- The normalised second half. -/
abbrev vv : FVec F S512x1024 .bf16 := k0_pay13 (k0_pay9 a2) (k0_pay10 a2) a3 a4

/-- A piece of the gradient of the mixed second half. -/
def dm (h p : ℕ) : FVec F S128x128 .f32 := mulf (cut (k0_pay14 a0) h p) (cut (k0_pay8 a1) h p)

/-- A piece of the first half's gradient. -/
def du (h p : ℕ) : FVec F S128x128 .bf16 :=
  truncf .bf16 (mulf (mulf (cut (k0_pay14 a0) h p)
      (addf (matmul dot_S128x128_S128x128_S128x128_1_0_0_1_n_n none (k0_pay17 (wl h)) (cut (vv a2 a3 a4) h p) (constant S128x128 .f32 0x00000000#32))
        (broadcastTo S128x128 (shapeCast S128x1 (bl h) shapeCasts_S1x128x1_S128x1) broadcasts_S128x1_S128x128)))
    (slope (cut (k0_pay6 a1) h p))) bitsLt_bf16_f32

/-- A piece of the gradient of the normalised second half. -/
def dv (h p : ℕ) : FVec F S128x128 .f32 := k0_pay29 (k0_pay18 (wt h)) (truncf .bf16 (dm a0 a1 h p) bitsLt_bf16_f32)

/-- The bias's gradient over the first `p` pieces of a head. -/
def accb (h : ℕ) : ℕ → FVec F S128x1 .f32
  | 0 => k0_pay20
  | p + 1 => addf (accb h p) (shapeCast S128x1 (multiReduction .add [1] S128 (dm a0 a1 h p) 0x00000000#32 reduces_S128x128_S128 (.inl rfl) rfl) shapeCasts_S128_S128x1)

/-- The matrix's gradient over the first `p` pieces of a head. -/
def accw (h : ℕ) : ℕ → FVec F S128x128 .f32
  | 0 => k0_pay19
  | p + 1 => addf (accw h p) (matmul dot_S128x128_S128x128_S128x128_1_1_0_0_n_n none (truncf .bf16 (dm a0 a1 h p) bitsLt_bf16_f32) (cut (vv a2 a3 a4) h p) (constant S128x128 .f32 0x00000000#32))

/-- The first `n` pieces of the first half's gradient as they are stored. -/
def pcsU : ℕ → List (View.Piece (Elt F) S512x1024 .bf16)
  | 0 => []
  | n + 1 => ⟨cutR (n / 4) n, du a0 a1 a2 a3 a4 wl bl (n / 4) n⟩ :: pcsU n

/-- The first `n` pieces of the gradient of the normalised second half as they are stored. -/
def pcsV : ℕ → List (View.Piece (Elt F) S512x1024 .f32)
  | 0 => []
  | n + 1 => ⟨cutR (n / 4) n, dv a0 a1 wt (n / 4) n⟩ :: pcsV n

/-- A head's matrix gradient added to what the array held. -/
def putW (h : ℕ) (x : Vec F S1x128x128 .f32) : FVec F S1x128x128 .f32 :=
  shapeCast S1x128x128 (addf (shapeCast S128x128 x shapeCasts_S1x128x128_S128x128)
    (select k0_pay15 (accw a0 a1 a2 a3 a4 h 4) (broadcast S128x128 (Scalar.ofBits .f32 0x00000000#32)))) shapeCasts_S128x128_S1x128x128

/-- A head's bias gradient added to what the array held. -/
def putB (h : ℕ) (x : Vec F S1x128x1 .f32) : FVec F S1x128x1 .f32 := k0_pay65 (accb a0 a1 h 4) x

/-- What the second half's gradient is, of the gradient `d` of the normalised one. -/
def fin9 (d : Vec F S512x1024 .f32) : FVec F S512x1024 .bf16 :=
  k0_pay1 (k0_pay7 a2) (k0_pay430 (k0_pay11 (k0_pay10 a2)) (k0_pay12 (k0_pay9 a2) (k0_pay10 a2)) (k0_pay428 d a3) (k0_pay429 (k0_pay12 (k0_pay9 a2) (k0_pay10 a2)) d a3)) (k0_pay431 (k0_pay7 a2))

/-- The matrices' gradient over a filled array, head by head. -/
def pcsW (rd : List (View.Piece (Elt F) S8x128x128 .f32) → (h : ℕ) → Vec F S1x128x128 .f32) (L : List (View.Piece (Elt F) S8x128x128 .f32)) : ℕ → List (View.Piece (Elt F) S8x128x128 .f32)
  | 0 => L
  | n + 1 => ⟨headR n, putW a0 a1 a2 a3 a4 n (rd (pcsW rd L n) n)⟩ :: pcsW rd L n

/-- The biases' gradient over a filled array, head by head. -/
def pcsB (rd : List (View.Piece (Elt F) S8x128x1 .f32) → (h : ℕ) → Vec F S1x128x1 .f32) (L : List (View.Piece (Elt F) S8x128x1 .f32)) : ℕ → List (View.Piece (Elt F) S8x128x1 .f32)
  | 0 => L
  | n + 1 => ⟨biasR n, putB a0 a1 n (rd (pcsB rd L n) n)⟩ :: pcsB rd L n

end Chain

section Opened

variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S8x128x128 .f32) (harg7 : arg7.IsWhole) (arg8 : Memref sig .tc .vmem S8x128x1 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S8x128x128 .f32) (harg11 : arg11.IsWhole) (arg12 : Memref sig .tc .vmem S8x128x1 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S512x1024 .f32) (harg15 : arg15.IsWhole)
    (x0 : Vec F S512x1024 .f32) (x1 : Vec F S512x1024 .bf16) (x2 : Vec F S512x1024 .bf16) (x3 : Vec F S1x1024 .f32) (x4 : Vec F S1x1024 .f32) (x5 : Vec F S8x128x128 .f32) (x6 : Vec F S8x128x128 .f32) (x7 : Vec F S8x128x1 .f32)

theorem openA_8 (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1
    = pcsU (View.readAt (Elt F) arg1.view bigR.toLoadRect (harg1.unread x0)) (View.readAt (Elt F) arg2.view bigR.toLoadRect (harg2.unread x1)) (View.readAt (Elt F) arg3.view bigR.toLoadRect (harg3.unread x2)) (View.readAt (Elt F) arg4.view rowR.toLoadRect (harg4.unread x3)) (View.readAt (Elt F) arg5.view rowR.toLoadRect (harg5.unread x4)) (fun h => View.readAt (Elt F) arg6.view (headR h).toLoadRect (harg6.unread x5)) (fun h => View.readAt (Elt F) arg8.view (biasR h).toLoadRect (harg8.unread x7)) 32 := by
  sl_kernel_rfl

theorem openA_9 (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1
    = [⟨bigR, fin9 (View.readAt (Elt F) arg3.view bigR.toLoadRect (harg3.unread x2)) (View.readAt (Elt F) arg4.view rowR.toLoadRect (harg4.unread x3)) (arg15.view.readCov (pcsV (View.readAt (Elt F) arg1.view bigR.toLoadRect (harg1.unread x0)) (View.readAt (Elt F) arg2.view bigR.toLoadRect (harg2.unread x1)) (fun h => View.readAt (Elt F) arg7.view (headR h).toLoadRect (harg7.unread x6)) 32) bigR.toLoadRect)⟩] := by
  sl_kernel_rfl

theorem openA_10 (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1
    = pcsW (View.readAt (Elt F) arg1.view bigR.toLoadRect (harg1.unread x0)) (View.readAt (Elt F) arg2.view bigR.toLoadRect (harg2.unread x1)) (View.readAt (Elt F) arg3.view bigR.toLoadRect (harg3.unread x2)) (View.readAt (Elt F) arg4.view rowR.toLoadRect (harg4.unread x3)) (View.readAt (Elt F) arg5.view rowR.toLoadRect (harg5.unread x4)) (fun L h => arg11.view.readCov L (headR h).toLoadRect) [⟨Rect.unit ![0, 0, 0] S8x128x128.size inb_S8x128x128_S8x128x128_0_0_0, k0_pay2⟩] 8 := by
  sl_kernel_rfl

theorem openA_11 (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1
    = pcsB (View.readAt (Elt F) arg1.view bigR.toLoadRect (harg1.unread x0)) (View.readAt (Elt F) arg2.view bigR.toLoadRect (harg2.unread x1)) (fun L h => arg12.view.readCov L (biasR h).toLoadRect) [⟨Rect.unit ![0, 0, 0] S8x128x1.size inb_S8x128x1_S8x128x1_0_0_0, k0_pay3⟩] 8 := by
  sl_kernel_rfl

theorem openA_12 (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1
    = [⟨rowR, k0_pay425 (k0_pay12 (k0_pay9 (View.readAt (Elt F) arg3.view bigR.toLoadRect (harg3.unread x2))) (k0_pay10 (View.readAt (Elt F) arg3.view bigR.toLoadRect (harg3.unread x2)))) (arg15.view.readCov (pcsV (View.readAt (Elt F) arg1.view bigR.toLoadRect (harg1.unread x0)) (View.readAt (Elt F) arg2.view bigR.toLoadRect (harg2.unread x1)) (fun h => View.readAt (Elt F) arg7.view (headR h).toLoadRect (harg7.unread x6)) 32) bigR.toLoadRect) (arg13.view.readCov [⟨rowR, k0_pay4⟩] rowR.toLoadRect)⟩, ⟨rowR, k0_pay4⟩] := by
  sl_kernel_rfl

theorem openA_13 (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1
    = [⟨rowR, k0_pay426 (arg15.view.readCov (pcsV (View.readAt (Elt F) arg1.view bigR.toLoadRect (harg1.unread x0)) (View.readAt (Elt F) arg2.view bigR.toLoadRect (harg2.unread x1)) (fun h => View.readAt (Elt F) arg7.view (headR h).toLoadRect (harg7.unread x6)) 32) bigR.toLoadRect) (arg14.view.readCov [⟨rowR, k0_pay5⟩] rowR.toLoadRect)⟩, ⟨rowR, k0_pay5⟩] := by
  sl_kernel_rfl

theorem openB_8 (x10 : Vec F S8x128x128 .f32) (x11 : Vec F S8x128x1 .f32) (x12 x13 : Vec F S1x1024 .f32) (hc0 : ¬ cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x10 x11 x12 x13).1
    = pcsU (View.readAt (Elt F) arg1.view bigR.toLoadRect (harg1.unread x0)) (View.readAt (Elt F) arg2.view bigR.toLoadRect (harg2.unread x1)) (View.readAt (Elt F) arg3.view bigR.toLoadRect (harg3.unread x2)) (View.readAt (Elt F) arg4.view rowR.toLoadRect (harg4.unread x3)) (View.readAt (Elt F) arg5.view rowR.toLoadRect (harg5.unread x4)) (fun h => View.readAt (Elt F) arg6.view (headR h).toLoadRect (harg6.unread x5)) (fun h => View.readAt (Elt F) arg8.view (biasR h).toLoadRect (harg8.unread x7)) 32 := by
  sl_kernel_rfl

theorem openB_9 (x10 : Vec F S8x128x128 .f32) (x11 : Vec F S8x128x1 .f32) (x12 x13 : Vec F S1x1024 .f32) (hc0 : ¬ cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x10 x11 x12 x13).2.1
    = [⟨bigR, fin9 (View.readAt (Elt F) arg3.view bigR.toLoadRect (harg3.unread x2)) (View.readAt (Elt F) arg4.view rowR.toLoadRect (harg4.unread x3)) (arg15.view.readCov (pcsV (View.readAt (Elt F) arg1.view bigR.toLoadRect (harg1.unread x0)) (View.readAt (Elt F) arg2.view bigR.toLoadRect (harg2.unread x1)) (fun h => View.readAt (Elt F) arg7.view (headR h).toLoadRect (harg7.unread x6)) 32) bigR.toLoadRect)⟩] := by
  sl_kernel_rfl

theorem openB_10 (x10 : Vec F S8x128x128 .f32) (x11 : Vec F S8x128x1 .f32) (x12 x13 : Vec F S1x1024 .f32) (hc0 : ¬ cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x10 x11 x12 x13).2.2.1
    = pcsW (View.readAt (Elt F) arg1.view bigR.toLoadRect (harg1.unread x0)) (View.readAt (Elt F) arg2.view bigR.toLoadRect (harg2.unread x1)) (View.readAt (Elt F) arg3.view bigR.toLoadRect (harg3.unread x2)) (View.readAt (Elt F) arg4.view rowR.toLoadRect (harg4.unread x3)) (View.readAt (Elt F) arg5.view rowR.toLoadRect (harg5.unread x4)) (fun _ h => View.readAt (Elt F) arg11.view (headR h).toLoadRect (harg11.unread x10)) [] 8 := by
  sl_kernel_rfl

theorem openB_11 (x10 : Vec F S8x128x128 .f32) (x11 : Vec F S8x128x1 .f32) (x12 x13 : Vec F S1x1024 .f32) (hc0 : ¬ cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x10 x11 x12 x13).2.2.2.1
    = pcsB (View.readAt (Elt F) arg1.view bigR.toLoadRect (harg1.unread x0)) (View.readAt (Elt F) arg2.view bigR.toLoadRect (harg2.unread x1)) (fun _ h => View.readAt (Elt F) arg12.view (biasR h).toLoadRect (harg12.unread x11)) [] 8 := by
  sl_kernel_rfl

theorem openB_12 (x10 : Vec F S8x128x128 .f32) (x11 : Vec F S8x128x1 .f32) (x12 x13 : Vec F S1x1024 .f32) (hc0 : ¬ cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x10 x11 x12 x13).2.2.2.2.1
    = [⟨rowR, k0_pay425 (k0_pay12 (k0_pay9 (View.readAt (Elt F) arg3.view bigR.toLoadRect (harg3.unread x2))) (k0_pay10 (View.readAt (Elt F) arg3.view bigR.toLoadRect (harg3.unread x2)))) (arg15.view.readCov (pcsV (View.readAt (Elt F) arg1.view bigR.toLoadRect (harg1.unread x0)) (View.readAt (Elt F) arg2.view bigR.toLoadRect (harg2.unread x1)) (fun h => View.readAt (Elt F) arg7.view (headR h).toLoadRect (harg7.unread x6)) 32) bigR.toLoadRect) (View.readAt (Elt F) arg13.view rowR.toLoadRect (harg13.unread x12))⟩] := by
  sl_kernel_rfl

theorem openB_13 (x10 : Vec F S8x128x128 .f32) (x11 : Vec F S8x128x1 .f32) (x12 x13 : Vec F S1x1024 .f32) (hc0 : ¬ cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x10 x11 x12 x13).2.2.2.2.2.1
    = [⟨rowR, k0_pay426 (arg15.view.readCov (pcsV (View.readAt (Elt F) arg1.view bigR.toLoadRect (harg1.unread x0)) (View.readAt (Elt F) arg2.view bigR.toLoadRect (harg2.unread x1)) (fun h => View.readAt (Elt F) arg7.view (headR h).toLoadRect (harg7.unread x6)) 32) bigR.toLoadRect) (View.readAt (Elt F) arg14.view rowR.toLoadRect (harg14.unread x13))⟩] := by
  sl_kernel_rfl

end Opened

end Cert.GmlpKIdeal.Value
-- ==== Proof.GmlpMath.lean ====
module

public import Idealize.ShloMosaic.Lib.Pipeline.ValueKit

@[expose] public section

noncomputable section

/-! # The gated spatial unit and its gradient, over the reals -/

namespace Cert.GmlpMath

open Idealize.ShloMosaic

/-- The scale inside the gelu's hyperbolic tangent, as the float word has it. -/
def kc : ℝ := 6693141 / 8388608

/-- The coefficient of the gelu's cube. -/
def k1 : ℝ := 8943 / 200000

/-- What the variance is increased by. -/
def eps : ℝ := 8796093 / 8796093022208

/-- The hyperbolic tangent inside the gelu. -/
def th (x : ℝ) : ℝ := Real.tanh (kc * (x + k1 * (x * x * x)))

/-- The gelu. -/
def gelu (x : ℝ) : ℝ := 1 / 2 * x * (1 + th x)

/-- Its derivative. -/
def gg (x : ℝ) : ℝ := 1 / 2 * (1 + th x) + 1 / 2 * x * (1 - th x * th x) * (kc * (1 + 3 * k1 * (x * x)))

section Row

variable (x : Fin 1024 → ℝ)

/-- A row's distance from its mean, after the gelu. -/
def xc (j : Fin 1024) : ℝ := gelu (x j) - (∑ k, gelu (x k)) * (1 / 1024)

/-- A row's variance, increased. -/
def va : ℝ := (∑ k, xc x k * xc x k) * (1 / 1024) + eps

/-- A row's scale. -/
def rs : ℝ := (Real.sqrt (va x))⁻¹

/-- A row, normalised. -/
def nrm (j : Fin 1024) : ℝ := xc x j * rs x

/-- The gradient through the norm, by hand. -/
def dn (d : Fin 1024 → ℝ) (j : Fin 1024) : ℝ :=
  rs x * (d j - (∑ k, d k) * (1 / 1024) - nrm x j * ((∑ k, d k * nrm x k) * (1 / 1024)))

theorem va_pos : 0 < va x := by
  have h : 0 ≤ ∑ k, xc x k * xc x k := Finset.sum_nonneg fun k _ => mul_self_nonneg _
  have e : 0 < eps := by norm_num [eps]
  unfold va
  positivity

theorem rs_sq : rs x * rs x = (va x)⁻¹ := by
  unfold rs
  rw [← mul_inv, Real.mul_self_sqrt (va_pos x).le]

theorem sum_xc : ∑ k, xc x k = 0 := by
  unfold xc
  rw [Finset.sum_sub_distrib, Finset.sum_const, Finset.card_univ, Fintype.card_fin, nsmul_eq_mul]
  push_cast
  ring

/-- What differentiation adds to a row through its scale. -/
def cv (d : Fin 1024 → ℝ) : ℝ := (∑ k, xc x k * d k) * (-(1 / 2) * (rs x * (1 / va x))) * (1 / 1024)

/-- The gradient through the scale and the difference, before the mean's own. -/
def db (d : Fin 1024 → ℝ) (j : Fin 1024) : ℝ := d j * rs x + xc x j * cv x d + cv x d * xc x j

/-- The gradient by hand is the gradient by differentiation. -/
theorem dn_eq (d : Fin 1024 → ℝ) (j : Fin 1024) : dn x d j = db x d j + (∑ k, -db x d k) * (1 / 1024) := by
  have h2 : 1 / va x = rs x * rs x := by rw [rs_sq, one_div]
  have hS : ∑ k, -db x d k = -(rs x * ∑ k, d k) := by
    have h : ∀ k, -db x d k = -(rs x * d k) + -(2 * cv x d) * xc x k := fun k => by unfold db; ring
    rw [Finset.sum_congr rfl fun k _ => h k, Finset.sum_add_distrib, ← Finset.mul_sum, sum_xc, Finset.sum_neg_distrib, ← Finset.mul_sum]
    ring
  have hT : ∑ k, d k * nrm x k = rs x * ∑ k, xc x k * d k := by
    rw [Finset.mul_sum]
    exact Finset.sum_congr rfl fun k _ => by unfold nrm; ring
  rw [hS]
  unfold dn
  rw [hT]
  unfold db cv nrm
  rw [h2]
  ring

end Row

/-- What the unit's gradient is taken at: rows of the two halves and of the cotangent, the norm's scale and shift, the
    mixing matrices and their biases. -/
structure Args where
  zu : ℕ → Fin 1024 → ℝ
  zv : ℕ → Fin 1024 → ℝ
  D : ℕ → Fin 1024 → ℝ
  g : Fin 1024 → ℝ
  b : Fin 1024 → ℝ
  w : Fin 8 → Fin 128 → Fin 128 → ℝ
  bs : Fin 8 → Fin 128 → ℝ

/-- A head's column. -/
def col (h : Fin 8) (d : Fin 128) : Fin 1024 := ⟨128 * h.val + d.val, by omega⟩

/-- A column's head. -/
def hd (j : Fin 1024) : Fin 8 := ⟨j.val / 128, by omega⟩

/-- A row's place in its chunk. -/
def pl (r : ℕ) : Fin 128 := ⟨r % 128, by omega⟩

theorem hd_col (h : Fin 8) (d : Fin 128) : hd (col h d) = h := Fin.ext (by simp only [hd, col]; omega)

variable (A : Args)

/-- The masked mixing matrix. -/
def wm (h : Fin 8) (t s : Fin 128) : ℝ := if s ≤ t then A.w h t s else 0

/-- The normalised half, scaled and shifted. -/
def v (r : ℕ) (j : Fin 1024) : ℝ := nrm (A.zv r) j * A.g j + A.b j

/-- The mixture of a chunk's rows. -/
def mix (r : ℕ) (j : Fin 1024) : ℝ := (∑ s : Fin 128, wm A (hd j) (pl r) s * v A (r / 128 * 128 + s.val) j) + A.bs (hd j) (pl r)

/-- The gradient of the first half. -/
def dzu (r : ℕ) (j : Fin 1024) : ℝ := A.D r j * mix A r j * gg (A.zu r j)

/-- The gradient of the mixture. -/
def du (r : ℕ) (j : Fin 1024) : ℝ := A.D r j * gelu (A.zu r j)

/-- The gradient of the normalised half. -/
def dv (r : ℕ) (j : Fin 1024) : ℝ := ∑ t : Fin 128, wm A (hd j) t (pl r) * du A (r / 128 * 128 + t.val) j

/-- The gradient of the second half. -/
def dzv (r : ℕ) (j : Fin 1024) : ℝ := dn (A.zv r) (fun k => dv A r k * A.g k) j * gg (A.zv r j)

/-- A chunk's part of the biases' gradient. -/
def dbsC (n : ℕ) (h : Fin 8) (t : Fin 128) : ℝ := ∑ d : Fin 128, du A (128 * n + t.val) (col h d)

/-- A chunk's part of the mixing matrices' gradient, not masked. -/
def dwC (n : ℕ) (h : Fin 8) (t s : Fin 128) : ℝ := ∑ d : Fin 128, du A (128 * n + t.val) (col h d) * v A (128 * n + s.val) (col h d)

/-- The biases' gradient. -/
def dbs (h : Fin 8) (t : Fin 128) : ℝ := ∑ n : Fin 32, dbsC A n.val h t

/-- The mixing matrices' gradient. -/
def dw (h : Fin 8) (t s : Fin 128) : ℝ := if s ≤ t then ∑ n : Fin 32, dwC A n.val h t s else 0

/-- The gradient of the norm's scale. -/
def dlg (j : Fin 1024) : ℝ := ∑ r : Fin 4096, dv A r.val j * nrm (A.zv r.val) j

/-- The gradient of the norm's shift. -/
def dlb (j : Fin 1024) : ℝ := ∑ r : Fin 4096, dv A r.val j

/-! The floats' words -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, EReal.coe_add, ih]

theorem w_half : Ideal.ofBits .f32 0x3F000000#32 = ((1 / 2 : ℝ) : EReal) := by
  simp [Ideal.ofBits, Ideal.ieee, -EReal.coe_mul]; norm_num

theorem w_nhalf : Ideal.ofBits .f32 0xBF000000#32 = ((-(1 / 2) : ℝ) : EReal) := by
  simp [Ideal.ofBits, Ideal.ieee, -EReal.coe_mul]; norm_num

theorem w_one : Ideal.ofBits .f32 0x3F800000#32 = ((1 : ℝ) : EReal) := by
  simp [Ideal.ofBits, Ideal.ieee, -EReal.coe_mul]; norm_num

theorem w_zero : Ideal.ofBits .f32 0x00000000#32 = ((0 : ℝ) : EReal) := by
  simp [Ideal.ofBits, Ideal.ieee]

theorem w_three : Ideal.ofBits .f32 0x40400000#32 = ((3 : ℝ) : EReal) := by
  simp [Ideal.ofBits, Ideal.ieee, -EReal.coe_mul]; norm_num

theorem w_kc : Ideal.ofBits .f32 0x3F4C422A#32 = (kc : EReal) := by
  simp [Ideal.ofBits, Ideal.ieee, kc, -EReal.coe_mul]; norm_num

theorem w_eps : Ideal.ofBits .f32 0x358637BD#32 = (eps : EReal) := by
  simp [Ideal.ofBits, Ideal.ieee, eps, -EReal.coe_mul]; norm_num

theorem w_n : Ideal.ofBits .f32 0x44800000#32 = ((1024 : ℝ) : EReal) := by
  simp [Ideal.ofBits, Ideal.ieee, -EReal.coe_mul]; norm_num

theorem w_num : Ideal.ofBits .f32 0x472EAB00#32 = ((44715 : ℝ) : EReal) := by
  simp [Ideal.ofBits, Ideal.ieee, -EReal.coe_mul]; norm_num

theorem w_den : Ideal.ofBits .f32 0x49742400#32 = ((1000000 : ℝ) : EReal) := by
  simp [Ideal.ofBits, Ideal.ieee, -EReal.coe_mul]; norm_num

/-- The reference's quotient is the coefficient. -/
theorem w_k1 : Ideal.div (Ideal.ofBits .f32 0x472EAB00#32) (Ideal.ofBits .f32 0x49742400#32) = (k1 : EReal) := by
  rw [w_num, w_den, Ideal.div_coe (by norm_num), ← EReal.coe_mul]
  exact congrArg _ (by norm_num [k1])

/-- A quotient by the row's length. -/
theorem div_n (x : ℝ) : Ideal.div (x : EReal) (Ideal.ofBits .f32 0x44800000#32) = ((x * (1 / 1024) : ℝ) : EReal) := by
  rw [w_n, Ideal.div_coe (by norm_num), ← EReal.coe_mul]

/-- The root's inverse of a positive number. -/
theorem rsqrt_pos {x : ℝ} (h : 0 < x) : Ideal.rsqrt (x : EReal) = (((Real.sqrt x)⁻¹ : ℝ) : EReal) := by
  rw [Ideal.rsqrt_coe, if_neg (not_lt.2 h.le), if_neg h.ne']

/-- The gelu as the programs compute it. -/
def egelu (x : EReal) : EReal :=
  Ideal.ofBits .f32 0x3F000000#32 * x * (1 + Ideal.tanh (Ideal.ofBits .f32 0x3F4C422A#32 * (x + (k1 : EReal) * (x * x * x))))

theorem egelu_coe (x : ℝ) : egelu (x : EReal) = (gelu x : EReal) := by
  unfold egelu gelu th
  simp only [w_half, ← EReal.coe_one, w_kc, ← EReal.coe_mul, ← EReal.coe_add, Ideal.tanh_coe]

/-- Its derivative as the kernel computes it. -/
def egg (x : EReal) : EReal :=
  Ideal.ofBits .f32 0x3F000000#32 * (1 + Ideal.tanh (Ideal.ofBits .f32 0x3F4C422A#32 * (x + (k1 : EReal) * (x * x * x))))
    + Ideal.ofBits .f32 0x3F000000#32 * x
      * (1 - Ideal.tanh (Ideal.ofBits .f32 0x3F4C422A#32 * (x + (k1 : EReal) * (x * x * x)))
          * Ideal.tanh (Ideal.ofBits .f32 0x3F4C422A#32 * (x + (k1 : EReal) * (x * x * x))))
      * (Ideal.ofBits .f32 0x3F4C422A#32 * (1 + ((3 * k1 : ℝ) : EReal) * (x * x)))

theorem egg_coe (x : ℝ) : egg (x : EReal) = (gg x : EReal) := by
  unfold egg gg th
  simp only [w_half, ← EReal.coe_one, w_kc, ← EReal.coe_mul, ← EReal.coe_add, ← EReal.coe_sub, Ideal.tanh_coe]

/-! ## The numbers of the arrays -/

section Arrays

variable (z : FVec Ideal ⟨3, ![1, 4096, 5128]⟩ .f32) (g b : FVec Ideal ⟨2, ![1, 1024]⟩ .f32) (w : FVec Ideal ⟨4, ![1, 8, 128, 128]⟩ .f32)
  (bs : FVec Ideal ⟨3, ![1, 8, 128]⟩ .f32) (D : FVec Ideal ⟨3, ![1, 4096, 1024]⟩ .f32)

/-- The first half's column among all columns. -/
abbrev cu (j : Fin 1024) : Fin 5128 := ⟨3080 + j.val, by omega⟩
/-- The second half's column among all columns. -/
abbrev cs (j : Fin 1024) : Fin 5128 := ⟨4104 + j.val, by omega⟩

/-- The numbers that the arrays hold. -/
def args : Args where
  zu r j := if h : r < 4096 then EReal.toReal (z (ix3 0 ⟨r, h⟩ (cu j))) else 0
  zv r j := if h : r < 4096 then EReal.toReal (z (ix3 0 ⟨r, h⟩ (cs j))) else 0
  D r j := if h : r < 4096 then EReal.toReal (D (ix3 0 ⟨r, h⟩ j)) else 0
  g j := EReal.toReal (g (ix2 0 j))
  b j := EReal.toReal (b (ix2 0 j))
  w h t s := EReal.toReal (w (ix4 0 h t s))
  bs h t := EReal.toReal (bs (ix3 0 h t))

/-- The arrays hold numbers. -/
structure Finite : Prop where
  zu : ∀ r j, z (ix3 0 r (cu j)) = ((EReal.toReal (z (ix3 0 r (cu j))) : ℝ) : EReal)
  zv : ∀ r j, z (ix3 0 r (cs j)) = ((EReal.toReal (z (ix3 0 r (cs j))) : ℝ) : EReal)
  D : ∀ r j, D (ix3 0 r j) = ((EReal.toReal (D (ix3 0 r j)) : ℝ) : EReal)
  g : ∀ j, g (ix2 0 j) = ((EReal.toReal (g (ix2 0 j)) : ℝ) : EReal)
  b : ∀ j, b (ix2 0 j) = ((EReal.toReal (b (ix2 0 j)) : ℝ) : EReal)
  w : ∀ h t s, w (ix4 0 h t s) = ((EReal.toReal (w (ix4 0 h t s)) : ℝ) : EReal)
  bs : ∀ h t, bs (ix3 0 h t) = ((EReal.toReal (bs (ix3 0 h t)) : ℝ) : EReal)

variable {z g b w bs D} (hf : Finite z g b w bs D)
include hf

theorem Finite.eq_zu (r : Fin 4096) (j : Fin 1024) : z (ix3 0 r (cu j)) = ((args z g b w bs D).zu r.val j : EReal) := by
  rw [hf.zu]; exact congrArg _ (by simp [args])
theorem Finite.eq_zv (r : Fin 4096) (j : Fin 1024) : z (ix3 0 r (cs j)) = ((args z g b w bs D).zv r.val j : EReal) := by
  rw [hf.zv]; exact congrArg _ (by simp [args])
theorem Finite.eq_D (r : Fin 4096) (j : Fin 1024) : D (ix3 0 r j) = ((args z g b w bs D).D r.val j : EReal) := by
  rw [hf.D]; exact congrArg _ (by simp [args])
theorem Finite.eq_g (j : Fin 1024) : g (ix2 0 j) = ((args z g b w bs D).g j : EReal) := hf.g j
theorem Finite.eq_b (j : Fin 1024) : b (ix2 0 j) = ((args z g b w bs D).b j : EReal) := hf.b j
theorem Finite.eq_w (h : Fin 8) (t s : Fin 128) : w (ix4 0 h t s) = ((args z g b w bs D).w h t s : EReal) := hf.w h t s
theorem Finite.eq_bs (h : Fin 8) (t : Fin 128) : bs (ix3 0 h t) = ((args z g b w bs D).bs h t : EReal) := hf.bs h t

end Arrays

end Cert.GmlpMath
end
-- ==== Proof.GmlpElt.lean ====
/- What the pieces of the gradient kernel of the spatial gating unit hold: the kernel's vector operations read at an
   index, and the pieces as the real numbers of `GmlpMath` where every argument is finite. -/
module

public import proofs.«01_k».proof.Proof.GmlpOpen
public import proofs.«01_k».proof.Proof.GmlpMath

@[expose] public section

set_option maxRecDepth 16384

noncomputable section

namespace Cert.GmlpKIdeal.Value

open Cert.GmlpKIdeal Cert.GmlpKIdeal.Gen Idealize.ShloMosaic Idealize.ShloMosaic.TcCoe Idealize.SL.Sem
open Cert.GmlpMath

/-! ## The operations at an index -/

section Ops

theorem nm1 : Named.named (F := Ideal) (φ := .f32) κ "gelu1" 0x3D372713#32 = (k1 : EReal) :=
  IdealRules.named_const.ideal_named_scalar _ _ _ _ rfl
theorem nm3 : Named.named (F := Ideal) (φ := .f32) κ "gelu3" 0x3E095D4F#32 = ((3 * k1 : ℝ) : EReal) :=
  IdealRules.named_const.ideal_named_scalar _ _ _ _ rfl

theorem cut_lt0 (p : ℕ) (i : Fin 128) : 128 * (p % 4) + i.val < 512 := by omega
theorem cut_lt1 (h : ℕ) (d : Fin 128) : 128 * (h % 8) + d.val < 1024 := by omega

/-- The head a number names. -/
abbrev H (h : ℕ) : Fin 8 := ⟨h % 8, Nat.mod_lt _ (by norm_num)⟩

/-- A piece of an array at an index. -/
theorem cut_at {e : FTy} (x : FVec Ideal S512x1024 e) (h p : ℕ) (i d : Fin 128) :
    cut x h p (ix2 i d) = x (ix2 ⟨128 * (p % 4) + i.val, cut_lt0 p i⟩ (col (H h) d)) := by
  refine congrArg x (funext fun a => Fin.ext ?_)
  match a with
  | ⟨0, _⟩ => rfl
  | ⟨1, _⟩ => rfl

/-- The slope at an index. -/
theorem slope_at (z : FVec Ideal S128x128 .f32) (i d : Fin 128) : slope z (ix2 i d) = egg (z (ix2 i d)) := by
  unfold slope
  pointwise
  rw [nm1, nm3]
  rfl

variable (x0 : Vec Ideal S512x1024 .f32) (x1 x2 : Vec Ideal S512x1024 .bf16) (x3 x4 : Vec Ideal S1x1024 .f32)

theorem pay6_at (r : Fin 512) (j : Fin 1024) : k0_pay6 x1 (ix2 r j) = x1 (ix2 r j) := by
  pointwise [k0_pay6]
theorem pay7_at (r : Fin 512) (j : Fin 1024) : k0_pay7 x1 (ix2 r j) = x1 (ix2 r j) := by
  pointwise [k0_pay7]
theorem pay8_at (r : Fin 512) (j : Fin 1024) : k0_pay8 x1 (ix2 r j) = egelu (x1 (ix2 r j)) := by
  pointwise [k0_pay8, k0_pay6]
  rw [nm1]
  rfl
theorem pay9_at (r : Fin 512) (j : Fin 1024) : k0_pay9 x2 (ix2 r j)
    = egelu (x2 (ix2 r j)) - Ideal.div (∑ k, egelu (x2 (ix2 r k))) (Ideal.ofBits .f32 0x44800000#32) := by
  pointwise [k0_pay9, k0_pay7]
  rw [nm1]
  rfl
theorem pay10_at (r : Fin 512) (j : Fin 1024) : k0_pay10 x2 (ix2 r j) = k0_pay9 x2 (ix2 r j) * k0_pay9 x2 (ix2 r j) := by
  pointwise [k0_pay10]
theorem pay11_at (y : FVec Ideal S512x1024 .f32) (r : Fin 512) : k0_pay11 y (ix2 r 0)
    = Ideal.rsqrt (Ideal.div (∑ k, y (ix2 r k)) (Ideal.ofBits .f32 0x44800000#32) + Ideal.ofBits .f32 0x358637BD#32) := by
  pointwise [k0_pay11]
theorem pay12_at (y q : FVec Ideal S512x1024 .f32) (r : Fin 512) (j : Fin 1024) : k0_pay12 y q (ix2 r j) = y (ix2 r j) * k0_pay11 q (ix2 r 0) := by
  pointwise [k0_pay12]
theorem pay13_at (y q : FVec Ideal S512x1024 .f32) (r : Fin 512) (j : Fin 1024) :
    k0_pay13 y q x3 x4 (ix2 r j) = k0_pay12 y q (ix2 r j) * x3 (ix2 0 j) + x4 (ix2 0 j) := by
  pointwise [k0_pay13]
theorem pay14_at (r : Fin 512) (j : Fin 1024) : k0_pay14 x0 (ix2 r j) = x0 (ix2 r j) := by
  pointwise [k0_pay14]

/-- The number of a small word. -/
theorem word_toInt (r : ℕ) (hr : r < 128) : (BitVec.ofNat 32 r).toInt = r := by
  rw [BitVec.toInt_eq_toNat_of_lt] <;> simp [BitVec.toNat_ofNat] <;> omega
/-- The comparison of two positions. -/
theorem sle_word (r s : ℕ) (hr : r < 128) (hs : s < 128) :
    IntOp.cmpi CmpIPredicate.sle (BitVec.ofNat 32 r) (BitVec.ofNat 32 s) = if r ≤ s then 1#1 else 0#1 := by
  simp only [IntOp.cmpi, BitVec.sle, word_toInt r hr, word_toInt s hs]
  by_cases h : r ≤ s
  · simp [h]
  · simp [h]
/-- The comparison the other way. -/
theorem sge_word (r s : ℕ) (hr : r < 128) (hs : s < 128) :
    IntOp.cmpi CmpIPredicate.sge (BitVec.ofNat 32 r) (BitVec.ofNat 32 s) = if s ≤ r then 1#1 else 0#1 :=
  sle_word s r hs hr

theorem pay15_at (a s : Fin 128) : (k0_pay15 : IVec S128x128 1) (ix2 a s) = if s ≤ a then 1#1 else 0#1 := by
  pointwise [k0_pay15]
  exact sge_word _ _ a.isLt s.isLt
theorem pay16_at (a s : Fin 128) : (k0_pay16 : IVec S128x128 1) (ix2 a s) = if a ≤ s then 1#1 else 0#1 := by
  pointwise [k0_pay16]
  exact sle_word _ _ a.isLt s.isLt

/-- The masked matrix. -/
theorem pay17_at (w : Vec Ideal S1x128x128 .f32) (a s : Fin 128) : k0_pay17 w (ix2 a s) = if s ≤ a then w (ix3 0 a s) else 0 := by
  pointwise [k0_pay17]
  rw [pay15_at]
  by_cases h : s ≤ a <;> simp [Scalar.select, h]
/-- The masked transposed matrix. -/
theorem pay18_at (w : Vec Ideal S1x128x128 .f32) (a s : Fin 128) : k0_pay18 w (ix2 a s) = if a ≤ s then w (ix3 0 a s) else 0 := by
  pointwise [k0_pay18]
  rw [pay16_at]
  by_cases h : a ≤ s <;> simp [Scalar.select, h]

theorem pay29_at (w u : FVec Ideal S128x128 .bf16) (a d : Fin 128) : k0_pay29 w u (ix2 a d) = ∑ s : Fin 128, w (ix2 a s) * u (ix2 s d) := by
  pointwise [k0_pay29]

variable (wl wt : ℕ → Vec Ideal S1x128x128 .f32) (bl : ℕ → Vec Ideal S1x128x1 .f32)

theorem dm_at (h p : ℕ) (i d : Fin 128) : dm x0 x1 h p (ix2 i d) = cut (k0_pay14 x0) h p (ix2 i d) * cut (k0_pay8 x1) h p (ix2 i d) := by
  pointwise [dm]
theorem du_at (h p : ℕ) (i d : Fin 128) : du x0 x1 x2 x3 x4 wl bl h p (ix2 i d)
    = cut (k0_pay14 x0) h p (ix2 i d)
      * ((∑ s : Fin 128, k0_pay17 (wl h) (ix2 i s) * cut (vv x2 x3 x4) h p (ix2 s d)) + bl h (ix3 0 i 0))
      * slope (cut (k0_pay6 x1) h p) (ix2 i d) := by
  pointwise [du]
theorem dv_at (h p : ℕ) (i d : Fin 128) : dv x0 x1 wt h p (ix2 i d) = ∑ s : Fin 128, k0_pay18 (wt h) (ix2 i s) * dm x0 x1 h p (ix2 s d) := by
  unfold dv
  rw [pay29_at]
  rfl
theorem accb_at (h p : ℕ) (i : Fin 128) : accb x0 x1 h (p + 1) (ix2 i 0) = accb x0 x1 h p (ix2 i 0) + ∑ d : Fin 128, dm x0 x1 h p (ix2 i d) := by
  rw [accb]
  pointwise
theorem accw_at (h p : ℕ) (i s : Fin 128) : accw x0 x1 x2 x3 x4 h (p + 1) (ix2 i s)
    = accw x0 x1 x2 x3 x4 h p (ix2 i s) + ∑ d : Fin 128, dm x0 x1 h p (ix2 i d) * cut (vv x2 x3 x4) h p (ix2 s d) := by
  rw [accw]
  pointwise
theorem accb_zero (h : ℕ) (i : Fin 128) : accb x0 x1 h 0 (ix2 i 0) = 0 := by
  rw [accb]
  pointwise [k0_pay20]
theorem accw_zero (h : ℕ) (i s : Fin 128) : accw x0 x1 x2 x3 x4 h 0 (ix2 i s) = 0 := by
  rw [accw]
  pointwise [k0_pay19]
theorem putW_at (h : ℕ) (x : Vec Ideal S1x128x128 .f32) (a s : Fin 128) : putW x0 x1 x2 x3 x4 h x (ix3 0 a s)
    = x (ix3 0 a s) + if s ≤ a then accw x0 x1 x2 x3 x4 h 4 (ix2 a s) else 0 := by
  pointwise [putW]
  rw [pay15_at]
  by_cases h : s ≤ a <;> simp [Scalar.select, h]
theorem putB_at (h : ℕ) (x : Vec Ideal S1x128x1 .f32) (a : Fin 128) : putB x0 x1 h x (ix3 0 a 0) = x (ix3 0 a 0) + accb x0 x1 h 4 (ix2 a 0) := by
  pointwise [putB, k0_pay65]

theorem pay425_at (y d : Vec Ideal S512x1024 .f32) (x : Vec Ideal S1x1024 .f32) (j : Fin 1024) :
    k0_pay425 y d x (ix2 0 j) = x (ix2 0 j) + ∑ r : Fin 512, d (ix2 r j) * y (ix2 r j) := by
  pointwise [k0_pay425]
theorem pay426_at (d : Vec Ideal S512x1024 .f32) (x : Vec Ideal S1x1024 .f32) (j : Fin 1024) :
    k0_pay426 d x (ix2 0 j) = x (ix2 0 j) + ∑ r : Fin 512, d (ix2 r j) := by
  pointwise [k0_pay426]
theorem pay427_at (d : Vec Ideal S512x1024 .f32) (r : Fin 512) (j : Fin 1024) : k0_pay427 d x3 (ix2 r j) = d (ix2 r j) * x3 (ix2 0 j) := by
  pointwise [k0_pay427]
theorem pay428_at (d : Vec Ideal S512x1024 .f32) (r : Fin 512) (j : Fin 1024) : k0_pay428 d x3 (ix2 r j)
    = k0_pay427 d x3 (ix2 r j) - Ideal.div (∑ k, k0_pay427 d x3 (ix2 r k)) (Ideal.ofBits .f32 0x44800000#32) := by
  pointwise [k0_pay428]
theorem pay429_at (y d : Vec Ideal S512x1024 .f32) (r : Fin 512) (j : Fin 1024) : k0_pay429 y d x3 (ix2 r j) = k0_pay427 d x3 (ix2 r j) * y (ix2 r j) := by
  pointwise [k0_pay429]
theorem pay430_at (s : FVec Ideal S512x1 .f32) (y u q : FVec Ideal S512x1024 .f32) (r : Fin 512) (j : Fin 1024) : k0_pay430 s y u q (ix2 r j)
    = s (ix2 r 0) * (u (ix2 r j) - y (ix2 r j) * Ideal.div (∑ k, q (ix2 r k)) (Ideal.ofBits .f32 0x44800000#32)) := by
  pointwise [k0_pay430]
theorem pay1_at (z u : FVec Ideal S512x1024 .f32) (r : Fin 512) (j : Fin 1024) : k0_pay1 z u (k0_pay431 z) (ix2 r j)
    = u (ix2 r j) * egg (z (ix2 r j)) := by
  pointwise [k0_pay1, k0_pay431]
  rw [nm1, nm3]
  rfl

end Ops

end Cert.GmlpKIdeal.Value
-- ==== Proof.GmlpBlk.lean ====
/- One block of rows of the spatial gating unit's gradient: where the block's arguments are the real numbers of an
   `Args`, what the kernel stores for the block are the real numbers of `GmlpMath`. -/
module

public import proofs.«01_k».proof.Proof.GmlpElt

@[expose] public section

set_option maxRecDepth 16384

noncomputable section

namespace Cert.GmlpMath

variable (A : Args)

theorem row_div (n : ℕ) (i : Fin 128) : (128 * n + i.val) / 128 * 128 = 128 * n := by omega
theorem row_pl (n : ℕ) (i : Fin 128) : pl (128 * n + i.val) = i := Fin.ext (by simp only [pl]; omega)

/-- The mixture at a chunk's row. -/
theorem mix_at (n : ℕ) (i : Fin 128) (h : Fin 8) (d : Fin 128) : mix A (128 * n + i.val) (col h d)
    = (∑ s : Fin 128, wm A h i s * v A (128 * n + s.val) (col h d)) + A.bs h i := by
  unfold mix
  rw [row_div, row_pl, hd_col]
/-- The gradient of the normalised half at a chunk's row. -/
theorem dv_at (n : ℕ) (s : Fin 128) (h : Fin 8) (d : Fin 128) : dv A (128 * n + s.val) (col h d)
    = ∑ t : Fin 128, wm A h t s * du A (128 * n + t.val) (col h d) := by
  unfold dv
  rw [row_div, row_pl, hd_col]

end Cert.GmlpMath

namespace Cert.GmlpKIdeal.Value

open Cert.GmlpKIdeal Cert.GmlpKIdeal.Gen Idealize.ShloMosaic Idealize.ShloMosaic.TcCoe Idealize.SL.Sem
open Cert.GmlpMath (Args egelu egelu_coe egg_coe xc va rs nrm dn va_pos div_n w_eps rsqrt_pos coe_sum col wm dzu dzv dbsC dwC mix)

section Real

variable (A : Args) (T : ℕ)
variable (x0 : Vec Ideal S512x1024 .f32) (x1 x2 : Vec Ideal S512x1024 .bf16) (x3 x4 : Vec Ideal S1x1024 .f32)
variable (wl wt : ℕ → Vec Ideal S1x128x128 .f32) (bl : ℕ → Vec Ideal S1x128x1 .f32)
variable (h0 : ∀ r j, x0 (ix2 r j) = (A.D (512 * T + r.val) j : EReal)) (h1 : ∀ r j, x1 (ix2 r j) = (A.zu (512 * T + r.val) j : EReal))
  (h2 : ∀ r j, x2 (ix2 r j) = (A.zv (512 * T + r.val) j : EReal))
  (h3 : ∀ j, x3 (ix2 0 j) = (A.g j : EReal)) (h4 : ∀ j, x4 (ix2 0 j) = (A.b j : EReal))
  (h5 : ∀ h a s, wl h (ix3 0 a s) = (A.w (H h) a s : EReal)) (h6 : ∀ h a s, wt h (ix3 0 a s) = (A.w (H h) s a : EReal))
  (h7 : ∀ h a, bl h (ix3 0 a 0) = (A.bs (H h) a : EReal))

include h2 in
theorem r9 (r : Fin 512) (j : Fin 1024) : k0_pay9 x2 (ix2 r j) = (xc (A.zv (512 * T + r.val)) j : EReal) := by
  rw [pay9_at]
  simp only [h2, egelu_coe]
  rw [coe_sum, div_n, ← EReal.coe_sub]
  rfl
include h2 in
theorem r11 (r : Fin 512) : k0_pay11 (k0_pay10 x2) (ix2 r 0) = (rs (A.zv (512 * T + r.val)) : EReal) := by
  rw [pay11_at]
  simp only [pay10_at, r9 A T x2 h2, ← EReal.coe_mul]
  rw [coe_sum, div_n, w_eps, ← EReal.coe_add]
  exact rsqrt_pos (va_pos _)
include h2 in
theorem r12 (r : Fin 512) (j : Fin 1024) : k0_pay12 (k0_pay9 x2) (k0_pay10 x2) (ix2 r j) = (nrm (A.zv (512 * T + r.val)) j : EReal) := by
  rw [pay12_at, r9 A T x2 h2, r11 A T x2 h2, ← EReal.coe_mul]
  rfl
include h2 h3 h4 in
theorem r13 (r : Fin 512) (j : Fin 1024) : vv x2 x3 x4 (ix2 r j) = (Cert.GmlpMath.v A (512 * T + r.val) j : EReal) := by
  rw [vv, pay13_at, r12 A T x2 h2, h3, h4, ← EReal.coe_mul, ← EReal.coe_add]
  rfl

/-- A block's row as a chunk's row. -/
theorem row_eq (p : ℕ) (i : Fin 128) : 512 * T + (128 * (p % 4) + i.val) = 128 * (4 * T + p % 4) + i.val := by omega

include h0 h1 in
theorem r_dm (h p : ℕ) (i d : Fin 128) : dm x0 x1 h p (ix2 i d) = (Cert.GmlpMath.du A (128 * (4 * T + p % 4) + i.val) (col (H h) d) : EReal) := by
  rw [dm_at, cut_at, cut_at, pay14_at, pay8_at, h0, h1, egelu_coe, ← EReal.coe_mul, row_eq]
  rfl
include h2 h3 h4 in
theorem r_v (h p : ℕ) (i d : Fin 128) : cut (vv x2 x3 x4) h p (ix2 i d) = (Cert.GmlpMath.v A (128 * (4 * T + p % 4) + i.val) (col (H h) d) : EReal) := by
  rw [cut_at, r13 A T x2 x3 x4 h2 h3 h4, row_eq]
include h5 in
theorem r17 (h : ℕ) (a s : Fin 128) : k0_pay17 (wl h) (ix2 a s) = (wm A (H h) a s : EReal) := by
  rw [pay17_at, h5]
  unfold wm
  split <;> rfl
include h6 in
theorem r18 (h : ℕ) (a s : Fin 128) : k0_pay18 (wt h) (ix2 a s) = (wm A (H h) s a : EReal) := by
  rw [pay18_at, h6]
  unfold wm
  split <;> rfl
include h0 h1 h2 h3 h4 h5 h7 in
theorem r_du (h p : ℕ) (i d : Fin 128) : du x0 x1 x2 x3 x4 wl bl h p (ix2 i d) = (dzu A (128 * (4 * T + p % 4) + i.val) (col (H h) d) : EReal) := by
  rw [du_at, slope_at, cut_at, cut_at, pay14_at, pay6_at, h0, h1, egg_coe, h7]
  simp only [r17 A wl h5, r_v A T x2 x3 x4 h2 h3 h4, ← EReal.coe_mul]
  rw [coe_sum, ← EReal.coe_add, ← EReal.coe_mul, ← EReal.coe_mul, row_eq]
  unfold dzu
  rw [Cert.GmlpMath.mix_at]
include h0 h1 h6 in
theorem r_dv (h p : ℕ) (i d : Fin 128) : dv x0 x1 wt h p (ix2 i d) = (Cert.GmlpMath.dv A (128 * (4 * T + p % 4) + i.val) (col (H h) d) : EReal) := by
  rw [dv_at, Cert.GmlpMath.dv_at]
  simp only [r18 A wt h6, r_dm A T x0 x1 h0 h1, ← EReal.coe_mul]
  rw [coe_sum]
include h0 h1 in
theorem r_accb (h p : ℕ) (i : Fin 128) : accb x0 x1 h p (ix2 i 0) = ((∑ q ∈ Finset.range p, dbsC A (4 * T + q % 4) (H h) i : ℝ) : EReal) := by
  induction p with
  | zero => rw [accb_zero, Finset.range_zero, Finset.sum_empty, EReal.coe_zero]
  | succ p ih =>
    rw [accb_at, ih, Finset.sum_range_succ, EReal.coe_add]
    simp only [r_dm A T x0 x1 h0 h1]
    rw [coe_sum]
    rfl
include h0 h1 h2 h3 h4 in
theorem r_accw (h p : ℕ) (a s : Fin 128) : accw x0 x1 x2 x3 x4 h p (ix2 a s) = ((∑ q ∈ Finset.range p, dwC A (4 * T + q % 4) (H h) a s : ℝ) : EReal) := by
  induction p with
  | zero => rw [accw_zero, Finset.range_zero, Finset.sum_empty, EReal.coe_zero]
  | succ p ih =>
    rw [accw_at, ih, Finset.sum_range_succ, EReal.coe_add]
    simp only [r_dm A T x0 x1 h0 h1, r_v A T x2 x3 x4 h2 h3 h4, ← EReal.coe_mul]
    rw [coe_sum]
    rfl

/-! ### The stored pieces together -/

/-- A head's and a piece's index of the block. -/
theorem cut_emb (h p : ℕ) (r : Fin 512) (j : Fin 1024) (e0 : r.val / 128 = p % 4) (e1 : j.val / 128 = h % 8) :
    (ix2 r j : S512x1024.Idx) = (cutR h p).emb (ix2 (⟨r.val % 128, Nat.mod_lt _ (by norm_num)⟩ : Fin 128) (⟨j.val % 128, Nat.mod_lt _ (by norm_num)⟩ : Fin 128)) := by
  funext a
  match a with
  | ⟨0, _⟩ => exact Fin.ext (by show r.val = 128 * (p % 4) + 1 * (r.val % 128); omega)
  | ⟨1, _⟩ => exact Fin.ext (by show j.val = 128 * (h % 8) + 1 * (j.val % 128); omega)
theorem cut_not_mem (h p : ℕ) (r : Fin 512) (j : Fin 1024) (e : ¬ (r.val / 128 = p % 4 ∧ j.val / 128 = h % 8)) : (ix2 r j : S512x1024.Idx) ∉ (cutR h p).set := by
  intro hm
  have hm := (Rect.mem_set_unit (inb := inb_cut h p)).mp hm
  have a0 : 128 * (p % 4) ≤ r.val ∧ r.val < 128 * (p % 4) + 128 := hm 0
  have a1 : 128 * (h % 8) ≤ j.val ∧ j.val < 128 * (h % 8) + 128 := hm 1
  exact e ⟨by omega, by omega⟩

theorem cut_here {e : EltTy} (h p : ℕ) (r : Fin 512) (j : Fin 1024) (e0 : r.val / 128 = p % 4) (e1 : j.val / 128 = h % 8) (w : Vec Ideal S128x128 e) (L : List (View.Piece (Elt Ideal) S512x1024 e)) :
    View.canon (⟨cutR h p, w⟩ :: L) (ix2 r j) = w (ix2 (⟨r.val % 128, Nat.mod_lt _ (by norm_num)⟩ : Fin 128) (⟨j.val % 128, Nat.mod_lt _ (by norm_num)⟩ : Fin 128)) :=
  (congrArg (View.canon (⟨cutR h p, w⟩ :: L)) (cut_emb h p r j e0 e1)).trans (View.canon_cons_emb (cutR h p) w L (ix2 (⟨r.val % 128, Nat.mod_lt _ (by norm_num)⟩ : Fin 128) (⟨j.val % 128, Nat.mod_lt _ (by norm_num)⟩ : Fin 128)))
theorem cut_else {e : EltTy} (h p : ℕ) (r : Fin 512) (j : Fin 1024) (e0 : ¬ (r.val / 128 = p % 4 ∧ j.val / 128 = h % 8)) (w : Vec Ideal S128x128 e) (L : List (View.Piece (Elt Ideal) S512x1024 e)) :
    View.canon (⟨cutR h p, w⟩ :: L) (ix2 r j) = View.canon L (ix2 r j) :=
  View.canon_cons_of_not_mem (⟨cutR h p, w⟩ : View.Piece (Elt Ideal) S512x1024 e) L (cut_not_mem h p r j e0)

/-- A column by its head. -/
theorem col_hd (h : ℕ) (j : Fin 1024) (e1 : j.val / 128 = h % 8) : col (H h) ⟨j.val % 128, Nat.mod_lt _ (by norm_num)⟩ = j :=
  Fin.ext (by show 128 * (h % 8) + j.val % 128 = j.val; omega)

include h0 h1 h2 h3 h4 h5 h7 in
/-- The first half's gradient of a block. -/
theorem r_U (n : ℕ) (hn : n ≤ 32) (r : Fin 512) (j : Fin 1024) (hr : j.val / 128 * 4 + r.val / 128 < n) :
    View.canon (pcsU x0 x1 x2 x3 x4 wl bl n) (ix2 r j) = (dzu A (512 * T + r.val) j : EReal) := by
  induction n with
  | zero => omega
  | succ n ih =>
    by_cases e : r.val / 128 = n % 4 ∧ j.val / 128 = n / 4 % 8
    · rw [pcsU]
      refine (cut_here (n / 4) n r j e.1 e.2 _ _).trans ?_
      rw [r_du A T x0 x1 x2 x3 x4 wl bl h0 h1 h2 h3 h4 h5 h7, col_hd _ _ e.2, ← row_eq]
      exact congrArg (fun k => (dzu A (512 * T + k) j : EReal)) (by show 128 * (n % 4) + r.val % 128 = r.val; omega)
    · rw [pcsU]
      refine (cut_else (n / 4) n r j e _ _).trans ?_
      exact ih (by omega) (by omega)

include h0 h1 h6 in
/-- The normalised half's gradient of a block. -/
theorem r_V (n : ℕ) (hn : n ≤ 32) (r : Fin 512) (j : Fin 1024) (hr : j.val / 128 * 4 + r.val / 128 < n) :
    View.canon (pcsV x0 x1 wt n) (ix2 r j) = (Cert.GmlpMath.dv A (512 * T + r.val) j : EReal) := by
  induction n with
  | zero => omega
  | succ n ih =>
    by_cases e : r.val / 128 = n % 4 ∧ j.val / 128 = n / 4 % 8
    · rw [pcsV]
      refine (cut_here (n / 4) n r j e.1 e.2 _ _).trans ?_
      rw [r_dv A T x0 x1 wt h0 h1 h6, col_hd _ _ e.2, ← row_eq]
      exact congrArg (fun k => (Cert.GmlpMath.dv A (512 * T + k) j : EReal)) (by show 128 * (n % 4) + r.val % 128 = r.val; omega)
    · rw [pcsV]
      refine (cut_else (n / 4) n r j e _ _).trans ?_
      exact ih (by omega) (by omega)

variable (dd : Vec Ideal S512x1024 .f32) (hd : ∀ r j, dd (ix2 r j) = (Cert.GmlpMath.dv A (512 * T + r.val) j : EReal))

include h2 h3 hd in
/-- The second half's gradient of a block. -/
theorem r_fin9 (r : Fin 512) (j : Fin 1024) : fin9 x2 x3 dd (ix2 r j) = (dzv A (512 * T + r.val) j : EReal) := by
  have e27 : ∀ k, k0_pay427 dd x3 (ix2 r k) = ((Cert.GmlpMath.dv A (512 * T + r.val) k * A.g k : ℝ) : EReal) := fun k => by
    rw [pay427_at, hd, h3, ← EReal.coe_mul]
  unfold fin9
  rw [pay1_at, pay430_at, pay428_at, pay7_at, h2, egg_coe, r11 A T x2 h2, r12 A T x2 h2]
  simp only [pay429_at, e27, r12 A T x2 h2, ← EReal.coe_mul]
  rw [coe_sum, coe_sum, div_n, div_n, ← EReal.coe_sub, ← EReal.coe_mul, ← EReal.coe_sub, ← EReal.coe_mul, ← EReal.coe_mul]
  rfl
include h2 hd in
theorem r_425 (x : Vec Ideal S1x1024 .f32) (j : Fin 1024) : k0_pay425 (k0_pay12 (k0_pay9 x2) (k0_pay10 x2)) dd x (ix2 0 j)
    = x (ix2 0 j) + ((∑ r : Fin 512, Cert.GmlpMath.dv A (512 * T + r.val) j * nrm (A.zv (512 * T + r.val)) j : ℝ) : EReal) := by
  rw [pay425_at]
  simp only [hd, r12 A T x2 h2, ← EReal.coe_mul]
  rw [coe_sum]
include hd in
theorem r_426 (x : Vec Ideal S1x1024 .f32) (j : Fin 1024) : k0_pay426 dd x (ix2 0 j)
    = x (ix2 0 j) + ((∑ r : Fin 512, Cert.GmlpMath.dv A (512 * T + r.val) j : ℝ) : EReal) := by
  rw [pay426_at]
  simp only [hd]
  rw [coe_sum]

/-- A block's part of the mixing matrices' gradient. -/
def partW (h : Fin 8) (a s : Fin 128) : ℝ := if s ≤ a then ∑ q ∈ Finset.range 4, dwC A (4 * T + q % 4) h a s else 0
/-- A block's part of the biases' gradient. -/
def partB (h : Fin 8) (a : Fin 128) : ℝ := ∑ q ∈ Finset.range 4, dbsC A (4 * T + q % 4) h a

theorem head_emb (h : Fin 8) (n : ℕ) (e : h.val = n % 8) (a s : Fin 128) : (ix3 h a s : S8x128x128.Idx) = (headR n).emb (ix3 (0 : Fin 1) a s) := by
  funext b
  match b with
  | ⟨0, _⟩ => exact Fin.ext (by show h.val = n % 8 + 1 * 0; omega)
  | ⟨1, _⟩ => exact Fin.ext (by show a.val = 0 + 1 * a.val; omega)
  | ⟨2, _⟩ => exact Fin.ext (by show s.val = 0 + 1 * s.val; omega)
theorem head_not_mem (h : Fin 8) (n : ℕ) (e : ¬ h.val = n % 8) (a s : Fin 128) : (ix3 h a s : S8x128x128.Idx) ∉ (headR n).set := by
  intro hm
  have a0 : n % 8 ≤ h.val ∧ h.val < n % 8 + 1 := (Rect.mem_set_unit (inb := inb_w n)).mp hm 0
  omega
theorem bias_emb (h : Fin 8) (n : ℕ) (e : h.val = n % 8) (a : Fin 128) : (ix3 h a 0 : S8x128x1.Idx) = (biasR n).emb (ix3 (0 : Fin 1) a (0 : Fin 1)) := by
  funext b
  match b with
  | ⟨0, _⟩ => exact Fin.ext (by show h.val = n % 8 + 1 * 0; omega)
  | ⟨1, _⟩ => exact Fin.ext (by show a.val = 0 + 1 * a.val; omega)
  | ⟨2, _⟩ => rfl
theorem bias_not_mem (h : Fin 8) (n : ℕ) (e : ¬ h.val = n % 8) (a : Fin 128) : (ix3 h a 0 : S8x128x1.Idx) ∉ (biasR n).set := by
  intro hm
  have a0 : n % 8 ≤ h.val ∧ h.val < n % 8 + 1 := (Rect.mem_set_unit (inb := inb_b n)).mp hm 0
  omega

theorem head_here {e : EltTy} (h : Fin 8) (n : ℕ) (e0 : h.val = n % 8) (a s : Fin 128) (w : Vec Ideal S1x128x128 e) (L : List (View.Piece (Elt Ideal) S8x128x128 e)) :
    View.canon (⟨headR n, w⟩ :: L) (ix3 h a s) = w (ix3 (0 : Fin 1) a s) :=
  (congrArg (View.canon (⟨headR n, w⟩ :: L)) (head_emb h n e0 a s)).trans (View.canon_cons_emb (headR n) w L (ix3 (0 : Fin 1) a s))
theorem head_else {e : EltTy} (h : Fin 8) (n : ℕ) (e0 : ¬ h.val = n % 8) (a s : Fin 128) (w : Vec Ideal S1x128x128 e) (L : List (View.Piece (Elt Ideal) S8x128x128 e)) :
    View.canon (⟨headR n, w⟩ :: L) (ix3 h a s) = View.canon L (ix3 h a s) :=
  View.canon_cons_of_not_mem (⟨headR n, w⟩ : View.Piece (Elt Ideal) S8x128x128 e) L (head_not_mem h n e0 a s)

theorem bias_here {e : EltTy} (h : Fin 8) (n : ℕ) (e0 : h.val = n % 8) (a : Fin 128) (w : Vec Ideal S1x128x1 e) (L : List (View.Piece (Elt Ideal) S8x128x1 e)) :
    View.canon (⟨biasR n, w⟩ :: L) (ix3 h a 0) = w (ix3 (0 : Fin 1) a (0 : Fin 1)) :=
  (congrArg (View.canon (⟨biasR n, w⟩ :: L)) (bias_emb h n e0 a)).trans (View.canon_cons_emb (biasR n) w L (ix3 (0 : Fin 1) a (0 : Fin 1)))
theorem bias_else {e : EltTy} (h : Fin 8) (n : ℕ) (e0 : ¬ h.val = n % 8) (a : Fin 128) (w : Vec Ideal S1x128x1 e) (L : List (View.Piece (Elt Ideal) S8x128x1 e)) :
    View.canon (⟨biasR n, w⟩ :: L) (ix3 h a 0) = View.canon L (ix3 h a 0) :=
  View.canon_cons_of_not_mem (⟨biasR n, w⟩ : View.Piece (Elt Ideal) S8x128x1 e) L (bias_not_mem h n e0 a)

section Heads

variable (rd : List (View.Piece (Elt Ideal) S8x128x128 .f32) → (h : ℕ) → Vec Ideal S1x128x128 .f32) (L : List (View.Piece (Elt Ideal) S8x128x128 .f32))

/-- The heads not stored yet hold what the array held. -/
theorem pcsW_rest (n : ℕ) (hn : n ≤ 8) (h : Fin 8) (hh : n ≤ h.val) (a s : Fin 128) :
    View.canon (pcsW x0 x1 x2 x3 x4 rd L n) (ix3 h a s) = View.canon L (ix3 h a s) := by
  induction n with
  | zero => rfl
  | succ n ih =>
    rw [pcsW]
    exact (head_else h n (by omega) a s _ _).trans (ih (by omega) (by omega))

include h0 h1 h2 h3 h4 in
/-- The heads stored hold their gradient, added to what was read. -/
theorem pcsW_done (P : Fin 8 → Fin 128 → Fin 128 → EReal) (hP : ∀ (h : Fin 8) a s, rd (pcsW x0 x1 x2 x3 x4 rd L h.val) h.val (ix3 0 a s) = P h a s)
    (n : ℕ) (hn : n ≤ 8) (h : Fin 8) (hh : h.val < n) (a s : Fin 128) :
    View.canon (pcsW x0 x1 x2 x3 x4 rd L n) (ix3 h a s) = P h a s + (partW A T h a s : EReal) := by
  induction n with
  | zero => omega
  | succ n ih =>
    by_cases e : h.val = n
    · rw [pcsW]
      refine (head_here h n (by omega) a s _ _).trans ?_
      rw [putW_at, ← e, hP]
      refine congrArg (P h a s + ·) ?_
      rw [r_accw A T x0 x1 x2 x3 x4 h0 h1 h2 h3 h4, show H h.val = h from Fin.ext (by show h.val % 8 = h.val; omega)]
      unfold partW
      split <;> rfl
    · rw [pcsW]
      refine (head_else h n (by omega) a s _ _).trans ?_
      exact ih (by omega) (by omega)

end Heads

section Biases

variable (rd : List (View.Piece (Elt Ideal) S8x128x1 .f32) → (h : ℕ) → Vec Ideal S1x128x1 .f32) (L : List (View.Piece (Elt Ideal) S8x128x1 .f32))

theorem pcsB_rest (n : ℕ) (hn : n ≤ 8) (h : Fin 8) (hh : n ≤ h.val) (a : Fin 128) :
    View.canon (pcsB x0 x1 rd L n) (ix3 h a 0) = View.canon L (ix3 h a 0) := by
  induction n with
  | zero => rfl
  | succ n ih =>
    rw [pcsB]
    exact (bias_else h n (by omega) a _ _).trans (ih (by omega) (by omega))

include h0 h1 in
theorem pcsB_done (P : Fin 8 → Fin 128 → EReal) (hP : ∀ (h : Fin 8) a, rd (pcsB x0 x1 rd L h.val) h.val (ix3 0 a 0) = P h a)
    (n : ℕ) (hn : n ≤ 8) (h : Fin 8) (hh : h.val < n) (a : Fin 128) :
    View.canon (pcsB x0 x1 rd L n) (ix3 h a 0) = P h a + (partB A T h a : EReal) := by
  induction n with
  | zero => omega
  | succ n ih =>
    by_cases e : h.val = n
    · rw [pcsB]
      refine (bias_here h n (by omega) a _ _).trans ?_
      rw [putB_at, ← e, hP]
      refine congrArg (P h a + ·) ?_
      rw [r_accb A T x0 x1 h0 h1, show H h.val = h from Fin.ext (by show h.val % 8 = h.val; omega)]
      rfl
    · rw [pcsB]
      refine (bias_else h n (by omega) a _ _).trans ?_
      exact ih (by omega) (by omega)

end Biases

end Real

end Cert.GmlpKIdeal.Value
-- ==== Proof.GmlpRun.lean ====
/- The gradient kernel of the spatial gating unit over its whole grid: each of its six output arrays after the run. -/
module

public import proofs.«01_k».proof.Proof.GmlpBlk
public import proofs.«01_k».proof.Proof.RmsMath
public import Idealize.ShloMosaic.Lib.Pipeline.ReadBack

@[expose] public section

set_option maxRecDepth 16384

noncomputable section

namespace Cert.GmlpKIdeal.Value

open Cert.GmlpKIdeal Cert.GmlpKIdeal.Gen Idealize.ShloMosaic Idealize.ShloMosaic.TcCoe Idealize.SL.Sem
open Idealize.ShloMosaic.Pipeline (Dat)
open Cert.GmlpMath (Args args Finite cu cs nrm dzu dzv dw dbs dlg dlb)

variable (m : (ℓ : Loc nD τ sig) → Buf (Elt Ideal) ℓ) (c : Dev nD)

/-! ## The blocks -/

/-- The block index of every window. -/
theorem idx : ∀ t : Fin cfg0.N, win0_0.index t = ![t.val, 0] ∧ win0_1.index t = ![t.val, 3] ∧ win0_2.index t = ![t.val, 4]
    ∧ win0_3.index t = ![0, 0] ∧ win0_4.index t = ![0, 0] ∧ win0_5.index t = ![0, 0, 0] ∧ win0_6.index t = ![0, 0, 0] ∧ win0_7.index t = ![0, 0, 0]
    ∧ win0_8.index t = ![t.val, 0] ∧ win0_9.index t = ![t.val, 0] ∧ win0_10.index t = ![0, 0, 0] ∧ win0_11.index t = ![0, 0, 0]
    ∧ win0_12.index t = ![0, 0] ∧ win0_13.index t = ![0, 0] :=
  (by decide +kernel : ∀ t : Fin grid0.N, _)

theorem lt8 {n : ℕ} (h : n < cfg0.N) : n < 8 := lt_of_lt_of_eq h N_0
theorem row_lt (t : Fin cfg0.N) (r : Fin 512) : 512 * t.val + r.val < 4096 := by
  have := lt8 t.isLt; omega
/-- The array's row of a block's row. -/
abbrev row (t : Fin cfg0.N) (r : Fin 512) : Fin 4096 := ⟨512 * t.val + r.val, row_lt t r⟩

theorem V_z (i : Fin 4096) (l : Fin 5120) (k : Fin 5128) (hl : 3072 ≤ l.val) (hk : k.val = l.val + 8) :
    @Eq EReal (V m c main_v5 (ix2 i l)) (m ((c : Thread nD τ).loc main_arg0) (ix3 0 i k)) := by
  unfold V
  after_results
  pointwise
  split
  · omega
  · exact congrArg (fun e => m ((c : Thread nD τ).loc main_arg0) (ix3 0 i e)) (Fin.ext (by simp [hk]; omega))
theorem V_D (i : Fin 4096) (l : Fin 1024) :
    @Eq EReal (V m c main_v10 (ix2 i l)) (m ((c : Thread nD τ).loc main_arg5) (ix3 0 i l)) := by
  unfold V
  after_results
  pointwise
theorem V_w (h : Fin 8) (a s : Fin 128) :
    @Eq EReal (V m c main_v11 (ix3 h a s)) (m ((c : Thread nD τ).loc main_arg3) (ix4 0 h a s)) := by
  unfold V
  after_results
  pointwise
theorem V_wt (h : Fin 8) (a s : Fin 128) :
    @Eq EReal (V m c main_v9 (ix3 h a s)) (m ((c : Thread nD τ).loc main_arg3) (ix4 0 h s a)) := by
  unfold V
  after_results
  pointwise
theorem V_bs (h : Fin 8) (a : Fin 128) :
    @Eq EReal (V m c main_v7 (ix3 h a 0)) (m ((c : Thread nD τ).loc main_arg4) (ix3 0 h a)) := by
  unfold V
  after_results
  pointwise

/-- The numbers that the program's arrays hold. -/
abbrev AA : Args := args (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
/-- The program's arrays hold numbers. -/
abbrev HF : Prop := Finite (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

section Blocks

variable (t : Fin cfg0.N) (hf : HF m c)
include hf

theorem b0 (r : Fin 512) (j : Fin 1024) : @Eq EReal (iblk m c 0 t (ix2 r j)) ((AA m c).D (512 * t.val + r.val) j : EReal) := by
  refine Eq.trans ?_ ((V_D m c (row t r) j).trans (hf.eq_D (row t r) j))
  blk_ext [iblk, idx t]
theorem b1 (r : Fin 512) (j : Fin 1024) : @Eq EReal (iblk m c 1 t (ix2 r j)) ((AA m c).zu (512 * t.val + r.val) j : EReal) := by
  refine Eq.trans ?_ ((V_z m c (row t r) ⟨3072 + j.val, by omega⟩ (cu j) (by simp) (by simp; omega)).trans (hf.eq_zu (row t r) j))
  blk_ext [iblk, idx t]
theorem b2 (r : Fin 512) (j : Fin 1024) : @Eq EReal (iblk m c 2 t (ix2 r j)) ((AA m c).zv (512 * t.val + r.val) j : EReal) := by
  refine Eq.trans ?_ ((V_z m c (row t r) ⟨4096 + j.val, by omega⟩ (cs j) (by simp; omega) (by simp; omega)).trans (hf.eq_zv (row t r) j))
  blk_ext [iblk, idx t]
theorem b3 (j : Fin 1024) : @Eq EReal (iblk m c 3 t (ix2 0 j)) ((AA m c).g j : EReal) := by
  refine Eq.trans ?_ (hf.eq_g j)
  blk_point [iblk, V, idx t]
theorem b4 (j : Fin 1024) : @Eq EReal (iblk m c 4 t (ix2 0 j)) ((AA m c).b j : EReal) := by
  refine Eq.trans ?_ (hf.eq_b j)
  blk_point [iblk, V, idx t]
theorem b5 (h : Fin 8) (a s : Fin 128) : @Eq EReal (iblk m c 5 t (ix3 h a s)) ((AA m c).w h a s : EReal) := by
  refine Eq.trans ?_ ((V_w m c h a s).trans (hf.eq_w h a s))
  blk_ext [iblk, idx t]
theorem b6 (h : Fin 8) (a s : Fin 128) : @Eq EReal (iblk m c 6 t (ix3 h a s)) ((AA m c).w h s a : EReal) := by
  refine Eq.trans ?_ ((V_wt m c h a s).trans (hf.eq_w h s a))
  blk_ext [iblk, idx t]
theorem b7 (h : Fin 8) (a : Fin 128) : @Eq EReal (iblk m c 7 t (ix3 h a 0)) ((AA m c).bs h a : EReal) := by
  refine Eq.trans ?_ ((V_bs m c h a).trans (hf.eq_bs h a))
  blk_ext [iblk, idx t]

end Blocks

/-! ## The loads -/

section Loads

variable {F : FTy → Type} [FloatOps F] {e : EltTy}

theorem big_load (a : Memref sig .tc .vmem S512x1024 e) (ha : a.IsWhole) (x : Vec F S512x1024 e) :
    View.readAt (Elt F) a.view bigR.toLoadRect (ha.unread x) = x := by
  rw [View.readAt_eq_ld, ha.read_unread]
  exact View.ld_unit_zero (by funext b; match b with | ⟨0, _⟩ => rfl | ⟨1, _⟩ => rfl) _ _
theorem row_load (a : Memref sig .tc .vmem S1x1024 e) (ha : a.IsWhole) (x : Vec F S1x1024 e) :
    View.readAt (Elt F) a.view rowR.toLoadRect (ha.unread x) = x := by
  rw [View.readAt_eq_ld, ha.read_unread]
  exact View.ld_unit_zero (by funext b; match b with | ⟨0, _⟩ => rfl | ⟨1, _⟩ => rfl) _ _
theorem head_load (a : Memref sig .tc .vmem S8x128x128 e) (ha : a.IsWhole) (x : Vec F S8x128x128 e) (h : ℕ) (i s : Fin 128) :
    View.readAt (Elt F) a.view (headR h).toLoadRect (ha.unread x) (ix3 0 i s) = x (ix3 (H h) i s) := by
  rw [View.readAt_eq_ld, ha.read_unread]
  exact congrArg x (head_emb (H h) h rfl i s).symm
theorem bias_load (a : Memref sig .tc .vmem S8x128x1 e) (ha : a.IsWhole) (x : Vec F S8x128x1 e) (h : ℕ) (i : Fin 128) :
    View.readAt (Elt F) a.view (biasR h).toLoadRect (ha.unread x) (ix3 0 i 0) = x (ix3 (H h) i 0) := by
  rw [View.readAt_eq_ld, ha.read_unread]
  exact congrArg x (bias_emb (H h) h rfl i).symm
/-- A load of the whole buffer reads the pieces stored. -/
theorem big_back (a : View sig .tc .vmem S512x1024 e) (L : List (View.Piece (Elt F) S512x1024 e)) :
    a.readCov L bigR.toLoadRect = View.canon L := by
  rw [View.readCov_eq_canon']
  funext j
  refine congrArg (View.canon L) (funext fun b => Fin.ext ?_)
  match b with
  | ⟨0, _⟩ => show 0 + 1 * (j 0).val = (j 0).val; omega
  | ⟨1, _⟩ => show 0 + 1 * (j 1).val = (j 1).val; omega
theorem row_back (a : View sig .tc .vmem S1x1024 e) (w : Vec F S1x1024 e) :
    a.readCov [⟨rowR, w⟩] rowR.toLoadRect = w := by
  rw [View.readCov_eq_canon', View.canon_unit_zero (by funext b; match b with | ⟨0, _⟩ => rfl | ⟨1, _⟩ => rfl)]
  funext j
  refine congrArg w (funext fun b => Fin.ext ?_)
  match b with
  | ⟨0, _⟩ => show 0 + 1 * (j 0).val = (j 0).val; omega
  | ⟨1, _⟩ => show 0 + 1 * (j 1).val = (j 1).val; omega

end Loads

/-! ## One point of the grid -/

theorem big_lt (r : Fin 512) (j : Fin 1024) : j.val / 128 * 4 + r.val / 128 < 32 := by omega

theorem zero4 (j : Fin 1024) : @Eq EReal (k0_pay4 (F := Ideal) (ix2 0 j)) 0 := by pointwise [k0_pay4]
theorem zero5 (j : Fin 1024) : @Eq EReal (k0_pay5 (F := Ideal) (ix2 0 j)) 0 := by pointwise [k0_pay5]

section Point

variable (t : Fin cfg0.N) (hf : HF m c)
include hf

/-- The gradient of the normalised half, as a point keeps it. -/
theorem keep (a2 : View sig .tc .vmem S512x1024 .f32) (a7 : Memref sig .tc .vmem S8x128x128 .f32) (ha7 : a7.IsWhole) (r : Fin 512) (j : Fin 1024) :
    a2.readCov (pcsV (iblk m c 0 t) (iblk m c 1 t) (fun h => View.readAt (Elt Ideal) a7.view (headR h).toLoadRect (ha7.unread (iblk m c 6 t))) 32) bigR.toLoadRect (ix2 r j)
      = (Cert.GmlpMath.dv (AA m c) (512 * t.val + r.val) j : EReal) := by
  rw [big_back]
  exact r_V (AA m c) t.val _ _ _ (b0 m c t hf) (b1 m c t hf) (fun h a s => (head_load a7 ha7 _ h a s).trans (b6 m c t hf (H h) a s)) 32 le_rfl r j (big_lt r j)

/-- What a point stores of the first half's gradient. -/
theorem u_at (r : Fin 512) (j : Fin 1024) : @Eq EReal ((outsAt0 m c t.val t.isLt).1 (ix2 r j)) (dzu (AA m c) (512 * t.val + r.val) j : EReal) := by
  by_cases h0 : t.val % 8 = 0
  · rw [outsAt0_A m c t h0]
    dsimp only
    unfold out0_A_8
    rw [View.read_writes_junk_eq_canon, openA_8]
    simp only [big_load, row_load]
    exact r_U (AA m c) t.val _ _ _ _ _ _ _ (b0 m c t hf) (b1 m c t hf) (b2 m c t hf) (b3 m c t hf) (b4 m c t hf)
      (fun h a s => (head_load _ _ _ h a s).trans (b5 m c t hf (H h) a s)) (fun h a => (bias_load _ _ _ h a).trans (b7 m c t hf (H h) a)) 32 le_rfl r j (big_lt r j)
  · rw [outsAt0_B m c t h0]
    dsimp only
    unfold out0_B_8
    rw [View.read_writes_junk_eq_canon, openB_8]
    simp only [big_load, row_load]
    exact r_U (AA m c) t.val _ _ _ _ _ _ _ (b0 m c t hf) (b1 m c t hf) (b2 m c t hf) (b3 m c t hf) (b4 m c t hf)
      (fun h a s => (head_load _ _ _ h a s).trans (b5 m c t hf (H h) a s)) (fun h a => (bias_load _ _ _ h a).trans (b7 m c t hf (H h) a)) 32 le_rfl r j (big_lt r j)

/-- What a point stores of the second half's gradient. -/
theorem v_at (r : Fin 512) (j : Fin 1024) : @Eq EReal ((outsAt0 m c t.val t.isLt).2.1 (ix2 r j)) (dzv (AA m c) (512 * t.val + r.val) j : EReal) := by
  by_cases h0 : t.val % 8 = 0
  · rw [outsAt0_A m c t h0]
    dsimp only
    unfold out0_A_9
    rw [View.read_writes_junk_eq_canon, openA_9, View.canon_unit_zero (by funext b; match b with | ⟨0, _⟩ => rfl | ⟨1, _⟩ => rfl)]
    simp only [big_load, row_load]
    exact r_fin9 (AA m c) t.val _ _ (b2 m c t hf) (b3 m c t hf) _ (keep m c t hf _ _ _) r j
  · rw [outsAt0_B m c t h0]
    dsimp only
    unfold out0_B_9
    rw [View.read_writes_junk_eq_canon, openB_9, View.canon_unit_zero (by funext b; match b with | ⟨0, _⟩ => rfl | ⟨1, _⟩ => rfl)]
    simp only [big_load, row_load]
    exact r_fin9 (AA m c) t.val _ _ (b2 m c t hf) (b3 m c t hf) _ (keep m c t hf _ _ _) r j

/-- The first point's matrices' gradient. -/
theorem w_first (h0 : t.val % 8 = 0) (h : Fin 8) (a s : Fin 128) :
    @Eq EReal ((outsAt0 m c t.val t.isLt).2.2.1 (ix3 h a s)) (partW (AA m c) t.val h a s : EReal) := by
  rw [outsAt0_A m c t h0]
  dsimp only
  unfold out0_A_10
  rw [View.read_writes_junk_eq_canon, openA_10]
  simp only [big_load, row_load]
  refine (pcsW_done (AA m c) t.val _ _ _ _ _ (b0 m c t hf) (b1 m c t hf) (b2 m c t hf) (b3 m c t hf) (b4 m c t hf) _ _ (fun _ _ _ => 0) (fun h a s => ?_) 8 le_rfl h h.isLt a s).trans (zero_add _)
  rw [View.readCov_eq_canon']
  refine (congrArg (View.canon _) (head_emb h h.val (by omega) a s).symm).trans ?_
  refine (pcsW_rest _ _ _ _ _ _ _ h.val (by omega) h le_rfl a s).trans ?_
  rw [View.canon_unit_zero (by funext b; match b with | ⟨0, _⟩ => rfl | ⟨1, _⟩ => rfl | ⟨2, _⟩ => rfl)]
  pointwise [k0_pay2]

/-- A later point's matrices' gradient is added to what the point before left. -/
theorem w_step (h0 : ¬ t.val % 8 = 0) (h : Fin 8) (a s : Fin 128) :
    @Eq EReal ((outsAt0 m c t.val t.isLt).2.2.1 (ix3 h a s))
      ((outsAt0 m c (t.val - 1) (Nat.lt_of_le_of_lt (Nat.sub_le _ _) t.isLt)).2.2.1 (ix3 h a s) + (partW (AA m c) t.val h a s : EReal)) := by
  rw [outsAt0_B m c t h0]
  dsimp only
  unfold out0_B_10
  rw [View.read_writes_junk_eq_canon, openB_10]
  simp only [big_load, row_load]
  refine (pcsW_done (AA m c) t.val _ _ _ _ _ (b0 m c t hf) (b1 m c t hf) (b2 m c t hf) (b3 m c t hf) (b4 m c t hf) _ _ (fun h a s => (outsAt0 m c (t.val - 1) (Nat.lt_of_le_of_lt (Nat.sub_le _ _) t.isLt)).2.2.1 (ix3 h a s)) (fun h a s => ?_) 8 le_rfl h h.isLt a s)
  exact (head_load _ _ _ h.val a s).trans (congrArg (fun q => (outsAt0 m c (t.val - 1) (Nat.lt_of_le_of_lt (Nat.sub_le _ _) t.isLt)).2.2.1 (ix3 q a s)) (Fin.ext (by show h.val % 8 = h.val; omega)))

/-- The first point's biases' gradient. -/
theorem bs_first (h0 : t.val % 8 = 0) (h : Fin 8) (a : Fin 128) :
    @Eq EReal ((outsAt0 m c t.val t.isLt).2.2.2.1 (ix3 h a 0)) (partB (AA m c) t.val h a : EReal) := by
  rw [outsAt0_A m c t h0]
  dsimp only
  unfold out0_A_11
  rw [View.read_writes_junk_eq_canon, openA_11]
  simp only [big_load]
  refine (pcsB_done (AA m c) t.val _ _ (b0 m c t hf) (b1 m c t hf) _ _ (fun _ _ => 0) (fun h a => ?_) 8 le_rfl h h.isLt a).trans (zero_add _)
  rw [View.readCov_eq_canon']
  refine (congrArg (View.canon _) (bias_emb h h.val (by omega) a).symm).trans ?_
  refine (pcsB_rest _ _ _ _ h.val (by omega) h le_rfl a).trans ?_
  rw [View.canon_unit_zero (by funext b; match b with | ⟨0, _⟩ => rfl | ⟨1, _⟩ => rfl | ⟨2, _⟩ => rfl)]
  pointwise [k0_pay3]

/-- A later point's biases' gradient is added to what the point before left. -/
theorem bs_step (h0 : ¬ t.val % 8 = 0) (h : Fin 8) (a : Fin 128) :
    @Eq EReal ((outsAt0 m c t.val t.isLt).2.2.2.1 (ix3 h a 0))
      ((outsAt0 m c (t.val - 1) (Nat.lt_of_le_of_lt (Nat.sub_le _ _) t.isLt)).2.2.2.1 (ix3 h a 0) + (partB (AA m c) t.val h a : EReal)) := by
  rw [outsAt0_B m c t h0]
  dsimp only
  unfold out0_B_11
  rw [View.read_writes_junk_eq_canon, openB_11]
  simp only [big_load]
  refine (pcsB_done (AA m c) t.val _ _ (b0 m c t hf) (b1 m c t hf) _ _ (fun h a => (outsAt0 m c (t.val - 1) (Nat.lt_of_le_of_lt (Nat.sub_le _ _) t.isLt)).2.2.2.1 (ix3 h a 0)) (fun h a => ?_) 8 le_rfl h h.isLt a)
  exact (bias_load _ _ _ h.val a).trans (congrArg (fun q => (outsAt0 m c (t.val - 1) (Nat.lt_of_le_of_lt (Nat.sub_le _ _) t.isLt)).2.2.2.1 (ix3 q a 0)) (Fin.ext (by show h.val % 8 = h.val; omega)))

/-- The part of the scale's gradient that a point adds. -/
abbrev partG (n : ℕ) (j : Fin 1024) : ℝ := ∑ r : Fin 512, Cert.GmlpMath.dv (AA m c) (512 * n + r.val) j * nrm ((AA m c).zv (512 * n + r.val)) j
/-- The part of the shift's gradient that a point adds. -/
abbrev partS (n : ℕ) (j : Fin 1024) : ℝ := ∑ r : Fin 512, Cert.GmlpMath.dv (AA m c) (512 * n + r.val) j

theorem g_first (h0 : t.val % 8 = 0) (j : Fin 1024) : @Eq EReal ((outsAt0 m c t.val t.isLt).2.2.2.2.1 (ix2 0 j)) (partG m c t.val j : EReal) := by
  rw [outsAt0_A m c t h0]
  dsimp only
  unfold out0_A_12
  rw [View.read_writes_junk_eq_canon, openA_12, View.canon_cons_unit_zero (by funext b; match b with | ⟨0, _⟩ => rfl | ⟨1, _⟩ => rfl)]
  simp only [big_load]
  refine (r_425 (AA m c) t.val _ (b2 m c t hf) _ (keep m c t hf _ _ _) _ j).trans ?_
  exact (congrArg (fun e : EReal => e + _) ((congrFun (row_back (ms0_12 t).view k0_pay4) (ix2 0 j)).trans (zero4 j))).trans (zero_add _)
theorem g_step (h0 : ¬ t.val % 8 = 0) (j : Fin 1024) : @Eq EReal ((outsAt0 m c t.val t.isLt).2.2.2.2.1 (ix2 0 j))
    ((outsAt0 m c (t.val - 1) (Nat.lt_of_le_of_lt (Nat.sub_le _ _) t.isLt)).2.2.2.2.1 (ix2 0 j) + (partG m c t.val j : EReal)) := by
  rw [outsAt0_B m c t h0]
  dsimp only
  unfold out0_B_12
  rw [View.read_writes_junk_eq_canon, openB_12, View.canon_unit_zero (by funext b; match b with | ⟨0, _⟩ => rfl | ⟨1, _⟩ => rfl)]
  simp only [big_load, row_load]
  exact r_425 (AA m c) t.val _ (b2 m c t hf) _ (keep m c t hf _ _ _) _ j
theorem s_first (h0 : t.val % 8 = 0) (j : Fin 1024) : @Eq EReal ((outsAt0 m c t.val t.isLt).2.2.2.2.2 (ix2 0 j)) (partS m c t.val j : EReal) := by
  rw [outsAt0_A m c t h0]
  dsimp only
  unfold out0_A_13
  rw [View.read_writes_junk_eq_canon, openA_13, View.canon_cons_unit_zero (by funext b; match b with | ⟨0, _⟩ => rfl | ⟨1, _⟩ => rfl)]
  simp only [big_load]
  refine (r_426 (AA m c) t.val _ (keep m c t hf _ _ _) _ j).trans ?_
  exact (congrArg (fun e : EReal => e + _) ((congrFun (row_back (ms0_13 t).view k0_pay5) (ix2 0 j)).trans (zero5 j))).trans (zero_add _)
theorem s_step (h0 : ¬ t.val % 8 = 0) (j : Fin 1024) : @Eq EReal ((outsAt0 m c t.val t.isLt).2.2.2.2.2 (ix2 0 j))
    ((outsAt0 m c (t.val - 1) (Nat.lt_of_le_of_lt (Nat.sub_le _ _) t.isLt)).2.2.2.2.2 (ix2 0 j) + (partS m c t.val j : EReal)) := by
  rw [outsAt0_B m c t h0]
  dsimp only
  unfold out0_B_13
  rw [View.read_writes_junk_eq_canon, openB_13, View.canon_unit_zero (by funext b; match b with | ⟨0, _⟩ => rfl | ⟨1, _⟩ => rfl)]
  simp only [big_load, row_load]
  exact r_426 (AA m c) t.val _ (keep m c t hf _ _ _) _ j

end Point

/-! ## All points -/

/-- A sum that every point adds its part to. -/
theorem run_sum {f : ∀ n, n < cfg0.N → EReal} {P : ℕ → ℝ} (h0 : ∀ h, f 0 h = P 0) (hs : ∀ n (h : n + 1 < cfg0.N), f (n + 1) h = f n (Nat.lt_of_succ_lt h) + P (n + 1)) :
    ∀ n h, f n h = ((∑ k ∈ Finset.range (n + 1), P k : ℝ) : EReal)
  | 0, h => by rw [h0, Finset.sum_range_one]
  | n + 1, h => by rw [hs n h, run_sum h0 hs n, Finset.sum_range_succ _ (n + 1), EReal.coe_add]

theorem mod_ne {n : ℕ} (h : n + 1 < cfg0.N) : ¬ (n + 1) % 8 = 0 := by
  have := lt8 h; omega

section Sums

variable (A : Args)

/-- The parts of the rows' sum, block by block. -/
theorem rows_sum (f : ℕ → ℝ) : ∑ k ∈ Finset.range 8, ∑ r : Fin 512, f (512 * k + r.val) = ∑ r : Fin 4096, f r.val := by
  rw [Finset.sum_range]
  exact Fin.sum_mul_add_congr (S := 8) (n := 512) (L := 4096) (f := fun r : Fin 4096 => f r.val) fun s k hl => congrArg f (by show _ = s.val * 512 + k.val; omega)
/-- The parts of the chunks' sum, block by block. -/
theorem chunks_sum (f : ℕ → ℝ) : ∑ k ∈ Finset.range 8, ∑ q ∈ Finset.range 4, f (4 * k + q % 4) = ∑ n : Fin 32, f n.val := by
  rw [Finset.sum_range]
  simp only [Finset.sum_range]
  exact Fin.sum_mul_add_congr (S := 8) (n := 4) (L := 32) (f := fun r : Fin 32 => f r.val) fun s k hl => congrArg f (by show _ = s.val * 4 + k.val; omega)
theorem partW_sum (h : Fin 8) (a s : Fin 128) : ∑ k ∈ Finset.range 8, partW A k h a s = dw A h a s := by
  unfold partW dw
  split
  · exact chunks_sum fun n => Cert.GmlpMath.dwC A n h a s
  · exact Finset.sum_const_zero
theorem partB_sum (h : Fin 8) (a : Fin 128) : ∑ k ∈ Finset.range 8, partB A k h a = dbs A h a :=
  chunks_sum fun n => Cert.GmlpMath.dbsC A n h a

end Sums

theorem seven {t : Fin cfg0.N} (h : t.val % 8 = 7) : t.val + 1 = 8 := by have := lt8 t.isLt; omega

/-- The first half's gradient as an array. -/
def outU (A : Args) (j : S4096x1024.Idx) : EReal := ((dzu A (j 0).val (j 1) : ℝ) : EReal)
/-- The second half's gradient as an array. -/
def outV (A : Args) (j : S4096x1024.Idx) : EReal := ((dzv A (j 0).val (j 1) : ℝ) : EReal)

section Arrays

variable (hf : HF m c)
include hf

/-- The first half's gradient after the run. -/
theorem fin_8 : (dats m 0 c).arrAt 8 cfg0.N = outU (AA m c) := by
  refine (dats m 0 c).arrAt_eq_of_covers 8 _ (by decide +kernel) fun t ht y => ?_
  have h : ((cfg0.win 8).blk t).view.emb y = ix2 (row t (y 0)) (y 1) := by
    funext a
    match a with
    | ⟨0, _⟩ => exact Fin.ext (by blk_simp [idx t]; exact congrArg (· + _) (Nat.mul_comm _ 512))
    | ⟨1, _⟩ => exact Fin.ext (by blk_simp [idx t]; rfl)
  blk_simp
  rw [after0_8, h]
  exact (congrArg _ (eq_ix2 y)).trans (u_at m c t hf (y 0) (y 1))
/-- The second half's gradient after the run. -/
theorem fin_9 : (dats m 0 c).arrAt 9 cfg0.N = outV (AA m c) := by
  refine (dats m 0 c).arrAt_eq_of_covers 9 _ (by decide +kernel) fun t ht y => ?_
  have h : ((cfg0.win 9).blk t).view.emb y = ix2 (row t (y 0)) (y 1) := by
    funext a
    match a with
    | ⟨0, _⟩ => exact Fin.ext (by blk_simp [idx t]; exact congrArg (· + _) (Nat.mul_comm _ 512))
    | ⟨1, _⟩ => exact Fin.ext (by blk_simp [idx t]; rfl)
  blk_simp
  rw [after0_9, h]
  exact (congrArg _ (eq_ix2 y)).trans (v_at m c t hf (y 0) (y 1))
/-- The mixing matrices' gradient after the run. -/
theorem fin_10 : (dats m 0 c).arrAt 10 cfg0.N = fun j => ((dw (AA m c) (j 0) (j 1) (j 2) : ℝ) : EReal) := by
  refine (dats m 0 c).arrAt_eq_of_covers 10 _ (by decide +kernel) fun t ht y => ?_
  have h : ((cfg0.win 10).blk t).view.emb y = ix3 (y 0) (y 1) (y 2) := by
    funext a
    match a with
    | ⟨0, _⟩ => exact Fin.ext (by blk_simp [idx t]; rfl)
    | ⟨1, _⟩ => exact Fin.ext (by blk_simp [idx t]; rfl)
    | ⟨2, _⟩ => exact Fin.ext (by blk_simp [idx t]; rfl)
  blk_simp
  rw [after0_10, h]
  refine (congrArg _ (eq_ix3 y)).trans ?_
  refine (run_sum (f := fun n h => (outsAt0 m c n h).2.2.1 (ix3 (y 0) (y 1) (y 2))) (P := fun n => partW (AA m c) n (y 0) (y 1) (y 2))
    (fun h => w_first m c ⟨0, h⟩ hf (Nat.zero_mod _) _ _ _) (fun n h => w_step m c ⟨n + 1, h⟩ hf (mod_ne h) _ _ _) t.val t.isLt).trans ?_
  rw [seven ((flush0_10 t).mp ht)]
  exact congrArg _ (partW_sum (AA m c) (y 0) (y 1) (y 2))
/-- The biases' gradient after the run. -/
theorem fin_11 : (dats m 0 c).arrAt 11 cfg0.N = fun j => ((dbs (AA m c) (j 0) (j 1) : ℝ) : EReal) := by
  refine (dats m 0 c).arrAt_eq_of_covers 11 _ (by decide +kernel) fun t ht y => ?_
  have h : ((cfg0.win 11).blk t).view.emb y = ix3 (y 0) (y 1) (y 2) := by
    funext a
    match a with
    | ⟨0, _⟩ => exact Fin.ext (by blk_simp [idx t]; rfl)
    | ⟨1, _⟩ => exact Fin.ext (by blk_simp [idx t]; rfl)
    | ⟨2, _⟩ => exact Fin.ext (by blk_simp [idx t])
  blk_simp
  rw [after0_11, h]
  have e0 : (show Fin 1 from y 2) = 0 := Fin.fin_one_eq_zero _
  refine Eq.trans (congrArg _ (show y = ix3 (y 0 : Fin 8) (y 1 : Fin 128) (0 : Fin 1) from funext fun a => by
    match a with
    | ⟨0, _⟩ => rfl
    | ⟨1, _⟩ => rfl
    | ⟨2, _⟩ => exact Fin.ext (congrArg Fin.val e0))) ?_
  refine (run_sum (f := fun n h => (outsAt0 m c n h).2.2.2.1 (ix3 (y 0 : Fin 8) (y 1 : Fin 128) (0 : Fin 1))) (P := fun n => partB (AA m c) n (y 0) (y 1))
    (fun h => bs_first m c ⟨0, h⟩ hf (Nat.zero_mod _) _ _) (fun n h => bs_step m c ⟨n + 1, h⟩ hf (mod_ne h) _ _) t.val t.isLt).trans ?_
  rw [seven ((flush0_11 t).mp ht)]
  exact congrArg _ (partB_sum (AA m c) (y 0) (y 1))
/-- The scale's gradient after the run. -/
theorem fin_12 : (dats m 0 c).arrAt 12 cfg0.N = fun j => ((dlg (AA m c) (j 1) : ℝ) : EReal) := by
  refine (dats m 0 c).arrAt_eq_of_covers 12 _ (by decide +kernel) fun t ht y => ?_
  have h : ((cfg0.win 12).blk t).view.emb y = ix2 (y 0) (y 1) := by
    funext a
    match a with
    | ⟨0, _⟩ => exact Fin.ext (by blk_simp [idx t])
    | ⟨1, _⟩ => exact Fin.ext (by blk_simp [idx t]; rfl)
  blk_simp
  rw [after0_12, h]
  have e0 : (show Fin 1 from y 0) = 0 := Fin.fin_one_eq_zero _
  refine Eq.trans (congrArg _ (show y = ix2 (0 : Fin 1) (y 1 : Fin 1024) from funext fun a => by
    match a with
    | ⟨0, _⟩ => exact Fin.ext (congrArg Fin.val e0)
    | ⟨1, _⟩ => rfl)) ?_
  refine (run_sum (f := fun n h => (outsAt0 m c n h).2.2.2.2.1 (ix2 (0 : Fin 1) (y 1 : Fin 1024))) (P := fun n => partG m c n (y 1))
    (fun h => g_first m c ⟨0, h⟩ hf (Nat.zero_mod _) _) (fun n h => g_step m c ⟨n + 1, h⟩ hf (mod_ne h) _) t.val t.isLt).trans ?_
  rw [seven ((flush0_12 t).mp ht)]
  exact congrArg _ (rows_sum fun r => Cert.GmlpMath.dv (AA m c) r (y 1) * nrm ((AA m c).zv r) (y 1))
/-- The shift's gradient after the run. -/
theorem fin_13 : (dats m 0 c).arrAt 13 cfg0.N = fun j => ((dlb (AA m c) (j 1) : ℝ) : EReal) := by
  refine (dats m 0 c).arrAt_eq_of_covers 13 _ (by decide +kernel) fun t ht y => ?_
  have h : ((cfg0.win 13).blk t).view.emb y = ix2 (y 0) (y 1) := by
    funext a
    match a with
    | ⟨0, _⟩ => exact Fin.ext (by blk_simp [idx t])
    | ⟨1, _⟩ => exact Fin.ext (by blk_simp [idx t]; rfl)
  blk_simp
  rw [after0_13, h]
  have e0 : (show Fin 1 from y 0) = 0 := Fin.fin_one_eq_zero _
  refine Eq.trans (congrArg _ (show y = ix2 (0 : Fin 1) (y 1 : Fin 1024) from funext fun a => by
    match a with
    | ⟨0, _⟩ => exact Fin.ext (congrArg Fin.val e0)
    | ⟨1, _⟩ => rfl)) ?_
  refine (run_sum (f := fun n h => (outsAt0 m c n h).2.2.2.2.2 (ix2 (0 : Fin 1) (y 1 : Fin 1024))) (P := fun n => partS m c n (y 1))
    (fun h => s_first m c ⟨0, h⟩ hf (Nat.zero_mod _) _) (fun n h => s_step m c ⟨n + 1, h⟩ hf (mod_ne h) _) t.val t.isLt).trans ?_
  rw [seven ((flush0_13 t).mp ht)]
  exact congrArg _ (rows_sum fun r => Cert.GmlpMath.dv (AA m c) r (y 1))

end Arrays

end Cert.GmlpKIdeal.Value
-- ==== Proof.GmlpRef.lean ====
/- The reference of the spatial gating unit's gradient, stage by stage: where its arguments are numbers, every stage is
   the number that `GmlpMath` names. -/
module

public import proofs.«01_k».proof.Proof.GmlpElt
public import proofs.«01_k».proof.Proof.RmsMath
public import proofs.«01_k».proof.Proof.Gen.GmlpRIdeal.Run
public import proofs.«01_k».proof.Proof.Gen.GmlpRIdeal.Read

@[expose] public section

set_option maxRecDepth 16384

noncomputable section

namespace Cert.GmlpRIdeal.Value

open Cert.GmlpRIdeal Cert.GmlpRIdeal.Gen Cert.GmlpRIdeal.Read Idealize.ShloMosaic Idealize.ShloMosaic.TcCoe Idealize.SL.Sem
open Cert.GmlpMath

/-- The arguments hold the numbers of an `Args`. -/
structure Reads (A : Args) (x0 : FVec Ideal ⟨3, ![1, 4096, 5128]⟩ .f32) (x1 x2 : FVec Ideal ⟨2, ![1, 1024]⟩ .f32) (x3 : FVec Ideal ⟨4, ![1, 8, 128, 128]⟩ .f32)
    (x4 : FVec Ideal ⟨3, ![1, 8, 128]⟩ .f32) (x5 : FVec Ideal ⟨3, ![1, 4096, 1024]⟩ .f32) : Prop where
  zu : ∀ (r : Fin 4096) (j : Fin 1024), x0 (ix3 0 r (cu j)) = (A.zu r.val j : EReal)
  zv : ∀ (r : Fin 4096) (j : Fin 1024), x0 (ix3 0 r (cs j)) = (A.zv r.val j : EReal)
  g : ∀ j, x1 (ix2 0 j) = (A.g j : EReal)
  b : ∀ j, x2 (ix2 0 j) = (A.b j : EReal)
  w : ∀ h t s, x3 (ix4 0 h t s) = (A.w h t s : EReal)
  bs : ∀ h t, x4 (ix3 0 h t) = (A.bs h t : EReal)
  D : ∀ (r : Fin 4096) (j : Fin 1024), x5 (ix3 0 r j) = (A.D r.val j : EReal)

variable {A : Args} {x0 : FVec Ideal ⟨3, ![1, 4096, 5128]⟩ .f32} {x1 x2 : FVec Ideal ⟨2, ![1, 1024]⟩ .f32} {x3 : FVec Ideal ⟨4, ![1, 8, 128, 128]⟩ .f32}
  {x4 : FVec Ideal ⟨3, ![1, 8, 128]⟩ .f32} {x5 : FVec Ideal ⟨3, ![1, 4096, 1024]⟩ .f32} (hf : Reads A x0 x1 x2 x3 x4 x5)

/-- A chunk's row among all rows. -/
abbrev cr (n : Fin 32) (p : Fin 128) : Fin 4096 := ⟨128 * n.val + p.val, by omega⟩

theorem place (n : Fin 32) (p : Fin 128) (h : Fin 8) (d : Fin 128) (h1 : n.val * 128 + p.val < 4096) (h2 : h.val * 128 + d.val < 1024) :
    ix3 (0 : Fin 1) (⟨n.val * 128 + p.val, h1⟩ : Fin 4096) (⟨h.val * 128 + d.val, h2⟩ : Fin 1024) = ix3 0 (cr n p) (col h d) :=
  congrArg₂ (fun a b => ix3 (0 : Fin 1) a b) (Fin.ext (congrArg (· + p.val) (Nat.mul_comm _ 128))) (Fin.ext (congrArg (· + d.val) (Nat.mul_comm _ 128)))

theorem k_u : @Eq EReal (val_main_v2 (F := Ideal) ix0) (k1 : EReal) := by
  refine Eq.trans ?_ w_k1
  pointwise [val_main_v2, val_main_cst, val_main_cst_0]
theorem k_v : @Eq EReal (val_main_v24 (F := Ideal) ix0) (k1 : EReal) := by
  refine Eq.trans ?_ w_k1
  pointwise [val_main_v24, val_main_cst_7, val_main_cst_8]

include hf

/-! ## The gelu -/

theorem s0 (r : Fin 4096) (j : Fin 1024) : @Eq EReal (val_main_v0 (F := Ideal) x0 (ix3 0 r j)) (A.zu r.val j : EReal) := by
  refine Eq.trans ?_ (hf.zu r j)
  pointwise [val_main_v0]
theorem s1 (r : Fin 4096) (j : Fin 1024) : @Eq EReal (val_main_v1 (F := Ideal) x0 (ix3 0 r j)) (A.zv r.val j : EReal) := by
  refine Eq.trans ?_ (hf.zv r j)
  pointwise [val_main_v1]
theorem s13 (r : Fin 4096) (j : Fin 1024) : @Eq EReal (val_main_v13 (F := Ideal) x0 (ix3 0 r j)) (th (A.zu r.val j) : EReal) := by
  pointwise [val_main_v13, val_main_v12, val_main_v11, val_main_cst_2, val_main_v10, val_main_v9, val_main_v8, val_main_v4, val_main_v3]
  rw [s0 hf, k_u, w_kc]
  simp only [← EReal.coe_mul, ← EReal.coe_add, Ideal.tanh_coe]
  rfl
theorem s35 (r : Fin 4096) (j : Fin 1024) : @Eq EReal (val_main_v35 (F := Ideal) x0 (ix3 0 r j)) (th (A.zv r.val j) : EReal) := by
  pointwise [val_main_v35, val_main_v34, val_main_v33, val_main_cst_10, val_main_v32, val_main_v31, val_main_v30, val_main_v26, val_main_v25]
  rw [s1 hf, k_v, w_kc]
  simp only [← EReal.coe_mul, ← EReal.coe_add, Ideal.tanh_coe]
  rfl
theorem s7 (r : Fin 4096) (j : Fin 1024) : @Eq EReal (val_main_v7 (F := Ideal) x0 (ix3 0 r j)) ((3 * (A.zu r.val j * A.zu r.val j) : ℝ) : EReal) := by
  pointwise [val_main_v7, val_main_v6, val_main_cst_1, val_main_v5]
  rw [s0 hf, w_three, ← EReal.coe_mul, ← EReal.coe_mul]
theorem s29 (r : Fin 4096) (j : Fin 1024) : @Eq EReal (val_main_v29 (F := Ideal) x0 (ix3 0 r j)) ((3 * (A.zv r.val j * A.zv r.val j) : ℝ) : EReal) := by
  pointwise [val_main_v29, val_main_v28, val_main_cst_9, val_main_v27]
  rw [s1 hf, w_three, ← EReal.coe_mul, ← EReal.coe_mul]
theorem s18 (r : Fin 4096) (j : Fin 1024) : @Eq EReal (val_main_v18 (F := Ideal) x0 (ix3 0 r j)) (((1 + th (A.zu r.val j)) * (1 - th (A.zu r.val j)) : ℝ) : EReal) := by
  pointwise [val_main_v18, val_main_v17, val_main_v16, val_main_v15, val_main_v14, val_main_cst_3, val_main_cst_4]
  rw [s13 hf]
  simp only [← EReal.coe_one, ← EReal.coe_mul, ← EReal.coe_add, ← EReal.coe_sub]
theorem s40 (r : Fin 4096) (j : Fin 1024) : @Eq EReal (val_main_v40 (F := Ideal) x0 (ix3 0 r j)) (((1 + th (A.zv r.val j)) * (1 - th (A.zv r.val j)) : ℝ) : EReal) := by
  pointwise [val_main_v40, val_main_v39, val_main_v38, val_main_v37, val_main_v36, val_main_cst_11, val_main_cst_12]
  rw [s35 hf]
  simp only [← EReal.coe_one, ← EReal.coe_mul, ← EReal.coe_add, ← EReal.coe_sub]
theorem s22 (r : Fin 4096) (j : Fin 1024) : @Eq EReal (val_main_v22 (F := Ideal) x0 (ix3 0 r j)) ((1 / 2 * (1 + th (A.zu r.val j)) : ℝ) : EReal) := by
  pointwise [val_main_v22, val_main_v21, val_main_v20, val_main_v19, val_main_cst_5, val_main_cst_6]
  rw [s13 hf, w_half]
  simp only [← EReal.coe_one, ← EReal.coe_mul, ← EReal.coe_add]
theorem s44 (r : Fin 4096) (j : Fin 1024) : @Eq EReal (val_main_v44 (F := Ideal) x0 (ix3 0 r j)) ((1 / 2 * (1 + th (A.zv r.val j)) : ℝ) : EReal) := by
  pointwise [val_main_v44, val_main_v43, val_main_v42, val_main_v41, val_main_cst_13, val_main_cst_14]
  rw [s35 hf, w_half]
  simp only [← EReal.coe_one, ← EReal.coe_mul, ← EReal.coe_add]
theorem s23 (r : Fin 4096) (j : Fin 1024) : @Eq EReal (val_main_v23 (F := Ideal) x0 (ix3 0 r j)) (gelu (A.zu r.val j) : EReal) := by
  pointwise [val_main_v23]
  rw [s0 hf, s22 hf, ← EReal.coe_mul]
  exact congrArg _ (by unfold gelu; ring)
theorem s45 (r : Fin 4096) (j : Fin 1024) : @Eq EReal (val_main_v45 (F := Ideal) x0 (ix3 0 r j)) (gelu (A.zv r.val j) : EReal) := by
  pointwise [val_main_v45]
  rw [s1 hf, s44 hf, ← EReal.coe_mul]
  exact congrArg _ (by unfold gelu; ring)

/-! ## The norm -/

theorem s53 (r : Fin 4096) (j : Fin 1024) : @Eq EReal (val_main_v53 (F := Ideal) x0 (ix3 0 r j)) (xc (A.zv r.val) j : EReal) := by
  pointwise [val_main_v53, val_main_v52, val_main_v51, val_main_v50, val_main_cst_16, val_main_v49, val_main_v48, val_main_cst_15]
  simp only [s45 hf]
  rw [coe_sum, div_n, ← EReal.coe_sub]
  rfl
theorem s60 (r : Fin 4096) : @Eq EReal (val_main_v60 (F := Ideal) x0 (ix3 0 r 0)) (va (A.zv r.val) : EReal) := by
  pointwise [val_main_v60, val_main_v59, val_main_cst_19, val_main_v58, val_main_v57, val_main_cst_18, val_main_v56, val_main_v55, val_main_cst_17, val_main_v54]
  simp only [s53 hf, ← EReal.coe_mul]
  rw [coe_sum, div_n, w_eps, ← EReal.coe_add]
  rfl
theorem s61 (r : Fin 4096) : @Eq EReal (val_main_v61 (F := Ideal) x0 (ix3 0 r 0)) (rs (A.zv r.val) : EReal) := by
  pointwise [val_main_v61]
  rw [s60 hf]
  exact rsqrt_pos (va_pos _)
theorem s64 (r : Fin 4096) : @Eq EReal (val_main_v64 (F := Ideal) x0 (ix3 0 r 0)) ((-(1 / 2) * (rs (A.zv r.val) * (1 / va (A.zv r.val))) : ℝ) : EReal) := by
  pointwise [val_main_v64, val_main_v63, val_main_cst_20, val_main_v62]
  rw [s61 hf, s60 hf, w_nhalf, Ideal.div_coe (va_pos _).ne', ← EReal.coe_mul, ← EReal.coe_mul]
theorem s66 (r : Fin 4096) (j : Fin 1024) : @Eq EReal (val_main_v66 (F := Ideal) x0 (ix3 0 r j)) (nrm (A.zv r.val) j : EReal) := by
  pointwise [val_main_v66, val_main_v65]
  rw [s53 hf, s61 hf, ← EReal.coe_mul]
  rfl
theorem s72 (r : Fin 4096) (j : Fin 1024) : @Eq EReal (val_main_v72 (F := Ideal) x0 x1 x2 (ix3 0 r j)) (v A r.val j : EReal) := by
  pointwise [val_main_v72, val_main_v71, val_main_v70, val_main_v47, val_main_v69, val_main_v68, val_main_v67, val_main_v46]
  rw [s66 hf, hf.g, hf.b, ← EReal.coe_mul, ← EReal.coe_add]
  rfl

/-! ## The mixture -/

theorem s73 (n : Fin 32) (p : Fin 128) (h : Fin 8) (d : Fin 128) : @Eq EReal (val_main_v73 (F := Ideal) x0 x1 x2 (ix5 0 n p h d)) (v A (128 * n.val + p.val) (col h d) : EReal) := by
  refine Eq.trans ?_ (s72 hf (cr n p) (col h d))
  pointwise [val_main_v73]
  rw [place]
theorem s83 (n : Fin 32) (p : Fin 128) (h : Fin 8) (d : Fin 128) : @Eq EReal (val_main_v83 (F := Ideal) x0 (ix5 0 n p h d)) (gelu (A.zu (128 * n.val + p.val) (col h d)) : EReal) := by
  refine Eq.trans ?_ (s23 hf (cr n p) (col h d))
  pointwise [val_main_v83]
  rw [place]
theorem s86 (n : Fin 32) (p : Fin 128) (h : Fin 8) (d : Fin 128) : @Eq EReal (val_main_v86 (F := Ideal) x5 (ix5 0 n p h d)) (A.D (128 * n.val + p.val) (col h d) : EReal) := by
  refine Eq.trans ?_ (hf.D (cr n p) (col h d))
  pointwise [val_main_v86]
  rw [place]
theorem s87 (n : Fin 32) (p : Fin 128) (h : Fin 8) (d : Fin 128) : @Eq EReal (val_main_v87 (F := Ideal) x0 x5 (ix5 0 n p h d)) (du A (128 * n.val + p.val) (col h d) : EReal) := by
  pointwise [val_main_v87]
  rw [s83 hf, s86 hf, ← EReal.coe_mul, mul_comm]
  rfl
omit hf in
theorem mask_at (h : Fin 8) (t s : Fin 128) : (val_main_v75_1 (F := Ideal) (ix3 h t s) : BitVec 1) = if s ≤ t then 1#1 else 0#1 := by
  pointwise [val_main_v75_1, val_main_call0_v4, val_main_call0_v3, val_main_call0_v2, val_main_call0_v1, val_main_call0_v0, val_main_call0_c]
  rw [show IntOp.addi (BitVec.ofNat 32 t.val) 0#32 = BitVec.ofNat 32 t.val from BitVec.add_zero _]
  exact Cert.GmlpKIdeal.Value.sge_word _ _ t.isLt s.isLt
theorem s75 (h : Fin 8) (t s : Fin 128) : @Eq EReal (val_main_v75_0 (F := Ideal) x3 (ix3 h t s)) (wm A h t s : EReal) := by
  pointwise [val_main_v75_0, val_main_v74, val_main_call0_v6, val_main_call0_cst]
  rw [mask_at, hf.w]
  unfold wm
  by_cases h : s ≤ t <;> simp [Scalar.select, h]
theorem s76 (h : Fin 8) (n : Fin 32) (d t : Fin 128) : @Eq EReal (val_main_v76 (F := Ideal) x0 x1 x2 x3 (ix5 h 0 n d t))
    ((∑ s : Fin 128, wm A h t s * v A (128 * n.val + s.val) (col h d) : ℝ) : EReal) := by
  pointwise [val_main_v76]
  simp only [s73 hf, s75 hf, ← EReal.coe_mul]
  rw [coe_sum]
  exact congrArg _ (Finset.sum_congr rfl fun s _ => mul_comm _ _)
theorem s82 (n : Fin 32) (p : Fin 128) (h : Fin 8) (d : Fin 128) : @Eq EReal (val_main_v82 (F := Ideal) x0 x1 x2 x3 x4 (ix5 0 n p h d)) (mix A (128 * n.val + p.val) (col h d) : EReal) := by
  pointwise [val_main_v82, val_main_v81, val_main_v80, val_main_v79, val_main_v78, val_main_v77]
  rw [s76 hf, hf.bs, ← EReal.coe_add]
  unfold mix
  rw [show (128 * n.val + p.val) / 128 * 128 = 128 * n.val by omega, show pl (128 * n.val + p.val) = p from Fin.ext (by simp only [pl]; omega), hd_col]

/-! ## The gradients of the mixture's arguments -/

omit hf in
theorem row_back (r : ℕ) : 128 * (r / 128) + r % 128 = r := Nat.div_add_mod r 128
omit hf in
theorem col_back (j : Fin 1024) (h1 : j.val / 128 < 8) (h2 : j.val % 128 < 128) : col ⟨j.val / 128, h1⟩ ⟨j.val % 128, h2⟩ = j :=
  Fin.ext (Nat.div_add_mod j.val 128)

theorem s89 (r : Fin 4096) (j : Fin 1024) : @Eq EReal (val_main_v89 (F := Ideal) x0 x1 x2 x3 x4 x5 (ix3 0 r j)) ((A.D r.val j * mix A r.val j : ℝ) : EReal) := by
  pointwise [val_main_v89, val_main_v88]
  rw [s86 hf, s82 hf, ← EReal.coe_mul, col_back, row_back]

omit hf in
/-- A sum over the chunks and a head's columns. -/
theorem red_chunks (h : (⟨5, ![1, 32, 128, 8, 128]⟩ : Shape).ReducesTo [1, 4] ⟨3, ![1, 128, 8]⟩)
    (f : (⟨5, ![1, 32, 128, 8, 128]⟩ : Shape).Idx → EReal) (init : EReal) (p : Fin 128) (q : Fin 8) :
    Ideal.hostReduceAdd h f init (ix3 0 p q) = init + ∑ n : Fin 32, ∑ d : Fin 128, f (ix5 0 n p q d) := by
  unfold Ideal.hostReduceAdd
  refine congrArg (init + ·) ?_
  refine (Finset.sum_filter_eq_sum_of_fiber _ (fun k : Fin 32 × Fin 128 => (ix5 (0 : Fin 1) k.1 p q k.2 : (⟨5, ![1, 32, 128, 8, 128]⟩ : Shape).Idx))
    (fun _ _ e => Prod.ext (congrFun e 1) (congrFun e 4)) (fun i => ⟨fun e => ⟨(i 1, i 4), ?_⟩, ?_⟩) f).trans (Fintype.sum_prod_type _)
  · funext a; apply Fin.ext
    match a with
    | ⟨0, _⟩ => exact (Nat.lt_one_iff.mp (i 0).isLt).symm
    | ⟨1, _⟩ => rfl
    | ⟨2, _⟩ => exact (congrArg Fin.val (congrFun e 1)).symm
    | ⟨3, _⟩ => exact (congrArg Fin.val (congrFun e 2)).symm
    | ⟨4, _⟩ => rfl
  · rintro ⟨k, rfl⟩
    funext b; apply Fin.ext
    match b with
    | ⟨0, _⟩ => rfl
    | ⟨1, _⟩ => rfl
    | ⟨2, _⟩ => rfl

omit hf in
/-- A sum over axes of length one on both sides of the kept axes. -/
theorem red_units (h : (⟨5, ![1, 1, 128, 8, 1]⟩ : Shape).ReducesTo [0, 1, 4] ⟨2, ![128, 8]⟩)
    (f : (⟨5, ![1, 1, 128, 8, 1]⟩ : Shape).Idx → EReal) (init : EReal) (p : Fin 128) (q : Fin 8) :
    Ideal.hostReduceAdd h f init (ix2 p q) = init + f (ix5 0 0 p q 0) := by
  unfold Ideal.hostReduceAdd
  refine congrArg (init + ·) ?_
  refine (Finset.sum_filter_eq_sum_of_fiber _ (fun _ : Fin 1 => (ix5 (0 : Fin 1) (0 : Fin 1) p q (0 : Fin 1) : (⟨5, ![1, 1, 128, 8, 1]⟩ : Shape).Idx))
    (fun _ _ _ => Subsingleton.elim _ _) (fun i => ⟨fun e => ⟨0, ?_⟩, ?_⟩) f).trans (Fin.sum_univ_one _)
  · funext a; apply Fin.ext
    match a with
    | ⟨0, _⟩ => exact (Nat.lt_one_iff.mp (i 0).isLt).symm
    | ⟨1, _⟩ => exact (Nat.lt_one_iff.mp (i 1).isLt).symm
    | ⟨2, _⟩ => exact (congrArg Fin.val (congrFun e 0)).symm
    | ⟨3, _⟩ => exact (congrArg Fin.val (congrFun e 1)).symm
    | ⟨4, _⟩ => exact (Nat.lt_one_iff.mp (i 4).isLt).symm
  · rintro ⟨k, rfl⟩
    funext b; apply Fin.ext
    match b with
    | ⟨0, _⟩ => rfl
    | ⟨1, _⟩ => rfl

theorem s90 (p : Fin 128) (h : Fin 8) : @Eq EReal (val_main_v90 (F := Ideal) x0 x5 (ix3 0 p h)) (dbs A h p : EReal) := by
  unfold val_main_v90
  refine (red_chunks _ _ _ p h).trans ?_
  simp only [s87 hf]
  rw [show @Eq EReal (val_main_cst_21 (F := Ideal) _) 0 by pointwise [val_main_cst_21], zero_add]
  simp only [coe_sum]
  rfl
theorem s166 (h : Fin 8) (p : Fin 128) : @Eq EReal (val_main_v166 (F := Ideal) x0 x5 (ix3 h p 0)) (dbs A h p : EReal) := by
  have e : @Eq EReal (val_main_v92 (F := Ideal) x0 x5 (ix2 p h)) (dbs A h p : EReal) := by
    unfold val_main_v92
    refine (red_units _ _ _ p h).trans ?_
    rw [show @Eq EReal (val_main_cst_22 (F := Ideal) _) 0 by pointwise [val_main_cst_22], zero_add]
    refine Eq.trans ?_ (s90 hf p h)
    pointwise [val_main_v91]
  refine Eq.trans ?_ e
  pointwise [val_main_v166, val_main_v94, val_main_v93]

theorem s95 (h : Fin 8) (n : Fin 32) (d t : Fin 128) : @Eq EReal (val_main_v95 (F := Ideal) x0 x5 (ix5 h 0 n d t)) (du A (128 * n.val + t.val) (col h d) : EReal) := by
  refine Eq.trans ?_ (s87 hf n t h d)
  pointwise [val_main_v95]

section Contraction

omit hf in
theorem lhs_at (j : S8x128x128.Idx) (q : dot_S8x1x32x128x128_S1x32x128x8x128_S8x128x128_123_014_4_2_0_3.contr.Idx) (n : Fin 32) (d : Fin 128)
    (hn : (q ⟨1, by decide⟩).val = n.val) (hd : (q ⟨2, by decide⟩).val = d.val) :
    dot_S8x1x32x128x128_S1x32x128x8x128_S8x128x128_123_014_4_2_0_3.lhsIdx j q = ix5 (j 0) 0 n d (j 1) := by
  funext a; apply Fin.ext
  match a with
  | ⟨0, _⟩ => rfl
  | ⟨1, _⟩ => exact Nat.lt_one_iff.mp (Fin.isLt _)
  | ⟨2, _⟩ => exact hn
  | ⟨3, _⟩ => exact hd
  | ⟨4, _⟩ => rfl
omit hf in
theorem rhs_at (j : S8x128x128.Idx) (q : dot_S8x1x32x128x128_S1x32x128x8x128_S8x128x128_123_014_4_2_0_3.contr.Idx) (n : Fin 32) (d : Fin 128)
    (hn : (q ⟨1, by decide⟩).val = n.val) (hd : (q ⟨2, by decide⟩).val = d.val) :
    dot_S8x1x32x128x128_S1x32x128x8x128_S8x128x128_123_014_4_2_0_3.rhsIdx j q = ix5 0 n (j 2) (j 0) d := by
  funext a; apply Fin.ext
  match a with
  | ⟨0, _⟩ => exact Nat.lt_one_iff.mp (Fin.isLt _)
  | ⟨1, _⟩ => exact hn
  | ⟨2, _⟩ => rfl
  | ⟨3, _⟩ => rfl
  | ⟨4, _⟩ => exact hd

/-- A chunk and a column as an index of the product's summed axes. -/
def tri (k : Fin 32 × Fin 128) : dot_S8x1x32x128x128_S1x32x128x8x128_S8x128x128_123_014_4_2_0_3.contr.Idx
  | ⟨0, _⟩ => (0 : Fin 1)
  | ⟨1, _⟩ => k.1
  | ⟨2, _⟩ => k.2
omit hf in
theorem tri_bij : Function.Bijective tri := by
  constructor
  · intro a b e
    exact Prod.ext (Fin.ext (congrArg Fin.val (congrFun e ⟨1, by decide⟩))) (Fin.ext (congrArg Fin.val (congrFun e ⟨2, by decide⟩)))
  · intro q
    refine ⟨(q ⟨1, by decide⟩, q ⟨2, by decide⟩), funext fun a => ?_⟩
    match a with
    | ⟨0, _⟩ => exact Fin.ext (Nat.lt_one_iff.mp (Fin.isLt (q ⟨0, by decide⟩))).symm
    | ⟨1, _⟩ => rfl
    | ⟨2, _⟩ => rfl

theorem s96 (h : Fin 8) (t s : Fin 128) : @Eq EReal (val_main_v96 (F := Ideal) x0 x1 x2 x5 (ix3 h t s)) ((∑ n : Fin 32, dwC A n.val h t s : ℝ) : EReal) := by
  unfold val_main_v96
  simp only [Host.dotGeneral]
  rw [Ideal.dotGeneral_apply, ← Equiv.sum_comp (Equiv.ofBijective tri tri_bij), Fintype.sum_prod_type]
  rw [← coe_sum]
  refine Finset.sum_congr rfl fun n _ => ?_
  unfold dwC
  rw [← coe_sum]
  refine Finset.sum_congr rfl fun d _ => ?_
  rw [lhs_at (ix3 h t s) _ n d rfl rfl, rhs_at (ix3 h t s) _ n d rfl rfl]
  rw [EReal.coe_mul]
  exact Cert.Rms.mul_congr (s95 hf h n d t) (s73 hf n s h d)

end Contraction

theorem s165 (h : Fin 8) (t s : Fin 128) : @Eq EReal (val_main_v165 (F := Ideal) x0 x1 x2 x5 (ix3 h t s)) (dw A h t s : EReal) := by
  pointwise [val_main_v165, val_main_v100, val_main_v99, val_main_call1_v0, val_main_call1_cst]
  rw [mask_at, s96 hf]
  unfold dw
  by_cases h : s ≤ t <;> simp [Scalar.select, h]
theorem s97 (h : Fin 8) (n : Fin 32) (d s : Fin 128) : @Eq EReal (val_main_v97 (F := Ideal) x0 x3 x5 (ix5 h 0 n d s))
    ((∑ t : Fin 128, wm A h t s * du A (128 * n.val + t.val) (col h d) : ℝ) : EReal) := by
  pointwise [val_main_v97]
  simp only [s95 hf, s75 hf, ← EReal.coe_mul]
  rw [coe_sum]
  exact congrArg _ (Finset.sum_congr rfl fun s _ => mul_comm _ _)
theorem s101 (r : Fin 4096) (j : Fin 1024) : @Eq EReal (val_main_v101 (F := Ideal) x0 x3 x5 (ix3 0 r j)) (dv A r.val j : EReal) := by
  pointwise [val_main_v101, val_main_v98]
  rw [s97 hf, col_back]
  unfold dv
  refine congrArg _ (Finset.sum_congr rfl fun t _ => ?_)
  rw [show r.val / 128 * 128 = 128 * (r.val / 128) from Nat.mul_comm _ _]
  rfl

/-! ## The gradients of the norm's arguments -/

theorem s104 (j : Fin 1024) : @Eq EReal (val_main_v104 (F := Ideal) x0 x3 x5 (ix1 j)) (dlb A j : EReal) := by
  unfold val_main_v104
  refine (Cert.Rms.red_col _ _ _ j).trans ?_
  rw [show @Eq EReal (val_main_cst_24 (F := Ideal) _) 0 by pointwise [val_main_cst_24], zero_add]
  pointwise [val_main_v103, val_main_v102, val_main_cst_23]
  simp only [s101 hf]
  rw [coe_sum]
  rfl
theorem s110 (j : Fin 1024) : @Eq EReal (val_main_v110 (F := Ideal) x0 x3 x5 (ix1 j)) (dlg A j : EReal) := by
  unfold val_main_v110
  refine (Cert.Rms.red_col _ _ _ j).trans ?_
  rw [show @Eq EReal (val_main_cst_26 (F := Ideal) _) 0 by pointwise [val_main_cst_26], zero_add]
  pointwise [val_main_v107, val_main_v106, val_main_cst_25, val_main_v105]
  simp only [s101 hf, s66 hf, ← EReal.coe_mul]
  rw [coe_sum]
  exact congrArg _ (Finset.sum_congr rfl fun r _ => mul_comm _ _)
theorem s135 (j : Fin 1024) : @Eq EReal (val_main_v135 (F := Ideal) x0 x3 x5 (ix2 0 j)) (dlb A j : EReal) := by
  refine Eq.trans ?_ (s104 hf j)
  pointwise [val_main_v135]
theorem s136 (j : Fin 1024) : @Eq EReal (val_main_v136 (F := Ideal) x0 x3 x5 (ix2 0 j)) (dlg A j : EReal) := by
  refine Eq.trans ?_ (s110 hf j)
  pointwise [val_main_v136]

/-- The cotangent of a normalised row. -/
abbrev ct (A : Args) (r : ℕ) (j : Fin 1024) : ℝ := dv A r j * A.g j

theorem s109 (r : Fin 4096) (j : Fin 1024) : @Eq EReal (val_main_v109 (F := Ideal) x0 x1 x3 x5 (ix3 0 r j)) (ct A r.val j : EReal) := by
  pointwise [val_main_v109, val_main_v108, val_main_v67, val_main_v46]
  rw [s101 hf, hf.g, ← EReal.coe_mul]
theorem s119 (r : Fin 4096) : @Eq EReal (val_main_v119 (F := Ideal) x0 x1 x3 x5 (ix1 r)) (cv (A.zv r.val) (ct A r.val) : EReal) := by
  unfold val_main_v119
  refine (Cert.Rms.red_row _ _ _ r).trans ?_
  rw [show @Eq EReal (val_main_cst_29 (F := Ideal) _) 0 by pointwise [val_main_cst_29], zero_add]
  pointwise [val_main_v118, val_main_v117, val_main_cst_28, val_main_v116, val_main_v113, val_main_v112, val_main_cst_27, val_main_v111]
  simp only [s109 hf, s53 hf, ← EReal.coe_mul]
  rw [coe_sum, s64 hf, ← EReal.coe_mul, div_n]
  rfl
theorem s125 (r : Fin 4096) (j : Fin 1024) : @Eq EReal (val_main_v125 (F := Ideal) x0 x1 x3 x5 (ix3 0 r j)) (db (A.zv r.val) (ct A r.val) j : EReal) := by
  pointwise [val_main_v125, val_main_v124, val_main_v123, val_main_v122, val_main_v121, val_main_v120, val_main_v115, val_main_v114]
  rw [s119 hf, s53 hf, s109 hf, s61 hf]
  simp only [← EReal.coe_mul, ← EReal.coe_add]
  rfl
theorem s134 (r : Fin 4096) (j : Fin 1024) : @Eq EReal (val_main_v134 (F := Ideal) x0 x1 x3 x5 (ix3 0 r j)) (dn (A.zv r.val) (ct A r.val) j : EReal) := by
  have e : @Eq EReal (val_main_v131 (F := Ideal) x0 x1 x3 x5 (ix1 r)) (((∑ k, -db (A.zv r.val) (ct A r.val) k) * (1 / 1024) : ℝ) : EReal) := by
    unfold val_main_v131
    refine (Cert.Rms.red_row _ _ _ r).trans ?_
    rw [show @Eq EReal (val_main_cst_32 (F := Ideal) _) 0 by pointwise [val_main_cst_32], zero_add]
    pointwise [val_main_v130, val_main_v129, val_main_cst_31, val_main_v128, val_main_v127, val_main_cst_30, val_main_v126]
    simp only [s125 hf, ← EReal.coe_neg]
    rw [coe_sum, div_n]
  pointwise [val_main_v134, val_main_v133, val_main_v132]
  rw [e, s125 hf, ← EReal.coe_add, dn_eq]

/-! ## The gradients of the gelus -/

omit hf in
/-- The gelu's gradient by differentiation. -/
theorem gg_eq (c x : ℝ) : c * (1 / 2 * (1 + th x)) + kc * (1 / 2 * (x * c) * ((1 + th x) * (1 - th x))) + k1 * (kc * (1 / 2 * (x * c) * ((1 + th x) * (1 - th x)))) * (3 * (x * x)) = c * gg x := by
  unfold gg
  ring

theorem s148 (r : Fin 4096) (j : Fin 1024) : @Eq EReal (val_main_v148 (F := Ideal) x0 x1 x3 x5 (ix3 0 r j)) (dzv A r.val j : EReal) := by
  pointwise [val_main_v148, val_main_v147, val_main_v146, val_main_v145, val_main_v144, val_main_v143, val_main_v142, val_main_cst_34, val_main_v141, val_main_v140, val_main_v139, val_main_cst_33, val_main_v138, val_main_v137]
  rw [s134 hf, s1 hf, s44 hf, s40 hf, s29 hf, k_v, w_half, w_kc]
  simp only [← EReal.coe_mul, ← EReal.coe_add]
  exact congrArg _ (gg_eq _ _)
theorem s160 (r : Fin 4096) (j : Fin 1024) : @Eq EReal (val_main_v160 (F := Ideal) x0 x1 x2 x3 x4 x5 (ix3 0 r j)) (dzu A r.val j : EReal) := by
  pointwise [val_main_v160, val_main_v159, val_main_v158, val_main_v157, val_main_v156, val_main_v155, val_main_v154, val_main_cst_36, val_main_v153, val_main_v152, val_main_v151, val_main_cst_35, val_main_v150, val_main_v149]
  rw [s89 hf, s0 hf, s22 hf, s18 hf, s7 hf, k_u, w_half, w_kc]
  simp only [← EReal.coe_mul, ← EReal.coe_add]
  exact congrArg _ (gg_eq _ _)
theorem s162 (r : Fin 4096) (j : Fin 1024) : @Eq EReal (val_main_v162 (F := Ideal) x0 x1 x2 x3 x4 x5 (ix2 r j)) (dzu A r.val j : EReal) := by
  refine Eq.trans ?_ (s160 hf r j)
  pointwise [val_main_v162, val_main_v161]
theorem s164 (r : Fin 4096) (j : Fin 1024) : @Eq EReal (val_main_v164 (F := Ideal) x0 x1 x3 x5 (ix2 r j)) (dzv A r.val j : EReal) := by
  refine Eq.trans ?_ (s148 hf r j)
  pointwise [val_main_v164, val_main_v163]

end Cert.GmlpRIdeal.Value
-- ==== Proof.Gmlp.lean ====
/- The gradients of the spatial gating unit: `GmlpKIdeal` and `GmlpRIdeal` compute the same arrays. The kernel walks over
   chunks of 128 positions, computes the unit's forward values again and writes each derivative out; the reference
   differentiates the unit's lines. From finite arguments both leave the same real numbers. -/
module

public import proofs.«01_k».proof.Defs
public import proofs.«01_k».proof.Proof.GmlpRun
public import proofs.«01_k».proof.Proof.GmlpRef
public import proofs.«01_k».proof.Proof.Gate
public import proofs.«01_k».proof.Proof.Gen.Pre_gmlp_finite
public import Idealize.ShloMosaic.Lib.ReduceAll
public import Idealize.ShloMosaic.Lib.Claim

@[expose] public section

set_option maxRecDepth 16384

noncomputable section

namespace Cert.GmlpAlg

open Idealize.ShloMosaic Idealize.ShloMosaic.TcCoe Idealize.SL.Sem
open Cert.GmlpMath

section Arrays

variable {z : FVec Ideal ⟨3, ![1, 4096, 5128]⟩ .f32} {g b : FVec Ideal ⟨2, ![1, 1024]⟩ .f32} {w : FVec Ideal ⟨4, ![1, 8, 128, 128]⟩ .f32}
  {bs : FVec Ideal ⟨3, ![1, 8, 128]⟩ .f32} {D : FVec Ideal ⟨3, ![1, 4096, 1024]⟩ .f32}

/-- The precondition: the unit's two halves, its norm's gain and offset, its mixing weights and offsets and the cotangent are finite. -/
theorem finite_of_pre (h : Cert.Pre_gmlp_finite.fn (F := Ideal) z g b w bs D = fun _ => 1#1) : Finite z g b w bs D := by
  have h0 := congrFun h ix0
  dsimp only [Cert.Pre_gmlp_finite.fn, Cert.Pre_gmlp_finite.fn_part1] at h0
  obtain ⟨h1, hD⟩ := IntOp.andi_eq_one.mp h0
  obtain ⟨h2, hbs⟩ := IntOp.andi_eq_one.mp h1
  obtain ⟨h3, hw⟩ := IntOp.andi_eq_one.mp h2
  obtain ⟨h4, hb⟩ := IntOp.andi_eq_one.mp h3
  obtain ⟨hz, hg⟩ := IntOp.andi_eq_one.mp h4
  haveI : Subsingleton Cert.Pre_gmlp_finite.S_.Idx := ⟨fun a b => funext fun i => i.elim0⟩
  have qz := Host.reduce_andi_all _ _ _ _ _ hz
  have qg := Host.reduce_andi_all _ _ _ _ _ hg
  have qb := Host.reduce_andi_all _ _ _ _ _ hb
  have qw := Host.reduce_andi_all _ _ _ _ _ hw
  have qbs := Host.reduce_andi_all _ _ _ _ _ hbs
  have qD := Host.reduce_andi_all _ _ _ _ _ hD
  have half : ∀ (r : Fin 4096) (k : Fin 2048) (c : Fin 5128) (e : c.val = 3080 + k.val), z (ix3 0 r c) = ((EReal.toReal (z (ix3 0 r c)) : ℝ) : EReal) := by
    intro r k c e
    rw [show c = (⟨3080 + k.val, by omega⟩ : Fin 5128) from Fin.ext e]
    have := qz (ix3 0 r k)
    revert this
    pointwise
    exact Cert.GateAlg.real_of_abs_lt _
  refine { zu := fun r j => half r ⟨j.val, by omega⟩ _ rfl, zv := fun r j => half r ⟨1024 + j.val, by omega⟩ _ (by show 4104 + j.val = 3080 + (1024 + j.val); omega), D := fun r j => ?_, g := fun j => ?_, b := fun j => ?_, w := fun h t s => ?_, bs := fun h t => ?_ }
  · have := qD (ix3 0 r j)
    revert this
    pointwise
    exact Cert.GateAlg.real_of_abs_lt _
  · have := qg (ix2 0 j)
    revert this
    pointwise
    exact Cert.GateAlg.real_of_abs_lt _
  · have := qb (ix2 0 j)
    revert this
    pointwise
    exact Cert.GateAlg.real_of_abs_lt _
  · have := qw (ix4 0 h t s)
    revert this
    pointwise
    exact Cert.GateAlg.real_of_abs_lt _
  · have := qbs (ix3 0 h t)
    revert this
    pointwise
    exact Cert.GateAlg.real_of_abs_lt _

variable {z' : FVec Ideal ⟨3, ![1, 4096, 5128]⟩ .f32} {g' b' : FVec Ideal ⟨2, ![1, 1024]⟩ .f32} {w' : FVec Ideal ⟨4, ![1, 8, 128, 128]⟩ .f32}
  {bs' : FVec Ideal ⟨3, ![1, 8, 128]⟩ .f32} {D' : FVec Ideal ⟨3, ![1, 4096, 1024]⟩ .f32}
  (he : z' = z ∧ g' = g ∧ b' = b ∧ w' = w ∧ bs' = bs ∧ D' = D) (hf : Finite z g b w bs D)
include he hf

omit he in
/-- What the reference reads of finite arrays. -/
theorem reads : Cert.GmlpRIdeal.Value.Reads (args z g b w bs D) z g b w bs D :=
  { zu := hf.eq_zu, zv := hf.eq_zv, g := hf.eq_g, b := hf.eq_b, w := hf.eq_w, bs := hf.eq_bs, D := hf.eq_D }

/-- The reference's gradients as arrays. -/
theorem ref_u : Cert.GmlpRIdeal.Read.val_main_v162 (F := Ideal) z' g' b' w' bs' D' = Cert.GmlpKIdeal.Value.outU (args z g b w bs D) := by
  obtain ⟨rfl, rfl, rfl, rfl, rfl, rfl⟩ := he
  funext j
  idx_vars j
  exact Cert.GmlpRIdeal.Value.s162 (reads hf) _ _
theorem ref_v : Cert.GmlpRIdeal.Read.val_main_v164 (F := Ideal) z' g' w' D' = Cert.GmlpKIdeal.Value.outV (args z g b w bs D) := by
  obtain ⟨rfl, rfl, rfl, rfl, rfl, rfl⟩ := he
  funext j
  idx_vars j
  exact Cert.GmlpRIdeal.Value.s164 (reads hf) _ _
theorem ref_w : Cert.GmlpRIdeal.Read.val_main_v165 (F := Ideal) z' g' b' D' = fun j => ((dw (args z g b w bs D) (j 0) (j 1) (j 2) : ℝ) : EReal) := by
  obtain ⟨rfl, rfl, rfl, rfl, rfl, rfl⟩ := he
  funext j
  idx_vars j
  exact Cert.GmlpRIdeal.Value.s165 (reads hf) _ _ _
theorem ref_bs : Cert.GmlpRIdeal.Read.val_main_v166 (F := Ideal) z' D' = fun j => ((dbs (args z g b w bs D) (j 0) (j 1) : ℝ) : EReal) := by
  obtain ⟨rfl, rfl, rfl, rfl, rfl, rfl⟩ := he
  funext j
  idx_vars j
  obtain rfl := Fin.fin_one_eq_zero j2
  exact Cert.GmlpRIdeal.Value.s166 (reads hf) _ _
theorem ref_g : Cert.GmlpRIdeal.Read.val_main_v136 (F := Ideal) z' w' D' = fun j => ((dlg (args z g b w bs D) (j 1) : ℝ) : EReal) := by
  obtain ⟨rfl, rfl, rfl, rfl, rfl, rfl⟩ := he
  funext j
  idx_vars j
  obtain rfl := Fin.fin_one_eq_zero j0
  exact Cert.GmlpRIdeal.Value.s136 (reads hf) _
theorem ref_b : Cert.GmlpRIdeal.Read.val_main_v135 (F := Ideal) z' w' D' = fun j => ((dlb (args z g b w bs D) (j 1) : ℝ) : EReal) := by
  obtain ⟨rfl, rfl, rfl, rfl, rfl, rfl⟩ := he
  funext j
  idx_vars j
  obtain rfl := Fin.fin_one_eq_zero j0
  exact Cert.GmlpRIdeal.Value.s135 (reads hf) _

end Arrays

/-- The two named constants: the activation's coefficient and three times it, as exact decimals. -/
theorem preserves : Cert.preserves_GmlpK_GmlpKIdeal :=
  ⟨IdealRules.named_const.statement Cert.GmlpKIdeal.κ "gelu1" .f32 0x3D372713#32 ((8943 / 200000 : ℝ) : EReal) rfl,
   IdealRules.named_const.statement Cert.GmlpKIdeal.κ "gelu3" .f32 0x3E095D4F#32 ((3 * (8943 / 200000) : ℝ) : EReal) rfl⟩

/-- From finite arguments the two programs leave the same gradients of the unit's two halves, of its mixing weights and
    offsets and of its norm's gain and offset. -/
theorem algebraic [Cert.Pre_gmlp_finite.Facts] : Cert.algebraic_GmlpKIdeal_GmlpRIdeal_pre_gmlp_finite := by
  pair_intro
  have hf : ∀ c, Cert.GmlpKIdeal.Value.HF m c := fun c => finite_of_pre (hpre c)
  run_from Cert.GmlpKIdeal.Value.run_blocks m g
  run_from Cert.GmlpRIdeal.Value.run m' g'
  · refine Eq.trans ?_ (Cert.GmlpKIdeal.Value.fin_8 m c (finite_of_pre (hpre c))).symm
    rw [Cert.GmlpRIdeal.Read.val_main_v162_eq]
    exact ref_u (hagree c) (finite_of_pre (hpre c))
  · refine Eq.trans ?_ (Cert.GmlpKIdeal.Value.fin_9 m c (finite_of_pre (hpre c))).symm
    rw [Cert.GmlpRIdeal.Read.val_main_v164_eq]
    exact ref_v (hagree c) (finite_of_pre (hpre c))
  · refine Eq.trans ?_ (Cert.GmlpKIdeal.Value.fin_10 m c (finite_of_pre (hpre c))).symm
    rw [Cert.GmlpRIdeal.Read.val_main_v165_eq]
    exact ref_w (hagree c) (finite_of_pre (hpre c))
  · refine Eq.trans ?_ (Cert.GmlpKIdeal.Value.fin_11 m c (finite_of_pre (hpre c))).symm
    rw [Cert.GmlpRIdeal.Read.val_main_v166_eq]
    exact ref_bs (hagree c) (finite_of_pre (hpre c))
  · refine Eq.trans ?_ (Cert.GmlpKIdeal.Value.fin_12 m c (finite_of_pre (hpre c))).symm
    rw [Cert.GmlpRIdeal.Read.val_main_v136_eq]
    exact ref_g (hagree c) (finite_of_pre (hpre c))
  · refine Eq.trans ?_ (Cert.GmlpKIdeal.Value.fin_13 m c (finite_of_pre (hpre c))).symm
    rw [Cert.GmlpRIdeal.Read.val_main_v135_eq]
    exact ref_b (hagree c) (finite_of_pre (hpre c))

end Cert.GmlpAlg

end
-- ==== Proof.OutProj.lean ====
/- The output projection of the forward pass: `OutProjKIdeal` and `OutProjRIdeal` compute the same two arrays, the
   residual plus the product by the weights, and its norm. The kernel does so block of rows by block of rows. -/
module

public import proofs.«01_k».proof.Defs
public import proofs.«01_k».proof.Proof.RmsMath
public import proofs.«01_k».proof.Proof.Gen.OutProjKIdeal.Value
public import proofs.«01_k».proof.Proof.Gen.OutProjRIdeal.Read
public import Idealize.ShloMosaic.Lib.Pipeline.ValueKit
public import Idealize.ShloMosaic.Lib.Claim

@[expose] public section

set_option maxRecDepth 16384

noncomputable section

namespace Cert.OutProjKIdeal.Value

open Cert.OutProjKIdeal Cert.OutProjKIdeal.Gen Idealize.ShloMosaic Idealize.ShloMosaic.TcCoe Idealize.SL.Sem
open Idealize.ShloMosaic.Pipeline (Dat)

/-- The row length as both programs divide by it. -/
abbrev N : EReal := Ideal.ofBits .f32 0x45000000#32

/-- The residual plus the product, at a row and a column. -/
abbrev xv (a : FVec Ideal S1x4096x2048 .f32) (w : FVec Ideal S1x2048x2048 .f32) (x : FVec Ideal S1x4096x2048 .f32)
    (i : Fin 4096) (k : Fin 2048) : EReal :=
  (∑ l : Fin 2048, a (ix3 0 i l) * w (ix3 0 l k)) + x (ix3 0 i k)

/-- The block's activations after the projection. -/
def Gx (a : FVec Ideal S1x4096x2048 .f32) (w : FVec Ideal S1x2048x2048 .f32) (x : FVec Ideal S1x4096x2048 .f32) :
    FVec Ideal S4096x2048 .f32 := fun j => xv a w x (j 0) (j 1)

/-- Their norm. -/
def Gh (a : FVec Ideal S1x4096x2048 .f32) (w : FVec Ideal S1x2048x2048 .f32) (x : FVec Ideal S1x4096x2048 .f32)
    (g : FVec Ideal S1x2048 .f32) : FVec Ideal S4096x2048 .bf16 := fun j =>
  xv a w x (j 0) (j 1) * Rms.rstd N (fun k => xv a w x (j 0) k) * g (ix2 0 (j 1))

variable (m : (ℓ : Loc nD τ sig) → Buf (Elt Ideal) ℓ)

/-- The block index of every window at every grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ t.val < 8 :=
  (by decide +kernel : ∀ t : Fin grid0.N, _)

section Payloads

variable (a : Vec Ideal S512x2048 .bf16) (w : Vec Ideal S2048x2048 .bf16) (x : Vec Ideal S512x2048 .f32)
  (g : Vec Ideal S1x2048 .f32)

/-- The stored activations. -/
theorem pay_x (j : S512x2048.Idx) : k0_pay1 a w x j = (∑ l : Fin 2048, a (ix2 (j 0) l) * w (ix2 l (j 1))) + x j := by
  idx_vars j
  pointwise [k0_pay1]

/-- The stored norm. -/
theorem pay_h (j : S512x2048.Idx) : k0_pay2 a w x g j
    = k0_pay1 a w x j * Rms.rstd N (fun k => k0_pay1 a w x (ix2 (j 0) k)) * g (ix2 0 (j 1)) := by
  idx_vars j
  pointwise [k0_pay2, Rms.rstd, Rms.ms]

end Payloads

theorem row_lt (t : Fin cfg0.N) (i : Fin 512) : t.val * 512 + i.val < 4096 := by
  have hN : t.val < 8 := lt_of_lt_of_eq t.isLt N_0
  omega

/-- The array's row of a block's row. -/
abbrev row (t : Fin cfg0.N) (i : Fin 512) : Fin 4096 := ⟨t.val * 512 + i.val, row_lt t i⟩

section Blocks

variable (c : Dev nD) (t : Fin cfg0.N)

/-- The merged activations' block. -/
theorem rd_a (i : Fin 512) (l : Fin 2048) :
    @Eq EReal (iblk m c 0 t (ix2 i l)) (m ((c : Thread nD τ).loc main_arg0) (ix3 0 (row t i) l)) := by
  blk_point [iblk, V, idx t]

/-- The weights' block: all of them. -/
theorem rd_w (k l : Fin 2048) : @Eq EReal (iblk m c 1 t (ix2 k l)) (m ((c : Thread nD τ).loc main_arg1) (ix3 0 k l)) := by
  blk_point [iblk, V, idx t]

/-- The residual's block. -/
theorem rd_x (i : Fin 512) (k : Fin 2048) :
    @Eq EReal (iblk m c 2 t (ix2 i k)) (m ((c : Thread nD τ).loc main_arg2) (ix3 0 (row t i) k)) := by
  blk_point [iblk, V, idx t]

/-- The norm's scale. -/
theorem rd_g (k : Fin 2048) : @Eq EReal (iblk m c 3 t (ix2 0 k)) (m ((c : Thread nD τ).loc main_arg3) (ix2 0 k)) := by
  blk_point [iblk, V, idx t]

/-- The activations the block's row holds. -/
theorem x_row (i : Fin 512) (k : Fin 2048) : @Eq EReal (k0_pay1 (F := Ideal) (iblk m c 0 t) (iblk m c 1 t) (iblk m c 2 t) (ix2 i k))
    (xv (m ((c : Thread nD τ).loc main_arg0)) (m ((c : Thread nD τ).loc main_arg1)) (m ((c : Thread nD τ).loc main_arg2)) (row t i) k) := by
  refine (pay_x _ _ _ _).trans ?_
  exact congrArg₂ (fun a b : EReal => a + b)
    (Finset.sum_congr rfl fun l _ => Rms.mul_congr (rd_a m c t i l) (rd_w m c t l k)) (rd_x m c t i k)

end Blocks

/-- The activations after the run. -/
theorem final4 (c : Dev nD) : (dats m 0 c).arrAt 4 (cfgs 0).N = Gx (m ((c : Thread nD τ).loc main_arg0))
    (m ((c : Thread nD τ).loc main_arg1)) (m ((c : Thread nD τ).loc main_arg2)) := by
  refine (dats m 0 c).arrAt_eq_of_covers 4 _ (by decide +kernel) fun t _ y => ?_
  have h0 : ((cfg0.win 4).blk t).view.emb y 0 = row t (y 0) := Fin.ext (by blk_simp [idx t])
  have h1 : ((cfg0.win 4).blk t).view.emb y 1 = y 1 := Fin.ext (by blk_simp [idx t])
  blk_simp
  rw [after0_4]; frame_out
  unfold Gx
  rw [h0, h1]
  idx_vars y
  exact x_row m c t y0 y1

/-- The norm after the run. -/
theorem final5 (c : Dev nD) : (dats m 0 c).arrAt 5 (cfgs 0).N = Gh (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  have h0 : ((cfg0.win 5).blk t).view.emb y 0 = row t (y 0) := Fin.ext (by blk_simp [idx t])
  have h1 : ((cfg0.win 5).blk t).view.emb y 1 = y 1 := Fin.ext (by blk_simp [idx t])
  blk_simp
  rw [after0_5]; frame_out
  rw [pay_h]
  unfold Gh
  rw [h0, h1]
  idx_vars y
  exact Rms.mul_congr (Rms.mul_congr (x_row m c t y0 y1) (Rms.rstd_congr fun k => x_row m c t y0 k)) (rd_g m c t y1)

end Cert.OutProjKIdeal.Value

namespace Cert.OutProjRIdeal.Value

open Cert.OutProjRIdeal Cert.OutProjRIdeal.Gen Cert.OutProjRIdeal.Read Idealize.ShloMosaic Idealize.ShloMosaic.TcCoe Idealize.SL.Sem
open Cert.OutProjKIdeal.Value (N xv Gx Gh)

variable (a : FVec Ideal S1x4096x2048 .f32) (w : FVec Ideal S1x2048x2048 .f32) (x : FVec Ideal S1x4096x2048 .f32)
  (g : FVec Ideal S1x2048 .f32)

/-- The reference's sum of the residual and the product. -/
theorem ref_x (i : Fin 4096) (k : Fin 2048) : val_main_v2 (F := Ideal) a w x (ix3 0 i k) = xv a w x i k := by
  pointwise [val_main_v2, val_main_v1, val_main_v0]
  exact add_comm _ _

/-- The reference's activations are the kernel's. -/
theorem ref_3 : val_main_v3 (F := Ideal) a w x = Gx a w x := by
  funext j
  idx_vars j
  pointwise [val_main_v3]
  exact ref_x a w x j0 j1

/-- The reference's one over the root of the mean square. -/
theorem rstd_eq (i : Fin 4096) : val_main_v12 (F := Ideal) a w x (ix3 0 i 0) = Rms.rstd N fun k => xv a w x i k := by
  pointwise [val_main_v12, val_main_v11, val_main_v10, val_main_v9, val_main_v8, val_main_v7, val_main_v6, val_main_v5, val_main_cst, val_main_cst_0, val_main_cst_1, Rms.rstd, Rms.ms]
  simp only [ref_x]

/-- The reference's norm is the kernel's. -/
theorem ref_19 : val_main_v19 (F := Ideal) a w x g = Gh a w x g := by
  funext j
  idx_vars j
  pointwise [val_main_v19, val_main_v18, val_main_v17, val_main_v16, val_main_v15, val_main_v14, val_main_v13, val_main_v4]
  simp only [ref_x, rstd_eq]
  rfl

end Cert.OutProjRIdeal.Value

namespace Cert.OutProjAlg

open Idealize.ShloMosaic Idealize.ShloMosaic.TcCoe Idealize.SL.Sem

/-- Both programs leave the same two result arrays and their arguments as they found them. -/
theorem algebraic : Cert.algebraic_OutProjKIdeal_OutProjRIdeal := by
  pair_intro
  · run_from Cert.OutProjKIdeal.Gen.run_main m g
  · run_from Cert.OutProjRIdeal.Value.run m' g'
    · rw [Cert.OutProjKIdeal.Value.final4 m c, Cert.OutProjRIdeal.Read.val_main_v3_eq]
      exact Cert.OutProjRIdeal.Value.ref_3 _ _ _
    · rw [Cert.OutProjKIdeal.Value.final5 m c, Cert.OutProjRIdeal.Read.val_main_v19_eq]
      exact Cert.OutProjRIdeal.Value.ref_19 _ _ _ _

end Cert.OutProjAlg

end
-- ==== Proof.FfOne.lean ====
/- The first feed-forward product with its relu: `FfOneKIdeal` and `FfOneRIdeal` compute the same array. The kernel
   multiplies block of rows by block of columns, over the weight's eight stacked slabs. -/
module

public import proofs.«01_k».proof.Defs
public import proofs.«01_k».proof.Proof.RmsMath
public import proofs.«01_k».proof.Proof.Gen.FfOneKIdeal.Value
public import proofs.«01_k».proof.Proof.Gen.FfOneRIdeal.Read
public import Idealize.ShloMosaic.Lib.Pipeline.ValueKit
public import Idealize.ShloMosaic.Lib.Claim

@[expose] public section

set_option maxRecDepth 16384

noncomputable section

namespace Cert.FfOneKIdeal.Value

open Cert.FfOneKIdeal Cert.FfOneKIdeal.Gen Idealize.ShloMosaic Idealize.ShloMosaic.TcCoe Idealize.SL.Sem
open Idealize.ShloMosaic.Pipeline (Dat)

/-- The larger of the product and zero. -/
def G (h : FVec Ideal S1x4096x2048 .f32) (w : FVec Ideal S1x2048x8192 .f32) : FVec Ideal S4096x8192 .bf16 := fun j =>
  max (∑ k : Fin 2048, h (ix3 0 (j 0) k) * w (ix3 0 k (j 1))) 0

variable (m : (ℓ : Loc nD τ sig) → Buf (Elt Ideal) ℓ)

/-- The block index of every window at every grid point. -/
theorem idx : ∀ t : Fin cfg0.N, win0_0.index t = ![t.val / 8, 0] ∧ win0_1.index t = ![t.val % 8, 0, 0]
    ∧ win0_2.index t = ![t.val / 8, t.val % 8] ∧ t.val / 8 < 2 :=
  (by decide +kernel : ∀ t : Fin grid0.N, _)

/-- What the body stores. -/
theorem pay (a : Vec Ideal S2048x2048 .bf16) (w : Vec Ideal S1x2048x1024 .bf16) (j : S2048x1024.Idx) :
    k0_pay1 a w j = max (∑ k : Fin 2048, a (ix2 (j 0) k) * w (ix3 0 k (j 1))) 0 := by
  idx_vars j
  pointwise [k0_pay1]

theorem row_lt (t : Fin cfg0.N) (i : Fin 2048) : t.val / 8 * 2048 + i.val < 4096 := by
  have hN : t.val < 16 := lt_of_lt_of_eq t.isLt N_0
  omega

theorem col_lt (t : Fin cfg0.N) (l : Fin 1024) : t.val % 8 * 1024 + l.val < 8192 := by omega

/-- The array's row of a block's row. -/
abbrev row (t : Fin cfg0.N) (i : Fin 2048) : Fin 4096 := ⟨t.val / 8 * 2048 + i.val, row_lt t i⟩

/-- The array's column of a block's column. -/
abbrev col (t : Fin cfg0.N) (l : Fin 1024) : Fin 8192 := ⟨t.val % 8 * 1024 + l.val, col_lt t l⟩

/-- The activations' block. -/
theorem rd_h (c : Dev nD) (t : Fin cfg0.N) (i k : Fin 2048) :
    @Eq EReal (iblk m c 0 t (ix2 i k)) (m ((c : Thread nD τ).loc main_arg0) (ix3 0 (row t i) k)) := by
  blk_point [iblk, V, idx t]

/-- The weights' slab. -/
theorem rd_w (c : Dev nD) (t : Fin cfg0.N) (k : Fin 2048) (l : Fin 1024) :
    @Eq EReal (iblk m c 1 t (ix3 0 k l)) (m ((c : Thread nD τ).loc main_arg1) (ix3 0 k (col t l))) := by
  blk_point [iblk, V, idx t]

/-- The result array after the run. -/
theorem final (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t _ y => ?_
  have h0 : ((cfg0.win 2).blk t).view.emb y 0 = row t (y 0) := Fin.ext (by blk_simp [idx t])
  have h1 : ((cfg0.win 2).blk t).view.emb y 1 = col t (y 1) := Fin.ext (by blk_simp [idx t])
  blk_simp
  rw [after0_2]; frame_out
  rw [pay]
  unfold G
  rw [h0, h1]
  exact congrArg (fun e : EReal => max e 0)
    (Finset.sum_congr rfl fun k _ => Rms.mul_congr (rd_h m c t (y 0) k) (rd_w m c t k (y 1)))

end Cert.FfOneKIdeal.Value

namespace Cert.FfOneRIdeal.Value

open Cert.FfOneRIdeal Cert.FfOneRIdeal.Gen Cert.FfOneRIdeal.Read Idealize.ShloMosaic Idealize.ShloMosaic.TcCoe Idealize.SL.Sem

/-- The reference's array is the kernel's. -/
theorem ref_eq (h : FVec Ideal S1x4096x2048 .f32) (w : FVec Ideal S1x2048x8192 .f32) :
    val_main_v4 (F := Ideal) h w = Cert.FfOneKIdeal.Value.G h w := by
  funext j
  idx_vars j
  pointwise [val_main_v4, val_main_v3, val_main_v2, val_main_v1, val_main_v0, val_main_call0_v0, val_main_call0_cst, Cert.FfOneKIdeal.Value.G]

end Cert.FfOneRIdeal.Value

namespace Cert.FfOneAlg

open Idealize.ShloMosaic Idealize.ShloMosaic.TcCoe Idealize.SL.Sem

/-- Both programs leave the same result array and their arguments as they found them. -/
theorem algebraic : Cert.algebraic_FfOneKIdeal_FfOneRIdeal := by
  pair_intro
  · run_from Cert.FfOneKIdeal.Gen.run_main m g
  · run_from Cert.FfOneRIdeal.Value.run m' g'
    rw [Cert.FfOneKIdeal.Value.final m c, Cert.FfOneRIdeal.Read.val_main_v4_eq]
    exact Cert.FfOneRIdeal.Value.ref_eq _ _

end Cert.FfOneAlg

end
-- ==== Proof.RmsMix.lean ====
/- The block's first norm: `RmsMixKIdeal` and `RmsMixRIdeal` compute the same array. Both divide a row by the root of
   its mean square and scale it; the kernel does so block of rows by block of rows. -/
module

public import proofs.«01_k».proof.Defs
public import proofs.«01_k».proof.Proof.RmsMath
public import proofs.«01_k».proof.Proof.Gen.RmsMixKIdeal.Value
public import proofs.«01_k».proof.Proof.Gen.RmsMixRIdeal.Read
public import Idealize.ShloMosaic.Lib.Pipeline.ValueKit
public import Idealize.ShloMosaic.Lib.Claim

@[expose] public section

set_option maxRecDepth 16384

noncomputable section

namespace Cert.RmsMixKIdeal.Value

open Cert.RmsMixKIdeal Cert.RmsMixKIdeal.Gen Idealize.ShloMosaic Idealize.ShloMosaic.TcCoe Idealize.SL.Sem
open Idealize.ShloMosaic.Pipeline (Dat)

/-- The row length as both programs divide by it. -/
abbrev N : EReal := Ideal.ofBits .f32 0x45000000#32

/-- The norm of the rows. -/
def Gh (x : FVec Ideal S1x4096x2048 .f32) (g : FVec Ideal S1x2048 .f32) : FVec Ideal S4096x2048 .bf16 := fun j =>
  x (ix3 0 (j 0) (j 1)) * Rms.rstd N (fun k => x (ix3 0 (j 0) k)) * g (ix2 0 (j 1))

variable (m : (ℓ : Loc nD τ sig) → Buf (Elt Ideal) ℓ)

/-- The block index of every window at every grid point. -/
theorem idx : ∀ t : Fin cfg0.N, win0_0.index t = ![t.val, 0] ∧ win0_1.index t = ![0, 0] ∧ win0_2.index t = ![t.val, 0] ∧ t.val < 8 :=
  (by decide +kernel : ∀ t : Fin grid0.N, _)

/-- The stored norm. -/
theorem pay_h (x : Vec Ideal S512x2048 .f32) (g : Vec Ideal S1x2048 .f32) (j : S512x2048.Idx) : k0_pay1 x g j
    = x j * Rms.rstd N (fun k => x (ix2 (j 0) k)) * g (ix2 0 (j 1)) := by
  idx_vars j
  pointwise [k0_pay1, Rms.rstd, Rms.ms]

theorem row_lt (t : Fin cfg0.N) (i : Fin 512) : t.val * 512 + i.val < 4096 := by
  have hN : t.val < 8 := lt_of_lt_of_eq t.isLt N_0
  omega

/-- The array's row of a block's row. -/
abbrev row (t : Fin cfg0.N) (i : Fin 512) : Fin 4096 := ⟨t.val * 512 + i.val, row_lt t i⟩

/-- The activations' block. -/
theorem rd_x (c : Dev nD) (t : Fin cfg0.N) (i : Fin 512) (k : Fin 2048) :
    @Eq EReal (iblk m c 0 t (ix2 i k)) (m ((c : Thread nD τ).loc main_arg0) (ix3 0 (row t i) k)) := by
  blk_point [iblk, V, idx t]

/-- The norm's scale. -/
theorem rd_g (c : Dev nD) (t : Fin cfg0.N) (k : Fin 2048) :
    @Eq EReal (iblk m c 1 t (ix2 0 k)) (m ((c : Thread nD τ).loc main_arg1) (ix2 0 k)) := by
  blk_point [iblk, V, idx t]

/-- The norm after the run. -/
theorem final (c : Dev nD) : (dats m 0 c).arrAt 2 (cfgs 0).N
    = Gh (m ((c : Thread nD τ).loc main_arg0)) (m ((c : Thread nD τ).loc main_arg1)) := by
  refine (dats m 0 c).arrAt_eq_of_covers 2 _ (by decide +kernel) fun t _ y => ?_
  have h0 : ((cfg0.win 2).blk t).view.emb y 0 = row t (y 0) := Fin.ext (by blk_simp [idx t])
  have h1 : ((cfg0.win 2).blk t).view.emb y 1 = y 1 := Fin.ext (by blk_simp [idx t])
  blk_simp
  rw [after0_2]; frame_out
  rw [pay_h]
  unfold Gh
  rw [h0, h1]
  idx_vars y
  exact Rms.mul_congr (Rms.mul_congr (rd_x m c t y0 y1) (Rms.rstd_congr fun k => rd_x m c t y0 k)) (rd_g m c t y1)

end Cert.RmsMixKIdeal.Value

namespace Cert.RmsMixRIdeal.Value

open Cert.RmsMixRIdeal Cert.RmsMixRIdeal.Gen Cert.RmsMixRIdeal.Read Idealize.ShloMosaic Idealize.ShloMosaic.TcCoe Idealize.SL.Sem
open Cert.RmsMixKIdeal.Value (N Gh)

variable (x : FVec Ideal S1x4096x2048 .f32) (g : FVec Ideal S1x2048 .f32)

/-- The reference's one over the root of the mean square. -/
theorem rstd_eq (i : Fin 4096) : val_main_v8 (F := Ideal) x (ix3 0 i 0) = Rms.rstd N fun k => x (ix3 0 i k) := by
  pointwise [val_main_v8, val_main_v7, val_main_v6, val_main_v5, val_main_v4, val_main_v3, val_main_v2, val_main_v1, val_main_cst, val_main_cst_0, val_main_cst_1, Rms.rstd, Rms.ms]

/-- The reference's norm is the kernel's. -/
theorem ref_15 : val_main_v15 (F := Ideal) x g = Gh x g := by
  funext j
  idx_vars j
  pointwise [val_main_v15, val_main_v14, val_main_v13, val_main_v12, val_main_v11, val_main_v10, val_main_v9, val_main_v0]
  simp only [rstd_eq]
  rfl

end Cert.RmsMixRIdeal.Value

namespace Cert.RmsMixAlg

open Idealize.ShloMosaic Idealize.ShloMosaic.TcCoe Idealize.SL.Sem

/-- Both programs leave the same result array and their arguments as they found them. -/
theorem algebraic : Cert.algebraic_RmsMixKIdeal_RmsMixRIdeal := by
  pair_intro
  · run_from Cert.RmsMixKIdeal.Gen.run_main m g
  · run_from Cert.RmsMixRIdeal.Value.run m' g'
    rw [Cert.RmsMixKIdeal.Value.final m c, Cert.RmsMixRIdeal.Read.val_main_v15_eq]
    exact Cert.RmsMixRIdeal.Value.ref_15 _ _

end Cert.RmsMixAlg

end
-- ==== Proof.lean ====
module

public import proofs.«01_k».proof.Defs
public import proofs.«01_k».proof.Proof.Gen.FfTwoDxK
public import proofs.«01_k».proof.Proof.Gen.FfTwoDxK.Skeleton
public import proofs.«01_k».proof.Proof.Gen.FfTwoDxK.Launch
public import proofs.«01_k».proof.Proof.Gen.FfTwoDxK.Points
public import proofs.«01_k».proof.Proof.Gen.FfTwoDxK.Frame
public import proofs.«01_k».proof.Proof.Gen.FfTwoDxKIdeal
public import proofs.«01_k».proof.Proof.Gen.FfTwoDxKIdeal.Skeleton
public import proofs.«01_k».proof.Proof.Gen.FfTwoDxKIdeal.Launch
public import proofs.«01_k».proof.Proof.Gen.FfTwoDxKIdeal.Points
public import proofs.«01_k».proof.Proof.Gen.FfTwoDxKIdeal.Frame
public import proofs.«01_k».proof.Proof.Gen.FfTwoDxRIdeal
public import proofs.«01_k».proof.Proof.Gen.OutDxK
public import proofs.«01_k».proof.Proof.Gen.OutDxK.Skeleton
public import proofs.«01_k».proof.Proof.Gen.OutDxK.Launch
public import proofs.«01_k».proof.Proof.Gen.OutDxK.Points
public import proofs.«01_k».proof.Proof.Gen.OutDxK.Frame
public import proofs.«01_k».proof.Proof.Gen.OutDxKIdeal
public import proofs.«01_k».proof.Proof.Gen.OutDxKIdeal.Skeleton
public import proofs.«01_k».proof.Proof.Gen.OutDxKIdeal.Launch
public import proofs.«01_k».proof.Proof.Gen.OutDxKIdeal.Points
public import proofs.«01_k».proof.Proof.Gen.OutDxKIdeal.Frame
public import proofs.«01_k».proof.Proof.Gen.OutDxRIdeal
public import proofs.«01_k».proof.Proof.Gen.InDxK
public import proofs.«01_k».proof.Proof.Gen.InDxK.Skeleton
public import proofs.«01_k».proof.Proof.Gen.InDxK.Launch
public import proofs.«01_k».proof.Proof.Gen.InDxK.Points
public import proofs.«01_k».proof.Proof.Gen.InDxK.Frame
public import proofs.«01_k».proof.Proof.Gen.InDxKIdeal
public import proofs.«01_k».proof.Proof.Gen.InDxKIdeal.Skeleton
public import proofs.«01_k».proof.Proof.Gen.InDxKIdeal.Launch
public import proofs.«01_k».proof.Proof.Gen.InDxKIdeal.Points
public import proofs.«01_k».proof.Proof.Gen.InDxKIdeal.Frame
public import proofs.«01_k».proof.Proof.Gen.InDxRIdeal
public import proofs.«01_k».proof.Proof.Gen.FfOneDxK
public import proofs.«01_k».proof.Proof.Gen.FfOneDxK.Skeleton
public import proofs.«01_k».proof.Proof.Gen.FfOneDxK.Launch
public import proofs.«01_k».proof.Proof.Gen.FfOneDxK.Points
public import proofs.«01_k».proof.Proof.Gen.FfOneDxK.Frame
public import proofs.«01_k».proof.Proof.Gen.FfOneDxKIdeal
public import proofs.«01_k».proof.Proof.Gen.FfOneDxKIdeal.Skeleton
public import proofs.«01_k».proof.Proof.Gen.FfOneDxKIdeal.Launch
public import proofs.«01_k».proof.Proof.Gen.FfOneDxKIdeal.Points
public import proofs.«01_k».proof.Proof.Gen.FfOneDxKIdeal.Frame
public import proofs.«01_k».proof.Proof.Gen.FfOneDxRIdeal
public import proofs.«01_k».proof.Proof.Gen.HeadK
public import proofs.«01_k».proof.Proof.Gen.HeadK.Skeleton
public import proofs.«01_k».proof.Proof.Gen.HeadK.Launch
public import proofs.«01_k».proof.Proof.Gen.HeadK.Points
public import proofs.«01_k».proof.Proof.Gen.HeadK.Frame
public import proofs.«01_k».proof.Proof.Gen.HeadKIdeal
public import proofs.«01_k».proof.Proof.Gen.HeadKIdeal.Skeleton
public import proofs.«01_k».proof.Proof.Gen.HeadKIdeal.Launch
public import proofs.«01_k».proof.Proof.Gen.HeadKIdeal.Points
public import proofs.«01_k».proof.Proof.Gen.HeadKIdeal.Frame
public import proofs.«01_k».proof.Proof.Gen.HeadRIdeal
public import proofs.«01_k».proof.Proof.Gen.GateK
public import proofs.«01_k».proof.Proof.Gen.GateK.Skeleton
public import proofs.«01_k».proof.Proof.Gen.GateK.Launch
public import proofs.«01_k».proof.Proof.Gen.GateK.Points
public import proofs.«01_k».proof.Proof.Gen.GateK.Frame
public import proofs.«01_k».proof.Proof.Gen.GateKIdeal
public import proofs.«01_k».proof.Proof.Gen.GateKIdeal.Skeleton
public import proofs.«01_k».proof.Proof.Gen.GateKIdeal.Launch
public import proofs.«01_k».proof.Proof.Gen.GateKIdeal.Points
public import proofs.«01_k».proof.Proof.Gen.GateKIdeal.Frame
public import proofs.«01_k».proof.Proof.Gen.GateRIdeal
public import proofs.«01_k».proof.Proof.Gen.AttnK
public import proofs.«01_k».proof.Proof.Gen.AttnK.Skeleton
public import proofs.«01_k».proof.Proof.Gen.AttnK.Loops
public import proofs.«01_k».proof.Proof.Gen.AttnK.Launch
public import proofs.«01_k».proof.Proof.Gen.AttnK.Points
public import proofs.«01_k».proof.Proof.Gen.AttnK.Frame
public import proofs.«01_k».proof.Proof.Gen.AttnKIdeal
public import proofs.«01_k».proof.Proof.Gen.AttnKIdeal.Skeleton
public import proofs.«01_k».proof.Proof.Gen.AttnKIdeal.Loops
public import proofs.«01_k».proof.Proof.Gen.AttnKIdeal.Launch
public import proofs.«01_k».proof.Proof.Gen.AttnKIdeal.Points
public import proofs.«01_k».proof.Proof.Gen.AttnKIdeal.Frame
public import proofs.«01_k».proof.Proof.Gen.AttnRIdeal
public import proofs.«01_k».proof.Proof.Gen.GmlpK
public import proofs.«01_k».proof.Proof.Gen.GmlpK.Skeleton
public import proofs.«01_k».proof.Proof.Gen.GmlpK.Launch
public import proofs.«01_k».proof.Proof.Gen.GmlpK.Points
public import proofs.«01_k».proof.Proof.Gen.GmlpK.Frame
public import proofs.«01_k».proof.Proof.Gen.GmlpKIdeal
public import proofs.«01_k».proof.Proof.Gen.GmlpKIdeal.Skeleton
public import proofs.«01_k».proof.Proof.Gen.GmlpKIdeal.Launch
public import proofs.«01_k».proof.Proof.Gen.GmlpKIdeal.Points
public import proofs.«01_k».proof.Proof.Gen.GmlpKIdeal.Frame
public import proofs.«01_k».proof.Proof.Gen.GmlpRIdeal
public import proofs.«01_k».proof.Proof.Gen.OutProjK
public import proofs.«01_k».proof.Proof.Gen.OutProjK.Skeleton
public import proofs.«01_k».proof.Proof.Gen.OutProjK.Launch
public import proofs.«01_k».proof.Proof.Gen.OutProjK.Points
public import proofs.«01_k».proof.Proof.Gen.OutProjK.Frame
public import proofs.«01_k».proof.Proof.Gen.OutProjKIdeal
public import proofs.«01_k».proof.Proof.Gen.OutProjKIdeal.Skeleton
public import proofs.«01_k».proof.Proof.Gen.OutProjKIdeal.Launch
public import proofs.«01_k».proof.Proof.Gen.OutProjKIdeal.Points
public import proofs.«01_k».proof.Proof.Gen.OutProjKIdeal.Frame
public import proofs.«01_k».proof.Proof.Gen.OutProjRIdeal
public import proofs.«01_k».proof.Proof.Gen.FfOneK
public import proofs.«01_k».proof.Proof.Gen.FfOneK.Skeleton
public import proofs.«01_k».proof.Proof.Gen.FfOneK.Launch
public import proofs.«01_k».proof.Proof.Gen.FfOneK.Points
public import proofs.«01_k».proof.Proof.Gen.FfOneK.Frame
public import proofs.«01_k».proof.Proof.Gen.FfOneKIdeal
public import proofs.«01_k».proof.Proof.Gen.FfOneKIdeal.Skeleton
public import proofs.«01_k».proof.Proof.Gen.FfOneKIdeal.Launch
public import proofs.«01_k».proof.Proof.Gen.FfOneKIdeal.Points
public import proofs.«01_k».proof.Proof.Gen.FfOneKIdeal.Frame
public import proofs.«01_k».proof.Proof.Gen.FfOneRIdeal
public import proofs.«01_k».proof.Proof.Gen.RmsMixK
public import proofs.«01_k».proof.Proof.Gen.RmsMixK.Skeleton
public import proofs.«01_k».proof.Proof.Gen.RmsMixK.Launch
public import proofs.«01_k».proof.Proof.Gen.RmsMixK.Points
public import proofs.«01_k».proof.Proof.Gen.RmsMixK.Frame
public import proofs.«01_k».proof.Proof.Gen.RmsMixKIdeal
public import proofs.«01_k».proof.Proof.Gen.RmsMixKIdeal.Skeleton
public import proofs.«01_k».proof.Proof.Gen.RmsMixKIdeal.Launch
public import proofs.«01_k».proof.Proof.Gen.RmsMixKIdeal.Points
public import proofs.«01_k».proof.Proof.Gen.RmsMixKIdeal.Frame
public import proofs.«01_k».proof.Proof.Gen.RmsMixRIdeal
public import proofs.«01_k».proof.Proof.Gen.Pre_gate_finite
public import proofs.«01_k».proof.Proof.Gen.Pre_attn_finite
public import proofs.«01_k».proof.Proof.Gen.Pre_gmlp_finite
public import proofs.«01_k».proof.Proof.Gen.FfTwoDxKIdeal.Value
public import proofs.«01_k».proof.Proof.Gen.FfTwoDxRIdeal.Run
public import proofs.«01_k».proof.Proof.Gen.FfTwoDxRIdeal.Read
public import proofs.«01_k».proof.Proof.FfTwoDx
public import proofs.«01_k».proof.Proof.Gen.OutDxKIdeal.Value
public import proofs.«01_k».proof.Proof.Gen.OutDxRIdeal.Run
public import proofs.«01_k».proof.Proof.Gen.OutDxRIdeal.Read
public import proofs.«01_k».proof.Proof.OutDx
public import proofs.«01_k».proof.Proof.Gen.InDxKIdeal.Value
public import proofs.«01_k».proof.Proof.Gen.InDxRIdeal.Run
public import proofs.«01_k».proof.Proof.Gen.InDxRIdeal.Read
public import proofs.«01_k».proof.Proof.InDx
public import proofs.«01_k».proof.Proof.Gen.FfOneDxKIdeal.Value
public import proofs.«01_k».proof.Proof.Gen.FfOneDxRIdeal.Run
public import proofs.«01_k».proof.Proof.Gen.FfOneDxRIdeal.Read
public import proofs.«01_k».proof.Proof.FfOneDx
public import proofs.«01_k».proof.Proof.Gen.HeadKIdeal.Value
public import proofs.«01_k».proof.Proof.Gen.HeadRIdeal.Run
public import proofs.«01_k».proof.Proof.Gen.HeadRIdeal.Read
public import proofs.«01_k».proof.Proof.Head
public import proofs.«01_k».proof.Proof.Gen.GateKIdeal.Value
public import proofs.«01_k».proof.Proof.Gen.GateRIdeal.Run
public import proofs.«01_k».proof.Proof.Gen.GateRIdeal.Read
public import proofs.«01_k».proof.Proof.Gate
public import proofs.«01_k».proof.Proof.Gen.AttnRIdeal.Run
public import proofs.«01_k».proof.Proof.Gen.AttnRIdeal.Read
public import proofs.«01_k».proof.Proof.AttnAlg
public import proofs.«01_k».proof.Proof.Gen.GmlpKIdeal.Value
public import proofs.«01_k».proof.Proof.Gen.GmlpRIdeal.Run
public import proofs.«01_k».proof.Proof.Gen.GmlpRIdeal.Read
public import proofs.«01_k».proof.Proof.Gmlp
public import proofs.«01_k».proof.Proof.Gen.OutProjKIdeal.Value
public import proofs.«01_k».proof.Proof.Gen.OutProjRIdeal.Run
public import proofs.«01_k».proof.Proof.Gen.OutProjRIdeal.Read
public import proofs.«01_k».proof.Proof.OutProj
public import proofs.«01_k».proof.Proof.Gen.FfOneKIdeal.Value
public import proofs.«01_k».proof.Proof.Gen.FfOneRIdeal.Run
public import proofs.«01_k».proof.Proof.Gen.FfOneRIdeal.Read
public import proofs.«01_k».proof.Proof.FfOne
public import proofs.«01_k».proof.Proof.Gen.RmsMixKIdeal.Value
public import proofs.«01_k».proof.Proof.Gen.RmsMixRIdeal.Run
public import proofs.«01_k».proof.Proof.Gen.RmsMixRIdeal.Read
public import proofs.«01_k».proof.Proof.RmsMix
public import Idealize.ShloMosaic.Adequacy
public import Idealize.ShloMosaic.Init
public import Idealize.ShloMosaic.Lib.Quiescent

@[expose] public section

noncomputable section

namespace Cert.Proof

open Idealize.ShloMosaic Idealize.SL.Sem

/-- The reference of `FfTwoDxK` runs, its arguments and every counter as they were. -/
theorem ffTwoDxRef : Cert.quiescent_FfTwoDxRIdeal := fun m ρ _ =>
  (θ_run Cert.FfTwoDxRIdeal.defs _ _).mono (fun r h => ⟨fun c => (h c).2, sem_eq_zero_of_no_sems (by decide) r.2⟩)
    (Cert.FfTwoDxRIdeal.Value.run (F := Ideal) m ρ)

/-- The reference of `OutDxK` runs, its arguments and every counter as they were. -/
theorem outDxRef : Cert.quiescent_OutDxRIdeal := fun m ρ _ =>
  (θ_run Cert.OutDxRIdeal.defs _ _).mono (fun r h => ⟨fun c => (h c).2.2.2.2, sem_eq_zero_of_no_sems (by decide) r.2⟩)
    (Cert.OutDxRIdeal.Value.run (F := Ideal) m ρ)

/-- The reference of `InDxK` runs, its arguments and every counter as they were. -/
theorem inDxRef : Cert.quiescent_InDxRIdeal := fun m ρ _ =>
  (θ_run Cert.InDxRIdeal.defs _ _).mono (fun r h => ⟨fun c => (h c).2.2, sem_eq_zero_of_no_sems (by decide) r.2⟩)
    (Cert.InDxRIdeal.Value.run (F := Ideal) m ρ)

/-- The reference of `FfOneDxK` runs, its arguments and every counter as they were. -/
theorem ffOneDxRef : Cert.quiescent_FfOneDxRIdeal := fun m ρ _ =>
  (θ_run Cert.FfOneDxRIdeal.defs _ _).mono (fun r h => ⟨fun c => (h c).2.2.2, sem_eq_zero_of_no_sems (by decide) r.2⟩)
    (Cert.FfOneDxRIdeal.Value.run (F := Ideal) m ρ)

/-- The reference of `HeadK` runs, its arguments and every counter as they were. -/
theorem headRef : Cert.quiescent_HeadRIdeal := fun m ρ _ =>
  (θ_run Cert.HeadRIdeal.defs _ _).mono (fun r h => ⟨fun c => (h c).2.2.2.2, sem_eq_zero_of_no_sems (by decide) r.2⟩)
    (Cert.HeadRIdeal.Value.run (F := Ideal) m ρ)

/-- The reference of `GateK` runs, its arguments and every counter as they were. -/
theorem gateRef : Cert.quiescent_GateRIdeal := fun m ρ _ =>
  (θ_run Cert.GateRIdeal.defs _ _).mono (fun r h => ⟨fun c => (h c).2.2, sem_eq_zero_of_no_sems (by decide) r.2⟩)
    (Cert.GateRIdeal.Value.run (F := Ideal) m ρ)

/-- The reference of `AttnK` runs, its arguments and every counter as they were. -/
theorem attnRef : Cert.quiescent_AttnRIdeal := fun m ρ _ =>
  (θ_run Cert.AttnRIdeal.defs _ _).mono (fun r h => ⟨fun c => (h c).2.2.2.2, sem_eq_zero_of_no_sems (by decide) r.2⟩)
    (Cert.AttnRIdeal.Value.run (F := Ideal) m ρ)

/-- The reference of `GmlpK` runs, its arguments and every counter as they were. -/
theorem gmlpRef : Cert.quiescent_GmlpRIdeal := fun m ρ _ =>
  (θ_run Cert.GmlpRIdeal.defs _ _).mono (fun r h => ⟨fun c => (h c).2.2.2.2.2.2, sem_eq_zero_of_no_sems (by decide) r.2⟩)
    (Cert.GmlpRIdeal.Value.run (F := Ideal) m ρ)

/-- The reference of `OutProjK` runs, its arguments and every counter as they were. -/
theorem outProjRef : Cert.quiescent_OutProjRIdeal := fun m ρ _ =>
  (θ_run Cert.OutProjRIdeal.defs _ _).mono (fun r h => ⟨fun c => (h c).2.2, sem_eq_zero_of_no_sems (by decide) r.2⟩)
    (Cert.OutProjRIdeal.Value.run (F := Ideal) m ρ)

/-- The reference of `FfOneK` runs, its arguments and every counter as they were. -/
theorem ffOneRef : Cert.quiescent_FfOneRIdeal := fun m ρ _ =>
  (θ_run Cert.FfOneRIdeal.defs _ _).mono (fun r h => ⟨fun c => (h c).2, sem_eq_zero_of_no_sems (by decide) r.2⟩)
    (Cert.FfOneRIdeal.Value.run (F := Ideal) m ρ)

/-- The reference of `RmsMixK` runs, its arguments and every counter as they were. -/
theorem rmsMixRef : Cert.quiescent_RmsMixRIdeal := fun m ρ _ =>
  (θ_run Cert.RmsMixRIdeal.defs _ _).mono (fun r h => ⟨fun c => (h c).2, sem_eq_zero_of_no_sems (by decide) r.2⟩)
    (Cert.RmsMixRIdeal.Value.run (F := Ideal) m ρ)

/-- Of every call: its side conditions, the frames of kernel, idealized kernel and reference, what idealizing keeps, and the value claim. -/
theorem claim : Cert.Claim := ⟨Cert.FfTwoDxK.Gen.facts,
  Cert.FfTwoDxKIdeal.Gen.facts,
  Cert.FfTwoDxRIdeal.Gen.facts,
  Cert.OutDxK.Gen.facts,
  Cert.OutDxKIdeal.Gen.facts,
  Cert.OutDxRIdeal.Gen.facts,
  Cert.InDxK.Gen.facts,
  Cert.InDxKIdeal.Gen.facts,
  Cert.InDxRIdeal.Gen.facts,
  Cert.FfOneDxK.Gen.facts,
  Cert.FfOneDxKIdeal.Gen.facts,
  Cert.FfOneDxRIdeal.Gen.facts,
  Cert.HeadK.Gen.facts,
  Cert.HeadKIdeal.Gen.facts,
  Cert.HeadRIdeal.Gen.facts,
  Cert.GateK.Gen.facts,
  Cert.GateKIdeal.Gen.facts,
  Cert.GateRIdeal.Gen.facts,
  Cert.AttnK.Gen.facts,
  Cert.AttnKIdeal.Gen.facts,
  Cert.AttnRIdeal.Gen.facts,
  Cert.GmlpK.Gen.facts,
  Cert.GmlpKIdeal.Gen.facts,
  Cert.GmlpRIdeal.Gen.facts,
  Cert.OutProjK.Gen.facts,
  Cert.OutProjKIdeal.Gen.facts,
  Cert.OutProjRIdeal.Gen.facts,
  Cert.FfOneK.Gen.facts,
  Cert.FfOneKIdeal.Gen.facts,
  Cert.FfOneRIdeal.Gen.facts,
  Cert.RmsMixK.Gen.facts,
  Cert.RmsMixKIdeal.Gen.facts,
  Cert.RmsMixRIdeal.Gen.facts,
  Cert.Pre_gate_finite.Gen.facts,
  Cert.Pre_attn_finite.Gen.facts,
  Cert.Pre_gmlp_finite.Gen.facts,
  fun m ρ _ => Cert.FfTwoDxK.Gen.frame m ρ,
  fun m ρ _ => Cert.FfTwoDxKIdeal.Gen.frame m ρ,
  ffTwoDxRef,
  fun m ρ _ => Cert.OutDxK.Gen.frame m ρ,
  fun m ρ _ => Cert.OutDxKIdeal.Gen.frame m ρ,
  outDxRef,
  fun m ρ _ => Cert.InDxK.Gen.frame m ρ,
  fun m ρ _ => Cert.InDxKIdeal.Gen.frame m ρ,
  inDxRef,
  fun m ρ _ => Cert.FfOneDxK.Gen.frame m ρ,
  fun m ρ _ => Cert.FfOneDxKIdeal.Gen.frame m ρ,
  ffOneDxRef,
  fun m ρ _ => Cert.HeadK.Gen.frame m ρ,
  fun m ρ _ => Cert.HeadKIdeal.Gen.frame m ρ,
  headRef,
  fun m ρ _ => Cert.GateK.Gen.frame m ρ,
  fun m ρ _ => Cert.GateKIdeal.Gen.frame m ρ,
  fun m ρ _ => Cert.GateKIdeal.Gen.frame m ρ,
  gateRef,
  fun m ρ _ => gateRef m ρ trivial,
  fun m ρ _ => Cert.AttnK.Gen.frame m ρ,
  fun m ρ _ => Cert.AttnKIdeal.Gen.frame m ρ,
  fun m ρ _ => Cert.AttnKIdeal.Gen.frame m ρ,
  attnRef,
  fun m ρ _ => attnRef m ρ trivial,
  fun m ρ _ => Cert.GmlpK.Gen.frame m ρ,
  fun m ρ _ => Cert.GmlpKIdeal.Gen.frame m ρ,
  fun m ρ _ => Cert.GmlpKIdeal.Gen.frame m ρ,
  gmlpRef,
  fun m ρ _ => gmlpRef m ρ trivial,
  fun m ρ _ => Cert.OutProjK.Gen.frame m ρ,
  fun m ρ _ => Cert.OutProjKIdeal.Gen.frame m ρ,
  outProjRef,
  fun m ρ _ => Cert.FfOneK.Gen.frame m ρ,
  fun m ρ _ => Cert.FfOneKIdeal.Gen.frame m ρ,
  ffOneRef,
  fun m ρ _ => Cert.RmsMixK.Gen.frame m ρ,
  fun m ρ _ => Cert.RmsMixKIdeal.Gen.frame m ρ,
  rmsMixRef,
  trivial,
  Cert.FfTwoDxAlg.algebraic,
  trivial,
  Cert.OutDxAlg.algebraic,
  trivial,
  Cert.InDxAlg.algebraic,
  trivial,
  Cert.FfOneDxAlg.algebraic,
  trivial,
  Cert.HeadAlg.algebraic,
  trivial,
  Cert.GateAlg.algebraic,
  Cert.AttnAlg.preserves,
  Cert.AttnAlg.algebraic,
  Cert.GmlpAlg.preserves,
  Cert.GmlpAlg.algebraic,
  trivial,
  Cert.OutProjAlg.algebraic,
  trivial,
  Cert.FfOneAlg.algebraic,
  trivial,
  Cert.RmsMixAlg.algebraic⟩

end Cert.Proof

end
